-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_DInAct (m : (ℓ : Loc Cert.DInAct.nD Cert.DInAct.τ Cert.DInAct.sig) → Buf (Elt Bits) ℓ) : Prop :=
  True

def Pre_DInActIdeal (m : (ℓ : Loc Cert.DInActIdeal.nD Cert.DInActIdeal.τ Cert.DInActIdeal.sig) → Buf (Elt Ideal) ℓ) : Prop :=
  True

def Pre_DInActRefIdeal (m : (ℓ : Loc Cert.DInActRefIdeal.nD Cert.DInActRefIdeal.τ Cert.DInActRefIdeal.sig) → Buf (Elt Ideal) ℓ) : Prop :=
  True

def Pre_DInW (m : (ℓ : Loc Cert.DInW.nD Cert.DInW.τ Cert.DInW.sig) → Buf (Elt Bits) ℓ) : Prop :=
  True

def Pre_DInWIdeal (m : (ℓ : Loc Cert.DInWIdeal.nD Cert.DInWIdeal.τ Cert.DInWIdeal.sig) → Buf (Elt Ideal) ℓ) : Prop :=
  True

def Pre_DInWRefIdeal (m : (ℓ : Loc Cert.DInWRefIdeal.nD Cert.DInWRefIdeal.τ Cert.DInWRefIdeal.sig) → Buf (Elt Ideal) ℓ) : Prop :=
  True

def Pre_DFf2Act (m : (ℓ : Loc Cert.DFf2Act.nD Cert.DFf2Act.τ Cert.DFf2Act.sig) → Buf (Elt Bits) ℓ) : Prop :=
  True

def Pre_DFf2ActIdeal (m : (ℓ : Loc Cert.DFf2ActIdeal.nD Cert.DFf2ActIdeal.τ Cert.DFf2ActIdeal.sig) → Buf (Elt Ideal) ℓ) : Prop :=
  True

def Pre_DFf2ActRefIdeal (m : (ℓ : Loc Cert.DFf2ActRefIdeal.nD Cert.DFf2ActRefIdeal.τ Cert.DFf2ActRefIdeal.sig) → Buf (Elt Ideal) ℓ) : Prop :=
  True

def Pre_DFf1Act (m : (ℓ : Loc Cert.DFf1Act.nD Cert.DFf1Act.τ Cert.DFf1Act.sig) → Buf (Elt Bits) ℓ) : Prop :=
  True

def Pre_DFf1ActIdeal (m : (ℓ : Loc Cert.DFf1ActIdeal.nD Cert.DFf1ActIdeal.τ Cert.DFf1ActIdeal.sig) → Buf (Elt Ideal) ℓ) : Prop :=
  True

def Pre_DFf1ActRefIdeal (m : (ℓ : Loc Cert.DFf1ActRefIdeal.nD Cert.DFf1ActRefIdeal.τ Cert.DFf1ActRefIdeal.sig) → Buf (Elt Ideal) ℓ) : Prop :=
  True

def Pre_DFf2W (m : (ℓ : Loc Cert.DFf2W.nD Cert.DFf2W.τ Cert.DFf2W.sig) → Buf (Elt Bits) ℓ) : Prop :=
  True

def Pre_DFf2WIdeal (m : (ℓ : Loc Cert.DFf2WIdeal.nD Cert.DFf2WIdeal.τ Cert.DFf2WIdeal.sig) → Buf (Elt Ideal) ℓ) : Prop :=
  True

def Pre_DFf2WRefIdeal (m : (ℓ : Loc Cert.DFf2WRefIdeal.nD Cert.DFf2WRefIdeal.τ Cert.DFf2WRefIdeal.sig) → Buf (Elt Ideal) ℓ) : Prop :=
  True

def Pre_DFf1W (m : (ℓ : Loc Cert.DFf1W.nD Cert.DFf1W.τ Cert.DFf1W.sig) → Buf (Elt Bits) ℓ) : Prop :=
  True

def Pre_DFf1WIdeal (m : (ℓ : Loc Cert.DFf1WIdeal.nD Cert.DFf1WIdeal.τ Cert.DFf1WIdeal.sig) → Buf (Elt Ideal) ℓ) : Prop :=
  True

def Pre_DFf1WRefIdeal (m : (ℓ : Loc Cert.DFf1WRefIdeal.nD Cert.DFf1WRefIdeal.τ Cert.DFf1WRefIdeal.sig) → Buf (Elt Ideal) ℓ) : Prop :=
  True

def Pre_DOutAct (m : (ℓ : Loc Cert.DOutAct.nD Cert.DOutAct.τ Cert.DOutAct.sig) → Buf (Elt Bits) ℓ) : Prop :=
  True

def Pre_DOutActIdeal (m : (ℓ : Loc Cert.DOutActIdeal.nD Cert.DOutActIdeal.τ Cert.DOutActIdeal.sig) → Buf (Elt Ideal) ℓ) : Prop :=
  True

def Pre_DOutActRefIdeal (m : (ℓ : Loc Cert.DOutActRefIdeal.nD Cert.DOutActRefIdeal.τ Cert.DOutActRefIdeal.sig) → Buf (Elt Ideal) ℓ) : Prop :=
  True

def Pre_DOutW (m : (ℓ : Loc Cert.DOutW.nD Cert.DOutW.τ Cert.DOutW.sig) → Buf (Elt Bits) ℓ) : Prop :=
  True

def Pre_DOutWIdeal (m : (ℓ : Loc Cert.DOutWIdeal.nD Cert.DOutWIdeal.τ Cert.DOutWIdeal.sig) → Buf (Elt Ideal) ℓ) : Prop :=
  True

def Pre_DOutWRefIdeal (m : (ℓ : Loc Cert.DOutWRefIdeal.nD Cert.DOutWRefIdeal.τ Cert.DOutWRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2Loss (m : (ℓ : Loc Cert.Ff2Loss.nD Cert.Ff2Loss.τ Cert.Ff2Loss.sig) → Buf (Elt Bits) ℓ) : Prop :=
  True

def Pre_Ff2LossIdeal (m : (ℓ : Loc Cert.Ff2LossIdeal.nD Cert.Ff2LossIdeal.τ Cert.Ff2LossIdeal.sig) → Buf (Elt Ideal) ℓ) : Prop :=
  True

def Pre_Ff2LossRefIdeal (m : (ℓ : Loc Cert.Ff2LossRefIdeal.nD Cert.Ff2LossRefIdeal.τ Cert.Ff2LossRefIdeal.sig) → Buf (Elt Ideal) ℓ) : Prop :=
  True

def Pre_Ff2Next (m : (ℓ : Loc Cert.Ff2Next.nD Cert.Ff2Next.τ Cert.Ff2Next.sig) → Buf (Elt Bits) ℓ) : Prop :=
  True

def Pre_Ff2NextIdeal (m : (ℓ : Loc Cert.Ff2NextIdeal.nD Cert.Ff2NextIdeal.τ Cert.Ff2NextIdeal.sig) → Buf (Elt Ideal) ℓ) : Prop :=
  True

def Pre_Ff2NextRefIdeal (m : (ℓ : Loc Cert.Ff2NextRefIdeal.nD Cert.Ff2NextRefIdeal.τ Cert.Ff2NextRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_RmsMix (m : (ℓ : Loc Cert.RmsMix.nD Cert.RmsMix.τ Cert.RmsMix.sig) → Buf (Elt Bits) ℓ) : Prop :=
  True

def Pre_RmsMixIdeal (m : (ℓ : Loc Cert.RmsMixIdeal.nD Cert.RmsMixIdeal.τ Cert.RmsMixIdeal.sig) → Buf (Elt Ideal) ℓ) : Prop :=
  True

def Pre_RmsMixRefIdeal (m : (ℓ : Loc Cert.RmsMixRefIdeal.nD Cert.RmsMixRefIdeal.τ Cert.RmsMixRefIdeal.sig) → Buf (Elt Ideal) ℓ) : Prop :=
  True

def Pre_DRmsMix (m : (ℓ : Loc Cert.DRmsMix.nD Cert.DRmsMix.τ Cert.DRmsMix.sig) → Buf (Elt Bits) ℓ) : Prop :=
  True

def Pre_DRmsMixIdeal (m : (ℓ : Loc Cert.DRmsMixIdeal.nD Cert.DRmsMixIdeal.τ Cert.DRmsMixIdeal.sig) → Buf (Elt Ideal) ℓ) : Prop :=
  True

def Pre_DRmsMixRefIdeal (m : (ℓ : Loc Cert.DRmsMixRefIdeal.nD Cert.DRmsMixRefIdeal.τ Cert.DRmsMixRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamSmallTwo (m : (ℓ : Loc Cert.AdamSmallTwo.nD Cert.AdamSmallTwo.τ Cert.AdamSmallTwo.sig) → Buf (Elt Bits) ℓ) : Prop :=
  True

def Pre_AdamSmallTwoIdeal (m : (ℓ : Loc Cert.AdamSmallTwoIdeal.nD Cert.AdamSmallTwoIdeal.τ Cert.AdamSmallTwoIdeal.sig) → Buf (Elt Ideal) ℓ) : Prop :=
  True

def Pre_AdamSmallTwoRefIdeal (m : (ℓ : Loc Cert.AdamSmallTwoRefIdeal.nD Cert.AdamSmallTwoRefIdeal.τ Cert.AdamSmallTwoRefIdeal.sig) → Buf (Elt Ideal) ℓ) : Prop :=
  True

def Pre_AdamSmallThree (m : (ℓ : Loc Cert.AdamSmallThree.nD Cert.AdamSmallThree.τ Cert.AdamSmallThree.sig) → Buf (Elt Bits) ℓ) : Prop :=
  True

def Pre_AdamSmallThreeIdeal (m : (ℓ : Loc Cert.AdamSmallThreeIdeal.nD Cert.AdamSmallThreeIdeal.τ Cert.AdamSmallThreeIdeal.sig) → Buf (Elt Ideal) ℓ) : Prop :=
  True

def Pre_AdamSmallThreeRefIdeal (m : (ℓ : Loc Cert.AdamSmallThreeRefIdeal.nD Cert.AdamSmallThreeRefIdeal.τ Cert.AdamSmallThreeRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamFf (m : (ℓ : Loc Cert.AdamFf.nD Cert.AdamFf.τ Cert.AdamFf.sig) → Buf (Elt Bits) ℓ) : Prop :=
  True

def Pre_AdamFfIdeal (m : (ℓ : Loc Cert.AdamFfIdeal.nD Cert.AdamFfIdeal.τ Cert.AdamFfIdeal.sig) → Buf (Elt Ideal) ℓ) : Prop :=
  True

def Pre_AdamFfRefIdeal (m : (ℓ : Loc Cert.AdamFfRefIdeal.nD Cert.AdamFfRefIdeal.τ Cert.AdamFfRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamAttn (m : (ℓ : Loc Cert.AdamAttn.nD Cert.AdamAttn.τ Cert.AdamAttn.sig) → Buf (Elt Bits) ℓ) : Prop :=
  True

def Pre_AdamAttnIdeal (m : (ℓ : Loc Cert.AdamAttnIdeal.nD Cert.AdamAttnIdeal.τ Cert.AdamAttnIdeal.sig) → Buf (Elt Ideal) ℓ) : Prop :=
  True

def Pre_AdamAttnRefIdeal (m : (ℓ : Loc Cert.AdamAttnRefIdeal.nD Cert.AdamAttnRefIdeal.τ Cert.AdamAttnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DInAct [hDInAct : Cert.DInAct.Facts] : Prop :=
  ∀ (m : (ℓ : Loc Cert.DInAct.nD Cert.DInAct.τ Cert.DInAct.sig) → Buf (Elt Bits) ℓ) (g : Dev Cert.DInAct.nD → PrngReg), Pre_DInAct m →
    θ_run (Cert.DInAct.defs (F := Bits)) (onTc (τ := Cert.DInAct.τ) (Cert.DInAct.main (F := Bits))) ⟨m, fun _ => 0, g⟩ (fun r => (∀ c : Dev Cert.DInAct.nD,
      r.2.mem ((c.tc : Thread Cert.DInAct.nD Cert.DInAct.τ).loc Cert.DInAct.main_arg0) = m ((c.tc : Thread Cert.DInAct.nD Cert.DInAct.τ).loc Cert.DInAct.main_arg0)
      ∧ r.2.mem ((c.tc : Thread Cert.DInAct.nD Cert.DInAct.τ).loc Cert.DInAct.main_arg1) = m ((c.tc : Thread Cert.DInAct.nD Cert.DInAct.τ).loc Cert.DInAct.main_arg1))
      ∧ r.2.sem = fun _ => 0)

def quiescent_DInActIdeal [hDInActIdeal : Cert.DInActIdeal.Facts] : Prop :=
  ∀ (m : (ℓ : Loc Cert.DInActIdeal.nD Cert.DInActIdeal.τ Cert.DInActIdeal.sig) → Buf (Elt Ideal) ℓ) (g : Dev Cert.DInActIdeal.nD → PrngReg), Pre_DInActIdeal m →
    θ_run (Cert.DInActIdeal.defs (F := Ideal)) (onTc (τ := Cert.DInActIdeal.τ) (Cert.DInActIdeal.main (F := Ideal))) ⟨m, fun _ => 0, g⟩ (fun r => (∀ c : Dev Cert.DInActIdeal.nD,
      r.2.mem ((c.tc : Thread Cert.DInActIdeal.nD Cert.DInActIdeal.τ).loc Cert.DInActIdeal.main_arg0) = m ((c.tc : Thread Cert.DInActIdeal.nD Cert.DInActIdeal.τ).loc Cert.DInActIdeal.main_arg0)
      ∧ r.2.mem ((c.tc : Thread Cert.DInActIdeal.nD Cert.DInActIdeal.τ).loc Cert.DInActIdeal.main_arg1) = m ((c.tc : Thread Cert.DInActIdeal.nD Cert.DInActIdeal.τ).loc Cert.DInActIdeal.main_arg1))
      ∧ r.2.sem = fun _ => 0)

def quiescent_DInActRefIdeal [hDInActRefIdeal : Cert.DInActRefIdeal.Facts] : Prop :=
  ∀ (m : (ℓ : Loc Cert.DInActRefIdeal.nD Cert.DInActRefIdeal.τ Cert.DInActRefIdeal.sig) → Buf (Elt Ideal) ℓ) (g : Dev Cert.DInActRefIdeal.nD → PrngReg), Pre_DInActRefIdeal m →
    θ_run (Cert.DInActRefIdeal.defs (F := Ideal)) (onTc (τ := Cert.DInActRefIdeal.τ) (Cert.DInActRefIdeal.main (F := Ideal))) ⟨m, fun _ => 0, g⟩ (fun r => (∀ c : Dev Cert.DInActRefIdeal.nD,
      r.2.mem ((c.tc : Thread Cert.DInActRefIdeal.nD Cert.DInActRefIdeal.τ).loc Cert.DInActRefIdeal.main_arg0) = m ((c.tc : Thread Cert.DInActRefIdeal.nD Cert.DInActRefIdeal.τ).loc Cert.DInActRefIdeal.main_arg0)
      ∧ r.2.mem ((c.tc : Thread Cert.DInActRefIdeal.nD Cert.DInActRefIdeal.τ).loc Cert.DInActRefIdeal.main_arg1) = m ((c.tc : Thread Cert.DInActRefIdeal.nD Cert.DInActRefIdeal.τ).loc Cert.DInActRefIdeal.main_arg1))
      ∧ r.2.sem = fun _ => 0)

def quiescent_DInW [hDInW : Cert.DInW.Facts] : Prop :=
  ∀ (m : (ℓ : Loc Cert.DInW.nD Cert.DInW.τ Cert.DInW.sig) → Buf (Elt Bits) ℓ) (g : Dev Cert.DInW.nD → PrngReg), Pre_DInW m →
    θ_run (Cert.DInW.defs (F := Bits)) (onTc (τ := Cert.DInW.τ) (Cert.DInW.main (F := Bits))) ⟨m, fun _ => 0, g⟩ (fun r => (∀ c : Dev Cert.DInW.nD,
      r.2.mem ((c.tc : Thread Cert.DInW.nD Cert.DInW.τ).loc Cert.DInW.main_arg0) = m ((c.tc : Thread Cert.DInW.nD Cert.DInW.τ).loc Cert.DInW.main_arg0)
      ∧ r.2.mem ((c.tc : Thread Cert.DInW.nD Cert.DInW.τ).loc Cert.DInW.main_arg1) = m ((c.tc : Thread Cert.DInW.nD Cert.DInW.τ).loc Cert.DInW.main_arg1))
      ∧ r.2.sem = fun _ => 0)

def quiescent_DInWIdeal [hDInWIdeal : Cert.DInWIdeal.Facts] : Prop :=
  ∀ (m : (ℓ : Loc Cert.DInWIdeal.nD Cert.DInWIdeal.τ Cert.DInWIdeal.sig) → Buf (Elt Ideal) ℓ) (g : Dev Cert.DInWIdeal.nD → PrngReg), Pre_DInWIdeal m →
    θ_run (Cert.DInWIdeal.defs (F := Ideal)) (onTc (τ := Cert.DInWIdeal.τ) (Cert.DInWIdeal.main (F := Ideal))) ⟨m, fun _ => 0, g⟩ (fun r => (∀ c : Dev Cert.DInWIdeal.nD,
      r.2.mem ((c.tc : Thread Cert.DInWIdeal.nD Cert.DInWIdeal.τ).loc Cert.DInWIdeal.main_arg0) = m ((c.tc : Thread Cert.DInWIdeal.nD Cert.DInWIdeal.τ).loc Cert.DInWIdeal.main_arg0)
      ∧ r.2.mem ((c.tc : Thread Cert.DInWIdeal.nD Cert.DInWIdeal.τ).loc Cert.DInWIdeal.main_arg1) = m ((c.tc : Thread Cert.DInWIdeal.nD Cert.DInWIdeal.τ).loc Cert.DInWIdeal.main_arg1))
      ∧ r.2.sem = fun _ => 0)

def quiescent_DInWRefIdeal [hDInWRefIdeal : Cert.DInWRefIdeal.Facts] : Prop :=
  ∀ (m : (ℓ : Loc Cert.DInWRefIdeal.nD Cert.DInWRefIdeal.τ Cert.DInWRefIdeal.sig) → Buf (Elt Ideal) ℓ) (g : Dev Cert.DInWRefIdeal.nD → PrngReg), Pre_DInWRefIdeal m →
    θ_run (Cert.DInWRefIdeal.defs (F := Ideal)) (onTc (τ := Cert.DInWRefIdeal.τ) (Cert.DInWRefIdeal.main (F := Ideal))) ⟨m, fun _ => 0, g⟩ (fun r => (∀ c : Dev Cert.DInWRefIdeal.nD,
      r.2.mem ((c.tc : Thread Cert.DInWRefIdeal.nD Cert.DInWRefIdeal.τ).loc Cert.DInWRefIdeal.main_arg0) = m ((c.tc : Thread Cert.DInWRefIdeal.nD Cert.DInWRefIdeal.τ).loc Cert.DInWRefIdeal.main_arg0)
      ∧ r.2.mem ((c.tc : Thread Cert.DInWRefIdeal.nD Cert.DInWRefIdeal.τ).loc Cert.DInWRefIdeal.main_arg1) = m ((c.tc : Thread Cert.DInWRefIdeal.nD Cert.DInWRefIdeal.τ).loc Cert.DInWRefIdeal.main_arg1))
      ∧ r.2.sem = fun _ => 0)

def quiescent_DFf2Act [hDFf2Act : Cert.DFf2Act.Facts] : Prop :=
  ∀ (m : (ℓ : Loc Cert.DFf2Act.nD Cert.DFf2Act.τ Cert.DFf2Act.sig) → Buf (Elt Bits) ℓ) (g : Dev Cert.DFf2Act.nD → PrngReg), Pre_DFf2Act m →
    θ_run (Cert.DFf2Act.defs (F := Bits)) (onTc (τ := Cert.DFf2Act.τ) (Cert.DFf2Act.main (F := Bits))) ⟨m, fun _ => 0, g⟩ (fun r => (∀ c : Dev Cert.DFf2Act.nD,
      r.2.mem ((c.tc : Thread Cert.DFf2Act.nD Cert.DFf2Act.τ).loc Cert.DFf2Act.main_arg0) = m ((c.tc : Thread Cert.DFf2Act.nD Cert.DFf2Act.τ).loc Cert.DFf2Act.main_arg0)
      ∧ r.2.mem ((c.tc : Thread Cert.DFf2Act.nD Cert.DFf2Act.τ).loc Cert.DFf2Act.main_arg1) = m ((c.tc : Thread Cert.DFf2Act.nD Cert.DFf2Act.τ).loc Cert.DFf2Act.main_arg1)
      ∧ r.2.mem ((c.tc : Thread Cert.DFf2Act.nD Cert.DFf2Act.τ).loc Cert.DFf2Act.main_arg2) = m ((c.tc : Thread Cert.DFf2Act.nD Cert.DFf2Act.τ).loc Cert.DFf2Act.main_arg2))
      ∧ r.2.sem = fun _ => 0)

def quiescent_DFf2ActIdeal [hDFf2ActIdeal : Cert.DFf2ActIdeal.Facts] : Prop :=
  ∀ (m : (ℓ : Loc Cert.DFf2ActIdeal.nD Cert.DFf2ActIdeal.τ Cert.DFf2ActIdeal.sig) → Buf (Elt Ideal) ℓ) (g : Dev Cert.DFf2ActIdeal.nD → PrngReg), Pre_DFf2ActIdeal m →
    θ_run (Cert.DFf2ActIdeal.defs (F := Ideal)) (onTc (τ := Cert.DFf2ActIdeal.τ) (Cert.DFf2ActIdeal.main (F := Ideal))) ⟨m, fun _ => 0, g⟩ (fun r => (∀ c : Dev Cert.DFf2ActIdeal.nD,
      r.2.mem ((c.tc : Thread Cert.DFf2ActIdeal.nD Cert.DFf2ActIdeal.τ).loc Cert.DFf2ActIdeal.main_arg0) = m ((c.tc : Thread Cert.DFf2ActIdeal.nD Cert.DFf2ActIdeal.τ).loc Cert.DFf2ActIdeal.main_arg0)
      ∧ r.2.mem ((c.tc : Thread Cert.DFf2ActIdeal.nD Cert.DFf2ActIdeal.τ).loc Cert.DFf2ActIdeal.main_arg1) = m ((c.tc : Thread Cert.DFf2ActIdeal.nD Cert.DFf2ActIdeal.τ).loc Cert.DFf2ActIdeal.main_arg1)
      ∧ r.2.mem ((c.tc : Thread Cert.DFf2ActIdeal.nD Cert.DFf2ActIdeal.τ).loc Cert.DFf2ActIdeal.main_arg2) = m ((c.tc : Thread Cert.DFf2ActIdeal.nD Cert.DFf2ActIdeal.τ).loc Cert.DFf2ActIdeal.main_arg2))
      ∧ r.2.sem = fun _ => 0)

def quiescent_DFf2ActRefIdeal [hDFf2ActRefIdeal : Cert.DFf2ActRefIdeal.Facts] : Prop :=
  ∀ (m : (ℓ : Loc Cert.DFf2ActRefIdeal.nD Cert.DFf2ActRefIdeal.τ Cert.DFf2ActRefIdeal.sig) → Buf (Elt Ideal) ℓ) (g : Dev Cert.DFf2ActRefIdeal.nD → PrngReg), Pre_DFf2ActRefIdeal m →
    θ_run (Cert.DFf2ActRefIdeal.defs (F := Ideal)) (onTc (τ := Cert.DFf2ActRefIdeal.τ) (Cert.DFf2ActRefIdeal.main (F := Ideal))) ⟨m, fun _ => 0, g⟩ (fun r => (∀ c : Dev Cert.DFf2ActRefIdeal.nD,
      r.2.mem ((c.tc : Thread Cert.DFf2ActRefIdeal.nD Cert.DFf2ActRefIdeal.τ).loc Cert.DFf2ActRefIdeal.main_arg0) = m ((c.tc : Thread Cert.DFf2ActRefIdeal.nD Cert.DFf2ActRefIdeal.τ).loc Cert.DFf2ActRefIdeal.main_arg0)
      ∧ r.2.mem ((c.tc : Thread Cert.DFf2ActRefIdeal.nD Cert.DFf2ActRefIdeal.τ).loc Cert.DFf2ActRefIdeal.main_arg1) = m ((c.tc : Thread Cert.DFf2ActRefIdeal.nD Cert.DFf2ActRefIdeal.τ).loc Cert.DFf2ActRefIdeal.main_arg1)
      ∧ r.2.mem ((c.tc : Thread Cert.DFf2ActRefIdeal.nD Cert.DFf2ActRefIdeal.τ).loc Cert.DFf2ActRefIdeal.main_arg2) = m ((c.tc : Thread Cert.DFf2ActRefIdeal.nD Cert.DFf2ActRefIdeal.τ).loc Cert.DFf2ActRefIdeal.main_arg2))
      ∧ r.2.sem = fun _ => 0)

def quiescent_DFf1Act [hDFf1Act : Cert.DFf1Act.Facts] : Prop :=
  ∀ (m : (ℓ : Loc Cert.DFf1Act.nD Cert.DFf1Act.τ Cert.DFf1Act.sig) → Buf (Elt Bits) ℓ) (g : Dev Cert.DFf1Act.nD → PrngReg), Pre_DFf1Act m →
    θ_run (Cert.DFf1Act.defs (F := Bits)) (onTc (τ := Cert.DFf1Act.τ) (Cert.DFf1Act.main (F := Bits))) ⟨m, fun _ => 0, g⟩ (fun r => (∀ c : Dev Cert.DFf1Act.nD,
      r.2.mem ((c.tc : Thread Cert.DFf1Act.nD Cert.DFf1Act.τ).loc Cert.DFf1Act.main_arg0) = m ((c.tc : Thread Cert.DFf1Act.nD Cert.DFf1Act.τ).loc Cert.DFf1Act.main_arg0)
      ∧ r.2.mem ((c.tc : Thread Cert.DFf1Act.nD Cert.DFf1Act.τ).loc Cert.DFf1Act.main_arg1) = m ((c.tc : Thread Cert.DFf1Act.nD Cert.DFf1Act.τ).loc Cert.DFf1Act.main_arg1)
      ∧ r.2.mem ((c.tc : Thread Cert.DFf1Act.nD Cert.DFf1Act.τ).loc Cert.DFf1Act.main_arg2) = m ((c.tc : Thread Cert.DFf1Act.nD Cert.DFf1Act.τ).loc Cert.DFf1Act.main_arg2)
      ∧ r.2.mem ((c.tc : Thread Cert.DFf1Act.nD Cert.DFf1Act.τ).loc Cert.DFf1Act.main_arg3) = m ((c.tc : Thread Cert.DFf1Act.nD Cert.DFf1Act.τ).loc Cert.DFf1Act.main_arg3)
      ∧ r.2.mem ((c.tc : Thread Cert.DFf1Act.nD Cert.DFf1Act.τ).loc Cert.DFf1Act.main_arg4) = m ((c.tc : Thread Cert.DFf1Act.nD Cert.DFf1Act.τ).loc Cert.DFf1Act.main_arg4))
      ∧ r.2.sem = fun _ => 0)

def quiescent_DFf1ActIdeal [hDFf1ActIdeal : Cert.DFf1ActIdeal.Facts] : Prop :=
  ∀ (m : (ℓ : Loc Cert.DFf1ActIdeal.nD Cert.DFf1ActIdeal.τ Cert.DFf1ActIdeal.sig) → Buf (Elt Ideal) ℓ) (g : Dev Cert.DFf1ActIdeal.nD → PrngReg), Pre_DFf1ActIdeal m →
    θ_run (Cert.DFf1ActIdeal.defs (F := Ideal)) (onTc (τ := Cert.DFf1ActIdeal.τ) (Cert.DFf1ActIdeal.main (F := Ideal))) ⟨m, fun _ => 0, g⟩ (fun r => (∀ c : Dev Cert.DFf1ActIdeal.nD,
      r.2.mem ((c.tc : Thread Cert.DFf1ActIdeal.nD Cert.DFf1ActIdeal.τ).loc Cert.DFf1ActIdeal.main_arg0) = m ((c.tc : Thread Cert.DFf1ActIdeal.nD Cert.DFf1ActIdeal.τ).loc Cert.DFf1ActIdeal.main_arg0)
      ∧ r.2.mem ((c.tc : Thread Cert.DFf1ActIdeal.nD Cert.DFf1ActIdeal.τ).loc Cert.DFf1ActIdeal.main_arg1) = m ((c.tc : Thread Cert.DFf1ActIdeal.nD Cert.DFf1ActIdeal.τ).loc Cert.DFf1ActIdeal.main_arg1)
      ∧ r.2.mem ((c.tc : Thread Cert.DFf1ActIdeal.nD Cert.DFf1ActIdeal.τ).loc Cert.DFf1ActIdeal.main_arg2) = m ((c.tc : Thread Cert.DFf1ActIdeal.nD Cert.DFf1ActIdeal.τ).loc Cert.DFf1ActIdeal.main_arg2)
      ∧ r.2.mem ((c.tc : Thread Cert.DFf1ActIdeal.nD Cert.DFf1ActIdeal.τ).loc Cert.DFf1ActIdeal.main_arg3) = m ((c.tc : Thread Cert.DFf1ActIdeal.nD Cert.DFf1ActIdeal.τ).loc Cert.DFf1ActIdeal.main_arg3)
      ∧ r.2.mem ((c.tc : Thread Cert.DFf1ActIdeal.nD Cert.DFf1ActIdeal.τ).loc Cert.DFf1ActIdeal.main_arg4) = m ((c.tc : Thread Cert.DFf1ActIdeal.nD Cert.DFf1ActIdeal.τ).loc Cert.DFf1ActIdeal.main_arg4))
      ∧ r.2.sem = fun _ => 0)

def quiescent_DFf1ActRefIdeal [hDFf1ActRefIdeal : Cert.DFf1ActRefIdeal.Facts] : Prop :=
  ∀ (m : (ℓ : Loc Cert.DFf1ActRefIdeal.nD Cert.DFf1ActRefIdeal.τ Cert.DFf1ActRefIdeal.sig) → Buf (Elt Ideal) ℓ) (g : Dev Cert.DFf1ActRefIdeal.nD → PrngReg), Pre_DFf1ActRefIdeal m →
    θ_run (Cert.DFf1ActRefIdeal.defs (F := Ideal)) (onTc (τ := Cert.DFf1ActRefIdeal.τ) (Cert.DFf1ActRefIdeal.main (F := Ideal))) ⟨m, fun _ => 0, g⟩ (fun r => (∀ c : Dev Cert.DFf1ActRefIdeal.nD,
      r.2.mem ((c.tc : Thread Cert.DFf1ActRefIdeal.nD Cert.DFf1ActRefIdeal.τ).loc Cert.DFf1ActRefIdeal.main_arg0) = m ((c.tc : Thread Cert.DFf1ActRefIdeal.nD Cert.DFf1ActRefIdeal.τ).loc Cert.DFf1ActRefIdeal.main_arg0)
      ∧ r.2.mem ((c.tc : Thread Cert.DFf1ActRefIdeal.nD Cert.DFf1ActRefIdeal.τ).loc Cert.DFf1ActRefIdeal.main_arg1) = m ((c.tc : Thread Cert.DFf1ActRefIdeal.nD Cert.DFf1ActRefIdeal.τ).loc Cert.DFf1ActRefIdeal.main_arg1)
      ∧ r.2.mem ((c.tc : Thread Cert.DFf1ActRefIdeal.nD Cert.DFf1ActRefIdeal.τ).loc Cert.DFf1ActRefIdeal.main_arg2) = m ((c.tc : Thread Cert.DFf1ActRefIdeal.nD Cert.DFf1ActRefIdeal.τ).loc Cert.DFf1ActRefIdeal.main_arg2)
      ∧ r.2.mem ((c.tc : Thread Cert.DFf1ActRefIdeal.nD Cert.DFf1ActRefIdeal.τ).loc Cert.DFf1ActRefIdeal.main_arg3) = m ((c.tc : Thread Cert.DFf1ActRefIdeal.nD Cert.DFf1ActRefIdeal.τ).loc Cert.DFf1ActRefIdeal.main_arg3)
      ∧ r.2.mem ((c.tc : Thread Cert.DFf1ActRefIdeal.nD Cert.DFf1ActRefIdeal.τ).loc Cert.DFf1ActRefIdeal.main_arg4) = m ((c.tc : Thread Cert.DFf1ActRefIdeal.nD Cert.DFf1ActRefIdeal.τ).loc Cert.DFf1ActRefIdeal.main_arg4))
      ∧ r.2.sem = fun _ => 0)

def quiescent_DFf2W [hDFf2W : Cert.DFf2W.Facts] : Prop :=
  ∀ (m : (ℓ : Loc Cert.DFf2W.nD Cert.DFf2W.τ Cert.DFf2W.sig) → Buf (Elt Bits) ℓ) (g : Dev Cert.DFf2W.nD → PrngReg), Pre_DFf2W m →
    θ_run (Cert.DFf2W.defs (F := Bits)) (onTc (τ := Cert.DFf2W.τ) (Cert.DFf2W.main (F := Bits))) ⟨m, fun _ => 0, g⟩ (fun r => (∀ c : Dev Cert.DFf2W.nD,
      r.2.mem ((c.tc : Thread Cert.DFf2W.nD Cert.DFf2W.τ).loc Cert.DFf2W.main_arg0) = m ((c.tc : Thread Cert.DFf2W.nD Cert.DFf2W.τ).loc Cert.DFf2W.main_arg0)
      ∧ r.2.mem ((c.tc : Thread Cert.DFf2W.nD Cert.DFf2W.τ).loc Cert.DFf2W.main_arg1) = m ((c.tc : Thread Cert.DFf2W.nD Cert.DFf2W.τ).loc Cert.DFf2W.main_arg1))
      ∧ r.2.sem = fun _ => 0)

def quiescent_DFf2WIdeal [hDFf2WIdeal : Cert.DFf2WIdeal.Facts] : Prop :=
  ∀ (m : (ℓ : Loc Cert.DFf2WIdeal.nD Cert.DFf2WIdeal.τ Cert.DFf2WIdeal.sig) → Buf (Elt Ideal) ℓ) (g : Dev Cert.DFf2WIdeal.nD → PrngReg), Pre_DFf2WIdeal m →
    θ_run (Cert.DFf2WIdeal.defs (F := Ideal)) (onTc (τ := Cert.DFf2WIdeal.τ) (Cert.DFf2WIdeal.main (F := Ideal))) ⟨m, fun _ => 0, g⟩ (fun r => (∀ c : Dev Cert.DFf2WIdeal.nD,
      r.2.mem ((c.tc : Thread Cert.DFf2WIdeal.nD Cert.DFf2WIdeal.τ).loc Cert.DFf2WIdeal.main_arg0) = m ((c.tc : Thread Cert.DFf2WIdeal.nD Cert.DFf2WIdeal.τ).loc Cert.DFf2WIdeal.main_arg0)
      ∧ r.2.mem ((c.tc : Thread Cert.DFf2WIdeal.nD Cert.DFf2WIdeal.τ).loc Cert.DFf2WIdeal.main_arg1) = m ((c.tc : Thread Cert.DFf2WIdeal.nD Cert.DFf2WIdeal.τ).loc Cert.DFf2WIdeal.main_arg1))
      ∧ r.2.sem = fun _ => 0)

def quiescent_DFf2WRefIdeal [hDFf2WRefIdeal : Cert.DFf2WRefIdeal.Facts] : Prop :=
  ∀ (m : (ℓ : Loc Cert.DFf2WRefIdeal.nD Cert.DFf2WRefIdeal.τ Cert.DFf2WRefIdeal.sig) → Buf (Elt Ideal) ℓ) (g : Dev Cert.DFf2WRefIdeal.nD → PrngReg), Pre_DFf2WRefIdeal m →
    θ_run (Cert.DFf2WRefIdeal.defs (F := Ideal)) (onTc (τ := Cert.DFf2WRefIdeal.τ) (Cert.DFf2WRefIdeal.main (F := Ideal))) ⟨m, fun _ => 0, g⟩ (fun r => (∀ c : Dev Cert.DFf2WRefIdeal.nD,
      r.2.mem ((c.tc : Thread Cert.DFf2WRefIdeal.nD Cert.DFf2WRefIdeal.τ).loc Cert.DFf2WRefIdeal.main_arg0) = m ((c.tc : Thread Cert.DFf2WRefIdeal.nD Cert.DFf2WRefIdeal.τ).loc Cert.DFf2WRefIdeal.main_arg0)
      ∧ r.2.mem ((c.tc : Thread Cert.DFf2WRefIdeal.nD Cert.DFf2WRefIdeal.τ).loc Cert.DFf2WRefIdeal.main_arg1) = m ((c.tc : Thread Cert.DFf2WRefIdeal.nD Cert.DFf2WRefIdeal.τ).loc Cert.DFf2WRefIdeal.main_arg1))
      ∧ r.2.sem = fun _ => 0)

def quiescent_DFf1W [hDFf1W : Cert.DFf1W.Facts] : Prop :=
  ∀ (m : (ℓ : Loc Cert.DFf1W.nD Cert.DFf1W.τ Cert.DFf1W.sig) → Buf (Elt Bits) ℓ) (g : Dev Cert.DFf1W.nD → PrngReg), Pre_DFf1W m →
    θ_run (Cert.DFf1W.defs (F := Bits)) (onTc (τ := Cert.DFf1W.τ) (Cert.DFf1W.main (F := Bits))) ⟨m, fun _ => 0, g⟩ (fun r => (∀ c : Dev Cert.DFf1W.nD,
      r.2.mem ((c.tc : Thread Cert.DFf1W.nD Cert.DFf1W.τ).loc Cert.DFf1W.main_arg0) = m ((c.tc : Thread Cert.DFf1W.nD Cert.DFf1W.τ).loc Cert.DFf1W.main_arg0)
      ∧ r.2.mem ((c.tc : Thread Cert.DFf1W.nD Cert.DFf1W.τ).loc Cert.DFf1W.main_arg1) = m ((c.tc : Thread Cert.DFf1W.nD Cert.DFf1W.τ).loc Cert.DFf1W.main_arg1))
      ∧ r.2.sem = fun _ => 0)

def quiescent_DFf1WIdeal [hDFf1WIdeal : Cert.DFf1WIdeal.Facts] : Prop :=
  ∀ (m : (ℓ : Loc Cert.DFf1WIdeal.nD Cert.DFf1WIdeal.τ Cert.DFf1WIdeal.sig) → Buf (Elt Ideal) ℓ) (g : Dev Cert.DFf1WIdeal.nD → PrngReg), Pre_DFf1WIdeal m →
    θ_run (Cert.DFf1WIdeal.defs (F := Ideal)) (onTc (τ := Cert.DFf1WIdeal.τ) (Cert.DFf1WIdeal.main (F := Ideal))) ⟨m, fun _ => 0, g⟩ (fun r => (∀ c : Dev Cert.DFf1WIdeal.nD,
      r.2.mem ((c.tc : Thread Cert.DFf1WIdeal.nD Cert.DFf1WIdeal.τ).loc Cert.DFf1WIdeal.main_arg0) = m ((c.tc : Thread Cert.DFf1WIdeal.nD Cert.DFf1WIdeal.τ).loc Cert.DFf1WIdeal.main_arg0)
      ∧ r.2.mem ((c.tc : Thread Cert.DFf1WIdeal.nD Cert.DFf1WIdeal.τ).loc Cert.DFf1WIdeal.main_arg1) = m ((c.tc : Thread Cert.DFf1WIdeal.nD Cert.DFf1WIdeal.τ).loc Cert.DFf1WIdeal.main_arg1))
      ∧ r.2.sem = fun _ => 0)

def quiescent_DFf1WRefIdeal [hDFf1WRefIdeal : Cert.DFf1WRefIdeal.Facts] : Prop :=
  ∀ (m : (ℓ : Loc Cert.DFf1WRefIdeal.nD Cert.DFf1WRefIdeal.τ Cert.DFf1WRefIdeal.sig) → Buf (Elt Ideal) ℓ) (g : Dev Cert.DFf1WRefIdeal.nD → PrngReg), Pre_DFf1WRefIdeal m →
    θ_run (Cert.DFf1WRefIdeal.defs (F := Ideal)) (onTc (τ := Cert.DFf1WRefIdeal.τ) (Cert.DFf1WRefIdeal.main (F := Ideal))) ⟨m, fun _ => 0, g⟩ (fun r => (∀ c : Dev Cert.DFf1WRefIdeal.nD,
      r.2.mem ((c.tc : Thread Cert.DFf1WRefIdeal.nD Cert.DFf1WRefIdeal.τ).loc Cert.DFf1WRefIdeal.main_arg0) = m ((c.tc : Thread Cert.DFf1WRefIdeal.nD Cert.DFf1WRefIdeal.τ).loc Cert.DFf1WRefIdeal.main_arg0)
      ∧ r.2.mem ((c.tc : Thread Cert.DFf1WRefIdeal.nD Cert.DFf1WRefIdeal.τ).loc Cert.DFf1WRefIdeal.main_arg1) = m ((c.tc : Thread Cert.DFf1WRefIdeal.nD Cert.DFf1WRefIdeal.τ).loc Cert.DFf1WRefIdeal.main_arg1))
      ∧ r.2.sem = fun _ => 0)

def quiescent_DOutAct [hDOutAct : Cert.DOutAct.Facts] : Prop :=
  ∀ (m : (ℓ : Loc Cert.DOutAct.nD Cert.DOutAct.τ Cert.DOutAct.sig) → Buf (Elt Bits) ℓ) (g : Dev Cert.DOutAct.nD → PrngReg), Pre_DOutAct m →
    θ_run (Cert.DOutAct.defs (F := Bits)) (onTc (τ := Cert.DOutAct.τ) (Cert.DOutAct.main (F := Bits))) ⟨m, fun _ => 0, g⟩ (fun r => (∀ c : Dev Cert.DOutAct.nD,
      r.2.mem ((c.tc : Thread Cert.DOutAct.nD Cert.DOutAct.τ).loc Cert.DOutAct.main_arg0) = m ((c.tc : Thread Cert.DOutAct.nD Cert.DOutAct.τ).loc Cert.DOutAct.main_arg0)
      ∧ r.2.mem ((c.tc : Thread Cert.DOutAct.nD Cert.DOutAct.τ).loc Cert.DOutAct.main_arg1) = m ((c.tc : Thread Cert.DOutAct.nD Cert.DOutAct.τ).loc Cert.DOutAct.main_arg1))
      ∧ r.2.sem = fun _ => 0)

def quiescent_DOutActIdeal [hDOutActIdeal : Cert.DOutActIdeal.Facts] : Prop :=
  ∀ (m : (ℓ : Loc Cert.DOutActIdeal.nD Cert.DOutActIdeal.τ Cert.DOutActIdeal.sig) → Buf (Elt Ideal) ℓ) (g : Dev Cert.DOutActIdeal.nD → PrngReg), Pre_DOutActIdeal m →
    θ_run (Cert.DOutActIdeal.defs (F := Ideal)) (onTc (τ := Cert.DOutActIdeal.τ) (Cert.DOutActIdeal.main (F := Ideal))) ⟨m, fun _ => 0, g⟩ (fun r => (∀ c : Dev Cert.DOutActIdeal.nD,
      r.2.mem ((c.tc : Thread Cert.DOutActIdeal.nD Cert.DOutActIdeal.τ).loc Cert.DOutActIdeal.main_arg0) = m ((c.tc : Thread Cert.DOutActIdeal.nD Cert.DOutActIdeal.τ).loc Cert.DOutActIdeal.main_arg0)
      ∧ r.2.mem ((c.tc : Thread Cert.DOutActIdeal.nD Cert.DOutActIdeal.τ).loc Cert.DOutActIdeal.main_arg1) = m ((c.tc : Thread Cert.DOutActIdeal.nD Cert.DOutActIdeal.τ).loc Cert.DOutActIdeal.main_arg1))
      ∧ r.2.sem = fun _ => 0)

def quiescent_DOutActRefIdeal [hDOutActRefIdeal : Cert.DOutActRefIdeal.Facts] : Prop :=
  ∀ (m : (ℓ : Loc Cert.DOutActRefIdeal.nD Cert.DOutActRefIdeal.τ Cert.DOutActRefIdeal.sig) → Buf (Elt Ideal) ℓ) (g : Dev Cert.DOutActRefIdeal.nD → PrngReg), Pre_DOutActRefIdeal m →
    θ_run (Cert.DOutActRefIdeal.defs (F := Ideal)) (onTc (τ := Cert.DOutActRefIdeal.τ) (Cert.DOutActRefIdeal.main (F := Ideal))) ⟨m, fun _ => 0, g⟩ (fun r => (∀ c : Dev Cert.DOutActRefIdeal.nD,
      r.2.mem ((c.tc : Thread Cert.DOutActRefIdeal.nD Cert.DOutActRefIdeal.τ).loc Cert.DOutActRefIdeal.main_arg0) = m ((c.tc : Thread Cert.DOutActRefIdeal.nD Cert.DOutActRefIdeal.τ).loc Cert.DOutActRefIdeal.main_arg0)
      ∧ r.2.mem ((c.tc : Thread Cert.DOutActRefIdeal.nD Cert.DOutActRefIdeal.τ).loc Cert.DOutActRefIdeal.main_arg1) = m ((c.tc : Thread Cert.DOutActRefIdeal.nD Cert.DOutActRefIdeal.τ).loc Cert.DOutActRefIdeal.main_arg1))
      ∧ r.2.sem = fun _ => 0)

def quiescent_DOutW [hDOutW : Cert.DOutW.Facts] : Prop :=
  ∀ (m : (ℓ : Loc Cert.DOutW.nD Cert.DOutW.τ Cert.DOutW.sig) → Buf (Elt Bits) ℓ) (g : Dev Cert.DOutW.nD → PrngReg), Pre_DOutW m →
    θ_run (Cert.DOutW.defs (F := Bits)) (onTc (τ := Cert.DOutW.τ) (Cert.DOutW.main (F := Bits))) ⟨m, fun _ => 0, g⟩ (fun r => (∀ c : Dev Cert.DOutW.nD,
      r.2.mem ((c.tc : Thread Cert.DOutW.nD Cert.DOutW.τ).loc Cert.DOutW.main_arg0) = m ((c.tc : Thread Cert.DOutW.nD Cert.DOutW.τ).loc Cert.DOutW.main_arg0)
      ∧ r.2.mem ((c.tc : Thread Cert.DOutW.nD Cert.DOutW.τ).loc Cert.DOutW.main_arg1) = m ((c.tc : Thread Cert.DOutW.nD Cert.DOutW.τ).loc Cert.DOutW.main_arg1))
      ∧ r.2.sem = fun _ => 0)

def quiescent_DOutWIdeal [hDOutWIdeal : Cert.DOutWIdeal.Facts] : Prop :=
  ∀ (m : (ℓ : Loc Cert.DOutWIdeal.nD Cert.DOutWIdeal.τ Cert.DOutWIdeal.sig) → Buf (Elt Ideal) ℓ) (g : Dev Cert.DOutWIdeal.nD → PrngReg), Pre_DOutWIdeal m →
    θ_run (Cert.DOutWIdeal.defs (F := Ideal)) (onTc (τ := Cert.DOutWIdeal.τ) (Cert.DOutWIdeal.main (F := Ideal))) ⟨m, fun _ => 0, g⟩ (fun r => (∀ c : Dev Cert.DOutWIdeal.nD,
      r.2.mem ((c.tc : Thread Cert.DOutWIdeal.nD Cert.DOutWIdeal.τ).loc Cert.DOutWIdeal.main_arg0) = m ((c.tc : Thread Cert.DOutWIdeal.nD Cert.DOutWIdeal.τ).loc Cert.DOutWIdeal.main_arg0)
      ∧ r.2.mem ((c.tc : Thread Cert.DOutWIdeal.nD Cert.DOutWIdeal.τ).loc Cert.DOutWIdeal.main_arg1) = m ((c.tc : Thread Cert.DOutWIdeal.nD Cert.DOutWIdeal.τ).loc Cert.DOutWIdeal.main_arg1))
      ∧ r.2.sem = fun _ => 0)

def quiescent_DOutWRefIdeal [hDOutWRefIdeal : Cert.DOutWRefIdeal.Facts] : Prop :=
  ∀ (m : (ℓ : Loc Cert.DOutWRefIdeal.nD Cert.DOutWRefIdeal.τ Cert.DOutWRefIdeal.sig) → Buf (Elt Ideal) ℓ) (g : Dev Cert.DOutWRefIdeal.nD → PrngReg), Pre_DOutWRefIdeal m →
    θ_run (Cert.DOutWRefIdeal.defs (F := Ideal)) (onTc (τ := Cert.DOutWRefIdeal.τ) (Cert.DOutWRefIdeal.main (F := Ideal))) ⟨m, fun _ => 0, g⟩ (fun r => (∀ c : Dev Cert.DOutWRefIdeal.nD,
      r.2.mem ((c.tc : Thread Cert.DOutWRefIdeal.nD Cert.DOutWRefIdeal.τ).loc Cert.DOutWRefIdeal.main_arg0) = m ((c.tc : Thread Cert.DOutWRefIdeal.nD Cert.DOutWRefIdeal.τ).loc Cert.DOutWRefIdeal.main_arg0)
      ∧ r.2.mem ((c.tc : Thread Cert.DOutWRefIdeal.nD Cert.DOutWRefIdeal.τ).loc Cert.DOutWRefIdeal.main_arg1) = m ((c.tc : Thread Cert.DOutWRefIdeal.nD Cert.DOutWRefIdeal.τ).loc Cert.DOutWRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2Loss [hFf2Loss : Cert.Ff2Loss.Facts] : Prop :=
  ∀ (m : (ℓ : Loc Cert.Ff2Loss.nD Cert.Ff2Loss.τ Cert.Ff2Loss.sig) → Buf (Elt Bits) ℓ) (g : Dev Cert.Ff2Loss.nD → PrngReg), Pre_Ff2Loss m →
    θ_run (Cert.Ff2Loss.defs (F := Bits)) (onTc (τ := Cert.Ff2Loss.τ) (Cert.Ff2Loss.main (F := Bits))) ⟨m, fun _ => 0, g⟩ (fun r => (∀ c : Dev Cert.Ff2Loss.nD,
      r.2.mem ((c.tc : Thread Cert.Ff2Loss.nD Cert.Ff2Loss.τ).loc Cert.Ff2Loss.main_arg0) = m ((c.tc : Thread Cert.Ff2Loss.nD Cert.Ff2Loss.τ).loc Cert.Ff2Loss.main_arg0)
      ∧ r.2.mem ((c.tc : Thread Cert.Ff2Loss.nD Cert.Ff2Loss.τ).loc Cert.Ff2Loss.main_arg1) = m ((c.tc : Thread Cert.Ff2Loss.nD Cert.Ff2Loss.τ).loc Cert.Ff2Loss.main_arg1)
      ∧ r.2.mem ((c.tc : Thread Cert.Ff2Loss.nD Cert.Ff2Loss.τ).loc Cert.Ff2Loss.main_arg2) = m ((c.tc : Thread Cert.Ff2Loss.nD Cert.Ff2Loss.τ).loc Cert.Ff2Loss.main_arg2)
      ∧ r.2.mem ((c.tc : Thread Cert.Ff2Loss.nD Cert.Ff2Loss.τ).loc Cert.Ff2Loss.main_arg3) = m ((c.tc : Thread Cert.Ff2Loss.nD Cert.Ff2Loss.τ).loc Cert.Ff2Loss.main_arg3))
      ∧ r.2.sem = fun _ => 0)

def quiescent_Ff2LossIdeal [hFf2LossIdeal : Cert.Ff2LossIdeal.Facts] : Prop :=
  ∀ (m : (ℓ : Loc Cert.Ff2LossIdeal.nD Cert.Ff2LossIdeal.τ Cert.Ff2LossIdeal.sig) → Buf (Elt Ideal) ℓ) (g : Dev Cert.Ff2LossIdeal.nD → PrngReg), Pre_Ff2LossIdeal m →
    θ_run (Cert.Ff2LossIdeal.defs (F := Ideal)) (onTc (τ := Cert.Ff2LossIdeal.τ) (Cert.Ff2LossIdeal.main (F := Ideal))) ⟨m, fun _ => 0, g⟩ (fun r => (∀ c : Dev Cert.Ff2LossIdeal.nD,
      r.2.mem ((c.tc : Thread Cert.Ff2LossIdeal.nD Cert.Ff2LossIdeal.τ).loc Cert.Ff2LossIdeal.main_arg0) = m ((c.tc : Thread Cert.Ff2LossIdeal.nD Cert.Ff2LossIdeal.τ).loc Cert.Ff2LossIdeal.main_arg0)
      ∧ r.2.mem ((c.tc : Thread Cert.Ff2LossIdeal.nD Cert.Ff2LossIdeal.τ).loc Cert.Ff2LossIdeal.main_arg1) = m ((c.tc : Thread Cert.Ff2LossIdeal.nD Cert.Ff2LossIdeal.τ).loc Cert.Ff2LossIdeal.main_arg1)
      ∧ r.2.mem ((c.tc : Thread Cert.Ff2LossIdeal.nD Cert.Ff2LossIdeal.τ).loc Cert.Ff2LossIdeal.main_arg2) = m ((c.tc : Thread Cert.Ff2LossIdeal.nD Cert.Ff2LossIdeal.τ).loc Cert.Ff2LossIdeal.main_arg2)
      ∧ r.2.mem ((c.tc : Thread Cert.Ff2LossIdeal.nD Cert.Ff2LossIdeal.τ).loc Cert.Ff2LossIdeal.main_arg3) = m ((c.tc : Thread Cert.Ff2LossIdeal.nD Cert.Ff2LossIdeal.τ).loc Cert.Ff2LossIdeal.main_arg3))
      ∧ r.2.sem = fun _ => 0)

def quiescent_Ff2LossRefIdeal [hFf2LossRefIdeal : Cert.Ff2LossRefIdeal.Facts] : Prop :=
  ∀ (m : (ℓ : Loc Cert.Ff2LossRefIdeal.nD Cert.Ff2LossRefIdeal.τ Cert.Ff2LossRefIdeal.sig) → Buf (Elt Ideal) ℓ) (g : Dev Cert.Ff2LossRefIdeal.nD → PrngReg), Pre_Ff2LossRefIdeal m →
    θ_run (Cert.Ff2LossRefIdeal.defs (F := Ideal)) (onTc (τ := Cert.Ff2LossRefIdeal.τ) (Cert.Ff2LossRefIdeal.main (F := Ideal))) ⟨m, fun _ => 0, g⟩ (fun r => (∀ c : Dev Cert.Ff2LossRefIdeal.nD,
      r.2.mem ((c.tc : Thread Cert.Ff2LossRefIdeal.nD Cert.Ff2LossRefIdeal.τ).loc Cert.Ff2LossRefIdeal.main_arg0) = m ((c.tc : Thread Cert.Ff2LossRefIdeal.nD Cert.Ff2LossRefIdeal.τ).loc Cert.Ff2LossRefIdeal.main_arg0)
      ∧ r.2.mem ((c.tc : Thread Cert.Ff2LossRefIdeal.nD Cert.Ff2LossRefIdeal.τ).loc Cert.Ff2LossRefIdeal.main_arg1) = m ((c.tc : Thread Cert.Ff2LossRefIdeal.nD Cert.Ff2LossRefIdeal.τ).loc Cert.Ff2LossRefIdeal.main_arg1)
      ∧ r.2.mem ((c.tc : Thread Cert.Ff2LossRefIdeal.nD Cert.Ff2LossRefIdeal.τ).loc Cert.Ff2LossRefIdeal.main_arg2) = m ((c.tc : Thread Cert.Ff2LossRefIdeal.nD Cert.Ff2LossRefIdeal.τ).loc Cert.Ff2LossRefIdeal.main_arg2)
      ∧ r.2.mem ((c.tc : Thread Cert.Ff2LossRefIdeal.nD Cert.Ff2LossRefIdeal.τ).loc Cert.Ff2LossRefIdeal.main_arg3) = m ((c.tc : Thread Cert.Ff2LossRefIdeal.nD Cert.Ff2LossRefIdeal.τ).loc Cert.Ff2LossRefIdeal.main_arg3))
      ∧ r.2.sem = fun _ => 0)

def quiescent_Ff2Next [hFf2Next : Cert.Ff2Next.Facts] : Prop :=
  ∀ (m : (ℓ : Loc Cert.Ff2Next.nD Cert.Ff2Next.τ Cert.Ff2Next.sig) → Buf (Elt Bits) ℓ) (g : Dev Cert.Ff2Next.nD → PrngReg), Pre_Ff2Next m →
    θ_run (Cert.Ff2Next.defs (F := Bits)) (onTc (τ := Cert.Ff2Next.τ) (Cert.Ff2Next.main (F := Bits))) ⟨m, fun _ => 0, g⟩ (fun r => (∀ c : Dev Cert.Ff2Next.nD,
      r.2.mem ((c.tc : Thread Cert.Ff2Next.nD Cert.Ff2Next.τ).loc Cert.Ff2Next.main_arg0) = m ((c.tc : Thread Cert.Ff2Next.nD Cert.Ff2Next.τ).loc Cert.Ff2Next.main_arg0)
      ∧ r.2.mem ((c.tc : Thread Cert.Ff2Next.nD Cert.Ff2Next.τ).loc Cert.Ff2Next.main_arg1) = m ((c.tc : Thread Cert.Ff2Next.nD Cert.Ff2Next.τ).loc Cert.Ff2Next.main_arg1)
      ∧ r.2.mem ((c.tc : Thread Cert.Ff2Next.nD Cert.Ff2Next.τ).loc Cert.Ff2Next.main_arg2) = m ((c.tc : Thread Cert.Ff2Next.nD Cert.Ff2Next.τ).loc Cert.Ff2Next.main_arg2)
      ∧ r.2.mem ((c.tc : Thread Cert.Ff2Next.nD Cert.Ff2Next.τ).loc Cert.Ff2Next.main_arg3) = m ((c.tc : Thread Cert.Ff2Next.nD Cert.Ff2Next.τ).loc Cert.Ff2Next.main_arg3))
      ∧ r.2.sem = fun _ => 0)

def quiescent_Ff2NextIdeal [hFf2NextIdeal : Cert.Ff2NextIdeal.Facts] : Prop :=
  ∀ (m : (ℓ : Loc Cert.Ff2NextIdeal.nD Cert.Ff2NextIdeal.τ Cert.Ff2NextIdeal.sig) → Buf (Elt Ideal) ℓ) (g : Dev Cert.Ff2NextIdeal.nD → PrngReg), Pre_Ff2NextIdeal m →
    θ_run (Cert.Ff2NextIdeal.defs (F := Ideal)) (onTc (τ := Cert.Ff2NextIdeal.τ) (Cert.Ff2NextIdeal.main (F := Ideal))) ⟨m, fun _ => 0, g⟩ (fun r => (∀ c : Dev Cert.Ff2NextIdeal.nD,
      r.2.mem ((c.tc : Thread Cert.Ff2NextIdeal.nD Cert.Ff2NextIdeal.τ).loc Cert.Ff2NextIdeal.main_arg0) = m ((c.tc : Thread Cert.Ff2NextIdeal.nD Cert.Ff2NextIdeal.τ).loc Cert.Ff2NextIdeal.main_arg0)
      ∧ r.2.mem ((c.tc : Thread Cert.Ff2NextIdeal.nD Cert.Ff2NextIdeal.τ).loc Cert.Ff2NextIdeal.main_arg1) = m ((c.tc : Thread Cert.Ff2NextIdeal.nD Cert.Ff2NextIdeal.τ).loc Cert.Ff2NextIdeal.main_arg1)
      ∧ r.2.mem ((c.tc : Thread Cert.Ff2NextIdeal.nD Cert.Ff2NextIdeal.τ).loc Cert.Ff2NextIdeal.main_arg2) = m ((c.tc : Thread Cert.Ff2NextIdeal.nD Cert.Ff2NextIdeal.τ).loc Cert.Ff2NextIdeal.main_arg2)
      ∧ r.2.mem ((c.tc : Thread Cert.Ff2NextIdeal.nD Cert.Ff2NextIdeal.τ).loc Cert.Ff2NextIdeal.main_arg3) = m ((c.tc : Thread Cert.Ff2NextIdeal.nD Cert.Ff2NextIdeal.τ).loc Cert.Ff2NextIdeal.main_arg3))
      ∧ r.2.sem = fun _ => 0)

def quiescent_Ff2NextRefIdeal [hFf2NextRefIdeal : Cert.Ff2NextRefIdeal.Facts] : Prop :=
  ∀ (m : (ℓ : Loc Cert.Ff2NextRefIdeal.nD Cert.Ff2NextRefIdeal.τ Cert.Ff2NextRefIdeal.sig) → Buf (Elt Ideal) ℓ) (g : Dev Cert.Ff2NextRefIdeal.nD → PrngReg), Pre_Ff2NextRefIdeal m →
    θ_run (Cert.Ff2NextRefIdeal.defs (F := Ideal)) (onTc (τ := Cert.Ff2NextRefIdeal.τ) (Cert.Ff2NextRefIdeal.main (F := Ideal))) ⟨m, fun _ => 0, g⟩ (fun r => (∀ c : Dev Cert.Ff2NextRefIdeal.nD,
      r.2.mem ((c.tc : Thread Cert.Ff2NextRefIdeal.nD Cert.Ff2NextRefIdeal.τ).loc Cert.Ff2NextRefIdeal.main_arg0) = m ((c.tc : Thread Cert.Ff2NextRefIdeal.nD Cert.Ff2NextRefIdeal.τ).loc Cert.Ff2NextRefIdeal.main_arg0)
      ∧ r.2.mem ((c.tc : Thread Cert.Ff2NextRefIdeal.nD Cert.Ff2NextRefIdeal.τ).loc Cert.Ff2NextRefIdeal.main_arg1) = m ((c.tc : Thread Cert.Ff2NextRefIdeal.nD Cert.Ff2NextRefIdeal.τ).loc Cert.Ff2NextRefIdeal.main_arg1)
      ∧ r.2.mem ((c.tc : Thread Cert.Ff2NextRefIdeal.nD Cert.Ff2NextRefIdeal.τ).loc Cert.Ff2NextRefIdeal.main_arg2) = m ((c.tc : Thread Cert.Ff2NextRefIdeal.nD Cert.Ff2NextRefIdeal.τ).loc Cert.Ff2NextRefIdeal.main_arg2)
      ∧ r.2.mem ((c.tc : Thread Cert.Ff2NextRefIdeal.nD Cert.Ff2NextRefIdeal.τ).loc Cert.Ff2NextRefIdeal.main_arg3) = m ((c.tc : Thread Cert.Ff2NextRefIdeal.nD Cert.Ff2NextRefIdeal.τ).loc Cert.Ff2NextRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_RmsMix [hRmsMix : Cert.RmsMix.Facts] : Prop :=
  ∀ (m : (ℓ : Loc Cert.RmsMix.nD Cert.RmsMix.τ Cert.RmsMix.sig) → Buf (Elt Bits) ℓ) (g : Dev Cert.RmsMix.nD → PrngReg), Pre_RmsMix m →
    θ_run (Cert.RmsMix.defs (F := Bits)) (onTc (τ := Cert.RmsMix.τ) (Cert.RmsMix.main (F := Bits))) ⟨m, fun _ => 0, g⟩ (fun r => (∀ c : Dev Cert.RmsMix.nD,
      r.2.mem ((c.tc : Thread Cert.RmsMix.nD Cert.RmsMix.τ).loc Cert.RmsMix.main_arg0) = m ((c.tc : Thread Cert.RmsMix.nD Cert.RmsMix.τ).loc Cert.RmsMix.main_arg0)
      ∧ r.2.mem ((c.tc : Thread Cert.RmsMix.nD Cert.RmsMix.τ).loc Cert.RmsMix.main_arg1) = m ((c.tc : Thread Cert.RmsMix.nD Cert.RmsMix.τ).loc Cert.RmsMix.main_arg1))
      ∧ r.2.sem = fun _ => 0)

def quiescent_RmsMixIdeal [hRmsMixIdeal : Cert.RmsMixIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg), Pre_RmsMixIdeal m →
    θ_run (Cert.RmsMixIdeal.defs (F := Ideal)) (onTc (τ := Cert.RmsMixIdeal.τ) (Cert.RmsMixIdeal.main (F := Ideal))) ⟨m, fun _ => 0, g⟩ (fun r => (∀ c : Dev Cert.RmsMixIdeal.nD,
      r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
      ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1))
      ∧ r.2.sem = fun _ => 0)

def quiescent_RmsMixRefIdeal [hRmsMixRefIdeal : Cert.RmsMixRefIdeal.Facts] : Prop :=
  ∀ (m : (ℓ : Loc Cert.RmsMixRefIdeal.nD Cert.RmsMixRefIdeal.τ Cert.RmsMixRefIdeal.sig) → Buf (Elt Ideal) ℓ) (g : Dev Cert.RmsMixRefIdeal.nD → PrngReg), Pre_RmsMixRefIdeal m →
    θ_run (Cert.RmsMixRefIdeal.defs (F := Ideal)) (onTc (τ := Cert.RmsMixRefIdeal.τ) (Cert.RmsMixRefIdeal.main (F := Ideal))) ⟨m, fun _ => 0, g⟩ (fun r => (∀ c : Dev Cert.RmsMixRefIdeal.nD,
      r.2.mem ((c.tc : Thread Cert.RmsMixRefIdeal.nD Cert.RmsMixRefIdeal.τ).loc Cert.RmsMixRefIdeal.main_arg0) = m ((c.tc : Thread Cert.RmsMixRefIdeal.nD Cert.RmsMixRefIdeal.τ).loc Cert.RmsMixRefIdeal.main_arg0)
      ∧ r.2.mem ((c.tc : Thread Cert.RmsMixRefIdeal.nD Cert.RmsMixRefIdeal.τ).loc Cert.RmsMixRefIdeal.main_arg1) = m ((c.tc : Thread Cert.RmsMixRefIdeal.nD Cert.RmsMixRefIdeal.τ).loc Cert.RmsMixRefIdeal.main_arg1))
      ∧ r.2.sem = fun _ => 0)

def quiescent_DRmsMix [hDRmsMix : Cert.DRmsMix.Facts] : Prop :=
  ∀ (m : (ℓ : Loc Cert.DRmsMix.nD Cert.DRmsMix.τ Cert.DRmsMix.sig) → Buf (Elt Bits) ℓ) (g : Dev Cert.DRmsMix.nD → PrngReg), Pre_DRmsMix m →
    θ_run (Cert.DRmsMix.defs (F := Bits)) (onTc (τ := Cert.DRmsMix.τ) (Cert.DRmsMix.main (F := Bits))) ⟨m, fun _ => 0, g⟩ (fun r => (∀ c : Dev Cert.DRmsMix.nD,
      r.2.mem ((c.tc : Thread Cert.DRmsMix.nD Cert.DRmsMix.τ).loc Cert.DRmsMix.main_arg0) = m ((c.tc : Thread Cert.DRmsMix.nD Cert.DRmsMix.τ).loc Cert.DRmsMix.main_arg0)
      ∧ r.2.mem ((c.tc : Thread Cert.DRmsMix.nD Cert.DRmsMix.τ).loc Cert.DRmsMix.main_arg1) = m ((c.tc : Thread Cert.DRmsMix.nD Cert.DRmsMix.τ).loc Cert.DRmsMix.main_arg1)
      ∧ r.2.mem ((c.tc : Thread Cert.DRmsMix.nD Cert.DRmsMix.τ).loc Cert.DRmsMix.main_arg2) = m ((c.tc : Thread Cert.DRmsMix.nD Cert.DRmsMix.τ).loc Cert.DRmsMix.main_arg2)
      ∧ r.2.mem ((c.tc : Thread Cert.DRmsMix.nD Cert.DRmsMix.τ).loc Cert.DRmsMix.main_arg3) = m ((c.tc : Thread Cert.DRmsMix.nD Cert.DRmsMix.τ).loc Cert.DRmsMix.main_arg3))
      ∧ r.2.sem = fun _ => 0)

def quiescent_DRmsMixIdeal [hDRmsMixIdeal : Cert.DRmsMixIdeal.Facts] : Prop :=
  ∀ (m : (ℓ : Loc Cert.DRmsMixIdeal.nD Cert.DRmsMixIdeal.τ Cert.DRmsMixIdeal.sig) → Buf (Elt Ideal) ℓ) (g : Dev Cert.DRmsMixIdeal.nD → PrngReg), Pre_DRmsMixIdeal m →
    θ_run (Cert.DRmsMixIdeal.defs (F := Ideal)) (onTc (τ := Cert.DRmsMixIdeal.τ) (Cert.DRmsMixIdeal.main (F := Ideal))) ⟨m, fun _ => 0, g⟩ (fun r => (∀ c : Dev Cert.DRmsMixIdeal.nD,
      r.2.mem ((c.tc : Thread Cert.DRmsMixIdeal.nD Cert.DRmsMixIdeal.τ).loc Cert.DRmsMixIdeal.main_arg0) = m ((c.tc : Thread Cert.DRmsMixIdeal.nD Cert.DRmsMixIdeal.τ).loc Cert.DRmsMixIdeal.main_arg0)
      ∧ r.2.mem ((c.tc : Thread Cert.DRmsMixIdeal.nD Cert.DRmsMixIdeal.τ).loc Cert.DRmsMixIdeal.main_arg1) = m ((c.tc : Thread Cert.DRmsMixIdeal.nD Cert.DRmsMixIdeal.τ).loc Cert.DRmsMixIdeal.main_arg1)
      ∧ r.2.mem ((c.tc : Thread Cert.DRmsMixIdeal.nD Cert.DRmsMixIdeal.τ).loc Cert.DRmsMixIdeal.main_arg2) = m ((c.tc : Thread Cert.DRmsMixIdeal.nD Cert.DRmsMixIdeal.τ).loc Cert.DRmsMixIdeal.main_arg2)
      ∧ r.2.mem ((c.tc : Thread Cert.DRmsMixIdeal.nD Cert.DRmsMixIdeal.τ).loc Cert.DRmsMixIdeal.main_arg3) = m ((c.tc : Thread Cert.DRmsMixIdeal.nD Cert.DRmsMixIdeal.τ).loc Cert.DRmsMixIdeal.main_arg3))
      ∧ r.2.sem = fun _ => 0)

def quiescent_DRmsMixRefIdeal [hDRmsMixRefIdeal : Cert.DRmsMixRefIdeal.Facts] : Prop :=
  ∀ (m : (ℓ : Loc Cert.DRmsMixRefIdeal.nD Cert.DRmsMixRefIdeal.τ Cert.DRmsMixRefIdeal.sig) → Buf (Elt Ideal) ℓ) (g : Dev Cert.DRmsMixRefIdeal.nD → PrngReg), Pre_DRmsMixRefIdeal m →
    θ_run (Cert.DRmsMixRefIdeal.defs (F := Ideal)) (onTc (τ := Cert.DRmsMixRefIdeal.τ) (Cert.DRmsMixRefIdeal.main (F := Ideal))) ⟨m, fun _ => 0, g⟩ (fun r => (∀ c : Dev Cert.DRmsMixRefIdeal.nD,
      r.2.mem ((c.tc : Thread Cert.DRmsMixRefIdeal.nD Cert.DRmsMixRefIdeal.τ).loc Cert.DRmsMixRefIdeal.main_arg0) = m ((c.tc : Thread Cert.DRmsMixRefIdeal.nD Cert.DRmsMixRefIdeal.τ).loc Cert.DRmsMixRefIdeal.main_arg0)
      ∧ r.2.mem ((c.tc : Thread Cert.DRmsMixRefIdeal.nD Cert.DRmsMixRefIdeal.τ).loc Cert.DRmsMixRefIdeal.main_arg1) = m ((c.tc : Thread Cert.DRmsMixRefIdeal.nD Cert.DRmsMixRefIdeal.τ).loc Cert.DRmsMixRefIdeal.main_arg1)
      ∧ r.2.mem ((c.tc : Thread Cert.DRmsMixRefIdeal.nD Cert.DRmsMixRefIdeal.τ).loc Cert.DRmsMixRefIdeal.main_arg2) = m ((c.tc : Thread Cert.DRmsMixRefIdeal.nD Cert.DRmsMixRefIdeal.τ).loc Cert.DRmsMixRefIdeal.main_arg2)
      ∧ r.2.mem ((c.tc : Thread Cert.DRmsMixRefIdeal.nD Cert.DRmsMixRefIdeal.τ).loc Cert.DRmsMixRefIdeal.main_arg3) = m ((c.tc : Thread Cert.DRmsMixRefIdeal.nD Cert.DRmsMixRefIdeal.τ).loc Cert.DRmsMixRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11))
      ∧ r.2.sem = fun _ => 0)

def quiescent_AdamSmallTwo [hAdamSmallTwo : Cert.AdamSmallTwo.Facts] : Prop :=
  ∀ (m : (ℓ : Loc Cert.AdamSmallTwo.nD Cert.AdamSmallTwo.τ Cert.AdamSmallTwo.sig) → Buf (Elt Bits) ℓ) (g : Dev Cert.AdamSmallTwo.nD → PrngReg), Pre_AdamSmallTwo m →
    θ_run (Cert.AdamSmallTwo.defs (F := Bits)) (onTc (τ := Cert.AdamSmallTwo.τ) (Cert.AdamSmallTwo.main (F := Bits))) ⟨m, fun _ => 0, g⟩ (fun r => (∀ c : Dev Cert.AdamSmallTwo.nD,
      r.2.mem ((c.tc : Thread Cert.AdamSmallTwo.nD Cert.AdamSmallTwo.τ).loc Cert.AdamSmallTwo.main_arg0) = m ((c.tc : Thread Cert.AdamSmallTwo.nD Cert.AdamSmallTwo.τ).loc Cert.AdamSmallTwo.main_arg0)
      ∧ r.2.mem ((c.tc : Thread Cert.AdamSmallTwo.nD Cert.AdamSmallTwo.τ).loc Cert.AdamSmallTwo.main_arg1) = m ((c.tc : Thread Cert.AdamSmallTwo.nD Cert.AdamSmallTwo.τ).loc Cert.AdamSmallTwo.main_arg1)
      ∧ r.2.mem ((c.tc : Thread Cert.AdamSmallTwo.nD Cert.AdamSmallTwo.τ).loc Cert.AdamSmallTwo.main_arg2) = m ((c.tc : Thread Cert.AdamSmallTwo.nD Cert.AdamSmallTwo.τ).loc Cert.AdamSmallTwo.main_arg2)
      ∧ r.2.mem ((c.tc : Thread Cert.AdamSmallTwo.nD Cert.AdamSmallTwo.τ).loc Cert.AdamSmallTwo.main_arg3) = m ((c.tc : Thread Cert.AdamSmallTwo.nD Cert.AdamSmallTwo.τ).loc Cert.AdamSmallTwo.main_arg3)
      ∧ r.2.mem ((c.tc : Thread Cert.AdamSmallTwo.nD Cert.AdamSmallTwo.τ).loc Cert.AdamSmallTwo.main_arg4) = m ((c.tc : Thread Cert.AdamSmallTwo.nD Cert.AdamSmallTwo.τ).loc Cert.AdamSmallTwo.main_arg4)
      ∧ r.2.mem ((c.tc : Thread Cert.AdamSmallTwo.nD Cert.AdamSmallTwo.τ).loc Cert.AdamSmallTwo.main_arg5) = m ((c.tc : Thread Cert.AdamSmallTwo.nD Cert.AdamSmallTwo.τ).loc Cert.AdamSmallTwo.main_arg5)
      ∧ r.2.mem ((c.tc : Thread Cert.AdamSmallTwo.nD Cert.AdamSmallTwo.τ).loc Cert.AdamSmallTwo.main_arg6) = m ((c.tc : Thread Cert.AdamSmallTwo.nD Cert.AdamSmallTwo.τ).loc Cert.AdamSmallTwo.main_arg6)
      ∧ r.2.mem ((c.tc : Thread Cert.AdamSmallTwo.nD Cert.AdamSmallTwo.τ).loc Cert.AdamSmallTwo.main_arg7) = m ((c.tc : Thread Cert.AdamSmallTwo.nD Cert.AdamSmallTwo.τ).loc Cert.AdamSmallTwo.main_arg7)
      ∧ r.2.mem ((c.tc : Thread Cert.AdamSmallTwo.nD Cert.AdamSmallTwo.τ).loc Cert.AdamSmallTwo.main_arg8) = m ((c.tc : Thread Cert.AdamSmallTwo.nD Cert.AdamSmallTwo.τ).loc Cert.AdamSmallTwo.main_arg8)
      ∧ r.2.mem ((c.tc : Thread Cert.AdamSmallTwo.nD Cert.AdamSmallTwo.τ).loc Cert.AdamSmallTwo.main_arg9) = m ((c.tc : Thread Cert.AdamSmallTwo.nD Cert.AdamSmallTwo.τ).loc Cert.AdamSmallTwo.main_arg9)
      ∧ r.2.mem ((c.tc : Thread Cert.AdamSmallTwo.nD Cert.AdamSmallTwo.τ).loc Cert.AdamSmallTwo.main_arg10) = m ((c.tc : Thread Cert.AdamSmallTwo.nD Cert.AdamSmallTwo.τ).loc Cert.AdamSmallTwo.main_arg10)
      ∧ r.2.mem ((c.tc : Thread Cert.AdamSmallTwo.nD Cert.AdamSmallTwo.τ).loc Cert.AdamSmallTwo.main_arg11) = m ((c.tc : Thread Cert.AdamSmallTwo.nD Cert.AdamSmallTwo.τ).loc Cert.AdamSmallTwo.main_arg11))
      ∧ r.2.sem = fun _ => 0)

def quiescent_AdamSmallTwoIdeal [hAdamSmallTwoIdeal : Cert.AdamSmallTwoIdeal.Facts] : Prop :=
  ∀ (m : (ℓ : Loc Cert.AdamSmallTwoIdeal.nD Cert.AdamSmallTwoIdeal.τ Cert.AdamSmallTwoIdeal.sig) → Buf (Elt Ideal) ℓ) (g : Dev Cert.AdamSmallTwoIdeal.nD → PrngReg), Pre_AdamSmallTwoIdeal m →
    θ_run (Cert.AdamSmallTwoIdeal.defs (F := Ideal)) (onTc (τ := Cert.AdamSmallTwoIdeal.τ) (Cert.AdamSmallTwoIdeal.main (F := Ideal))) ⟨m, fun _ => 0, g⟩ (fun r => (∀ c : Dev Cert.AdamSmallTwoIdeal.nD,
      r.2.mem ((c.tc : Thread Cert.AdamSmallTwoIdeal.nD Cert.AdamSmallTwoIdeal.τ).loc Cert.AdamSmallTwoIdeal.main_arg0) = m ((c.tc : Thread Cert.AdamSmallTwoIdeal.nD Cert.AdamSmallTwoIdeal.τ).loc Cert.AdamSmallTwoIdeal.main_arg0)
      ∧ r.2.mem ((c.tc : Thread Cert.AdamSmallTwoIdeal.nD Cert.AdamSmallTwoIdeal.τ).loc Cert.AdamSmallTwoIdeal.main_arg1) = m ((c.tc : Thread Cert.AdamSmallTwoIdeal.nD Cert.AdamSmallTwoIdeal.τ).loc Cert.AdamSmallTwoIdeal.main_arg1)
      ∧ r.2.mem ((c.tc : Thread Cert.AdamSmallTwoIdeal.nD Cert.AdamSmallTwoIdeal.τ).loc Cert.AdamSmallTwoIdeal.main_arg2) = m ((c.tc : Thread Cert.AdamSmallTwoIdeal.nD Cert.AdamSmallTwoIdeal.τ).loc Cert.AdamSmallTwoIdeal.main_arg2)
      ∧ r.2.mem ((c.tc : Thread Cert.AdamSmallTwoIdeal.nD Cert.AdamSmallTwoIdeal.τ).loc Cert.AdamSmallTwoIdeal.main_arg3) = m ((c.tc : Thread Cert.AdamSmallTwoIdeal.nD Cert.AdamSmallTwoIdeal.τ).loc Cert.AdamSmallTwoIdeal.main_arg3)
      ∧ r.2.mem ((c.tc : Thread Cert.AdamSmallTwoIdeal.nD Cert.AdamSmallTwoIdeal.τ).loc Cert.AdamSmallTwoIdeal.main_arg4) = m ((c.tc : Thread Cert.AdamSmallTwoIdeal.nD Cert.AdamSmallTwoIdeal.τ).loc Cert.AdamSmallTwoIdeal.main_arg4)
      ∧ r.2.mem ((c.tc : Thread Cert.AdamSmallTwoIdeal.nD Cert.AdamSmallTwoIdeal.τ).loc Cert.AdamSmallTwoIdeal.main_arg5) = m ((c.tc : Thread Cert.AdamSmallTwoIdeal.nD Cert.AdamSmallTwoIdeal.τ).loc Cert.AdamSmallTwoIdeal.main_arg5)
      ∧ r.2.mem ((c.tc : Thread Cert.AdamSmallTwoIdeal.nD Cert.AdamSmallTwoIdeal.τ).loc Cert.AdamSmallTwoIdeal.main_arg6) = m ((c.tc : Thread Cert.AdamSmallTwoIdeal.nD Cert.AdamSmallTwoIdeal.τ).loc Cert.AdamSmallTwoIdeal.main_arg6)
      ∧ r.2.mem ((c.tc : Thread Cert.AdamSmallTwoIdeal.nD Cert.AdamSmallTwoIdeal.τ).loc Cert.AdamSmallTwoIdeal.main_arg7) = m ((c.tc : Thread Cert.AdamSmallTwoIdeal.nD Cert.AdamSmallTwoIdeal.τ).loc Cert.AdamSmallTwoIdeal.main_arg7)
      ∧ r.2.mem ((c.tc : Thread Cert.AdamSmallTwoIdeal.nD Cert.AdamSmallTwoIdeal.τ).loc Cert.AdamSmallTwoIdeal.main_arg8) = m ((c.tc : Thread Cert.AdamSmallTwoIdeal.nD Cert.AdamSmallTwoIdeal.τ).loc Cert.AdamSmallTwoIdeal.main_arg8)
      ∧ r.2.mem ((c.tc : Thread Cert.AdamSmallTwoIdeal.nD Cert.AdamSmallTwoIdeal.τ).loc Cert.AdamSmallTwoIdeal.main_arg9) = m ((c.tc : Thread Cert.AdamSmallTwoIdeal.nD Cert.AdamSmallTwoIdeal.τ).loc Cert.AdamSmallTwoIdeal.main_arg9)
      ∧ r.2.mem ((c.tc : Thread Cert.AdamSmallTwoIdeal.nD Cert.AdamSmallTwoIdeal.τ).loc Cert.AdamSmallTwoIdeal.main_arg10) = m ((c.tc : Thread Cert.AdamSmallTwoIdeal.nD Cert.AdamSmallTwoIdeal.τ).loc Cert.AdamSmallTwoIdeal.main_arg10)
      ∧ r.2.mem ((c.tc : Thread Cert.AdamSmallTwoIdeal.nD Cert.AdamSmallTwoIdeal.τ).loc Cert.AdamSmallTwoIdeal.main_arg11) = m ((c.tc : Thread Cert.AdamSmallTwoIdeal.nD Cert.AdamSmallTwoIdeal.τ).loc Cert.AdamSmallTwoIdeal.main_arg11))
      ∧ r.2.sem = fun _ => 0)

def quiescent_AdamSmallTwoRefIdeal [hAdamSmallTwoRefIdeal : Cert.AdamSmallTwoRefIdeal.Facts] : Prop :=
  ∀ (m : (ℓ : Loc Cert.AdamSmallTwoRefIdeal.nD Cert.AdamSmallTwoRefIdeal.τ Cert.AdamSmallTwoRefIdeal.sig) → Buf (Elt Ideal) ℓ) (g : Dev Cert.AdamSmallTwoRefIdeal.nD → PrngReg), Pre_AdamSmallTwoRefIdeal m →
    θ_run (Cert.AdamSmallTwoRefIdeal.defs (F := Ideal)) (onTc (τ := Cert.AdamSmallTwoRefIdeal.τ) (Cert.AdamSmallTwoRefIdeal.main (F := Ideal))) ⟨m, fun _ => 0, g⟩ (fun r => (∀ c : Dev Cert.AdamSmallTwoRefIdeal.nD,
      r.2.mem ((c.tc : Thread Cert.AdamSmallTwoRefIdeal.nD Cert.AdamSmallTwoRefIdeal.τ).loc Cert.AdamSmallTwoRefIdeal.main_arg0) = m ((c.tc : Thread Cert.AdamSmallTwoRefIdeal.nD Cert.AdamSmallTwoRefIdeal.τ).loc Cert.AdamSmallTwoRefIdeal.main_arg0)
      ∧ r.2.mem ((c.tc : Thread Cert.AdamSmallTwoRefIdeal.nD Cert.AdamSmallTwoRefIdeal.τ).loc Cert.AdamSmallTwoRefIdeal.main_arg1) = m ((c.tc : Thread Cert.AdamSmallTwoRefIdeal.nD Cert.AdamSmallTwoRefIdeal.τ).loc Cert.AdamSmallTwoRefIdeal.main_arg1)
      ∧ r.2.mem ((c.tc : Thread Cert.AdamSmallTwoRefIdeal.nD Cert.AdamSmallTwoRefIdeal.τ).loc Cert.AdamSmallTwoRefIdeal.main_arg2) = m ((c.tc : Thread Cert.AdamSmallTwoRefIdeal.nD Cert.AdamSmallTwoRefIdeal.τ).loc Cert.AdamSmallTwoRefIdeal.main_arg2)
      ∧ r.2.mem ((c.tc : Thread Cert.AdamSmallTwoRefIdeal.nD Cert.AdamSmallTwoRefIdeal.τ).loc Cert.AdamSmallTwoRefIdeal.main_arg3) = m ((c.tc : Thread Cert.AdamSmallTwoRefIdeal.nD Cert.AdamSmallTwoRefIdeal.τ).loc Cert.AdamSmallTwoRefIdeal.main_arg3)
      ∧ r.2.mem ((c.tc : Thread Cert.AdamSmallTwoRefIdeal.nD Cert.AdamSmallTwoRefIdeal.τ).loc Cert.AdamSmallTwoRefIdeal.main_arg4) = m ((c.tc : Thread Cert.AdamSmallTwoRefIdeal.nD Cert.AdamSmallTwoRefIdeal.τ).loc Cert.AdamSmallTwoRefIdeal.main_arg4)
      ∧ r.2.mem ((c.tc : Thread Cert.AdamSmallTwoRefIdeal.nD Cert.AdamSmallTwoRefIdeal.τ).loc Cert.AdamSmallTwoRefIdeal.main_arg5) = m ((c.tc : Thread Cert.AdamSmallTwoRefIdeal.nD Cert.AdamSmallTwoRefIdeal.τ).loc Cert.AdamSmallTwoRefIdeal.main_arg5)
      ∧ r.2.mem ((c.tc : Thread Cert.AdamSmallTwoRefIdeal.nD Cert.AdamSmallTwoRefIdeal.τ).loc Cert.AdamSmallTwoRefIdeal.main_arg6) = m ((c.tc : Thread Cert.AdamSmallTwoRefIdeal.nD Cert.AdamSmallTwoRefIdeal.τ).loc Cert.AdamSmallTwoRefIdeal.main_arg6)
      ∧ r.2.mem ((c.tc : Thread Cert.AdamSmallTwoRefIdeal.nD Cert.AdamSmallTwoRefIdeal.τ).loc Cert.AdamSmallTwoRefIdeal.main_arg7) = m ((c.tc : Thread Cert.AdamSmallTwoRefIdeal.nD Cert.AdamSmallTwoRefIdeal.τ).loc Cert.AdamSmallTwoRefIdeal.main_arg7)
      ∧ r.2.mem ((c.tc : Thread Cert.AdamSmallTwoRefIdeal.nD Cert.AdamSmallTwoRefIdeal.τ).loc Cert.AdamSmallTwoRefIdeal.main_arg8) = m ((c.tc : Thread Cert.AdamSmallTwoRefIdeal.nD Cert.AdamSmallTwoRefIdeal.τ).loc Cert.AdamSmallTwoRefIdeal.main_arg8)
      ∧ r.2.mem ((c.tc : Thread Cert.AdamSmallTwoRefIdeal.nD Cert.AdamSmallTwoRefIdeal.τ).loc Cert.AdamSmallTwoRefIdeal.main_arg9) = m ((c.tc : Thread Cert.AdamSmallTwoRefIdeal.nD Cert.AdamSmallTwoRefIdeal.τ).loc Cert.AdamSmallTwoRefIdeal.main_arg9)
      ∧ r.2.mem ((c.tc : Thread Cert.AdamSmallTwoRefIdeal.nD Cert.AdamSmallTwoRefIdeal.τ).loc Cert.AdamSmallTwoRefIdeal.main_arg10) = m ((c.tc : Thread Cert.AdamSmallTwoRefIdeal.nD Cert.AdamSmallTwoRefIdeal.τ).loc Cert.AdamSmallTwoRefIdeal.main_arg10)
      ∧ r.2.mem ((c.tc : Thread Cert.AdamSmallTwoRefIdeal.nD Cert.AdamSmallTwoRefIdeal.τ).loc Cert.AdamSmallTwoRefIdeal.main_arg11) = m ((c.tc : Thread Cert.AdamSmallTwoRefIdeal.nD Cert.AdamSmallTwoRefIdeal.τ).loc Cert.AdamSmallTwoRefIdeal.main_arg11))
      ∧ r.2.sem = fun _ => 0)

def quiescent_AdamSmallThree [hAdamSmallThree : Cert.AdamSmallThree.Facts] : Prop :=
  ∀ (m : (ℓ : Loc Cert.AdamSmallThree.nD Cert.AdamSmallThree.τ Cert.AdamSmallThree.sig) → Buf (Elt Bits) ℓ) (g : Dev Cert.AdamSmallThree.nD → PrngReg), Pre_AdamSmallThree m →
    θ_run (Cert.AdamSmallThree.defs (F := Bits)) (onTc (τ := Cert.AdamSmallThree.τ) (Cert.AdamSmallThree.main (F := Bits))) ⟨m, fun _ => 0, g⟩ (fun r => (∀ c : Dev Cert.AdamSmallThree.nD,
      r.2.mem ((c.tc : Thread Cert.AdamSmallThree.nD Cert.AdamSmallThree.τ).loc Cert.AdamSmallThree.main_arg0) = m ((c.tc : Thread Cert.AdamSmallThree.nD Cert.AdamSmallThree.τ).loc Cert.AdamSmallThree.main_arg0)
      ∧ r.2.mem ((c.tc : Thread Cert.AdamSmallThree.nD Cert.AdamSmallThree.τ).loc Cert.AdamSmallThree.main_arg1) = m ((c.tc : Thread Cert.AdamSmallThree.nD Cert.AdamSmallThree.τ).loc Cert.AdamSmallThree.main_arg1)
      ∧ r.2.mem ((c.tc : Thread Cert.AdamSmallThree.nD Cert.AdamSmallThree.τ).loc Cert.AdamSmallThree.main_arg2) = m ((c.tc : Thread Cert.AdamSmallThree.nD Cert.AdamSmallThree.τ).loc Cert.AdamSmallThree.main_arg2)
      ∧ r.2.mem ((c.tc : Thread Cert.AdamSmallThree.nD Cert.AdamSmallThree.τ).loc Cert.AdamSmallThree.main_arg3) = m ((c.tc : Thread Cert.AdamSmallThree.nD Cert.AdamSmallThree.τ).loc Cert.AdamSmallThree.main_arg3)
      ∧ r.2.mem ((c.tc : Thread Cert.AdamSmallThree.nD Cert.AdamSmallThree.τ).loc Cert.AdamSmallThree.main_arg4) = m ((c.tc : Thread Cert.AdamSmallThree.nD Cert.AdamSmallThree.τ).loc Cert.AdamSmallThree.main_arg4)
      ∧ r.2.mem ((c.tc : Thread Cert.AdamSmallThree.nD Cert.AdamSmallThree.τ).loc Cert.AdamSmallThree.main_arg5) = m ((c.tc : Thread Cert.AdamSmallThree.nD Cert.AdamSmallThree.τ).loc Cert.AdamSmallThree.main_arg5)
      ∧ r.2.mem ((c.tc : Thread Cert.AdamSmallThree.nD Cert.AdamSmallThree.τ).loc Cert.AdamSmallThree.main_arg6) = m ((c.tc : Thread Cert.AdamSmallThree.nD Cert.AdamSmallThree.τ).loc Cert.AdamSmallThree.main_arg6)
      ∧ r.2.mem ((c.tc : Thread Cert.AdamSmallThree.nD Cert.AdamSmallThree.τ).loc Cert.AdamSmallThree.main_arg7) = m ((c.tc : Thread Cert.AdamSmallThree.nD Cert.AdamSmallThree.τ).loc Cert.AdamSmallThree.main_arg7))
      ∧ r.2.sem = fun _ => 0)

def quiescent_AdamSmallThreeIdeal [hAdamSmallThreeIdeal : Cert.AdamSmallThreeIdeal.Facts] : Prop :=
  ∀ (m : (ℓ : Loc Cert.AdamSmallThreeIdeal.nD Cert.AdamSmallThreeIdeal.τ Cert.AdamSmallThreeIdeal.sig) → Buf (Elt Ideal) ℓ) (g : Dev Cert.AdamSmallThreeIdeal.nD → PrngReg), Pre_AdamSmallThreeIdeal m →
    θ_run (Cert.AdamSmallThreeIdeal.defs (F := Ideal)) (onTc (τ := Cert.AdamSmallThreeIdeal.τ) (Cert.AdamSmallThreeIdeal.main (F := Ideal))) ⟨m, fun _ => 0, g⟩ (fun r => (∀ c : Dev Cert.AdamSmallThreeIdeal.nD,
      r.2.mem ((c.tc : Thread Cert.AdamSmallThreeIdeal.nD Cert.AdamSmallThreeIdeal.τ).loc Cert.AdamSmallThreeIdeal.main_arg0) = m ((c.tc : Thread Cert.AdamSmallThreeIdeal.nD Cert.AdamSmallThreeIdeal.τ).loc Cert.AdamSmallThreeIdeal.main_arg0)
      ∧ r.2.mem ((c.tc : Thread Cert.AdamSmallThreeIdeal.nD Cert.AdamSmallThreeIdeal.τ).loc Cert.AdamSmallThreeIdeal.main_arg1) = m ((c.tc : Thread Cert.AdamSmallThreeIdeal.nD Cert.AdamSmallThreeIdeal.τ).loc Cert.AdamSmallThreeIdeal.main_arg1)
      ∧ r.2.mem ((c.tc : Thread Cert.AdamSmallThreeIdeal.nD Cert.AdamSmallThreeIdeal.τ).loc Cert.AdamSmallThreeIdeal.main_arg2) = m ((c.tc : Thread Cert.AdamSmallThreeIdeal.nD Cert.AdamSmallThreeIdeal.τ).loc Cert.AdamSmallThreeIdeal.main_arg2)
      ∧ r.2.mem ((c.tc : Thread Cert.AdamSmallThreeIdeal.nD Cert.AdamSmallThreeIdeal.τ).loc Cert.AdamSmallThreeIdeal.main_arg3) = m ((c.tc : Thread Cert.AdamSmallThreeIdeal.nD Cert.AdamSmallThreeIdeal.τ).loc Cert.AdamSmallThreeIdeal.main_arg3)
      ∧ r.2.mem ((c.tc : Thread Cert.AdamSmallThreeIdeal.nD Cert.AdamSmallThreeIdeal.τ).loc Cert.AdamSmallThreeIdeal.main_arg4) = m ((c.tc : Thread Cert.AdamSmallThreeIdeal.nD Cert.AdamSmallThreeIdeal.τ).loc Cert.AdamSmallThreeIdeal.main_arg4)
      ∧ r.2.mem ((c.tc : Thread Cert.AdamSmallThreeIdeal.nD Cert.AdamSmallThreeIdeal.τ).loc Cert.AdamSmallThreeIdeal.main_arg5) = m ((c.tc : Thread Cert.AdamSmallThreeIdeal.nD Cert.AdamSmallThreeIdeal.τ).loc Cert.AdamSmallThreeIdeal.main_arg5)
      ∧ r.2.mem ((c.tc : Thread Cert.AdamSmallThreeIdeal.nD Cert.AdamSmallThreeIdeal.τ).loc Cert.AdamSmallThreeIdeal.main_arg6) = m ((c.tc : Thread Cert.AdamSmallThreeIdeal.nD Cert.AdamSmallThreeIdeal.τ).loc Cert.AdamSmallThreeIdeal.main_arg6)
      ∧ r.2.mem ((c.tc : Thread Cert.AdamSmallThreeIdeal.nD Cert.AdamSmallThreeIdeal.τ).loc Cert.AdamSmallThreeIdeal.main_arg7) = m ((c.tc : Thread Cert.AdamSmallThreeIdeal.nD Cert.AdamSmallThreeIdeal.τ).loc Cert.AdamSmallThreeIdeal.main_arg7))
      ∧ r.2.sem = fun _ => 0)

def quiescent_AdamSmallThreeRefIdeal [hAdamSmallThreeRefIdeal : Cert.AdamSmallThreeRefIdeal.Facts] : Prop :=
  ∀ (m : (ℓ : Loc Cert.AdamSmallThreeRefIdeal.nD Cert.AdamSmallThreeRefIdeal.τ Cert.AdamSmallThreeRefIdeal.sig) → Buf (Elt Ideal) ℓ) (g : Dev Cert.AdamSmallThreeRefIdeal.nD → PrngReg), Pre_AdamSmallThreeRefIdeal m →
    θ_run (Cert.AdamSmallThreeRefIdeal.defs (F := Ideal)) (onTc (τ := Cert.AdamSmallThreeRefIdeal.τ) (Cert.AdamSmallThreeRefIdeal.main (F := Ideal))) ⟨m, fun _ => 0, g⟩ (fun r => (∀ c : Dev Cert.AdamSmallThreeRefIdeal.nD,
      r.2.mem ((c.tc : Thread Cert.AdamSmallThreeRefIdeal.nD Cert.AdamSmallThreeRefIdeal.τ).loc Cert.AdamSmallThreeRefIdeal.main_arg0) = m ((c.tc : Thread Cert.AdamSmallThreeRefIdeal.nD Cert.AdamSmallThreeRefIdeal.τ).loc Cert.AdamSmallThreeRefIdeal.main_arg0)
      ∧ r.2.mem ((c.tc : Thread Cert.AdamSmallThreeRefIdeal.nD Cert.AdamSmallThreeRefIdeal.τ).loc Cert.AdamSmallThreeRefIdeal.main_arg1) = m ((c.tc : Thread Cert.AdamSmallThreeRefIdeal.nD Cert.AdamSmallThreeRefIdeal.τ).loc Cert.AdamSmallThreeRefIdeal.main_arg1)
      ∧ r.2.mem ((c.tc : Thread Cert.AdamSmallThreeRefIdeal.nD Cert.AdamSmallThreeRefIdeal.τ).loc Cert.AdamSmallThreeRefIdeal.main_arg2) = m ((c.tc : Thread Cert.AdamSmallThreeRefIdeal.nD Cert.AdamSmallThreeRefIdeal.τ).loc Cert.AdamSmallThreeRefIdeal.main_arg2)
      ∧ r.2.mem ((c.tc : Thread Cert.AdamSmallThreeRefIdeal.nD Cert.AdamSmallThreeRefIdeal.τ).loc Cert.AdamSmallThreeRefIdeal.main_arg3) = m ((c.tc : Thread Cert.AdamSmallThreeRefIdeal.nD Cert.AdamSmallThreeRefIdeal.τ).loc Cert.AdamSmallThreeRefIdeal.main_arg3)
      ∧ r.2.mem ((c.tc : Thread Cert.AdamSmallThreeRefIdeal.nD Cert.AdamSmallThreeRefIdeal.τ).loc Cert.AdamSmallThreeRefIdeal.main_arg4) = m ((c.tc : Thread Cert.AdamSmallThreeRefIdeal.nD Cert.AdamSmallThreeRefIdeal.τ).loc Cert.AdamSmallThreeRefIdeal.main_arg4)
      ∧ r.2.mem ((c.tc : Thread Cert.AdamSmallThreeRefIdeal.nD Cert.AdamSmallThreeRefIdeal.τ).loc Cert.AdamSmallThreeRefIdeal.main_arg5) = m ((c.tc : Thread Cert.AdamSmallThreeRefIdeal.nD Cert.AdamSmallThreeRefIdeal.τ).loc Cert.AdamSmallThreeRefIdeal.main_arg5)
      ∧ r.2.mem ((c.tc : Thread Cert.AdamSmallThreeRefIdeal.nD Cert.AdamSmallThreeRefIdeal.τ).loc Cert.AdamSmallThreeRefIdeal.main_arg6) = m ((c.tc : Thread Cert.AdamSmallThreeRefIdeal.nD Cert.AdamSmallThreeRefIdeal.τ).loc Cert.AdamSmallThreeRefIdeal.main_arg6)
      ∧ r.2.mem ((c.tc : Thread Cert.AdamSmallThreeRefIdeal.nD Cert.AdamSmallThreeRefIdeal.τ).loc Cert.AdamSmallThreeRefIdeal.main_arg7) = m ((c.tc : Thread Cert.AdamSmallThreeRefIdeal.nD Cert.AdamSmallThreeRefIdeal.τ).loc Cert.AdamSmallThreeRefIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6))
      ∧ r.2.sem = fun _ => 0)

def quiescent_AdamFf [hAdamFf : Cert.AdamFf.Facts] : Prop :=
  ∀ (m : (ℓ : Loc Cert.AdamFf.nD Cert.AdamFf.τ Cert.AdamFf.sig) → Buf (Elt Bits) ℓ) (g : Dev Cert.AdamFf.nD → PrngReg), Pre_AdamFf m →
    θ_run (Cert.AdamFf.defs (F := Bits)) (onTc (τ := Cert.AdamFf.τ) (Cert.AdamFf.main (F := Bits))) ⟨m, fun _ => 0, g⟩ (fun r => (∀ c : Dev Cert.AdamFf.nD,
      r.2.mem ((c.tc : Thread Cert.AdamFf.nD Cert.AdamFf.τ).loc Cert.AdamFf.main_arg0) = m ((c.tc : Thread Cert.AdamFf.nD Cert.AdamFf.τ).loc Cert.AdamFf.main_arg0)
      ∧ r.2.mem ((c.tc : Thread Cert.AdamFf.nD Cert.AdamFf.τ).loc Cert.AdamFf.main_arg1) = m ((c.tc : Thread Cert.AdamFf.nD Cert.AdamFf.τ).loc Cert.AdamFf.main_arg1)
      ∧ r.2.mem ((c.tc : Thread Cert.AdamFf.nD Cert.AdamFf.τ).loc Cert.AdamFf.main_arg2) = m ((c.tc : Thread Cert.AdamFf.nD Cert.AdamFf.τ).loc Cert.AdamFf.main_arg2)
      ∧ r.2.mem ((c.tc : Thread Cert.AdamFf.nD Cert.AdamFf.τ).loc Cert.AdamFf.main_arg3) = m ((c.tc : Thread Cert.AdamFf.nD Cert.AdamFf.τ).loc Cert.AdamFf.main_arg3)
      ∧ r.2.mem ((c.tc : Thread Cert.AdamFf.nD Cert.AdamFf.τ).loc Cert.AdamFf.main_arg4) = m ((c.tc : Thread Cert.AdamFf.nD Cert.AdamFf.τ).loc Cert.AdamFf.main_arg4)
      ∧ r.2.mem ((c.tc : Thread Cert.AdamFf.nD Cert.AdamFf.τ).loc Cert.AdamFf.main_arg5) = m ((c.tc : Thread Cert.AdamFf.nD Cert.AdamFf.τ).loc Cert.AdamFf.main_arg5)
      ∧ r.2.mem ((c.tc : Thread Cert.AdamFf.nD Cert.AdamFf.τ).loc Cert.AdamFf.main_arg6) = m ((c.tc : Thread Cert.AdamFf.nD Cert.AdamFf.τ).loc Cert.AdamFf.main_arg6))
      ∧ r.2.sem = fun _ => 0)

def quiescent_AdamFfIdeal [hAdamFfIdeal : Cert.AdamFfIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg), Pre_AdamFfIdeal m →
    θ_run (Cert.AdamFfIdeal.defs (F := Ideal)) (onTc (τ := Cert.AdamFfIdeal.τ) (Cert.AdamFfIdeal.main (F := Ideal))) ⟨m, fun _ => 0, g⟩ (fun r => (∀ c : Dev Cert.AdamFfIdeal.nD,
      r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
      ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
      ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
      ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
      ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4)
      ∧ r.2.mem ((c.tc : Thread Cert.AdamFfIdeal.nD Cert.AdamFfIdeal.τ).loc Cert.AdamFfIdeal.main_arg5) = m ((c.tc : Thread Cert.AdamFfIdeal.nD Cert.AdamFfIdeal.τ).loc Cert.AdamFfIdeal.main_arg5)
      ∧ r.2.mem ((c.tc : Thread Cert.AdamFfIdeal.nD Cert.AdamFfIdeal.τ).loc Cert.AdamFfIdeal.main_arg6) = m ((c.tc : Thread Cert.AdamFfIdeal.nD Cert.AdamFfIdeal.τ).loc Cert.AdamFfIdeal.main_arg6))
      ∧ r.2.sem = fun _ => 0)

def quiescent_AdamFfRefIdeal [hAdamFfRefIdeal : Cert.AdamFfRefIdeal.Facts] : Prop :=
  ∀ (m : (ℓ : Loc Cert.AdamFfRefIdeal.nD Cert.AdamFfRefIdeal.τ Cert.AdamFfRefIdeal.sig) → Buf (Elt Ideal) ℓ) (g : Dev Cert.AdamFfRefIdeal.nD → PrngReg), Pre_AdamFfRefIdeal m →
    θ_run (Cert.AdamFfRefIdeal.defs (F := Ideal)) (onTc (τ := Cert.AdamFfRefIdeal.τ) (Cert.AdamFfRefIdeal.main (F := Ideal))) ⟨m, fun _ => 0, g⟩ (fun r => (∀ c : Dev Cert.AdamFfRefIdeal.nD,
      r.2.mem ((c.tc : Thread Cert.AdamFfRefIdeal.nD Cert.AdamFfRefIdeal.τ).loc Cert.AdamFfRefIdeal.main_arg0) = m ((c.tc : Thread Cert.AdamFfRefIdeal.nD Cert.AdamFfRefIdeal.τ).loc Cert.AdamFfRefIdeal.main_arg0)
      ∧ r.2.mem ((c.tc : Thread Cert.AdamFfRefIdeal.nD Cert.AdamFfRefIdeal.τ).loc Cert.AdamFfRefIdeal.main_arg1) = m ((c.tc : Thread Cert.AdamFfRefIdeal.nD Cert.AdamFfRefIdeal.τ).loc Cert.AdamFfRefIdeal.main_arg1)
      ∧ r.2.mem ((c.tc : Thread Cert.AdamFfRefIdeal.nD Cert.AdamFfRefIdeal.τ).loc Cert.AdamFfRefIdeal.main_arg2) = m ((c.tc : Thread Cert.AdamFfRefIdeal.nD Cert.AdamFfRefIdeal.τ).loc Cert.AdamFfRefIdeal.main_arg2)
      ∧ r.2.mem ((c.tc : Thread Cert.AdamFfRefIdeal.nD Cert.AdamFfRefIdeal.τ).loc Cert.AdamFfRefIdeal.main_arg3) = m ((c.tc : Thread Cert.AdamFfRefIdeal.nD Cert.AdamFfRefIdeal.τ).loc Cert.AdamFfRefIdeal.main_arg3)
      ∧ r.2.mem ((c.tc : Thread Cert.AdamFfRefIdeal.nD Cert.AdamFfRefIdeal.τ).loc Cert.AdamFfRefIdeal.main_arg4) = m ((c.tc : Thread Cert.AdamFfRefIdeal.nD Cert.AdamFfRefIdeal.τ).loc Cert.AdamFfRefIdeal.main_arg4)
      ∧ r.2.mem ((c.tc : Thread Cert.AdamFfRefIdeal.nD Cert.AdamFfRefIdeal.τ).loc Cert.AdamFfRefIdeal.main_arg5) = m ((c.tc : Thread Cert.AdamFfRefIdeal.nD Cert.AdamFfRefIdeal.τ).loc Cert.AdamFfRefIdeal.main_arg5)
      ∧ r.2.mem ((c.tc : Thread Cert.AdamFfRefIdeal.nD Cert.AdamFfRefIdeal.τ).loc Cert.AdamFfRefIdeal.main_arg6) = m ((c.tc : Thread Cert.AdamFfRefIdeal.nD Cert.AdamFfRefIdeal.τ).loc Cert.AdamFfRefIdeal.main_arg6))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3)
      ∧ r.2.mem ((c.tc : Thread Cert.AdamO.nD Cert.AdamO.τ).loc Cert.AdamO.main_arg4) = m ((c.tc : Thread Cert.AdamO.nD Cert.AdamO.τ).loc Cert.AdamO.main_arg4)
      ∧ r.2.mem ((c.tc : Thread Cert.AdamO.nD Cert.AdamO.τ).loc Cert.AdamO.main_arg5) = m ((c.tc : Thread Cert.AdamO.nD Cert.AdamO.τ).loc Cert.AdamO.main_arg5)
      ∧ r.2.mem ((c.tc : Thread Cert.AdamO.nD Cert.AdamO.τ).loc Cert.AdamO.main_arg6) = m ((c.tc : Thread Cert.AdamO.nD Cert.AdamO.τ).loc Cert.AdamO.main_arg6))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
      ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
      ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
      ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3)
      ∧ r.2.mem ((c.tc : Thread Cert.AdamORefIdeal.nD Cert.AdamORefIdeal.τ).loc Cert.AdamORefIdeal.main_arg4) = m ((c.tc : Thread Cert.AdamORefIdeal.nD Cert.AdamORefIdeal.τ).loc Cert.AdamORefIdeal.main_arg4)
      ∧ r.2.mem ((c.tc : Thread Cert.AdamORefIdeal.nD Cert.AdamORefIdeal.τ).loc Cert.AdamORefIdeal.main_arg5) = m ((c.tc : Thread Cert.AdamORefIdeal.nD Cert.AdamORefIdeal.τ).loc Cert.AdamORefIdeal.main_arg5)
      ∧ r.2.mem ((c.tc : Thread Cert.AdamORefIdeal.nD Cert.AdamORefIdeal.τ).loc Cert.AdamORefIdeal.main_arg6) = m ((c.tc : Thread Cert.AdamORefIdeal.nD Cert.AdamORefIdeal.τ).loc Cert.AdamORefIdeal.main_arg6))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5)
      ∧ r.2.mem ((c.tc : Thread Cert.AdamUpRefIdeal.nD Cert.AdamUpRefIdeal.τ).loc Cert.AdamUpRefIdeal.main_arg6) = m ((c.tc : Thread Cert.AdamUpRefIdeal.nD Cert.AdamUpRefIdeal.τ).loc Cert.AdamUpRefIdeal.main_arg6))
      ∧ r.2.sem = fun _ => 0)

def quiescent_AdamAttn [hAdamAttn : Cert.AdamAttn.Facts] : Prop :=
  ∀ (m : (ℓ : Loc Cert.AdamAttn.nD Cert.AdamAttn.τ Cert.AdamAttn.sig) → Buf (Elt Bits) ℓ) (g : Dev Cert.AdamAttn.nD → PrngReg), Pre_AdamAttn m →
    θ_run (Cert.AdamAttn.defs (F := Bits)) (onTc (τ := Cert.AdamAttn.τ) (Cert.AdamAttn.main (F := Bits))) ⟨m, fun _ => 0, g⟩ (fun r => (∀ c : Dev Cert.AdamAttn.nD,
      r.2.mem ((c.tc : Thread Cert.AdamAttn.nD Cert.AdamAttn.τ).loc Cert.AdamAttn.main_arg0) = m ((c.tc : Thread Cert.AdamAttn.nD Cert.AdamAttn.τ).loc Cert.AdamAttn.main_arg0)
      ∧ r.2.mem ((c.tc : Thread Cert.AdamAttn.nD Cert.AdamAttn.τ).loc Cert.AdamAttn.main_arg1) = m ((c.tc : Thread Cert.AdamAttn.nD Cert.AdamAttn.τ).loc Cert.AdamAttn.main_arg1)
      ∧ r.2.mem ((c.tc : Thread Cert.AdamAttn.nD Cert.AdamAttn.τ).loc Cert.AdamAttn.main_arg2) = m ((c.tc : Thread Cert.AdamAttn.nD Cert.AdamAttn.τ).loc Cert.AdamAttn.main_arg2)
      ∧ r.2.mem ((c.tc : Thread Cert.AdamAttn.nD Cert.AdamAttn.τ).loc Cert.AdamAttn.main_arg3) = m ((c.tc : Thread Cert.AdamAttn.nD Cert.AdamAttn.τ).loc Cert.AdamAttn.main_arg3)
      ∧ r.2.mem ((c.tc : Thread Cert.AdamAttn.nD Cert.AdamAttn.τ).loc Cert.AdamAttn.main_arg4) = m ((c.tc : Thread Cert.AdamAttn.nD Cert.AdamAttn.τ).loc Cert.AdamAttn.main_arg4)
      ∧ r.2.mem ((c.tc : Thread Cert.AdamAttn.nD Cert.AdamAttn.τ).loc Cert.AdamAttn.main_arg5) = m ((c.tc : Thread Cert.AdamAttn.nD Cert.AdamAttn.τ).loc Cert.AdamAttn.main_arg5)
      ∧ r.2.mem ((c.tc : Thread Cert.AdamAttn.nD Cert.AdamAttn.τ).loc Cert.AdamAttn.main_arg6) = m ((c.tc : Thread Cert.AdamAttn.nD Cert.AdamAttn.τ).loc Cert.AdamAttn.main_arg6))
      ∧ r.2.sem = fun _ => 0)

def quiescent_AdamAttnIdeal [hAdamAttnIdeal : Cert.AdamAttnIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg), Pre_AdamAttnIdeal m →
    θ_run (Cert.AdamAttnIdeal.defs (F := Ideal)) (onTc (τ := Cert.AdamAttnIdeal.τ) (Cert.AdamAttnIdeal.main (F := Ideal))) ⟨m, fun _ => 0, g⟩ (fun r => (∀ c : Dev Cert.AdamAttnIdeal.nD,
      r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
      ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
      ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
      ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3)
      ∧ r.2.mem ((c.tc : Thread Cert.AdamAttnIdeal.nD Cert.AdamAttnIdeal.τ).loc Cert.AdamAttnIdeal.main_arg4) = m ((c.tc : Thread Cert.AdamAttnIdeal.nD Cert.AdamAttnIdeal.τ).loc Cert.AdamAttnIdeal.main_arg4)
      ∧ r.2.mem ((c.tc : Thread Cert.AdamAttnIdeal.nD Cert.AdamAttnIdeal.τ).loc Cert.AdamAttnIdeal.main_arg5) = m ((c.tc : Thread Cert.AdamAttnIdeal.nD Cert.AdamAttnIdeal.τ).loc Cert.AdamAttnIdeal.main_arg5)
      ∧ r.2.mem ((c.tc : Thread Cert.AdamAttnIdeal.nD Cert.AdamAttnIdeal.τ).loc Cert.AdamAttnIdeal.main_arg6) = m ((c.tc : Thread Cert.AdamAttnIdeal.nD Cert.AdamAttnIdeal.τ).loc Cert.AdamAttnIdeal.main_arg6))
      ∧ r.2.sem = fun _ => 0)

def quiescent_AdamAttnRefIdeal [hAdamAttnRefIdeal : Cert.AdamAttnRefIdeal.Facts] : Prop :=
  ∀ (m : (ℓ : Loc Cert.AdamAttnRefIdeal.nD Cert.AdamAttnRefIdeal.τ Cert.AdamAttnRefIdeal.sig) → Buf (Elt Ideal) ℓ) (g : Dev Cert.AdamAttnRefIdeal.nD → PrngReg), Pre_AdamAttnRefIdeal m →
    θ_run (Cert.AdamAttnRefIdeal.defs (F := Ideal)) (onTc (τ := Cert.AdamAttnRefIdeal.τ) (Cert.AdamAttnRefIdeal.main (F := Ideal))) ⟨m, fun _ => 0, g⟩ (fun r => (∀ c : Dev Cert.AdamAttnRefIdeal.nD,
      r.2.mem ((c.tc : Thread Cert.AdamAttnRefIdeal.nD Cert.AdamAttnRefIdeal.τ).loc Cert.AdamAttnRefIdeal.main_arg0) = m ((c.tc : Thread Cert.AdamAttnRefIdeal.nD Cert.AdamAttnRefIdeal.τ).loc Cert.AdamAttnRefIdeal.main_arg0)
      ∧ r.2.mem ((c.tc : Thread Cert.AdamAttnRefIdeal.nD Cert.AdamAttnRefIdeal.τ).loc Cert.AdamAttnRefIdeal.main_arg1) = m ((c.tc : Thread Cert.AdamAttnRefIdeal.nD Cert.AdamAttnRefIdeal.τ).loc Cert.AdamAttnRefIdeal.main_arg1)
      ∧ r.2.mem ((c.tc : Thread Cert.AdamAttnRefIdeal.nD Cert.AdamAttnRefIdeal.τ).loc Cert.AdamAttnRefIdeal.main_arg2) = m ((c.tc : Thread Cert.AdamAttnRefIdeal.nD Cert.AdamAttnRefIdeal.τ).loc Cert.AdamAttnRefIdeal.main_arg2)
      ∧ r.2.mem ((c.tc : Thread Cert.AdamAttnRefIdeal.nD Cert.AdamAttnRefIdeal.τ).loc Cert.AdamAttnRefIdeal.main_arg3) = m ((c.tc : Thread Cert.AdamAttnRefIdeal.nD Cert.AdamAttnRefIdeal.τ).loc Cert.AdamAttnRefIdeal.main_arg3)
      ∧ r.2.mem ((c.tc : Thread Cert.AdamAttnRefIdeal.nD Cert.AdamAttnRefIdeal.τ).loc Cert.AdamAttnRefIdeal.main_arg4) = m ((c.tc : Thread Cert.AdamAttnRefIdeal.nD Cert.AdamAttnRefIdeal.τ).loc Cert.AdamAttnRefIdeal.main_arg4)
      ∧ r.2.mem ((c.tc : Thread Cert.AdamAttnRefIdeal.nD Cert.AdamAttnRefIdeal.τ).loc Cert.AdamAttnRefIdeal.main_arg5) = m ((c.tc : Thread Cert.AdamAttnRefIdeal.nD Cert.AdamAttnRefIdeal.τ).loc Cert.AdamAttnRefIdeal.main_arg5)
      ∧ r.2.mem ((c.tc : Thread Cert.AdamAttnRefIdeal.nD Cert.AdamAttnRefIdeal.τ).loc Cert.AdamAttnRefIdeal.main_arg6) = m ((c.tc : Thread Cert.AdamAttnRefIdeal.nD Cert.AdamAttnRefIdeal.τ).loc Cert.AdamAttnRefIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_v226) = v1 c
          ∧ r.2.mem ((c.tc : Thread Cert.ReferenceIdeal.nD Cert.ReferenceIdeal.τ).loc Cert.ReferenceIdeal.main_v227) = v2 c
          ∧ r.2.mem ((c.tc : Thread Cert.ReferenceIdeal.nD Cert.ReferenceIdeal.τ).loc Cert.ReferenceIdeal.main_v228) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DInAct_DInActIdeal : Prop :=
  True

def algebraic_DInActIdeal_DInActRefIdeal [hDInActIdeal : Cert.DInActIdeal.Facts] [hDInActRefIdeal : Cert.DInActRefIdeal.Facts] : Prop :=
  ∀ (m : (ℓ : Loc Cert.DInActIdeal.nD Cert.DInActIdeal.τ Cert.DInActIdeal.sig) → Buf (Elt Ideal) ℓ) (g : Dev Cert.DInActIdeal.nD → PrngReg)
    (m' : (ℓ : Loc Cert.DInActRefIdeal.nD Cert.DInActRefIdeal.τ Cert.DInActRefIdeal.sig) → Buf (Elt Ideal) ℓ) (g' : Dev Cert.DInActRefIdeal.nD → PrngReg), Pre_DInActIdeal m →
    (∀ c : Dev Cert.DInActIdeal.nD,
      m' ((c.tc : Thread Cert.DInActRefIdeal.nD Cert.DInActRefIdeal.τ).loc Cert.DInActRefIdeal.main_arg0) = m ((c.tc : Thread Cert.DInActIdeal.nD Cert.DInActIdeal.τ).loc Cert.DInActIdeal.main_arg0)
      ∧ m' ((c.tc : Thread Cert.DInActRefIdeal.nD Cert.DInActRefIdeal.τ).loc Cert.DInActRefIdeal.main_arg1) = m ((c.tc : Thread Cert.DInActIdeal.nD Cert.DInActIdeal.τ).loc Cert.DInActIdeal.main_arg1)) →
    ∃ (v0 : (c : Dev Cert.DInActIdeal.nD) → Buf (Elt Ideal) ((c.tc : Thread Cert.DInActIdeal.nD Cert.DInActIdeal.τ).loc Cert.DInActIdeal.main_v0)),
      θ_run (Cert.DInActIdeal.defs (F := Ideal)) (onTc (τ := Cert.DInActIdeal.τ) (Cert.DInActIdeal.main (F := Ideal))) ⟨m, fun _ => 0, g⟩ (fun r => ∀ c : Dev Cert.DInActIdeal.nD,
          r.2.mem ((c.tc : Thread Cert.DInActIdeal.nD Cert.DInActIdeal.τ).loc Cert.DInActIdeal.main_v0) = v0 c
          ∧ r.2.mem ((c.tc : Thread Cert.DInActIdeal.nD Cert.DInActIdeal.τ).loc Cert.DInActIdeal.main_arg0) = m ((c.tc : Thread Cert.DInActIdeal.nD Cert.DInActIdeal.τ).loc Cert.DInActIdeal.main_arg0)
          ∧ r.2.mem ((c.tc : Thread Cert.DInActIdeal.nD Cert.DInActIdeal.τ).loc Cert.DInActIdeal.main_arg1) = m ((c.tc : Thread Cert.DInActIdeal.nD Cert.DInActIdeal.τ).loc Cert.DInActIdeal.main_arg1))
      ∧ θ_run (Cert.DInActRefIdeal.defs (F := Ideal)) (onTc (τ := Cert.DInActRefIdeal.τ) (Cert.DInActRefIdeal.main (F := Ideal))) ⟨m', fun _ => 0, g'⟩ (fun r => ∀ c : Dev Cert.DInActRefIdeal.nD,
          r.2.mem ((c.tc : Thread Cert.DInActRefIdeal.nD Cert.DInActRefIdeal.τ).loc Cert.DInActRefIdeal.main_v5) = v0 c
          ∧ r.2.mem ((c.tc : Thread Cert.DInActRefIdeal.nD Cert.DInActRefIdeal.τ).loc Cert.DInActRefIdeal.main_arg0) = m' ((c.tc : Thread Cert.DInActRefIdeal.nD Cert.DInActRefIdeal.τ).loc Cert.DInActRefIdeal.main_arg0)
          ∧ r.2.mem ((c.tc : Thread Cert.DInActRefIdeal.nD Cert.DInActRefIdeal.τ).loc Cert.DInActRefIdeal.main_arg1) = m' ((c.tc : Thread Cert.DInActRefIdeal.nD Cert.DInActRefIdeal.τ).loc Cert.DInActRefIdeal.main_arg1))

def preserves_DInW_DInWIdeal : Prop :=
  True

def algebraic_DInWIdeal_DInWRefIdeal [hDInWIdeal : Cert.DInWIdeal.Facts] [hDInWRefIdeal : Cert.DInWRefIdeal.Facts] : Prop :=
  ∀ (m : (ℓ : Loc Cert.DInWIdeal.nD Cert.DInWIdeal.τ Cert.DInWIdeal.sig) → Buf (Elt Ideal) ℓ) (g : Dev Cert.DInWIdeal.nD → PrngReg)
    (m' : (ℓ : Loc Cert.DInWRefIdeal.nD Cert.DInWRefIdeal.τ Cert.DInWRefIdeal.sig) → Buf (Elt Ideal) ℓ) (g' : Dev Cert.DInWRefIdeal.nD → PrngReg), Pre_DInWIdeal m →
    (∀ c : Dev Cert.DInWIdeal.nD,
      m' ((c.tc : Thread Cert.DInWRefIdeal.nD Cert.DInWRefIdeal.τ).loc Cert.DInWRefIdeal.main_arg0) = m ((c.tc : Thread Cert.DInWIdeal.nD Cert.DInWIdeal.τ).loc Cert.DInWIdeal.main_arg0)
      ∧ m' ((c.tc : Thread Cert.DInWRefIdeal.nD Cert.DInWRefIdeal.τ).loc Cert.DInWRefIdeal.main_arg1) = m ((c.tc : Thread Cert.DInWIdeal.nD Cert.DInWIdeal.τ).loc Cert.DInWIdeal.main_arg1)) →
    ∃ (v0 : (c : Dev Cert.DInWIdeal.nD) → Buf (Elt Ideal) ((c.tc : Thread Cert.DInWIdeal.nD Cert.DInWIdeal.τ).loc Cert.DInWIdeal.main_v0)),
      θ_run (Cert.DInWIdeal.defs (F := Ideal)) (onTc (τ := Cert.DInWIdeal.τ) (Cert.DInWIdeal.main (F := Ideal))) ⟨m, fun _ => 0, g⟩ (fun r => ∀ c : Dev Cert.DInWIdeal.nD,
          r.2.mem ((c.tc : Thread Cert.DInWIdeal.nD Cert.DInWIdeal.τ).loc Cert.DInWIdeal.main_v0) = v0 c
          ∧ r.2.mem ((c.tc : Thread Cert.DInWIdeal.nD Cert.DInWIdeal.τ).loc Cert.DInWIdeal.main_arg0) = m ((c.tc : Thread Cert.DInWIdeal.nD Cert.DInWIdeal.τ).loc Cert.DInWIdeal.main_arg0)
          ∧ r.2.mem ((c.tc : Thread Cert.DInWIdeal.nD Cert.DInWIdeal.τ).loc Cert.DInWIdeal.main_arg1) = m ((c.tc : Thread Cert.DInWIdeal.nD Cert.DInWIdeal.τ).loc Cert.DInWIdeal.main_arg1))
      ∧ θ_run (Cert.DInWRefIdeal.defs (F := Ideal)) (onTc (τ := Cert.DInWRefIdeal.τ) (Cert.DInWRefIdeal.main (F := Ideal))) ⟨m', fun _ => 0, g'⟩ (fun r => ∀ c : Dev Cert.DInWRefIdeal.nD,
          r.2.mem ((c.tc : Thread Cert.DInWRefIdeal.nD Cert.DInWRefIdeal.τ).loc Cert.DInWRefIdeal.main_v6) = v0 c
          ∧ r.2.mem ((c.tc : Thread Cert.DInWRefIdeal.nD Cert.DInWRefIdeal.τ).loc Cert.DInWRefIdeal.main_arg0) = m' ((c.tc : Thread Cert.DInWRefIdeal.nD Cert.DInWRefIdeal.τ).loc Cert.DInWRefIdeal.main_arg0)
          ∧ r.2.mem ((c.tc : Thread Cert.DInWRefIdeal.nD Cert.DInWRefIdeal.τ).loc Cert.DInWRefIdeal.main_arg1) = m' ((c.tc : Thread Cert.DInWRefIdeal.nD Cert.DInWRefIdeal.τ).loc Cert.DInWRefIdeal.main_arg1))

def preserves_DFf2Act_DFf2ActIdeal : Prop :=
  True

def algebraic_DFf2ActIdeal_DFf2ActRefIdeal [hDFf2ActIdeal : Cert.DFf2ActIdeal.Facts] [hDFf2ActRefIdeal : Cert.DFf2ActRefIdeal.Facts] : Prop :=
  ∀ (m : (ℓ : Loc Cert.DFf2ActIdeal.nD Cert.DFf2ActIdeal.τ Cert.DFf2ActIdeal.sig) → Buf (Elt Ideal) ℓ) (g : Dev Cert.DFf2ActIdeal.nD → PrngReg)
    (m' : (ℓ : Loc Cert.DFf2ActRefIdeal.nD Cert.DFf2ActRefIdeal.τ Cert.DFf2ActRefIdeal.sig) → Buf (Elt Ideal) ℓ) (g' : Dev Cert.DFf2ActRefIdeal.nD → PrngReg), Pre_DFf2ActIdeal m →
    (∀ c : Dev Cert.DFf2ActIdeal.nD,
      m' ((c.tc : Thread Cert.DFf2ActRefIdeal.nD Cert.DFf2ActRefIdeal.τ).loc Cert.DFf2ActRefIdeal.main_arg0) = m ((c.tc : Thread Cert.DFf2ActIdeal.nD Cert.DFf2ActIdeal.τ).loc Cert.DFf2ActIdeal.main_arg0)
      ∧ m' ((c.tc : Thread Cert.DFf2ActRefIdeal.nD Cert.DFf2ActRefIdeal.τ).loc Cert.DFf2ActRefIdeal.main_arg1) = m ((c.tc : Thread Cert.DFf2ActIdeal.nD Cert.DFf2ActIdeal.τ).loc Cert.DFf2ActIdeal.main_arg1)
      ∧ m' ((c.tc : Thread Cert.DFf2ActRefIdeal.nD Cert.DFf2ActRefIdeal.τ).loc Cert.DFf2ActRefIdeal.main_arg2) = m ((c.tc : Thread Cert.DFf2ActIdeal.nD Cert.DFf2ActIdeal.τ).loc Cert.DFf2ActIdeal.main_arg2)) →
    ∃ (v0 : (c : Dev Cert.DFf2ActIdeal.nD) → Buf (Elt Ideal) ((c.tc : Thread Cert.DFf2ActIdeal.nD Cert.DFf2ActIdeal.τ).loc Cert.DFf2ActIdeal.main_v3)),
      θ_run (Cert.DFf2ActIdeal.defs (F := Ideal)) (onTc (τ := Cert.DFf2ActIdeal.τ) (Cert.DFf2ActIdeal.main (F := Ideal))) ⟨m, fun _ => 0, g⟩ (fun r => ∀ c : Dev Cert.DFf2ActIdeal.nD,
          r.2.mem ((c.tc : Thread Cert.DFf2ActIdeal.nD Cert.DFf2ActIdeal.τ).loc Cert.DFf2ActIdeal.main_v3) = v0 c
          ∧ r.2.mem ((c.tc : Thread Cert.DFf2ActIdeal.nD Cert.DFf2ActIdeal.τ).loc Cert.DFf2ActIdeal.main_arg0) = m ((c.tc : Thread Cert.DFf2ActIdeal.nD Cert.DFf2ActIdeal.τ).loc Cert.DFf2ActIdeal.main_arg0)
          ∧ r.2.mem ((c.tc : Thread Cert.DFf2ActIdeal.nD Cert.DFf2ActIdeal.τ).loc Cert.DFf2ActIdeal.main_arg1) = m ((c.tc : Thread Cert.DFf2ActIdeal.nD Cert.DFf2ActIdeal.τ).loc Cert.DFf2ActIdeal.main_arg1)
          ∧ r.2.mem ((c.tc : Thread Cert.DFf2ActIdeal.nD Cert.DFf2ActIdeal.τ).loc Cert.DFf2ActIdeal.main_arg2) = m ((c.tc : Thread Cert.DFf2ActIdeal.nD Cert.DFf2ActIdeal.τ).loc Cert.DFf2ActIdeal.main_arg2))
      ∧ θ_run (Cert.DFf2ActRefIdeal.defs (F := Ideal)) (onTc (τ := Cert.DFf2ActRefIdeal.τ) (Cert.DFf2ActRefIdeal.main (F := Ideal))) ⟨m', fun _ => 0, g'⟩ (fun r => ∀ c : Dev Cert.DFf2ActRefIdeal.nD,
          r.2.mem ((c.tc : Thread Cert.DFf2ActRefIdeal.nD Cert.DFf2ActRefIdeal.τ).loc Cert.DFf2ActRefIdeal.main_v13) = v0 c
          ∧ r.2.mem ((c.tc : Thread Cert.DFf2ActRefIdeal.nD Cert.DFf2ActRefIdeal.τ).loc Cert.DFf2ActRefIdeal.main_arg0) = m' ((c.tc : Thread Cert.DFf2ActRefIdeal.nD Cert.DFf2ActRefIdeal.τ).loc Cert.DFf2ActRefIdeal.main_arg0)
          ∧ r.2.mem ((c.tc : Thread Cert.DFf2ActRefIdeal.nD Cert.DFf2ActRefIdeal.τ).loc Cert.DFf2ActRefIdeal.main_arg1) = m' ((c.tc : Thread Cert.DFf2ActRefIdeal.nD Cert.DFf2ActRefIdeal.τ).loc Cert.DFf2ActRefIdeal.main_arg1)
          ∧ r.2.mem ((c.tc : Thread Cert.DFf2ActRefIdeal.nD Cert.DFf2ActRefIdeal.τ).loc Cert.DFf2ActRefIdeal.main_arg2) = m' ((c.tc : Thread Cert.DFf2ActRefIdeal.nD Cert.DFf2ActRefIdeal.τ).loc Cert.DFf2ActRefIdeal.main_arg2))

def preserves_DFf1Act_DFf1ActIdeal : Prop :=
  True

def algebraic_DFf1ActIdeal_DFf1ActRefIdeal [hDFf1ActIdeal : Cert.DFf1ActIdeal.Facts] [hDFf1ActRefIdeal : Cert.DFf1ActRefIdeal.Facts] : Prop :=
  ∀ (m : (ℓ : Loc Cert.DFf1ActIdeal.nD Cert.DFf1ActIdeal.τ Cert.DFf1ActIdeal.sig) → Buf (Elt Ideal) ℓ) (g : Dev Cert.DFf1ActIdeal.nD → PrngReg)
    (m' : (ℓ : Loc Cert.DFf1ActRefIdeal.nD Cert.DFf1ActRefIdeal.τ Cert.DFf1ActRefIdeal.sig) → Buf (Elt Ideal) ℓ) (g' : Dev Cert.DFf1ActRefIdeal.nD → PrngReg), Pre_DFf1ActIdeal m →
    (∀ c : Dev Cert.DFf1ActIdeal.nD,
      m' ((c.tc : Thread Cert.DFf1ActRefIdeal.nD Cert.DFf1ActRefIdeal.τ).loc Cert.DFf1ActRefIdeal.main_arg0) = m ((c.tc : Thread Cert.DFf1ActIdeal.nD Cert.DFf1ActIdeal.τ).loc Cert.DFf1ActIdeal.main_arg0)
      ∧ m' ((c.tc : Thread Cert.DFf1ActRefIdeal.nD Cert.DFf1ActRefIdeal.τ).loc Cert.DFf1ActRefIdeal.main_arg1) = m ((c.tc : Thread Cert.DFf1ActIdeal.nD Cert.DFf1ActIdeal.τ).loc Cert.DFf1ActIdeal.main_arg1)
      ∧ m' ((c.tc : Thread Cert.DFf1ActRefIdeal.nD Cert.DFf1ActRefIdeal.τ).loc Cert.DFf1ActRefIdeal.main_arg2) = m ((c.tc : Thread Cert.DFf1ActIdeal.nD Cert.DFf1ActIdeal.τ).loc Cert.DFf1ActIdeal.main_arg2)
      ∧ m' ((c.tc : Thread Cert.DFf1ActRefIdeal.nD Cert.DFf1ActRefIdeal.τ).loc Cert.DFf1ActRefIdeal.main_arg3) = m ((c.tc : Thread Cert.DFf1ActIdeal.nD Cert.DFf1ActIdeal.τ).loc Cert.DFf1ActIdeal.main_arg3)
      ∧ m' ((c.tc : Thread Cert.DFf1ActRefIdeal.nD Cert.DFf1ActRefIdeal.τ).loc Cert.DFf1ActRefIdeal.main_arg4) = m ((c.tc : Thread Cert.DFf1ActIdeal.nD Cert.DFf1ActIdeal.τ).loc Cert.DFf1ActIdeal.main_arg4)) →
    ∃ (v0 : (c : Dev Cert.DFf1ActIdeal.nD) → Buf (Elt Ideal) ((c.tc : Thread Cert.DFf1ActIdeal.nD Cert.DFf1ActIdeal.τ).loc Cert.DFf1ActIdeal.main_v1_0)) (v1 : (c : Dev Cert.DFf1ActIdeal.nD) → Buf (Elt Ideal) ((c.tc : Thread Cert.DFf1ActIdeal.nD Cert.DFf1ActIdeal.τ).loc Cert.DFf1ActIdeal.main_v1_1)),
      θ_run (Cert.DFf1ActIdeal.defs (F := Ideal)) (onTc (τ := Cert.DFf1ActIdeal.τ) (Cert.DFf1ActIdeal.main (F := Ideal))) ⟨m, fun _ => 0, g⟩ (fun r => ∀ c : Dev Cert.DFf1ActIdeal.nD,
          r.2.mem ((c.tc : Thread Cert.DFf1ActIdeal.nD Cert.DFf1ActIdeal.τ).loc Cert.DFf1ActIdeal.main_v1_0) = v0 c
          ∧ r.2.mem ((c.tc : Thread Cert.DFf1ActIdeal.nD Cert.DFf1ActIdeal.τ).loc Cert.DFf1ActIdeal.main_v1_1) = v1 c
          ∧ r.2.mem ((c.tc : Thread Cert.DFf1ActIdeal.nD Cert.DFf1ActIdeal.τ).loc Cert.DFf1ActIdeal.main_arg0) = m ((c.tc : Thread Cert.DFf1ActIdeal.nD Cert.DFf1ActIdeal.τ).loc Cert.DFf1ActIdeal.main_arg0)
          ∧ r.2.mem ((c.tc : Thread Cert.DFf1ActIdeal.nD Cert.DFf1ActIdeal.τ).loc Cert.DFf1ActIdeal.main_arg1) = m ((c.tc : Thread Cert.DFf1ActIdeal.nD Cert.DFf1ActIdeal.τ).loc Cert.DFf1ActIdeal.main_arg1)
          ∧ r.2.mem ((c.tc : Thread Cert.DFf1ActIdeal.nD Cert.DFf1ActIdeal.τ).loc Cert.DFf1ActIdeal.main_arg2) = m ((c.tc : Thread Cert.DFf1ActIdeal.nD Cert.DFf1ActIdeal.τ).loc Cert.DFf1ActIdeal.main_arg2)
          ∧ r.2.mem ((c.tc : Thread Cert.DFf1ActIdeal.nD Cert.DFf1ActIdeal.τ).loc Cert.DFf1ActIdeal.main_arg3) = m ((c.tc : Thread Cert.DFf1ActIdeal.nD Cert.DFf1ActIdeal.τ).loc Cert.DFf1ActIdeal.main_arg3)
          ∧ r.2.mem ((c.tc : Thread Cert.DFf1ActIdeal.nD Cert.DFf1ActIdeal.τ).loc Cert.DFf1ActIdeal.main_arg4) = m ((c.tc : Thread Cert.DFf1ActIdeal.nD Cert.DFf1ActIdeal.τ).loc Cert.DFf1ActIdeal.main_arg4))
      ∧ θ_run (Cert.DFf1ActRefIdeal.defs (F := Ideal)) (onTc (τ := Cert.DFf1ActRefIdeal.τ) (Cert.DFf1ActRefIdeal.main (F := Ideal))) ⟨m', fun _ => 0, g'⟩ (fun r => ∀ c : Dev Cert.DFf1ActRefIdeal.nD,
          r.2.mem ((c.tc : Thread Cert.DFf1ActRefIdeal.nD Cert.DFf1ActRefIdeal.τ).loc Cert.DFf1ActRefIdeal.main_v42) = v0 c
          ∧ r.2.mem ((c.tc : Thread Cert.DFf1ActRefIdeal.nD Cert.DFf1ActRefIdeal.τ).loc Cert.DFf1ActRefIdeal.main_v43) = v1 c
          ∧ r.2.mem ((c.tc : Thread Cert.DFf1ActRefIdeal.nD Cert.DFf1ActRefIdeal.τ).loc Cert.DFf1ActRefIdeal.main_arg0) = m' ((c.tc : Thread Cert.DFf1ActRefIdeal.nD Cert.DFf1ActRefIdeal.τ).loc Cert.DFf1ActRefIdeal.main_arg0)
          ∧ r.2.mem ((c.tc : Thread Cert.DFf1ActRefIdeal.nD Cert.DFf1ActRefIdeal.τ).loc Cert.DFf1ActRefIdeal.main_arg1) = m' ((c.tc : Thread Cert.DFf1ActRefIdeal.nD Cert.DFf1ActRefIdeal.τ).loc Cert.DFf1ActRefIdeal.main_arg1)
          ∧ r.2.mem ((c.tc : Thread Cert.DFf1ActRefIdeal.nD Cert.DFf1ActRefIdeal.τ).loc Cert.DFf1ActRefIdeal.main_arg2) = m' ((c.tc : Thread Cert.DFf1ActRefIdeal.nD Cert.DFf1ActRefIdeal.τ).loc Cert.DFf1ActRefIdeal.main_arg2)
          ∧ r.2.mem ((c.tc : Thread Cert.DFf1ActRefIdeal.nD Cert.DFf1ActRefIdeal.τ).loc Cert.DFf1ActRefIdeal.main_arg3) = m' ((c.tc : Thread Cert.DFf1ActRefIdeal.nD Cert.DFf1ActRefIdeal.τ).loc Cert.DFf1ActRefIdeal.main_arg3)
          ∧ r.2.mem ((c.tc : Thread Cert.DFf1ActRefIdeal.nD Cert.DFf1ActRefIdeal.τ).loc Cert.DFf1ActRefIdeal.main_arg4) = m' ((c.tc : Thread Cert.DFf1ActRefIdeal.nD Cert.DFf1ActRefIdeal.τ).loc Cert.DFf1ActRefIdeal.main_arg4))

def preserves_DFf2W_DFf2WIdeal : Prop :=
  True

def algebraic_DFf2WIdeal_DFf2WRefIdeal [hDFf2WIdeal : Cert.DFf2WIdeal.Facts] [hDFf2WRefIdeal : Cert.DFf2WRefIdeal.Facts] : Prop :=
  ∀ (m : (ℓ : Loc Cert.DFf2WIdeal.nD Cert.DFf2WIdeal.τ Cert.DFf2WIdeal.sig) → Buf (Elt Ideal) ℓ) (g : Dev Cert.DFf2WIdeal.nD → PrngReg)
    (m' : (ℓ : Loc Cert.DFf2WRefIdeal.nD Cert.DFf2WRefIdeal.τ Cert.DFf2WRefIdeal.sig) → Buf (Elt Ideal) ℓ) (g' : Dev Cert.DFf2WRefIdeal.nD → PrngReg), Pre_DFf2WIdeal m →
    (∀ c : Dev Cert.DFf2WIdeal.nD,
      m' ((c.tc : Thread Cert.DFf2WRefIdeal.nD Cert.DFf2WRefIdeal.τ).loc Cert.DFf2WRefIdeal.main_arg0) = m ((c.tc : Thread Cert.DFf2WIdeal.nD Cert.DFf2WIdeal.τ).loc Cert.DFf2WIdeal.main_arg0)
      ∧ m' ((c.tc : Thread Cert.DFf2WRefIdeal.nD Cert.DFf2WRefIdeal.τ).loc Cert.DFf2WRefIdeal.main_arg1) = m ((c.tc : Thread Cert.DFf2WIdeal.nD Cert.DFf2WIdeal.τ).loc Cert.DFf2WIdeal.main_arg1)) →
    ∃ (v0 : (c : Dev Cert.DFf2WIdeal.nD) → Buf (Elt Ideal) ((c.tc : Thread Cert.DFf2WIdeal.nD Cert.DFf2WIdeal.τ).loc Cert.DFf2WIdeal.main_v3)),
      θ_run (Cert.DFf2WIdeal.defs (F := Ideal)) (onTc (τ := Cert.DFf2WIdeal.τ) (Cert.DFf2WIdeal.main (F := Ideal))) ⟨m, fun _ => 0, g⟩ (fun r => ∀ c : Dev Cert.DFf2WIdeal.nD,
          r.2.mem ((c.tc : Thread Cert.DFf2WIdeal.nD Cert.DFf2WIdeal.τ).loc Cert.DFf2WIdeal.main_v3) = v0 c
          ∧ r.2.mem ((c.tc : Thread Cert.DFf2WIdeal.nD Cert.DFf2WIdeal.τ).loc Cert.DFf2WIdeal.main_arg0) = m ((c.tc : Thread Cert.DFf2WIdeal.nD Cert.DFf2WIdeal.τ).loc Cert.DFf2WIdeal.main_arg0)
          ∧ r.2.mem ((c.tc : Thread Cert.DFf2WIdeal.nD Cert.DFf2WIdeal.τ).loc Cert.DFf2WIdeal.main_arg1) = m ((c.tc : Thread Cert.DFf2WIdeal.nD Cert.DFf2WIdeal.τ).loc Cert.DFf2WIdeal.main_arg1))
      ∧ θ_run (Cert.DFf2WRefIdeal.defs (F := Ideal)) (onTc (τ := Cert.DFf2WRefIdeal.τ) (Cert.DFf2WRefIdeal.main (F := Ideal))) ⟨m', fun _ => 0, g'⟩ (fun r => ∀ c : Dev Cert.DFf2WRefIdeal.nD,
          r.2.mem ((c.tc : Thread Cert.DFf2WRefIdeal.nD Cert.DFf2WRefIdeal.τ).loc Cert.DFf2WRefIdeal.main_v6) = v0 c
          ∧ r.2.mem ((c.tc : Thread Cert.DFf2WRefIdeal.nD Cert.DFf2WRefIdeal.τ).loc Cert.DFf2WRefIdeal.main_arg0) = m' ((c.tc : Thread Cert.DFf2WRefIdeal.nD Cert.DFf2WRefIdeal.τ).loc Cert.DFf2WRefIdeal.main_arg0)
          ∧ r.2.mem ((c.tc : Thread Cert.DFf2WRefIdeal.nD Cert.DFf2WRefIdeal.τ).loc Cert.DFf2WRefIdeal.main_arg1) = m' ((c.tc : Thread Cert.DFf2WRefIdeal.nD Cert.DFf2WRefIdeal.τ).loc Cert.DFf2WRefIdeal.main_arg1))

def preserves_DFf1W_DFf1WIdeal : Prop :=
  True

def algebraic_DFf1WIdeal_DFf1WRefIdeal [hDFf1WIdeal : Cert.DFf1WIdeal.Facts] [hDFf1WRefIdeal : Cert.DFf1WRefIdeal.Facts] : Prop :=
  ∀ (m : (ℓ : Loc Cert.DFf1WIdeal.nD Cert.DFf1WIdeal.τ Cert.DFf1WIdeal.sig) → Buf (Elt Ideal) ℓ) (g : Dev Cert.DFf1WIdeal.nD → PrngReg)
    (m' : (ℓ : Loc Cert.DFf1WRefIdeal.nD Cert.DFf1WRefIdeal.τ Cert.DFf1WRefIdeal.sig) → Buf (Elt Ideal) ℓ) (g' : Dev Cert.DFf1WRefIdeal.nD → PrngReg), Pre_DFf1WIdeal m →
    (∀ c : Dev Cert.DFf1WIdeal.nD,
      m' ((c.tc : Thread Cert.DFf1WRefIdeal.nD Cert.DFf1WRefIdeal.τ).loc Cert.DFf1WRefIdeal.main_arg0) = m ((c.tc : Thread Cert.DFf1WIdeal.nD Cert.DFf1WIdeal.τ).loc Cert.DFf1WIdeal.main_arg0)
      ∧ m' ((c.tc : Thread Cert.DFf1WRefIdeal.nD Cert.DFf1WRefIdeal.τ).loc Cert.DFf1WRefIdeal.main_arg1) = m ((c.tc : Thread Cert.DFf1WIdeal.nD Cert.DFf1WIdeal.τ).loc Cert.DFf1WIdeal.main_arg1)) →
    ∃ (v0 : (c : Dev Cert.DFf1WIdeal.nD) → Buf (Elt Ideal) ((c.tc : Thread Cert.DFf1WIdeal.nD Cert.DFf1WIdeal.τ).loc Cert.DFf1WIdeal.main_v0)),
      θ_run (Cert.DFf1WIdeal.defs (F := Ideal)) (onTc (τ := Cert.DFf1WIdeal.τ) (Cert.DFf1WIdeal.main (F := Ideal))) ⟨m, fun _ => 0, g⟩ (fun r => ∀ c : Dev Cert.DFf1WIdeal.nD,
          r.2.mem ((c.tc : Thread Cert.DFf1WIdeal.nD Cert.DFf1WIdeal.τ).loc Cert.DFf1WIdeal.main_v0) = v0 c
          ∧ r.2.mem ((c.tc : Thread Cert.DFf1WIdeal.nD Cert.DFf1WIdeal.τ).loc Cert.DFf1WIdeal.main_arg0) = m ((c.tc : Thread Cert.DFf1WIdeal.nD Cert.DFf1WIdeal.τ).loc Cert.DFf1WIdeal.main_arg0)
          ∧ r.2.mem ((c.tc : Thread Cert.DFf1WIdeal.nD Cert.DFf1WIdeal.τ).loc Cert.DFf1WIdeal.main_arg1) = m ((c.tc : Thread Cert.DFf1WIdeal.nD Cert.DFf1WIdeal.τ).loc Cert.DFf1WIdeal.main_arg1))
      ∧ θ_run (Cert.DFf1WRefIdeal.defs (F := Ideal)) (onTc (τ := Cert.DFf1WRefIdeal.τ) (Cert.DFf1WRefIdeal.main (F := Ideal))) ⟨m', fun _ => 0, g'⟩ (fun r => ∀ c : Dev Cert.DFf1WRefIdeal.nD,
          r.2.mem ((c.tc : Thread Cert.DFf1WRefIdeal.nD Cert.DFf1WRefIdeal.τ).loc Cert.DFf1WRefIdeal.main_v8) = v0 c
          ∧ r.2.mem ((c.tc : Thread Cert.DFf1WRefIdeal.nD Cert.DFf1WRefIdeal.τ).loc Cert.DFf1WRefIdeal.main_arg0) = m' ((c.tc : Thread Cert.DFf1WRefIdeal.nD Cert.DFf1WRefIdeal.τ).loc Cert.DFf1WRefIdeal.main_arg0)
          ∧ r.2.mem ((c.tc : Thread Cert.DFf1WRefIdeal.nD Cert.DFf1WRefIdeal.τ).loc Cert.DFf1WRefIdeal.main_arg1) = m' ((c.tc : Thread Cert.DFf1WRefIdeal.nD Cert.DFf1WRefIdeal.τ).loc Cert.DFf1WRefIdeal.main_arg1))

def preserves_DOutAct_DOutActIdeal : Prop :=
  True

def algebraic_DOutActIdeal_DOutActRefIdeal [hDOutActIdeal : Cert.DOutActIdeal.Facts] [hDOutActRefIdeal : Cert.DOutActRefIdeal.Facts] : Prop :=
  ∀ (m : (ℓ : Loc Cert.DOutActIdeal.nD Cert.DOutActIdeal.τ Cert.DOutActIdeal.sig) → Buf (Elt Ideal) ℓ) (g : Dev Cert.DOutActIdeal.nD → PrngReg)
    (m' : (ℓ : Loc Cert.DOutActRefIdeal.nD Cert.DOutActRefIdeal.τ Cert.DOutActRefIdeal.sig) → Buf (Elt Ideal) ℓ) (g' : Dev Cert.DOutActRefIdeal.nD → PrngReg), Pre_DOutActIdeal m →
    (∀ c : Dev Cert.DOutActIdeal.nD,
      m' ((c.tc : Thread Cert.DOutActRefIdeal.nD Cert.DOutActRefIdeal.τ).loc Cert.DOutActRefIdeal.main_arg0) = m ((c.tc : Thread Cert.DOutActIdeal.nD Cert.DOutActIdeal.τ).loc Cert.DOutActIdeal.main_arg0)
      ∧ m' ((c.tc : Thread Cert.DOutActRefIdeal.nD Cert.DOutActRefIdeal.τ).loc Cert.DOutActRefIdeal.main_arg1) = m ((c.tc : Thread Cert.DOutActIdeal.nD Cert.DOutActIdeal.τ).loc Cert.DOutActIdeal.main_arg1)) →
    ∃ (v0 : (c : Dev Cert.DOutActIdeal.nD) → Buf (Elt Ideal) ((c.tc : Thread Cert.DOutActIdeal.nD Cert.DOutActIdeal.τ).loc Cert.DOutActIdeal.main_v0)),
      θ_run (Cert.DOutActIdeal.defs (F := Ideal)) (onTc (τ := Cert.DOutActIdeal.τ) (Cert.DOutActIdeal.main (F := Ideal))) ⟨m, fun _ => 0, g⟩ (fun r => ∀ c : Dev Cert.DOutActIdeal.nD,
          r.2.mem ((c.tc : Thread Cert.DOutActIdeal.nD Cert.DOutActIdeal.τ).loc Cert.DOutActIdeal.main_v0) = v0 c
          ∧ r.2.mem ((c.tc : Thread Cert.DOutActIdeal.nD Cert.DOutActIdeal.τ).loc Cert.DOutActIdeal.main_arg0) = m ((c.tc : Thread Cert.DOutActIdeal.nD Cert.DOutActIdeal.τ).loc Cert.DOutActIdeal.main_arg0)
          ∧ r.2.mem ((c.tc : Thread Cert.DOutActIdeal.nD Cert.DOutActIdeal.τ).loc Cert.DOutActIdeal.main_arg1) = m ((c.tc : Thread Cert.DOutActIdeal.nD Cert.DOutActIdeal.τ).loc Cert.DOutActIdeal.main_arg1))
      ∧ θ_run (Cert.DOutActRefIdeal.defs (F := Ideal)) (onTc (τ := Cert.DOutActRefIdeal.τ) (Cert.DOutActRefIdeal.main (F := Ideal))) ⟨m', fun _ => 0, g'⟩ (fun r => ∀ c : Dev Cert.DOutActRefIdeal.nD,
          r.2.mem ((c.tc : Thread Cert.DOutActRefIdeal.nD Cert.DOutActRefIdeal.τ).loc Cert.DOutActRefIdeal.main_v3) = v0 c
          ∧ r.2.mem ((c.tc : Thread Cert.DOutActRefIdeal.nD Cert.DOutActRefIdeal.τ).loc Cert.DOutActRefIdeal.main_arg0) = m' ((c.tc : Thread Cert.DOutActRefIdeal.nD Cert.DOutActRefIdeal.τ).loc Cert.DOutActRefIdeal.main_arg0)
          ∧ r.2.mem ((c.tc : Thread Cert.DOutActRefIdeal.nD Cert.DOutActRefIdeal.τ).loc Cert.DOutActRefIdeal.main_arg1) = m' ((c.tc : Thread Cert.DOutActRefIdeal.nD Cert.DOutActRefIdeal.τ).loc Cert.DOutActRefIdeal.main_arg1))

def preserves_DOutW_DOutWIdeal : Prop :=
  True

def algebraic_DOutWIdeal_DOutWRefIdeal [hDOutWIdeal : Cert.DOutWIdeal.Facts] [hDOutWRefIdeal : Cert.DOutWRefIdeal.Facts] : Prop :=
  ∀ (m : (ℓ : Loc Cert.DOutWIdeal.nD Cert.DOutWIdeal.τ Cert.DOutWIdeal.sig) → Buf (Elt Ideal) ℓ) (g : Dev Cert.DOutWIdeal.nD → PrngReg)
    (m' : (ℓ : Loc Cert.DOutWRefIdeal.nD Cert.DOutWRefIdeal.τ Cert.DOutWRefIdeal.sig) → Buf (Elt Ideal) ℓ) (g' : Dev Cert.DOutWRefIdeal.nD → PrngReg), Pre_DOutWIdeal m →
    (∀ c : Dev Cert.DOutWIdeal.nD,
      m' ((c.tc : Thread Cert.DOutWRefIdeal.nD Cert.DOutWRefIdeal.τ).loc Cert.DOutWRefIdeal.main_arg0) = m ((c.tc : Thread Cert.DOutWIdeal.nD Cert.DOutWIdeal.τ).loc Cert.DOutWIdeal.main_arg0)
      ∧ m' ((c.tc : Thread Cert.DOutWRefIdeal.nD Cert.DOutWRefIdeal.τ).loc Cert.DOutWRefIdeal.main_arg1) = m ((c.tc : Thread Cert.DOutWIdeal.nD Cert.DOutWIdeal.τ).loc Cert.DOutWIdeal.main_arg1)) →
    ∃ (v0 : (c : Dev Cert.DOutWIdeal.nD) → Buf (Elt Ideal) ((c.tc : Thread Cert.DOutWIdeal.nD Cert.DOutWIdeal.τ).loc Cert.DOutWIdeal.main_v0)),
      θ_run (Cert.DOutWIdeal.defs (F := Ideal)) (onTc (τ := Cert.DOutWIdeal.τ) (Cert.DOutWIdeal.main (F := Ideal))) ⟨m, fun _ => 0, g⟩ (fun r => ∀ c : Dev Cert.DOutWIdeal.nD,
          r.2.mem ((c.tc : Thread Cert.DOutWIdeal.nD Cert.DOutWIdeal.τ).loc Cert.DOutWIdeal.main_v0) = v0 c
          ∧ r.2.mem ((c.tc : Thread Cert.DOutWIdeal.nD Cert.DOutWIdeal.τ).loc Cert.DOutWIdeal.main_arg0) = m ((c.tc : Thread Cert.DOutWIdeal.nD Cert.DOutWIdeal.τ).loc Cert.DOutWIdeal.main_arg0)
          ∧ r.2.mem ((c.tc : Thread Cert.DOutWIdeal.nD Cert.DOutWIdeal.τ).loc Cert.DOutWIdeal.main_arg1) = m ((c.tc : Thread Cert.DOutWIdeal.nD Cert.DOutWIdeal.τ).loc Cert.DOutWIdeal.main_arg1))
      ∧ θ_run (Cert.DOutWRefIdeal.defs (F := Ideal)) (onTc (τ := Cert.DOutWRefIdeal.τ) (Cert.DOutWRefIdeal.main (F := Ideal))) ⟨m', fun _ => 0, g'⟩ (fun r => ∀ c : Dev Cert.DOutWRefIdeal.nD,
          r.2.mem ((c.tc : Thread Cert.DOutWRefIdeal.nD Cert.DOutWRefIdeal.τ).loc Cert.DOutWRefIdeal.main_v5) = v0 c
          ∧ r.2.mem ((c.tc : Thread Cert.DOutWRefIdeal.nD Cert.DOutWRefIdeal.τ).loc Cert.DOutWRefIdeal.main_arg0) = m' ((c.tc : Thread Cert.DOutWRefIdeal.nD Cert.DOutWRefIdeal.τ).loc Cert.DOutWRefIdeal.main_arg0)
          ∧ r.2.mem ((c.tc : Thread Cert.DOutWRefIdeal.nD Cert.DOutWRefIdeal.τ).loc Cert.DOutWRefIdeal.main_arg1) = m' ((c.tc : Thread Cert.DOutWRefIdeal.nD Cert.DOutWRefIdeal.τ).loc Cert.DOutWRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v7) = v0 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2Loss_Ff2LossIdeal : Prop :=
  True

def algebraic_Ff2LossIdeal_Ff2LossRefIdeal [hFf2LossIdeal : Cert.Ff2LossIdeal.Facts] [hFf2LossRefIdeal : Cert.Ff2LossRefIdeal.Facts] : Prop :=
  ∀ (m : (ℓ : Loc Cert.Ff2LossIdeal.nD Cert.Ff2LossIdeal.τ Cert.Ff2LossIdeal.sig) → Buf (Elt Ideal) ℓ) (g : Dev Cert.Ff2LossIdeal.nD → PrngReg)
    (m' : (ℓ : Loc Cert.Ff2LossRefIdeal.nD Cert.Ff2LossRefIdeal.τ Cert.Ff2LossRefIdeal.sig) → Buf (Elt Ideal) ℓ) (g' : Dev Cert.Ff2LossRefIdeal.nD → PrngReg), Pre_Ff2LossIdeal m →
    (∀ c : Dev Cert.Ff2LossIdeal.nD,
      m' ((c.tc : Thread Cert.Ff2LossRefIdeal.nD Cert.Ff2LossRefIdeal.τ).loc Cert.Ff2LossRefIdeal.main_arg0) = m ((c.tc : Thread Cert.Ff2LossIdeal.nD Cert.Ff2LossIdeal.τ).loc Cert.Ff2LossIdeal.main_arg0)
      ∧ m' ((c.tc : Thread Cert.Ff2LossRefIdeal.nD Cert.Ff2LossRefIdeal.τ).loc Cert.Ff2LossRefIdeal.main_arg1) = m ((c.tc : Thread Cert.Ff2LossIdeal.nD Cert.Ff2LossIdeal.τ).loc Cert.Ff2LossIdeal.main_arg1)
      ∧ m' ((c.tc : Thread Cert.Ff2LossRefIdeal.nD Cert.Ff2LossRefIdeal.τ).loc Cert.Ff2LossRefIdeal.main_arg2) = m ((c.tc : Thread Cert.Ff2LossIdeal.nD Cert.Ff2LossIdeal.τ).loc Cert.Ff2LossIdeal.main_arg2)
      ∧ m' ((c.tc : Thread Cert.Ff2LossRefIdeal.nD Cert.Ff2LossRefIdeal.τ).loc Cert.Ff2LossRefIdeal.main_arg3) = m ((c.tc : Thread Cert.Ff2LossIdeal.nD Cert.Ff2LossIdeal.τ).loc Cert.Ff2LossIdeal.main_arg3)) →
    ∃ (v0 : (c : Dev Cert.Ff2LossIdeal.nD) → Buf (Elt Ideal) ((c.tc : Thread Cert.Ff2LossIdeal.nD Cert.Ff2LossIdeal.τ).loc Cert.Ff2LossIdeal.main_v0_0)) (v1 : (c : Dev Cert.Ff2LossIdeal.nD) → Buf (Elt Ideal) ((c.tc : Thread Cert.Ff2LossIdeal.nD Cert.Ff2LossIdeal.τ).loc Cert.Ff2LossIdeal.main_v0_1)),
      θ_run (Cert.Ff2LossIdeal.defs (F := Ideal)) (onTc (τ := Cert.Ff2LossIdeal.τ) (Cert.Ff2LossIdeal.main (F := Ideal))) ⟨m, fun _ => 0, g⟩ (fun r => ∀ c : Dev Cert.Ff2LossIdeal.nD,
          r.2.mem ((c.tc : Thread Cert.Ff2LossIdeal.nD Cert.Ff2LossIdeal.τ).loc Cert.Ff2LossIdeal.main_v0_0) = v0 c
          ∧ r.2.mem ((c.tc : Thread Cert.Ff2LossIdeal.nD Cert.Ff2LossIdeal.τ).loc Cert.Ff2LossIdeal.main_v0_1) = v1 c
          ∧ r.2.mem ((c.tc : Thread Cert.Ff2LossIdeal.nD Cert.Ff2LossIdeal.τ).loc Cert.Ff2LossIdeal.main_arg0) = m ((c.tc : Thread Cert.Ff2LossIdeal.nD Cert.Ff2LossIdeal.τ).loc Cert.Ff2LossIdeal.main_arg0)
          ∧ r.2.mem ((c.tc : Thread Cert.Ff2LossIdeal.nD Cert.Ff2LossIdeal.τ).loc Cert.Ff2LossIdeal.main_arg1) = m ((c.tc : Thread Cert.Ff2LossIdeal.nD Cert.Ff2LossIdeal.τ).loc Cert.Ff2LossIdeal.main_arg1)
          ∧ r.2.mem ((c.tc : Thread Cert.Ff2LossIdeal.nD Cert.Ff2LossIdeal.τ).loc Cert.Ff2LossIdeal.main_arg2) = m ((c.tc : Thread Cert.Ff2LossIdeal.nD Cert.Ff2LossIdeal.τ).loc Cert.Ff2LossIdeal.main_arg2)
          ∧ r.2.mem ((c.tc : Thread Cert.Ff2LossIdeal.nD Cert.Ff2LossIdeal.τ).loc Cert.Ff2LossIdeal.main_arg3) = m ((c.tc : Thread Cert.Ff2LossIdeal.nD Cert.Ff2LossIdeal.τ).loc Cert.Ff2LossIdeal.main_arg3))
      ∧ θ_run (Cert.Ff2LossRefIdeal.defs (F := Ideal)) (onTc (τ := Cert.Ff2LossRefIdeal.τ) (Cert.Ff2LossRefIdeal.main (F := Ideal))) ⟨m', fun _ => 0, g'⟩ (fun r => ∀ c : Dev Cert.Ff2LossRefIdeal.nD,
          r.2.mem ((c.tc : Thread Cert.Ff2LossRefIdeal.nD Cert.Ff2LossRefIdeal.τ).loc Cert.Ff2LossRefIdeal.main_v18) = v0 c
          ∧ r.2.mem ((c.tc : Thread Cert.Ff2LossRefIdeal.nD Cert.Ff2LossRefIdeal.τ).loc Cert.Ff2LossRefIdeal.main_v19) = v1 c
          ∧ r.2.mem ((c.tc : Thread Cert.Ff2LossRefIdeal.nD Cert.Ff2LossRefIdeal.τ).loc Cert.Ff2LossRefIdeal.main_arg0) = m' ((c.tc : Thread Cert.Ff2LossRefIdeal.nD Cert.Ff2LossRefIdeal.τ).loc Cert.Ff2LossRefIdeal.main_arg0)
          ∧ r.2.mem ((c.tc : Thread Cert.Ff2LossRefIdeal.nD Cert.Ff2LossRefIdeal.τ).loc Cert.Ff2LossRefIdeal.main_arg1) = m' ((c.tc : Thread Cert.Ff2LossRefIdeal.nD Cert.Ff2LossRefIdeal.τ).loc Cert.Ff2LossRefIdeal.main_arg1)
          ∧ r.2.mem ((c.tc : Thread Cert.Ff2LossRefIdeal.nD Cert.Ff2LossRefIdeal.τ).loc Cert.Ff2LossRefIdeal.main_arg2) = m' ((c.tc : Thread Cert.Ff2LossRefIdeal.nD Cert.Ff2LossRefIdeal.τ).loc Cert.Ff2LossRefIdeal.main_arg2)
          ∧ r.2.mem ((c.tc : Thread Cert.Ff2LossRefIdeal.nD Cert.Ff2LossRefIdeal.τ).loc Cert.Ff2LossRefIdeal.main_arg3) = m' ((c.tc : Thread Cert.Ff2LossRefIdeal.nD Cert.Ff2LossRefIdeal.τ).loc Cert.Ff2LossRefIdeal.main_arg3))

def preserves_Ff2Next_Ff2NextIdeal : Prop :=
  True

def algebraic_Ff2NextIdeal_Ff2NextRefIdeal [hFf2NextIdeal : Cert.Ff2NextIdeal.Facts] [hFf2NextRefIdeal : Cert.Ff2NextRefIdeal.Facts] : Prop :=
  ∀ (m : (ℓ : Loc Cert.Ff2NextIdeal.nD Cert.Ff2NextIdeal.τ Cert.Ff2NextIdeal.sig) → Buf (Elt Ideal) ℓ) (g : Dev Cert.Ff2NextIdeal.nD → PrngReg)
    (m' : (ℓ : Loc Cert.Ff2NextRefIdeal.nD Cert.Ff2NextRefIdeal.τ Cert.Ff2NextRefIdeal.sig) → Buf (Elt Ideal) ℓ) (g' : Dev Cert.Ff2NextRefIdeal.nD → PrngReg), Pre_Ff2NextIdeal m →
    (∀ c : Dev Cert.Ff2NextIdeal.nD,
      m' ((c.tc : Thread Cert.Ff2NextRefIdeal.nD Cert.Ff2NextRefIdeal.τ).loc Cert.Ff2NextRefIdeal.main_arg0) = m ((c.tc : Thread Cert.Ff2NextIdeal.nD Cert.Ff2NextIdeal.τ).loc Cert.Ff2NextIdeal.main_arg0)
      ∧ m' ((c.tc : Thread Cert.Ff2NextRefIdeal.nD Cert.Ff2NextRefIdeal.τ).loc Cert.Ff2NextRefIdeal.main_arg1) = m ((c.tc : Thread Cert.Ff2NextIdeal.nD Cert.Ff2NextIdeal.τ).loc Cert.Ff2NextIdeal.main_arg1)
      ∧ m' ((c.tc : Thread Cert.Ff2NextRefIdeal.nD Cert.Ff2NextRefIdeal.τ).loc Cert.Ff2NextRefIdeal.main_arg2) = m ((c.tc : Thread Cert.Ff2NextIdeal.nD Cert.Ff2NextIdeal.τ).loc Cert.Ff2NextIdeal.main_arg2)
      ∧ m' ((c.tc : Thread Cert.Ff2NextRefIdeal.nD Cert.Ff2NextRefIdeal.τ).loc Cert.Ff2NextRefIdeal.main_arg3) = m ((c.tc : Thread Cert.Ff2NextIdeal.nD Cert.Ff2NextIdeal.τ).loc Cert.Ff2NextIdeal.main_arg3)) →
    ∃ (v0 : (c : Dev Cert.Ff2NextIdeal.nD) → Buf (Elt Ideal) ((c.tc : Thread Cert.Ff2NextIdeal.nD Cert.Ff2NextIdeal.τ).loc Cert.Ff2NextIdeal.main_v1_0)) (v1 : (c : Dev Cert.Ff2NextIdeal.nD) → Buf (Elt Ideal) ((c.tc : Thread Cert.Ff2NextIdeal.nD Cert.Ff2NextIdeal.τ).loc Cert.Ff2NextIdeal.main_v1_1)),
      θ_run (Cert.Ff2NextIdeal.defs (F := Ideal)) (onTc (τ := Cert.Ff2NextIdeal.τ) (Cert.Ff2NextIdeal.main (F := Ideal))) ⟨m, fun _ => 0, g⟩ (fun r => ∀ c : Dev Cert.Ff2NextIdeal.nD,
          r.2.mem ((c.tc : Thread Cert.Ff2NextIdeal.nD Cert.Ff2NextIdeal.τ).loc Cert.Ff2NextIdeal.main_v1_0) = v0 c
          ∧ r.2.mem ((c.tc : Thread Cert.Ff2NextIdeal.nD Cert.Ff2NextIdeal.τ).loc Cert.Ff2NextIdeal.main_v1_1) = v1 c
          ∧ r.2.mem ((c.tc : Thread Cert.Ff2NextIdeal.nD Cert.Ff2NextIdeal.τ).loc Cert.Ff2NextIdeal.main_arg0) = m ((c.tc : Thread Cert.Ff2NextIdeal.nD Cert.Ff2NextIdeal.τ).loc Cert.Ff2NextIdeal.main_arg0)
          ∧ r.2.mem ((c.tc : Thread Cert.Ff2NextIdeal.nD Cert.Ff2NextIdeal.τ).loc Cert.Ff2NextIdeal.main_arg1) = m ((c.tc : Thread Cert.Ff2NextIdeal.nD Cert.Ff2NextIdeal.τ).loc Cert.Ff2NextIdeal.main_arg1)
          ∧ r.2.mem ((c.tc : Thread Cert.Ff2NextIdeal.nD Cert.Ff2NextIdeal.τ).loc Cert.Ff2NextIdeal.main_arg2) = m ((c.tc : Thread Cert.Ff2NextIdeal.nD Cert.Ff2NextIdeal.τ).loc Cert.Ff2NextIdeal.main_arg2)
          ∧ r.2.mem ((c.tc : Thread Cert.Ff2NextIdeal.nD Cert.Ff2NextIdeal.τ).loc Cert.Ff2NextIdeal.main_arg3) = m ((c.tc : Thread Cert.Ff2NextIdeal.nD Cert.Ff2NextIdeal.τ).loc Cert.Ff2NextIdeal.main_arg3))
      ∧ θ_run (Cert.Ff2NextRefIdeal.defs (F := Ideal)) (onTc (τ := Cert.Ff2NextRefIdeal.τ) (Cert.Ff2NextRefIdeal.main (F := Ideal))) ⟨m', fun _ => 0, g'⟩ (fun r => ∀ c : Dev Cert.Ff2NextRefIdeal.nD,
          r.2.mem ((c.tc : Thread Cert.Ff2NextRefIdeal.nD Cert.Ff2NextRefIdeal.τ).loc Cert.Ff2NextRefIdeal.main_v3) = v0 c
          ∧ r.2.mem ((c.tc : Thread Cert.Ff2NextRefIdeal.nD Cert.Ff2NextRefIdeal.τ).loc Cert.Ff2NextRefIdeal.main_v17) = v1 c
          ∧ r.2.mem ((c.tc : Thread Cert.Ff2NextRefIdeal.nD Cert.Ff2NextRefIdeal.τ).loc Cert.Ff2NextRefIdeal.main_arg0) = m' ((c.tc : Thread Cert.Ff2NextRefIdeal.nD Cert.Ff2NextRefIdeal.τ).loc Cert.Ff2NextRefIdeal.main_arg0)
          ∧ r.2.mem ((c.tc : Thread Cert.Ff2NextRefIdeal.nD Cert.Ff2NextRefIdeal.τ).loc Cert.Ff2NextRefIdeal.main_arg1) = m' ((c.tc : Thread Cert.Ff2NextRefIdeal.nD Cert.Ff2NextRefIdeal.τ).loc Cert.Ff2NextRefIdeal.main_arg1)
          ∧ r.2.mem ((c.tc : Thread Cert.Ff2NextRefIdeal.nD Cert.Ff2NextRefIdeal.τ).loc Cert.Ff2NextRefIdeal.main_arg2) = m' ((c.tc : Thread Cert.Ff2NextRefIdeal.nD Cert.Ff2NextRefIdeal.τ).loc Cert.Ff2NextRefIdeal.main_arg2)
          ∧ r.2.mem ((c.tc : Thread Cert.Ff2NextRefIdeal.nD Cert.Ff2NextRefIdeal.τ).loc Cert.Ff2NextRefIdeal.main_arg3) = m' ((c.tc : Thread Cert.Ff2NextRefIdeal.nD Cert.Ff2NextRefIdeal.τ).loc Cert.Ff2NextRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_RmsMix_RmsMixIdeal : Prop :=
  True

def algebraic_RmsMixIdeal_RmsMixRefIdeal [hRmsMixIdeal : Cert.RmsMixIdeal.Facts] [hRmsMixRefIdeal : Cert.RmsMixRefIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg)
    (m' : (ℓ : Loc Cert.RmsMixRefIdeal.nD Cert.RmsMixRefIdeal.τ Cert.RmsMixRefIdeal.sig) → Buf (Elt Ideal) ℓ) (g' : Dev Cert.RmsMixRefIdeal.nD → PrngReg), Pre_RmsMixIdeal m →
    (∀ c : Dev Cert.RmsMixIdeal.nD,
      m' ((c.tc : Thread Cert.RmsMixRefIdeal.nD Cert.RmsMixRefIdeal.τ).loc Cert.RmsMixRefIdeal.main_arg0) = m ((c.tc : Thread Cert.RmsMixIdeal.nD Cert.RmsMixIdeal.τ).loc Cert.RmsMixIdeal.main_arg0)
      ∧ m' ((c.tc : Thread Cert.RmsMixRefIdeal.nD Cert.RmsMixRefIdeal.τ).loc Cert.RmsMixRefIdeal.main_arg1) = m ((c.tc : Thread Cert.RmsMixIdeal.nD Cert.RmsMixIdeal.τ).loc Cert.RmsMixIdeal.main_arg1)) →
    ∃ (v0 : (c : Dev Cert.RmsMixIdeal.nD) → Buf (Elt Ideal) ((c.tc : Thread Cert.RmsMixIdeal.nD Cert.RmsMixIdeal.τ).loc Cert.RmsMixIdeal.main_v1)),
      θ_run (Cert.RmsMixIdeal.defs (F := Ideal)) (onTc (τ := Cert.RmsMixIdeal.τ) (Cert.RmsMixIdeal.main (F := Ideal))) ⟨m, fun _ => 0, g⟩ (fun r => ∀ c : Dev Cert.RmsMixIdeal.nD,
          r.2.mem ((c.tc : Thread Cert.RmsMixIdeal.nD Cert.RmsMixIdeal.τ).loc Cert.RmsMixIdeal.main_v1) = v0 c
          ∧ r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
          ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1))
      ∧ θ_run (Cert.RmsMixRefIdeal.defs (F := Ideal)) (onTc (τ := Cert.RmsMixRefIdeal.τ) (Cert.RmsMixRefIdeal.main (F := Ideal))) ⟨m', fun _ => 0, g'⟩ (fun r => ∀ c : Dev Cert.RmsMixRefIdeal.nD,
          r.2.mem ((c.tc : Thread Cert.RmsMixRefIdeal.nD Cert.RmsMixRefIdeal.τ).loc Cert.RmsMixRefIdeal.main_v13) = v0 c
          ∧ r.2.mem ((c.tc : Thread Cert.RmsMixRefIdeal.nD Cert.RmsMixRefIdeal.τ).loc Cert.RmsMixRefIdeal.main_arg0) = m' ((c.tc : Thread Cert.RmsMixRefIdeal.nD Cert.RmsMixRefIdeal.τ).loc Cert.RmsMixRefIdeal.main_arg0)
          ∧ r.2.mem ((c.tc : Thread Cert.RmsMixRefIdeal.nD Cert.RmsMixRefIdeal.τ).loc Cert.RmsMixRefIdeal.main_arg1) = m' ((c.tc : Thread Cert.RmsMixRefIdeal.nD Cert.RmsMixRefIdeal.τ).loc Cert.RmsMixRefIdeal.main_arg1))

def preserves_DRmsMix_DRmsMixIdeal : Prop :=
  True

def algebraic_DRmsMixIdeal_DRmsMixRefIdeal [hDRmsMixIdeal : Cert.DRmsMixIdeal.Facts] [hDRmsMixRefIdeal : Cert.DRmsMixRefIdeal.Facts] : Prop :=
  ∀ (m : (ℓ : Loc Cert.DRmsMixIdeal.nD Cert.DRmsMixIdeal.τ Cert.DRmsMixIdeal.sig) → Buf (Elt Ideal) ℓ) (g : Dev Cert.DRmsMixIdeal.nD → PrngReg)
    (m' : (ℓ : Loc Cert.DRmsMixRefIdeal.nD Cert.DRmsMixRefIdeal.τ Cert.DRmsMixRefIdeal.sig) → Buf (Elt Ideal) ℓ) (g' : Dev Cert.DRmsMixRefIdeal.nD → PrngReg), Pre_DRmsMixIdeal m →
    (∀ c : Dev Cert.DRmsMixIdeal.nD,
      m' ((c.tc : Thread Cert.DRmsMixRefIdeal.nD Cert.DRmsMixRefIdeal.τ).loc Cert.DRmsMixRefIdeal.main_arg0) = m ((c.tc : Thread Cert.DRmsMixIdeal.nD Cert.DRmsMixIdeal.τ).loc Cert.DRmsMixIdeal.main_arg0)
      ∧ m' ((c.tc : Thread Cert.DRmsMixRefIdeal.nD Cert.DRmsMixRefIdeal.τ).loc Cert.DRmsMixRefIdeal.main_arg1) = m ((c.tc : Thread Cert.DRmsMixIdeal.nD Cert.DRmsMixIdeal.τ).loc Cert.DRmsMixIdeal.main_arg1)
      ∧ m' ((c.tc : Thread Cert.DRmsMixRefIdeal.nD Cert.DRmsMixRefIdeal.τ).loc Cert.DRmsMixRefIdeal.main_arg2) = m ((c.tc : Thread Cert.DRmsMixIdeal.nD Cert.DRmsMixIdeal.τ).loc Cert.DRmsMixIdeal.main_arg2)
      ∧ m' ((c.tc : Thread Cert.DRmsMixRefIdeal.nD Cert.DRmsMixRefIdeal.τ).loc Cert.DRmsMixRefIdeal.main_arg3) = m ((c.tc : Thread Cert.DRmsMixIdeal.nD Cert.DRmsMixIdeal.τ).loc Cert.DRmsMixIdeal.main_arg3)) →
    ∃ (v0 : (c : Dev Cert.DRmsMixIdeal.nD) → Buf (Elt Ideal) ((c.tc : Thread Cert.DRmsMixIdeal.nD Cert.DRmsMixIdeal.τ).loc Cert.DRmsMixIdeal.main_v1_0)) (v1 : (c : Dev Cert.DRmsMixIdeal.nD) → Buf (Elt Ideal) ((c.tc : Thread Cert.DRmsMixIdeal.nD Cert.DRmsMixIdeal.τ).loc Cert.DRmsMixIdeal.main_v1_1)),
      θ_run (Cert.DRmsMixIdeal.defs (F := Ideal)) (onTc (τ := Cert.DRmsMixIdeal.τ) (Cert.DRmsMixIdeal.main (F := Ideal))) ⟨m, fun _ => 0, g⟩ (fun r => ∀ c : Dev Cert.DRmsMixIdeal.nD,
          r.2.mem ((c.tc : Thread Cert.DRmsMixIdeal.nD Cert.DRmsMixIdeal.τ).loc Cert.DRmsMixIdeal.main_v1_0) = v0 c
          ∧ r.2.mem ((c.tc : Thread Cert.DRmsMixIdeal.nD Cert.DRmsMixIdeal.τ).loc Cert.DRmsMixIdeal.main_v1_1) = v1 c
          ∧ r.2.mem ((c.tc : Thread Cert.DRmsMixIdeal.nD Cert.DRmsMixIdeal.τ).loc Cert.DRmsMixIdeal.main_arg0) = m ((c.tc : Thread Cert.DRmsMixIdeal.nD Cert.DRmsMixIdeal.τ).loc Cert.DRmsMixIdeal.main_arg0)
          ∧ r.2.mem ((c.tc : Thread Cert.DRmsMixIdeal.nD Cert.DRmsMixIdeal.τ).loc Cert.DRmsMixIdeal.main_arg1) = m ((c.tc : Thread Cert.DRmsMixIdeal.nD Cert.DRmsMixIdeal.τ).loc Cert.DRmsMixIdeal.main_arg1)
          ∧ r.2.mem ((c.tc : Thread Cert.DRmsMixIdeal.nD Cert.DRmsMixIdeal.τ).loc Cert.DRmsMixIdeal.main_arg2) = m ((c.tc : Thread Cert.DRmsMixIdeal.nD Cert.DRmsMixIdeal.τ).loc Cert.DRmsMixIdeal.main_arg2)
          ∧ r.2.mem ((c.tc : Thread Cert.DRmsMixIdeal.nD Cert.DRmsMixIdeal.τ).loc Cert.DRmsMixIdeal.main_arg3) = m ((c.tc : Thread Cert.DRmsMixIdeal.nD Cert.DRmsMixIdeal.τ).loc Cert.DRmsMixIdeal.main_arg3))
      ∧ θ_run (Cert.DRmsMixRefIdeal.defs (F := Ideal)) (onTc (τ := Cert.DRmsMixRefIdeal.τ) (Cert.DRmsMixRefIdeal.main (F := Ideal))) ⟨m', fun _ => 0, g'⟩ (fun r => ∀ c : Dev Cert.DRmsMixRefIdeal.nD,
          r.2.mem ((c.tc : Thread Cert.DRmsMixRefIdeal.nD Cert.DRmsMixRefIdeal.τ).loc Cert.DRmsMixRefIdeal.main_v36) = v0 c
          ∧ r.2.mem ((c.tc : Thread Cert.DRmsMixRefIdeal.nD Cert.DRmsMixRefIdeal.τ).loc Cert.DRmsMixRefIdeal.main_v37) = v1 c
          ∧ r.2.mem ((c.tc : Thread Cert.DRmsMixRefIdeal.nD Cert.DRmsMixRefIdeal.τ).loc Cert.DRmsMixRefIdeal.main_arg0) = m' ((c.tc : Thread Cert.DRmsMixRefIdeal.nD Cert.DRmsMixRefIdeal.τ).loc Cert.DRmsMixRefIdeal.main_arg0)
          ∧ r.2.mem ((c.tc : Thread Cert.DRmsMixRefIdeal.nD Cert.DRmsMixRefIdeal.τ).loc Cert.DRmsMixRefIdeal.main_arg1) = m' ((c.tc : Thread Cert.DRmsMixRefIdeal.nD Cert.DRmsMixRefIdeal.τ).loc Cert.DRmsMixRefIdeal.main_arg1)
          ∧ r.2.mem ((c.tc : Thread Cert.DRmsMixRefIdeal.nD Cert.DRmsMixRefIdeal.τ).loc Cert.DRmsMixRefIdeal.main_arg2) = m' ((c.tc : Thread Cert.DRmsMixRefIdeal.nD Cert.DRmsMixRefIdeal.τ).loc Cert.DRmsMixRefIdeal.main_arg2)
          ∧ r.2.mem ((c.tc : Thread Cert.DRmsMixRefIdeal.nD Cert.DRmsMixRefIdeal.τ).loc Cert.DRmsMixRefIdeal.main_arg3) = m' ((c.tc : Thread Cert.DRmsMixRefIdeal.nD Cert.DRmsMixRefIdeal.τ).loc Cert.DRmsMixRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v56) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)) →
    ∃ (v0 : (c : Dev Cert.AdamSmallIdeal.nD) → Buf (Elt Ideal) ((c.tc : Thread Cert.AdamSmallIdeal.nD Cert.AdamSmallIdeal.τ).loc Cert.AdamSmallIdeal.main_v4_0)) (v1 : (c : Dev Cert.AdamSmallIdeal.nD) → Buf (Elt Ideal) ((c.tc : Thread Cert.AdamSmallIdeal.nD Cert.AdamSmallIdeal.τ).loc Cert.AdamSmallIdeal.main_v4_3)) (v2 : (c : Dev Cert.AdamSmallIdeal.nD) → Buf (Elt Ideal) ((c.tc : Thread Cert.AdamSmallIdeal.nD Cert.AdamSmallIdeal.τ).loc Cert.AdamSmallIdeal.main_v4_6)) (v3 : (c : Dev Cert.AdamSmallIdeal.nD) → Buf (Elt Ideal) ((c.tc : Thread Cert.AdamSmallIdeal.nD Cert.AdamSmallIdeal.τ).loc Cert.AdamSmallIdeal.main_v4_1)) (v4 : (c : Dev Cert.AdamSmallIdeal.nD) → Buf (Elt Ideal) ((c.tc : Thread Cert.AdamSmallIdeal.nD Cert.AdamSmallIdeal.τ).loc Cert.AdamSmallIdeal.main_v4_4)) (v5 : (c : Dev Cert.AdamSmallIdeal.nD) → Buf (Elt Ideal) ((c.tc : Thread Cert.AdamSmallIdeal.nD Cert.AdamSmallIdeal.τ).loc Cert.AdamSmallIdeal.main_v4_7)) (v6 : (c : Dev Cert.AdamSmallIdeal.nD) → Buf (Elt Ideal) ((c.tc : Thread Cert.AdamSmallIdeal.nD Cert.AdamSmallIdeal.τ).loc Cert.AdamSmallIdeal.main_v4_2)) (v7 : (c : Dev Cert.AdamSmallIdeal.nD) → Buf (Elt Ideal) ((c.tc : Thread Cert.AdamSmallIdeal.nD Cert.AdamSmallIdeal.τ).loc Cert.AdamSmallIdeal.main_v4_5)) (v8 : (c : Dev Cert.AdamSmallIdeal.nD) → Buf (Elt Ideal) ((c.tc : Thread Cert.AdamSmallIdeal.nD Cert.AdamSmallIdeal.τ).loc Cert.AdamSmallIdeal.main_v4_8)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v4_0) = v0 c
          ∧ r.2.mem ((c.tc : Thread Cert.AdamSmallIdeal.nD Cert.AdamSmallIdeal.τ).loc Cert.AdamSmallIdeal.main_v4_3) = v1 c
          ∧ r.2.mem ((c.tc : Thread Cert.AdamSmallIdeal.nD Cert.AdamSmallIdeal.τ).loc Cert.AdamSmallIdeal.main_v4_6) = v2 c
          ∧ r.2.mem ((c.tc : Thread Cert.AdamSmallIdeal.nD Cert.AdamSmallIdeal.τ).loc Cert.AdamSmallIdeal.main_v4_1) = v3 c
          ∧ r.2.mem ((c.tc : Thread Cert.AdamSmallIdeal.nD Cert.AdamSmallIdeal.τ).loc Cert.AdamSmallIdeal.main_v4_4) = v4 c
          ∧ r.2.mem ((c.tc : Thread Cert.AdamSmallIdeal.nD Cert.AdamSmallIdeal.τ).loc Cert.AdamSmallIdeal.main_v4_7) = v5 c
          ∧ r.2.mem ((c.tc : Thread Cert.AdamSmallIdeal.nD Cert.AdamSmallIdeal.τ).loc Cert.AdamSmallIdeal.main_v4_2) = v6 c
          ∧ r.2.mem ((c.tc : Thread Cert.AdamSmallIdeal.nD Cert.AdamSmallIdeal.τ).loc Cert.AdamSmallIdeal.main_v4_5) = v7 c
          ∧ r.2.mem ((c.tc : Thread Cert.AdamSmallIdeal.nD Cert.AdamSmallIdeal.τ).loc Cert.AdamSmallIdeal.main_v4_8) = v8 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_v47) = v3 c
          ∧ r.2.mem ((c.tc : Thread Cert.AdamSmallRefIdeal.nD Cert.AdamSmallRefIdeal.τ).loc Cert.AdamSmallRefIdeal.main_v28) = v4 c
          ∧ r.2.mem ((c.tc : Thread Cert.AdamSmallRefIdeal.nD Cert.AdamSmallRefIdeal.τ).loc Cert.AdamSmallRefIdeal.main_v34) = v5 c
          ∧ r.2.mem ((c.tc : Thread Cert.AdamSmallRefIdeal.nD Cert.AdamSmallRefIdeal.τ).loc Cert.AdamSmallRefIdeal.main_v72) = v6 c
          ∧ r.2.mem ((c.tc : Thread Cert.AdamSmallRefIdeal.nD Cert.AdamSmallRefIdeal.τ).loc Cert.AdamSmallRefIdeal.main_v73) = v7 c
          ∧ r.2.mem ((c.tc : Thread Cert.AdamSmallRefIdeal.nD Cert.AdamSmallRefIdeal.τ).loc Cert.AdamSmallRefIdeal.main_v74) = v8 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11))

def preserves_AdamSmallTwo_AdamSmallTwoIdeal : Prop :=
  True

def algebraic_AdamSmallTwoIdeal_AdamSmallTwoRefIdeal [hAdamSmallTwoIdeal : Cert.AdamSmallTwoIdeal.Facts] [hAdamSmallTwoRefIdeal : Cert.AdamSmallTwoRefIdeal.Facts] : Prop :=
  ∀ (m : (ℓ : Loc Cert.AdamSmallTwoIdeal.nD Cert.AdamSmallTwoIdeal.τ Cert.AdamSmallTwoIdeal.sig) → Buf (Elt Ideal) ℓ) (g : Dev Cert.AdamSmallTwoIdeal.nD → PrngReg)
    (m' : (ℓ : Loc Cert.AdamSmallTwoRefIdeal.nD Cert.AdamSmallTwoRefIdeal.τ Cert.AdamSmallTwoRefIdeal.sig) → Buf (Elt Ideal) ℓ) (g' : Dev Cert.AdamSmallTwoRefIdeal.nD → PrngReg), Pre_AdamSmallTwoIdeal m →
    (∀ c : Dev Cert.AdamSmallTwoIdeal.nD,
      m' ((c.tc : Thread Cert.AdamSmallTwoRefIdeal.nD Cert.AdamSmallTwoRefIdeal.τ).loc Cert.AdamSmallTwoRefIdeal.main_arg0) = m ((c.tc : Thread Cert.AdamSmallTwoIdeal.nD Cert.AdamSmallTwoIdeal.τ).loc Cert.AdamSmallTwoIdeal.main_arg0)
      ∧ m' ((c.tc : Thread Cert.AdamSmallTwoRefIdeal.nD Cert.AdamSmallTwoRefIdeal.τ).loc Cert.AdamSmallTwoRefIdeal.main_arg1) = m ((c.tc : Thread Cert.AdamSmallTwoIdeal.nD Cert.AdamSmallTwoIdeal.τ).loc Cert.AdamSmallTwoIdeal.main_arg1)
      ∧ m' ((c.tc : Thread Cert.AdamSmallTwoRefIdeal.nD Cert.AdamSmallTwoRefIdeal.τ).loc Cert.AdamSmallTwoRefIdeal.main_arg2) = m ((c.tc : Thread Cert.AdamSmallTwoIdeal.nD Cert.AdamSmallTwoIdeal.τ).loc Cert.AdamSmallTwoIdeal.main_arg2)
      ∧ m' ((c.tc : Thread Cert.AdamSmallTwoRefIdeal.nD Cert.AdamSmallTwoRefIdeal.τ).loc Cert.AdamSmallTwoRefIdeal.main_arg3) = m ((c.tc : Thread Cert.AdamSmallTwoIdeal.nD Cert.AdamSmallTwoIdeal.τ).loc Cert.AdamSmallTwoIdeal.main_arg3)
      ∧ m' ((c.tc : Thread Cert.AdamSmallTwoRefIdeal.nD Cert.AdamSmallTwoRefIdeal.τ).loc Cert.AdamSmallTwoRefIdeal.main_arg4) = m ((c.tc : Thread Cert.AdamSmallTwoIdeal.nD Cert.AdamSmallTwoIdeal.τ).loc Cert.AdamSmallTwoIdeal.main_arg4)
      ∧ m' ((c.tc : Thread Cert.AdamSmallTwoRefIdeal.nD Cert.AdamSmallTwoRefIdeal.τ).loc Cert.AdamSmallTwoRefIdeal.main_arg5) = m ((c.tc : Thread Cert.AdamSmallTwoIdeal.nD Cert.AdamSmallTwoIdeal.τ).loc Cert.AdamSmallTwoIdeal.main_arg5)
      ∧ m' ((c.tc : Thread Cert.AdamSmallTwoRefIdeal.nD Cert.AdamSmallTwoRefIdeal.τ).loc Cert.AdamSmallTwoRefIdeal.main_arg6) = m ((c.tc : Thread Cert.AdamSmallTwoIdeal.nD Cert.AdamSmallTwoIdeal.τ).loc Cert.AdamSmallTwoIdeal.main_arg6)
      ∧ m' ((c.tc : Thread Cert.AdamSmallTwoRefIdeal.nD Cert.AdamSmallTwoRefIdeal.τ).loc Cert.AdamSmallTwoRefIdeal.main_arg7) = m ((c.tc : Thread Cert.AdamSmallTwoIdeal.nD Cert.AdamSmallTwoIdeal.τ).loc Cert.AdamSmallTwoIdeal.main_arg7)
      ∧ m' ((c.tc : Thread Cert.AdamSmallTwoRefIdeal.nD Cert.AdamSmallTwoRefIdeal.τ).loc Cert.AdamSmallTwoRefIdeal.main_arg8) = m ((c.tc : Thread Cert.AdamSmallTwoIdeal.nD Cert.AdamSmallTwoIdeal.τ).loc Cert.AdamSmallTwoIdeal.main_arg8)
      ∧ m' ((c.tc : Thread Cert.AdamSmallTwoRefIdeal.nD Cert.AdamSmallTwoRefIdeal.τ).loc Cert.AdamSmallTwoRefIdeal.main_arg9) = m ((c.tc : Thread Cert.AdamSmallTwoIdeal.nD Cert.AdamSmallTwoIdeal.τ).loc Cert.AdamSmallTwoIdeal.main_arg9)
      ∧ m' ((c.tc : Thread Cert.AdamSmallTwoRefIdeal.nD Cert.AdamSmallTwoRefIdeal.τ).loc Cert.AdamSmallTwoRefIdeal.main_arg10) = m ((c.tc : Thread Cert.AdamSmallTwoIdeal.nD Cert.AdamSmallTwoIdeal.τ).loc Cert.AdamSmallTwoIdeal.main_arg10)
      ∧ m' ((c.tc : Thread Cert.AdamSmallTwoRefIdeal.nD Cert.AdamSmallTwoRefIdeal.τ).loc Cert.AdamSmallTwoRefIdeal.main_arg11) = m ((c.tc : Thread Cert.AdamSmallTwoIdeal.nD Cert.AdamSmallTwoIdeal.τ).loc Cert.AdamSmallTwoIdeal.main_arg11)) →
    ∃ (v0 : (c : Dev Cert.AdamSmallTwoIdeal.nD) → Buf (Elt Ideal) ((c.tc : Thread Cert.AdamSmallTwoIdeal.nD Cert.AdamSmallTwoIdeal.τ).loc Cert.AdamSmallTwoIdeal.main_v8_0)) (v1 : (c : Dev Cert.AdamSmallTwoIdeal.nD) → Buf (Elt Ideal) ((c.tc : Thread Cert.AdamSmallTwoIdeal.nD Cert.AdamSmallTwoIdeal.τ).loc Cert.AdamSmallTwoIdeal.main_v8_3)) (v2 : (c : Dev Cert.AdamSmallTwoIdeal.nD) → Buf (Elt Ideal) ((c.tc : Thread Cert.AdamSmallTwoIdeal.nD Cert.AdamSmallTwoIdeal.τ).loc Cert.AdamSmallTwoIdeal.main_v8_6)) (v3 : (c : Dev Cert.AdamSmallTwoIdeal.nD) → Buf (Elt Ideal) ((c.tc : Thread Cert.AdamSmallTwoIdeal.nD Cert.AdamSmallTwoIdeal.τ).loc Cert.AdamSmallTwoIdeal.main_v8_1)) (v4 : (c : Dev Cert.AdamSmallTwoIdeal.nD) → Buf (Elt Ideal) ((c.tc : Thread Cert.AdamSmallTwoIdeal.nD Cert.AdamSmallTwoIdeal.τ).loc Cert.AdamSmallTwoIdeal.main_v8_4)) (v5 : (c : Dev Cert.AdamSmallTwoIdeal.nD) → Buf (Elt Ideal) ((c.tc : Thread Cert.AdamSmallTwoIdeal.nD Cert.AdamSmallTwoIdeal.τ).loc Cert.AdamSmallTwoIdeal.main_v8_7)) (v6 : (c : Dev Cert.AdamSmallTwoIdeal.nD) → Buf (Elt Ideal) ((c.tc : Thread Cert.AdamSmallTwoIdeal.nD Cert.AdamSmallTwoIdeal.τ).loc Cert.AdamSmallTwoIdeal.main_v8_2)) (v7 : (c : Dev Cert.AdamSmallTwoIdeal.nD) → Buf (Elt Ideal) ((c.tc : Thread Cert.AdamSmallTwoIdeal.nD Cert.AdamSmallTwoIdeal.τ).loc Cert.AdamSmallTwoIdeal.main_v8_5)) (v8 : (c : Dev Cert.AdamSmallTwoIdeal.nD) → Buf (Elt Ideal) ((c.tc : Thread Cert.AdamSmallTwoIdeal.nD Cert.AdamSmallTwoIdeal.τ).loc Cert.AdamSmallTwoIdeal.main_v8_8)),
      θ_run (Cert.AdamSmallTwoIdeal.defs (F := Ideal)) (onTc (τ := Cert.AdamSmallTwoIdeal.τ) (Cert.AdamSmallTwoIdeal.main (F := Ideal))) ⟨m, fun _ => 0, g⟩ (fun r => ∀ c : Dev Cert.AdamSmallTwoIdeal.nD,
          r.2.mem ((c.tc : Thread Cert.AdamSmallTwoIdeal.nD Cert.AdamSmallTwoIdeal.τ).loc Cert.AdamSmallTwoIdeal.main_v8_0) = v0 c
          ∧ r.2.mem ((c.tc : Thread Cert.AdamSmallTwoIdeal.nD Cert.AdamSmallTwoIdeal.τ).loc Cert.AdamSmallTwoIdeal.main_v8_3) = v1 c
          ∧ r.2.mem ((c.tc : Thread Cert.AdamSmallTwoIdeal.nD Cert.AdamSmallTwoIdeal.τ).loc Cert.AdamSmallTwoIdeal.main_v8_6) = v2 c
          ∧ r.2.mem ((c.tc : Thread Cert.AdamSmallTwoIdeal.nD Cert.AdamSmallTwoIdeal.τ).loc Cert.AdamSmallTwoIdeal.main_v8_1) = v3 c
          ∧ r.2.mem ((c.tc : Thread Cert.AdamSmallTwoIdeal.nD Cert.AdamSmallTwoIdeal.τ).loc Cert.AdamSmallTwoIdeal.main_v8_4) = v4 c
          ∧ r.2.mem ((c.tc : Thread Cert.AdamSmallTwoIdeal.nD Cert.AdamSmallTwoIdeal.τ).loc Cert.AdamSmallTwoIdeal.main_v8_7) = v5 c
          ∧ r.2.mem ((c.tc : Thread Cert.AdamSmallTwoIdeal.nD Cert.AdamSmallTwoIdeal.τ).loc Cert.AdamSmallTwoIdeal.main_v8_2) = v6 c
          ∧ r.2.mem ((c.tc : Thread Cert.AdamSmallTwoIdeal.nD Cert.AdamSmallTwoIdeal.τ).loc Cert.AdamSmallTwoIdeal.main_v8_5) = v7 c
          ∧ r.2.mem ((c.tc : Thread Cert.AdamSmallTwoIdeal.nD Cert.AdamSmallTwoIdeal.τ).loc Cert.AdamSmallTwoIdeal.main_v8_8) = v8 c
          ∧ r.2.mem ((c.tc : Thread Cert.AdamSmallTwoIdeal.nD Cert.AdamSmallTwoIdeal.τ).loc Cert.AdamSmallTwoIdeal.main_arg0) = m ((c.tc : Thread Cert.AdamSmallTwoIdeal.nD Cert.AdamSmallTwoIdeal.τ).loc Cert.AdamSmallTwoIdeal.main_arg0)
          ∧ r.2.mem ((c.tc : Thread Cert.AdamSmallTwoIdeal.nD Cert.AdamSmallTwoIdeal.τ).loc Cert.AdamSmallTwoIdeal.main_arg1) = m ((c.tc : Thread Cert.AdamSmallTwoIdeal.nD Cert.AdamSmallTwoIdeal.τ).loc Cert.AdamSmallTwoIdeal.main_arg1)
          ∧ r.2.mem ((c.tc : Thread Cert.AdamSmallTwoIdeal.nD Cert.AdamSmallTwoIdeal.τ).loc Cert.AdamSmallTwoIdeal.main_arg2) = m ((c.tc : Thread Cert.AdamSmallTwoIdeal.nD Cert.AdamSmallTwoIdeal.τ).loc Cert.AdamSmallTwoIdeal.main_arg2)
          ∧ r.2.mem ((c.tc : Thread Cert.AdamSmallTwoIdeal.nD Cert.AdamSmallTwoIdeal.τ).loc Cert.AdamSmallTwoIdeal.main_arg3) = m ((c.tc : Thread Cert.AdamSmallTwoIdeal.nD Cert.AdamSmallTwoIdeal.τ).loc Cert.AdamSmallTwoIdeal.main_arg3)
          ∧ r.2.mem ((c.tc : Thread Cert.AdamSmallTwoIdeal.nD Cert.AdamSmallTwoIdeal.τ).loc Cert.AdamSmallTwoIdeal.main_arg4) = m ((c.tc : Thread Cert.AdamSmallTwoIdeal.nD Cert.AdamSmallTwoIdeal.τ).loc Cert.AdamSmallTwoIdeal.main_arg4)
          ∧ r.2.mem ((c.tc : Thread Cert.AdamSmallTwoIdeal.nD Cert.AdamSmallTwoIdeal.τ).loc Cert.AdamSmallTwoIdeal.main_arg5) = m ((c.tc : Thread Cert.AdamSmallTwoIdeal.nD Cert.AdamSmallTwoIdeal.τ).loc Cert.AdamSmallTwoIdeal.main_arg5)
          ∧ r.2.mem ((c.tc : Thread Cert.AdamSmallTwoIdeal.nD Cert.AdamSmallTwoIdeal.τ).loc Cert.AdamSmallTwoIdeal.main_arg6) = m ((c.tc : Thread Cert.AdamSmallTwoIdeal.nD Cert.AdamSmallTwoIdeal.τ).loc Cert.AdamSmallTwoIdeal.main_arg6)
          ∧ r.2.mem ((c.tc : Thread Cert.AdamSmallTwoIdeal.nD Cert.AdamSmallTwoIdeal.τ).loc Cert.AdamSmallTwoIdeal.main_arg7) = m ((c.tc : Thread Cert.AdamSmallTwoIdeal.nD Cert.AdamSmallTwoIdeal.τ).loc Cert.AdamSmallTwoIdeal.main_arg7)
          ∧ r.2.mem ((c.tc : Thread Cert.AdamSmallTwoIdeal.nD Cert.AdamSmallTwoIdeal.τ).loc Cert.AdamSmallTwoIdeal.main_arg8) = m ((c.tc : Thread Cert.AdamSmallTwoIdeal.nD Cert.AdamSmallTwoIdeal.τ).loc Cert.AdamSmallTwoIdeal.main_arg8)
          ∧ r.2.mem ((c.tc : Thread Cert.AdamSmallTwoIdeal.nD Cert.AdamSmallTwoIdeal.τ).loc Cert.AdamSmallTwoIdeal.main_arg9) = m ((c.tc : Thread Cert.AdamSmallTwoIdeal.nD Cert.AdamSmallTwoIdeal.τ).loc Cert.AdamSmallTwoIdeal.main_arg9)
          ∧ r.2.mem ((c.tc : Thread Cert.AdamSmallTwoIdeal.nD Cert.AdamSmallTwoIdeal.τ).loc Cert.AdamSmallTwoIdeal.main_arg10) = m ((c.tc : Thread Cert.AdamSmallTwoIdeal.nD Cert.AdamSmallTwoIdeal.τ).loc Cert.AdamSmallTwoIdeal.main_arg10)
          ∧ r.2.mem ((c.tc : Thread Cert.AdamSmallTwoIdeal.nD Cert.AdamSmallTwoIdeal.τ).loc Cert.AdamSmallTwoIdeal.main_arg11) = m ((c.tc : Thread Cert.AdamSmallTwoIdeal.nD Cert.AdamSmallTwoIdeal.τ).loc Cert.AdamSmallTwoIdeal.main_arg11))
      ∧ θ_run (Cert.AdamSmallTwoRefIdeal.defs (F := Ideal)) (onTc (τ := Cert.AdamSmallTwoRefIdeal.τ) (Cert.AdamSmallTwoRefIdeal.main (F := Ideal))) ⟨m', fun _ => 0, g'⟩ (fun r => ∀ c : Dev Cert.AdamSmallTwoRefIdeal.nD,
          r.2.mem ((c.tc : Thread Cert.AdamSmallTwoRefIdeal.nD Cert.AdamSmallTwoRefIdeal.τ).loc Cert.AdamSmallTwoRefIdeal.main_v23) = v0 c
          ∧ r.2.mem ((c.tc : Thread Cert.AdamSmallTwoRefIdeal.nD Cert.AdamSmallTwoRefIdeal.τ).loc Cert.AdamSmallTwoRefIdeal.main_v4) = v1 c
          ∧ r.2.mem ((c.tc : Thread Cert.AdamSmallTwoRefIdeal.nD Cert.AdamSmallTwoRefIdeal.τ).loc Cert.AdamSmallTwoRefIdeal.main_v10) = v2 c
          ∧ r.2.mem ((c.tc : Thread Cert.AdamSmallTwoRefIdeal.nD Cert.AdamSmallTwoRefIdeal.τ).loc Cert.AdamSmallTwoRefIdeal.main_v48) = v3 c
          ∧ r.2.mem ((c.tc : Thread Cert.AdamSmallTwoRefIdeal.nD Cert.AdamSmallTwoRefIdeal.τ).loc Cert.AdamSmallTwoRefIdeal.main_v49) = v4 c
          ∧ r.2.mem ((c.tc : Thread Cert.AdamSmallTwoRefIdeal.nD Cert.AdamSmallTwoRefIdeal.τ).loc Cert.AdamSmallTwoRefIdeal.main_v50) = v5 c
          ∧ r.2.mem ((c.tc : Thread Cert.AdamSmallTwoRefIdeal.nD Cert.AdamSmallTwoRefIdeal.τ).loc Cert.AdamSmallTwoRefIdeal.main_v75) = v6 c
          ∧ r.2.mem ((c.tc : Thread Cert.AdamSmallTwoRefIdeal.nD Cert.AdamSmallTwoRefIdeal.τ).loc Cert.AdamSmallTwoRefIdeal.main_v76) = v7 c
          ∧ r.2.mem ((c.tc : Thread Cert.AdamSmallTwoRefIdeal.nD Cert.AdamSmallTwoRefIdeal.τ).loc Cert.AdamSmallTwoRefIdeal.main_v77) = v8 c
          ∧ r.2.mem ((c.tc : Thread Cert.AdamSmallTwoRefIdeal.nD Cert.AdamSmallTwoRefIdeal.τ).loc Cert.AdamSmallTwoRefIdeal.main_arg0) = m' ((c.tc : Thread Cert.AdamSmallTwoRefIdeal.nD Cert.AdamSmallTwoRefIdeal.τ).loc Cert.AdamSmallTwoRefIdeal.main_arg0)
          ∧ r.2.mem ((c.tc : Thread Cert.AdamSmallTwoRefIdeal.nD Cert.AdamSmallTwoRefIdeal.τ).loc Cert.AdamSmallTwoRefIdeal.main_arg1) = m' ((c.tc : Thread Cert.AdamSmallTwoRefIdeal.nD Cert.AdamSmallTwoRefIdeal.τ).loc Cert.AdamSmallTwoRefIdeal.main_arg1)
          ∧ r.2.mem ((c.tc : Thread Cert.AdamSmallTwoRefIdeal.nD Cert.AdamSmallTwoRefIdeal.τ).loc Cert.AdamSmallTwoRefIdeal.main_arg2) = m' ((c.tc : Thread Cert.AdamSmallTwoRefIdeal.nD Cert.AdamSmallTwoRefIdeal.τ).loc Cert.AdamSmallTwoRefIdeal.main_arg2)
          ∧ r.2.mem ((c.tc : Thread Cert.AdamSmallTwoRefIdeal.nD Cert.AdamSmallTwoRefIdeal.τ).loc Cert.AdamSmallTwoRefIdeal.main_arg3) = m' ((c.tc : Thread Cert.AdamSmallTwoRefIdeal.nD Cert.AdamSmallTwoRefIdeal.τ).loc Cert.AdamSmallTwoRefIdeal.main_arg3)
          ∧ r.2.mem ((c.tc : Thread Cert.AdamSmallTwoRefIdeal.nD Cert.AdamSmallTwoRefIdeal.τ).loc Cert.AdamSmallTwoRefIdeal.main_arg4) = m' ((c.tc : Thread Cert.AdamSmallTwoRefIdeal.nD Cert.AdamSmallTwoRefIdeal.τ).loc Cert.AdamSmallTwoRefIdeal.main_arg4)
          ∧ r.2.mem ((c.tc : Thread Cert.AdamSmallTwoRefIdeal.nD Cert.AdamSmallTwoRefIdeal.τ).loc Cert.AdamSmallTwoRefIdeal.main_arg5) = m' ((c.tc : Thread Cert.AdamSmallTwoRefIdeal.nD Cert.AdamSmallTwoRefIdeal.τ).loc Cert.AdamSmallTwoRefIdeal.main_arg5)
          ∧ r.2.mem ((c.tc : Thread Cert.AdamSmallTwoRefIdeal.nD Cert.AdamSmallTwoRefIdeal.τ).loc Cert.AdamSmallTwoRefIdeal.main_arg6) = m' ((c.tc : Thread Cert.AdamSmallTwoRefIdeal.nD Cert.AdamSmallTwoRefIdeal.τ).loc Cert.AdamSmallTwoRefIdeal.main_arg6)
          ∧ r.2.mem ((c.tc : Thread Cert.AdamSmallTwoRefIdeal.nD Cert.AdamSmallTwoRefIdeal.τ).loc Cert.AdamSmallTwoRefIdeal.main_arg7) = m' ((c.tc : Thread Cert.AdamSmallTwoRefIdeal.nD Cert.AdamSmallTwoRefIdeal.τ).loc Cert.AdamSmallTwoRefIdeal.main_arg7)
          ∧ r.2.mem ((c.tc : Thread Cert.AdamSmallTwoRefIdeal.nD Cert.AdamSmallTwoRefIdeal.τ).loc Cert.AdamSmallTwoRefIdeal.main_arg8) = m' ((c.tc : Thread Cert.AdamSmallTwoRefIdeal.nD Cert.AdamSmallTwoRefIdeal.τ).loc Cert.AdamSmallTwoRefIdeal.main_arg8)
          ∧ r.2.mem ((c.tc : Thread Cert.AdamSmallTwoRefIdeal.nD Cert.AdamSmallTwoRefIdeal.τ).loc Cert.AdamSmallTwoRefIdeal.main_arg9) = m' ((c.tc : Thread Cert.AdamSmallTwoRefIdeal.nD Cert.AdamSmallTwoRefIdeal.τ).loc Cert.AdamSmallTwoRefIdeal.main_arg9)
          ∧ r.2.mem ((c.tc : Thread Cert.AdamSmallTwoRefIdeal.nD Cert.AdamSmallTwoRefIdeal.τ).loc Cert.AdamSmallTwoRefIdeal.main_arg10) = m' ((c.tc : Thread Cert.AdamSmallTwoRefIdeal.nD Cert.AdamSmallTwoRefIdeal.τ).loc Cert.AdamSmallTwoRefIdeal.main_arg10)
          ∧ r.2.mem ((c.tc : Thread Cert.AdamSmallTwoRefIdeal.nD Cert.AdamSmallTwoRefIdeal.τ).loc Cert.AdamSmallTwoRefIdeal.main_arg11) = m' ((c.tc : Thread Cert.AdamSmallTwoRefIdeal.nD Cert.AdamSmallTwoRefIdeal.τ).loc Cert.AdamSmallTwoRefIdeal.main_arg11))

def preserves_AdamSmallThree_AdamSmallThreeIdeal : Prop :=
  True

def algebraic_AdamSmallThreeIdeal_AdamSmallThreeRefIdeal [hAdamSmallThreeIdeal : Cert.AdamSmallThreeIdeal.Facts] [hAdamSmallThreeRefIdeal : Cert.AdamSmallThreeRefIdeal.Facts] : Prop :=
  ∀ (m : (ℓ : Loc Cert.AdamSmallThreeIdeal.nD Cert.AdamSmallThreeIdeal.τ Cert.AdamSmallThreeIdeal.sig) → Buf (Elt Ideal) ℓ) (g : Dev Cert.AdamSmallThreeIdeal.nD → PrngReg)
    (m' : (ℓ : Loc Cert.AdamSmallThreeRefIdeal.nD Cert.AdamSmallThreeRefIdeal.τ Cert.AdamSmallThreeRefIdeal.sig) → Buf (Elt Ideal) ℓ) (g' : Dev Cert.AdamSmallThreeRefIdeal.nD → PrngReg), Pre_AdamSmallThreeIdeal m →
    (∀ c : Dev Cert.AdamSmallThreeIdeal.nD,
      m' ((c.tc : Thread Cert.AdamSmallThreeRefIdeal.nD Cert.AdamSmallThreeRefIdeal.τ).loc Cert.AdamSmallThreeRefIdeal.main_arg0) = m ((c.tc : Thread Cert.AdamSmallThreeIdeal.nD Cert.AdamSmallThreeIdeal.τ).loc Cert.AdamSmallThreeIdeal.main_arg0)
      ∧ m' ((c.tc : Thread Cert.AdamSmallThreeRefIdeal.nD Cert.AdamSmallThreeRefIdeal.τ).loc Cert.AdamSmallThreeRefIdeal.main_arg1) = m ((c.tc : Thread Cert.AdamSmallThreeIdeal.nD Cert.AdamSmallThreeIdeal.τ).loc Cert.AdamSmallThreeIdeal.main_arg1)
      ∧ m' ((c.tc : Thread Cert.AdamSmallThreeRefIdeal.nD Cert.AdamSmallThreeRefIdeal.τ).loc Cert.AdamSmallThreeRefIdeal.main_arg2) = m ((c.tc : Thread Cert.AdamSmallThreeIdeal.nD Cert.AdamSmallThreeIdeal.τ).loc Cert.AdamSmallThreeIdeal.main_arg2)
      ∧ m' ((c.tc : Thread Cert.AdamSmallThreeRefIdeal.nD Cert.AdamSmallThreeRefIdeal.τ).loc Cert.AdamSmallThreeRefIdeal.main_arg3) = m ((c.tc : Thread Cert.AdamSmallThreeIdeal.nD Cert.AdamSmallThreeIdeal.τ).loc Cert.AdamSmallThreeIdeal.main_arg3)
      ∧ m' ((c.tc : Thread Cert.AdamSmallThreeRefIdeal.nD Cert.AdamSmallThreeRefIdeal.τ).loc Cert.AdamSmallThreeRefIdeal.main_arg4) = m ((c.tc : Thread Cert.AdamSmallThreeIdeal.nD Cert.AdamSmallThreeIdeal.τ).loc Cert.AdamSmallThreeIdeal.main_arg4)
      ∧ m' ((c.tc : Thread Cert.AdamSmallThreeRefIdeal.nD Cert.AdamSmallThreeRefIdeal.τ).loc Cert.AdamSmallThreeRefIdeal.main_arg5) = m ((c.tc : Thread Cert.AdamSmallThreeIdeal.nD Cert.AdamSmallThreeIdeal.τ).loc Cert.AdamSmallThreeIdeal.main_arg5)
      ∧ m' ((c.tc : Thread Cert.AdamSmallThreeRefIdeal.nD Cert.AdamSmallThreeRefIdeal.τ).loc Cert.AdamSmallThreeRefIdeal.main_arg6) = m ((c.tc : Thread Cert.AdamSmallThreeIdeal.nD Cert.AdamSmallThreeIdeal.τ).loc Cert.AdamSmallThreeIdeal.main_arg6)
      ∧ m' ((c.tc : Thread Cert.AdamSmallThreeRefIdeal.nD Cert.AdamSmallThreeRefIdeal.τ).loc Cert.AdamSmallThreeRefIdeal.main_arg7) = m ((c.tc : Thread Cert.AdamSmallThreeIdeal.nD Cert.AdamSmallThreeIdeal.τ).loc Cert.AdamSmallThreeIdeal.main_arg7)) →
    ∃ (v0 : (c : Dev Cert.AdamSmallThreeIdeal.nD) → Buf (Elt Ideal) ((c.tc : Thread Cert.AdamSmallThreeIdeal.nD Cert.AdamSmallThreeIdeal.τ).loc Cert.AdamSmallThreeIdeal.main_v4_0)) (v1 : (c : Dev Cert.AdamSmallThreeIdeal.nD) → Buf (Elt Ideal) ((c.tc : Thread Cert.AdamSmallThreeIdeal.nD Cert.AdamSmallThreeIdeal.τ).loc Cert.AdamSmallThreeIdeal.main_v4_2)) (v2 : (c : Dev Cert.AdamSmallThreeIdeal.nD) → Buf (Elt Ideal) ((c.tc : Thread Cert.AdamSmallThreeIdeal.nD Cert.AdamSmallThreeIdeal.τ).loc Cert.AdamSmallThreeIdeal.main_v4_4)) (v3 : (c : Dev Cert.AdamSmallThreeIdeal.nD) → Buf (Elt Ideal) ((c.tc : Thread Cert.AdamSmallThreeIdeal.nD Cert.AdamSmallThreeIdeal.τ).loc Cert.AdamSmallThreeIdeal.main_v4_1)) (v4 : (c : Dev Cert.AdamSmallThreeIdeal.nD) → Buf (Elt Ideal) ((c.tc : Thread Cert.AdamSmallThreeIdeal.nD Cert.AdamSmallThreeIdeal.τ).loc Cert.AdamSmallThreeIdeal.main_v4_3)) (v5 : (c : Dev Cert.AdamSmallThreeIdeal.nD) → Buf (Elt Ideal) ((c.tc : Thread Cert.AdamSmallThreeIdeal.nD Cert.AdamSmallThreeIdeal.τ).loc Cert.AdamSmallThreeIdeal.main_v4_5)),
      θ_run (Cert.AdamSmallThreeIdeal.defs (F := Ideal)) (onTc (τ := Cert.AdamSmallThreeIdeal.τ) (Cert.AdamSmallThreeIdeal.main (F := Ideal))) ⟨m, fun _ => 0, g⟩ (fun r => ∀ c : Dev Cert.AdamSmallThreeIdeal.nD,
          r.2.mem ((c.tc : Thread Cert.AdamSmallThreeIdeal.nD Cert.AdamSmallThreeIdeal.τ).loc Cert.AdamSmallThreeIdeal.main_v4_0) = v0 c
          ∧ r.2.mem ((c.tc : Thread Cert.AdamSmallThreeIdeal.nD Cert.AdamSmallThreeIdeal.τ).loc Cert.AdamSmallThreeIdeal.main_v4_2) = v1 c
          ∧ r.2.mem ((c.tc : Thread Cert.AdamSmallThreeIdeal.nD Cert.AdamSmallThreeIdeal.τ).loc Cert.AdamSmallThreeIdeal.main_v4_4) = v2 c
          ∧ r.2.mem ((c.tc : Thread Cert.AdamSmallThreeIdeal.nD Cert.AdamSmallThreeIdeal.τ).loc Cert.AdamSmallThreeIdeal.main_v4_1) = v3 c
          ∧ r.2.mem ((c.tc : Thread Cert.AdamSmallThreeIdeal.nD Cert.AdamSmallThreeIdeal.τ).loc Cert.AdamSmallThreeIdeal.main_v4_3) = v4 c
          ∧ r.2.mem ((c.tc : Thread Cert.AdamSmallThreeIdeal.nD Cert.AdamSmallThreeIdeal.τ).loc Cert.AdamSmallThreeIdeal.main_v4_5) = v5 c
          ∧ r.2.mem ((c.tc : Thread Cert.AdamSmallThreeIdeal.nD Cert.AdamSmallThreeIdeal.τ).loc Cert.AdamSmallThreeIdeal.main_arg0) = m ((c.tc : Thread Cert.AdamSmallThreeIdeal.nD Cert.AdamSmallThreeIdeal.τ).loc Cert.AdamSmallThreeIdeal.main_arg0)
          ∧ r.2.mem ((c.tc : Thread Cert.AdamSmallThreeIdeal.nD Cert.AdamSmallThreeIdeal.τ).loc Cert.AdamSmallThreeIdeal.main_arg1) = m ((c.tc : Thread Cert.AdamSmallThreeIdeal.nD Cert.AdamSmallThreeIdeal.τ).loc Cert.AdamSmallThreeIdeal.main_arg1)
          ∧ r.2.mem ((c.tc : Thread Cert.AdamSmallThreeIdeal.nD Cert.AdamSmallThreeIdeal.τ).loc Cert.AdamSmallThreeIdeal.main_arg2) = m ((c.tc : Thread Cert.AdamSmallThreeIdeal.nD Cert.AdamSmallThreeIdeal.τ).loc Cert.AdamSmallThreeIdeal.main_arg2)
          ∧ r.2.mem ((c.tc : Thread Cert.AdamSmallThreeIdeal.nD Cert.AdamSmallThreeIdeal.τ).loc Cert.AdamSmallThreeIdeal.main_arg3) = m ((c.tc : Thread Cert.AdamSmallThreeIdeal.nD Cert.AdamSmallThreeIdeal.τ).loc Cert.AdamSmallThreeIdeal.main_arg3)
          ∧ r.2.mem ((c.tc : Thread Cert.AdamSmallThreeIdeal.nD Cert.AdamSmallThreeIdeal.τ).loc Cert.AdamSmallThreeIdeal.main_arg4) = m ((c.tc : Thread Cert.AdamSmallThreeIdeal.nD Cert.AdamSmallThreeIdeal.τ).loc Cert.AdamSmallThreeIdeal.main_arg4)
          ∧ r.2.mem ((c.tc : Thread Cert.AdamSmallThreeIdeal.nD Cert.AdamSmallThreeIdeal.τ).loc Cert.AdamSmallThreeIdeal.main_arg5) = m ((c.tc : Thread Cert.AdamSmallThreeIdeal.nD Cert.AdamSmallThreeIdeal.τ).loc Cert.AdamSmallThreeIdeal.main_arg5)
          ∧ r.2.mem ((c.tc : Thread Cert.AdamSmallThreeIdeal.nD Cert.AdamSmallThreeIdeal.τ).loc Cert.AdamSmallThreeIdeal.main_arg6) = m ((c.tc : Thread Cert.AdamSmallThreeIdeal.nD Cert.AdamSmallThreeIdeal.τ).loc Cert.AdamSmallThreeIdeal.main_arg6)
          ∧ r.2.mem ((c.tc : Thread Cert.AdamSmallThreeIdeal.nD Cert.AdamSmallThreeIdeal.τ).loc Cert.AdamSmallThreeIdeal.main_arg7) = m ((c.tc : Thread Cert.AdamSmallThreeIdeal.nD Cert.AdamSmallThreeIdeal.τ).loc Cert.AdamSmallThreeIdeal.main_arg7))
      ∧ θ_run (Cert.AdamSmallThreeRefIdeal.defs (F := Ideal)) (onTc (τ := Cert.AdamSmallThreeRefIdeal.τ) (Cert.AdamSmallThreeRefIdeal.main (F := Ideal))) ⟨m', fun _ => 0, g'⟩ (fun r => ∀ c : Dev Cert.AdamSmallThreeRefIdeal.nD,
          r.2.mem ((c.tc : Thread Cert.AdamSmallThreeRefIdeal.nD Cert.AdamSmallThreeRefIdeal.τ).loc Cert.AdamSmallThreeRefIdeal.main_v24) = v0 c
          ∧ r.2.mem ((c.tc : Thread Cert.AdamSmallThreeRefIdeal.nD Cert.AdamSmallThreeRefIdeal.τ).loc Cert.AdamSmallThreeRefIdeal.main_v25) = v1 c
          ∧ r.2.mem ((c.tc : Thread Cert.AdamSmallThreeRefIdeal.nD Cert.AdamSmallThreeRefIdeal.τ).loc Cert.AdamSmallThreeRefIdeal.main_v26) = v2 c
          ∧ r.2.mem ((c.tc : Thread Cert.AdamSmallThreeRefIdeal.nD Cert.AdamSmallThreeRefIdeal.τ).loc Cert.AdamSmallThreeRefIdeal.main_v50) = v3 c
          ∧ r.2.mem ((c.tc : Thread Cert.AdamSmallThreeRefIdeal.nD Cert.AdamSmallThreeRefIdeal.τ).loc Cert.AdamSmallThreeRefIdeal.main_v31) = v4 c
          ∧ r.2.mem ((c.tc : Thread Cert.AdamSmallThreeRefIdeal.nD Cert.AdamSmallThreeRefIdeal.τ).loc Cert.AdamSmallThreeRefIdeal.main_v37) = v5 c
          ∧ r.2.mem ((c.tc : Thread Cert.AdamSmallThreeRefIdeal.nD Cert.AdamSmallThreeRefIdeal.τ).loc Cert.AdamSmallThreeRefIdeal.main_arg0) = m' ((c.tc : Thread Cert.AdamSmallThreeRefIdeal.nD Cert.AdamSmallThreeRefIdeal.τ).loc Cert.AdamSmallThreeRefIdeal.main_arg0)
          ∧ r.2.mem ((c.tc : Thread Cert.AdamSmallThreeRefIdeal.nD Cert.AdamSmallThreeRefIdeal.τ).loc Cert.AdamSmallThreeRefIdeal.main_arg1) = m' ((c.tc : Thread Cert.AdamSmallThreeRefIdeal.nD Cert.AdamSmallThreeRefIdeal.τ).loc Cert.AdamSmallThreeRefIdeal.main_arg1)
          ∧ r.2.mem ((c.tc : Thread Cert.AdamSmallThreeRefIdeal.nD Cert.AdamSmallThreeRefIdeal.τ).loc Cert.AdamSmallThreeRefIdeal.main_arg2) = m' ((c.tc : Thread Cert.AdamSmallThreeRefIdeal.nD Cert.AdamSmallThreeRefIdeal.τ).loc Cert.AdamSmallThreeRefIdeal.main_arg2)
          ∧ r.2.mem ((c.tc : Thread Cert.AdamSmallThreeRefIdeal.nD Cert.AdamSmallThreeRefIdeal.τ).loc Cert.AdamSmallThreeRefIdeal.main_arg3) = m' ((c.tc : Thread Cert.AdamSmallThreeRefIdeal.nD Cert.AdamSmallThreeRefIdeal.τ).loc Cert.AdamSmallThreeRefIdeal.main_arg3)
          ∧ r.2.mem ((c.tc : Thread Cert.AdamSmallThreeRefIdeal.nD Cert.AdamSmallThreeRefIdeal.τ).loc Cert.AdamSmallThreeRefIdeal.main_arg4) = m' ((c.tc : Thread Cert.AdamSmallThreeRefIdeal.nD Cert.AdamSmallThreeRefIdeal.τ).loc Cert.AdamSmallThreeRefIdeal.main_arg4)
          ∧ r.2.mem ((c.tc : Thread Cert.AdamSmallThreeRefIdeal.nD Cert.AdamSmallThreeRefIdeal.τ).loc Cert.AdamSmallThreeRefIdeal.main_arg5) = m' ((c.tc : Thread Cert.AdamSmallThreeRefIdeal.nD Cert.AdamSmallThreeRefIdeal.τ).loc Cert.AdamSmallThreeRefIdeal.main_arg5)
          ∧ r.2.mem ((c.tc : Thread Cert.AdamSmallThreeRefIdeal.nD Cert.AdamSmallThreeRefIdeal.τ).loc Cert.AdamSmallThreeRefIdeal.main_arg6) = m' ((c.tc : Thread Cert.AdamSmallThreeRefIdeal.nD Cert.AdamSmallThreeRefIdeal.τ).loc Cert.AdamSmallThreeRefIdeal.main_arg6)
          ∧ r.2.mem ((c.tc : Thread Cert.AdamSmallThreeRefIdeal.nD Cert.AdamSmallThreeRefIdeal.τ).loc Cert.AdamSmallThreeRefIdeal.main_arg7) = m' ((c.tc : Thread Cert.AdamSmallThreeRefIdeal.nD Cert.AdamSmallThreeRefIdeal.τ).loc Cert.AdamSmallThreeRefIdeal.main_arg7))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)) (v3 : (c : Dev Cert.AdamInIdeal.nD) → Buf (Elt Ideal) ((c.tc : Thread Cert.AdamInIdeal.nD Cert.AdamInIdeal.τ).loc Cert.AdamInIdeal.main_v3_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_v3_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v29) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v31) = v2 c
          ∧ r.2.mem ((c.tc : Thread Cert.AdamInRefIdeal.nD Cert.AdamInRefIdeal.τ).loc Cert.AdamInRefIdeal.main_v32) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6))

def preserves_AdamFf_AdamFfIdeal : Prop :=
  True

def algebraic_AdamFfIdeal_AdamFfRefIdeal [hAdamFfIdeal : Cert.AdamFfIdeal.Facts] [hAdamFfRefIdeal : Cert.AdamFfRefIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg)
    (m' : (ℓ : Loc Cert.AdamFfRefIdeal.nD Cert.AdamFfRefIdeal.τ Cert.AdamFfRefIdeal.sig) → Buf (Elt Ideal) ℓ) (g' : Dev Cert.AdamFfRefIdeal.nD → PrngReg), Pre_AdamFfIdeal m →
    (∀ c : Dev Cert.AdamFfIdeal.nD,
      m' ((c.tc : Thread Cert.AdamFfRefIdeal.nD Cert.AdamFfRefIdeal.τ).loc Cert.AdamFfRefIdeal.main_arg0) = m ((c.tc : Thread Cert.AdamFfIdeal.nD Cert.AdamFfIdeal.τ).loc Cert.AdamFfIdeal.main_arg0)
      ∧ m' ((c.tc : Thread Cert.AdamFfRefIdeal.nD Cert.AdamFfRefIdeal.τ).loc Cert.AdamFfRefIdeal.main_arg1) = m ((c.tc : Thread Cert.AdamFfIdeal.nD Cert.AdamFfIdeal.τ).loc Cert.AdamFfIdeal.main_arg1)
      ∧ m' ((c.tc : Thread Cert.AdamFfRefIdeal.nD Cert.AdamFfRefIdeal.τ).loc Cert.AdamFfRefIdeal.main_arg2) = m ((c.tc : Thread Cert.AdamFfIdeal.nD Cert.AdamFfIdeal.τ).loc Cert.AdamFfIdeal.main_arg2)
      ∧ m' ((c.tc : Thread Cert.AdamFfRefIdeal.nD Cert.AdamFfRefIdeal.τ).loc Cert.AdamFfRefIdeal.main_arg3) = m ((c.tc : Thread Cert.AdamFfIdeal.nD Cert.AdamFfIdeal.τ).loc Cert.AdamFfIdeal.main_arg3)
      ∧ m' ((c.tc : Thread Cert.AdamFfRefIdeal.nD Cert.AdamFfRefIdeal.τ).loc Cert.AdamFfRefIdeal.main_arg4) = m ((c.tc : Thread Cert.AdamFfIdeal.nD Cert.AdamFfIdeal.τ).loc Cert.AdamFfIdeal.main_arg4)
      ∧ m' ((c.tc : Thread Cert.AdamFfRefIdeal.nD Cert.AdamFfRefIdeal.τ).loc Cert.AdamFfRefIdeal.main_arg5) = m ((c.tc : Thread Cert.AdamFfIdeal.nD Cert.AdamFfIdeal.τ).loc Cert.AdamFfIdeal.main_arg5)
      ∧ m' ((c.tc : Thread Cert.AdamFfRefIdeal.nD Cert.AdamFfRefIdeal.τ).loc Cert.AdamFfRefIdeal.main_arg6) = m ((c.tc : Thread Cert.AdamFfIdeal.nD Cert.AdamFfIdeal.τ).loc Cert.AdamFfIdeal.main_arg6)) →
    ∃ (v0 : (c : Dev Cert.AdamFfIdeal.nD) → Buf (Elt Ideal) ((c.tc : Thread Cert.AdamFfIdeal.nD Cert.AdamFfIdeal.τ).loc Cert.AdamFfIdeal.main_v3_0)) (v1 : (c : Dev Cert.AdamFfIdeal.nD) → Buf (Elt Ideal) ((c.tc : Thread Cert.AdamFfIdeal.nD Cert.AdamFfIdeal.τ).loc Cert.AdamFfIdeal.main_v3_1)) (v2 : (c : Dev Cert.AdamFfIdeal.nD) → Buf (Elt Ideal) ((c.tc : Thread Cert.AdamFfIdeal.nD Cert.AdamFfIdeal.τ).loc Cert.AdamFfIdeal.main_v3_2)) (v3 : (c : Dev Cert.AdamFfIdeal.nD) → Buf (Elt Ideal) ((c.tc : Thread Cert.AdamFfIdeal.nD Cert.AdamFfIdeal.τ).loc Cert.AdamFfIdeal.main_v3_3)),
      θ_run (Cert.AdamFfIdeal.defs (F := Ideal)) (onTc (τ := Cert.AdamFfIdeal.τ) (Cert.AdamFfIdeal.main (F := Ideal))) ⟨m, fun _ => 0, g⟩ (fun r => ∀ c : Dev Cert.AdamFfIdeal.nD,
          r.2.mem ((c.tc : Thread Cert.AdamFfIdeal.nD Cert.AdamFfIdeal.τ).loc Cert.AdamFfIdeal.main_v3_0) = v0 c
          ∧ r.2.mem ((c.tc : Thread Cert.AdamFfIdeal.nD Cert.AdamFfIdeal.τ).loc Cert.AdamFfIdeal.main_v3_1) = v1 c
          ∧ r.2.mem ((c.tc : Thread Cert.AdamFfIdeal.nD Cert.AdamFfIdeal.τ).loc Cert.AdamFfIdeal.main_v3_2) = v2 c
          ∧ r.2.mem ((c.tc : Thread Cert.AdamFfIdeal.nD Cert.AdamFfIdeal.τ).loc Cert.AdamFfIdeal.main_v3_3) = v3 c
          ∧ r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
          ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
          ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
          ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
          ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4)
          ∧ r.2.mem ((c.tc : Thread Cert.AdamFfIdeal.nD Cert.AdamFfIdeal.τ).loc Cert.AdamFfIdeal.main_arg5) = m ((c.tc : Thread Cert.AdamFfIdeal.nD Cert.AdamFfIdeal.τ).loc Cert.AdamFfIdeal.main_arg5)
          ∧ r.2.mem ((c.tc : Thread Cert.AdamFfIdeal.nD Cert.AdamFfIdeal.τ).loc Cert.AdamFfIdeal.main_arg6) = m ((c.tc : Thread Cert.AdamFfIdeal.nD Cert.AdamFfIdeal.τ).loc Cert.AdamFfIdeal.main_arg6))
      ∧ θ_run (Cert.AdamFfRefIdeal.defs (F := Ideal)) (onTc (τ := Cert.AdamFfRefIdeal.τ) (Cert.AdamFfRefIdeal.main (F := Ideal))) ⟨m', fun _ => 0, g'⟩ (fun r => ∀ c : Dev Cert.AdamFfRefIdeal.nD,
          r.2.mem ((c.tc : Thread Cert.AdamFfRefIdeal.nD Cert.AdamFfRefIdeal.τ).loc Cert.AdamFfRefIdeal.main_v29) = v0 c
          ∧ r.2.mem ((c.tc : Thread Cert.AdamFfRefIdeal.nD Cert.AdamFfRefIdeal.τ).loc Cert.AdamFfRefIdeal.main_v30) = v1 c
          ∧ r.2.mem ((c.tc : Thread Cert.AdamFfRefIdeal.nD Cert.AdamFfRefIdeal.τ).loc Cert.AdamFfRefIdeal.main_v31) = v2 c
          ∧ r.2.mem ((c.tc : Thread Cert.AdamFfRefIdeal.nD Cert.AdamFfRefIdeal.τ).loc Cert.AdamFfRefIdeal.main_v32) = v3 c
          ∧ r.2.mem ((c.tc : Thread Cert.AdamFfRefIdeal.nD Cert.AdamFfRefIdeal.τ).loc Cert.AdamFfRefIdeal.main_arg0) = m' ((c.tc : Thread Cert.AdamFfRefIdeal.nD Cert.AdamFfRefIdeal.τ).loc Cert.AdamFfRefIdeal.main_arg0)
          ∧ r.2.mem ((c.tc : Thread Cert.AdamFfRefIdeal.nD Cert.AdamFfRefIdeal.τ).loc Cert.AdamFfRefIdeal.main_arg1) = m' ((c.tc : Thread Cert.AdamFfRefIdeal.nD Cert.AdamFfRefIdeal.τ).loc Cert.AdamFfRefIdeal.main_arg1)
          ∧ r.2.mem ((c.tc : Thread Cert.AdamFfRefIdeal.nD Cert.AdamFfRefIdeal.τ).loc Cert.AdamFfRefIdeal.main_arg2) = m' ((c.tc : Thread Cert.AdamFfRefIdeal.nD Cert.AdamFfRefIdeal.τ).loc Cert.AdamFfRefIdeal.main_arg2)
          ∧ r.2.mem ((c.tc : Thread Cert.AdamFfRefIdeal.nD Cert.AdamFfRefIdeal.τ).loc Cert.AdamFfRefIdeal.main_arg3) = m' ((c.tc : Thread Cert.AdamFfRefIdeal.nD Cert.AdamFfRefIdeal.τ).loc Cert.AdamFfRefIdeal.main_arg3)
          ∧ r.2.mem ((c.tc : Thread Cert.AdamFfRefIdeal.nD Cert.AdamFfRefIdeal.τ).loc Cert.AdamFfRefIdeal.main_arg4) = m' ((c.tc : Thread Cert.AdamFfRefIdeal.nD Cert.AdamFfRefIdeal.τ).loc Cert.AdamFfRefIdeal.main_arg4)
          ∧ r.2.mem ((c.tc : Thread Cert.AdamFfRefIdeal.nD Cert.AdamFfRefIdeal.τ).loc Cert.AdamFfRefIdeal.main_arg5) = m' ((c.tc : Thread Cert.AdamFfRefIdeal.nD Cert.AdamFfRefIdeal.τ).loc Cert.AdamFfRefIdeal.main_arg5)
          ∧ r.2.mem ((c.tc : Thread Cert.AdamFfRefIdeal.nD Cert.AdamFfRefIdeal.τ).loc Cert.AdamFfRefIdeal.main_arg6) = m' ((c.tc : Thread Cert.AdamFfRefIdeal.nD Cert.AdamFfRefIdeal.τ).loc Cert.AdamFfRefIdeal.main_arg6))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)
      ∧ m' ((c.tc : Thread Cert.AdamORefIdeal.nD Cert.AdamORefIdeal.τ).loc Cert.AdamORefIdeal.main_arg4) = m ((c.tc : Thread Cert.AdamOIdeal.nD Cert.AdamOIdeal.τ).loc Cert.AdamOIdeal.main_arg4)
      ∧ m' ((c.tc : Thread Cert.AdamORefIdeal.nD Cert.AdamORefIdeal.τ).loc Cert.AdamORefIdeal.main_arg5) = m ((c.tc : Thread Cert.AdamOIdeal.nD Cert.AdamOIdeal.τ).loc Cert.AdamOIdeal.main_arg5)
      ∧ m' ((c.tc : Thread Cert.AdamORefIdeal.nD Cert.AdamORefIdeal.τ).loc Cert.AdamORefIdeal.main_arg6) = m ((c.tc : Thread Cert.AdamOIdeal.nD Cert.AdamOIdeal.τ).loc Cert.AdamOIdeal.main_arg6)) →
    ∃ (v0 : (c : Dev Cert.AdamOIdeal.nD) → Buf (Elt Ideal) ((c.tc : Thread Cert.AdamOIdeal.nD Cert.AdamOIdeal.τ).loc Cert.AdamOIdeal.main_v3_0)) (v1 : (c : Dev Cert.AdamOIdeal.nD) → Buf (Elt Ideal) ((c.tc : Thread Cert.AdamOIdeal.nD Cert.AdamOIdeal.τ).loc Cert.AdamOIdeal.main_v3_1)) (v2 : (c : Dev Cert.AdamOIdeal.nD) → Buf (Elt Ideal) ((c.tc : Thread Cert.AdamOIdeal.nD Cert.AdamOIdeal.τ).loc Cert.AdamOIdeal.main_v3_2)) (v3 : (c : Dev Cert.AdamOIdeal.nD) → Buf (Elt Ideal) ((c.tc : Thread Cert.AdamOIdeal.nD Cert.AdamOIdeal.τ).loc Cert.AdamOIdeal.main_v3_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v3_0) = v0 c
          ∧ r.2.mem ((c.tc : Thread Cert.AdamOIdeal.nD Cert.AdamOIdeal.τ).loc Cert.AdamOIdeal.main_v3_1) = v1 c
          ∧ r.2.mem ((c.tc : Thread Cert.AdamOIdeal.nD Cert.AdamOIdeal.τ).loc Cert.AdamOIdeal.main_v3_2) = v2 c
          ∧ r.2.mem ((c.tc : Thread Cert.AdamOIdeal.nD Cert.AdamOIdeal.τ).loc Cert.AdamOIdeal.main_v3_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
          ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
          ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
          ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v29) = v0 c
          ∧ r.2.mem ((c.tc : Thread Cert.AdamORefIdeal.nD Cert.AdamORefIdeal.τ).loc Cert.AdamORefIdeal.main_v30) = v1 c
          ∧ r.2.mem ((c.tc : Thread Cert.AdamORefIdeal.nD Cert.AdamORefIdeal.τ).loc Cert.AdamORefIdeal.main_v31) = v2 c
          ∧ r.2.mem ((c.tc : Thread Cert.AdamORefIdeal.nD Cert.AdamORefIdeal.τ).loc Cert.AdamORefIdeal.main_v32) = v3 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3)
          ∧ r.2.mem ((c.tc : Thread Cert.AdamORefIdeal.nD Cert.AdamORefIdeal.τ).loc Cert.AdamORefIdeal.main_arg4) = m' ((c.tc : Thread Cert.AdamORefIdeal.nD Cert.AdamORefIdeal.τ).loc Cert.AdamORefIdeal.main_arg4)
          ∧ r.2.mem ((c.tc : Thread Cert.AdamORefIdeal.nD Cert.AdamORefIdeal.τ).loc Cert.AdamORefIdeal.main_arg5) = m' ((c.tc : Thread Cert.AdamORefIdeal.nD Cert.AdamORefIdeal.τ).loc Cert.AdamORefIdeal.main_arg5)
          ∧ r.2.mem ((c.tc : Thread Cert.AdamORefIdeal.nD Cert.AdamORefIdeal.τ).loc Cert.AdamORefIdeal.main_arg6) = m' ((c.tc : Thread Cert.AdamORefIdeal.nD Cert.AdamORefIdeal.τ).loc Cert.AdamORefIdeal.main_arg6))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)
      ∧ m' ((c.tc : Thread Cert.AdamUpRefIdeal.nD Cert.AdamUpRefIdeal.τ).loc Cert.AdamUpRefIdeal.main_arg6) = m ((c.tc : Thread Cert.AdamUpIdeal.nD Cert.AdamUpIdeal.τ).loc Cert.AdamUpIdeal.main_arg6)) →
    ∃ (v0 : (c : Dev Cert.AdamUpIdeal.nD) → Buf (Elt Ideal) ((c.tc : Thread Cert.AdamUpIdeal.nD Cert.AdamUpIdeal.τ).loc Cert.AdamUpIdeal.main_v3_0)) (v1 : (c : Dev Cert.AdamUpIdeal.nD) → Buf (Elt Ideal) ((c.tc : Thread Cert.AdamUpIdeal.nD Cert.AdamUpIdeal.τ).loc Cert.AdamUpIdeal.main_v3_1)) (v2 : (c : Dev Cert.AdamUpIdeal.nD) → Buf (Elt Ideal) ((c.tc : Thread Cert.AdamUpIdeal.nD Cert.AdamUpIdeal.τ).loc Cert.AdamUpIdeal.main_v3_2)) (v3 : (c : Dev Cert.AdamUpIdeal.nD) → Buf (Elt Ideal) ((c.tc : Thread Cert.AdamUpIdeal.nD Cert.AdamUpIdeal.τ).loc Cert.AdamUpIdeal.main_v3_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v3_0) = v0 c
          ∧ r.2.mem ((c.tc : Thread Cert.AdamUpIdeal.nD Cert.AdamUpIdeal.τ).loc Cert.AdamUpIdeal.main_v3_1) = v1 c
          ∧ r.2.mem ((c.tc : Thread Cert.AdamUpIdeal.nD Cert.AdamUpIdeal.τ).loc Cert.AdamUpIdeal.main_v3_2) = v2 c
          ∧ r.2.mem ((c.tc : Thread Cert.AdamUpIdeal.nD Cert.AdamUpIdeal.τ).loc Cert.AdamUpIdeal.main_v3_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v29) = v0 c
          ∧ r.2.mem ((c.tc : Thread Cert.AdamUpRefIdeal.nD Cert.AdamUpRefIdeal.τ).loc Cert.AdamUpRefIdeal.main_v30) = v1 c
          ∧ r.2.mem ((c.tc : Thread Cert.AdamUpRefIdeal.nD Cert.AdamUpRefIdeal.τ).loc Cert.AdamUpRefIdeal.main_v31) = v2 c
          ∧ r.2.mem ((c.tc : Thread Cert.AdamUpRefIdeal.nD Cert.AdamUpRefIdeal.τ).loc Cert.AdamUpRefIdeal.main_v32) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5)
          ∧ r.2.mem ((c.tc : Thread Cert.AdamUpRefIdeal.nD Cert.AdamUpRefIdeal.τ).loc Cert.AdamUpRefIdeal.main_arg6) = m' ((c.tc : Thread Cert.AdamUpRefIdeal.nD Cert.AdamUpRefIdeal.τ).loc Cert.AdamUpRefIdeal.main_arg6))

def preserves_AdamAttn_AdamAttnIdeal : Prop :=
  True

def algebraic_AdamAttnIdeal_AdamAttnRefIdeal [hAdamAttnIdeal : Cert.AdamAttnIdeal.Facts] [hAdamAttnRefIdeal : Cert.AdamAttnRefIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg)
    (m' : (ℓ : Loc Cert.AdamAttnRefIdeal.nD Cert.AdamAttnRefIdeal.τ Cert.AdamAttnRefIdeal.sig) → Buf (Elt Ideal) ℓ) (g' : Dev Cert.AdamAttnRefIdeal.nD → PrngReg), Pre_AdamAttnIdeal m →
    (∀ c : Dev Cert.AdamAttnIdeal.nD,
      m' ((c.tc : Thread Cert.AdamAttnRefIdeal.nD Cert.AdamAttnRefIdeal.τ).loc Cert.AdamAttnRefIdeal.main_arg0) = m ((c.tc : Thread Cert.AdamAttnIdeal.nD Cert.AdamAttnIdeal.τ).loc Cert.AdamAttnIdeal.main_arg0)
      ∧ m' ((c.tc : Thread Cert.AdamAttnRefIdeal.nD Cert.AdamAttnRefIdeal.τ).loc Cert.AdamAttnRefIdeal.main_arg1) = m ((c.tc : Thread Cert.AdamAttnIdeal.nD Cert.AdamAttnIdeal.τ).loc Cert.AdamAttnIdeal.main_arg1)
      ∧ m' ((c.tc : Thread Cert.AdamAttnRefIdeal.nD Cert.AdamAttnRefIdeal.τ).loc Cert.AdamAttnRefIdeal.main_arg2) = m ((c.tc : Thread Cert.AdamAttnIdeal.nD Cert.AdamAttnIdeal.τ).loc Cert.AdamAttnIdeal.main_arg2)
      ∧ m' ((c.tc : Thread Cert.AdamAttnRefIdeal.nD Cert.AdamAttnRefIdeal.τ).loc Cert.AdamAttnRefIdeal.main_arg3) = m ((c.tc : Thread Cert.AdamAttnIdeal.nD Cert.AdamAttnIdeal.τ).loc Cert.AdamAttnIdeal.main_arg3)
      ∧ m' ((c.tc : Thread Cert.AdamAttnRefIdeal.nD Cert.AdamAttnRefIdeal.τ).loc Cert.AdamAttnRefIdeal.main_arg4) = m ((c.tc : Thread Cert.AdamAttnIdeal.nD Cert.AdamAttnIdeal.τ).loc Cert.AdamAttnIdeal.main_arg4)
      ∧ m' ((c.tc : Thread Cert.AdamAttnRefIdeal.nD Cert.AdamAttnRefIdeal.τ).loc Cert.AdamAttnRefIdeal.main_arg5) = m ((c.tc : Thread Cert.AdamAttnIdeal.nD Cert.AdamAttnIdeal.τ).loc Cert.AdamAttnIdeal.main_arg5)
      ∧ m' ((c.tc : Thread Cert.AdamAttnRefIdeal.nD Cert.AdamAttnRefIdeal.τ).loc Cert.AdamAttnRefIdeal.main_arg6) = m ((c.tc : Thread Cert.AdamAttnIdeal.nD Cert.AdamAttnIdeal.τ).loc Cert.AdamAttnIdeal.main_arg6)) →
    ∃ (v0 : (c : Dev Cert.AdamAttnIdeal.nD) → Buf (Elt Ideal) ((c.tc : Thread Cert.AdamAttnIdeal.nD Cert.AdamAttnIdeal.τ).loc Cert.AdamAttnIdeal.main_v3_0)) (v1 : (c : Dev Cert.AdamAttnIdeal.nD) → Buf (Elt Ideal) ((c.tc : Thread Cert.AdamAttnIdeal.nD Cert.AdamAttnIdeal.τ).loc Cert.AdamAttnIdeal.main_v3_1)) (v2 : (c : Dev Cert.AdamAttnIdeal.nD) → Buf (Elt Ideal) ((c.tc : Thread Cert.AdamAttnIdeal.nD Cert.AdamAttnIdeal.τ).loc Cert.AdamAttnIdeal.main_v3_2)) (v3 : (c : Dev Cert.AdamAttnIdeal.nD) → Buf (Elt Ideal) ((c.tc : Thread Cert.AdamAttnIdeal.nD Cert.AdamAttnIdeal.τ).loc Cert.AdamAttnIdeal.main_v3_3)),
      θ_run (Cert.AdamAttnIdeal.defs (F := Ideal)) (onTc (τ := Cert.AdamAttnIdeal.τ) (Cert.AdamAttnIdeal.main (F := Ideal))) ⟨m, fun _ => 0, g⟩ (fun r => ∀ c : Dev Cert.AdamAttnIdeal.nD,
          r.2.mem ((c.tc : Thread Cert.AdamAttnIdeal.nD Cert.AdamAttnIdeal.τ).loc Cert.AdamAttnIdeal.main_v3_0) = v0 c
          ∧ r.2.mem ((c.tc : Thread Cert.AdamAttnIdeal.nD Cert.AdamAttnIdeal.τ).loc Cert.AdamAttnIdeal.main_v3_1) = v1 c
          ∧ r.2.mem ((c.tc : Thread Cert.AdamAttnIdeal.nD Cert.AdamAttnIdeal.τ).loc Cert.AdamAttnIdeal.main_v3_2) = v2 c
          ∧ r.2.mem ((c.tc : Thread Cert.AdamAttnIdeal.nD Cert.AdamAttnIdeal.τ).loc Cert.AdamAttnIdeal.main_v3_3) = v3 c
          ∧ r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
          ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
          ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
          ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3)
          ∧ r.2.mem ((c.tc : Thread Cert.AdamAttnIdeal.nD Cert.AdamAttnIdeal.τ).loc Cert.AdamAttnIdeal.main_arg4) = m ((c.tc : Thread Cert.AdamAttnIdeal.nD Cert.AdamAttnIdeal.τ).loc Cert.AdamAttnIdeal.main_arg4)
          ∧ r.2.mem ((c.tc : Thread Cert.AdamAttnIdeal.nD Cert.AdamAttnIdeal.τ).loc Cert.AdamAttnIdeal.main_arg5) = m ((c.tc : Thread Cert.AdamAttnIdeal.nD Cert.AdamAttnIdeal.τ).loc Cert.AdamAttnIdeal.main_arg5)
          ∧ r.2.mem ((c.tc : Thread Cert.AdamAttnIdeal.nD Cert.AdamAttnIdeal.τ).loc Cert.AdamAttnIdeal.main_arg6) = m ((c.tc : Thread Cert.AdamAttnIdeal.nD Cert.AdamAttnIdeal.τ).loc Cert.AdamAttnIdeal.main_arg6))
      ∧ θ_run (Cert.AdamAttnRefIdeal.defs (F := Ideal)) (onTc (τ := Cert.AdamAttnRefIdeal.τ) (Cert.AdamAttnRefIdeal.main (F := Ideal))) ⟨m', fun _ => 0, g'⟩ (fun r => ∀ c : Dev Cert.AdamAttnRefIdeal.nD,
          r.2.mem ((c.tc : Thread Cert.AdamAttnRefIdeal.nD Cert.AdamAttnRefIdeal.τ).loc Cert.AdamAttnRefIdeal.main_v29) = v0 c
          ∧ r.2.mem ((c.tc : Thread Cert.AdamAttnRefIdeal.nD Cert.AdamAttnRefIdeal.τ).loc Cert.AdamAttnRefIdeal.main_v30) = v1 c
          ∧ r.2.mem ((c.tc : Thread Cert.AdamAttnRefIdeal.nD Cert.AdamAttnRefIdeal.τ).loc Cert.AdamAttnRefIdeal.main_v31) = v2 c
          ∧ r.2.mem ((c.tc : Thread Cert.AdamAttnRefIdeal.nD Cert.AdamAttnRefIdeal.τ).loc Cert.AdamAttnRefIdeal.main_v32) = v3 c
          ∧ r.2.mem ((c.tc : Thread Cert.AdamAttnRefIdeal.nD Cert.AdamAttnRefIdeal.τ).loc Cert.AdamAttnRefIdeal.main_arg0) = m' ((c.tc : Thread Cert.AdamAttnRefIdeal.nD Cert.AdamAttnRefIdeal.τ).loc Cert.AdamAttnRefIdeal.main_arg0)
          ∧ r.2.mem ((c.tc : Thread Cert.AdamAttnRefIdeal.nD Cert.AdamAttnRefIdeal.τ).loc Cert.AdamAttnRefIdeal.main_arg1) = m' ((c.tc : Thread Cert.AdamAttnRefIdeal.nD Cert.AdamAttnRefIdeal.τ).loc Cert.AdamAttnRefIdeal.main_arg1)
          ∧ r.2.mem ((c.tc : Thread Cert.AdamAttnRefIdeal.nD Cert.AdamAttnRefIdeal.τ).loc Cert.AdamAttnRefIdeal.main_arg2) = m' ((c.tc : Thread Cert.AdamAttnRefIdeal.nD Cert.AdamAttnRefIdeal.τ).loc Cert.AdamAttnRefIdeal.main_arg2)
          ∧ r.2.mem ((c.tc : Thread Cert.AdamAttnRefIdeal.nD Cert.AdamAttnRefIdeal.τ).loc Cert.AdamAttnRefIdeal.main_arg3) = m' ((c.tc : Thread Cert.AdamAttnRefIdeal.nD Cert.AdamAttnRefIdeal.τ).loc Cert.AdamAttnRefIdeal.main_arg3)
          ∧ r.2.mem ((c.tc : Thread Cert.AdamAttnRefIdeal.nD Cert.AdamAttnRefIdeal.τ).loc Cert.AdamAttnRefIdeal.main_arg4) = m' ((c.tc : Thread Cert.AdamAttnRefIdeal.nD Cert.AdamAttnRefIdeal.τ).loc Cert.AdamAttnRefIdeal.main_arg4)
          ∧ r.2.mem ((c.tc : Thread Cert.AdamAttnRefIdeal.nD Cert.AdamAttnRefIdeal.τ).loc Cert.AdamAttnRefIdeal.main_arg5) = m' ((c.tc : Thread Cert.AdamAttnRefIdeal.nD Cert.AdamAttnRefIdeal.τ).loc Cert.AdamAttnRefIdeal.main_arg5)
          ∧ r.2.mem ((c.tc : Thread Cert.AdamAttnRefIdeal.nD Cert.AdamAttnRefIdeal.τ).loc Cert.AdamAttnRefIdeal.main_arg6) = m' ((c.tc : Thread Cert.AdamAttnRefIdeal.nD Cert.AdamAttnRefIdeal.τ).loc Cert.AdamAttnRefIdeal.main_arg6))

def Claim : Prop :=
  ∃ (hKernel : Cert.Kernel.Facts) (hKernelIdeal : Cert.KernelIdeal.Facts) (hReferenceIdeal : Cert.ReferenceIdeal.Facts) (hDInAct : Cert.DInAct.Facts) (hDInActIdeal : Cert.DInActIdeal.Facts) (hDInActRefIdeal : Cert.DInActRefIdeal.Facts) (hDInW : Cert.DInW.Facts) (hDInWIdeal : Cert.DInWIdeal.Facts) (hDInWRefIdeal : Cert.DInWRefIdeal.Facts) (hDFf2Act : Cert.DFf2Act.Facts) (hDFf2ActIdeal : Cert.DFf2ActIdeal.Facts) (hDFf2ActRefIdeal : Cert.DFf2ActRefIdeal.Facts) (hDFf1Act : Cert.DFf1Act.Facts) (hDFf1ActIdeal : Cert.DFf1ActIdeal.Facts) (hDFf1ActRefIdeal : Cert.DFf1ActRefIdeal.Facts) (hDFf2W : Cert.DFf2W.Facts) (hDFf2WIdeal : Cert.DFf2WIdeal.Facts) (hDFf2WRefIdeal : Cert.DFf2WRefIdeal.Facts) (hDFf1W : Cert.DFf1W.Facts) (hDFf1WIdeal : Cert.DFf1WIdeal.Facts) (hDFf1WRefIdeal : Cert.DFf1WRefIdeal.Facts) (hDOutAct : Cert.DOutAct.Facts) (hDOutActIdeal : Cert.DOutActIdeal.Facts) (hDOutActRefIdeal : Cert.DOutActRefIdeal.Facts) (hDOutW : Cert.DOutW.Facts) (hDOutWIdeal : Cert.DOutWIdeal.Facts) (hDOutWRefIdeal : Cert.DOutWRefIdeal.Facts) (hInProj : Cert.InProj.Facts) (hInProjIdeal : Cert.InProjIdeal.Facts) (hInProjRefIdeal : Cert.InProjRefIdeal.Facts) (hFf1 : Cert.Ff1.Facts) (hFf1Ideal : Cert.Ff1Ideal.Facts) (hFf1RefIdeal : Cert.Ff1RefIdeal.Facts) (hFf2Loss : Cert.Ff2Loss.Facts) (hFf2LossIdeal : Cert.Ff2LossIdeal.Facts) (hFf2LossRefIdeal : Cert.Ff2LossRefIdeal.Facts) (hFf2Next : Cert.Ff2Next.Facts) (hFf2NextIdeal : Cert.Ff2NextIdeal.Facts) (hFf2NextRefIdeal : Cert.Ff2NextRefIdeal.Facts) (hOutProj : Cert.OutProj.Facts) (hOutProjIdeal : Cert.OutProjIdeal.Facts) (hOutProjRefIdeal : Cert.OutProjRefIdeal.Facts) (hRmsMix : Cert.RmsMix.Facts) (hRmsMixIdeal : Cert.RmsMixIdeal.Facts) (hRmsMixRefIdeal : Cert.RmsMixRefIdeal.Facts) (hDRmsMix : Cert.DRmsMix.Facts) (hDRmsMixIdeal : Cert.DRmsMixIdeal.Facts) (hDRmsMixRefIdeal : Cert.DRmsMixRefIdeal.Facts) (hMerge : Cert.Merge.Facts) (hMergeIdeal : Cert.MergeIdeal.Facts) (hMergeRefIdeal : Cert.MergeRefIdeal.Facts) (hAdamSmall : Cert.AdamSmall.Facts) (hAdamSmallIdeal : Cert.AdamSmallIdeal.Facts) (hAdamSmallRefIdeal : Cert.AdamSmallRefIdeal.Facts) (hAdamSmallTwo : Cert.AdamSmallTwo.Facts) (hAdamSmallTwoIdeal : Cert.AdamSmallTwoIdeal.Facts) (hAdamSmallTwoRefIdeal : Cert.AdamSmallTwoRefIdeal.Facts) (hAdamSmallThree : Cert.AdamSmallThree.Facts) (hAdamSmallThreeIdeal : Cert.AdamSmallThreeIdeal.Facts) (hAdamSmallThreeRefIdeal : Cert.AdamSmallThreeRefIdeal.Facts) (hAdamIn : Cert.AdamIn.Facts) (hAdamInIdeal : Cert.AdamInIdeal.Facts) (hAdamInRefIdeal : Cert.AdamInRefIdeal.Facts) (hAdamFf : Cert.AdamFf.Facts) (hAdamFfIdeal : Cert.AdamFfIdeal.Facts) (hAdamFfRefIdeal : Cert.AdamFfRefIdeal.Facts) (hAdamO : Cert.AdamO.Facts) (hAdamOIdeal : Cert.AdamOIdeal.Facts) (hAdamORefIdeal : Cert.AdamORefIdeal.Facts) (hAdamUp : Cert.AdamUp.Facts) (hAdamUpIdeal : Cert.AdamUpIdeal.Facts) (hAdamUpRefIdeal : Cert.AdamUpRefIdeal.Facts) (hAdamAttn : Cert.AdamAttn.Facts) (hAdamAttnIdeal : Cert.AdamAttnIdeal.Facts) (hAdamAttnRefIdeal : Cert.AdamAttnRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DInAct (hDInAct := hDInAct)
    ∧ quiescent_DInActIdeal (hDInActIdeal := hDInActIdeal)
    ∧ quiescent_DInActRefIdeal (hDInActRefIdeal := hDInActRefIdeal)
    ∧ quiescent_DInW (hDInW := hDInW)
    ∧ quiescent_DInWIdeal (hDInWIdeal := hDInWIdeal)
    ∧ quiescent_DInWRefIdeal (hDInWRefIdeal := hDInWRefIdeal)
    ∧ quiescent_DFf2Act (hDFf2Act := hDFf2Act)
    ∧ quiescent_DFf2ActIdeal (hDFf2ActIdeal := hDFf2ActIdeal)
    ∧ quiescent_DFf2ActRefIdeal (hDFf2ActRefIdeal := hDFf2ActRefIdeal)
    ∧ quiescent_DFf1Act (hDFf1Act := hDFf1Act)
    ∧ quiescent_DFf1ActIdeal (hDFf1ActIdeal := hDFf1ActIdeal)
    ∧ quiescent_DFf1ActRefIdeal (hDFf1ActRefIdeal := hDFf1ActRefIdeal)
    ∧ quiescent_DFf2W (hDFf2W := hDFf2W)
    ∧ quiescent_DFf2WIdeal (hDFf2WIdeal := hDFf2WIdeal)
    ∧ quiescent_DFf2WRefIdeal (hDFf2WRefIdeal := hDFf2WRefIdeal)
    ∧ quiescent_DFf1W (hDFf1W := hDFf1W)
    ∧ quiescent_DFf1WIdeal (hDFf1WIdeal := hDFf1WIdeal)
    ∧ quiescent_DFf1WRefIdeal (hDFf1WRefIdeal := hDFf1WRefIdeal)
    ∧ quiescent_DOutAct (hDOutAct := hDOutAct)
    ∧ quiescent_DOutActIdeal (hDOutActIdeal := hDOutActIdeal)
    ∧ quiescent_DOutActRefIdeal (hDOutActRefIdeal := hDOutActRefIdeal)
    ∧ quiescent_DOutW (hDOutW := hDOutW)
    ∧ quiescent_DOutWIdeal (hDOutWIdeal := hDOutWIdeal)
    ∧ quiescent_DOutWRefIdeal (hDOutWRefIdeal := hDOutWRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2Loss (hFf2Loss := hFf2Loss)
    ∧ quiescent_Ff2LossIdeal (hFf2LossIdeal := hFf2LossIdeal)
    ∧ quiescent_Ff2LossRefIdeal (hFf2LossRefIdeal := hFf2LossRefIdeal)
    ∧ quiescent_Ff2Next (hFf2Next := hFf2Next)
    ∧ quiescent_Ff2NextIdeal (hFf2NextIdeal := hFf2NextIdeal)
    ∧ quiescent_Ff2NextRefIdeal (hFf2NextRefIdeal := hFf2NextRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_RmsMix (hRmsMix := hRmsMix)
    ∧ quiescent_RmsMixIdeal (hRmsMixIdeal := hRmsMixIdeal)
    ∧ quiescent_RmsMixRefIdeal (hRmsMixRefIdeal := hRmsMixRefIdeal)
    ∧ quiescent_DRmsMix (hDRmsMix := hDRmsMix)
    ∧ quiescent_DRmsMixIdeal (hDRmsMixIdeal := hDRmsMixIdeal)
    ∧ quiescent_DRmsMixRefIdeal (hDRmsMixRefIdeal := hDRmsMixRefIdeal)
    ∧ quiescent_Merge (hMerge := hMerge)
    ∧ quiescent_MergeIdeal (hMergeIdeal := hMergeIdeal)
    ∧ quiescent_MergeRefIdeal (hMergeRefIdeal := hMergeRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamSmallTwo (hAdamSmallTwo := hAdamSmallTwo)
    ∧ quiescent_AdamSmallTwoIdeal (hAdamSmallTwoIdeal := hAdamSmallTwoIdeal)
    ∧ quiescent_AdamSmallTwoRefIdeal (hAdamSmallTwoRefIdeal := hAdamSmallTwoRefIdeal)
    ∧ quiescent_AdamSmallThree (hAdamSmallThree := hAdamSmallThree)
    ∧ quiescent_AdamSmallThreeIdeal (hAdamSmallThreeIdeal := hAdamSmallThreeIdeal)
    ∧ quiescent_AdamSmallThreeRefIdeal (hAdamSmallThreeRefIdeal := hAdamSmallThreeRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamFf (hAdamFf := hAdamFf)
    ∧ quiescent_AdamFfIdeal (hAdamFfIdeal := hAdamFfIdeal)
    ∧ quiescent_AdamFfRefIdeal (hAdamFfRefIdeal := hAdamFfRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamAttn (hAdamAttn := hAdamAttn)
    ∧ quiescent_AdamAttnIdeal (hAdamAttnIdeal := hAdamAttnIdeal)
    ∧ quiescent_AdamAttnRefIdeal (hAdamAttnRefIdeal := hAdamAttnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DInAct_DInActIdeal
    ∧ algebraic_DInActIdeal_DInActRefIdeal (hDInActIdeal := hDInActIdeal) (hDInActRefIdeal := hDInActRefIdeal)
    ∧ preserves_DInW_DInWIdeal
    ∧ algebraic_DInWIdeal_DInWRefIdeal (hDInWIdeal := hDInWIdeal) (hDInWRefIdeal := hDInWRefIdeal)
    ∧ preserves_DFf2Act_DFf2ActIdeal
    ∧ algebraic_DFf2ActIdeal_DFf2ActRefIdeal (hDFf2ActIdeal := hDFf2ActIdeal) (hDFf2ActRefIdeal := hDFf2ActRefIdeal)
    ∧ preserves_DFf1Act_DFf1ActIdeal
    ∧ algebraic_DFf1ActIdeal_DFf1ActRefIdeal (hDFf1ActIdeal := hDFf1ActIdeal) (hDFf1ActRefIdeal := hDFf1ActRefIdeal)
    ∧ preserves_DFf2W_DFf2WIdeal
    ∧ algebraic_DFf2WIdeal_DFf2WRefIdeal (hDFf2WIdeal := hDFf2WIdeal) (hDFf2WRefIdeal := hDFf2WRefIdeal)
    ∧ preserves_DFf1W_DFf1WIdeal
    ∧ algebraic_DFf1WIdeal_DFf1WRefIdeal (hDFf1WIdeal := hDFf1WIdeal) (hDFf1WRefIdeal := hDFf1WRefIdeal)
    ∧ preserves_DOutAct_DOutActIdeal
    ∧ algebraic_DOutActIdeal_DOutActRefIdeal (hDOutActIdeal := hDOutActIdeal) (hDOutActRefIdeal := hDOutActRefIdeal)
    ∧ preserves_DOutW_DOutWIdeal
    ∧ algebraic_DOutWIdeal_DOutWRefIdeal (hDOutWIdeal := hDOutWIdeal) (hDOutWRefIdeal := hDOutWRefIdeal)
    ∧ preserves_InProj_InProjIdeal
    ∧ algebraic_InProjIdeal_InProjRefIdeal (hInProjIdeal := hInProjIdeal) (hInProjRefIdeal := hInProjRefIdeal)
    ∧ preserves_Ff1_Ff1Ideal
    ∧ algebraic_Ff1Ideal_Ff1RefIdeal (hFf1Ideal := hFf1Ideal) (hFf1RefIdeal := hFf1RefIdeal)
    ∧ preserves_Ff2Loss_Ff2LossIdeal
    ∧ algebraic_Ff2LossIdeal_Ff2LossRefIdeal (hFf2LossIdeal := hFf2LossIdeal) (hFf2LossRefIdeal := hFf2LossRefIdeal)
    ∧ preserves_Ff2Next_Ff2NextIdeal
    ∧ algebraic_Ff2NextIdeal_Ff2NextRefIdeal (hFf2NextIdeal := hFf2NextIdeal) (hFf2NextRefIdeal := hFf2NextRefIdeal)
    ∧ preserves_OutProj_OutProjIdeal
    ∧ algebraic_OutProjIdeal_OutProjRefIdeal (hOutProjIdeal := hOutProjIdeal) (hOutProjRefIdeal := hOutProjRefIdeal)
    ∧ preserves_RmsMix_RmsMixIdeal
    ∧ algebraic_RmsMixIdeal_RmsMixRefIdeal (hRmsMixIdeal := hRmsMixIdeal) (hRmsMixRefIdeal := hRmsMixRefIdeal)
    ∧ preserves_DRmsMix_DRmsMixIdeal
    ∧ algebraic_DRmsMixIdeal_DRmsMixRefIdeal (hDRmsMixIdeal := hDRmsMixIdeal) (hDRmsMixRefIdeal := hDRmsMixRefIdeal)
    ∧ preserves_Merge_MergeIdeal
    ∧ algebraic_MergeIdeal_MergeRefIdeal (hMergeIdeal := hMergeIdeal) (hMergeRefIdeal := hMergeRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamSmallTwo_AdamSmallTwoIdeal
    ∧ algebraic_AdamSmallTwoIdeal_AdamSmallTwoRefIdeal (hAdamSmallTwoIdeal := hAdamSmallTwoIdeal) (hAdamSmallTwoRefIdeal := hAdamSmallTwoRefIdeal)
    ∧ preserves_AdamSmallThree_AdamSmallThreeIdeal
    ∧ algebraic_AdamSmallThreeIdeal_AdamSmallThreeRefIdeal (hAdamSmallThreeIdeal := hAdamSmallThreeIdeal) (hAdamSmallThreeRefIdeal := hAdamSmallThreeRefIdeal)
    ∧ preserves_AdamIn_AdamInIdeal
    ∧ algebraic_AdamInIdeal_AdamInRefIdeal (hAdamInIdeal := hAdamInIdeal) (hAdamInRefIdeal := hAdamInRefIdeal)
    ∧ preserves_AdamFf_AdamFfIdeal
    ∧ algebraic_AdamFfIdeal_AdamFfRefIdeal (hAdamFfIdeal := hAdamFfIdeal) (hAdamFfRefIdeal := hAdamFfRefIdeal)
    ∧ preserves_AdamO_AdamOIdeal
    ∧ algebraic_AdamOIdeal_AdamORefIdeal (hAdamOIdeal := hAdamOIdeal) (hAdamORefIdeal := hAdamORefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamAttn_AdamAttnIdeal
    ∧ algebraic_AdamAttnIdeal_AdamAttnRefIdeal (hAdamAttnIdeal := hAdamAttnIdeal) (hAdamAttnRefIdeal := hAdamAttnRefIdeal)
-- ==== Pre_finite.lean ====
abbrev S4096x7424 : Shape := ⟨2, ![4096, 7424]⟩
abbrev S4096x512 : Shape := ⟨2, ![4096, 512]⟩
abbrev S4x128x128 : Shape := ⟨3, ![4, 128, 128]⟩
abbrev S512 : Shape := ⟨1, ![512]⟩
abbrev S3x512 : Shape := ⟨2, ![3, 512]⟩
abbrev S_ : Shape := ⟨0, ![]⟩

class Facts : Prop where
  slices_S4096x7424_S4096x512_0_0 : S4096x7424.Slices ![0, 0] S4096x512
  bcast_S_S4096x512 : S_.BroadcastsInDim S4096x512 (![] : Fin 0 → Fin S4096x512.rank)
  bcast_S_S4x128x128 : S_.BroadcastsInDim S4x128x128 (![] : Fin 0 → Fin S4x128x128.rank)
  bcast_S_S512 : S_.BroadcastsInDim S512 (![] : Fin 0 → Fin S512.rank)

variable [Facts]

def fn {F : FTy → Type} [FloatOps F] (main_arg0 : FVec F S4096x7424 .f32) (main_arg1 : FVec F S4096x512 .f32) (main_arg2 : FVec F S4096x512 .f32) (main_arg3 : FVec F S4x128x128 .f32) (main_arg4 : FVec F S512 .f32) (main_arg5 : FVec F S3x512 .f32) (main_arg6 : FVec F S4096x7424 .bf16) : IVec S4096x512 1 × IVec S4096x512 1 × IVec S4x128x128 1 × IVec S512 1 :=
  let main_v0 : FVec F S4096x512 .f32 := (extractStridedSlice S4096x512 ![0, 0] · slices_S4096x7424_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_v7 : FVec F S4x128x128 .f32 := Host.absf main_arg3
  let main_cst_1 : FVec F S_ .f32 := constant S_ .f32 0x7F800000#32
  let main_v8 : FVec F S4x128x128 .f32 := broadcastInDim S4x128x128 ![] bcast_S_S4x128x128 main_cst_1
  let main_v9 : IVec S4x128x128 1 := cmpf .olt main_v7 main_v8
  let main_v10 : FVec F S512 .f32 := Host.absf main_arg4
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  (main_v3, main_v6, main_v9, main_v12)
-- ==== Kernel.lean ====
abbrev S4096x7424 : Shape := ⟨2, ![4096, 7424]⟩
abbrev S4096x512 : Shape := ⟨2, ![4096, 512]⟩
abbrev S4x128x128 : Shape := ⟨3, ![4, 128, 128]⟩
abbrev S512 : Shape := ⟨1, ![512]⟩
abbrev S3x512 : Shape := ⟨2, ![3, 512]⟩
abbrev S1x512 : Shape := ⟨2, ![1, 512]⟩
abbrev S_ : Shape := ⟨0, ![]⟩
abbrev S8x512 : Shape := ⟨2, ![8, 512]⟩
abbrev S512x128 : Shape := ⟨2, ![512, 128]⟩
abbrev S512x512 : Shape := ⟨2, ![512, 512]⟩
abbrev S16x512 : Shape := ⟨2, ![16, 512]⟩
abbrev S512x2048 : Shape := ⟨2, ![512, 2048]⟩
abbrev S512x1 : Shape := ⟨2, ![512, 1]⟩
abbrev S528x1 : Shape := ⟨2, ![528, 1]⟩
abbrev S528x512 : Shape := ⟨2, ![528, 512]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S520x512 : Shape := ⟨2, ![520, 512]⟩

abbrev nBuf : Space → Nat
  | .hbm => 16
  | .vmem => 32
  | .smem => 0
  | _ => 0

abbrev bufTy : (tb : Table) → Fin (tcTables nBuf tb) → BufTy
  | .hbm, ⟨0, _⟩ => ⟨S4096x7424, .f32⟩
  | .hbm, ⟨1, _⟩ => ⟨S4096x512, .f32⟩
  | .hbm, ⟨2, _⟩ => ⟨S4096x512, .f32⟩
  | .hbm, ⟨3, _⟩ => ⟨S4x128x128, .f32⟩
  | .hbm, ⟨4, _⟩ => ⟨S512, .f32⟩
  | .hbm, ⟨5, _⟩ => ⟨S3x512, .f32⟩
  | .hbm, ⟨6, _⟩ => ⟨S4096x7424, .bf16⟩
  | .hbm, ⟨7, _⟩ => ⟨S4x128x128, .bf16⟩
  | .hbm, ⟨8, _⟩ => ⟨S1x512, .f32⟩
  | .hbm, ⟨9, _⟩ => ⟨S_, .i32⟩
  | .hbm, ⟨10, _⟩ => ⟨S_, .f32⟩
  | .hbm, ⟨11, _⟩ => ⟨S8x512, .f32⟩
  | .hbm, ⟨12, _⟩ => ⟨S4096x7424, .bf16⟩
  | .hbm, ⟨13, _⟩ => ⟨S512x128, .f32⟩
  | .hbm, ⟨14, _⟩ => ⟨S1x512, .f32⟩
  | .hbm, ⟨15, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S512x512, .f32⟩
  | .local _ .vmem, ⟨13, _⟩ => ⟨S512x512, .f32⟩
  | .local _ .vmem, ⟨14, _⟩ => ⟨S8x512, .f32⟩
  | .local _ .vmem, ⟨15, _⟩ => ⟨S8x512, .f32⟩
  | .local _ .vmem, ⟨16, _⟩ => ⟨S512x512, .f32⟩
  | .local _ .vmem, ⟨17, _⟩ => ⟨S512x512, .f32⟩
  | .local _ .vmem, ⟨18, _⟩ => ⟨S16x512, .f32⟩
  | .local _ .vmem, ⟨19, _⟩ => ⟨S16x512, .f32⟩
  | .local _ .vmem, ⟨20, _⟩ => ⟨S512x512, .f32⟩
  | .local _ .vmem, ⟨21, _⟩ => ⟨S512x512, .f32⟩
  | .local _ .vmem, ⟨22, _⟩ => ⟨S8x512, .f32⟩
  | .local _ .vmem, ⟨23, _⟩ => ⟨S8x512, .f32⟩
  | .local _ .vmem, ⟨24, _⟩ => ⟨S4x128x128, .bf16⟩
  | .local _ .vmem, ⟨25, _⟩ => ⟨S1x512, .f32⟩
  | .local _ .vmem, ⟨26, _⟩ => ⟨S8x512, .f32⟩
  | .local _ .vmem, ⟨27, _⟩ => ⟨S512x2048, .bf16⟩
  | .local _ .vmem, ⟨28, _⟩ => ⟨S512x2048, .bf16⟩
  | .local _ .vmem, ⟨29, _⟩ => ⟨S512x128, .f32⟩
  | .local _ .vmem, ⟨30, _⟩ => ⟨S1x512, .f32⟩
  | .local _ .vmem, ⟨31, _⟩ => ⟨S8x512, .f32⟩
  | _, _ => ⟨S4096x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S4096x7424 : Shape := ⟨2, ![4096, 7424]⟩
abbrev S4096x512 : Shape := ⟨2, ![4096, 512]⟩
abbrev S4x128x128 : Shape := ⟨3, ![4, 128, 128]⟩
abbrev S512 : Shape := ⟨1, ![512]⟩
abbrev S3x512 : Shape := ⟨2, ![3, 512]⟩
abbrev S4096x2048 : Shape := ⟨2, ![4096, 2048]⟩
abbrev S1x4096x2048 : Shape := ⟨3, ![1, 4096, 2048]⟩
abbrev S1x4096x512 : Shape := ⟨3, ![1, 4096, 512]⟩
abbrev S_ : Shape := ⟨0, ![]⟩
abbrev S4096 : Shape := ⟨1, ![4096]⟩
abbrev S1x4096x128 : Shape := ⟨3, ![1, 4096, 128]⟩
abbrev S1x2x128 : Shape := ⟨3, ![1, 2, 128]⟩
abbrev S1x4098x128 : Shape := ⟨3, ![1, 4098, 128]⟩
abbrev S1x4096x1 : Shape := ⟨3, ![1, 4096, 1]⟩
abbrev S1x4x128 : Shape := ⟨3, ![1, 4, 128]⟩
abbrev S1x4100x128 : Shape := ⟨3, ![1, 4100, 128]⟩
abbrev S1x8x128 : Shape := ⟨3, ![1, 8, 128]⟩
abbrev S1x4104x128 : Shape := ⟨3, ![1, 4104, 128]⟩
abbrev S1x16x128 : Shape := ⟨3, ![1, 16, 128]⟩
abbrev S1x4112x128 : Shape := ⟨3, ![1, 4112, 128]⟩
abbrev S1x4096x1x128 : Shape := ⟨4, ![1, 4096, 1, 128]⟩
abbrev S1x4096x4x128 : Shape := ⟨4, ![1, 4096, 4, 128]⟩
abbrev S4x128x1x4096 : Shape := ⟨4, ![4, 128, 1, 4096]⟩
abbrev S1x1x512 : Shape := ⟨3, ![1, 1, 512]⟩
abbrev S1x2x512 : Shape := ⟨3, ![1, 2, 512]⟩
abbrev S1x4098x512 : Shape := ⟨3, ![1, 4098, 512]⟩
abbrev S1x512 : Shape := ⟨2, ![1, 512]⟩
abbrev S4x1x4096x128 : Shape := ⟨4, ![4, 1, 4096, 128]⟩
abbrev S4096x5376 : Shape := ⟨2, ![4096, 5376]⟩
abbrev S512x128 : Shape := ⟨2, ![512, 128]⟩
abbrev S8x512 : Shape := ⟨2, ![8, 512]⟩

abbrev nBuf : Space → Nat
  | .hbm => 290
  | .vmem => 0
  | .smem => 0
  | _ => 0

abbrev hbmTy0_0 (i : Nat) : BufTy := match i % 128 with
  | 0 => ⟨S4096x7424, .f32⟩
  | 1 => ⟨S4096x512, .f32⟩
  | 2 => ⟨S4096x512, .f32⟩
  | 3 => ⟨S4x128x128, .f32⟩
  | 4 => ⟨S512, .f32⟩
  | 5 => ⟨S3x512, .f32⟩
  | 6 => ⟨S4096x7424, .bf16⟩
  | 7 => ⟨S4096x2048, .f32⟩
  | 8 => ⟨S1x4096x2048, .f32⟩
  | 9 => ⟨S1x4096x512, .f32⟩
  | 10 => ⟨S_, .f32⟩
  | 11 => ⟨S_, .f32⟩
  | 12 => ⟨S1x4096x512, .f32⟩
  | 13 => ⟨S4096, .i32⟩
  | 14 => ⟨S1x4096x128, .f32⟩
  | 15 => ⟨S_, .f32⟩
  | 16 => ⟨S1x2x128, .f32⟩
  | 17 => ⟨S1x4098x128, .f32⟩
  | 18 => ⟨S_, .f32⟩
  | 19 => ⟨S1x2x128, .f32⟩
  | 20 => ⟨S1x4096x128, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .f32⟩
  | 28 => ⟨S1x4096x1, .f32⟩
  | 29 => ⟨S1x4096x128, .f32⟩
  | 30 => ⟨S1x4096x128, .f32⟩
  | 31 => ⟨S1x4096x128, .f32⟩
  | 32 => ⟨S1x4096x128, .f32⟩
  | 33 => ⟨S1x4096x128, .f32⟩
  | 34 => ⟨S1x4096x128, .f32⟩
  | 35 => ⟨S_, .f32⟩
  | 36 => ⟨S1x4x128, .f32⟩
  | 37 => ⟨S1x4100x128, .f32⟩
  | 38 => ⟨S_, .f32⟩
  | 39 => ⟨S1x4x128, .f32⟩
  | 40 => ⟨S1x4096x128, .f32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .f32⟩
  | 48 => ⟨S1x4096x1, .f32⟩
  | 49 => ⟨S1x4096x128, .f32⟩
  | 50 => ⟨S1x4096x128, .f32⟩
  | 51 => ⟨S1x4096x128, .f32⟩
  | 52 => ⟨S1x4096x128, .f32⟩
  | 53 => ⟨S1x4096x128, .f32⟩
  | 54 => ⟨S1x4096x128, .f32⟩
  | 55 => ⟨S_, .f32⟩
  | 56 => ⟨S1x8x128, .f32⟩
  | 57 => ⟨S1x4104x128, .f32⟩
  | 58 => ⟨S_, .f32⟩
  | 59 => ⟨S1x8x128, .f32⟩
  | 60 => ⟨S1x4096x128, .f32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .f32⟩
  | 68 => ⟨S1x4096x1, .f32⟩
  | 69 => ⟨S1x4096x128, .f32⟩
  | 70 => ⟨S1x4096x128, .f32⟩
  | 71 => ⟨S1x4096x128, .f32⟩
  | 72 => ⟨S1x4096x128, .f32⟩
  | 73 => ⟨S1x4096x128, .f32⟩
  | 74 => ⟨S1x4096x128, .f32⟩
  | 75 => ⟨S_, .f32⟩
  | 76 => ⟨S1x16x128, .f32⟩
  | 77 => ⟨S1x4112x128, .f32⟩
  | 78 => ⟨S_, .f32⟩
  | 79 => ⟨S1x16x128, .f32⟩
  | 80 => ⟨S1x4096x128, .f32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S4096, .f32⟩
  | 88 => ⟨S1x4096x1, .f32⟩
  | 89 => ⟨S1x4096x128, .f32⟩
  | 90 => ⟨S1x4096x128, .f32⟩
  | 91 => ⟨S1x4096x128, .f32⟩
  | 92 => ⟨S1x4096x128, .f32⟩
  | 93 => ⟨S1x4096x128, .f32⟩
  | 94 => ⟨S1x4096x1x128, .f32⟩
  | 95 => ⟨S1x4096x1x128, .f32⟩
  | 96 => ⟨S1x4096x1x128, .f32⟩
  | 97 => ⟨S1x4096x1x128, .f32⟩
  | 98 => ⟨S1x4096x4x128, .f32⟩
  | 99 => ⟨S4x128x1x4096, .f32⟩
  | 100 => ⟨S1x4096x4x128, .f32⟩
  | 101 => ⟨S1x4096x512, .f32⟩
  | 102 => ⟨S1x1x512, .f32⟩
  | 103 => ⟨S1x4096x512, .f32⟩
  | 104 => ⟨S1x4096x512, .f32⟩
  | 105 => ⟨S1x4096x512, .f32⟩
  | 106 => ⟨S1x4096x512, .f32⟩
  | 107 => ⟨S1x4096x512, .f32⟩
  | 108 => ⟨S1x4096x512, .f32⟩
  | 109 => ⟨S_, .f32⟩
  | 110 => ⟨S1x2x512, .f32⟩
  | 111 => ⟨S1x4098x512, .f32⟩
  | 112 => ⟨S_, .f32⟩
  | 113 => ⟨S1x2x512, .f32⟩
  | 114 => ⟨S1x512, .f32⟩
  | 115 => ⟨S512, .f32⟩
  | 116 => ⟨S1x4096x512, .f32⟩
  | 117 => ⟨S1x1x512, .f32⟩
  | 118 => ⟨S1x4096x512, .f32⟩
  | 119 => ⟨S1x4096x512, .f32⟩
  | 120 => ⟨S1x512, .f32⟩
  | 121 => ⟨S512, .f32⟩
  | 122 => ⟨S1x4096x512, .f32⟩
  | 123 => ⟨S1x1x512, .f32⟩
  | 124 => ⟨S1x4096x512, .f32⟩
  | 125 => ⟨S1x4096x512, .f32⟩
  | 126 => ⟨S1x4096x512, .f32⟩
  | 127 => ⟨S1x512, .f32⟩
  | _ => ⟨S4096x7424, .f32⟩

abbrev hbmTy0_1 (i : Nat) : BufTy := match i % 128 with
  | 0 => ⟨S512, .f32⟩
  | 1 => ⟨S1x4096x512, .f32⟩
  | 2 => ⟨S1x1x512, .f32⟩
  | 3 => ⟨S1x4096x512, .f32⟩
  | 4 => ⟨S1x4096x512, .f32⟩
  | 5 => ⟨S1x4096x512, .f32⟩
  | 6 => ⟨S1x4096x512, .f32⟩
  | 7 => ⟨S1x4096x512, .f32⟩
  | 8 => ⟨S1x4096x512, .f32⟩
  | 9 => ⟨S1x4096x512, .f32⟩
  | 10 => ⟨S1x4096x512, .f32⟩
  | 11 => ⟨S1x4096x512, .f32⟩
  | 12 => ⟨S1x4096x512, .f32⟩
  | 13 => ⟨S1x4096x512, .f32⟩
  | 14 => ⟨S_, .f32⟩
  | 15 => ⟨S1x512, .f32⟩
  | 16 => ⟨S1x1x512, .f32⟩
  | 17 => ⟨S_, .f32⟩
  | 18 => ⟨S512, .f32⟩
  | 19 => ⟨S_, .f32⟩
  | 20 => ⟨S1x4098x512, .f32⟩
  | 21 => ⟨S1x512, .f32⟩
  | 22 => ⟨S_, .f32⟩
  | 23 => ⟨S3x512, .f32⟩
  | 24 => ⟨S1x4096x512, .f32⟩
  | 25 => ⟨S1x4096x512, .f32⟩
  | 26 => ⟨S1x4096x512, .f32⟩
  | 27 => ⟨S_, .f32⟩
  | 28 => ⟨S1x512, .f32⟩
  | 29 => ⟨S1x1x512, .f32⟩
  | 30 => ⟨S_, .f32⟩
  | 31 => ⟨S512, .f32⟩
  | 32 => ⟨S_, .f32⟩
  | 33 => ⟨S1x4098x512, .f32⟩
  | 34 => ⟨S1x4098x512, .f32⟩
  | 35 => ⟨S1x512, .f32⟩
  | 36 => ⟨S_, .f32⟩
  | 37 => ⟨S3x512, .f32⟩
  | 38 => ⟨S3x512, .f32⟩
  | 39 => ⟨S1x4096x512, .f32⟩
  | 40 => ⟨S1x4096x512, .f32⟩
  | 41 => ⟨S1x4096x512, .f32⟩
  | 42 => ⟨S_, .f32⟩
  | 43 => ⟨S1x512, .f32⟩
  | 44 => ⟨S1x1x512, .f32⟩
  | 45 => ⟨S_, .f32⟩
  | 46 => ⟨S512, .f32⟩
  | 47 => ⟨S_, .f32⟩
  | 48 => ⟨S1x4098x512, .f32⟩
  | 49 => ⟨S1x4098x512, .f32⟩
  | 50 => ⟨S1x512, .f32⟩
  | 51 => ⟨S_, .f32⟩
  | 52 => ⟨S3x512, .f32⟩
  | 53 => ⟨S3x512, .f32⟩
  | 54 => ⟨S1x2x512, .f32⟩
  | 55 => ⟨S1x4096x512, .f32⟩
  | 56 => ⟨S1x4096x512, .f32⟩
  | 57 => ⟨S1x4096x512, .f32⟩
  | 58 => ⟨S_, .f32⟩
  | 59 => ⟨S1x4096x2048, .f32⟩
  | 60 => ⟨S_, .f32⟩
  | 61 => ⟨S1x4096x2048, .f32⟩
  | 62 => ⟨S1x4096x2048, .f32⟩
  | 63 => ⟨S_, .f32⟩
  | 64 => ⟨S1x4096x2048, .f32⟩
  | 65 => ⟨S1x4096x2048, .f32⟩
  | 66 => ⟨S1x4096x512, .f32⟩
  | 67 => ⟨S_, .f32⟩
  | 68 => ⟨S1x512, .f32⟩
  | 69 => ⟨S1x1x512, .f32⟩
  | 70 => ⟨S1x4096x512, .f32⟩
  | 71 => ⟨S1x4096x512, .f32⟩
  | 72 => ⟨S_, .f32⟩
  | 73 => ⟨S512, .f32⟩
  | 74 => ⟨S1x4096x4x128, .f32⟩
  | 75 => ⟨S4x128x1x4096, .f32⟩
  | 76 => ⟨S4x1x4096x128, .f32⟩
  | 77 => ⟨S1x4096x4x128, .f32⟩
  | 78 => ⟨S4x128x128, .f32⟩
  | 79 => ⟨S4x128x128, .f32⟩
  | 80 => ⟨S1x4096x1x128, .f32⟩
  | 81 => ⟨S1x4096x128, .f32⟩
  | 82 => ⟨S1x4096x1x128, .f32⟩
  | 83 => ⟨S1x4096x128, .f32⟩
  | 84 => ⟨S1x4096x1x128, .f32⟩
  | 85 => ⟨S1x4096x128, .f32⟩
  | 86 => ⟨S1x4096x1x128, .f32⟩
  | 87 => ⟨S1x4096x128, .f32⟩
  | 88 => ⟨S1x4096x128, .f32⟩
  | 89 => ⟨S_, .f32⟩
  | 90 => ⟨S1x4096x512, .f32⟩
  | 91 => ⟨S1x4096x128, .f32⟩
  | 92 => ⟨S1x4096x128, .f32⟩
  | 93 => ⟨S1x4096x128, .f32⟩
  | 94 => ⟨S_, .f32⟩
  | 95 => ⟨S1x4112x128, .f32⟩
  | 96 => ⟨S1x16x128, .f32⟩
  | 97 => ⟨S1x4096x128, .f32⟩
  | 98 => ⟨S1x4096x128, .f32⟩
  | 99 => ⟨S_, .f32⟩
  | 100 => ⟨S1x4096x512, .f32⟩
  | 101 => ⟨S1x4096x128, .f32⟩
  | 102 => ⟨S_, .f32⟩
  | 103 => ⟨S1x4096x512, .f32⟩
  | 104 => ⟨S1x4096x512, .f32⟩
  | 105 => ⟨S1x4096x128, .f32⟩
  | 106 => ⟨S1x4096x128, .f32⟩
  | 107 => ⟨S1x4096x128, .f32⟩
  | 108 => ⟨S_, .f32⟩
  | 109 => ⟨S1x4104x128, .f32⟩
  | 110 => ⟨S1x8x128, .f32⟩
  | 111 => ⟨S1x4096x128, .f32⟩
  | 112 => ⟨S1x4096x128, .f32⟩
  | 113 => ⟨S_, .f32⟩
  | 114 => ⟨S1x4096x512, .f32⟩
  | 115 => ⟨S1x4096x512, .f32⟩
  | 116 => ⟨S1x4096x128, .f32⟩
  | 117 => ⟨S_, .f32⟩
  | 118 => ⟨S1x4096x512, .f32⟩
  | 119 => ⟨S1x4096x512, .f32⟩
  | 120 => ⟨S1x4096x128, .f32⟩
  | 121 => ⟨S1x4096x128, .f32⟩
  | 122 => ⟨S1x4096x128, .f32⟩
  | 123 => ⟨S_, .f32⟩
  | 124 => ⟨S1x4100x128, .f32⟩
  | 125 => ⟨S1x4x128, .f32⟩
  | 126 => ⟨S1x4096x128, .f32⟩
  | 127 => ⟨S1x4096x128, .f32⟩
  | _ => ⟨S4096x7424, .f32⟩

abbrev hbmTy0_2 (i : Nat) : BufTy := match i % 128 with
  | 0 => ⟨S_, .f32⟩
  | 1 => ⟨S1x4096x512, .f32⟩
  | 2 => ⟨S1x4096x512, .f32⟩
  | 3 => ⟨S1x4096x128, .f32⟩
  | 4 => ⟨S_, .f32⟩
  | 5 => ⟨S1x4096x512, .f32⟩
  | 6 => ⟨S1x4096x512, .f32⟩
  | 7 => ⟨S1x4096x128, .f32⟩
  | 8 => ⟨S1x4096x128, .f32⟩
  | 9 => ⟨S1x4096x128, .f32⟩
  | 10 => ⟨S_, .f32⟩
  | 11 => ⟨S1x4098x128, .f32⟩
  | 12 => ⟨S1x2x128, .f32⟩
  | 13 => ⟨S1x4096x128, .f32⟩
  | 14 => ⟨S1x4096x128, .f32⟩
  | 15 => ⟨S_, .f32⟩
  | 16 => ⟨S1x4096x512, .f32⟩
  | 17 => ⟨S1x4096x512, .f32⟩
  | 18 => ⟨S_, .f32⟩
  | 19 => ⟨S_, .f32⟩
  | 20 => ⟨S1x4096x512, .f32⟩
  | 21 => ⟨S1x4096x512, .f32⟩
  | 22 => ⟨S_, .f32⟩
  | 23 => ⟨S1x4096x2048, .f32⟩
  | 24 => ⟨S1x4096x2048, .f32⟩
  | 25 => ⟨S4096x2048, .f32⟩
  | 26 => ⟨S4096x2048, .bf16⟩
  | 27 => ⟨S4096x5376, .bf16⟩
  | 28 => ⟨S4096x7424, .bf16⟩
  | 29 => ⟨S512x128, .f32⟩
  | 30 => ⟨S1x512, .f32⟩
  | 31 => ⟨S_, .i32⟩
  | 32 => ⟨S_, .f32⟩
  | 33 => ⟨S8x512, .f32⟩
  | _ => ⟨S4096x7424, .f32⟩

abbrev hbmTy (i : Nat) : BufTy := match i / 128 with
  | 0 => hbmTy0_0 i
  | 1 => hbmTy0_1 i
  | 2 => hbmTy0_2 i
  | _ => ⟨S4096x7424, .f32⟩

abbrev bufTy : (tb : Table) → Fin (tcTables nBuf tb) → BufTy
  | .hbm, ⟨i, _⟩ => hbmTy i
  | _, _ => ⟨S4096x7424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_call0_cst : Ref sig .tc := ⟨.hbm, 10, rfl⟩
abbrev main_call0_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_14 : Ref sig .tc := ⟨.hbm, 109, rfl⟩
abbrev main_v84 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_16 : Ref sig .tc := ⟨.hbm, 142, rfl⟩
abbrev main_v115 : Ref sig .tc := ⟨.hbm, 143, rfl⟩
abbrev main_v116 : Ref sig .tc := ⟨.hbm, 144, rfl⟩
abbrev main_cst_17 : Ref sig .tc := ⟨.hbm, 145, rfl⟩
abbrev main_v117 : Ref sig .tc := ⟨.hbm, 146, rfl⟩
abbrev main_cst_18 : Ref sig .tc := ⟨.hbm, 147, rfl⟩
abbrev main_v118 : Ref sig .tc := ⟨.hbm, 148, rfl⟩
abbrev main_v119 : Ref sig .tc := ⟨.hbm, 149, rfl⟩
abbrev main_cst_19 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_20 : Ref sig .tc := ⟨.hbm, 155, rfl⟩
abbrev main_v124 : Ref sig .tc := ⟨.hbm, 156, rfl⟩
abbrev main_v125 : Ref sig .tc := ⟨.hbm, 157, rfl⟩
abbrev main_cst_21 : Ref sig .tc := ⟨.hbm, 158, rfl⟩
abbrev main_v126 : Ref sig .tc := ⟨.hbm, 159, rfl⟩
abbrev main_cst_22 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_23 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_24 : Ref sig .tc := ⟨.hbm, 170, rfl⟩
abbrev main_v135 : Ref sig .tc := ⟨.hbm, 171, rfl⟩
abbrev main_v136 : Ref sig .tc := ⟨.hbm, 172, rfl⟩
abbrev main_cst_25 : Ref sig .tc := ⟨.hbm, 173, rfl⟩
abbrev main_v137 : Ref sig .tc := ⟨.hbm, 174, rfl⟩
abbrev main_cst_26 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_27 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_28 : Ref sig .tc := ⟨.hbm, 186, rfl⟩
abbrev main_v147 : Ref sig .tc := ⟨.hbm, 187, rfl⟩
abbrev main_cst_29 : Ref sig .tc := ⟨.hbm, 188, rfl⟩
abbrev main_v148 : Ref sig .tc := ⟨.hbm, 189, rfl⟩
abbrev main_v149 : Ref sig .tc := ⟨.hbm, 190, rfl⟩
abbrev main_cst_30 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_31 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_32 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_cst_33 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_34 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_35 : Ref sig .tc := ⟨.hbm, 227, rfl⟩
abbrev main_v181 : Ref sig .tc := ⟨.hbm, 228, rfl⟩
abbrev main_v182 : Ref sig .tc := ⟨.hbm, 229, rfl⟩
abbrev main_cst_36 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_cst_37 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_cst_38 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_cst_39 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_cst_40 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_cst_41 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_cst_42 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_cst_43 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_cst_44 : Ref sig .tc := ⟨.hbm, 271, rfl⟩
abbrev main_v216 : Ref sig .tc := ⟨.hbm, 272, rfl⟩
abbrev main_v217 : Ref sig .tc := ⟨.hbm, 273, rfl⟩
abbrev main_call1_call0_cst : Ref sig .tc := ⟨.hbm, 274, rfl⟩
abbrev main_call1_call0_v0 : Ref sig .tc := ⟨.hbm, 275, rfl⟩
abbrev main_v218 : Ref sig .tc := ⟨.hbm, 276, rfl⟩
abbrev main_v219 : Ref sig .tc := ⟨.hbm, 277, rfl⟩
abbrev main_cst_45 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_c_46 : Ref sig .tc := ⟨.hbm, 287, rfl⟩
abbrev main_call2_v0 : Ref sig .tc := ⟨.hbm, 288, rfl⟩
abbrev main_v228 : Ref sig .tc := ⟨.hbm, 289, rfl⟩

abbrev nD : Nat := 1
abbrev τ : Topo := Topo.v7x

variable {F : FTy → Type} [FloatOps F]
-- ==== DInAct.lean ====
abbrev S4096x7424 : Shape := ⟨2, ![4096, 7424]⟩
abbrev S7424x1024 : Shape := ⟨2, ![7424, 1024]⟩
abbrev S4096x1024 : Shape := ⟨2, ![4096, 1024]⟩
abbrev S1024x3712 : Shape := ⟨2, ![1024, 3712]⟩
abbrev S3712x1024 : Shape := ⟨2, ![3712, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7424, .bf16⟩
  | .hbm, ⟨1, _⟩ => ⟨S7424x1024, .bf16⟩
  | .hbm, ⟨2, _⟩ => ⟨S4096x1024, .f32⟩
  | .local _ .vmem, ⟨0, _⟩ => ⟨S1024x3712, .bf16⟩
  | .local _ .vmem, ⟨1, _⟩ => ⟨S1024x3712, .bf16⟩
  | .local _ .vmem, ⟨2, _⟩ => ⟨S3712x1024, .bf16⟩
  | .local _ .vmem, ⟨3, _⟩ => ⟨S3712x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x7424, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3712x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInActRefIdeal.lean ====
abbrev S4096x7424 : Shape := ⟨2, ![4096, 7424]⟩
abbrev S7424x1024 : Shape := ⟨2, ![7424, 1024]⟩
abbrev S_ : Shape := ⟨0, ![]⟩
abbrev S4096x1024 : Shape := ⟨2, ![4096, 1024]⟩
abbrev S1024x7424 : Shape := ⟨2, ![1024, 7424]⟩

abbrev nBuf : Space → Nat
  | .hbm => 9
  | .vmem => 0
  | .smem => 0
  | _ => 0

abbrev bufTy : (tb : Table) → Fin (tcTables nBuf tb) → BufTy
  | .hbm, ⟨0, _⟩ => ⟨S4096x7424, .bf16⟩
  | .hbm, ⟨1, _⟩ => ⟨S7424x1024, .bf16⟩
  | .hbm, ⟨2, _⟩ => ⟨S_, .f32⟩
  | .hbm, ⟨3, _⟩ => ⟨S4096x1024, .f32⟩
  | .hbm, ⟨4, _⟩ => ⟨S1024x7424, .bf16⟩
  | .hbm, ⟨5, _⟩ => ⟨S1024x7424, .f32⟩
  | .hbm, ⟨6, _⟩ => ⟨S4096x7424, .f32⟩
  | .hbm, ⟨7, _⟩ => ⟨S4096x7424, .f32⟩
  | .hbm, ⟨8, _⟩ => ⟨S4096x1024, .f32⟩
  | _, _ => ⟨S4096x7424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DInW.lean ====
abbrev S4096x1024 : Shape := ⟨2, ![4096, 1024]⟩
abbrev S4096x7424 : Shape := ⟨2, ![4096, 7424]⟩
abbrev S1024x7424 : Shape := ⟨2, ![1024, 7424]⟩
abbrev S1024x512 : Shape := ⟨2, ![1024, 512]⟩
abbrev S1024x3712 : Shape := ⟨2, ![1024, 3712]⟩
abbrev S512x3712 : Shape := ⟨2, ![512, 3712]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x7424, .bf16⟩
  | .hbm, ⟨2, _⟩ => ⟨S1024x7424, .bf16⟩
  | .local _ .vmem, ⟨0, _⟩ => ⟨S1024x512, .bf16⟩
  | .local _ .vmem, ⟨1, _⟩ => ⟨S1024x512, .bf16⟩
  | .local _ .vmem, ⟨2, _⟩ => ⟨S1024x3712, .bf16⟩
  | .local _ .vmem, ⟨3, _⟩ => ⟨S1024x3712, .bf16⟩
  | .local _ .vmem, ⟨4, _⟩ => ⟨S512x3712, .bf16⟩
  | .local _ .vmem, ⟨5, _⟩ => ⟨S512x3712, .bf16⟩
  | .local _ .vmem, ⟨6, _⟩ => ⟨S512x3712, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3712 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInWRefIdeal.lean ====
abbrev S4096x1024 : Shape := ⟨2, ![4096, 1024]⟩
abbrev S4096x7424 : Shape := ⟨2, ![4096, 7424]⟩
abbrev S_ : Shape := ⟨0, ![]⟩
abbrev S1024x7424 : Shape := ⟨2, ![1024, 7424]⟩
abbrev S7424x1024 : Shape := ⟨2, ![7424, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x7424, .bf16⟩
  | .hbm, ⟨2, _⟩ => ⟨S_, .f32⟩
  | .hbm, ⟨3, _⟩ => ⟨S1024x7424, .f32⟩
  | .hbm, ⟨4, _⟩ => ⟨S4096x1024, .f32⟩
  | .hbm, ⟨5, _⟩ => ⟨S4096x7424, .f32⟩
  | .hbm, ⟨6, _⟩ => ⟨S4096x7424, .f32⟩
  | .hbm, ⟨7, _⟩ => ⟨S7424x1024, .f32⟩
  | .hbm, ⟨8, _⟩ => ⟨S1024x7424, .f32⟩
  | .hbm, ⟨9, _⟩ => ⟨S1024x7424, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DFf2Act.lean ====
abbrev S4096x1024 : Shape := ⟨2, ![4096, 1024]⟩
abbrev S4096x4096 : Shape := ⟨2, ![4096, 4096]⟩
abbrev S_ : Shape := ⟨0, ![]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DFf2ActRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== DFf1Act.lean ====
abbrev S4096x4096 : Shape := ⟨2, ![4096, 4096]⟩
abbrev S4x1024x1024 : Shape := ⟨3, ![4, 1024, 1024]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32 : BitVec 32 := 0#32
  let v4 : BitVec 1 := Scalar.cmpi .eq arg0 c0_i32
  let v48 : BitVec 32 := Scalar.extui v4
  let c0_i32_25 : BitVec 32 := 0#32
  let v49 : BitVec 1 := Scalar.cmpi .ne v48 c0_i32_25
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DFf1ActRefIdeal.lean ====
abbrev S4096x4096 : Shape := ⟨2, ![4096, 4096]⟩
abbrev S4x1024x1024 : Shape := ⟨3, ![4, 1024, 1024]⟩
abbrev S4096x1024 : Shape := ⟨2, ![4096, 1024]⟩
abbrev S1024 : Shape := ⟨1, ![1024]⟩
abbrev S1024x4x1024 : Shape := ⟨3, ![1024, 4, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024x4x1024, .bf16⟩
  | .hbm, ⟨6, _⟩ => ⟨S1024x4096, .bf16⟩
  | .hbm, ⟨7, _⟩ => ⟨S1024x4096, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== DFf2W.lean ====
abbrev S4096x4096 : Shape := ⟨2, ![4096, 4096]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DFf2WRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DFf1W.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DFf1WRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DOutAct.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOutActRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DOutW.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DOutWRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S4096x1024 : Shape := ⟨2, ![4096, 1024]⟩
abbrev S7424x1024 : Shape := ⟨2, ![7424, 1024]⟩
abbrev S4096x7424 : Shape := ⟨2, ![4096, 7424]⟩
abbrev S512x1024 : Shape := ⟨2, ![512, 1024]⟩
abbrev S3712x1024 : Shape := ⟨2, ![3712, 1024]⟩
abbrev S512x3712 : Shape := ⟨2, ![512, 3712]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S7424x1024, .bf16⟩
  | .hbm, ⟨2, _⟩ => ⟨S4096x7424, .f32⟩
  | .local _ .vmem, ⟨0, _⟩ => ⟨S512x1024, .bf16⟩
  | .local _ .vmem, ⟨1, _⟩ => ⟨S512x1024, .bf16⟩
  | .local _ .vmem, ⟨2, _⟩ => ⟨S3712x1024, .bf16⟩
  | .local _ .vmem, ⟨3, _⟩ => ⟨S3712x1024, .bf16⟩
  | .local _ .vmem, ⟨4, _⟩ => ⟨S512x3712, .f32⟩
  | .local _ .vmem, ⟨5, _⟩ => ⟨S512x3712, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S3712x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x1024 : Shape := ⟨2, ![4096, 1024]⟩
abbrev S7424x1024 : Shape := ⟨2, ![7424, 1024]⟩
abbrev S1024x7424 : Shape := ⟨2, ![1024, 7424]⟩
abbrev S4096x7424 : Shape := ⟨2, ![4096, 7424]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S7424x1024, .bf16⟩
  | .hbm, ⟨2, _⟩ => ⟨S4096x1024, .f32⟩
  | .hbm, ⟨3, _⟩ => ⟨S1024x7424, .bf16⟩
  | .hbm, ⟨4, _⟩ => ⟨S1024x7424, .f32⟩
  | .hbm, ⟨5, _⟩ => ⟨S4096x7424, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ff1.lean ====
abbrev S4096x1024 : Shape := ⟨2, ![4096, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1RefIdeal.lean ====
abbrev S4096x1024 : Shape := ⟨2, ![4096, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S1024x4x1024, .bf16⟩
  | .hbm, ⟨3, _⟩ => ⟨S1024x4096, .bf16⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Ff2Loss.lean ====
abbrev S4096x4096 : Shape := ⟨2, ![4096, 4096]⟩
abbrev S4096x1024 : Shape := ⟨2, ![4096, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== Ff2LossRefIdeal.lean ====
abbrev S4096x4096 : Shape := ⟨2, ![4096, 4096]⟩
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S1x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Ff2Next.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Ff2NextRefIdeal.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== RmsMix.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsMixRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DRmsMix.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DRmsMixRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Merge.lean ====
abbrev S4096x512 : Shape := ⟨2, ![4096, 512]⟩
abbrev S4096x768 : Shape := ⟨2, ![4096, 768]⟩
abbrev S4096x12 : Shape := ⟨2, ![4096, 12]⟩
abbrev S4096x7424 : Shape := ⟨2, ![4096, 7424]⟩
abbrev S3072 : Shape := ⟨1, ![3072]⟩
abbrev S4x512x256 : Shape := ⟨3, ![4, 512, 256]⟩
abbrev S4x256x256 : Shape := ⟨3, ![4, 256, 256]⟩
abbrev S4096x12x1 : Shape := ⟨3, ![4096, 12, 1]⟩
abbrev S4096x12x64 : Shape := ⟨3, ![4096, 12, 64]⟩
abbrev S1x3072 : Shape := ⟨2, ![1, 3072]⟩
abbrev S4096x1024 : Shape := ⟨2, ![4096, 1024]⟩
abbrev S256x512 : Shape := ⟨2, ![256, 512]⟩
abbrev S256x256 : Shape := ⟨2, ![256, 256]⟩
abbrev S256x1024 : Shape := ⟨2, ![256, 1024]⟩
abbrev S1x256 : Shape := ⟨2, ![1, 256]⟩
abbrev S1x512x256 : Shape := ⟨3, ![1, 512, 256]⟩
abbrev S512x256 : Shape := ⟨2, ![512, 256]⟩
abbrev S1x256x256 : Shape := ⟨3, ![1, 256, 256]⟩

abbrev nBuf : Space → Nat
  | .hbm => 14
  | .vmem => 46
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x768, .f32⟩
  | .hbm, ⟨3, _⟩ => ⟨S4096x12, .f32⟩
  | .hbm, ⟨4, _⟩ => ⟨S4096x7424, .f32⟩
  | .hbm, ⟨5, _⟩ => ⟨S3072, .f32⟩
  | .hbm, ⟨6, _⟩ => ⟨S4x512x256, .bf16⟩
  | .hbm, ⟨7, _⟩ => ⟨S4x512x256, .bf16⟩
  | .hbm, ⟨8, _⟩ => ⟨S4x256x256, .bf16⟩
  | .hbm, ⟨9, _⟩ => ⟨S4096x12x1, .f32⟩
  | .hbm, ⟨10, _⟩ => ⟨S4096x12x64, .f32⟩
  | .hbm, ⟨11, _⟩ => ⟨S4096x768, .f32⟩
  | .hbm, ⟨12, _⟩ => ⟨S1x3072, .f32⟩
  | .hbm, ⟨13, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | .local _ .vmem, ⟨40, _⟩ => ⟨S1x3072, .f32⟩
  | .local _ .vmem, ⟨41, _⟩ => ⟨S4x512x256, .bf16⟩
  | .local _ .vmem, ⟨42, _⟩ => ⟨S4x512x256, .bf16⟩
  | .local _ .vmem, ⟨43, _⟩ => ⟨S4x256x256, .bf16⟩
  | .local _ .vmem, ⟨44, _⟩ => ⟨S256x1024, .bf16⟩
  | .local _ .vmem, ⟨45, _⟩ => ⟨S256x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg21_0 : Ref sig .tc := ⟨.vmem, 41, rfl⟩
abbrev cc0_stg22_0 : Ref sig .tc := ⟨.vmem, 42, rfl⟩
abbrev cc0_stg23_0 : Ref sig .tc := ⟨.vmem, 43, rfl⟩
abbrev cc0_stg24_0 : Ref sig .tc := ⟨.vmem, 44, rfl⟩
abbrev cc0_stg24_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem21_0 : DmaSem sig := 41
abbrev cc0_sem22_0 : DmaSem sig := 42
abbrev cc0_sem23_0 : DmaSem sig := 43
abbrev cc0_sem24_0 : DmaSem sig := 44
abbrev cc0_sem24_1 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_9 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_10 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_11 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_12 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_13 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_14 (i : grid0.Coords) : Fin 2 → Nat :=
  let arg0 : BitVec 32 := BitVec.ofNat 32 (i 0).val
  let c23_i32 : BitVec 32 := 23#32
  let c0_i32 : BitVec 32 := 0#32
  ![arg0.toNat, c23_i32.toNat]

def cc0_transform_15 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_16 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_17 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_18 (i : grid0.Coords) : Fin 2 → Nat :=
  let arg0 : BitVec 32 := BitVec.ofNat 32 (i 0).val
  let c27_i32 : BitVec 32 := 27#32
  let c0_i32 : BitVec 32 := 0#32
  ![arg0.toNat, c27_i32.toNat]

def cc0_transform_19 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x3072 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x512x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x512x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== MergeRefIdeal.lean ====
abbrev S4096x512 : Shape := ⟨2, ![4096, 512]⟩
abbrev S4096x768 : Shape := ⟨2, ![4096, 768]⟩
abbrev S4096x12 : Shape := ⟨2, ![4096, 12]⟩
abbrev S4096x7424 : Shape := ⟨2, ![4096, 7424]⟩
abbrev S3072 : Shape := ⟨1, ![3072]⟩
abbrev S4x512x256 : Shape := ⟨3, ![4, 512, 256]⟩
abbrev S4x256x256 : Shape := ⟨3, ![4, 256, 256]⟩
abbrev S4096x3072 : Shape := ⟨2, ![4096, 3072]⟩
abbrev S512x4x256 : Shape := ⟨3, ![512, 4, 256]⟩
abbrev S512x1024 : Shape := ⟨2, ![512, 1024]⟩
abbrev S256x4x256 : Shape := ⟨3, ![256, 4, 256]⟩
abbrev S256x1024 : Shape := ⟨2, ![256, 1024]⟩
abbrev S4096x3x4 : Shape := ⟨3, ![4096, 3, 4]⟩
abbrev S3x4096x4 : Shape := ⟨3, ![3, 4096, 4]⟩
abbrev S_ : Shape := ⟨0, ![]⟩
abbrev S4096x4 : Shape := ⟨2, ![4096, 4]⟩
abbrev S1x4096x4 : Shape := ⟨3, ![1, 4096, 4]⟩
abbrev S3x4096x4x1 : Shape := ⟨4, ![3, 4096, 4, 1]⟩
abbrev S4096x3x4x64 : Shape := ⟨4, ![4096, 3, 4, 64]⟩
abbrev S3x4096x4x64 : Shape := ⟨4, ![3, 4096, 4, 64]⟩
abbrev S4096x4x64 : Shape := ⟨3, ![4096, 4, 64]⟩
abbrev S4096x256 : Shape := ⟨2, ![4096, 256]⟩
abbrev S1x3072 : Shape := ⟨2, ![1, 3072]⟩
abbrev S4096x3x1024 : Shape := ⟨3, ![4096, 3, 1024]⟩
abbrev S4096x1x1024 : Shape := ⟨3, ![4096, 1, 1024]⟩
abbrev S4096x1024 : Shape := ⟨2, ![4096, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x768, .f32⟩
  | .hbm, ⟨3, _⟩ => ⟨S4096x12, .f32⟩
  | .hbm, ⟨4, _⟩ => ⟨S4096x7424, .f32⟩
  | .hbm, ⟨5, _⟩ => ⟨S3072, .f32⟩
  | .hbm, ⟨6, _⟩ => ⟨S4x512x256, .bf16⟩
  | .hbm, ⟨7, _⟩ => ⟨S4x512x256, .bf16⟩
  | .hbm, ⟨8, _⟩ => ⟨S4x256x256, .bf16⟩
  | .hbm, ⟨9, _⟩ => ⟨S4096x512, .f32⟩
  | .hbm, ⟨10, _⟩ => ⟨S4096x512, .f32⟩
  | .hbm, ⟨11, _⟩ => ⟨S4096x3072, .f32⟩
  | .hbm, ⟨12, _⟩ => ⟨S4x512x256, .f32⟩
  | .hbm, ⟨13, _⟩ => ⟨S512x4x256, .f32⟩
  | .hbm, ⟨14, _⟩ => ⟨S512x1024, .f32⟩
  | .hbm, ⟨15, _⟩ => ⟨S4x512x256, .f32⟩
  | .hbm, ⟨16, _⟩ => ⟨S512x4x256, .f32⟩
  | .hbm, ⟨17, _⟩ => ⟨S512x1024, .f32⟩
  | .hbm, ⟨18, _⟩ => ⟨S4x256x256, .f32⟩
  | .hbm, ⟨19, _⟩ => ⟨S256x4x256, .f32⟩
  | .hbm, ⟨20, _⟩ => ⟨S256x1024, .f32⟩
  | .hbm, ⟨21, _⟩ => ⟨S4096x3x4, .f32⟩
  | .hbm, ⟨22, _⟩ => ⟨S3x4096x4, .f32⟩
  | .hbm, ⟨23, _⟩ => ⟨S_, .f32⟩
  | .hbm, ⟨24, _⟩ => ⟨S4096x4, .f32⟩
  | .hbm, ⟨25, _⟩ => ⟨S_, .f32⟩
  | .hbm, ⟨26, _⟩ => ⟨S4096x4, .f32⟩
  | .hbm, ⟨27, _⟩ => ⟨S4096x4, .f32⟩
  | .hbm, ⟨28, _⟩ => ⟨S1x4096x4, .f32⟩
  | .hbm, ⟨29, _⟩ => ⟨S3x4096x4, .f32⟩
  | .hbm, ⟨30, _⟩ => ⟨S3x4096x4, .f32⟩
  | .hbm, ⟨31, _⟩ => ⟨S3x4096x4, .f32⟩
  | .hbm, ⟨32, _⟩ => ⟨S_, .f32⟩
  | .hbm, ⟨33, _⟩ => ⟨S4096x4, .f32⟩
  | .hbm, ⟨34, _⟩ => ⟨S1x4096x4, .f32⟩
  | .hbm, ⟨35, _⟩ => ⟨S3x4096x4, .f32⟩
  | .hbm, ⟨36, _⟩ => ⟨S3x4096x4, .f32⟩
  | .hbm, ⟨37, _⟩ => ⟨S3x4096x4x1, .f32⟩
  | .hbm, ⟨38, _⟩ => ⟨S4096x3x4x64, .f32⟩
  | .hbm, ⟨39, _⟩ => ⟨S3x4096x4x64, .f32⟩
  | .hbm, ⟨40, _⟩ => ⟨S3x4096x4x64, .f32⟩
  | .hbm, ⟨41, _⟩ => ⟨S3x4096x4x64, .f32⟩
  | .hbm, ⟨42, _⟩ => ⟨S_, .f32⟩
  | .hbm, ⟨43, _⟩ => ⟨S4096x4x64, .f32⟩
  | .hbm, ⟨44, _⟩ => ⟨S4096x256, .f32⟩
  | .hbm, ⟨45, _⟩ => ⟨S1x3072, .f32⟩
  | .hbm, ⟨46, _⟩ => ⟨S4096x3072, .f32⟩
  | .hbm, ⟨47, _⟩ => ⟨S4096x3072, .f32⟩
  | .hbm, ⟨48, _⟩ => ⟨S4096x3072, .f32⟩
  | .hbm, ⟨49, _⟩ => ⟨S4096x3072, .f32⟩
  | .hbm, ⟨50, _⟩ => ⟨S_, .f32⟩
  | .hbm, ⟨51, _⟩ => ⟨S4096x3072, .f32⟩
  | .hbm, ⟨52, _⟩ => ⟨S4096x3072, .f32⟩
  | .hbm, ⟨53, _⟩ => ⟨S_, .f32⟩
  | .hbm, ⟨54, _⟩ => ⟨S4096x3072, .f32⟩
  | .hbm, ⟨55, _⟩ => ⟨S4096x3072, .f32⟩
  | .hbm, ⟨56, _⟩ => ⟨S4096x3x1024, .f32⟩
  | .hbm, ⟨57, _⟩ => ⟨S4096x1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== AdamSmall.lean ====
abbrev S2x1024 : Shape := ⟨2, ![2, 1024]⟩
abbrev S2x3072 : Shape := ⟨2, ![2, 3072]⟩
abbrev S2x4x128x128 : Shape := ⟨4, ![2, 4, 128, 128]⟩
abbrev S1024x128 : Shape := ⟨2, ![1024, 128]⟩

abbrev nBuf : Space → Nat
  | .hbm => 25
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x3072, .f32⟩
  | .hbm, ⟨2, _⟩ => ⟨S2x4x128x128, .f32⟩
  | .hbm, ⟨3, _⟩ => ⟨S2x1024, .f32⟩
  | .hbm, ⟨4, _⟩ => ⟨S2x3072, .f32⟩
  | .hbm, ⟨5, _⟩ => ⟨S2x4x128x128, .f32⟩
  | .hbm, ⟨6, _⟩ => ⟨S2x1024, .f32⟩
  | .hbm, ⟨7, _⟩ => ⟨S2x3072, .f32⟩
  | .hbm, ⟨8, _⟩ => ⟨S2x4x128x128, .f32⟩
  | .hbm, ⟨9, _⟩ => ⟨S2x1024, .f32⟩
  | .hbm, ⟨10, _⟩ => ⟨S2x3072, .f32⟩
  | .hbm, ⟨11, _⟩ => ⟨S2x4x128x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S2x1024, .f32⟩
  | .hbm, ⟨17, _⟩ => ⟨S2x3072, .f32⟩
  | .hbm, ⟨18, _⟩ => ⟨S1024x128, .f32⟩
  | .hbm, ⟨19, _⟩ => ⟨S2x1024, .f32⟩
  | .hbm, ⟨20, _⟩ => ⟨S2x3072, .f32⟩
  | .hbm, ⟨21, _⟩ => ⟨S1024x128, .f32⟩
  | .hbm, ⟨22, _⟩ => ⟨S2x1024, .f32⟩
  | .hbm, ⟨23, _⟩ => ⟨S2x3072, .f32⟩
  | .hbm, ⟨24, _⟩ => ⟨S1024x128, .f32⟩
  | .local _ .vmem, ⟨0, _⟩ => ⟨S2x1024, .f32⟩
  | .local _ .vmem, ⟨1, _⟩ => ⟨S2x3072, .f32⟩
  | .local _ .vmem, ⟨2, _⟩ => ⟨S1024x128, .f32⟩
  | .local _ .vmem, ⟨3, _⟩ => ⟨S2x1024, .f32⟩
  | .local _ .vmem, ⟨4, _⟩ => ⟨S2x3072, .f32⟩
  | .local _ .vmem, ⟨5, _⟩ => ⟨S1024x128, .f32⟩
  | .local _ .vmem, ⟨6, _⟩ => ⟨S2x1024, .f32⟩
  | .local _ .vmem, ⟨7, _⟩ => ⟨S2x3072, .f32⟩
  | .local _ .vmem, ⟨8, _⟩ => ⟨S1024x128, .f32⟩
  | .local _ .vmem, ⟨9, _⟩ => ⟨S2x1024, .f32⟩
  | .local _ .vmem, ⟨10, _⟩ => ⟨S2x3072, .f32⟩
  | .local _ .vmem, ⟨11, _⟩ => ⟨S1024x128, .f32⟩
  | .local _ .vmem, ⟨12, _⟩ => ⟨S2x1024, .f32⟩
  | .local _ .vmem, ⟨13, _⟩ => ⟨S2x3072, .f32⟩
  | .local _ .vmem, ⟨14, _⟩ => ⟨S1024x128, .f32⟩
  | .local _ .vmem, ⟨15, _⟩ => ⟨S2x1024, .f32⟩
  | .local _ .vmem, ⟨16, _⟩ => ⟨S2x3072, .f32⟩
  | .local _ .vmem, ⟨17, _⟩ => ⟨S1024x128, .f32⟩
  | .local _ .vmem, ⟨18, _⟩ => ⟨S2x1024, .f32⟩
  | .local _ .vmem, ⟨19, _⟩ => ⟨S2x3072, .f32⟩
  | .local _ .vmem, ⟨20, _⟩ => ⟨S1024x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev main_v4_7 : Ref sig .tc := ⟨.hbm, 23, rfl⟩
abbrev main_v4_8 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x3072 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== AdamSmallRefIdeal.lean ====
abbrev S2x1024 : Shape := ⟨2, ![2, 1024]⟩
abbrev S2x3072 : Shape := ⟨2, ![2, 3072]⟩
abbrev S2x4x128x128 : Shape := ⟨4, ![2, 4, 128, 128]⟩
abbrev S_ : Shape := ⟨0, ![]⟩
abbrev S1024x128 : Shape := ⟨2, ![1024, 128]⟩

abbrev nBuf : Space → Nat
  | .hbm => 114
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x3072, .f32⟩
  | .hbm, ⟨2, _⟩ => ⟨S2x4x128x128, .f32⟩
  | .hbm, ⟨3, _⟩ => ⟨S2x1024, .f32⟩
  | .hbm, ⟨4, _⟩ => ⟨S2x3072, .f32⟩
  | .hbm, ⟨5, _⟩ => ⟨S2x4x128x128, .f32⟩
  | .hbm, ⟨6, _⟩ => ⟨S2x1024, .f32⟩
  | .hbm, ⟨7, _⟩ => ⟨S2x3072, .f32⟩
  | .hbm, ⟨8, _⟩ => ⟨S2x4x128x128, .f32⟩
  | .hbm, ⟨9, _⟩ => ⟨S2x1024, .f32⟩
  | .hbm, ⟨10, _⟩ => ⟨S2x3072, .f32⟩
  | .hbm, ⟨11, _⟩ => ⟨S2x4x128x128, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x3072, .f32⟩
  | .hbm, ⟨47, _⟩ => ⟨S2x3072, .f32⟩
  | .hbm, ⟨48, _⟩ => ⟨S_, .f32⟩
  | .hbm, ⟨49, _⟩ => ⟨S2x3072, .f32⟩
  | .hbm, ⟨50, _⟩ => ⟨S2x3072, .f32⟩
  | .hbm, ⟨51, _⟩ => ⟨S2x3072, .f32⟩
  | .hbm, ⟨52, _⟩ => ⟨S_, .f32⟩
  | .hbm, ⟨53, _⟩ => ⟨S2x3072, .f32⟩
  | .hbm, ⟨54, _⟩ => ⟨S2x3072, .f32⟩
  | .hbm, ⟨55, _⟩ => ⟨S2x3072, .f32⟩
  | .hbm, ⟨56, _⟩ => ⟨S_, .f32⟩
  | .hbm, ⟨57, _⟩ => ⟨S2x3072, .f32⟩
  | .hbm, ⟨58, _⟩ => ⟨S2x3072, .f32⟩
  | .hbm, ⟨59, _⟩ => ⟨S2x3072, .f32⟩
  | .hbm, ⟨60, _⟩ => ⟨S_, .f32⟩
  | .hbm, ⟨61, _⟩ => ⟨S2x3072, .f32⟩
  | .hbm, ⟨62, _⟩ => ⟨S2x3072, .f32⟩
  | .hbm, ⟨63, _⟩ => ⟨S_, .f32⟩
  | .hbm, ⟨64, _⟩ => ⟨S2x3072, .f32⟩
  | .hbm, ⟨65, _⟩ => ⟨S2x3072, .f32⟩
  | .hbm, ⟨66, _⟩ => ⟨S2x3072, .f32⟩
  | .hbm, ⟨67, _⟩ => ⟨S_, .f32⟩
  | .hbm, ⟨68, _⟩ => ⟨S2x3072, .f32⟩
  | .hbm, ⟨69, _⟩ => ⟨S2x3072, .f32⟩
  | .hbm, ⟨70, _⟩ => ⟨S2x3072, .f32⟩
  | .hbm, ⟨71, _⟩ => ⟨S_, .f32⟩
  | .hbm, ⟨72, _⟩ => ⟨S2x3072, .f32⟩
  | .hbm, ⟨73, _⟩ => ⟨S2x3072, .f32⟩
  | .hbm, ⟨74, _⟩ => ⟨S2x3072, .f32⟩
  | .hbm, ⟨75, _⟩ => ⟨S_, .f32⟩
  | .hbm, ⟨76, _⟩ => ⟨S2x3072, .f32⟩
  | .hbm, ⟨77, _⟩ => ⟨S2x3072, .f32⟩
  | .hbm, ⟨78, _⟩ => ⟨S_, .f32⟩
  | .hbm, ⟨79, _⟩ => ⟨S2x4x128x128, .f32⟩
  | .hbm, ⟨80, _⟩ => ⟨S2x4x128x128, .f32⟩
  | .hbm, ⟨81, _⟩ => ⟨S_, .f32⟩
  | .hbm, ⟨82, _⟩ => ⟨S2x4x128x128, .f32⟩
  | .hbm, ⟨83, _⟩ => ⟨S2x4x128x128, .f32⟩
  | .hbm, ⟨84, _⟩ => ⟨S2x4x128x128, .f32⟩
  | .hbm, ⟨85, _⟩ => ⟨S_, .f32⟩
  | .hbm, ⟨86, _⟩ => ⟨S2x4x128x128, .f32⟩
  | .hbm, ⟨87, _⟩ => ⟨S2x4x128x128, .f32⟩
  | .hbm, ⟨88, _⟩ => ⟨S2x4x128x128, .f32⟩
  | .hbm, ⟨89, _⟩ => ⟨S_, .f32⟩
  | .hbm, ⟨90, _⟩ => ⟨S2x4x128x128, .f32⟩
  | .hbm, ⟨91, _⟩ => ⟨S2x4x128x128, .f32⟩
  | .hbm, ⟨92, _⟩ => ⟨S2x4x128x128, .f32⟩
  | .hbm, ⟨93, _⟩ => ⟨S_, .f32⟩
  | .hbm, ⟨94, _⟩ => ⟨S2x4x128x128, .f32⟩
  | .hbm, ⟨95, _⟩ => ⟨S2x4x128x128, .f32⟩
  | .hbm, ⟨96, _⟩ => ⟨S_, .f32⟩
  | .hbm, ⟨97, _⟩ => ⟨S2x4x128x128, .f32⟩
  | .hbm, ⟨98, _⟩ => ⟨S2x4x128x128, .f32⟩
  | .hbm, ⟨99, _⟩ => ⟨S2x4x128x128, .f32⟩
  | .hbm, ⟨100, _⟩ => ⟨S_, .f32⟩
  | .hbm, ⟨101, _⟩ => ⟨S2x4x128x128, .f32⟩
  | .hbm, ⟨102, _⟩ => ⟨S2x4x128x128, .f32⟩
  | .hbm, ⟨103, _⟩ => ⟨S2x4x128x128, .f32⟩
  | .hbm, ⟨104, _⟩ => ⟨S_, .f32⟩
  | .hbm, ⟨105, _⟩ => ⟨S2x4x128x128, .f32⟩
  | .hbm, ⟨106, _⟩ => ⟨S2x4x128x128, .f32⟩
  | .hbm, ⟨107, _⟩ => ⟨S2x4x128x128, .f32⟩
  | .hbm, ⟨108, _⟩ => ⟨S_, .f32⟩
  | .hbm, ⟨109, _⟩ => ⟨S2x4x128x128, .f32⟩
  | .hbm, ⟨110, _⟩ => ⟨S2x4x128x128, .f32⟩
  | .hbm, ⟨111, _⟩ => ⟨S1024x128, .f32⟩
  | .hbm, ⟨112, _⟩ => ⟨S1024x128, .f32⟩
  | .hbm, ⟨113, _⟩ => ⟨S1024x128, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩

abbrev nD : Nat := 1
abbrev τ : Topo := Topo.v7x

variable {F : FTy → Type} [FloatOps F]
-- ==== AdamSmallTwo.lean ====
abbrev S2x512 : Shape := ⟨2, ![2, 512]⟩
abbrev S2x3x128 : Shape := ⟨3, ![2, 3, 128]⟩
abbrev S2x64 : Shape := ⟨2, ![2, 64]⟩
abbrev S1x768 : Shape := ⟨2, ![1, 768]⟩
abbrev S1x128 : Shape := ⟨2, ![1, 128]⟩

abbrev nBuf : Space → Nat
  | .hbm => 29
  | .vmem => 21
  | .smem => 0
  | _ => 0

abbrev bufTy : (tb : Table) → Fin (tcTables nBuf tb) → BufTy
  | .hbm, ⟨0, _⟩ => ⟨S2x512, .f32⟩
  | .hbm, ⟨1, _⟩ => ⟨S2x3x128, .f32⟩
  | .hbm, ⟨2, _⟩ => ⟨S2x64, .f32⟩
  | .hbm, ⟨3, _⟩ => ⟨S2x512, .f32⟩
  | .hbm, ⟨4, _⟩ => ⟨S2x3x128, .f32⟩
  | .hbm, ⟨5, _⟩ => ⟨S2x64, .f32⟩
  | .hbm, ⟨6, _⟩ => ⟨S2x512, .f32⟩
  | .hbm, ⟨7, _⟩ => ⟨S2x3x128, .f32⟩
  | .hbm, ⟨8, _⟩ => ⟨S2x64, .f32⟩
  | .hbm, ⟨9, _⟩ => ⟨S2x512, .f32⟩
  | .hbm, ⟨10, _⟩ => ⟨S2x3x128, .f32⟩
  | .hbm, ⟨11, _⟩ => ⟨S2x64, .f32⟩
  | .hbm, ⟨12, _⟩ => ⟨S1x768, .f32⟩
  | .hbm, ⟨13, _⟩ => ⟨S1x128, .f32⟩
  | .hbm, ⟨14, _⟩ => ⟨S1x768, .f32⟩
  | .hbm, ⟨15, _⟩ => ⟨S1x128, .f32⟩
  | .hbm, ⟨16, _⟩ => ⟨S1x768, .f32⟩
  | .hbm, ⟨17, _⟩ => ⟨S1x128, .f32⟩
  | .hbm, ⟨18, _⟩ => ⟨S1x768, .f32⟩
  | .hbm, ⟨19, _⟩ => ⟨S1x128, .f32⟩
  | .hbm, ⟨20, _⟩ => ⟨S2x512, .f32⟩
  | .hbm, ⟨21, _⟩ => ⟨S1x768, .f32⟩
  | .hbm, ⟨22, _⟩ => ⟨S1x128, .f32⟩
  | .hbm, ⟨23, _⟩ => ⟨S2x512, .f32⟩
  | .hbm, ⟨24, _⟩ => ⟨S1x768, .f32⟩
  | .hbm, ⟨25, _⟩ => ⟨S1x128, .f32⟩
  | .hbm, ⟨26, _⟩ => ⟨S2x512, .f32⟩
  | .hbm, ⟨27, _⟩ => ⟨S1x768, .f32⟩
  | .hbm, ⟨28, _⟩ => ⟨S1x128, .f32⟩
  | .local _ .vmem, ⟨0, _⟩ => ⟨S2x512, .f32⟩
  | .local _ .vmem, ⟨1, _⟩ => ⟨S1x768, .f32⟩
  | .local _ .vmem, ⟨2, _⟩ => ⟨S1x128, .f32⟩
  | .local _ .vmem, ⟨3, _⟩ => ⟨S2x512, .f32⟩
  | .local _ .vmem, ⟨4, _⟩ => ⟨S1x768, .f32⟩
  | .local _ .vmem, ⟨5, _⟩ => ⟨S1x128, .f32⟩
  | .local _ .vmem, ⟨6, _⟩ => ⟨S2x512, .f32⟩
  | .local _ .vmem, ⟨7, _⟩ => ⟨S1x768, .f32⟩
  | .local _ .vmem, ⟨8, _⟩ => ⟨S1x128, .f32⟩
  | .local _ .vmem, ⟨9, _⟩ => ⟨S2x512, .f32⟩
  | .local _ .vmem, ⟨10, _⟩ => ⟨S1x768, .f32⟩
  | .local _ .vmem, ⟨11, _⟩ => ⟨S1x128, .f32⟩
  | .local _ .vmem, ⟨12, _⟩ => ⟨S2x512, .f32⟩
  | .local _ .vmem, ⟨13, _⟩ => ⟨S1x768, .f32⟩
  | .local _ .vmem, ⟨14, _⟩ => ⟨S1x128, .f32⟩
  | .local _ .vmem, ⟨15, _⟩ => ⟨S2x512, .f32⟩
  | .local _ .vmem, ⟨16, _⟩ => ⟨S1x768, .f32⟩
  | .local _ .vmem, ⟨17, _⟩ => ⟨S1x128, .f32⟩
  | .local _ .vmem, ⟨18, _⟩ => ⟨S2x512, .f32⟩
  | .local _ .vmem, ⟨19, _⟩ => ⟨S1x768, .f32⟩
  | .local _ .vmem, ⟨20, _⟩ => ⟨S1x128, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== AdamSmallTwoRefIdeal.lean ====
abbrev S2x512 : Shape := ⟨2, ![2, 512]⟩
abbrev S2x3x128 : Shape := ⟨3, ![2, 3, 128]⟩
abbrev S2x64 : Shape := ⟨2, ![2, 64]⟩
abbrev S_ : Shape := ⟨0, ![]⟩
abbrev S1x768 : Shape := ⟨2, ![1, 768]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x3x128, .f32⟩
  | .hbm, ⟨2, _⟩ => ⟨S2x64, .f32⟩
  | .hbm, ⟨3, _⟩ => ⟨S2x512, .f32⟩
  | .hbm, ⟨4, _⟩ => ⟨S2x3x128, .f32⟩
  | .hbm, ⟨5, _⟩ => ⟨S2x64, .f32⟩
  | .hbm, ⟨6, _⟩ => ⟨S2x512, .f32⟩
  | .hbm, ⟨7, _⟩ => ⟨S2x3x128, .f32⟩
  | .hbm, ⟨8, _⟩ => ⟨S2x64, .f32⟩
  | .hbm, ⟨9, _⟩ => ⟨S2x512, .f32⟩
  | .hbm, ⟨10, _⟩ => ⟨S2x3x128, .f32⟩
  | .hbm, ⟨11, _⟩ => ⟨S2x64, .f32⟩
  | .hbm, ⟨12, _⟩ => ⟨S_, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S2x512, .f32⟩
  | .hbm, ⟨23, _⟩ => ⟨S_, .f32⟩
  | .hbm, ⟨24, _⟩ => ⟨S2x512, .f32⟩
  | .hbm, ⟨25, _⟩ => ⟨S2x512, .f32⟩
  | .hbm, ⟨26, _⟩ => ⟨S2x512, .f32⟩
  | .hbm, ⟨27, _⟩ => ⟨S_, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | .hbm, ⟨37, _⟩ => ⟨S2x512, .f32⟩
  | .hbm, ⟨38, _⟩ => ⟨S_, .f32⟩
  | .hbm, ⟨39, _⟩ => ⟨S2x512, .f32⟩
  | .hbm, ⟨40, _⟩ => ⟨S2x512, .f32⟩
  | .hbm, ⟨41, _⟩ => ⟨S2x512, .f32⟩
  | .hbm, ⟨42, _⟩ => ⟨S_, .f32⟩
  | .hbm, ⟨43, _⟩ => ⟨S2x512, .f32⟩
  | .hbm, ⟨44, _⟩ => ⟨S2x512, .f32⟩
  | .hbm, ⟨45, _⟩ => ⟨S_, .f32⟩
  | .hbm, ⟨46, _⟩ => ⟨S2x3x128, .f32⟩
  | .hbm, ⟨47, _⟩ => ⟨S2x3x128, .f32⟩
  | .hbm, ⟨48, _⟩ => ⟨S_, .f32⟩
  | .hbm, ⟨49, _⟩ => ⟨S2x3x128, .f32⟩
  | .hbm, ⟨50, _⟩ => ⟨S2x3x128, .f32⟩
  | .hbm, ⟨51, _⟩ => ⟨S2x3x128, .f32⟩
  | .hbm, ⟨52, _⟩ => ⟨S_, .f32⟩
  | .hbm, ⟨53, _⟩ => ⟨S2x3x128, .f32⟩
  | .hbm, ⟨54, _⟩ => ⟨S2x3x128, .f32⟩
  | .hbm, ⟨55, _⟩ => ⟨S2x3x128, .f32⟩
  | .hbm, ⟨56, _⟩ => ⟨S_, .f32⟩
  | .hbm, ⟨57, _⟩ => ⟨S2x3x128, .f32⟩
  | .hbm, ⟨58, _⟩ => ⟨S2x3x128, .f32⟩
  | .hbm, ⟨59, _⟩ => ⟨S2x3x128, .f32⟩
  | .hbm, ⟨60, _⟩ => ⟨S_, .f32⟩
  | .hbm, ⟨61, _⟩ => ⟨S2x3x128, .f32⟩
  | .hbm, ⟨62, _⟩ => ⟨S2x3x128, .f32⟩
  | .hbm, ⟨63, _⟩ => ⟨S_, .f32⟩
  | .hbm, ⟨64, _⟩ => ⟨S2x3x128, .f32⟩
  | .hbm, ⟨65, _⟩ => ⟨S2x3x128, .f32⟩
  | .hbm, ⟨66, _⟩ => ⟨S2x3x128, .f32⟩
  | .hbm, ⟨67, _⟩ => ⟨S_, .f32⟩
  | .hbm, ⟨68, _⟩ => ⟨S2x3x128, .f32⟩
  | .hbm, ⟨69, _⟩ => ⟨S2x3x128, .f32⟩
  | .hbm, ⟨70, _⟩ => ⟨S2x3x128, .f32⟩
  | .hbm, ⟨71, _⟩ => ⟨S_, .f32⟩
  | .hbm, ⟨72, _⟩ => ⟨S2x3x128, .f32⟩
  | .hbm, ⟨73, _⟩ => ⟨S2x3x128, .f32⟩
  | .hbm, ⟨74, _⟩ => ⟨S2x3x128, .f32⟩
  | .hbm, ⟨75, _⟩ => ⟨S_, .f32⟩
  | .hbm, ⟨76, _⟩ => ⟨S2x3x128, .f32⟩
  | .hbm, ⟨77, _⟩ => ⟨S2x3x128, .f32⟩
  | .hbm, ⟨78, _⟩ => ⟨S1x768, .f32⟩
  | .hbm, ⟨79, _⟩ => ⟨S1x768, .f32⟩
  | .hbm, ⟨80, _⟩ => ⟨S1x768, .f32⟩
  | .hbm, ⟨81, _⟩ => ⟨S_, .f32⟩
  | .hbm, ⟨82, _⟩ => ⟨S2x64, .f32⟩
  | .hbm, ⟨83, _⟩ => ⟨S2x64, .f32⟩
  | .hbm, ⟨84, _⟩ => ⟨S_, .f32⟩
  | .hbm, ⟨85, _⟩ => ⟨S2x64, .f32⟩
  | .hbm, ⟨86, _⟩ => ⟨S2x64, .f32⟩
  | .hbm, ⟨87, _⟩ => ⟨S2x64, .f32⟩
  | .hbm, ⟨88, _⟩ => ⟨S_, .f32⟩
  | .hbm, ⟨89, _⟩ => ⟨S2x64, .f32⟩
  | .hbm, ⟨90, _⟩ => ⟨S2x64, .f32⟩
  | .hbm, ⟨91, _⟩ => ⟨S2x64, .f32⟩
  | .hbm, ⟨92, _⟩ => ⟨S_, .f32⟩
  | .hbm, ⟨93, _⟩ => ⟨S2x64, .f32⟩
  | .hbm, ⟨94, _⟩ => ⟨S2x64, .f32⟩
  | .hbm, ⟨95, _⟩ => ⟨S2x64, .f32⟩
  | .hbm, ⟨96, _⟩ => ⟨S_, .f32⟩
  | .hbm, ⟨97, _⟩ => ⟨S2x64, .f32⟩
  | .hbm, ⟨98, _⟩ => ⟨S2x64, .f32⟩
  | .hbm, ⟨99, _⟩ => ⟨S_, .f32⟩
  | .hbm, ⟨100, _⟩ => ⟨S2x64, .f32⟩
  | .hbm, ⟨101, _⟩ => ⟨S2x64, .f32⟩
  | .hbm, ⟨102, _⟩ => ⟨S2x64, .f32⟩
  | .hbm, ⟨103, _⟩ => ⟨S_, .f32⟩
  | .hbm, ⟨104, _⟩ => ⟨S2x64, .f32⟩
  | .hbm, ⟨105, _⟩ => ⟨S2x64, .f32⟩
  | .hbm, ⟨106, _⟩ => ⟨S2x64, .f32⟩
  | .hbm, ⟨107, _⟩ => ⟨S_, .f32⟩
  | .hbm, ⟨108, _⟩ => ⟨S2x64, .f32⟩
  | .hbm, ⟨109, _⟩ => ⟨S2x64, .f32⟩
  | .hbm, ⟨110, _⟩ => ⟨S2x64, .f32⟩
  | .hbm, ⟨111, _⟩ => ⟨S_, .f32⟩
  | .hbm, ⟨112, _⟩ => ⟨S2x64, .f32⟩
  | .hbm, ⟨113, _⟩ => ⟨S2x64, .f32⟩
  | .hbm, ⟨114, _⟩ => ⟨S1x128, .f32⟩
  | .hbm, ⟨115, _⟩ => ⟨S1x128, .f32⟩
  | .hbm, ⟨116, _⟩ => ⟨S1x128, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_17 : Ref sig .tc := ⟨.hbm, 81, rfl⟩
abbrev main_v51 : Ref sig .tc := ⟨.hbm, 82, rfl⟩
abbrev main_v52 : Ref sig .tc := ⟨.hbm, 83, rfl⟩
abbrev main_cst_18 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_19 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_20 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_21 : Ref sig .tc := ⟨.hbm, 96, rfl⟩
abbrev main_v62 : Ref sig .tc := ⟨.hbm, 97, rfl⟩
abbrev main_v63 : Ref sig .tc := ⟨.hbm, 98, rfl⟩
abbrev main_cst_22 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_23 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_24 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_25 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩

abbrev nD : Nat := 1
abbrev τ : Topo := Topo.v7x

variable {F : FTy → Type} [FloatOps F]
-- ==== AdamSmallThree.lean ====
abbrev S2x64 : Shape := ⟨2, ![2, 64]⟩
abbrev S2x1024 : Shape := ⟨2, ![2, 1024]⟩
abbrev S1x128 : Shape := ⟨2, ![1, 128]⟩

abbrev nBuf : Space → Nat
  | .hbm => 18
  | .vmem => 14
  | .smem => 0
  | _ => 0

abbrev bufTy : (tb : Table) → Fin (tcTables nBuf tb) → BufTy
  | .hbm, ⟨0, _⟩ => ⟨S2x64, .f32⟩
  | .hbm, ⟨1, _⟩ => ⟨S2x1024, .f32⟩
  | .hbm, ⟨2, _⟩ => ⟨S2x64, .f32⟩
  | .hbm, ⟨3, _⟩ => ⟨S2x1024, .f32⟩
  | .hbm, ⟨4, _⟩ => ⟨S2x64, .f32⟩
  | .hbm, ⟨5, _⟩ => ⟨S2x1024, .f32⟩
  | .hbm, ⟨6, _⟩ => ⟨S2x64, .f32⟩
  | .hbm, ⟨7, _⟩ => ⟨S2x1024, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S2x1024, .f32⟩
  | .hbm, ⟨14, _⟩ => ⟨S1x128, .f32⟩
  | .hbm, ⟨15, _⟩ => ⟨S2x1024, .f32⟩
  | .hbm, ⟨16, _⟩ => ⟨S1x128, .f32⟩
  | .hbm, ⟨17, _⟩ => ⟨S2x1024, .f32⟩
  | .local _ .vmem, ⟨0, _⟩ => ⟨S1x128, .f32⟩
  | .local _ .vmem, ⟨1, _⟩ => ⟨S2x1024, .f32⟩
  | .local _ .vmem, ⟨2, _⟩ => ⟨S1x128, .f32⟩
  | .local _ .vmem, ⟨3, _⟩ => ⟨S2x1024, .f32⟩
  | .local _ .vmem, ⟨4, _⟩ => ⟨S1x128, .f32⟩
  | .local _ .vmem, ⟨5, _⟩ => ⟨S2x1024, .f32⟩
  | .local _ .vmem, ⟨6, _⟩ => ⟨S1x128, .f32⟩
  | .local _ .vmem, ⟨7, _⟩ => ⟨S2x1024, .f32⟩
  | .local _ .vmem, ⟨8, _⟩ => ⟨S1x128, .f32⟩
  | .local _ .vmem, ⟨9, _⟩ => ⟨S2x1024, .f32⟩
  | .local _ .vmem, ⟨10, _⟩ => ⟨S1x128, .f32⟩
  | .local _ .vmem, ⟨11, _⟩ => ⟨S2x1024, .f32⟩
  | .local _ .vmem, ⟨12, _⟩ => ⟨S1x128, .f32⟩
  | .local _ .vmem, ⟨13, _⟩ => ⟨S2x1024, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AdamSmallThreeRefIdeal.lean ====
abbrev S2x64 : Shape := ⟨2, ![2, 64]⟩
abbrev S2x1024 : Shape := ⟨2, ![2, 1024]⟩
abbrev S_ : Shape := ⟨0, ![]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x1024, .f32⟩
  | .hbm, ⟨2, _⟩ => ⟨S2x64, .f32⟩
  | .hbm, ⟨3, _⟩ => ⟨S2x1024, .f32⟩
  | .hbm, ⟨4, _⟩ => ⟨S2x64, .f32⟩
  | .hbm, ⟨5, _⟩ => ⟨S2x1024, .f32⟩
  | .hbm, ⟨6, _⟩ => ⟨S2x64, .f32⟩
  | .hbm, ⟨7, _⟩ => ⟨S2x1024, .f32⟩
  | .hbm, ⟨8, _⟩ => ⟨S_, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S2x64, .f32⟩
  | .hbm, ⟨23, _⟩ => ⟨S_, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | .hbm, ⟨37, _⟩ => ⟨S2x64, .f32⟩
  | .hbm, ⟨38, _⟩ => ⟨S_, .f32⟩
  | .hbm, ⟨39, _⟩ => ⟨S2x64, .f32⟩
  | .hbm, ⟨40, _⟩ => ⟨S2x64, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S2x1024, .f32⟩
  | .hbm, ⟨46, _⟩ => ⟨S2x1024, .f32⟩
  | .hbm, ⟨47, _⟩ => ⟨S_, .f32⟩
  | .hbm, ⟨48, _⟩ => ⟨S2x1024, .f32⟩
  | .hbm, ⟨49, _⟩ => ⟨S2x1024, .f32⟩
  | .hbm, ⟨50, _⟩ => ⟨S2x1024, .f32⟩
  | .hbm, ⟨51, _⟩ => ⟨S_, .f32⟩
  | .hbm, ⟨52, _⟩ => ⟨S2x1024, .f32⟩
  | .hbm, ⟨53, _⟩ => ⟨S2x1024, .f32⟩
  | .hbm, ⟨54, _⟩ => ⟨S2x1024, .f32⟩
  | .hbm, ⟨55, _⟩ => ⟨S_, .f32⟩
  | .hbm, ⟨56, _⟩ => ⟨S2x1024, .f32⟩
  | .hbm, ⟨57, _⟩ => ⟨S2x1024, .f32⟩
  | .hbm, ⟨58, _⟩ => ⟨S2x1024, .f32⟩
  | .hbm, ⟨59, _⟩ => ⟨S_, .f32⟩
  | .hbm, ⟨60, _⟩ => ⟨S2x1024, .f32⟩
  | .hbm, ⟨61, _⟩ => ⟨S2x1024, .f32⟩
  | .hbm, ⟨62, _⟩ => ⟨S_, .f32⟩
  | .hbm, ⟨63, _⟩ => ⟨S2x1024, .f32⟩
  | .hbm, ⟨64, _⟩ => ⟨S2x1024, .f32⟩
  | .hbm, ⟨65, _⟩ => ⟨S2x1024, .f32⟩
  | .hbm, ⟨66, _⟩ => ⟨S_, .f32⟩
  | .hbm, ⟨67, _⟩ => ⟨S2x1024, .f32⟩
  | .hbm, ⟨68, _⟩ => ⟨S2x1024, .f32⟩
  | .hbm, ⟨69, _⟩ => ⟨S2x1024, .f32⟩
  | .hbm, ⟨70, _⟩ => ⟨S_, .f32⟩
  | .hbm, ⟨71, _⟩ => ⟨S2x1024, .f32⟩
  | .hbm, ⟨72, _⟩ => ⟨S2x1024, .f32⟩
  | .hbm, ⟨73, _⟩ => ⟨S2x1024, .f32⟩
  | .hbm, ⟨74, _⟩ => ⟨S_, .f32⟩
  | .hbm, ⟨75, _⟩ => ⟨S2x1024, .f32⟩
  | .hbm, ⟨76, _⟩ => ⟨S2x1024, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_12 : Ref sig .tc := ⟨.hbm, 59, rfl⟩
abbrev main_v38 : Ref sig .tc := ⟨.hbm, 60, rfl⟩
abbrev main_v39 : Ref sig .tc := ⟨.hbm, 61, rfl⟩
abbrev main_cst_13 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_14 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_15 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_16 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== AdamIn.lean ====
abbrev S2x1856x1024 : Shape := ⟨3, ![2, 1856, 1024]⟩
abbrev S928x1024 : Shape := ⟨2, ![928, 1024]⟩
abbrev S2x2x928x1024 : Shape := ⟨4, ![2, 2, 928, 1024]⟩
abbrev S1x1x232x1024 : Shape := ⟨4, ![1, 1, 232, 1024]⟩
abbrev S232x1024 : Shape := ⟨2, ![232, 1024]⟩

abbrev nBuf : Space → Nat
  | .hbm => 14
  | .vmem => 22
  | .smem => 0
  | _ => 0

abbrev bufTy : (tb : Table) → Fin (tcTables nBuf tb) → BufTy
  | .hbm, ⟨0, _⟩ => ⟨S2x1856x1024, .f32⟩
  | .hbm, ⟨1, _⟩ => ⟨S2x1856x1024, .f32⟩
  | .hbm, ⟨2, _⟩ => ⟨S2x1856x1024, .f32⟩
  | .hbm, ⟨3, _⟩ => ⟨S928x1024, .f32⟩
  | .hbm, ⟨4, _⟩ => ⟨S928x1024, .f32⟩
  | .hbm, ⟨5, _⟩ => ⟨S928x1024, .f32⟩
  | .hbm, ⟨6, _⟩ => ⟨S928x1024, .f32⟩
  | .hbm, ⟨7, _⟩ => ⟨S2x2x928x1024, .f32⟩
  | .hbm, ⟨8, _⟩ => ⟨S2x2x928x1024, .f32⟩
  | .hbm, ⟨9, _⟩ => ⟨S2x2x928x1024, .f32⟩
  | .hbm, ⟨10, _⟩ => ⟨S2x2x928x1024, .f32⟩
  | .hbm, ⟨11, _⟩ => ⟨S2x2x928x1024, .f32⟩
  | .hbm, ⟨12, _⟩ => ⟨S2x2x928x1024, .f32⟩
  | .hbm, ⟨13, _⟩ => ⟨S2x2x928x1024, .f32⟩
  | .local _ .vmem, ⟨0, _⟩ => ⟨S1x1x232x1024, .f32⟩
  | .local _ .vmem, ⟨1, _⟩ => ⟨S1x1x232x1024, .f32⟩
  | .local _ .vmem, ⟨2, _⟩ => ⟨S1x1x232x1024, .f32⟩
  | .local _ .vmem, ⟨3, _⟩ => ⟨S1x1x232x1024, .f32⟩
  | .local _ .vmem, ⟨4, _⟩ => ⟨S1x1x232x1024, .f32⟩
  | .local _ .vmem, ⟨5, _⟩ => ⟨S1x1x232x1024, .f32⟩
  | .local _ .vmem, ⟨6, _⟩ => ⟨S232x1024, .f32⟩
  | .local _ .vmem, ⟨7, _⟩ => ⟨S232x1024, .f32⟩
  | .local _ .vmem, ⟨8, _⟩ => ⟨S232x1024, .f32⟩
  | .local _ .vmem, ⟨9, _⟩ => ⟨S232x1024, .f32⟩
  | .local _ .vmem, ⟨10, _⟩ => ⟨S232x1024, .f32⟩
  | .local _ .vmem, ⟨11, _⟩ => ⟨S232x1024, .f32⟩
  | .local _ .vmem, ⟨12, _⟩ => ⟨S232x1024, .f32⟩
  | .local _ .vmem, ⟨13, _⟩ => ⟨S232x1024, .f32⟩
  | .local _ .vmem, ⟨14, _⟩ => ⟨S1x1x232x1024, .f32⟩
  | .local _ .vmem, ⟨15, _⟩ => ⟨S1x1x232x1024, .f32⟩
  | .local _ .vmem, ⟨16, _⟩ => ⟨S1x1x232x1024, .f32⟩
  | .local _ .vmem, ⟨17, _⟩ => ⟨S1x1x232x1024, .f32⟩
  | .local _ .vmem, ⟨18, _⟩ => ⟨S1x1x232x1024, .f32⟩
  | .local _ .vmem, ⟨19, _⟩ => ⟨S1x1x232x1024, .f32⟩
  | .local _ .vmem, ⟨20, _⟩ => ⟨S1x1x232x1024, .f32⟩
  | .local _ .vmem, ⟨21, _⟩ => ⟨S1x1x232x1024, .f32⟩
  | _, _ => ⟨S2x1856x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c0_i32 : BitVec 32 := 0#32
  let v0 : BitVec 1 := Scalar.cmpi .eq arg1 c0_i32
  let v2 : BitVec 1 := Scalar.andi v1 v0
  let v14 : BitVec 32 := Scalar.extui v2
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_2 : BitVec 32 := 0#32
  let v4 : BitVec 1 := Scalar.cmpi .eq arg0 c0_i32_2
  let arg1 : BitVec 32 := BitVec.ofNat 32 (i 1).val
  let c0_i32_1 : BitVec 32 := 0#32
  let v3 : BitVec 1 := Scalar.cmpi .eq arg1 c0_i32_1
  let v_true : BitVec 1 := 1#1
  let v5 : BitVec 1 := Scalar.xori v3 v_true
  let v6 : BitVec 1 := Scalar.andi v4 v5
  let v16 : BitVec 32 := Scalar.extui v6
  let c0_i32_8 : BitVec 32 := 0#32
  let v17 : BitVec 1 := Scalar.cmpi .ne v16 c0_i32_8
  v17

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_3 : BitVec 32 := 0#32
  let v7 : BitVec 1 := Scalar.cmpi .eq arg1 c0_i32_3
  let v9 : BitVec 1 := Scalar.andi v8 v7
  let v18 : BitVec 32 := Scalar.extui v9
  let c0_i32_9 : BitVec 32 := 0#32
  let v19 : BitVec 1 := Scalar.cmpi .ne v18 c0_i32_9
  v19

def k0_cond4 (i : grid0.Coords) : BitVec 1 :=
  let arg0 : BitVec 32 := BitVec.ofNat 32 (i 0).val
  let c1_i32_5 : BitVec 32 := 1#32
  let v11 : BitVec 1 := Scalar.cmpi .eq arg0 c1_i32_5
  let arg1 : BitVec 32 := BitVec.ofNat 32 (i 1).val
  let c0_i32_4 : BitVec 32 := 0#32
  let v10 : BitVec 1 := Scalar.cmpi .eq arg1 c0_i32_4
  let true_6 : BitVec 1 := 1#1
  let v12 : BitVec 1 := Scalar.xori v10 true_6
  let v13 : BitVec 1 := Scalar.andi v11 v12
  let v20 : BitVec 32 := Scalar.extui v13
  let c0_i32_10 : BitVec 32 := 0#32
  let v21 : BitVec 1 := Scalar.cmpi .ne v20 c0_i32_10
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v2 : BitVec 1 := Scalar.andi v1 v0
  let c0_i32_1 : BitVec 32 := 0#32
  let v3 : BitVec 32 := Scalar.select v2 arg2 c0_i32_1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v_true : BitVec 1 := 1#1
  let v2 : BitVec 1 := Scalar.xori v0 v_true
  let v3 : BitVec 1 := Scalar.andi v1 v2
  let c0_i32_1 : BitVec 32 := 0#32
  let v4 : BitVec 32 := Scalar.select v3 arg2 c0_i32_1
  let c0_i32_2 : BitVec 32 := 0#32
  let c0_i32_3 : BitVec 32 := 0#32
  ![v4.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v2 : BitVec 1 := Scalar.andi v1 v0
  let c0_i32_0 : BitVec 32 := 0#32
  let v3 : BitVec 32 := Scalar.select v2 arg2 c0_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v_true : BitVec 1 := 1#1
  let v2 : BitVec 1 := Scalar.xori v0 v_true
  let v3 : BitVec 1 := Scalar.andi v1 v2
  let c0_i32_0 : BitVec 32 := 0#32
  let v4 : BitVec 32 := Scalar.select v3 arg2 c0_i32_0
  let c0_i32_1 : BitVec 32 := 0#32
  let c0_i32_2 : BitVec 32 := 0#32
  ![v4.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x232x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x232x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x232x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S232x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S232x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S232x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S232x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x232x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x232x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x232x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x232x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamInRefIdeal.lean ====
abbrev S2x1856x1024 : Shape := ⟨3, ![2, 1856, 1024]⟩
abbrev S928x1024 : Shape := ⟨2, ![928, 1024]⟩
abbrev S1856x1024 : Shape := ⟨2, ![1856, 1024]⟩
abbrev S1x1856x1024 : Shape := ⟨3, ![1, 1856, 1024]⟩
abbrev S_ : Shape := ⟨0, ![]⟩
abbrev S2x2x928x1024 : Shape := ⟨4, ![2, 2, 928, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x1856x1024, .f32⟩
  | .hbm, ⟨1, _⟩ => ⟨S2x1856x1024, .f32⟩
  | .hbm, ⟨2, _⟩ => ⟨S2x1856x1024, .f32⟩
  | .hbm, ⟨3, _⟩ => ⟨S928x1024, .f32⟩
  | .hbm, ⟨4, _⟩ => ⟨S928x1024, .f32⟩
  | .hbm, ⟨5, _⟩ => ⟨S928x1024, .f32⟩
  | .hbm, ⟨6, _⟩ => ⟨S928x1024, .f32⟩
  | .hbm, ⟨7, _⟩ => ⟨S1856x1024, .f32⟩
  | .hbm, ⟨8, _⟩ => ⟨S1856x1024, .f32⟩
  | .hbm, ⟨9, _⟩ => ⟨S1x1856x1024, .f32⟩
  | .hbm, ⟨10, _⟩ => ⟨S1x1856x1024, .f32⟩
  | .hbm, ⟨11, _⟩ => ⟨S2x1856x1024, .f32⟩
  | .hbm, ⟨12, _⟩ => ⟨S_, .f32⟩
  | .hbm, ⟨13, _⟩ => ⟨S2x1856x1024, .f32⟩
  | .hbm, ⟨14, _⟩ => ⟨S2x1856x1024, .f32⟩
  | .hbm, ⟨15, _⟩ => ⟨S_, .f32⟩
  | .hbm, ⟨16, _⟩ => ⟨S2x1856x1024, .f32⟩
  | .hbm, ⟨17, _⟩ => ⟨S2x1856x1024, .f32⟩
  | .hbm, ⟨18, _⟩ => ⟨S2x1856x1024, .f32⟩
  | .hbm, ⟨19, _⟩ => ⟨S_, .f32⟩
  | .hbm, ⟨20, _⟩ => ⟨S2x1856x1024, .f32⟩
  | .hbm, ⟨21, _⟩ => ⟨S2x1856x1024, .f32⟩
  | .hbm, ⟨22, _⟩ => ⟨S2x1856x1024, .f32⟩
  | .hbm, ⟨23, _⟩ => ⟨S_, .f32⟩
  | .hbm, ⟨24, _⟩ => ⟨S2x1856x1024, .f32⟩
  | .hbm, ⟨25, _⟩ => ⟨S2x1856x1024, .f32⟩
  | .hbm, ⟨26, _⟩ => ⟨S2x1856x1024, .f32⟩
  | .hbm, ⟨27, _⟩ => ⟨S_, .f32⟩
  | .hbm, ⟨28, _⟩ => ⟨S2x1856x1024, .f32⟩
  | .hbm, ⟨29, _⟩ => ⟨S2x1856x1024, .f32⟩
  | .hbm, ⟨30, _⟩ => ⟨S_, .f32⟩
  | .hbm, ⟨31, _⟩ => ⟨S2x1856x1024, .f32⟩
  | .hbm, ⟨32, _⟩ => ⟨S2x1856x1024, .f32⟩
  | .hbm, ⟨33, _⟩ => ⟨S2x1856x1024, .f32⟩
  | .hbm, ⟨34, _⟩ => ⟨S_, .f32⟩
  | .hbm, ⟨35, _⟩ => ⟨S2x1856x1024, .f32⟩
  | .hbm, ⟨36, _⟩ => ⟨S2x1856x1024, .f32⟩
  | .hbm, ⟨37, _⟩ => ⟨S2x1856x1024, .f32⟩
  | .hbm, ⟨38, _⟩ => ⟨S_, .f32⟩
  | .hbm, ⟨39, _⟩ => ⟨S2x1856x1024, .f32⟩
  | .hbm, ⟨40, _⟩ => ⟨S2x1856x1024, .f32⟩
  | .hbm, ⟨41, _⟩ => ⟨S2x1856x1024, .f32⟩
  | .hbm, ⟨42, _⟩ => ⟨S_, .f32⟩
  | .hbm, ⟨43, _⟩ => ⟨S2x1856x1024, .f32⟩
  | .hbm, ⟨44, _⟩ => ⟨S2x1856x1024, .f32⟩
  | .hbm, ⟨45, _⟩ => ⟨S2x2x928x1024, .f32⟩
  | .hbm, ⟨46, _⟩ => ⟨S2x2x928x1024, .f32⟩
  | .hbm, ⟨47, _⟩ => ⟨S2x2x928x1024, .f32⟩
  | .hbm, ⟨48, _⟩ => ⟨S2x2x928x1024, .f32⟩
  | _, _ => ⟨S2x1856x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamFf.lean ====
abbrev S2x1024x1024 : Shape := ⟨3, ![2, 1024, 1024]⟩
abbrev S512x1024 : Shape := ⟨2, ![512, 1024]⟩
abbrev S2x2x512x1024 : Shape := ⟨4, ![2, 2, 512, 1024]⟩
abbrev S1x1x128x1024 : Shape := ⟨4, ![1, 1, 128, 1024]⟩
abbrev S128x1024 : Shape := ⟨2, ![128, 1024]⟩

abbrev nBuf : Space → Nat
  | .hbm => 14
  | .vmem => 22
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S2x2x512x1024, .f32⟩
  | .hbm, ⟨8, _⟩ => ⟨S2x2x512x1024, .f32⟩
  | .hbm, ⟨9, _⟩ => ⟨S2x2x512x1024, .f32⟩
  | .hbm, ⟨10, _⟩ => ⟨S2x2x512x1024, .f32⟩
  | .hbm, ⟨11, _⟩ => ⟨S2x2x512x1024, .f32⟩
  | .hbm, ⟨12, _⟩ => ⟨S2x2x512x1024, .f32⟩
  | .hbm, ⟨13, _⟩ => ⟨S2x2x512x1024, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x1x128x1024, .f32⟩
  | .local _ .vmem, ⟨5, _⟩ => ⟨S1x1x128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S1x1x128x1024, .f32⟩
  | .local _ .vmem, ⟨15, _⟩ => ⟨S1x1x128x1024, .f32⟩
  | .local _ .vmem, ⟨16, _⟩ => ⟨S1x1x128x1024, .f32⟩
  | .local _ .vmem, ⟨17, _⟩ => ⟨S1x1x128x1024, .f32⟩
  | .local _ .vmem, ⟨18, _⟩ => ⟨S1x1x128x1024, .f32⟩
  | .local _ .vmem, ⟨19, _⟩ => ⟨S1x1x128x1024, .f32⟩
  | .local _ .vmem, ⟨20, _⟩ => ⟨S1x1x128x1024, .f32⟩
  | .local _ .vmem, ⟨21, _⟩ => ⟨S1x1x128x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c0_i32 : BitVec 32 := 0#32
  let v0 : BitVec 1 := Scalar.cmpi .eq arg1 c0_i32
  let v2 : BitVec 1 := Scalar.andi v1 v0
  let v14 : BitVec 32 := Scalar.extui v2
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_2 : BitVec 32 := 0#32
  let v4 : BitVec 1 := Scalar.cmpi .eq arg0 c0_i32_2
  let arg1 : BitVec 32 := BitVec.ofNat 32 (i 1).val
  let c0_i32_1 : BitVec 32 := 0#32
  let v3 : BitVec 1 := Scalar.cmpi .eq arg1 c0_i32_1
  let v_true : BitVec 1 := 1#1
  let v5 : BitVec 1 := Scalar.xori v3 v_true
  let v6 : BitVec 1 := Scalar.andi v4 v5
  let v16 : BitVec 32 := Scalar.extui v6
  let c0_i32_8 : BitVec 32 := 0#32
  let v17 : BitVec 1 := Scalar.cmpi .ne v16 c0_i32_8
  v17

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_3 : BitVec 32 := 0#32
  let v7 : BitVec 1 := Scalar.cmpi .eq arg1 c0_i32_3
  let v9 : BitVec 1 := Scalar.andi v8 v7
  let v18 : BitVec 32 := Scalar.extui v9
  let c0_i32_9 : BitVec 32 := 0#32
  let v19 : BitVec 1 := Scalar.cmpi .ne v18 c0_i32_9
  v19

def k0_cond4 (i : grid0.Coords) : BitVec 1 :=
  let arg0 : BitVec 32 := BitVec.ofNat 32 (i 0).val
  let c1_i32_5 : BitVec 32 := 1#32
  let v11 : BitVec 1 := Scalar.cmpi .eq arg0 c1_i32_5
  let arg1 : BitVec 32 := BitVec.ofNat 32 (i 1).val
  let c0_i32_4 : BitVec 32 := 0#32
  let v10 : BitVec 1 := Scalar.cmpi .eq arg1 c0_i32_4
  let true_6 : BitVec 1 := 1#1
  let v12 : BitVec 1 := Scalar.xori v10 true_6
  let v13 : BitVec 1 := Scalar.andi v11 v12
  let v20 : BitVec 32 := Scalar.extui v13
  let c0_i32_10 : BitVec 32 := 0#32
  let v21 : BitVec 1 := Scalar.cmpi .ne v20 c0_i32_10
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v2 : BitVec 1 := Scalar.andi v1 v0
  let c0_i32_1 : BitVec 32 := 0#32
  let v3 : BitVec 32 := Scalar.select v2 arg2 c0_i32_1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v_true : BitVec 1 := 1#1
  let v2 : BitVec 1 := Scalar.xori v0 v_true
  let v3 : BitVec 1 := Scalar.andi v1 v2
  let c0_i32_1 : BitVec 32 := 0#32
  let v4 : BitVec 32 := Scalar.select v3 arg2 c0_i32_1
  let c0_i32_2 : BitVec 32 := 0#32
  let c0_i32_3 : BitVec 32 := 0#32
  ![v4.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v2 : BitVec 1 := Scalar.andi v1 v0
  let c0_i32_0 : BitVec 32 := 0#32
  let v3 : BitVec 32 := Scalar.select v2 arg2 c0_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v_true : BitVec 1 := 1#1
  let v2 : BitVec 1 := Scalar.xori v0 v_true
  let v3 : BitVec 1 := Scalar.andi v1 v2
  let c0_i32_0 : BitVec 32 := 0#32
  let v4 : BitVec 32 := Scalar.select v3 arg2 c0_i32_0
  let c0_i32_1 : BitVec 32 := 0#32
  let c0_i32_2 : BitVec 32 := 0#32
  ![v4.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamFfIdeal.lean ====
abbrev S2x1024x1024 : Shape := ⟨3, ![2, 1024, 1024]⟩
abbrev S512x1024 : Shape := ⟨2, ![512, 1024]⟩
abbrev S2x2x512x1024 : Shape := ⟨4, ![2, 2, 512, 1024]⟩
abbrev S1x1x128x1024 : Shape := ⟨4, ![1, 1, 128, 1024]⟩
abbrev S128x1024 : Shape := ⟨2, ![128, 1024]⟩

abbrev nBuf : Space → Nat
  | .hbm => 14
  | .vmem => 22
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S2x2x512x1024, .f32⟩
  | .hbm, ⟨8, _⟩ => ⟨S2x2x512x1024, .f32⟩
  | .hbm, ⟨9, _⟩ => ⟨S2x2x512x1024, .f32⟩
  | .hbm, ⟨10, _⟩ => ⟨S2x2x512x1024, .f32⟩
  | .hbm, ⟨11, _⟩ => ⟨S2x2x512x1024, .f32⟩
  | .hbm, ⟨12, _⟩ => ⟨S2x2x512x1024, .f32⟩
  | .hbm, ⟨13, _⟩ => ⟨S2x2x512x1024, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x1x128x1024, .f32⟩
  | .local _ .vmem, ⟨5, _⟩ => ⟨S1x1x128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S1x1x128x1024, .f32⟩
  | .local _ .vmem, ⟨15, _⟩ => ⟨S1x1x128x1024, .f32⟩
  | .local _ .vmem, ⟨16, _⟩ => ⟨S1x1x128x1024, .f32⟩
  | .local _ .vmem, ⟨17, _⟩ => ⟨S1x1x128x1024, .f32⟩
  | .local _ .vmem, ⟨18, _⟩ => ⟨S1x1x128x1024, .f32⟩
  | .local _ .vmem, ⟨19, _⟩ => ⟨S1x1x128x1024, .f32⟩
  | .local _ .vmem, ⟨20, _⟩ => ⟨S1x1x128x1024, .f32⟩
  | .local _ .vmem, ⟨21, _⟩ => ⟨S1x1x128x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c0_i32 : BitVec 32 := 0#32
  let v0 : BitVec 1 := Scalar.cmpi .eq arg1 c0_i32
  let v2 : BitVec 1 := Scalar.andi v1 v0
  let v14 : BitVec 32 := Scalar.extui v2
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_2 : BitVec 32 := 0#32
  let v4 : BitVec 1 := Scalar.cmpi .eq arg0 c0_i32_2
  let arg1 : BitVec 32 := BitVec.ofNat 32 (i 1).val
  let c0_i32_1 : BitVec 32 := 0#32
  let v3 : BitVec 1 := Scalar.cmpi .eq arg1 c0_i32_1
  let v_true : BitVec 1 := 1#1
  let v5 : BitVec 1 := Scalar.xori v3 v_true
  let v6 : BitVec 1 := Scalar.andi v4 v5
  let v16 : BitVec 32 := Scalar.extui v6
  let c0_i32_8 : BitVec 32 := 0#32
  let v17 : BitVec 1 := Scalar.cmpi .ne v16 c0_i32_8
  v17

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_3 : BitVec 32 := 0#32
  let v7 : BitVec 1 := Scalar.cmpi .eq arg1 c0_i32_3
  let v9 : BitVec 1 := Scalar.andi v8 v7
  let v18 : BitVec 32 := Scalar.extui v9
  let c0_i32_9 : BitVec 32 := 0#32
  let v19 : BitVec 1 := Scalar.cmpi .ne v18 c0_i32_9
  v19

def k0_cond4 (i : grid0.Coords) : BitVec 1 :=
  let arg0 : BitVec 32 := BitVec.ofNat 32 (i 0).val
  let c1_i32_5 : BitVec 32 := 1#32
  let v11 : BitVec 1 := Scalar.cmpi .eq arg0 c1_i32_5
  let arg1 : BitVec 32 := BitVec.ofNat 32 (i 1).val
  let c0_i32_4 : BitVec 32 := 0#32
  let v10 : BitVec 1 := Scalar.cmpi .eq arg1 c0_i32_4
  let true_6 : BitVec 1 := 1#1
  let v12 : BitVec 1 := Scalar.xori v10 true_6
  let v13 : BitVec 1 := Scalar.andi v11 v12
  let v20 : BitVec 32 := Scalar.extui v13
  let c0_i32_10 : BitVec 32 := 0#32
  let v21 : BitVec 1 := Scalar.cmpi .ne v20 c0_i32_10
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v2 : BitVec 1 := Scalar.andi v1 v0
  let c0_i32_1 : BitVec 32 := 0#32
  let v3 : BitVec 32 := Scalar.select v2 arg2 c0_i32_1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v_true : BitVec 1 := 1#1
  let v2 : BitVec 1 := Scalar.xori v0 v_true
  let v3 : BitVec 1 := Scalar.andi v1 v2
  let c0_i32_1 : BitVec 32 := 0#32
  let v4 : BitVec 32 := Scalar.select v3 arg2 c0_i32_1
  let c0_i32_2 : BitVec 32 := 0#32
  let c0_i32_3 : BitVec 32 := 0#32
  ![v4.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v2 : BitVec 1 := Scalar.andi v1 v0
  let c0_i32_0 : BitVec 32 := 0#32
  let v3 : BitVec 32 := Scalar.select v2 arg2 c0_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v_true : BitVec 1 := 1#1
  let v2 : BitVec 1 := Scalar.xori v0 v_true
  let v3 : BitVec 1 := Scalar.andi v1 v2
  let c0_i32_0 : BitVec 32 := 0#32
  let v4 : BitVec 32 := Scalar.select v3 arg2 c0_i32_0
  let c0_i32_1 : BitVec 32 := 0#32
  let c0_i32_2 : BitVec 32 := 0#32
  ![v4.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamFfRefIdeal.lean ====
abbrev S2x1024x1024 : Shape := ⟨3, ![2, 1024, 1024]⟩
abbrev S512x1024 : Shape := ⟨2, ![512, 1024]⟩
abbrev S1024x1024 : Shape := ⟨2, ![1024, 1024]⟩
abbrev S1x1024x1024 : Shape := ⟨3, ![1, 1024, 1024]⟩
abbrev S_ : Shape := ⟨0, ![]⟩
abbrev S2x2x512x1024 : Shape := ⟨4, ![2, 2, 512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .f32⟩
  | .hbm, ⟨11, _⟩ => ⟨S2x1024x1024, .f32⟩
  | .hbm, ⟨12, _⟩ => ⟨S_, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S2x1024x1024, .f32⟩
  | .hbm, ⟨27, _⟩ => ⟨S_, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S_, .f32⟩
  | .hbm, ⟨39, _⟩ => ⟨S2x1024x1024, .f32⟩
  | .hbm, ⟨40, _⟩ => ⟨S2x1024x1024, .f32⟩
  | .hbm, ⟨41, _⟩ => ⟨S2x1024x1024, .f32⟩
  | .hbm, ⟨42, _⟩ => ⟨S_, .f32⟩
  | .hbm, ⟨43, _⟩ => ⟨S2x1024x1024, .f32⟩
  | .hbm, ⟨44, _⟩ => ⟨S2x1024x1024, .f32⟩
  | .hbm, ⟨45, _⟩ => ⟨S2x2x512x1024, .f32⟩
  | .hbm, ⟨46, _⟩ => ⟨S2x2x512x1024, .f32⟩
  | .hbm, ⟨47, _⟩ => ⟨S2x2x512x1024, .f32⟩
  | .hbm, ⟨48, _⟩ => ⟨S2x2x512x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamO.lean ====
abbrev S2x256x1024 : Shape := ⟨3, ![2, 256, 1024]⟩
abbrev S128x1024 : Shape := ⟨2, ![128, 1024]⟩
abbrev S2x2x128x1024 : Shape := ⟨4, ![2, 2, 128, 1024]⟩
abbrev S1x1x32x1024 : Shape := ⟨4, ![1, 1, 32, 1024]⟩
abbrev S32x1024 : Shape := ⟨2, ![32, 1024]⟩

abbrev nBuf : Space → Nat
  | .hbm => 14
  | .vmem => 22
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S2x2x128x1024, .f32⟩
  | .hbm, ⟨8, _⟩ => ⟨S2x2x128x1024, .f32⟩
  | .hbm, ⟨9, _⟩ => ⟨S2x2x128x1024, .f32⟩
  | .hbm, ⟨10, _⟩ => ⟨S2x2x128x1024, .f32⟩
  | .hbm, ⟨11, _⟩ => ⟨S2x2x128x1024, .f32⟩
  | .hbm, ⟨12, _⟩ => ⟨S2x2x128x1024, .f32⟩
  | .hbm, ⟨13, _⟩ => ⟨S2x2x128x1024, .f32⟩
  | .local _ .vmem, ⟨0, _⟩ => ⟨S1x1x32x1024, .f32⟩
  | .local _ .vmem, ⟨1, _⟩ => ⟨S1x1x32x1024, .f32⟩
  | .local _ .vmem, ⟨2, _⟩ => ⟨S1x1x32x1024, .f32⟩
  | .local _ .vmem, ⟨3, _⟩ => ⟨S1x1x32x1024, .f32⟩
  | .local _ .vmem, ⟨4, _⟩ => ⟨S1x1x32x1024, .f32⟩
  | .local _ .vmem, ⟨5, _⟩ => ⟨S1x1x32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S1x1x32x1024, .f32⟩
  | .local _ .vmem, ⟨15, _⟩ => ⟨S1x1x32x1024, .f32⟩
  | .local _ .vmem, ⟨16, _⟩ => ⟨S1x1x32x1024, .f32⟩
  | .local _ .vmem, ⟨17, _⟩ => ⟨S1x1x32x1024, .f32⟩
  | .local _ .vmem, ⟨18, _⟩ => ⟨S1x1x32x1024, .f32⟩
  | .local _ .vmem, ⟨19, _⟩ => ⟨S1x1x32x1024, .f32⟩
  | .local _ .vmem, ⟨20, _⟩ => ⟨S1x1x32x1024, .f32⟩
  | .local _ .vmem, ⟨21, _⟩ => ⟨S1x1x32x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c0_i32 : BitVec 32 := 0#32
  let v0 : BitVec 1 := Scalar.cmpi .eq arg1 c0_i32
  let v2 : BitVec 1 := Scalar.andi v1 v0
  let v14 : BitVec 32 := Scalar.extui v2
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_2 : BitVec 32 := 0#32
  let v4 : BitVec 1 := Scalar.cmpi .eq arg0 c0_i32_2
  let arg1 : BitVec 32 := BitVec.ofNat 32 (i 1).val
  let c0_i32_1 : BitVec 32 := 0#32
  let v3 : BitVec 1 := Scalar.cmpi .eq arg1 c0_i32_1
  let v_true : BitVec 1 := 1#1
  let v5 : BitVec 1 := Scalar.xori v3 v_true
  let v6 : BitVec 1 := Scalar.andi v4 v5
  let v16 : BitVec 32 := Scalar.extui v6
  let c0_i32_8 : BitVec 32 := 0#32
  let v17 : BitVec 1 := Scalar.cmpi .ne v16 c0_i32_8
  v17

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_3 : BitVec 32 := 0#32
  let v7 : BitVec 1 := Scalar.cmpi .eq arg1 c0_i32_3
  let v9 : BitVec 1 := Scalar.andi v8 v7
  let v18 : BitVec 32 := Scalar.extui v9
  let c0_i32_9 : BitVec 32 := 0#32
  let v19 : BitVec 1 := Scalar.cmpi .ne v18 c0_i32_9
  v19

def k0_cond4 (i : grid0.Coords) : BitVec 1 :=
  let arg0 : BitVec 32 := BitVec.ofNat 32 (i 0).val
  let c1_i32_5 : BitVec 32 := 1#32
  let v11 : BitVec 1 := Scalar.cmpi .eq arg0 c1_i32_5
  let arg1 : BitVec 32 := BitVec.ofNat 32 (i 1).val
  let c0_i32_4 : BitVec 32 := 0#32
  let v10 : BitVec 1 := Scalar.cmpi .eq arg1 c0_i32_4
  let true_6 : BitVec 1 := 1#1
  let v12 : BitVec 1 := Scalar.xori v10 true_6
  let v13 : BitVec 1 := Scalar.andi v11 v12
  let v20 : BitVec 32 := Scalar.extui v13
  let c0_i32_10 : BitVec 32 := 0#32
  let v21 : BitVec 1 := Scalar.cmpi .ne v20 c0_i32_10
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v2 : BitVec 1 := Scalar.andi v1 v0
  let c0_i32_1 : BitVec 32 := 0#32
  let v3 : BitVec 32 := Scalar.select v2 arg2 c0_i32_1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v_true : BitVec 1 := 1#1
  let v2 : BitVec 1 := Scalar.xori v0 v_true
  let v3 : BitVec 1 := Scalar.andi v1 v2
  let c0_i32_1 : BitVec 32 := 0#32
  let v4 : BitVec 32 := Scalar.select v3 arg2 c0_i32_1
  let c0_i32_2 : BitVec 32 := 0#32
  let c0_i32_3 : BitVec 32 := 0#32
  ![v4.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v2 : BitVec 1 := Scalar.andi v1 v0
  let c0_i32_0 : BitVec 32 := 0#32
  let v3 : BitVec 32 := Scalar.select v2 arg2 c0_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v_true : BitVec 1 := 1#1
  let v2 : BitVec 1 := Scalar.xori v0 v_true
  let v3 : BitVec 1 := Scalar.andi v1 v2
  let c0_i32_0 : BitVec 32 := 0#32
  let v4 : BitVec 32 := Scalar.select v3 arg2 c0_i32_0
  let c0_i32_1 : BitVec 32 := 0#32
  let c0_i32_2 : BitVec 32 := 0#32
  ![v4.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamOIdeal.lean ====
abbrev S2x256x1024 : Shape := ⟨3, ![2, 256, 1024]⟩
abbrev S128x1024 : Shape := ⟨2, ![128, 1024]⟩
abbrev S2x2x128x1024 : Shape := ⟨4, ![2, 2, 128, 1024]⟩
abbrev S1x1x32x1024 : Shape := ⟨4, ![1, 1, 32, 1024]⟩
abbrev S32x1024 : Shape := ⟨2, ![32, 1024]⟩

abbrev nBuf : Space → Nat
  | .hbm => 14
  | .vmem => 22
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S2x2x128x1024, .f32⟩
  | .hbm, ⟨8, _⟩ => ⟨S2x2x128x1024, .f32⟩
  | .hbm, ⟨9, _⟩ => ⟨S2x2x128x1024, .f32⟩
  | .hbm, ⟨10, _⟩ => ⟨S2x2x128x1024, .f32⟩
  | .hbm, ⟨11, _⟩ => ⟨S2x2x128x1024, .f32⟩
  | .hbm, ⟨12, _⟩ => ⟨S2x2x128x1024, .f32⟩
  | .hbm, ⟨13, _⟩ => ⟨S2x2x128x1024, .f32⟩
  | .local _ .vmem, ⟨0, _⟩ => ⟨S1x1x32x1024, .f32⟩
  | .local _ .vmem, ⟨1, _⟩ => ⟨S1x1x32x1024, .f32⟩
  | .local _ .vmem, ⟨2, _⟩ => ⟨S1x1x32x1024, .f32⟩
  | .local _ .vmem, ⟨3, _⟩ => ⟨S1x1x32x1024, .f32⟩
  | .local _ .vmem, ⟨4, _⟩ => ⟨S1x1x32x1024, .f32⟩
  | .local _ .vmem, ⟨5, _⟩ => ⟨S1x1x32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S1x1x32x1024, .f32⟩
  | .local _ .vmem, ⟨15, _⟩ => ⟨S1x1x32x1024, .f32⟩
  | .local _ .vmem, ⟨16, _⟩ => ⟨S1x1x32x1024, .f32⟩
  | .local _ .vmem, ⟨17, _⟩ => ⟨S1x1x32x1024, .f32⟩
  | .local _ .vmem, ⟨18, _⟩ => ⟨S1x1x32x1024, .f32⟩
  | .local _ .vmem, ⟨19, _⟩ => ⟨S1x1x32x1024, .f32⟩
  | .local _ .vmem, ⟨20, _⟩ => ⟨S1x1x32x1024, .f32⟩
  | .local _ .vmem, ⟨21, _⟩ => ⟨S1x1x32x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c0_i32 : BitVec 32 := 0#32
  let v0 : BitVec 1 := Scalar.cmpi .eq arg1 c0_i32
  let v2 : BitVec 1 := Scalar.andi v1 v0
  let v14 : BitVec 32 := Scalar.extui v2
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_2 : BitVec 32 := 0#32
  let v4 : BitVec 1 := Scalar.cmpi .eq arg0 c0_i32_2
  let arg1 : BitVec 32 := BitVec.ofNat 32 (i 1).val
  let c0_i32_1 : BitVec 32 := 0#32
  let v3 : BitVec 1 := Scalar.cmpi .eq arg1 c0_i32_1
  let v_true : BitVec 1 := 1#1
  let v5 : BitVec 1 := Scalar.xori v3 v_true
  let v6 : BitVec 1 := Scalar.andi v4 v5
  let v16 : BitVec 32 := Scalar.extui v6
  let c0_i32_8 : BitVec 32 := 0#32
  let v17 : BitVec 1 := Scalar.cmpi .ne v16 c0_i32_8
  v17

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_3 : BitVec 32 := 0#32
  let v7 : BitVec 1 := Scalar.cmpi .eq arg1 c0_i32_3
  let v9 : BitVec 1 := Scalar.andi v8 v7
  let v18 : BitVec 32 := Scalar.extui v9
  let c0_i32_9 : BitVec 32 := 0#32
  let v19 : BitVec 1 := Scalar.cmpi .ne v18 c0_i32_9
  v19

def k0_cond4 (i : grid0.Coords) : BitVec 1 :=
  let arg0 : BitVec 32 := BitVec.ofNat 32 (i 0).val
  let c1_i32_5 : BitVec 32 := 1#32
  let v11 : BitVec 1 := Scalar.cmpi .eq arg0 c1_i32_5
  let arg1 : BitVec 32 := BitVec.ofNat 32 (i 1).val
  let c0_i32_4 : BitVec 32 := 0#32
  let v10 : BitVec 1 := Scalar.cmpi .eq arg1 c0_i32_4
  let true_6 : BitVec 1 := 1#1
  let v12 : BitVec 1 := Scalar.xori v10 true_6
  let v13 : BitVec 1 := Scalar.andi v11 v12
  let v20 : BitVec 32 := Scalar.extui v13
  let c0_i32_10 : BitVec 32 := 0#32
  let v21 : BitVec 1 := Scalar.cmpi .ne v20 c0_i32_10
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v2 : BitVec 1 := Scalar.andi v1 v0
  let c0_i32_1 : BitVec 32 := 0#32
  let v3 : BitVec 32 := Scalar.select v2 arg2 c0_i32_1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v_true : BitVec 1 := 1#1
  let v2 : BitVec 1 := Scalar.xori v0 v_true
  let v3 : BitVec 1 := Scalar.andi v1 v2
  let c0_i32_1 : BitVec 32 := 0#32
  let v4 : BitVec 32 := Scalar.select v3 arg2 c0_i32_1
  let c0_i32_2 : BitVec 32 := 0#32
  let c0_i32_3 : BitVec 32 := 0#32
  ![v4.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v2 : BitVec 1 := Scalar.andi v1 v0
  let c0_i32_0 : BitVec 32 := 0#32
  let v3 : BitVec 32 := Scalar.select v2 arg2 c0_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v_true : BitVec 1 := 1#1
  let v2 : BitVec 1 := Scalar.xori v0 v_true
  let v3 : BitVec 1 := Scalar.andi v1 v2
  let c0_i32_0 : BitVec 32 := 0#32
  let v4 : BitVec 32 := Scalar.select v3 arg2 c0_i32_0
  let c0_i32_1 : BitVec 32 := 0#32
  let c0_i32_2 : BitVec 32 := 0#32
  ![v4.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamORefIdeal.lean ====
abbrev S2x256x1024 : Shape := ⟨3, ![2, 256, 1024]⟩
abbrev S128x1024 : Shape := ⟨2, ![128, 1024]⟩
abbrev S256x1024 : Shape := ⟨2, ![256, 1024]⟩
abbrev S1x256x1024 : Shape := ⟨3, ![1, 256, 1024]⟩
abbrev S_ : Shape := ⟨0, ![]⟩
abbrev S2x2x128x1024 : Shape := ⟨4, ![2, 2, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S256x1024, .f32⟩
  | .hbm, ⟨8, _⟩ => ⟨S256x1024, .f32⟩
  | .hbm, ⟨9, _⟩ => ⟨S1x256x1024, .f32⟩
  | .hbm, ⟨10, _⟩ => ⟨S1x256x1024, .f32⟩
  | .hbm, ⟨11, _⟩ => ⟨S2x256x1024, .f32⟩
  | .hbm, ⟨12, _⟩ => ⟨S_, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S_, .f32⟩
  | .hbm, ⟨43, _⟩ => ⟨S2x256x1024, .f32⟩
  | .hbm, ⟨44, _⟩ => ⟨S2x256x1024, .f32⟩
  | .hbm, ⟨45, _⟩ => ⟨S2x2x128x1024, .f32⟩
  | .hbm, ⟨46, _⟩ => ⟨S2x2x128x1024, .f32⟩
  | .hbm, ⟨47, _⟩ => ⟨S2x2x128x1024, .f32⟩
  | .hbm, ⟨48, _⟩ => ⟨S2x2x128x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamUp.lean ====
abbrev S2x512x256 : Shape := ⟨3, ![2, 512, 256]⟩
abbrev S256x256 : Shape := ⟨2, ![256, 256]⟩
abbrev S2x2x256x256 : Shape := ⟨4, ![2, 2, 256, 256]⟩
abbrev S1x1x64x256 : Shape := ⟨4, ![1, 1, 64, 256]⟩
abbrev S64x256 : Shape := ⟨2, ![64, 256]⟩

abbrev nBuf : Space → Nat
  | .hbm => 14
  | .vmem => 22
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S2x2x256x256, .f32⟩
  | .hbm, ⟨8, _⟩ => ⟨S2x2x256x256, .f32⟩
  | .hbm, ⟨9, _⟩ => ⟨S2x2x256x256, .f32⟩
  | .hbm, ⟨10, _⟩ => ⟨S2x2x256x256, .f32⟩
  | .hbm, ⟨11, _⟩ => ⟨S2x2x256x256, .f32⟩
  | .hbm, ⟨12, _⟩ => ⟨S2x2x256x256, .f32⟩
  | .hbm, ⟨13, _⟩ => ⟨S2x2x256x256, .f32⟩
  | .local _ .vmem, ⟨0, _⟩ => ⟨S1x1x64x256, .f32⟩
  | .local _ .vmem, ⟨1, _⟩ => ⟨S1x1x64x256, .f32⟩
  | .local _ .vmem, ⟨2, _⟩ => ⟨S1x1x64x256, .f32⟩
  | .local _ .vmem, ⟨3, _⟩ => ⟨S1x1x64x256, .f32⟩
  | .local _ .vmem, ⟨4, _⟩ => ⟨S1x1x64x256, .f32⟩
  | .local _ .vmem, ⟨5, _⟩ => ⟨S1x1x64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S1x1x64x256, .f32⟩
  | .local _ .vmem, ⟨15, _⟩ => ⟨S1x1x64x256, .f32⟩
  | .local _ .vmem, ⟨16, _⟩ => ⟨S1x1x64x256, .f32⟩
  | .local _ .vmem, ⟨17, _⟩ => ⟨S1x1x64x256, .f32⟩
  | .local _ .vmem, ⟨18, _⟩ => ⟨S1x1x64x256, .f32⟩
  | .local _ .vmem, ⟨19, _⟩ => ⟨S1x1x64x256, .f32⟩
  | .local _ .vmem, ⟨20, _⟩ => ⟨S1x1x64x256, .f32⟩
  | .local _ .vmem, ⟨21, _⟩ => ⟨S1x1x64x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c0_i32 : BitVec 32 := 0#32
  let v0 : BitVec 1 := Scalar.cmpi .eq arg1 c0_i32
  let v2 : BitVec 1 := Scalar.andi v1 v0
  let v14 : BitVec 32 := Scalar.extui v2
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_2 : BitVec 32 := 0#32
  let v4 : BitVec 1 := Scalar.cmpi .eq arg0 c0_i32_2
  let arg1 : BitVec 32 := BitVec.ofNat 32 (i 1).val
  let c0_i32_1 : BitVec 32 := 0#32
  let v3 : BitVec 1 := Scalar.cmpi .eq arg1 c0_i32_1
  let v_true : BitVec 1 := 1#1
  let v5 : BitVec 1 := Scalar.xori v3 v_true
  let v6 : BitVec 1 := Scalar.andi v4 v5
  let v16 : BitVec 32 := Scalar.extui v6
  let c0_i32_8 : BitVec 32 := 0#32
  let v17 : BitVec 1 := Scalar.cmpi .ne v16 c0_i32_8
  v17

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_3 : BitVec 32 := 0#32
  let v7 : BitVec 1 := Scalar.cmpi .eq arg1 c0_i32_3
  let v9 : BitVec 1 := Scalar.andi v8 v7
  let v18 : BitVec 32 := Scalar.extui v9
  let c0_i32_9 : BitVec 32 := 0#32
  let v19 : BitVec 1 := Scalar.cmpi .ne v18 c0_i32_9
  v19

def k0_cond4 (i : grid0.Coords) : BitVec 1 :=
  let arg0 : BitVec 32 := BitVec.ofNat 32 (i 0).val
  let c1_i32_5 : BitVec 32 := 1#32
  let v11 : BitVec 1 := Scalar.cmpi .eq arg0 c1_i32_5
  let arg1 : BitVec 32 := BitVec.ofNat 32 (i 1).val
  let c0_i32_4 : BitVec 32 := 0#32
  let v10 : BitVec 1 := Scalar.cmpi .eq arg1 c0_i32_4
  let true_6 : BitVec 1 := 1#1
  let v12 : BitVec 1 := Scalar.xori v10 true_6
  let v13 : BitVec 1 := Scalar.andi v11 v12
  let v20 : BitVec 32 := Scalar.extui v13
  let c0_i32_10 : BitVec 32 := 0#32
  let v21 : BitVec 1 := Scalar.cmpi .ne v20 c0_i32_10
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v2 : BitVec 1 := Scalar.andi v1 v0
  let c0_i32_1 : BitVec 32 := 0#32
  let v3 : BitVec 32 := Scalar.select v2 arg2 c0_i32_1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v_true : BitVec 1 := 1#1
  let v2 : BitVec 1 := Scalar.xori v0 v_true
  let v3 : BitVec 1 := Scalar.andi v1 v2
  let c0_i32_1 : BitVec 32 := 0#32
  let v4 : BitVec 32 := Scalar.select v3 arg2 c0_i32_1
  let c0_i32_2 : BitVec 32 := 0#32
  let c0_i32_3 : BitVec 32 := 0#32
  ![v4.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v2 : BitVec 1 := Scalar.andi v1 v0
  let c0_i32_0 : BitVec 32 := 0#32
  let v3 : BitVec 32 := Scalar.select v2 arg2 c0_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v_true : BitVec 1 := 1#1
  let v2 : BitVec 1 := Scalar.xori v0 v_true
  let v3 : BitVec 1 := Scalar.andi v1 v2
  let c0_i32_0 : BitVec 32 := 0#32
  let v4 : BitVec 32 := Scalar.select v3 arg2 c0_i32_0
  let c0_i32_1 : BitVec 32 := 0#32
  let c0_i32_2 : BitVec 32 := 0#32
  ![v4.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamUpIdeal.lean ====
abbrev S2x512x256 : Shape := ⟨3, ![2, 512, 256]⟩
abbrev S256x256 : Shape := ⟨2, ![256, 256]⟩
abbrev S2x2x256x256 : Shape := ⟨4, ![2, 2, 256, 256]⟩
abbrev S1x1x64x256 : Shape := ⟨4, ![1, 1, 64, 256]⟩
abbrev S64x256 : Shape := ⟨2, ![64, 256]⟩

abbrev nBuf : Space → Nat
  | .hbm => 14
  | .vmem => 22
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S2x2x256x256, .f32⟩
  | .hbm, ⟨8, _⟩ => ⟨S2x2x256x256, .f32⟩
  | .hbm, ⟨9, _⟩ => ⟨S2x2x256x256, .f32⟩
  | .hbm, ⟨10, _⟩ => ⟨S2x2x256x256, .f32⟩
  | .hbm, ⟨11, _⟩ => ⟨S2x2x256x256, .f32⟩
  | .hbm, ⟨12, _⟩ => ⟨S2x2x256x256, .f32⟩
  | .hbm, ⟨13, _⟩ => ⟨S2x2x256x256, .f32⟩
  | .local _ .vmem, ⟨0, _⟩ => ⟨S1x1x64x256, .f32⟩
  | .local _ .vmem, ⟨1, _⟩ => ⟨S1x1x64x256, .f32⟩
  | .local _ .vmem, ⟨2, _⟩ => ⟨S1x1x64x256, .f32⟩
  | .local _ .vmem, ⟨3, _⟩ => ⟨S1x1x64x256, .f32⟩
  | .local _ .vmem, ⟨4, _⟩ => ⟨S1x1x64x256, .f32⟩
  | .local _ .vmem, ⟨5, _⟩ => ⟨S1x1x64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S1x1x64x256, .f32⟩
  | .local _ .vmem, ⟨15, _⟩ => ⟨S1x1x64x256, .f32⟩
  | .local _ .vmem, ⟨16, _⟩ => ⟨S1x1x64x256, .f32⟩
  | .local _ .vmem, ⟨17, _⟩ => ⟨S1x1x64x256, .f32⟩
  | .local _ .vmem, ⟨18, _⟩ => ⟨S1x1x64x256, .f32⟩
  | .local _ .vmem, ⟨19, _⟩ => ⟨S1x1x64x256, .f32⟩
  | .local _ .vmem, ⟨20, _⟩ => ⟨S1x1x64x256, .f32⟩
  | .local _ .vmem, ⟨21, _⟩ => ⟨S1x1x64x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c0_i32 : BitVec 32 := 0#32
  let v0 : BitVec 1 := Scalar.cmpi .eq arg1 c0_i32
  let v2 : BitVec 1 := Scalar.andi v1 v0
  let v14 : BitVec 32 := Scalar.extui v2
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_2 : BitVec 32 := 0#32
  let v4 : BitVec 1 := Scalar.cmpi .eq arg0 c0_i32_2
  let arg1 : BitVec 32 := BitVec.ofNat 32 (i 1).val
  let c0_i32_1 : BitVec 32 := 0#32
  let v3 : BitVec 1 := Scalar.cmpi .eq arg1 c0_i32_1
  let v_true : BitVec 1 := 1#1
  let v5 : BitVec 1 := Scalar.xori v3 v_true
  let v6 : BitVec 1 := Scalar.andi v4 v5
  let v16 : BitVec 32 := Scalar.extui v6
  let c0_i32_8 : BitVec 32 := 0#32
  let v17 : BitVec 1 := Scalar.cmpi .ne v16 c0_i32_8
  v17

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_3 : BitVec 32 := 0#32
  let v7 : BitVec 1 := Scalar.cmpi .eq arg1 c0_i32_3
  let v9 : BitVec 1 := Scalar.andi v8 v7
  let v18 : BitVec 32 := Scalar.extui v9
  let c0_i32_9 : BitVec 32 := 0#32
  let v19 : BitVec 1 := Scalar.cmpi .ne v18 c0_i32_9
  v19

def k0_cond4 (i : grid0.Coords) : BitVec 1 :=
  let arg0 : BitVec 32 := BitVec.ofNat 32 (i 0).val
  let c1_i32_5 : BitVec 32 := 1#32
  let v11 : BitVec 1 := Scalar.cmpi .eq arg0 c1_i32_5
  let arg1 : BitVec 32 := BitVec.ofNat 32 (i 1).val
  let c0_i32_4 : BitVec 32 := 0#32
  let v10 : BitVec 1 := Scalar.cmpi .eq arg1 c0_i32_4
  let true_6 : BitVec 1 := 1#1
  let v12 : BitVec 1 := Scalar.xori v10 true_6
  let v13 : BitVec 1 := Scalar.andi v11 v12
  let v20 : BitVec 32 := Scalar.extui v13
  let c0_i32_10 : BitVec 32 := 0#32
  let v21 : BitVec 1 := Scalar.cmpi .ne v20 c0_i32_10
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v2 : BitVec 1 := Scalar.andi v1 v0
  let c0_i32_1 : BitVec 32 := 0#32
  let v3 : BitVec 32 := Scalar.select v2 arg2 c0_i32_1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v_true : BitVec 1 := 1#1
  let v2 : BitVec 1 := Scalar.xori v0 v_true
  let v3 : BitVec 1 := Scalar.andi v1 v2
  let c0_i32_1 : BitVec 32 := 0#32
  let v4 : BitVec 32 := Scalar.select v3 arg2 c0_i32_1
  let c0_i32_2 : BitVec 32 := 0#32
  let c0_i32_3 : BitVec 32 := 0#32
  ![v4.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v2 : BitVec 1 := Scalar.andi v1 v0
  let c0_i32_0 : BitVec 32 := 0#32
  let v3 : BitVec 32 := Scalar.select v2 arg2 c0_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v_true : BitVec 1 := 1#1
  let v2 : BitVec 1 := Scalar.xori v0 v_true
  let v3 : BitVec 1 := Scalar.andi v1 v2
  let c0_i32_0 : BitVec 32 := 0#32
  let v4 : BitVec 32 := Scalar.select v3 arg2 c0_i32_0
  let c0_i32_1 : BitVec 32 := 0#32
  let c0_i32_2 : BitVec 32 := 0#32
  ![v4.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamUpRefIdeal.lean ====
abbrev S2x512x256 : Shape := ⟨3, ![2, 512, 256]⟩
abbrev S256x256 : Shape := ⟨2, ![256, 256]⟩
abbrev S512x256 : Shape := ⟨2, ![512, 256]⟩
abbrev S1x512x256 : Shape := ⟨3, ![1, 512, 256]⟩
abbrev S_ : Shape := ⟨0, ![]⟩
abbrev S2x2x256x256 : Shape := ⟨4, ![2, 2, 256, 256]⟩

abbrev nBuf : Space → Nat
  | .hbm => 49
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S512x256, .f32⟩
  | .hbm, ⟨8, _⟩ => ⟨S512x256, .f32⟩
  | .hbm, ⟨9, _⟩ => ⟨S1x512x256, .f32⟩
  | .hbm, ⟨10, _⟩ => ⟨S1x512x256, .f32⟩
  | .hbm, ⟨11, _⟩ => ⟨S2x512x256, .f32⟩
  | .hbm, ⟨12, _⟩ => ⟨S_, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S2x512x256, .f32⟩
  | .hbm, ⟨23, _⟩ => ⟨S_, .f32⟩
  | .hbm, ⟨24, _⟩ => ⟨S2x512x256, .f32⟩
  | .hbm, ⟨25, _⟩ => ⟨S2x512x256, .f32⟩
  | .hbm, ⟨26, _⟩ => ⟨S2x512x256, .f32⟩
  | .hbm, ⟨27, _⟩ => ⟨S_, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S2x512x256, .f32⟩
  | .hbm, ⟨38, _⟩ => ⟨S_, .f32⟩
  | .hbm, ⟨39, _⟩ => ⟨S2x512x256, .f32⟩
  | .hbm, ⟨40, _⟩ => ⟨S2x512x256, .f32⟩
  | .hbm, ⟨41, _⟩ => ⟨S2x512x256, .f32⟩
  | .hbm, ⟨42, _⟩ => ⟨S_, .f32⟩
  | .hbm, ⟨43, _⟩ => ⟨S2x512x256, .f32⟩
  | .hbm, ⟨44, _⟩ => ⟨S2x512x256, .f32⟩
  | .hbm, ⟨45, _⟩ => ⟨S2x2x256x256, .f32⟩
  | .hbm, ⟨46, _⟩ => ⟨S2x2x256x256, .f32⟩
  | .hbm, ⟨47, _⟩ => ⟨S2x2x256x256, .f32⟩
  | .hbm, ⟨48, _⟩ => ⟨S2x2x256x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamAttn.lean ====
abbrev S2x256x256 : Shape := ⟨3, ![2, 256, 256]⟩
abbrev S128x256 : Shape := ⟨2, ![128, 256]⟩
abbrev S2x2x128x256 : Shape := ⟨4, ![2, 2, 128, 256]⟩
abbrev S1x1x32x256 : Shape := ⟨4, ![1, 1, 32, 256]⟩
abbrev S32x256 : Shape := ⟨2, ![32, 256]⟩

abbrev nBuf : Space → Nat
  | .hbm => 14
  | .vmem => 22
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S2x2x128x256, .f32⟩
  | .hbm, ⟨8, _⟩ => ⟨S2x2x128x256, .f32⟩
  | .hbm, ⟨9, _⟩ => ⟨S2x2x128x256, .f32⟩
  | .hbm, ⟨10, _⟩ => ⟨S2x2x128x256, .f32⟩
  | .hbm, ⟨11, _⟩ => ⟨S2x2x128x256, .f32⟩
  | .hbm, ⟨12, _⟩ => ⟨S2x2x128x256, .f32⟩
  | .hbm, ⟨13, _⟩ => ⟨S2x2x128x256, .f32⟩
  | .local _ .vmem, ⟨0, _⟩ => ⟨S1x1x32x256, .f32⟩
  | .local _ .vmem, ⟨1, _⟩ => ⟨S1x1x32x256, .f32⟩
  | .local _ .vmem, ⟨2, _⟩ => ⟨S1x1x32x256, .f32⟩
  | .local _ .vmem, ⟨3, _⟩ => ⟨S1x1x32x256, .f32⟩
  | .local _ .vmem, ⟨4, _⟩ => ⟨S1x1x32x256, .f32⟩
  | .local _ .vmem, ⟨5, _⟩ => ⟨S1x1x32x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S1x1x32x256, .f32⟩
  | .local _ .vmem, ⟨15, _⟩ => ⟨S1x1x32x256, .f32⟩
  | .local _ .vmem, ⟨16, _⟩ => ⟨S1x1x32x256, .f32⟩
  | .local _ .vmem, ⟨17, _⟩ => ⟨S1x1x32x256, .f32⟩
  | .local _ .vmem, ⟨18, _⟩ => ⟨S1x1x32x256, .f32⟩
  | .local _ .vmem, ⟨19, _⟩ => ⟨S1x1x32x256, .f32⟩
  | .local _ .vmem, ⟨20, _⟩ => ⟨S1x1x32x256, .f32⟩
  | .local _ .vmem, ⟨21, _⟩ => ⟨S1x1x32x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c0_i32 : BitVec 32 := 0#32
  let v0 : BitVec 1 := Scalar.cmpi .eq arg1 c0_i32
  let v2 : BitVec 1 := Scalar.andi v1 v0
  let v14 : BitVec 32 := Scalar.extui v2
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_2 : BitVec 32 := 0#32
  let v4 : BitVec 1 := Scalar.cmpi .eq arg0 c0_i32_2
  let arg1 : BitVec 32 := BitVec.ofNat 32 (i 1).val
  let c0_i32_1 : BitVec 32 := 0#32
  let v3 : BitVec 1 := Scalar.cmpi .eq arg1 c0_i32_1
  let v_true : BitVec 1 := 1#1
  let v5 : BitVec 1 := Scalar.xori v3 v_true
  let v6 : BitVec 1 := Scalar.andi v4 v5
  let v16 : BitVec 32 := Scalar.extui v6
  let c0_i32_8 : BitVec 32 := 0#32
  let v17 : BitVec 1 := Scalar.cmpi .ne v16 c0_i32_8
  v17

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_3 : BitVec 32 := 0#32
  let v7 : BitVec 1 := Scalar.cmpi .eq arg1 c0_i32_3
  let v9 : BitVec 1 := Scalar.andi v8 v7
  let v18 : BitVec 32 := Scalar.extui v9
  let c0_i32_9 : BitVec 32 := 0#32
  let v19 : BitVec 1 := Scalar.cmpi .ne v18 c0_i32_9
  v19

def k0_cond4 (i : grid0.Coords) : BitVec 1 :=
  let arg0 : BitVec 32 := BitVec.ofNat 32 (i 0).val
  let c1_i32_5 : BitVec 32 := 1#32
  let v11 : BitVec 1 := Scalar.cmpi .eq arg0 c1_i32_5
  let arg1 : BitVec 32 := BitVec.ofNat 32 (i 1).val
  let c0_i32_4 : BitVec 32 := 0#32
  let v10 : BitVec 1 := Scalar.cmpi .eq arg1 c0_i32_4
  let true_6 : BitVec 1 := 1#1
  let v12 : BitVec 1 := Scalar.xori v10 true_6
  let v13 : BitVec 1 := Scalar.andi v11 v12
  let v20 : BitVec 32 := Scalar.extui v13
  let c0_i32_10 : BitVec 32 := 0#32
  let v21 : BitVec 1 := Scalar.cmpi .ne v20 c0_i32_10
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v2 : BitVec 1 := Scalar.andi v1 v0
  let c0_i32_1 : BitVec 32 := 0#32
  let v3 : BitVec 32 := Scalar.select v2 arg2 c0_i32_1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .eq arg0 c0_i32_0
  let v_true : BitVec 1 := 1#1
  let v2 : BitVec 1 := Scalar.xori v0 v_true
  let v3 : BitVec 1 := Scalar.andi v1 v2
  let c0_i32_1 : BitVec 32 := 0#32
  let v4 : BitVec 32 := Scalar.select v3 arg2 c0_i32_1
  let c0_i32_2 : BitVec 32 := 0#32
  let c0_i32_3 : BitVec 32 := 0#32
  ![v4.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v2 : BitVec 1 := Scalar.andi v1 v0
  let c0_i32_0 : BitVec 32 := 0#32
  let v3 : BitVec 32 := Scalar.select v2 arg2 c0_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 1 := Scalar.cmpi .eq arg0 c1_i32
  let v_true : BitVec 1 := 1#1
  let v2 : BitVec 1 := Scalar.xori v0 v_true
  let v3 : BitVec 1 := Scalar.andi v1 v2
  let c0_i32_0 : BitVec 32 := 0#32
  let v4 : BitVec 32 := Scalar.select v3 arg2 c0_i32_0
  let c0_i32_1 : BitVec 32 := 0#32
  let c0_i32_2 : BitVec 32 := 0#32
  ![v4.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamAttnRefIdeal.lean ====
abbrev S2x256x256 : Shape := ⟨3, ![2, 256, 256]⟩
abbrev S128x256 : Shape := ⟨2, ![128, 256]⟩
abbrev S256x256 : Shape := ⟨2, ![256, 256]⟩
abbrev S1x256x256 : Shape := ⟨3, ![1, 256, 256]⟩
abbrev S_ : Shape := ⟨0, ![]⟩
abbrev S2x2x128x256 : Shape := ⟨4, ![2, 2, 128, 256]⟩

abbrev nBuf : Space → Nat
  | .hbm => 49
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S256x256, .f32⟩
  | .hbm, ⟨8, _⟩ => ⟨S256x256, .f32⟩
  | .hbm, ⟨9, _⟩ => ⟨S1x256x256, .f32⟩
  | .hbm, ⟨10, _⟩ => ⟨S1x256x256, .f32⟩
  | .hbm, ⟨11, _⟩ => ⟨S2x256x256, .f32⟩
  | .hbm, ⟨12, _⟩ => ⟨S_, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S2x256x256, .f32⟩
  | .hbm, ⟨23, _⟩ => ⟨S_, .f32⟩
  | .hbm, ⟨24, _⟩ => ⟨S2x256x256, .f32⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S2x256x256, .f32⟩
  | .hbm, ⟨38, _⟩ => ⟨S_, .f32⟩
  | .hbm, ⟨39, _⟩ => ⟨S2x256x256, .f32⟩
  | .hbm, ⟨40, _⟩ => ⟨S2x256x256, .f32⟩
  | .hbm, ⟨41, _⟩ => ⟨S2x256x256, .f32⟩
  | .hbm, ⟨42, _⟩ => ⟨S_, .f32⟩
  | .hbm, ⟨43, _⟩ => ⟨S2x256x256, .f32⟩
  | .hbm, ⟨44, _⟩ => ⟨S2x256x256, .f32⟩
  | .hbm, ⟨45, _⟩ => ⟨S2x2x128x256, .f32⟩
  | .hbm, ⟨46, _⟩ => ⟨S2x2x128x256, .f32⟩
  | .hbm, ⟨47, _⟩ => ⟨S2x2x128x256, .f32⟩
  | .hbm, ⟨48, _⟩ => ⟨S2x2x128x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.PoolBase.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen

variable (m : (ℓ : Loc nD τ sig) → Buf (Elt Ideal) ℓ)

open Idealize.ShloMosaic.Pointwise

/-- The array read at natural indices, zero outside. -/
def rd {a b : ℕ} (v : Fin a → Fin b → EReal) (s c : ℕ) : EReal :=
  if h : s < a ∧ c < b then v ⟨s, h.1⟩ ⟨c, h.2⟩ else 0

theorem coords0 : ∀ t : Fin grid0.N, (grid0.coords t 0).val = t.val := by decide +kernel

theorem cnt_word (t : Fin grid0.N) (r w : ℕ) (hr : r < 528) (hw : w ≤ 16) (hw0 : 0 < w) :
    (FloatOps.sitofp (F := Ideal) FTy.f32 (IntOp.minsi (IntOp.addi (IntOp.addi
      (Scalar.muli (BitVec.ofNat 32 ↑(grid0.coords t 0)) 512#32) (BitVec.ofNat 32 r)) 1#32) (BitVec.ofNat 32 w)) : EReal)
      = ((min (512 * t.val + r + 1) w : ℕ) : EReal) := by
  have ht : t.val < 8 := t.isLt
  rw [coords0]
  have e : (IntOp.addi (IntOp.addi (Scalar.muli (BitVec.ofNat 32 t.val) 512#32) (BitVec.ofNat 32 r)) 1#32)
      = BitVec.ofNat 32 (512 * t.val + r + 1) := by
    apply BitVec.eq_of_toNat_eq
    simp [IntOp.addi, Scalar.muli, IntOp.muli]
    omega
  rw [e]
  have e2 : (IntOp.minsi (BitVec.ofNat 32 (512 * t.val + r + 1)) (BitVec.ofNat 32 w)).toInt = ((min (512 * t.val + r + 1) w : ℕ) : ℤ) := by
    have h1 : (BitVec.ofNat 32 (512 * t.val + r + 1)).toInt = ((512 * t.val + r + 1 : ℕ) : ℤ) := by
      rw [BitVec.toInt_eq_toNat_of_lt] <;> simp <;> omega
    have h2 : (BitVec.ofNat 32 w).toInt = (w : ℤ) := by
      rw [BitVec.toInt_eq_toNat_of_lt] <;> simp <;> omega
    unfold IntOp.minsi
    split <;> rename_i h <;> simp only [BitVec.slt, h1, h2, decide_eq_true_eq] at h ⊢ <;> omega
  show (((IntOp.minsi (BitVec.ofNat 32 (512 * t.val + r + 1)) (BitVec.ofNat 32 w)).toInt : ℝ) : EReal) = _
  rw [e2, Int.cast_natCast, EReal.coe_natCast]

theorem keepPrev (t : Fin grid0.N) : k0_pay3 (F := Ideal) (grid0.coords t) = if t.val = 0 then (0 : EReal) else 1 := by
  have e : ∀ t : Fin grid0.N, (Scalar.extui (Scalar.cmpi CmpIPredicate.sgt (BitVec.ofNat 32 ↑(grid0.coords t 0)) 0#32) : BitVec 32).toInt
      = if t.val = 0 then 0 else 1 := by decide +kernel
  pointwise [k0_pay3]
  rw [e]; split <;> simp

theorem keepNext (t : Fin grid0.N) : k0_pay4 (F := Ideal) (grid0.coords t) = if t.val < 7 then (1 : EReal) else 0 := by
  have e : ∀ t : Fin grid0.N, (Scalar.extui (Scalar.cmpi CmpIPredicate.slt (BitVec.ofNat 32 ↑(grid0.coords t 0)) 7#32) : BitVec 32).toInt
      = if t.val < 7 then 1 else 0 := by decide +kernel
  pointwise [k0_pay4]
  rw [e]; split <;> simp

/-- One doubling step: the block plus its rotation. -/
def dbl (k : BitVec 32) (v : FVec Ideal S528x128 .f32) : FVec Ideal S528x128 .f32 :=
  addf v (dynamicRotate 0 k none v rotates_S528x128_d0)

theorem dbl_at (k : BitVec 32) (v : FVec Ideal S528x128 .f32) (r : Fin 528) (c : Fin 128) :
    dbl k v (ix2 r c) = v (ix2 r c) + v (ix2 ⟨(r.val + 528 - k.toNat % 528) % 528, Nat.mod_lt _ (by decide)⟩ c) := by
  unfold dbl
  pointwise []

theorem rd_add (f : ℕ → EReal) (w : ℕ) : ∑ j ∈ Finset.range (2 * w), f j = ∑ j ∈ Finset.range w, f j + ∑ j ∈ Finset.range w, f (w + j) := by
  rw [two_mul, Finset.sum_range_add]

theorem caus_step (f : ℕ → EReal) (c : Fin 128) (k : BitVec 32) (w : ℕ) (hk : k.toNat = w) (hw : w < 16)
    (v : FVec Ideal S528x128 .f32)
    (hv : ∀ r : Fin 528, w ≤ r.val + 1 → v (ix2 r c) = ∑ j ∈ Finset.range w, f (r.val - j)) (r : Fin 528)
    (hr : 2 * w ≤ r.val + 1) : dbl k v (ix2 r c) = ∑ j ∈ Finset.range (2 * w), f (r.val - j) := by
  rw [dbl_at, rd_add, hv r (by omega), hv _ (by simp; omega)]
  congr 1
  refine Finset.sum_congr rfl fun j hj => ?_
  have := Finset.mem_range.1 hj
  congr 1
  simp
  omega

theorem anti_step (f : ℕ → EReal) (c : Fin 128) (k : BitVec 32) (w : ℕ) (hk : k.toNat + w = 528) (hw : w < 16) (hw0 : 0 < w)
    (v : FVec Ideal S528x128 .f32)
    (hv : ∀ r : Fin 528, r.val + w ≤ 528 → v (ix2 r c) = ∑ j ∈ Finset.range w, f (r.val + j)) (r : Fin 528)
    (hr : r.val + 2 * w ≤ 528) : dbl k v (ix2 r c) = ∑ j ∈ Finset.range (2 * w), f (r.val + j) := by
  have hm : (r.val + 528 - k.toNat % 528) % 528 = r.val + w := by omega
  rw [dbl_at, rd_add, hv r (by omega), hv _ (by simp only [hm]; omega)]
  simp only [hm]
  congr 1
  refine Finset.sum_congr rfl fun j hj => ?_
  rw [Nat.add_assoc]

theorem one_w (f : ℕ → EReal) (c : Fin 128) (v : FVec Ideal S528x128 .f32) (hv : ∀ r : Fin 528, v (ix2 r c) = f r.val) (r : Fin 528) :
    v (ix2 r c) = ∑ j ∈ Finset.range 1, f (r.val - j) := by simp [hv]

theorem one_a (f : ℕ → EReal) (c : Fin 128) (v : FVec Ideal S528x128 .f32) (hv : ∀ r : Fin 528, v (ix2 r c) = f r.val) (r : Fin 528) :
    v (ix2 r c) = ∑ j ∈ Finset.range 1, f (r.val + j) := by simp [hv]

theorem caus2 (f : ℕ → EReal) (c : Fin 128) (v : FVec Ideal S528x128 .f32) (hv : ∀ r : Fin 528, v (ix2 r c) = f r.val) (r : Fin 528)
    (hr : 2 ≤ r.val + 1) : dbl 1#32 v (ix2 r c) = ∑ j ∈ Finset.range 2, f (r.val - j) :=
  caus_step f c 1#32 1 rfl (by decide) v (fun r _ => one_w f c v hv r) r hr
theorem caus4 (f : ℕ → EReal) (c : Fin 128) (v : FVec Ideal S528x128 .f32) (hv : ∀ r : Fin 528, v (ix2 r c) = f r.val) (r : Fin 528)
    (hr : 4 ≤ r.val + 1) : dbl 2#32 (dbl 1#32 v) (ix2 r c) = ∑ j ∈ Finset.range 4, f (r.val - j) :=
  caus_step f c 2#32 2 rfl (by decide) _ (caus2 f c v hv) r hr
theorem caus8 (f : ℕ → EReal) (c : Fin 128) (v : FVec Ideal S528x128 .f32) (hv : ∀ r : Fin 528, v (ix2 r c) = f r.val) (r : Fin 528)
    (hr : 8 ≤ r.val + 1) : dbl 4#32 (dbl 2#32 (dbl 1#32 v)) (ix2 r c) = ∑ j ∈ Finset.range 8, f (r.val - j) :=
  caus_step f c 4#32 4 rfl (by decide) _ (caus4 f c v hv) r hr
theorem caus16 (f : ℕ → EReal) (c : Fin 128) (v : FVec Ideal S528x128 .f32) (hv : ∀ r : Fin 528, v (ix2 r c) = f r.val) (r : Fin 528)
    (hr : 16 ≤ r.val + 1) : dbl 8#32 (dbl 4#32 (dbl 2#32 (dbl 1#32 v))) (ix2 r c) = ∑ j ∈ Finset.range 16, f (r.val - j) :=
  caus_step f c 8#32 8 rfl (by decide) _ (caus8 f c v hv) r hr

theorem anti2 (f : ℕ → EReal) (c : Fin 128) (v : FVec Ideal S528x128 .f32) (hv : ∀ r : Fin 528, v (ix2 r c) = f r.val) (r : Fin 528)
    (hr : r.val + 2 ≤ 528) : dbl 527#32 v (ix2 r c) = ∑ j ∈ Finset.range 2, f (r.val + j) :=
  anti_step f c 527#32 1 rfl (by decide) (by decide) v (fun r _ => one_a f c v hv r) r hr
theorem anti4 (f : ℕ → EReal) (c : Fin 128) (v : FVec Ideal S528x128 .f32) (hv : ∀ r : Fin 528, v (ix2 r c) = f r.val) (r : Fin 528)
    (hr : r.val + 4 ≤ 528) : dbl 526#32 (dbl 527#32 v) (ix2 r c) = ∑ j ∈ Finset.range 4, f (r.val + j) :=
  anti_step f c 526#32 2 rfl (by decide) (by decide) _ (anti2 f c v hv) r hr
theorem anti8 (f : ℕ → EReal) (c : Fin 128) (v : FVec Ideal S528x128 .f32) (hv : ∀ r : Fin 528, v (ix2 r c) = f r.val) (r : Fin 528)
    (hr : r.val + 8 ≤ 528) : dbl 524#32 (dbl 526#32 (dbl 527#32 v)) (ix2 r c) = ∑ j ∈ Finset.range 8, f (r.val + j) :=
  anti_step f c 524#32 4 rfl (by decide) (by decide) _ (anti4 f c v hv) r hr
theorem anti16 (f : ℕ → EReal) (c : Fin 128) (v : FVec Ideal S528x128 .f32) (hv : ∀ r : Fin 528, v (ix2 r c) = f r.val) (r : Fin 528)
    (hr : r.val + 16 ≤ 528) : dbl 520#32 (dbl 524#32 (dbl 526#32 (dbl 527#32 v))) (ix2 r c) = ∑ j ∈ Finset.range 16, f (r.val + j) :=
  anti_step f c 520#32 8 rfl (by decide) (by decide) _ (anti8 f c v hv) r hr

end Cert.KernelIdeal.Pool
end
-- ==== Proof.PoolPay.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.PoolBase

@[expose] public section

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen

variable (m : (ℓ : Loc nD τ sig) → Buf (Elt Ideal) ℓ)

open Idealize.ShloMosaic.Pointwise

/-- The pooled difference of a row, from the block with its halo in front. -/
def pd (w off : ℕ) (v : FVec Ideal S528x512 .f32) (t : Fin grid0.N) (r : Fin 512) (c : Fin 128) : EReal :=
  (∑ j ∈ Finset.range w, rd (fun a b => v (ix2 a b)) (16 + r.val - j) (off + c.val)) * Ideal.div 1 ((min (512 * t.val + r.val + 1) w : ℕ) : EReal)
    - rd (fun a b => v (ix2 a b)) (16 + r.val) (off + c.val)

theorem rd_at {a b : ℕ} (v : Fin a → Fin b → EReal) (s : Fin a) (c : Fin b) : rd v s.val c.val = v s c := by
  unfold rd; rw [dif_pos ⟨s.isLt, c.isLt⟩]

theorem poolD_at (t : Fin grid0.N) (w : ℕ) (hw : w ≤ 16) (hw0 : 0 < w) (s v : FVec Ideal S528x128 .f32) (r : Fin 512) (c : Fin 128) :
    (truncf .bf16 (subf (mulf (extractStridedSlice S512x128 ![16, 0] s slices_S528x128_o16_0_S512x128)
      (broadcastTo S512x128 (divf (broadcast S512x1 (Scalar.ofBits .f32 0x3F800000#32)) (sitofp .f32 (minsi (addi (k0_pay8 (grid0.coords t))
        (broadcast S512x1 1#32)) (broadcast S512x1 (BitVec.ofNat 32 w))))) broadcasts_S512x1_S512x128))
      (extractStridedSlice S512x128 ![16, 0] v slices_S528x128_o16_0_S512x128)) bitsLt_bf16_f32 : FVec Ideal S512x128 .bf16) (ix2 r c)
      = s (ix2 ⟨16 + r.val, by omega⟩ c) * Ideal.div 1 ((min (512 * t.val + r.val + 1) w : ℕ) : EReal) - v (ix2 ⟨16 + r.val, by omega⟩ c) := by
  pointwise [k0_pay8]
  rw [cnt_word t r.val w (by omega) hw hw0]

theorem slice_rd (off : ℕ) (v : FVec Ideal S528x512 .f32) (h : S528x512.Slices ![0, off] S528x128) (hoff : off + 128 ≤ 512) (r : Fin 528) (c : Fin 128) :
    extractStridedSlice S528x128 ![0, off] v h (ix2 r c) = rd (fun a b => v (ix2 a b)) r.val (off + c.val) := by
  have e : rd (fun a b => v (ix2 a b)) r.val (off + c.val) = v (ix2 r ⟨off + c.val, by omega⟩) :=
    rd_at (fun a b => v (ix2 a b)) r ⟨off + c.val, by omega⟩
  rw [e]
  pointwise []

theorem pd_of (t : Fin grid0.N) (w off : ℕ) (hw : w ≤ 16) (hw0 : 0 < w) (hoff : off + 128 ≤ 512) (V : FVec Ideal S528x512 .f32)
    (h : S528x512.Slices ![0, off] S528x128) (s : FVec Ideal S528x128 .f32) (r : Fin 512) (c : Fin 128)
    (hs : ∀ f : ℕ → EReal, (∀ r : Fin 528, extractStridedSlice S528x128 ![0, off] V h (ix2 r c) = f r.val) →
      ∀ r : Fin 528, w ≤ r.val + 1 → s (ix2 r c) = ∑ j ∈ Finset.range w, f (r.val - j)) :
    (truncf .bf16 (subf (mulf (extractStridedSlice S512x128 ![16, 0] s slices_S528x128_o16_0_S512x128)
      (broadcastTo S512x128 (divf (broadcast S512x1 (Scalar.ofBits .f32 0x3F800000#32)) (sitofp .f32 (minsi (addi (k0_pay8 (grid0.coords t))
        (broadcast S512x1 1#32)) (broadcast S512x1 (BitVec.ofNat 32 w))))) broadcasts_S512x1_S512x128))
      (extractStridedSlice S512x128 ![16, 0] (extractStridedSlice S528x128 ![0, off] V h) slices_S528x128_o16_0_S512x128)) bitsLt_bf16_f32 : FVec Ideal S512x128 .bf16) (ix2 r c)
      = pd w off V t r c := by
  rw [poolD_at t w hw hw0, hs (fun n => rd (fun a b => V (ix2 a b)) n (off + c.val)) (fun r => slice_rd off V h hoff r c) _ (by simp; omega),
    slice_rd off V h hoff]
  rfl

variable (t : Fin grid0.N)

theorem pay14_at (x y) (r : Fin 512) (c : Fin 128) :
    k0_pay14 (F := Ideal) (k0_pay12 (grid0.coords t) x y) (k0_pay13 (grid0.coords t) x y) (ix2 r c) = pd 2 0 (k0_pay10 (grid0.coords t) x y) t r c :=
  pd_of t 2 0 (by decide) (by decide) (by decide) (k0_pay10 (grid0.coords t) x y) slices_S528x512_o0_0_S528x128 (dbl 1#32 (k0_pay12 (grid0.coords t) x y)) r c
    (fun f hf => caus2 f c _ hf)
theorem pay22_at (V : FVec Ideal S528x512 .f32) (r : Fin 512) (c : Fin 128) :
    k0_pay22 (F := Ideal) (k0_pay8 (grid0.coords t)) V (ix2 r c) = pd 4 128 V t r c :=
  pd_of t 4 128 (by decide) (by decide) (by decide) V slices_S528x512_o0_128_S528x128 (dbl 2#32 (dbl 1#32 _)) r c (fun f hf => caus4 f c _ hf)
theorem pay29_at (V : FVec Ideal S528x512 .f32) (r : Fin 512) (c : Fin 128) :
    k0_pay29 (F := Ideal) (k0_pay8 (grid0.coords t)) V (ix2 r c) = pd 8 256 V t r c :=
  pd_of t 8 256 (by decide) (by decide) (by decide) V slices_S528x512_o0_256_S528x128 (dbl 4#32 (dbl 2#32 (dbl 1#32 _))) r c (fun f hf => caus8 f c _ hf)
theorem pay37_at (V : FVec Ideal S528x512 .f32) (r : Fin 512) (c : Fin 128) :
    k0_pay37 (F := Ideal) (k0_pay8 (grid0.coords t)) (k0_pay35 V) (k0_pay36 V) 4#32 (ix2 r c) = pd 16 384 V t r c :=
  pd_of t 16 384 (by decide) (by decide) (by decide) V slices_S528x512_o0_384_S528x128 (dbl 8#32 (dbl 4#32 (dbl 2#32 (dbl 1#32 _)))) r c (fun f hf => caus16 f c _ hf)

/-- The scaled cotangent of a row of the block with its halo behind. -/
def dyb (off : ℕ) (Q : FVec Ideal S528x512 .f32) (sc : Vec Ideal S1x128 .f32) (r : ℕ) (c : Fin 128) : EReal :=
  rd (fun a b => Q (ix2 a b)) r (off + c.val) * sc (ix2 0 c)

theorem dyb_of (off : ℕ) (hoff : off + 128 ≤ 512) (Q : FVec Ideal S528x512 .f32) (h : S528x512.Slices ![0, off] S528x128) (sc : Vec Ideal S1x128 .f32)
    (r : Fin 528) (c : Fin 128) :
    (truncf .bf16 (mulf (extractStridedSlice S528x128 ![0, off] Q h) (broadcastTo S528x128 (shapeCast S1x128 sc shapeCasts_S1x128_S1x128) broadcasts_S1x128_S528x128)) bitsLt_bf16_f32 : FVec Ideal S528x128 .bf16) (ix2 r c)
      = dyb off Q sc r.val c := by
  unfold dyb
  rw [← slice_rd off Q h hoff]
  generalize extractStridedSlice S528x128 ![0, off] Q h = s
  pointwise []

theorem pay16_at (Q) (sc) (r : Fin 528) (c : Fin 128) : k0_pay16 (F := Ideal) Q sc (ix2 r c) = dyb 0 Q sc r.val c := dyb_of 0 (by decide) Q _ sc r c
theorem pay25_at (Q) (sc) (r : Fin 528) (c : Fin 128) : k0_pay25 (F := Ideal) Q sc (ix2 r c) = dyb 128 Q sc r.val c := dyb_of 128 (by decide) Q _ sc r c
theorem pay32_at (Q) (sc) (r : Fin 528) (c : Fin 128) : k0_pay32 (F := Ideal) (k0_pay31 Q sc) (ix2 r c) = dyb 256 Q sc r.val c := dyb_of 256 (by decide) Q _ sc r c
theorem pay39_at (Q) (sc) (r : Fin 528) (c : Fin 128) : k0_pay39 (F := Ideal) Q sc (ix2 r c) = dyb 384 Q sc r.val c := dyb_of 384 (by decide) Q _ sc r c

/-- The cotangent of the pooled difference of a row. -/
def ddk (off : ℕ) (Q : FVec Ideal S528x512 .f32) (sc : Vec Ideal S1x128 .f32) (w : Vec Ideal S1x128x128 .bf16) (r : ℕ) (c : Fin 128) : EReal :=
  ∑ k : Fin 128, dyb off Q sc r k * w (ix3 0 c k)

theorem mm_nt_at (a : FVec Ideal S528x128 .bf16) (w : Vec Ideal S1x128x128 .bf16) (r : Fin 528) (c : Fin 128) :
    (matmul dot_S528x128_S128x128_S528x128_1_1_0_0_n_n none a (shapeCast S128x128 w shapeCasts_S1x128x128_S128x128 : FVec Ideal S128x128 .bf16) (constant S528x128 .f32 0x00000000#32) : FVec Ideal S528x128 .f32) (ix2 r c)
      = ∑ k : Fin 128, a (ix2 r k) * w (ix3 0 c k) := by
  pointwise []

theorem inv_at (w : ℕ) (hw : w ≤ 16) (hw0 : 0 < w) (v : FVec Ideal S528x128 .f32) (r : Fin 528) (c : Fin 128) :
    (mulf v (broadcastTo S528x128 (divf (broadcast S528x1 (Scalar.ofBits .f32 0x3F800000#32)) (sitofp .f32 (minsi (addi (k0_pay9 (grid0.coords t))
        (broadcast S528x1 1#32)) (broadcast S528x1 (BitVec.ofNat 32 w))))) broadcasts_S528x1_S528x128) : FVec Ideal S528x128 .f32) (ix2 r c)
      = v (ix2 r c) * Ideal.div 1 ((min (512 * t.val + r.val + 1) w : ℕ) : EReal) := by
  pointwise [k0_pay9]
  rw [cnt_word t r.val w (by omega) hw hw0]

/-- The gradient of a pooled input row: a window of the rows behind, less the row itself. -/
def zd (w : ℕ) (dd : ℕ → EReal) (t : Fin grid0.N) (r : ℕ) : EReal :=
  (∑ j ∈ Finset.range w, dd (r + j) * Ideal.div 1 ((min (512 * t.val + (r + j) + 1) w : ℕ) : EReal)) - dd r

theorem zd_of (w : ℕ) (hw : w ≤ 16) (hw0 : 0 < w) (v e : FVec Ideal S528x128 .f32) (dd : ℕ → EReal) (r : Fin 512) (c : Fin 128)
    (hv : ∀ r : Fin 528, v (ix2 r c) = dd r.val)
    (he : ∀ f : ℕ → EReal, (∀ r : Fin 528, (mulf v (broadcastTo S528x128 (divf (broadcast S528x1 (Scalar.ofBits .f32 0x3F800000#32)) (sitofp .f32 (minsi (addi (k0_pay9 (grid0.coords t))
        (broadcast S528x1 1#32)) (broadcast S528x1 (BitVec.ofNat 32 w))))) broadcasts_S528x1_S528x128) : FVec Ideal S528x128 .f32) (ix2 r c) = f r.val) →
      ∀ r : Fin 528, r.val + w ≤ 528 → e (ix2 r c) = ∑ j ∈ Finset.range w, f (r.val + j)) :
    (shapeCast S512x128 (truncf .bf16 (subf (extractStridedSlice S512x128 ![0, 0] e slices_S528x128_o0_0_S512x128)
      (extractStridedSlice S512x128 ![0, 0] v slices_S528x128_o0_0_S512x128)) bitsLt_bf16_f32) shapeCasts_S512x128_S512x128 : FVec Ideal S512x128 .bf16) (ix2 r c) = zd w dd t r.val := by
  have h1 := he (fun n => dd n * Ideal.div 1 ((min (512 * t.val + n + 1) w : ℕ) : EReal)) (fun r => by rw [inv_at t w hw hw0, hv]) ⟨r.val, by omega⟩ (by simp; omega)
  have h2 := hv ⟨r.val, by omega⟩
  unfold zd
  simp only at h1 h2
  rw [← h1, ← h2]
  pointwise []

theorem ddk_of (off : ℕ) (Q : FVec Ideal S528x512 .f32) (sc : Vec Ideal S1x128 .f32) (w : Vec Ideal S1x128x128 .bf16) (a : FVec Ideal S528x128 .bf16)
    (ha : ∀ r c, a (ix2 r c) = dyb off Q sc r.val c) (r : Fin 528) (c : Fin 128) :
    (matmul dot_S528x128_S128x128_S528x128_1_1_0_0_n_n none a (shapeCast S128x128 w shapeCasts_S1x128x128_S128x128 : FVec Ideal S128x128 .bf16) (constant S528x128 .f32 0x00000000#32) : FVec Ideal S528x128 .f32) (ix2 r c)
      = ddk off Q sc w r.val c := by
  rw [mm_nt_at]; simp only [ha]; rfl

theorem pay21_at (Q sc w) (r : Fin 512) (c : Fin 128) :
    k0_pay21 (F := Ideal) (k0_pay18 Q sc w) (k0_pay19 (k0_pay9 (grid0.coords t))) k0_pay20 (ix2 r c) = zd 2 (fun n => ddk 0 Q sc w n c) t r.val :=
  zd_of t 2 (by decide) (by decide) (k0_pay18 Q sc w) (dbl 527#32 _) _ r c (fun r => ddk_of 0 Q sc w _ (pay16_at Q sc) r c) (fun f hf => anti2 f c _ hf)
theorem pay28_at (Q sc w) (r : Fin 512) (c : Fin 128) :
    k0_pay28 (F := Ideal) (k0_pay27 (k0_pay9 (grid0.coords t)) Q sc w) (ix2 r c) = zd 4 (fun n => ddk 128 Q sc w n c) t r.val :=
  zd_of t 4 (by decide) (by decide) _ (dbl 526#32 (dbl 527#32 _)) _ r c (fun r => ddk_of 128 Q sc w _ (pay25_at Q sc) r c) (fun f hf => anti4 f c _ hf)
theorem pay34_at (Q sc w) (r : Fin 512) (c : Fin 128) :
    k0_pay34 (F := Ideal) (k0_pay9 (grid0.coords t)) (k0_pay31 Q sc) w (ix2 r c) = zd 8 (fun n => ddk 256 Q sc w n c) t r.val :=
  zd_of t 8 (by decide) (by decide) _ (dbl 524#32 (dbl 526#32 (dbl 527#32 _))) _ r c (fun r => ddk_of 256 Q sc w _ (pay32_at Q sc) r c) (fun f hf => anti8 f c _ hf)
theorem pay42_at (Q sc w) (r : Fin 512) (c : Fin 128) :
    k0_pay42 (F := Ideal) (k0_pay9 (grid0.coords t)) (k0_pay39 Q sc) w (ix2 r c) = zd 16 (fun n => ddk 384 Q sc w n c) t r.val :=
  zd_of t 16 (by decide) (by decide) _ (dbl 520#32 (dbl 524#32 (dbl 526#32 (dbl 527#32 _)))) _ r c (fun r => ddk_of 384 Q sc w _ (pay39_at Q sc) r c) (fun f hf => anti16 f c _ hf)

/-! The three accumulators' steps. -/

theorem dsc_of (a : FVec Ideal S512x128 .bf16) (d : Fin 512 → Fin 128 → EReal) (ha : ∀ r c, a (ix2 r c) = d r c) (w : Vec Ideal S1x128x128 .bf16)
    (acc : Vec Ideal S1x128 .f32) (y : Vec Ideal S512x128 .f32) (c : Fin 128) :
    (shapeCast S1x128 (addf acc (shapeCast S1x128 (multiReduction .add [0] S128 (mulf y (matmul dot_S512x128_S128x128_S512x128_1_0_0_1_n_n none a
      (shapeCast S128x128 w shapeCasts_S1x128x128_S128x128 : FVec Ideal S128x128 .bf16) (constant S512x128 .f32 0x00000000#32))) 0x00000000#32 reduces_S512x128_S128 (.inl rfl) rfl) shapeCasts_S128_S1x128)) shapeCasts_S1x128_S1x128 : FVec Ideal S1x128 .f32) (ix2 0 c)
      = acc (ix2 0 c) + ∑ r : Fin 512, y (ix2 r c) * ∑ k : Fin 128, d r k * w (ix3 0 k c) := by
  simp only [← ha]
  pointwise []

theorem pay15_at (x y w acc dy) (c : Fin 128) :
    k0_pay15 (F := Ideal) (k0_pay12 (grid0.coords t) x y) (k0_pay13 (grid0.coords t) x y) w acc dy (ix2 0 c)
      = acc (ix2 0 c) + ∑ r : Fin 512, dy (ix2 r c) * ∑ k : Fin 128, pd 2 0 (k0_pay10 (grid0.coords t) x y) t r k * w (ix3 0 k c) :=
  dsc_of _ _ (pay14_at t x y) w acc dy c
theorem pay24_at (V w acc dy) (c : Fin 128) :
    k0_pay24 (F := Ideal) acc (k0_pay23 (k0_pay8 (grid0.coords t)) V w dy) (ix2 0 c)
      = acc (ix2 0 c) + ∑ r : Fin 512, dy (ix2 r c) * ∑ k : Fin 128, pd 4 128 V t r k * w (ix3 0 k c) :=
  dsc_of _ _ (pay22_at t V) w acc dy c
theorem pay30_at (V w acc dy) (c : Fin 128) :
    k0_pay30 (F := Ideal) (k0_pay8 (grid0.coords t)) V w acc dy (ix2 0 c)
      = acc (ix2 0 c) + ∑ r : Fin 512, dy (ix2 r c) * ∑ k : Fin 128, pd 8 256 V t r k * w (ix3 0 k c) :=
  dsc_of _ _ (pay29_at t V) w acc dy c
theorem pay38_at (V w acc dy) (c : Fin 128) :
    k0_pay38 (F := Ideal) (k0_pay8 (grid0.coords t)) (k0_pay35 V) (k0_pay36 V) 4#32 w acc dy (ix2 0 c)
      = acc (ix2 0 c) + ∑ r : Fin 512, dy (ix2 r c) * ∑ k : Fin 128, pd 16 384 V t r k * w (ix3 0 k c) :=
  dsc_of _ _ (pay37_at t V) w acc dy c

theorem dmix_of (a : FVec Ideal S512x128 .bf16) (d : Fin 512 → Fin 128 → EReal) (ha : ∀ r c, a (ix2 r c) = d r c)
    (b : FVec Ideal S528x128 .bf16) (e : ℕ → Fin 128 → EReal) (hb : ∀ r c, b (ix2 r c) = e r.val c)
    (acc : Vec Ideal S128x128 .f32) (p c : Fin 128) :
    (shapeCast S128x128 (addf acc (matmul dot_S512x128_S512x128_S128x128_0_0_1_1_n_n none a
      (extractStridedSlice S512x128 ![0, 0] b slices_S528x128_o0_0_S512x128) (constant S128x128 .f32 0x00000000#32))) shapeCasts_S128x128_S128x128 : FVec Ideal S128x128 .f32) (ix2 p c)
      = acc (ix2 p c) + ∑ r : Fin 512, d r p * e r.val c := by
  have hb' : ∀ (r : Fin 512) c, e r.val c = b (ix2 ⟨r.val, by omega⟩ c) := fun r c => (hb ⟨r.val, by omega⟩ c).symm
  simp only [← ha, hb']
  pointwise []

theorem pay17_at (x y Q sc acc) (p c : Fin 128) :
    k0_pay17 (F := Ideal) Q (k0_pay12 (grid0.coords t) x y) (k0_pay13 (grid0.coords t) x y) sc acc (ix2 p c)
      = acc (ix2 p c) + ∑ r : Fin 512, pd 2 0 (k0_pay10 (grid0.coords t) x y) t r p * dyb 0 Q sc r.val c :=
  dmix_of _ _ (pay14_at t x y) _ _ (pay16_at Q sc) acc p c
theorem pay26_at (V Q sc acc) (p c : Fin 128) :
    k0_pay26 (F := Ideal) Q (k0_pay22 (k0_pay8 (grid0.coords t)) V) sc acc (ix2 p c)
      = acc (ix2 p c) + ∑ r : Fin 512, pd 4 128 V t r p * dyb 128 Q sc r.val c :=
  dmix_of _ _ (pay22_at t V) _ _ (pay25_at Q sc) acc p c
theorem pay33_at (V Q sc acc) (p c : Fin 128) :
    k0_pay33 (F := Ideal) (k0_pay29 (k0_pay8 (grid0.coords t)) V) (k0_pay31 Q sc) acc (ix2 p c)
      = acc (ix2 p c) + ∑ r : Fin 512, pd 8 256 V t r p * dyb 256 Q sc r.val c :=
  dmix_of _ _ (pay29_at t V) _ _ (pay32_at Q sc) acc p c
theorem pay41_at (V Q sc acc) (p c : Fin 128) :
    k0_pay41 (F := Ideal) (k0_pay40 (k0_pay8 (grid0.coords t)) Q (k0_pay35 V) (k0_pay36 V) 4#32 sc acc) (ix2 p c)
      = acc (ix2 p c) + ∑ r : Fin 512, pd 16 384 V t r p * dyb 384 Q sc r.val c :=
  dmix_of _ _ (pay37_at t V) _ _ (pay39_at Q sc) acc p c

/-! The gated convolution. -/

/-- The convolved product `c · x` of a row of the block with its halo in front. -/
def ucf (X5 X7 : Vec Ideal S8x512 .f32) (X4 X6 : Vec Ideal S512x512 .f32) (t : Fin grid0.N) (r : ℕ) (c : Fin 512) : EReal :=
  if h : r < 8 then X5 (ix2 ⟨r, h⟩ c) * X7 (ix2 ⟨r, h⟩ c) * (if t.val = 0 then 0 else 1)
  else if h : r < 520 then X4 (ix2 ⟨r - 8, by omega⟩ c) * X6 (ix2 ⟨r - 8, by omega⟩ c) else 0

/-- The gated cotangent `dy · b` of a row of the block with its halo behind. -/
def dvf (x10 X2 : Vec Ideal S512x512 .f32) (x11 X3 : Vec Ideal S8x512 .f32) (t : Fin grid0.N) (r : ℕ) (c : Fin 512) : EReal :=
  if h : r < 512 then x10 (ix2 ⟨r, h⟩ c) * X2 (ix2 ⟨r, h⟩ c)
  else if h : r < 520 then x11 (ix2 ⟨r - 512, by omega⟩ c) * X3 (ix2 ⟨r - 512, by omega⟩ c) * (if t.val < 7 then 1 else 0) else 0

theorem pay46_at (X5 X7 X4 X6) (r : Fin 520) (c : Fin 512) :
    k0_pay46 (F := Ideal) (k0_pay3 (grid0.coords t)) X5 X7 X4 X6 (ix2 r c) = ucf X5 X7 X4 X6 t r.val c := by
  unfold ucf
  rw [← keepPrev t]
  pointwise [k0_pay46]
theorem pay51_at (x10 X2 x11 X3) (r : Fin 520) (c : Fin 512) :
    k0_pay51 (F := Ideal) (k0_pay4 (grid0.coords t)) x10 X2 x11 X3 (ix2 r c) = dvf x10 X2 x11 X3 t r.val c := by
  unfold dvf
  rw [← keepNext t]
  pointwise [k0_pay51]

theorem pay47_at (X5 X7 X4 X6) (r : Fin 512) (c : Fin 512) :
    k0_pay47 (F := Ideal) (k0_pay3 (grid0.coords t)) X5 X7 X4 X6 (ix2 r c) = ucf X5 X7 X4 X6 t (r.val + 7) c := by
  rw [← show (⟨r.val + 7, by omega⟩ : Fin 520).val = r.val + 7 from rfl, ← pay46_at]
  pointwise [k0_pay47]
  simp only [show (8 + r.val + 520 - 1) % 520 = r.val + 7 by omega]
theorem pay48_at (X5 X7 X4 X6) (r : Fin 512) (c : Fin 512) :
    k0_pay48 (F := Ideal) (k0_pay3 (grid0.coords t)) X5 X7 X4 X6 (ix2 r c) = ucf X5 X7 X4 X6 t (r.val + 6) c := by
  rw [← show (⟨r.val + 6, by omega⟩ : Fin 520).val = r.val + 6 from rfl, ← pay46_at]
  pointwise [k0_pay48]
  simp only [show (8 + r.val + 520 - 2) % 520 = r.val + 6 by omega]
theorem pay49_at (X5 X7 X4 X6) (r : Fin 512) (c : Fin 512) :
    k0_pay49 (F := Ideal) (k0_pay3 (grid0.coords t)) X5 X7 X4 X6 (ix2 r c) = ucf X5 X7 X4 X6 t (r.val + 8) c := by
  rw [← show (⟨r.val + 8, by omega⟩ : Fin 520).val = r.val + 8 from rfl, ← pay46_at]
  pointwise [k0_pay49]
  simp only [Nat.add_comm 8]

theorem pay50_at (w0 w1 w2 X5 X7 X4 X6 x10) (r : Fin 512) (c : Fin 512) :
    k0_pay50 (F := Ideal) (k0_pay3 (grid0.coords t)) (k0_pay43 w0) (k0_pay44 w1) (k0_pay45 w2) X5 X7 X4 X6 x10 (ix2 r c)
      = x10 (ix2 r c) * (w2 (ix2 0 c) * ucf X5 X7 X4 X6 t (r.val + 8) c + w0 (ix2 0 c) * ucf X5 X7 X4 X6 t (r.val + 6) c + w1 (ix2 0 c) * ucf X5 X7 X4 X6 t (r.val + 7) c) := by
  rw [← pay47_at, ← pay48_at, ← pay49_at]
  pointwise [k0_pay50, k0_pay43, k0_pay44, k0_pay45]

theorem pay54_at (w0 w1 w2 x10 X2 x11 X3) (r : Fin 512) (c : Fin 512) :
    k0_pay54 (F := Ideal) (k0_pay43 w0) (k0_pay44 w1) (k0_pay51 (k0_pay4 (grid0.coords t)) x10 X2 x11 X3)
        (k0_pay52 (k0_pay4 (grid0.coords t)) (k0_pay45 w2) x10 X2 x11 X3) (k0_pay53 (k0_pay4 (grid0.coords t)) x10 X2 x11 X3) (ix2 r c)
      = w2 (ix2 0 c) * dvf x10 X2 x11 X3 t r.val c + w1 (ix2 0 c) * dvf x10 X2 x11 X3 t (r.val + 1) c + w0 (ix2 0 c) * dvf x10 X2 x11 X3 t (r.val + 2) c := by
  have e0 := pay51_at t x10 X2 x11 X3 ⟨r.val, by omega⟩ c
  have e1 := pay51_at t x10 X2 x11 X3 ⟨r.val + 1, by omega⟩ c
  have e2 := pay51_at t x10 X2 x11 X3 ⟨r.val + 2, by omega⟩ c
  simp only at e0 e1 e2
  rw [← e0, ← e1, ← e2]
  have m1 : (r.val + 520 - 519) % 520 = r.val + 1 := by omega
  have m2 : (r.val + 520 - 518) % 520 = r.val + 2 := by omega
  pointwise [k0_pay54, k0_pay52, k0_pay53, k0_pay43, k0_pay44, k0_pay45]
  simp only [m1, m2]

theorem dcw_of (d u : FVec Ideal S512x512 .f32) (acc : Vec Ideal S1x512 .f32) (c : Fin 512) :
    (shapeCast S1x512 (addf acc (shapeCast S1x512 (multiReduction .add [0] S512 (mulf d u) 0x00000000#32 reduces_S512x512_S512 (.inl rfl) rfl) shapeCasts_S512_S1x512)) shapeCasts_S1x512_S1x512 : FVec Ideal S1x512 .f32) (ix2 0 c)
      = acc (ix2 0 c) + ∑ r : Fin 512, d (ix2 r c) * u (ix2 r c) := by
  pointwise []

theorem pay55_at (x10 X2 x11 X3) (r : Fin 512) (c : Fin 512) :
    k0_pay55 (F := Ideal) (k0_pay51 (k0_pay4 (grid0.coords t)) x10 X2 x11 X3) (ix2 r c) = dvf x10 X2 x11 X3 t r.val c := by
  rw [← show (⟨r.val, by omega⟩ : Fin 520).val = r.val from rfl, ← pay51_at]
  pointwise [k0_pay55]

theorem pay56_at (X5 X7 X4 X6 x10 X2 x11 X3 acc) (c : Fin 512) :
    k0_pay56 (F := Ideal) (k0_pay48 (k0_pay3 (grid0.coords t)) X5 X7 X4 X6) (k0_pay51 (k0_pay4 (grid0.coords t)) x10 X2 x11 X3) acc (ix2 0 c)
      = acc (ix2 0 c) + ∑ r : Fin 512, dvf x10 X2 x11 X3 t r.val c * ucf X5 X7 X4 X6 t (r.val + 6) c := by
  simp only [← pay48_at, ← pay55_at]
  exact dcw_of _ _ acc c
theorem pay57_at (X5 X7 X4 X6 x10 X2 x11 X3 acc) (c : Fin 512) :
    k0_pay57 (F := Ideal) (k0_pay47 (k0_pay3 (grid0.coords t)) X5 X7 X4 X6) (k0_pay51 (k0_pay4 (grid0.coords t)) x10 X2 x11 X3) acc (ix2 0 c)
      = acc (ix2 0 c) + ∑ r : Fin 512, dvf x10 X2 x11 X3 t r.val c * ucf X5 X7 X4 X6 t (r.val + 7) c := by
  simp only [← pay47_at, ← pay55_at]
  exact dcw_of _ _ acc c
theorem pay58_at (X5 X7 X4 X6 x10 X2 x11 X3 acc) (c : Fin 512) :
    k0_pay58 (F := Ideal) (k0_pay49 (k0_pay3 (grid0.coords t)) X5 X7 X4 X6) (k0_pay51 (k0_pay4 (grid0.coords t)) x10 X2 x11 X3) acc (ix2 0 c)
      = acc (ix2 0 c) + ∑ r : Fin 512, dvf x10 X2 x11 X3 t r.val c * ucf X5 X7 X4 X6 t (r.val + 8) c := by
  simp only [← pay49_at, ← pay55_at]
  exact dcw_of _ _ acc c

end Cert.KernelIdeal.Pool
end
-- ==== Proof.PoolArr.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.PoolPay

@[expose] public section

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen

variable (m : (ℓ : Loc nD τ sig) → Buf (Elt Ideal) ℓ)

open Idealize.ShloMosaic.Pointwise
variable (c : Dev nD) (t : Fin cfg0.N)

/-! ## The arguments by row and column -/

def Zf (a : Fin 4096) (b : Fin 7424) : EReal := m ((c.tc : Thread nD τ).loc main_arg0) (ix2 a b)
def Pf (a : Fin 4096) (b : Fin 512) : EReal := m ((c.tc : Thread nD τ).loc main_arg1) (ix2 a b)
def Cf (a : Fin 4096) (b : Fin 512) : EReal := m ((c.tc : Thread nD τ).loc main_arg2) (ix2 a b)
def Mf (g : Fin 4) (a b : Fin 128) : EReal := m ((c.tc : Thread nD τ).loc main_arg3) (ix3 g a b)
def Sf (b : Fin 512) : EReal := m ((c.tc : Thread nD τ).loc main_arg4) (ix1 b)
def Wf (a : Fin 3) (b : Fin 512) : EReal := m ((c.tc : Thread nD τ).loc main_arg5) (ix2 a b)

theorem Vmix : V m c main_v0 = (truncf .bf16 (m ((c.tc : Thread nD τ).loc main_arg3) : FVec Ideal S4x128x128 .f32) bitsLt_bf16_f32 : FVec Ideal S4x128x128 .bf16) := by
    unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]
    after_results_simp
theorem Vcw : V m c main_v2 = (pad S8x512 ![0, 0] ![5, 0] ![0, 0] (m ((c.tc : Thread nD τ).loc main_arg5)) (sitofp .f32 (constantI S_ 32 0#32) : FVec Ideal S_ .f32) pads_S3x512_S8x512_050_000 h_S_ : FVec Ideal S8x512 .f32) := by
    unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]
    after_results_simp
    try rfl
theorem Vsc : V m c main_v1 = (broadcastInDim S1x512 ![1] bcast_S512_S1x512_1 (m ((c.tc : Thread nD τ).loc main_arg4) : FVec Ideal S512 .f32) : FVec Ideal S1x512 .f32) := by
    unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]
    after_results_simp
theorem Vdz : V m c main_v3_0 = m ((c.tc : Thread nD τ).loc main_arg6) := by
    unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]
    after_results_simp
    rfl

theorem rd_lt {a b : ℕ} (v : Fin a → Fin b → EReal) {s k : ℕ} (hs : s < a) (hk : k < b) : rd v s k = v ⟨s, hs⟩ ⟨k, hk⟩ := by
  unfold rd; rw [dif_pos ⟨hs, hk⟩]
theorem rd_ge {a b : ℕ} (v : Fin a → Fin b → EReal) {s k : ℕ} (hs : a ≤ s) : rd v s k = 0 := by
  unfold rd; rw [dif_neg (by omega)]

theorem tlt : t.val < 8 := t.isLt

theorem idx0 : ∀ t : Fin cfg0.N, win0_0.index t 0 = t.val ∧ win0_0.index t 1 = 0 := by decide +kernel
theorem x0 (r : Fin 512) (k : Fin 512) : X0_0 m c t (ix2 r k) = rd (Zf m c) (512 * t.val + r.val) (k.val) := by
  have ht := tlt t
  rw [rd_lt _ (by omega) (by omega)]
  unfold X0_0 Pipeline.Window.fill
  rw [dif_pos (moved0_0 t _)]
  unfold Zf
  blk_point [iblk, V_main_arg0, idx0 t]
theorem idx2 : ∀ t : Fin cfg0.N, win0_2.index t 0 = t.val ∧ win0_2.index t 1 = 1 := by decide +kernel
theorem x2 (r : Fin 512) (k : Fin 512) : X0_2 m c t (ix2 r k) = rd (Zf m c) (512 * t.val + r.val) (512 + k.val) := by
  have ht := tlt t
  rw [rd_lt _ (by omega) (by omega)]
  unfold X0_2 Pipeline.Window.fill
  rw [dif_pos (moved0_2 t _)]
  unfold Zf
  blk_point [iblk, V_main_arg0, idx2 t]
theorem idx4 : ∀ t : Fin cfg0.N, win0_4.index t 0 = t.val ∧ win0_4.index t 1 = 2 := by decide +kernel
theorem x4 (r : Fin 512) (k : Fin 512) : X0_4 m c t (ix2 r k) = rd (Zf m c) (512 * t.val + r.val) (1024 + k.val) := by
  have ht := tlt t
  rw [rd_lt _ (by omega) (by omega)]
  unfold X0_4 Pipeline.Window.fill
  rw [dif_pos (moved0_4 t _)]
  unfold Zf
  blk_point [iblk, V_main_arg0, idx4 t]
theorem idx6 : ∀ t : Fin cfg0.N, win0_6.index t 0 = t.val ∧ win0_6.index t 1 = 3 := by decide +kernel
theorem x6 (r : Fin 512) (k : Fin 512) : X0_6 m c t (ix2 r k) = rd (Zf m c) (512 * t.val + r.val) (1536 + k.val) := by
  have ht := tlt t
  rw [rd_lt _ (by omega) (by omega)]
  unfold X0_6 Pipeline.Window.fill
  rw [dif_pos (moved0_6 t _)]
  unfold Zf
  blk_point [iblk, V_main_arg0, idx6 t]
theorem idx1 : ∀ t : Fin cfg0.N, win0_1.index t 0 = 32 * t.val - 1 ∧ win0_1.index t 1 = 0 := by decide +kernel
theorem x1 (r : Fin 16) (k : Fin 512) : X0_1 m c t (ix2 r k) = rd (Zf m c) ((32 * t.val - 1) * 16 + r.val) (k.val) := by
  have ht := tlt t
  rw [rd_lt _ (by omega) (by omega)]
  unfold X0_1 Pipeline.Window.fill
  rw [dif_pos (moved0_1 t _)]
  unfold Zf
  blk_point [iblk, V_main_arg0, idx1 t]
theorem idx5 : ∀ t : Fin cfg0.N, win0_5.index t 0 = 64 * t.val - 1 ∧ win0_5.index t 1 = 2 := by decide +kernel
theorem x5 (r : Fin 8) (k : Fin 512) : X0_5 m c t (ix2 r k) = rd (Zf m c) ((64 * t.val - 1) * 8 + r.val) (1024 + k.val) := by
  have ht := tlt t
  rw [rd_lt _ (by omega) (by omega)]
  unfold X0_5 Pipeline.Window.fill
  rw [dif_pos (moved0_5 t _)]
  unfold Zf
  blk_point [iblk, V_main_arg0, idx5 t]
theorem idx7 : ∀ t : Fin cfg0.N, win0_7.index t 0 = 64 * t.val - 1 ∧ win0_7.index t 1 = 3 := by decide +kernel
theorem x7 (r : Fin 8) (k : Fin 512) : X0_7 m c t (ix2 r k) = rd (Zf m c) ((64 * t.val - 1) * 8 + r.val) (1536 + k.val) := by
  have ht := tlt t
  rw [rd_lt _ (by omega) (by omega)]
  unfold X0_7 Pipeline.Window.fill
  rw [dif_pos (moved0_7 t _)]
  unfold Zf
  blk_point [iblk, V_main_arg0, idx7 t]
theorem idx3 : ∀ t : Fin cfg0.N, win0_3.index t 0 = min ((t.val + 1) * 64) 511 ∧ win0_3.index t 1 = 1 := by decide +kernel
theorem x3 (r : Fin 8) (k : Fin 512) : X0_3 m c t (ix2 r k) = rd (Zf m c) (min ((t.val + 1) * 64) 511 * 8 + r.val) (512 + k.val) := by
  have ht := tlt t
  rw [rd_lt _ (by omega) (by omega)]
  unfold X0_3 Pipeline.Window.fill
  rw [dif_pos (moved0_3 t _)]
  unfold Zf
  blk_point [iblk, V_main_arg0, idx3 t]
theorem idx8 : ∀ t : Fin cfg0.N, win0_8.index t 0 = t.val ∧ win0_8.index t 1 = 0 := by decide +kernel
theorem x8 (r : Fin 512) (k : Fin 512) : iblk m c 8 t (ix2 r k) = rd (Pf m c) (512 * t.val + r.val) (k.val) := by
  have ht := tlt t
  rw [rd_lt _ (by omega) (by omega)]
  unfold Pf
  blk_point [iblk, V_main_arg1, idx8 t]
theorem idx10 : ∀ t : Fin cfg0.N, win0_10.index t 0 = t.val ∧ win0_10.index t 1 = 0 := by decide +kernel
theorem x10 (r : Fin 512) (k : Fin 512) : iblk m c 10 t (ix2 r k) = rd (Cf m c) (512 * t.val + r.val) (k.val) := by
  have ht := tlt t
  rw [rd_lt _ (by omega) (by omega)]
  unfold Cf
  blk_point [iblk, V_main_arg2, idx10 t]
theorem idx9 : ∀ t : Fin cfg0.N, win0_9.index t 0 = min ((t.val + 1) * 32) 255 ∧ win0_9.index t 1 = 0 := by decide +kernel
theorem x9 (r : Fin 16) (k : Fin 512) : iblk m c 9 t (ix2 r k) = rd (Pf m c) (min ((t.val + 1) * 32) 255 * 16 + r.val) (k.val) := by
  have ht := tlt t
  rw [rd_lt _ (by omega) (by omega)]
  unfold Pf
  blk_point [iblk, V_main_arg1, idx9 t]
theorem idx11 : ∀ t : Fin cfg0.N, win0_11.index t 0 = min ((t.val + 1) * 64) 511 ∧ win0_11.index t 1 = 0 := by decide +kernel
theorem x11 (r : Fin 8) (k : Fin 512) : iblk m c 11 t (ix2 r k) = rd (Cf m c) (min ((t.val + 1) * 64) 511 * 8 + r.val) (k.val) := by
  have ht := tlt t
  rw [rd_lt _ (by omega) (by omega)]
  unfold Cf
  blk_point [iblk, V_main_arg2, idx11 t]
theorem idx12 : ∀ (t : Fin cfg0.N), win0_12.index t 0 = 0 ∧ win0_12.index t 1 = 0 ∧ win0_12.index t 2 = 0 := by decide +kernel
theorem idx13 : ∀ (t : Fin cfg0.N), win0_13.index t 0 = 0 ∧ win0_13.index t 1 = 0 := by decide +kernel
theorem idx14 : ∀ (t : Fin cfg0.N), win0_14.index t 0 = 0 ∧ win0_14.index t 1 = 0 := by decide +kernel
theorem x12 (r : Fin 4) (k l : Fin 128) : iblk m c 12 t (ix3 r k l) = Mf m c r k l := by
  unfold Mf
  blk_point [iblk, Vmix, idx12 t]
theorem x13 (k : Fin 512) : iblk m c 13 t (ix2 0 k) = Sf m c k := by
  have e : (V m c main_v1 : FVec Ideal S1x512 .f32) (ix2 0 k) = Sf m c k := by
    rw [Vsc]; unfold Sf; pointwise []
  rw [← e]
  blk_point [iblk, idx13 t]
theorem x14 (r : Fin 3) (k : Fin 512) : iblk m c 14 t (ix2 ⟨r, by omega⟩ k) = Wf m c r k := by
  have e : ∀ (j : Fin 8) (hj : j.val < 3), (V m c main_v2 : FVec Ideal S8x512 .f32) (ix2 j k) = Wf m c ⟨j.val, hj⟩ k := by
    intro j hj
    rw [Vcw]
    unfold Wf
    pointwise []
    rw [dif_pos (by change ∀ a : Fin 2, _; rw [Fin.forall_fin_two]; simp [hj, Nat.mod_one, Nat.div_one])]
  rw [← e ⟨r, by omega⟩ r.isLt]
  blk_point [iblk, idx14 t]

/-! ## What the step computes, by row and column -/

/-- The rows a window of `w` ending at row `s` sums, averaged, less the row itself. -/
def dif (Z : ℕ → EReal) (w s : ℕ) : EReal :=
  (∑ j ∈ Finset.range w, if j ≤ s then Z (s - j) else 0) * Ideal.div 1 ((min (s + 1) w : ℕ) : EReal) - Z s

/-- The pooled difference of row `s`, column `off + k`. -/
def Df (w off s k : ℕ) : EReal := dif (fun s => rd (Zf m c) s (off + k)) w s
/-- The scaled cotangent. -/
def Yf (s k : ℕ) : EReal := rd (Pf m c) s k * (if h : k < 512 then Sf m c ⟨k, h⟩ else 0)
/-- The cotangent of the pooled difference. -/
def Ef (g : Fin 4) (off s : ℕ) (k : Fin 128) : EReal := ∑ l : Fin 128, Yf m c s (off + l.val) * Mf m c g k l
/-- A window of `w` rows from row `s` on, each averaged as its own window was, less the row itself. -/
def win (E : ℕ → EReal) (w s : ℕ) : EReal :=
  (∑ j ∈ Finset.range w, E (s + j) * Ideal.div 1 ((min (s + j + 1) w : ℕ) : EReal)) - E s

theorem pay10_at (x : FVec Ideal S16x512 .f32) (y : FVec Ideal S512x512 .f32) (n k : ℕ) (hn : n < 528) (hk : k < 512) :
    k0_pay10 (F := Ideal) (grid0.coords t) x y (ix2 ⟨n, hn⟩ ⟨k, hk⟩)
      = if h : n < 16 then x (ix2 ⟨n, h⟩ ⟨k, hk⟩) * (if t.val = 0 then (0 : EReal) else 1) else y (ix2 ⟨n - 16, by omega⟩ ⟨k, hk⟩) := by
  rw [← keepPrev]
  pointwise [k0_pay10]

theorem pay11_at (x : FVec Ideal S512x512 .f32) (y : FVec Ideal S16x512 .f32) (n k : ℕ) (hn : n < 528) (hk : k < 512) :
    k0_pay11 (F := Ideal) (grid0.coords t) x y (ix2 ⟨n, hn⟩ ⟨k, hk⟩)
      = if h : n < 512 then x (ix2 ⟨n, h⟩ ⟨k, hk⟩) else y (ix2 ⟨n - 512, by omega⟩ ⟨k, hk⟩) * (if t.val < 7 then (1 : EReal) else 0) := by
  rw [← keepNext]
  pointwise [k0_pay11]

theorem p10_rd (n k : ℕ) (hn : n < 528) (hk : k < 512) :
    rd (fun a b => k0_pay10 (F := Ideal) (grid0.coords t) (X0_1 m c t) (X0_0 m c t) (ix2 a b)) n k
      = if 16 ≤ 512 * t.val + n then rd (Zf m c) (512 * t.val + n - 16) k else 0 := by
  rw [rd_lt _ hn hk]
  have ht := tlt t
  rw [pay10_at]
  by_cases h : n < 16
  · rw [dif_pos h, x1]
    by_cases h0 : t.val = 0
    · rw [if_pos h0, if_neg (by omega), mul_zero]
    · rw [if_neg h0, if_pos (by omega), mul_one]
      congr 1
      simp only
      omega
  · rw [dif_neg h, x0, if_pos (by omega)]
    congr 1
    simp only
    omega

theorem p11_rd (n k : ℕ) (hn : n < 528) (hk : k < 512) :
    rd (fun a b => k0_pay11 (F := Ideal) (grid0.coords t) (iblk m c 8 t) (iblk m c 9 t) (ix2 a b)) n k
      = rd (Pf m c) (512 * t.val + n) k := by
  rw [rd_lt _ hn hk]
  have ht := tlt t
  rw [pay11_at]
  by_cases h : n < 512
  · rw [dif_pos h, x8]
  · rw [dif_neg h, x9]
    by_cases h0 : t.val < 7
    · rw [if_pos h0, mul_one]
      congr 1
      simp only
      omega
    · rw [if_neg h0, mul_zero, rd_ge _ (by omega)]

theorem pd_eq (w off : ℕ) (hw : w ≤ 16) (hoff : off + 128 ≤ 512) (r : Fin 512) (k : Fin 128) :
    pd w off (k0_pay10 (grid0.coords t) (X0_1 m c t) (X0_0 m c t)) t r k = Df m c w off (512 * t.val + r.val) k.val := by
  unfold pd Df dif
  rw [p10_rd m c t _ _ (by omega) (by omega), if_pos (by omega)]
  congr 1
  · congr 1
    refine Finset.sum_congr rfl fun j hj => ?_
    have := Finset.mem_range.1 hj
    rw [p10_rd m c t _ _ (by omega) (by omega)]
    by_cases h : j ≤ 512 * t.val + r.val
    · rw [if_pos h, if_pos (by omega)]
      congr 1
      omega
    · rw [if_neg h, if_neg (by omega)]
  · congr 1
    omega

theorem dyb_eq (off : ℕ) (hoff : off + 128 ≤ 512) (sc : Vec Ideal S1x128 .f32) (hsc : ∀ k : Fin 128, sc (ix2 0 k) = Sf m c ⟨off + k.val, by omega⟩)
    (n : ℕ) (hn : n < 528) (k : Fin 128) :
    dyb off (k0_pay11 (grid0.coords t) (iblk m c 8 t) (iblk m c 9 t)) sc n k = Yf m c (512 * t.val + n) (off + k.val) := by
  unfold dyb Yf
  rw [p11_rd m c t _ _ hn (by omega), hsc, dif_pos (by omega)]

theorem ddk_eq (g : Fin 4) (off : ℕ) (hoff : off + 128 ≤ 512) (sc : Vec Ideal S1x128 .f32) (hsc : ∀ k : Fin 128, sc (ix2 0 k) = Sf m c ⟨off + k.val, by omega⟩)
    (w : Vec Ideal S1x128x128 .bf16) (hw : ∀ k l : Fin 128, w (ix3 0 k l) = Mf m c g k l) (n : ℕ) (hn : n < 528) (k : Fin 128) :
    ddk off (k0_pay11 (grid0.coords t) (iblk m c 8 t) (iblk m c 9 t)) sc w n k = Ef m c g off (512 * t.val + n) k := by
  unfold ddk Ef
  refine Finset.sum_congr rfl fun l _ => ?_
  rw [dyb_eq m c t off hoff sc hsc n hn, hw]

theorem zd_eq (g : Fin 4) (wd off : ℕ) (hwd : wd ≤ 16) (hoff : off + 128 ≤ 512) (sc : Vec Ideal S1x128 .f32) (hsc : ∀ k : Fin 128, sc (ix2 0 k) = Sf m c ⟨off + k.val, by omega⟩)
    (w : Vec Ideal S1x128x128 .bf16) (hw : ∀ k l : Fin 128, w (ix3 0 k l) = Mf m c g k l) (r : Fin 512) (k : Fin 128) :
    zd wd (fun n => ddk off (k0_pay11 (grid0.coords t) (iblk m c 8 t) (iblk m c 9 t)) sc w n k) t r.val
      = win (fun s => Ef m c g off s k) wd (512 * t.val + r.val) := by
  unfold zd win
  simp only
  rw [ddk_eq m c t g off hoff sc hsc w hw _ (by omega)]
  congr 1
  refine Finset.sum_congr rfl fun j hj => ?_
  have := Finset.mem_range.1 hj
  rw [ddk_eq m c t g off hoff sc hsc w hw _ (by omega)]
  simp only [Nat.add_assoc]

/-- The convolved product `d` rows before row `s`. -/
def Uf (s d k : ℕ) : EReal := if d ≤ s then rd (Zf m c) (s - d) (1024 + k) * rd (Zf m c) (s - d) (1536 + k) else 0
/-- The gated cotangent. -/
def Vf (s k : ℕ) : EReal := rd (Cf m c) s k * rd (Zf m c) s (512 + k)

theorem ucf_eq (r d : ℕ) (hr : r < 512) (hd : d ≤ 8) (k : Fin 512) :
    ucf (X0_5 m c t) (X0_7 m c t) (X0_4 m c t) (X0_6 m c t) t (r + (8 - d)) k = Uf m c (512 * t.val + r) d k.val := by
  have ht := tlt t
  unfold ucf Uf
  by_cases h : r + (8 - d) < 8
  · rw [dif_pos h, x5, x7]
    by_cases h0 : t.val = 0
    · rw [if_pos h0, if_neg (by omega), mul_zero]
    · rw [if_neg h0, if_pos (by omega), mul_one]
      have e : (64 * t.val - 1) * 8 + (r + (8 - d)) = 512 * t.val + r - d := by omega
      simp only [e]
  · rw [dif_neg h, dif_pos (by omega), x4, x6, if_pos (by omega)]
    have e : 512 * t.val + (r + (8 - d) - 8) = 512 * t.val + r - d := by omega
    simp only [e]

theorem dvf_eq (r d : ℕ) (hr : r < 512) (hd : d ≤ 8) (k : Fin 512) :
    dvf (iblk m c 10 t) (X0_2 m c t) (iblk m c 11 t) (X0_3 m c t) t (r + d) k = Vf m c (512 * t.val + r + d) k.val := by
  have ht := tlt t
  unfold dvf Vf
  by_cases h : r + d < 512
  · rw [dif_pos h, x10, x2, ← Nat.add_assoc]
  · rw [dif_neg h, dif_pos (by omega), x11, x3]
    by_cases h0 : t.val < 7
    · rw [if_pos h0, mul_one]
      have e : min ((t.val + 1) * 64) 511 * 8 + (r + d - 512) = 512 * t.val + r + d := by omega
      simp only [e]
    · rw [if_neg h0, mul_zero, rd_ge _ (by omega), zero_mul]

end Cert.KernelIdeal.Pool
end
-- ==== Proof.PoolOut0.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.PoolArr

@[expose] public section

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen

variable (m : (ℓ : Loc nD τ sig) → Buf (Elt Ideal) ℓ)

open Idealize.ShloMosaic.Pointwise

/-! ## Loads and stores of rectangles, by row and column -/

section Rects
variable {Val : EltTy → Type} {e : EltTy} {A B a b p q : ℕ}

theorem ld2 (X : (⟨2, ![A, B]⟩ : Shape).Idx → Val e) (inb : ∀ d, ![a, b] d + ![p, q] d ≤ (⟨2, ![A, B]⟩ : Shape).size d)
    (r : Fin p) (k : Fin q) (i : Fin A) (j : Fin B) (hi : i.val = a + r.val) (hj : j.val = b + k.val) :
    View.ld X (Rect.unit (s := ⟨2, ![A, B]⟩) ![a, b] ![p, q] inb) (ix2 r k) = X (ix2 i j) := by
  refine congrArg X (funext fun d => Fin.ext ?_)
  match d with
  | ⟨0, _⟩ => exact (congrArg (a + ·) (Nat.one_mul r.val)).trans hi.symm
  | ⟨1, _⟩ => exact (congrArg (b + ·) (Nat.one_mul k.val)).trans hj.symm

theorem ld3 {C d' s' : ℕ} (X : (⟨3, ![A, B, C]⟩ : Shape).Idx → Val e) (inb : ∀ d, ![a, b, d'] d + ![p, q, s'] d ≤ (⟨3, ![A, B, C]⟩ : Shape).size d)
    (r : Fin p) (k : Fin q) (l : Fin s') (i : Fin A) (j : Fin B) (n : Fin C) (hi : i.val = a + r.val) (hj : j.val = b + k.val) (hn : n.val = d' + l.val) :
    View.ld X (Rect.unit (s := ⟨3, ![A, B, C]⟩) ![a, b, d'] ![p, q, s'] inb) (ix3 r k l) = X (ix3 i j n) := by
  refine congrArg X (funext fun d => Fin.ext ?_)
  match d with
  | ⟨0, _⟩ => exact (congrArg (a + ·) (Nat.one_mul r.val)).trans hi.symm
  | ⟨1, _⟩ => exact (congrArg (b + ·) (Nat.one_mul k.val)).trans hj.symm
  | ⟨2, _⟩ => exact (congrArg (d' + ·) (Nat.one_mul l.val)).trans hn.symm

theorem emb2 (inb : ∀ d, ![a, b] d + ![p, q] d ≤ (⟨2, ![A, B]⟩ : Shape).size d)
    (r : Fin p) (k : Fin q) (i : Fin A) (j : Fin B) (hi : i.val = a + r.val) (hj : j.val = b + k.val) :
    (Rect.unit (s := ⟨2, ![A, B]⟩) ![a, b] ![p, q] inb).emb (ix2 r k) = ix2 i j := by
  refine funext fun d => Fin.ext ?_
  match d with
  | ⟨0, _⟩ => exact (congrArg (a + ·) (Nat.one_mul r.val)).trans hi.symm
  | ⟨1, _⟩ => exact (congrArg (b + ·) (Nat.one_mul k.val)).trans hj.symm

theorem not_mem2 (inb : ∀ d, ![a, b] d + ![p, q] d ≤ (⟨2, ![A, B]⟩ : Shape).size d) (i : Fin A) (j : Fin B)
    (h : i.val < a ∨ a + p ≤ i.val ∨ j.val < b ∨ b + q ≤ j.val) :
    ix2 i j ∉ (Rect.unit (s := ⟨2, ![A, B]⟩) ![a, b] ![p, q] inb).set := by
  intro hm
  have hm := Rect.mem_set_unit.1 hm
  have h0 : a ≤ i.val ∧ i.val < a + p := hm ⟨0, Nat.zero_lt_two⟩
  have h1 : b ≤ j.val ∧ j.val < b + q := hm ⟨1, Nat.one_lt_two⟩
  omega

variable [∀ e, Nonempty (Val e)]

theorem canon_hit (inb : ∀ d, ![a, b] d + ![p, q] d ≤ (⟨2, ![A, B]⟩ : Shape).size d) (w : (⟨2, ![p, q]⟩ : Shape).Idx → Val e)
    (L : List (View.Piece Val (⟨2, ![A, B]⟩ : Shape) e)) (i : Fin A) (j : Fin B) (r : Fin p) (k : Fin q) (hi : i.val = a + r.val) (hj : j.val = b + k.val) :
    View.canon ((⟨Rect.unit (s := ⟨2, ![A, B]⟩) ![a, b] ![p, q] inb, w⟩ : View.Piece Val (⟨2, ![A, B]⟩ : Shape) e) :: L) (ix2 i j) = w (ix2 r k) := by
  rw [← emb2 inb r k i j hi hj]
  exact View.canon_cons_emb _ _ _ _

theorem canon_miss (inb : ∀ d, ![a, b] d + ![p, q] d ≤ (⟨2, ![A, B]⟩ : Shape).size d) (w : (⟨2, ![p, q]⟩ : Shape).Idx → Val e)
    (L : List (View.Piece Val (⟨2, ![A, B]⟩ : Shape) e)) (i : Fin A) (j : Fin B) (h : i.val < a ∨ a + p ≤ i.val ∨ j.val < b ∨ b + q ≤ j.val) :
    View.canon ((⟨Rect.unit (s := ⟨2, ![A, B]⟩) ![a, b] ![p, q] inb, w⟩ : View.Piece Val (⟨2, ![A, B]⟩ : Shape) e) :: L) (ix2 i j) = View.canon L (ix2 i j) :=
  View.canon_cons_of_not_mem _ _ (not_mem2 inb i j h)

theorem cov2 {sig : RefSig} {κ : Kind} {sp : Space} (v : View sig κ sp (⟨2, ![A, B]⟩ : Shape) e) (L : List (View.Piece Val (⟨2, ![A, B]⟩ : Shape) e))
    (inb : ∀ d, ![a, b] d + ![p, q] d ≤ (⟨2, ![A, B]⟩ : Shape).size d) (r : Fin p) (k : Fin q) (i : Fin A) (j : Fin B) (hi : i.val = a + r.val) (hj : j.val = b + k.val) :
    v.readCov L (Rect.unit (s := ⟨2, ![A, B]⟩) ![a, b] ![p, q] inb).toLoadRect (ix2 r k) = View.canon L (ix2 i j) := by
  rw [View.readCov_eq_canon']
  exact congrArg (View.canon L) (emb2 inb r k i j hi hj)

omit [∀ e, Nonempty (Val e)] in
theorem wr_hit {sig : RefSig} {κ : Kind} {sp : Space} (v : View sig κ sp (⟨2, ![A, B]⟩ : Shape) e) (f : v.ty.Contents Val)
    (inb : ∀ d, ![a, b] d + ![p, q] d ≤ (⟨2, ![A, B]⟩ : Shape).size d) (w : (⟨2, ![p, q]⟩ : Shape).Idx → Val e)
    (L : List (View.Piece Val (⟨2, ![A, B]⟩ : Shape) e)) (i : Fin A) (j : Fin B) (r : Fin p) (k : Fin q) (hi : i.val = a + r.val) (hj : j.val = b + k.val) :
    v.read Val (v.writes Val f ((⟨Rect.unit (s := ⟨2, ![A, B]⟩) ![a, b] ![p, q] inb, w⟩ : View.Piece Val (⟨2, ![A, B]⟩ : Shape) e) :: L)) (ix2 i j) = w (ix2 r k) := by
  rw [← emb2 inb r k i j hi hj]
  exact View.read_writes_cons_emb _ _ _ _ _ _

omit [∀ e, Nonempty (Val e)] in
theorem wr_miss {sig : RefSig} {κ : Kind} {sp : Space} (v : View sig κ sp (⟨2, ![A, B]⟩ : Shape) e) (f : v.ty.Contents Val)
    (inb : ∀ d, ![a, b] d + ![p, q] d ≤ (⟨2, ![A, B]⟩ : Shape).size d) (w : (⟨2, ![p, q]⟩ : Shape).Idx → Val e)
    (L : List (View.Piece Val (⟨2, ![A, B]⟩ : Shape) e)) (i : Fin A) (j : Fin B) (h : i.val < a ∨ a + p ≤ i.val ∨ j.val < b ∨ b + q ≤ j.val) :
    v.read Val (v.writes Val f ((⟨Rect.unit (s := ⟨2, ![A, B]⟩) ![a, b] ![p, q] inb, w⟩ : View.Piece Val (⟨2, ![A, B]⟩ : Shape) e) :: L)) (ix2 i j)
      = v.read Val (v.writes Val f L) (ix2 i j) := by
  have hy := not_mem2 inb i j h
  rw [View.writes_cons, View.read_slice_write_of_not_mem _ _ _ _ (by rwa [Rect.map_emb_univ])]

end Rects

variable (c : Dev nD) (t : Fin cfg0.N)

/-! ## What one grid point leaves in each result's block -/

theorem sc0 (k : Fin 128) : View.ld (iblk m c 13 t) (Rect.unit ![0, 0] ![1, 128] inb_S1x512_S1x128_0_0) (ix2 0 k) = Sf m c ⟨0 + k.val, by omega⟩ :=
  (ld2 _ _ _ _ 0 ⟨0 + k.val, by omega⟩ rfl rfl).trans (x13 m c t _)
theorem mx0 (k l : Fin 128) : View.ld (iblk m c 12 t) (Rect.unit ![0, 0, 0] ![1, 128, 128] inb_S4x128x128_S1x128x128_0_0_0) (ix3 0 k l) = Mf m c 0 k l :=
  (ld3 _ _ _ _ _ 0 k l rfl (Nat.zero_add _).symm (Nat.zero_add _).symm).trans (x12 m c t _ _ _)
theorem dy0 (r : Fin 512) (k : Fin 128) : View.ld (iblk m c 8 t) (Rect.unit ![0, 0] ![512, 128] inb_S512x512_S512x128_0_0) (ix2 r k) = rd (Pf m c) (512 * t.val + r.val) (0 + k.val) :=
  (ld2 _ _ _ _ r ⟨0 + k.val, by omega⟩ (Nat.zero_add _).symm rfl).trans (x8 m c t _ _)
theorem sc1 (k : Fin 128) : View.ld (iblk m c 13 t) (Rect.unit ![0, 128] ![1, 128] inb_S1x512_S1x128_0_128) (ix2 0 k) = Sf m c ⟨128 + k.val, by omega⟩ :=
  (ld2 _ _ _ _ 0 ⟨128 + k.val, by omega⟩ rfl rfl).trans (x13 m c t _)
theorem mx1 (k l : Fin 128) : View.ld (iblk m c 12 t) (Rect.unit ![1, 0, 0] ![1, 128, 128] inb_S4x128x128_S1x128x128_1_0_0) (ix3 0 k l) = Mf m c 1 k l :=
  (ld3 _ _ _ _ _ 1 k l rfl (Nat.zero_add _).symm (Nat.zero_add _).symm).trans (x12 m c t _ _ _)
theorem dy1 (r : Fin 512) (k : Fin 128) : View.ld (iblk m c 8 t) (Rect.unit ![0, 128] ![512, 128] inb_S512x512_S512x128_0_128) (ix2 r k) = rd (Pf m c) (512 * t.val + r.val) (128 + k.val) :=
  (ld2 _ _ _ _ r ⟨128 + k.val, by omega⟩ (Nat.zero_add _).symm rfl).trans (x8 m c t _ _)
theorem sc2 (k : Fin 128) : View.ld (iblk m c 13 t) (Rect.unit ![0, 256] ![1, 128] inb_S1x512_S1x128_0_256) (ix2 0 k) = Sf m c ⟨256 + k.val, by omega⟩ :=
  (ld2 _ _ _ _ 0 ⟨256 + k.val, by omega⟩ rfl rfl).trans (x13 m c t _)
theorem mx2 (k l : Fin 128) : View.ld (iblk m c 12 t) (Rect.unit ![2, 0, 0] ![1, 128, 128] inb_S4x128x128_S1x128x128_2_0_0) (ix3 0 k l) = Mf m c 2 k l :=
  (ld3 _ _ _ _ _ 2 k l rfl (Nat.zero_add _).symm (Nat.zero_add _).symm).trans (x12 m c t _ _ _)
theorem dy2 (r : Fin 512) (k : Fin 128) : View.ld (iblk m c 8 t) (Rect.unit ![0, 256] ![512, 128] inb_S512x512_S512x128_0_256) (ix2 r k) = rd (Pf m c) (512 * t.val + r.val) (256 + k.val) :=
  (ld2 _ _ _ _ r ⟨256 + k.val, by omega⟩ (Nat.zero_add _).symm rfl).trans (x8 m c t _ _)
theorem sc3 (k : Fin 128) : View.ld (iblk m c 13 t) (Rect.unit ![0, 384] ![1, 128] inb_S1x512_S1x128_0_384) (ix2 0 k) = Sf m c ⟨384 + k.val, by omega⟩ :=
  (ld2 _ _ _ _ 0 ⟨384 + k.val, by omega⟩ rfl rfl).trans (x13 m c t _)
theorem mx3 (k l : Fin 128) : View.ld (iblk m c 12 t) (Rect.unit ![3, 0, 0] ![1, 128, 128] inb_S4x128x128_S1x128x128_3_0_0) (ix3 0 k l) = Mf m c 3 k l :=
  (ld3 _ _ _ _ _ 3 k l rfl (Nat.zero_add _).symm (Nat.zero_add _).symm).trans (x12 m c t _ _ _)
theorem dy3 (r : Fin 512) (k : Fin 128) : View.ld (iblk m c 8 t) (Rect.unit ![0, 384] ![512, 128] inb_S512x512_S512x128_0_384) (ix2 r k) = rd (Pf m c) (512 * t.val + r.val) (384 + k.val) :=
  (ld2 _ _ _ _ r ⟨384 + k.val, by omega⟩ (Nat.zero_add _).symm rfl).trans (x8 m c t _ _)
theorem cw0 (k : Fin 512) : View.ld (iblk m c 14 t) (Rect.unit ![0, 0] ![1, 512] inb_S8x512_S1x512_0_0) (ix2 0 k) = Wf m c 0 k :=
  (ld2 _ _ _ _ 0 k rfl (Nat.zero_add _).symm).trans (x14 m c t 0 k)
theorem cw1 (k : Fin 512) : View.ld (iblk m c 14 t) (Rect.unit ![1, 0] ![1, 512] inb_S8x512_S1x512_1_0) (ix2 0 k) = Wf m c 1 k :=
  (ld2 _ _ _ _ 1 k rfl (Nat.zero_add _).symm).trans (x14 m c t 1 k)
theorem cw2 (k : Fin 512) : View.ld (iblk m c 14 t) (Rect.unit ![2, 0] ![1, 512] inb_S8x512_S1x512_2_0) (ix2 0 k) = Wf m c 2 k :=
  (ld2 _ _ _ _ 2 k rfl (Nat.zero_add _).symm).trans (x14 m c t 2 k)

/-- The convolution of row `s`. -/
def Yc (s : ℕ) (k : Fin 512) : EReal := Wf m c 2 k * Uf m c s 0 k.val + Wf m c 0 k * Uf m c s 2 k.val + Wf m c 1 k * Uf m c s 1 k.val
/-- The cotangent of the product that the convolution of row `s` reads. -/
def Dc (s : ℕ) (k : Fin 512) : EReal := Wf m c 2 k * Vf m c s k.val + Wf m c 1 k * Vf m c (s + 1) k.val + Wf m c 0 k * Vf m c (s + 2) k.val

/-- Columns 0 to 2047 of the gradient of `z`, row `s`. -/
def Gf (s k : ℕ) : EReal :=
  if h : k < 128 then win (fun s => Ef m c 0 0 s ⟨k, h⟩) 2 s
  else if h : k < 256 then win (fun s => Ef m c 1 128 s ⟨k - 128, by omega⟩) 4 s
  else if h : k < 384 then win (fun s => Ef m c 2 256 s ⟨k - 256, by omega⟩) 8 s
  else if h : k < 512 then win (fun s => Ef m c 3 384 s ⟨k - 384, by omega⟩) 16 s
  else if h : k < 1024 then rd (Cf m c) s (k - 512) * Yc m c s ⟨k - 512, by omega⟩
  else if h : k < 1536 then Dc m c s ⟨k - 1024, by omega⟩ * rd (Zf m c) s (1536 + (k - 1024))
  else if h : k < 2048 then Dc m c s ⟨k - 1536, by omega⟩ * rd (Zf m c) s (1024 + (k - 1536))
  else 0

theorem yc_at (w0 w1 w2 : Vec Ideal S1x512 .f32) (h0 : ∀ k, w0 (ix2 0 k) = Wf m c 0 k) (h1 : ∀ k, w1 (ix2 0 k) = Wf m c 1 k) (h2 : ∀ k, w2 (ix2 0 k) = Wf m c 2 k)
    (r : Fin 512) (k : Fin 512) :
    k0_pay50 (F := Ideal) (k0_pay3 (grid0.coords t)) (k0_pay43 w0) (k0_pay44 w1) (k0_pay45 w2) (X0_5 m c t) (X0_7 m c t) (X0_4 m c t) (X0_6 m c t) (iblk m c 10 t) (ix2 r k)
      = rd (Cf m c) (512 * t.val + r.val) k.val * Yc m c (512 * t.val + r.val) k := by
  refine (pay50_at t w0 w1 w2 (X0_5 m c t) (X0_7 m c t) (X0_4 m c t) (X0_6 m c t) (iblk m c 10 t) r k).trans ?_
  rw [x10, h0, h1, h2, ucf_eq m c t r.val 0 r.isLt (by omega), ucf_eq m c t r.val 2 r.isLt (by omega), ucf_eq m c t r.val 1 r.isLt (by omega)]
  rfl

theorem dc_at (w0 w1 w2 : Vec Ideal S1x512 .f32) (h0 : ∀ k, w0 (ix2 0 k) = Wf m c 0 k) (h1 : ∀ k, w1 (ix2 0 k) = Wf m c 1 k) (h2 : ∀ k, w2 (ix2 0 k) = Wf m c 2 k)
    (r : Fin 512) (k : Fin 512) :
    k0_pay54 (F := Ideal) (k0_pay43 w0) (k0_pay44 w1) (k0_pay51 (k0_pay4 (grid0.coords t)) (iblk m c 10 t) (X0_2 m c t) (iblk m c 11 t) (X0_3 m c t))
        (k0_pay52 (k0_pay4 (grid0.coords t)) (k0_pay45 w2) (iblk m c 10 t) (X0_2 m c t) (iblk m c 11 t) (X0_3 m c t))
        (k0_pay53 (k0_pay4 (grid0.coords t)) (iblk m c 10 t) (X0_2 m c t) (iblk m c 11 t) (X0_3 m c t)) (ix2 r k)
      = Dc m c (512 * t.val + r.val) k := by
  refine (pay54_at t w0 w1 w2 (iblk m c 10 t) (X0_2 m c t) (iblk m c 11 t) (X0_3 m c t) r k).trans ?_
  have e0 := dvf_eq m c t r.val 0 r.isLt (by omega) k
  rw [Nat.add_zero, Nat.add_zero] at e0
  rw [h0, h1, h2, e0, dvf_eq m c t r.val 1 r.isLt (by omega), dvf_eq m c t r.val 2 r.isLt (by omega)]
  rfl

theorem pay2_at (a X : FVec Ideal S512x512 .f32) (r k : Fin 512) : k0_pay2 (F := Ideal) a X (ix2 r k) = a (ix2 r k) * X (ix2 r k) := by
  pointwise [k0_pay2]

end Cert.KernelIdeal.Pool
end
-- ==== Proof.PoolOut.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.PoolOut0

@[expose] public section

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen

variable (m : (ℓ : Loc nD τ sig) → Buf (Elt Ideal) ℓ)

open Idealize.ShloMosaic.Pointwise

variable (c : Dev nD) (t : Fin cfg0.N)

/-- The 2048 columns of the gradient of `z` that a grid point leaves. -/
theorem o15 (r : Fin 512) (k : Fin 2048) : (outsAt0 m c t.val t.isLt).1 (ix2 r k) = Gf m c (512 * t.val + r.val) k.val := by
  by_cases h : t.val % 8 = 0
  · rw [outsAt0_A m c t h]
    frame_out
    by_cases h1536 : 1536 ≤ k.val
    · refine Eq.trans (canon_hit _ _ _ _ _ r (⟨k.val - 1536, by omega⟩ : Fin 512) (Nat.zero_add _).symm (by (try simp only); omega)) ?_
      unfold Gf
      rw [dif_neg (show ¬ k.val < 128 by omega), dif_neg (show ¬ k.val < 256 by omega), dif_neg (show ¬ k.val < 384 by omega), dif_neg (show ¬ k.val < 512 by omega), dif_neg (show ¬ k.val < 1024 by omega), dif_neg (show ¬ k.val < 1536 by omega), dif_pos (show k.val < 2048 by omega)]
      refine (pay2_at _ (X0_4 m c t) r _).trans ?_
      exact congrArg₂ (· * ·) (dc_at m c t _ _ _ (cw0 m c t) (cw1 m c t) (cw2 m c t) r _) (x4 m c t r _)
    by_cases h1024 : 1024 ≤ k.val
    · refine Eq.trans (canon_miss _ _ _ _ _ (by (try simp only); omega)) ?_
      refine Eq.trans (canon_hit _ _ _ _ _ r (⟨k.val - 1024, by omega⟩ : Fin 512) (Nat.zero_add _).symm (by (try simp only); omega)) ?_
      unfold Gf
      rw [dif_neg (show ¬ k.val < 128 by omega), dif_neg (show ¬ k.val < 256 by omega), dif_neg (show ¬ k.val < 384 by omega), dif_neg (show ¬ k.val < 512 by omega), dif_neg (show ¬ k.val < 1024 by omega), dif_pos (show k.val < 1536 by omega)]
      refine (pay2_at _ (X0_6 m c t) r _).trans ?_
      exact congrArg₂ (· * ·) (dc_at m c t _ _ _ (cw0 m c t) (cw1 m c t) (cw2 m c t) r _) (x6 m c t r _)
    by_cases h512 : 512 ≤ k.val
    · refine Eq.trans (canon_miss _ _ _ _ _ (by (try simp only); omega)) ?_
      refine Eq.trans (canon_miss _ _ _ _ _ (by (try simp only); omega)) ?_
      refine Eq.trans (canon_hit _ _ _ _ _ r (⟨k.val - 512, by omega⟩ : Fin 512) (Nat.zero_add _).symm (by (try simp only); omega)) ?_
      unfold Gf
      rw [dif_neg (show ¬ k.val < 128 by omega), dif_neg (show ¬ k.val < 256 by omega), dif_neg (show ¬ k.val < 384 by omega), dif_neg (show ¬ k.val < 512 by omega), dif_pos (show k.val < 1024 by omega)]
      exact yc_at m c t _ _ _ (cw0 m c t) (cw1 m c t) (cw2 m c t) r _
    by_cases h384 : 384 ≤ k.val
    · refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_hit _ _ _ _ _ r (⟨k.val - 384, by omega⟩ : Fin 128) (Nat.zero_add _).symm (by (try simp only); omega)) ?_
      unfold Gf
      rw [dif_neg (show ¬ k.val < 128 by omega), dif_neg (show ¬ k.val < 256 by omega), dif_neg (show ¬ k.val < 384 by omega), dif_pos (show k.val < 512 by omega)]
      refine (pay42_at t (k0_pay11 (grid0.coords t) (iblk m c 8 t) (iblk m c 9 t)) _ _ r _).trans ?_
      exact zd_eq m c t 3 16 384 (by decide) (by decide) _ (sc3 m c t) _ (mx3 m c t) r _
    by_cases h256 : 256 ≤ k.val
    · refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_hit _ _ _ _ _ r (⟨k.val - 256, by omega⟩ : Fin 128) (Nat.zero_add _).symm (by (try simp only); omega)) ?_
      unfold Gf
      rw [dif_neg (show ¬ k.val < 128 by omega), dif_neg (show ¬ k.val < 256 by omega), dif_pos (show k.val < 384 by omega)]
      refine (pay34_at t (k0_pay11 (grid0.coords t) (iblk m c 8 t) (iblk m c 9 t)) _ _ r _).trans ?_
      exact zd_eq m c t 2 8 256 (by decide) (by decide) _ (sc2 m c t) _ (mx2 m c t) r _
    by_cases h128 : 128 ≤ k.val
    · refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_hit _ _ _ _ _ r (⟨k.val - 128, by omega⟩ : Fin 128) (Nat.zero_add _).symm (by (try simp only); omega)) ?_
      unfold Gf
      rw [dif_neg (show ¬ k.val < 128 by omega), dif_pos (show k.val < 256 by omega)]
      refine (pay28_at t (k0_pay11 (grid0.coords t) (iblk m c 8 t) (iblk m c 9 t)) _ _ r _).trans ?_
      exact zd_eq m c t 1 4 128 (by decide) (by decide) _ (sc1 m c t) _ (mx1 m c t) r _
    refine Eq.trans (canon_miss _ _ _ _ _ (by (try simp only); omega)) ?_
    refine Eq.trans (canon_miss _ _ _ _ _ (by (try simp only); omega)) ?_
    refine Eq.trans (canon_miss _ _ _ _ _ (by (try simp only); omega)) ?_
    refine Eq.trans (canon_miss _ _ _ _ _ (by (try simp only); omega)) ?_
    refine Eq.trans (canon_miss _ _ _ _ _ (by (try simp only); omega)) ?_
    refine Eq.trans (canon_miss _ _ _ _ _ (by (try simp only); omega)) ?_
    refine Eq.trans (canon_hit _ _ _ _ _ r (⟨k.val - 0, by omega⟩ : Fin 128) (Nat.zero_add _).symm (by (try simp only); omega)) ?_
    unfold Gf
    rw [dif_pos (show k.val < 128 by omega)]
    refine (pay21_at t (k0_pay11 (grid0.coords t) (iblk m c 8 t) (iblk m c 9 t)) _ _ r _).trans ?_
    exact zd_eq m c t 0 2 0 (by decide) (by decide) _ (sc0 m c t) _ (mx0 m c t) r _
  · rw [outsAt0_B m c t h]
    frame_out
    by_cases h1536 : 1536 ≤ k.val
    · refine Eq.trans (canon_hit _ _ _ _ _ r (⟨k.val - 1536, by omega⟩ : Fin 512) (Nat.zero_add _).symm (by (try simp only); omega)) ?_
      unfold Gf
      rw [dif_neg (show ¬ k.val < 128 by omega), dif_neg (show ¬ k.val < 256 by omega), dif_neg (show ¬ k.val < 384 by omega), dif_neg (show ¬ k.val < 512 by omega), dif_neg (show ¬ k.val < 1024 by omega), dif_neg (show ¬ k.val < 1536 by omega), dif_pos (show k.val < 2048 by omega)]
      refine (pay2_at _ (X0_4 m c t) r _).trans ?_
      exact congrArg₂ (· * ·) (dc_at m c t _ _ _ (cw0 m c t) (cw1 m c t) (cw2 m c t) r _) (x4 m c t r _)
    by_cases h1024 : 1024 ≤ k.val
    · refine Eq.trans (canon_miss _ _ _ _ _ (by (try simp only); omega)) ?_
      refine Eq.trans (canon_hit _ _ _ _ _ r (⟨k.val - 1024, by omega⟩ : Fin 512) (Nat.zero_add _).symm (by (try simp only); omega)) ?_
      unfold Gf
      rw [dif_neg (show ¬ k.val < 128 by omega), dif_neg (show ¬ k.val < 256 by omega), dif_neg (show ¬ k.val < 384 by omega), dif_neg (show ¬ k.val < 512 by omega), dif_neg (show ¬ k.val < 1024 by omega), dif_pos (show k.val < 1536 by omega)]
      refine (pay2_at _ (X0_6 m c t) r _).trans ?_
      exact congrArg₂ (· * ·) (dc_at m c t _ _ _ (cw0 m c t) (cw1 m c t) (cw2 m c t) r _) (x6 m c t r _)
    by_cases h512 : 512 ≤ k.val
    · refine Eq.trans (canon_miss _ _ _ _ _ (by (try simp only); omega)) ?_
      refine Eq.trans (canon_miss _ _ _ _ _ (by (try simp only); omega)) ?_
      refine Eq.trans (canon_hit _ _ _ _ _ r (⟨k.val - 512, by omega⟩ : Fin 512) (Nat.zero_add _).symm (by (try simp only); omega)) ?_
      unfold Gf
      rw [dif_neg (show ¬ k.val < 128 by omega), dif_neg (show ¬ k.val < 256 by omega), dif_neg (show ¬ k.val < 384 by omega), dif_neg (show ¬ k.val < 512 by omega), dif_pos (show k.val < 1024 by omega)]
      exact yc_at m c t _ _ _ (cw0 m c t) (cw1 m c t) (cw2 m c t) r _
    by_cases h384 : 384 ≤ k.val
    · refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_hit _ _ _ _ _ r (⟨k.val - 384, by omega⟩ : Fin 128) (Nat.zero_add _).symm (by (try simp only); omega)) ?_
      unfold Gf
      rw [dif_neg (show ¬ k.val < 128 by omega), dif_neg (show ¬ k.val < 256 by omega), dif_neg (show ¬ k.val < 384 by omega), dif_pos (show k.val < 512 by omega)]
      refine (pay42_at t (k0_pay11 (grid0.coords t) (iblk m c 8 t) (iblk m c 9 t)) _ _ r _).trans ?_
      exact zd_eq m c t 3 16 384 (by decide) (by decide) _ (sc3 m c t) _ (mx3 m c t) r _
    by_cases h256 : 256 ≤ k.val
    · refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_hit _ _ _ _ _ r (⟨k.val - 256, by omega⟩ : Fin 128) (Nat.zero_add _).symm (by (try simp only); omega)) ?_
      unfold Gf
      rw [dif_neg (show ¬ k.val < 128 by omega), dif_neg (show ¬ k.val < 256 by omega), dif_pos (show k.val < 384 by omega)]
      refine (pay34_at t (k0_pay11 (grid0.coords t) (iblk m c 8 t) (iblk m c 9 t)) _ _ r _).trans ?_
      exact zd_eq m c t 2 8 256 (by decide) (by decide) _ (sc2 m c t) _ (mx2 m c t) r _
    by_cases h128 : 128 ≤ k.val
    · refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_miss _ _ _ _ _ (by (try simp only); omega)) ?_
      refine Eq.trans (canon_hit _ _ _ _ _ r (⟨k.val - 128, by omega⟩ : Fin 128) (Nat.zero_add _).symm (by (try simp only); omega)) ?_
      unfold Gf
      rw [dif_neg (show ¬ k.val < 128 by omega), dif_pos (show k.val < 256 by omega)]
      refine (pay28_at t (k0_pay11 (grid0.coords t) (iblk m c 8 t) (iblk m c 9 t)) _ _ r _).trans ?_
      exact zd_eq m c t 1 4 128 (by decide) (by decide) _ (sc1 m c t) _ (mx1 m c t) r _
    refine Eq.trans (canon_miss _ _ _ _ _ (by (try simp only); omega)) ?_
    refine Eq.trans (canon_miss _ _ _ _ _ (by (try simp only); omega)) ?_
    refine Eq.trans (canon_miss _ _ _ _ _ (by (try simp only); omega)) ?_
    refine Eq.trans (canon_miss _ _ _ _ _ (by (try simp only); omega)) ?_
    refine Eq.trans (canon_miss _ _ _ _ _ (by (try simp only); omega)) ?_
    refine Eq.trans (canon_miss _ _ _ _ _ (by (try simp only); omega)) ?_
    refine Eq.trans (canon_hit _ _ _ _ _ r (⟨k.val - 0, by omega⟩ : Fin 128) (Nat.zero_add _).symm (by (try simp only); omega)) ?_
    unfold Gf
    rw [dif_pos (show k.val < 128 by omega)]
    refine (pay21_at t (k0_pay11 (grid0.coords t) (iblk m c 8 t) (iblk m c 9 t)) _ _ r _).trans ?_
    exact zd_eq m c t 0 2 0 (by decide) (by decide) _ (sc0 m c t) _ (mx0 m c t) r _

/-- The pooled difference of column `q`, row `s`. -/
def Dq (s q : ℕ) : EReal :=
  if q < 128 then Df m c 2 0 s q else if q < 256 then Df m c 4 128 s (q - 128) else if q < 384 then Df m c 8 256 s (q - 256) else Df m c 16 384 s (q - 384)
/-- The mixed difference of column `q`, row `s`. -/
def Tq (s q : ℕ) : EReal :=
  if h : q < 128 then ∑ k : Fin 128, Df m c 2 0 s k.val * Mf m c 0 k ⟨q, h⟩
  else if h : q < 256 then ∑ k : Fin 128, Df m c 4 128 s k.val * Mf m c 1 k ⟨q - 128, by omega⟩
  else if h : q < 384 then ∑ k : Fin 128, Df m c 8 256 s k.val * Mf m c 2 k ⟨q - 256, by omega⟩
  else if h : q < 512 then ∑ k : Fin 128, Df m c 16 384 s k.val * Mf m c 3 k ⟨q - 384, by omega⟩ else 0

/-- What grid point `t` adds to row `q` of the gradient of the mix. -/
def am (q : Fin 512) (k : Fin 128) : EReal := ∑ r : Fin 512, Dq m c (512 * t.val + r.val) q.val * Yf m c (512 * t.val + r.val) (q.val / 128 * 128 + k.val)
def asc (q : Fin 512) : EReal := ∑ r : Fin 512, rd (Pf m c) (512 * t.val + r.val) q.val * Tq m c (512 * t.val + r.val) q.val

theorem am0 (acc : FVec Ideal S128x128 .f32) (p k : Fin 128) :
    k0_pay17 (F := Ideal) (k0_pay11 (grid0.coords t) (iblk m c 8 t) (iblk m c 9 t)) (k0_pay12 (grid0.coords t) (X0_1 m c t) (X0_0 m c t)) (k0_pay13 (grid0.coords t) (X0_1 m c t) (X0_0 m c t)) (View.ld (iblk m c 13 t) (Rect.unit ![0, 0] ![1, 128] inb_S1x512_S1x128_0_0)) acc (ix2 p k)
      = acc (ix2 p k) + am m c t ⟨0 + p.val, by omega⟩ k := by
  refine (pay17_at t (X0_1 m c t) (X0_0 m c t) (k0_pay11 (grid0.coords t) (iblk m c 8 t) (iblk m c 9 t)) _ acc p k).trans ?_
  unfold am
  congr 1
  refine Finset.sum_congr rfl fun r _ => ?_
  rw [pd_eq m c t 2 0 (by decide) (by decide), dyb_eq m c t 0 (by decide) _ (sc0 m c t) r.val (by omega)]
  unfold Dq
  simp only
  rw [if_pos (show 0 + p.val < 128 by omega)]
  congr 2
  · omega
  · omega
theorem as0 (acc : FVec Ideal S1x128 .f32) (k : Fin 128) :
    k0_pay15 (F := Ideal) (k0_pay12 (grid0.coords t) (X0_1 m c t) (X0_0 m c t)) (k0_pay13 (grid0.coords t) (X0_1 m c t) (X0_0 m c t)) (View.ld (iblk m c 12 t) (Rect.unit ![0, 0, 0] ![1, 128, 128] inb_S4x128x128_S1x128x128_0_0_0)) acc (View.ld (iblk m c 8 t) (Rect.unit ![0, 0] ![512, 128] inb_S512x512_S512x128_0_0)) (ix2 0 k)
      = acc (ix2 0 k) + asc m c t ⟨0 + k.val, by omega⟩ := by
  refine (pay15_at t (X0_1 m c t) (X0_0 m c t) _ acc _ k).trans ?_
  unfold asc
  congr 1
  refine Finset.sum_congr rfl fun r _ => ?_
  rw [dy0 m c t r k]
  congr 1
  unfold Tq
  simp only
  rw [dif_pos (show 0 + k.val < 128 by omega)]
  refine Finset.sum_congr rfl fun l _ => ?_
  rw [pd_eq m c t 2 0 (by decide) (by decide)]
  congr 1
  refine (mx0 m c t l k).trans ?_
  congr 1
  exact Fin.ext (by (try simp only); omega)
theorem am1 (acc : FVec Ideal S128x128 .f32) (p k : Fin 128) :
    k0_pay26 (F := Ideal) (k0_pay11 (grid0.coords t) (iblk m c 8 t) (iblk m c 9 t)) (k0_pay22 (k0_pay8 (grid0.coords t)) (k0_pay10 (grid0.coords t) (X0_1 m c t) (X0_0 m c t))) (View.ld (iblk m c 13 t) (Rect.unit ![0, 128] ![1, 128] inb_S1x512_S1x128_0_128)) acc (ix2 p k)
      = acc (ix2 p k) + am m c t ⟨128 + p.val, by omega⟩ k := by
  refine (pay26_at t (k0_pay10 (grid0.coords t) (X0_1 m c t) (X0_0 m c t)) (k0_pay11 (grid0.coords t) (iblk m c 8 t) (iblk m c 9 t)) _ acc p k).trans ?_
  unfold am
  congr 1
  refine Finset.sum_congr rfl fun r _ => ?_
  rw [pd_eq m c t 4 128 (by decide) (by decide), dyb_eq m c t 128 (by decide) _ (sc1 m c t) r.val (by omega)]
  unfold Dq
  simp only
  rw [if_neg (show ¬ (128 + p.val < 128) by omega), if_pos (show 128 + p.val < 256 by omega)]
  congr 2
  · omega
  · omega
theorem as1 (acc : FVec Ideal S1x128 .f32) (k : Fin 128) :
    k0_pay24 (F := Ideal) acc (k0_pay23 (k0_pay8 (grid0.coords t)) (k0_pay10 (grid0.coords t) (X0_1 m c t) (X0_0 m c t)) (View.ld (iblk m c 12 t) (Rect.unit ![1, 0, 0] ![1, 128, 128] inb_S4x128x128_S1x128x128_1_0_0)) (View.ld (iblk m c 8 t) (Rect.unit ![0, 128] ![512, 128] inb_S512x512_S512x128_0_128))) (ix2 0 k)
      = acc (ix2 0 k) + asc m c t ⟨128 + k.val, by omega⟩ := by
  refine (pay24_at t (k0_pay10 (grid0.coords t) (X0_1 m c t) (X0_0 m c t)) _ acc _ k).trans ?_
  unfold asc
  congr 1
  refine Finset.sum_congr rfl fun r _ => ?_
  rw [dy1 m c t r k]
  congr 1
  unfold Tq
  simp only
  rw [dif_neg (show ¬ (128 + k.val < 128) by omega), dif_pos (show 128 + k.val < 256 by omega)]
  refine Finset.sum_congr rfl fun l _ => ?_
  rw [pd_eq m c t 4 128 (by decide) (by decide)]
  congr 1
  refine (mx1 m c t l k).trans ?_
  congr 1
  exact Fin.ext (by (try simp only); omega)
theorem am2 (acc : FVec Ideal S128x128 .f32) (p k : Fin 128) :
    k0_pay33 (F := Ideal) (k0_pay29 (k0_pay8 (grid0.coords t)) (k0_pay10 (grid0.coords t) (X0_1 m c t) (X0_0 m c t))) (k0_pay31 (k0_pay11 (grid0.coords t) (iblk m c 8 t) (iblk m c 9 t)) (View.ld (iblk m c 13 t) (Rect.unit ![0, 256] ![1, 128] inb_S1x512_S1x128_0_256))) acc (ix2 p k)
      = acc (ix2 p k) + am m c t ⟨256 + p.val, by omega⟩ k := by
  refine (pay33_at t (k0_pay10 (grid0.coords t) (X0_1 m c t) (X0_0 m c t)) (k0_pay11 (grid0.coords t) (iblk m c 8 t) (iblk m c 9 t)) _ acc p k).trans ?_
  unfold am
  congr 1
  refine Finset.sum_congr rfl fun r _ => ?_
  rw [pd_eq m c t 8 256 (by decide) (by decide), dyb_eq m c t 256 (by decide) _ (sc2 m c t) r.val (by omega)]
  unfold Dq
  simp only
  rw [if_neg (show ¬ (256 + p.val < 128) by omega), if_neg (show ¬ (256 + p.val < 256) by omega), if_pos (show 256 + p.val < 384 by omega)]
  congr 2
  · omega
  · omega
theorem as2 (acc : FVec Ideal S1x128 .f32) (k : Fin 128) :
    k0_pay30 (F := Ideal) (k0_pay8 (grid0.coords t)) (k0_pay10 (grid0.coords t) (X0_1 m c t) (X0_0 m c t)) (View.ld (iblk m c 12 t) (Rect.unit ![2, 0, 0] ![1, 128, 128] inb_S4x128x128_S1x128x128_2_0_0)) acc (View.ld (iblk m c 8 t) (Rect.unit ![0, 256] ![512, 128] inb_S512x512_S512x128_0_256)) (ix2 0 k)
      = acc (ix2 0 k) + asc m c t ⟨256 + k.val, by omega⟩ := by
  refine (pay30_at t (k0_pay10 (grid0.coords t) (X0_1 m c t) (X0_0 m c t)) _ acc _ k).trans ?_
  unfold asc
  congr 1
  refine Finset.sum_congr rfl fun r _ => ?_
  rw [dy2 m c t r k]
  congr 1
  unfold Tq
  simp only
  rw [dif_neg (show ¬ (256 + k.val < 128) by omega), dif_neg (show ¬ (256 + k.val < 256) by omega), dif_pos (show 256 + k.val < 384 by omega)]
  refine Finset.sum_congr rfl fun l _ => ?_
  rw [pd_eq m c t 8 256 (by decide) (by decide)]
  congr 1
  refine (mx2 m c t l k).trans ?_
  congr 1
  exact Fin.ext (by (try simp only); omega)
theorem am3 (acc : FVec Ideal S128x128 .f32) (p k : Fin 128) :
    k0_pay41 (F := Ideal) (k0_pay40 (k0_pay8 (grid0.coords t)) (k0_pay11 (grid0.coords t) (iblk m c 8 t) (iblk m c 9 t)) (k0_pay35 (k0_pay10 (grid0.coords t) (X0_1 m c t) (X0_0 m c t))) (k0_pay36 (k0_pay10 (grid0.coords t) (X0_1 m c t) (X0_0 m c t))) 4#32 (View.ld (iblk m c 13 t) (Rect.unit ![0, 384] ![1, 128] inb_S1x512_S1x128_0_384)) acc) (ix2 p k)
      = acc (ix2 p k) + am m c t ⟨384 + p.val, by omega⟩ k := by
  refine (pay41_at t (k0_pay10 (grid0.coords t) (X0_1 m c t) (X0_0 m c t)) (k0_pay11 (grid0.coords t) (iblk m c 8 t) (iblk m c 9 t)) _ acc p k).trans ?_
  unfold am
  congr 1
  refine Finset.sum_congr rfl fun r _ => ?_
  rw [pd_eq m c t 16 384 (by decide) (by decide), dyb_eq m c t 384 (by decide) _ (sc3 m c t) r.val (by omega)]
  unfold Dq
  simp only
  rw [if_neg (show ¬ (384 + p.val < 128) by omega), if_neg (show ¬ (384 + p.val < 256) by omega), if_neg (show ¬ (384 + p.val < 384) by omega)]
  congr 2
  · omega
  · omega
theorem as3 (acc : FVec Ideal S1x128 .f32) (k : Fin 128) :
    k0_pay38 (F := Ideal) (k0_pay8 (grid0.coords t)) (k0_pay35 (k0_pay10 (grid0.coords t) (X0_1 m c t) (X0_0 m c t))) (k0_pay36 (k0_pay10 (grid0.coords t) (X0_1 m c t) (X0_0 m c t))) 4#32 (View.ld (iblk m c 12 t) (Rect.unit ![3, 0, 0] ![1, 128, 128] inb_S4x128x128_S1x128x128_3_0_0)) acc (View.ld (iblk m c 8 t) (Rect.unit ![0, 384] ![512, 128] inb_S512x512_S512x128_0_384)) (ix2 0 k)
      = acc (ix2 0 k) + asc m c t ⟨384 + k.val, by omega⟩ := by
  refine (pay38_at t (k0_pay10 (grid0.coords t) (X0_1 m c t) (X0_0 m c t)) _ acc _ k).trans ?_
  unfold asc
  congr 1
  refine Finset.sum_congr rfl fun r _ => ?_
  rw [dy3 m c t r k]
  congr 1
  unfold Tq
  simp only
  rw [dif_neg (show ¬ (384 + k.val < 128) by omega), dif_neg (show ¬ (384 + k.val < 256) by omega), dif_neg (show ¬ (384 + k.val < 384) by omega), dif_pos (show 384 + k.val < 512 by omega)]
  refine Finset.sum_congr rfl fun l _ => ?_
  rw [pd_eq m c t 16 384 (by decide) (by decide)]
  congr 1
  refine (mx3 m c t l k).trans ?_
  congr 1
  exact Fin.ext (by (try simp only); omega)

theorem pay5_at (q : Fin 512) (k : Fin 128) : k0_pay5 (F := Ideal) (ix2 q k) = 0 := by pointwise [k0_pay5]
theorem pay6_at (r : Fin 1) (q : Fin 512) : k0_pay6 (F := Ideal) (ix2 r q) = 0 := by pointwise [k0_pay6]
theorem pay7_at (r : Fin 8) (q : Fin 512) : k0_pay7 (F := Ideal) (ix2 r q) = 0 := by pointwise [k0_pay7]

/-- At the first grid point the gradient of the mix is what the point adds. -/
theorem o16A (h : t.val % 8 = 0) (q : Fin 512) (k : Fin 128) : (outsAt0 m c t.val t.isLt).2.1 (ix2 q k) = 0 + am m c t q k := by
  rw [outsAt0_A m c t h]
  frame_out
  by_cases h384 : 384 ≤ q.val
  · refine Eq.trans (canon_hit _ _ _ _ _ (⟨q.val - 384, by omega⟩ : Fin 128) k (by (try simp only); omega) (Nat.zero_add _).symm) ?_
    refine (am3 m c t _ _ k).trans ?_
    have e : (⟨384 + (q.val - 384), by omega⟩ : Fin 512) = q := Fin.ext (by (try simp only); omega)
    refine congrArg₂ (· + ·) ?_ (congrArg (fun x => am m c t x k) e)
    refine Eq.trans (cov2 _ _ _ _ _ q k (by (try simp only); omega) (Nat.zero_add _).symm) ?_
    refine Eq.trans (canon_miss _ _ _ _ _ (by (try simp only); omega)) ?_
    refine Eq.trans (canon_miss _ _ _ _ _ (by (try simp only); omega)) ?_
    refine Eq.trans (canon_miss _ _ _ _ _ (by (try simp only); omega)) ?_
    exact Eq.trans (canon_hit _ _ _ _ _ q k (Nat.zero_add _).symm (Nat.zero_add _).symm) (pay5_at q k)
  by_cases h256 : 256 ≤ q.val
  · refine Eq.trans (canon_miss _ _ _ _ _ (by (try simp only); omega)) ?_
    refine Eq.trans (canon_hit _ _ _ _ _ (⟨q.val - 256, by omega⟩ : Fin 128) k (by (try simp only); omega) (Nat.zero_add _).symm) ?_
    refine (am2 m c t _ _ k).trans ?_
    have e : (⟨256 + (q.val - 256), by omega⟩ : Fin 512) = q := Fin.ext (by (try simp only); omega)
    refine congrArg₂ (· + ·) ?_ (congrArg (fun x => am m c t x k) e)
    refine Eq.trans (cov2 _ _ _ _ _ q k (by (try simp only); omega) (Nat.zero_add _).symm) ?_
    refine Eq.trans (canon_miss _ _ _ _ _ (by (try simp only); omega)) ?_
    refine Eq.trans (canon_miss _ _ _ _ _ (by (try simp only); omega)) ?_
    exact Eq.trans (canon_hit _ _ _ _ _ q k (Nat.zero_add _).symm (Nat.zero_add _).symm) (pay5_at q k)
  by_cases h128 : 128 ≤ q.val
  · refine Eq.trans (canon_miss _ _ _ _ _ (by (try simp only); omega)) ?_
    refine Eq.trans (canon_miss _ _ _ _ _ (by (try simp only); omega)) ?_
    refine Eq.trans (canon_hit _ _ _ _ _ (⟨q.val - 128, by omega⟩ : Fin 128) k (by (try simp only); omega) (Nat.zero_add _).symm) ?_
    refine (am1 m c t _ _ k).trans ?_
    have e : (⟨128 + (q.val - 128), by omega⟩ : Fin 512) = q := Fin.ext (by (try simp only); omega)
    refine congrArg₂ (· + ·) ?_ (congrArg (fun x => am m c t x k) e)
    refine Eq.trans (cov2 _ _ _ _ _ q k (by (try simp only); omega) (Nat.zero_add _).symm) ?_
    refine Eq.trans (canon_miss _ _ _ _ _ (by (try simp only); omega)) ?_
    exact Eq.trans (canon_hit _ _ _ _ _ q k (Nat.zero_add _).symm (Nat.zero_add _).symm) (pay5_at q k)
  refine Eq.trans (canon_miss _ _ _ _ _ (by (try simp only); omega)) ?_
  refine Eq.trans (canon_miss _ _ _ _ _ (by (try simp only); omega)) ?_
  refine Eq.trans (canon_miss _ _ _ _ _ (by (try simp only); omega)) ?_
  refine Eq.trans (canon_hit _ _ _ _ _ (⟨q.val - 0, by omega⟩ : Fin 128) k (by (try simp only); omega) (Nat.zero_add _).symm) ?_
  refine (am0 m c t _ _ k).trans ?_
  have e : (⟨0 + (q.val - 0), by omega⟩ : Fin 512) = q := Fin.ext (by (try simp only); omega)
  refine congrArg₂ (· + ·) ?_ (congrArg (fun x => am m c t x k) e)
  refine Eq.trans (cov2 _ _ _ _ _ q k (by (try simp only); omega) (Nat.zero_add _).symm) ?_
  exact Eq.trans (canon_hit _ _ _ _ _ q k (Nat.zero_add _).symm (Nat.zero_add _).symm) (pay5_at q k)
theorem o16B (h : ¬ t.val % 8 = 0) (q : Fin 512) (k : Fin 128) : (outsAt0 m c t.val t.isLt).2.1 (ix2 q k)
    = (outsAt0 m c (t.val - 1) (Nat.lt_of_le_of_lt (Nat.sub_le _ _) t.isLt)).2.1 (ix2 q k) + am m c t q k := by
  rw [outsAt0_B m c t h]
  frame_out
  by_cases h384 : 384 ≤ q.val
  · refine Eq.trans (canon_hit _ _ _ _ _ (⟨q.val - 384, by omega⟩ : Fin 128) k (by (try simp only); omega) (Nat.zero_add _).symm) ?_
    refine (am3 m c t _ _ k).trans ?_
    have e : (⟨384 + (q.val - 384), by omega⟩ : Fin 512) = q := Fin.ext (by (try simp only); omega)
    refine congrArg₂ (· + ·) ?_ (congrArg (fun x => am m c t x k) e)
    exact ld2 _ _ _ _ q k (by (try simp only); omega) (Nat.zero_add _).symm
  by_cases h256 : 256 ≤ q.val
  · refine Eq.trans (canon_miss _ _ _ _ _ (by (try simp only); omega)) ?_
    refine Eq.trans (canon_hit _ _ _ _ _ (⟨q.val - 256, by omega⟩ : Fin 128) k (by (try simp only); omega) (Nat.zero_add _).symm) ?_
    refine (am2 m c t _ _ k).trans ?_
    have e : (⟨256 + (q.val - 256), by omega⟩ : Fin 512) = q := Fin.ext (by (try simp only); omega)
    refine congrArg₂ (· + ·) ?_ (congrArg (fun x => am m c t x k) e)
    exact ld2 _ _ _ _ q k (by (try simp only); omega) (Nat.zero_add _).symm
  by_cases h128 : 128 ≤ q.val
  · refine Eq.trans (canon_miss _ _ _ _ _ (by (try simp only); omega)) ?_
    refine Eq.trans (canon_miss _ _ _ _ _ (by (try simp only); omega)) ?_
    refine Eq.trans (canon_hit _ _ _ _ _ (⟨q.val - 128, by omega⟩ : Fin 128) k (by (try simp only); omega) (Nat.zero_add _).symm) ?_
    refine (am1 m c t _ _ k).trans ?_
    have e : (⟨128 + (q.val - 128), by omega⟩ : Fin 512) = q := Fin.ext (by (try simp only); omega)
    refine congrArg₂ (· + ·) ?_ (congrArg (fun x => am m c t x k) e)
    exact ld2 _ _ _ _ q k (by (try simp only); omega) (Nat.zero_add _).symm
  refine Eq.trans (canon_miss _ _ _ _ _ (by (try simp only); omega)) ?_
  refine Eq.trans (canon_miss _ _ _ _ _ (by (try simp only); omega)) ?_
  refine Eq.trans (canon_miss _ _ _ _ _ (by (try simp only); omega)) ?_
  refine Eq.trans (canon_hit _ _ _ _ _ (⟨q.val - 0, by omega⟩ : Fin 128) k (by (try simp only); omega) (Nat.zero_add _).symm) ?_
  refine (am0 m c t _ _ k).trans ?_
  have e : (⟨0 + (q.val - 0), by omega⟩ : Fin 512) = q := Fin.ext (by (try simp only); omega)
  refine congrArg₂ (· + ·) ?_ (congrArg (fun x => am m c t x k) e)
  exact ld2 _ _ _ _ q k (by (try simp only); omega) (Nat.zero_add _).symm

theorem o17A (h : t.val % 8 = 0) (q : Fin 512) : (outsAt0 m c t.val t.isLt).2.2.1 (ix2 0 q) = 0 + asc m c t q := by
  rw [outsAt0_A m c t h]
  frame_out
  by_cases h384 : 384 ≤ q.val
  · refine Eq.trans (canon_hit _ _ _ _ _ 0 (⟨q.val - 384, by omega⟩ : Fin 128) rfl (by (try simp only); omega)) ?_
    refine (as3 m c t _ _).trans ?_
    have e : (⟨384 + (q.val - 384), by omega⟩ : Fin 512) = q := Fin.ext (by (try simp only); omega)
    refine congrArg₂ (· + ·) ?_ (congrArg (fun x => asc m c t x) e)
    refine Eq.trans (cov2 _ _ _ _ _ 0 q rfl (by (try simp only); omega)) ?_
    refine Eq.trans (canon_miss _ _ _ _ _ (by (try simp only); omega)) ?_
    refine Eq.trans (canon_miss _ _ _ _ _ (by (try simp only); omega)) ?_
    refine Eq.trans (canon_miss _ _ _ _ _ (by (try simp only); omega)) ?_
    exact Eq.trans (canon_hit _ _ _ _ _ 0 q rfl (Nat.zero_add _).symm) (pay6_at 0 q)
  by_cases h256 : 256 ≤ q.val
  · refine Eq.trans (canon_miss _ _ _ _ _ (by (try simp only); omega)) ?_
    refine Eq.trans (canon_hit _ _ _ _ _ 0 (⟨q.val - 256, by omega⟩ : Fin 128) rfl (by (try simp only); omega)) ?_
    refine (as2 m c t _ _).trans ?_
    have e : (⟨256 + (q.val - 256), by omega⟩ : Fin 512) = q := Fin.ext (by (try simp only); omega)
    refine congrArg₂ (· + ·) ?_ (congrArg (fun x => asc m c t x) e)
    refine Eq.trans (cov2 _ _ _ _ _ 0 q rfl (by (try simp only); omega)) ?_
    refine Eq.trans (canon_miss _ _ _ _ _ (by (try simp only); omega)) ?_
    refine Eq.trans (canon_miss _ _ _ _ _ (by (try simp only); omega)) ?_
    exact Eq.trans (canon_hit _ _ _ _ _ 0 q rfl (Nat.zero_add _).symm) (pay6_at 0 q)
  by_cases h128 : 128 ≤ q.val
  · refine Eq.trans (canon_miss _ _ _ _ _ (by (try simp only); omega)) ?_
    refine Eq.trans (canon_miss _ _ _ _ _ (by (try simp only); omega)) ?_
    refine Eq.trans (canon_hit _ _ _ _ _ 0 (⟨q.val - 128, by omega⟩ : Fin 128) rfl (by (try simp only); omega)) ?_
    refine (as1 m c t _ _).trans ?_
    have e : (⟨128 + (q.val - 128), by omega⟩ : Fin 512) = q := Fin.ext (by (try simp only); omega)
    refine congrArg₂ (· + ·) ?_ (congrArg (fun x => asc m c t x) e)
    refine Eq.trans (cov2 _ _ _ _ _ 0 q rfl (by (try simp only); omega)) ?_
    refine Eq.trans (canon_miss _ _ _ _ _ (by (try simp only); omega)) ?_
    exact Eq.trans (canon_hit _ _ _ _ _ 0 q rfl (Nat.zero_add _).symm) (pay6_at 0 q)
  refine Eq.trans (canon_miss _ _ _ _ _ (by (try simp only); omega)) ?_
  refine Eq.trans (canon_miss _ _ _ _ _ (by (try simp only); omega)) ?_
  refine Eq.trans (canon_miss _ _ _ _ _ (by (try simp only); omega)) ?_
  refine Eq.trans (canon_hit _ _ _ _ _ 0 (⟨q.val - 0, by omega⟩ : Fin 128) rfl (by (try simp only); omega)) ?_
  refine (as0 m c t _ _).trans ?_
  have e : (⟨0 + (q.val - 0), by omega⟩ : Fin 512) = q := Fin.ext (by (try simp only); omega)
  refine congrArg₂ (· + ·) ?_ (congrArg (fun x => asc m c t x) e)
  refine Eq.trans (cov2 _ _ _ _ _ 0 q rfl (by (try simp only); omega)) ?_
  exact Eq.trans (canon_hit _ _ _ _ _ 0 q rfl (Nat.zero_add _).symm) (pay6_at 0 q)

theorem o17B (h : ¬ t.val % 8 = 0) (q : Fin 512) : (outsAt0 m c t.val t.isLt).2.2.1 (ix2 0 q)
    = (outsAt0 m c (t.val - 1) (Nat.lt_of_le_of_lt (Nat.sub_le _ _) t.isLt)).2.2.1 (ix2 0 q) + asc m c t q := by
  rw [outsAt0_B m c t h]
  frame_out
  by_cases h384 : 384 ≤ q.val
  · refine Eq.trans (canon_hit _ _ _ _ _ 0 (⟨q.val - 384, by omega⟩ : Fin 128) rfl (by (try simp only); omega)) ?_
    refine (as3 m c t _ _).trans ?_
    have e : (⟨384 + (q.val - 384), by omega⟩ : Fin 512) = q := Fin.ext (by (try simp only); omega)
    refine congrArg₂ (· + ·) ?_ (congrArg (fun x => asc m c t x) e)
    exact ld2 _ _ _ _ 0 q rfl (by (try simp only); omega)
  by_cases h256 : 256 ≤ q.val
  · refine Eq.trans (canon_miss _ _ _ _ _ (by (try simp only); omega)) ?_
    refine Eq.trans (canon_hit _ _ _ _ _ 0 (⟨q.val - 256, by omega⟩ : Fin 128) rfl (by (try simp only); omega)) ?_
    refine (as2 m c t _ _).trans ?_
    have e : (⟨256 + (q.val - 256), by omega⟩ : Fin 512) = q := Fin.ext (by (try simp only); omega)
    refine congrArg₂ (· + ·) ?_ (congrArg (fun x => asc m c t x) e)
    exact ld2 _ _ _ _ 0 q rfl (by (try simp only); omega)
  by_cases h128 : 128 ≤ q.val
  · refine Eq.trans (canon_miss _ _ _ _ _ (by (try simp only); omega)) ?_
    refine Eq.trans (canon_miss _ _ _ _ _ (by (try simp only); omega)) ?_
    refine Eq.trans (canon_hit _ _ _ _ _ 0 (⟨q.val - 128, by omega⟩ : Fin 128) rfl (by (try simp only); omega)) ?_
    refine (as1 m c t _ _).trans ?_
    have e : (⟨128 + (q.val - 128), by omega⟩ : Fin 512) = q := Fin.ext (by (try simp only); omega)
    refine congrArg₂ (· + ·) ?_ (congrArg (fun x => asc m c t x) e)
    exact ld2 _ _ _ _ 0 q rfl (by (try simp only); omega)
  refine Eq.trans (canon_miss _ _ _ _ _ (by (try simp only); omega)) ?_
  refine Eq.trans (canon_miss _ _ _ _ _ (by (try simp only); omega)) ?_
  refine Eq.trans (canon_miss _ _ _ _ _ (by (try simp only); omega)) ?_
  refine Eq.trans (canon_hit _ _ _ _ _ 0 (⟨q.val - 0, by omega⟩ : Fin 128) rfl (by (try simp only); omega)) ?_
  refine (as0 m c t _ _).trans ?_
  have e : (⟨0 + (q.val - 0), by omega⟩ : Fin 512) = q := Fin.ext (by (try simp only); omega)
  refine congrArg₂ (· + ·) ?_ (congrArg (fun x => asc m c t x) e)
  exact ld2 _ _ _ _ 0 q rfl (by (try simp only); omega)

/-- What grid point `t` adds to row `j` of the gradient of the convolution's weights. -/
def ac (j : Fin 8) (k : Fin 512) : EReal :=
  if j.val < 3 then ∑ r : Fin 512, Vf m c (512 * t.val + r.val) k.val * Uf m c (512 * t.val + r.val) (2 - j.val) k.val else 0
theorem ac0 (acc : FVec Ideal S1x512 .f32) (k : Fin 512) :
    k0_pay56 (F := Ideal) (k0_pay48 (k0_pay3 (grid0.coords t)) (X0_5 m c t) (X0_7 m c t) (X0_4 m c t) (X0_6 m c t))
      (k0_pay51 (k0_pay4 (grid0.coords t)) (iblk m c 10 t) (X0_2 m c t) (iblk m c 11 t) (X0_3 m c t)) acc (ix2 0 k) = acc (ix2 0 k) + ac m c t 0 k := by
  refine (pay56_at t (X0_5 m c t) (X0_7 m c t) (X0_4 m c t) (X0_6 m c t) (iblk m c 10 t) (X0_2 m c t) (iblk m c 11 t) (X0_3 m c t) acc k).trans ?_
  unfold ac
  rw [if_pos (by decide)]
  congr 1
  refine Finset.sum_congr rfl fun r _ => ?_
  have e0 := dvf_eq m c t r.val 0 r.isLt (by omega) k
  rw [Nat.add_zero, Nat.add_zero] at e0
  exact congrArg₂ (· * ·) e0 (ucf_eq m c t r.val 2 r.isLt (by omega) k)
theorem ac1 (acc : FVec Ideal S1x512 .f32) (k : Fin 512) :
    k0_pay57 (F := Ideal) (k0_pay47 (k0_pay3 (grid0.coords t)) (X0_5 m c t) (X0_7 m c t) (X0_4 m c t) (X0_6 m c t))
      (k0_pay51 (k0_pay4 (grid0.coords t)) (iblk m c 10 t) (X0_2 m c t) (iblk m c 11 t) (X0_3 m c t)) acc (ix2 0 k) = acc (ix2 0 k) + ac m c t 1 k := by
  refine (pay57_at t (X0_5 m c t) (X0_7 m c t) (X0_4 m c t) (X0_6 m c t) (iblk m c 10 t) (X0_2 m c t) (iblk m c 11 t) (X0_3 m c t) acc k).trans ?_
  unfold ac
  rw [if_pos (by decide)]
  congr 1
  refine Finset.sum_congr rfl fun r _ => ?_
  have e0 := dvf_eq m c t r.val 0 r.isLt (by omega) k
  rw [Nat.add_zero, Nat.add_zero] at e0
  exact congrArg₂ (· * ·) e0 (ucf_eq m c t r.val 1 r.isLt (by omega) k)
theorem ac2 (acc : FVec Ideal S1x512 .f32) (k : Fin 512) :
    k0_pay58 (F := Ideal) (k0_pay49 (k0_pay3 (grid0.coords t)) (X0_5 m c t) (X0_7 m c t) (X0_4 m c t) (X0_6 m c t))
      (k0_pay51 (k0_pay4 (grid0.coords t)) (iblk m c 10 t) (X0_2 m c t) (iblk m c 11 t) (X0_3 m c t)) acc (ix2 0 k) = acc (ix2 0 k) + ac m c t 2 k := by
  refine (pay58_at t (X0_5 m c t) (X0_7 m c t) (X0_4 m c t) (X0_6 m c t) (iblk m c 10 t) (X0_2 m c t) (iblk m c 11 t) (X0_3 m c t) acc k).trans ?_
  unfold ac
  rw [if_pos (by decide)]
  congr 1
  refine Finset.sum_congr rfl fun r _ => ?_
  have e0 := dvf_eq m c t r.val 0 r.isLt (by omega) k
  rw [Nat.add_zero, Nat.add_zero] at e0
  exact congrArg₂ (· * ·) e0 (ucf_eq m c t r.val 0 r.isLt (by omega) k)

theorem o18A (h : t.val % 8 = 0) (j : Fin 8) (k : Fin 512) : (outsAt0 m c t.val t.isLt).2.2.2 (ix2 j k) = 0 + ac m c t j k := by
  rw [outsAt0_A m c t h]
  frame_out
  by_cases h2 : j = 2
  · subst h2
    refine Eq.trans (canon_hit _ _ _ _ _ 0 k rfl (Nat.zero_add _).symm) ?_
    refine (ac2 m c t _ k).trans ?_
    refine congrArg (· + _) ?_
    refine Eq.trans (cov2 _ _ _ _ _ 2 k rfl (Nat.zero_add _).symm) ?_
    refine Eq.trans (canon_miss _ _ _ _ _ (by simp)) ?_
    refine Eq.trans (canon_miss _ _ _ _ _ (by simp)) ?_
    exact Eq.trans (canon_hit _ _ _ _ _ 2 k rfl (Nat.zero_add _).symm) (pay7_at _ k)
  by_cases h1 : j = 1
  · subst h1
    refine Eq.trans (canon_miss _ _ _ _ _ (by simp)) ?_
    refine Eq.trans (canon_hit _ _ _ _ _ 0 k rfl (Nat.zero_add _).symm) ?_
    refine (ac1 m c t _ k).trans ?_
    refine congrArg (· + _) ?_
    refine Eq.trans (cov2 _ _ _ _ _ 1 k rfl (Nat.zero_add _).symm) ?_
    refine Eq.trans (canon_miss _ _ _ _ _ (by simp)) ?_
    exact Eq.trans (canon_hit _ _ _ _ _ 1 k rfl (Nat.zero_add _).symm) (pay7_at _ k)
  by_cases h0 : j = 0
  · subst h0
    refine Eq.trans (canon_miss _ _ _ _ _ (by simp)) ?_
    refine Eq.trans (canon_miss _ _ _ _ _ (by simp)) ?_
    refine Eq.trans (canon_hit _ _ _ _ _ 0 k rfl (Nat.zero_add _).symm) ?_
    refine (ac0 m c t _ k).trans ?_
    refine congrArg (· + _) ?_
    refine Eq.trans (cov2 _ _ _ _ _ 0 k rfl (Nat.zero_add _).symm) ?_
    exact Eq.trans (canon_hit _ _ _ _ _ 0 k rfl (Nat.zero_add _).symm) (pay7_at _ k)
  have hj : 3 ≤ j.val := by
    have := Fin.val_ne_of_ne h0; have := Fin.val_ne_of_ne h1; have := Fin.val_ne_of_ne h2
    simp at *; omega
  unfold ac
  rw [if_neg (by omega), add_zero]
  refine Eq.trans (canon_miss _ _ _ _ _ (by (try simp only); omega)) ?_
  refine Eq.trans (canon_miss _ _ _ _ _ (by (try simp only); omega)) ?_
  refine Eq.trans (canon_miss _ _ _ _ _ (by (try simp only); omega)) ?_
  exact Eq.trans (canon_hit _ _ _ _ _ j k (Nat.zero_add _).symm (Nat.zero_add _).symm) (pay7_at _ k)

theorem o18B (h : ¬ t.val % 8 = 0) (j : Fin 8) (k : Fin 512) : (outsAt0 m c t.val t.isLt).2.2.2 (ix2 j k)
    = (outsAt0 m c (t.val - 1) (Nat.lt_of_le_of_lt (Nat.sub_le _ _) t.isLt)).2.2.2 (ix2 j k) + ac m c t j k := by
  rw [outsAt0_B m c t h]
  frame_out
  by_cases h2 : j = 2
  · subst h2
    refine Eq.trans (wr_hit _ _ _ _ _ _ _ 0 k rfl (Nat.zero_add _).symm) ?_
    refine (ac2 m c t _ k).trans ?_
    refine congrArg (· + _) ?_
    exact ld2 _ _ _ _ 2 k rfl (Nat.zero_add _).symm
  by_cases h1 : j = 1
  · subst h1
    refine Eq.trans (wr_miss _ _ _ _ _ _ _ (by simp)) ?_
    refine Eq.trans (wr_hit _ _ _ _ _ _ _ 0 k rfl (Nat.zero_add _).symm) ?_
    refine (ac1 m c t _ k).trans ?_
    refine congrArg (· + _) ?_
    exact ld2 _ _ _ _ 1 k rfl (Nat.zero_add _).symm
  by_cases h0 : j = 0
  · subst h0
    refine Eq.trans (wr_miss _ _ _ _ _ _ _ (by simp)) ?_
    refine Eq.trans (wr_miss _ _ _ _ _ _ _ (by simp)) ?_
    refine Eq.trans (wr_hit _ _ _ _ _ _ _ 0 k rfl (Nat.zero_add _).symm) ?_
    refine (ac0 m c t _ k).trans ?_
    refine congrArg (· + _) ?_
    exact ld2 _ _ _ _ 0 k rfl (Nat.zero_add _).symm
  have hj : 3 ≤ j.val := by
    have := Fin.val_ne_of_ne h0; have := Fin.val_ne_of_ne h1; have := Fin.val_ne_of_ne h2
    simp at *; omega
  unfold ac
  rw [if_neg (by omega), add_zero]
  refine Eq.trans (wr_miss _ _ _ _ _ _ _ (by (try simp only); omega)) ?_
  refine Eq.trans (wr_miss _ _ _ _ _ _ _ (by (try simp only); omega)) ?_
  refine Eq.trans (wr_miss _ _ _ _ _ _ _ (by (try simp only); omega)) ?_
  rw [View.writes_nil]
  frame_out

end Cert.KernelIdeal.Pool
end
-- ==== Proof.PoolRes.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.PoolOut

@[expose] public section

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen

variable (m : (ℓ : Loc nD τ sig) → Buf (Elt Ideal) ℓ)

open Idealize.ShloMosaic.Pointwise
variable (c : Dev nD) (t : Fin cfg0.N)

/-! ## The four results -/

theorem idx15 : ∀ t : Fin cfg0.N, win0_15.index t 0 = t.val ∧ win0_15.index t 1 = 0 := by decide +kernel
def dzF (i : S4096x7424.Idx) : EReal := Gf m c (i 0).val (i 1).val

theorem dz_arr : (dats m 0 c).arrAt 15 cfg0.N
    = fun i : S4096x7424.Idx => if (i 1).val / 2048 < 1 then dzF m c i else m ((c.tc : Thread nD τ).loc main_arg6) i := by
  rw [← Vdz m c]
  refine (dats m 0 c).arrAt_eq_of_coversWhere 15 (dzF m c) (fun β => β (1 : Fin _) < 1) (by decide +kernel) (fun t hf y => ?_) (fun j => Iff.rfl)
  blk_simp; rw [after0_15]
  have hy0 : (y 0).val < 512 := ((cfg0.win 15).xinj (cfg0.grid.coords t) y 0).isLt
  have hy1 : (y 1).val < 2048 := ((cfg0.win 15).xinj (cfg0.grid.coords t) y 1).isLt
  have hx : (cfg0.win 15).xinj (cfg0.grid.coords t) y = (ix2 (⟨(y 0).val, hy0⟩ : Fin 512) (⟨(y 1).val, hy1⟩ : Fin 2048)) := by
    funext a
    match a with
    | ⟨0, _⟩ => rfl
    | ⟨1, _⟩ => rfl
  rw [hx]
  refine (o15 m c t _ _).trans ?_
  unfold dzF
  have h0 : (((win0_15.blk t).view.emb y) 0).val = 512 * t.val + (y 0).val := by
    blk_simp [idx15 t]
    omega
  have h1 : (((win0_15.blk t).view.emb y) 1).val = (y 1).val := by
    refine (win0_15.rect_emb_val_of_index_zero t 1 (idx15 t).2 y)
  rw [h0, h1]

theorem sum_rows (f : ℕ → EReal) : ∑ t : Fin cfg0.N, ∑ r : Fin 512, f (512 * t.val + r.val) = ∑ s : Fin 4096, f s.val := by
  refine (Fintype.sum_prod_type' (fun (t : Fin 8) (r : Fin 512) => f (512 * t.val + r.val))).symm.trans ?_
  exact Fintype.sum_equiv (finProdFinEquiv (m := 8) (n := 512)) _ (fun s : Fin 4096 => f s.val) (fun p => congrArg f (Nat.add_comm _ _))

theorem dmix_arr : (dats m 0 c).arrAt 16 cfg0.N = fun j : S512x128.Idx => ∑ t : Fin cfg0.N, am m c t (j 0) (j 1) := by
  refine (dats m 0 c).arrAt_eq_of_after_last 16 t0_7 (by decide +kernel) _ fun j => ?_
  blk_simp
  rw [after0_16]
  rw [Pipeline.eq_sum_fin_of_reset_step_apply_last (fun n h => (outsAt0 m c n h).2.1) 8 (fun _ => 0) (fun t j => am m c t (j 0) (j 1))
    (fun t h j => by rw [eq_ix2 j]; exact o16A m c t h _ _) (fun t h j => by rw [eq_ix2 j]; exact o16B m c t h _ _) (le_of_eq N_0) t0_7 rfl j, zero_add]

theorem dsc_arr : (dats m 0 c).arrAt 17 cfg0.N = fun j : S1x512.Idx => ∑ t : Fin cfg0.N, asc m c t (j 1) := by
  refine (dats m 0 c).arrAt_eq_of_after_last 17 t0_7 (by decide +kernel) _ fun j => ?_
  blk_simp
  rw [after0_17]
  rw [Pipeline.eq_sum_fin_of_reset_step_apply_last (fun n h => (outsAt0 m c n h).2.2.1) 8 (fun _ => 0) (fun t j => asc m c t (j 1))
    (fun t h j => by
      rw [eq_ix2 j, (Subsingleton.elim (α := Fin 1) (j 0) 0 : j 0 = (0 : Fin 1))]; exact o17A m c t h _)
    (fun t h j => by rw [eq_ix2 j, (Subsingleton.elim (α := Fin 1) (j 0) 0 : j 0 = (0 : Fin 1))]; exact o17B m c t h _) (le_of_eq N_0) t0_7 rfl j, zero_add]

theorem dcw_arr : (dats m 0 c).arrAt 18 cfg0.N = fun j : S8x512.Idx => ∑ t : Fin cfg0.N, ac m c t (j 0) (j 1) := by
  refine (dats m 0 c).arrAt_eq_of_after_last 18 t0_7 (by decide +kernel) _ fun j => ?_
  blk_simp
  rw [after0_18]
  rw [Pipeline.eq_sum_fin_of_reset_step_apply_last (fun n h => (outsAt0 m c n h).2.2.2) 8 (fun _ => 0) (fun t j => ac m c t (j 0) (j 1))
    (fun t h j => by rw [eq_ix2 j]; exact o18A m c t h _ _) (fun t h j => by rw [eq_ix2 j]; exact o18B m c t h _ _) (le_of_eq N_0) t0_7 rfl j, zero_add]

end Cert.KernelIdeal.Pool
end
-- ==== Proof.PoolMath.lean ====
/- Sums of extended reals that the reference's running sums come to: a difference of two prefix sums, a sum over a
   suffix of differences, and `stablehlo.reduce_window` with a window of the whole length. -/
module

public import proofs.«01_k».proof.Proof.Gen.ReferenceIdeal.Run
public import Idealize.ShloMosaic.Lib.Pointwise

@[expose] public section

set_option maxRecDepth 16384

noncomputable section

open Idealize.ShloMosaic Idealize.SL.Sem
open scoped BigOperators

namespace Cert.KernelIdeal.Pool

/-- A finite extended real. -/
def Fi (x : EReal) : Prop := ∃ r : ℝ, x = (r : EReal)

theorem Fi.zero : Fi 0 := ⟨0, rfl⟩
theorem Fi.add {x y : EReal} : Fi x → Fi y → Fi (x + y) := by
  rintro ⟨a, rfl⟩ ⟨b, rfl⟩; exact ⟨a + b, (EReal.coe_add a b).symm⟩
theorem Fi.mul {x y : EReal} : Fi x → Fi y → Fi (x * y) := by
  rintro ⟨a, rfl⟩ ⟨b, rfl⟩; exact ⟨a * b, (EReal.coe_mul a b).symm⟩
theorem Fi.sum {ι : Type} (s : Finset ι) (f : ι → EReal) (h : ∀ i ∈ s, Fi (f i)) : Fi (∑ i ∈ s, f i) := by
  classical
  induction s using Finset.induction_on with
  | empty => exact Fi.zero
  | insert a s ha ih =>
    rw [Finset.sum_insert ha]
    exact (h a (Finset.mem_insert_self a s)).add (ih fun i hi => h i (Finset.mem_insert_of_mem hi))

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The terms `f s, f (s-1), …` of the last `w` up to `s` sum to a difference of two prefix sums. -/
theorem prefix_real (f : ℕ → ℝ) (s w : ℕ) :
    (∑ k ∈ Finset.range (s + 1), f k) - (∑ k ∈ Finset.range (s + 1 - w), f k)
      = ∑ j ∈ Finset.range w, if j ≤ s then f (s - j) else 0 := by
  induction w with
  | zero => simp
  | succ w ih =>
    rw [Finset.sum_range_succ _ w, ← ih]
    by_cases h : w ≤ s
    · rw [if_pos h, show s + 1 - w = (s - w) + 1 by omega, Finset.sum_range_succ _ (s - w),
        show s + 1 - (w + 1) = s - w by omega]
      ring
    · rw [if_neg h, show s + 1 - w = 0 by omega, show s + 1 - (w + 1) = 0 by omega]
      simp

theorem prefix_sub (f : ℕ → EReal) (hf : ∀ n, Fi (f n)) (s w : ℕ) :
    (∑ k ∈ Finset.range (s + 1), f k) - (∑ k ∈ Finset.range (s + 1 - w), f k)
      = ∑ j ∈ Finset.range w, if j ≤ s then f (s - j) else 0 := by
  choose g hg using hf
  simp only [hg]
  rw [← coe_sum, ← coe_sum, ← EReal.coe_sub, prefix_real, coe_sum]
  refine Finset.sum_congr rfl fun j _ => ?_
  split <;> simp

/-- A sum over a suffix of differences `h n - h (n + w)` keeps its first `w` terms. -/
theorem suffix_real (h : ℕ → ℝ) (N : ℕ) (h0 : ∀ n, N ≤ n → h n = 0) (t w : ℕ) :
    ∑ n ∈ Finset.range N, (h (t + n) + -h (t + n + w)) = ∑ j ∈ Finset.range w, h (t + j) := by
  induction w with
  | zero => simp
  | succ w ih =>
    rw [Finset.sum_range_succ _ w, ← ih, ← sub_eq_iff_eq_add', ← Finset.sum_sub_distrib]
    have := Finset.sum_range_sub' (fun n => h (t + n + w)) N
    rw [h0 (t + N + w) (by omega)] at this
    rw [Nat.add_zero, sub_zero] at this
    rw [← this]
    refine Finset.sum_congr rfl fun n _ => ?_
    rw [show t + (n + 1) + w = t + n + (w + 1) by omega]
    ring

theorem suffix_sum (h : ℕ → EReal) (hf : ∀ n, Fi (h n)) (N : ℕ) (h0 : ∀ n, N ≤ n → h n = 0) (t w : ℕ) :
    ∑ n ∈ Finset.range N, (h (t + n) + -h (t + n + w)) = ∑ j ∈ Finset.range w, h (t + j) := by
  choose g hg using hf
  have g0 : ∀ n, N ≤ n → g n = 0 := fun n hn => by
    have := h0 n hn; rw [hg] at this; exact_mod_cast this
  simp only [hg]
  rw [← coe_sum, ← suffix_real g N g0, coe_sum]
  exact Finset.sum_congr rfl fun n _ => by rw [EReal.coe_add, EReal.coe_neg]

/-! ## A window of the whole length -/

theorem foldl_add {ι : Type} (l : List ι) (g : ι → EReal) (v : EReal) :
    l.foldl (fun r a => r + g a) v = v + (l.map g).sum := by
  induction l generalizing v with
  | nil => simp
  | cons a l ih => rw [List.foldl_cons, ih, List.map_cons, List.sum_cons, add_assoc]

theorem numel3 : (⟨3, ![1, 4096, 1]⟩ : Shape).numel = 4096 := by
  show ∏ a : Fin 3, (![1, 4096, 1] : Fin 3 → Nat) a = 4096
  rw [Fin.prod_univ_three]; rfl

theorem symm3 (n : Fin (⟨3, ![1, 4096, 1]⟩ : Shape).numel) : ((⟨3, ![1, 4096, 1]⟩ : Shape).rowMajor.symm n 1).val = n.val := by
  have h := Shape.rowMajor_val_three ((⟨3, ![1, 4096, 1]⟩ : Shape).rowMajor.symm n)
  rw [Equiv.apply_symm_apply] at h
  have h0 := ((⟨3, ![1, 4096, 1]⟩ : Shape).rowMajor.symm n 0).isLt
  have h2 := ((⟨3, ![1, 4096, 1]⟩ : Shape).rowMajor.symm n 2).isLt
  change _ < 1 at h0
  change _ < 1 at h2
  have e : n.val = (((⟨3, ![1, 4096, 1]⟩ : Shape).rowMajor.symm n 0).val * 4096
    + ((⟨3, ![1, 4096, 1]⟩ : Shape).rowMajor.symm n 1).val) * 1 + ((⟨3, ![1, 4096, 1]⟩ : Shape).rowMajor.symm n 2).val := h
  omega

theorem window_fold {s t u : Shape} (window strides lo hi : Fin s.rank → Nat) (x : FVec Ideal s .f32)
    (init : u.Idx → Ideal .f32) (h : s.ReduceWindows window strides lo hi t) (hu : 0 < u.numel)
    (hz : ∀ i, init i = (0 : EReal)) (j : t.Idx) :
    Host.reduceWindowAdd window strides lo hi x init h hu j
      = ∑ n : Fin (⟨s.rank, window⟩ : Shape).numel,
        (if hin : ∀ a, lo a ≤ (j (a.cast h.1.symm)).val * strides a + ((⟨s.rank, window⟩ : Shape).rowMajor.symm n a).val
            ∧ (j (a.cast h.1.symm)).val * strides a + ((⟨s.rank, window⟩ : Shape).rowMajor.symm n a).val - lo a < s.size a
          then x (fun a => ⟨_, (hin a).2⟩) else (0 : EReal)) := by
  show Host.reduceWindow (α := EReal) (u := ⟨0, ![]⟩) (· + ·) window strides lo hi x (fun _ => init (Shape.Idx.first hu)) h (by decide) j = _
  unfold Host.reduceWindow
  dsimp only
  refine (foldl_add _ _ _).trans ?_
  rw [hz, zero_add, ← Fin.sum_univ_def]
  refine Finset.sum_congr rfl fun n _ => ?_
  split
  · rfl
  · rfl

open Cert.ReferenceIdeal in
theorem window_sum (L H : ℕ) (x : FVec Ideal S1x4096x512 .f32) (init : S_.Idx → Ideal .f32)
    (h : S1x4096x512.ReduceWindows ![1, 4096, 1] ![1, 1, 1] ![0, L, 0] ![0, H, 0] S1x4096x512) (hu : 0 < S_.numel)
    (hi : ∀ i, init i = (0 : EReal)) (j : S1x4096x512.Idx) (X : ℕ → EReal)
    (hX : ∀ s : Fin 4096, x (ix3 (0 : Fin 1) s (j 2)) = X s.val) (hX0 : ∀ s, 4096 ≤ s → X s = 0) :
    Host.reduceWindowAdd (s := S1x4096x512) ![1, 4096, 1] ![1, 1, 1] ![0, L, 0] ![0, H, 0] x init h hu j
      = ∑ n ∈ Finset.range 4096, if L ≤ (j 1).val + n then X ((j 1).val + n - L) else (0 : EReal) := by
  refine (window_fold (s := S1x4096x512) _ _ _ _ x init h hu hi j).trans ?_
  refine Eq.trans ?_ (congrArg (fun M => ∑ n ∈ Finset.range M, if L ≤ (j 1).val + n then X ((j 1).val + n - L) else (0 : EReal)) numel3)
  refine Eq.trans ?_ (Finset.sum_range _).symm
  refine Finset.sum_congr rfl fun n _ => ?_
  have hw := symm3 n
  have hw0 : ((⟨3, ![1, 4096, 1]⟩ : Shape).rowMajor.symm n 0).val = 0 := Nat.lt_one_iff.1 ((⟨3, ![1, 4096, 1]⟩ : Shape).rowMajor.symm n 0).isLt
  have hw2 : ((⟨3, ![1, 4096, 1]⟩ : Shape).rowMajor.symm n 2).val = 0 := Nat.lt_one_iff.1 ((⟨3, ![1, 4096, 1]⟩ : Shape).rowMajor.symm n 2).isLt
  have hj0 : (j 0).val = 0 := Nat.lt_one_iff.1 (j 0).isLt
  split
  · next hin =>
    have h1 := hin 1
    change L ≤ (j 1).val * 1 + ((⟨3, ![1, 4096, 1]⟩ : Shape).rowMajor.symm n 1).val
      ∧ (j 1).val * 1 + ((⟨3, ![1, 4096, 1]⟩ : Shape).rowMajor.symm n 1).val - L < 4096 at h1
    rw [hw] at h1
    rw [if_pos (by omega)]
    refine Eq.trans (congrArg x (funext fun a => Fin.ext ?_)) (hX ⟨(j 1).val + n.val - L, by omega⟩)
    match a with
    | ⟨0, _⟩ =>
      show (j 0).val * 1 + ((⟨3, ![1, 4096, 1]⟩ : Shape).rowMajor.symm n 0).val - 0 = 0
      rw [hw0, hj0]
    | ⟨1, _⟩ =>
      show (j 1).val * 1 + ((⟨3, ![1, 4096, 1]⟩ : Shape).rowMajor.symm n 1).val - L = (j 1).val + n.val - L
      rw [hw, Nat.mul_one]
    | ⟨2, _⟩ =>
      show (j 2).val * 1 + ((⟨3, ![1, 4096, 1]⟩ : Shape).rowMajor.symm n 2).val - 0 = (j 2).val
      rw [hw2, Nat.mul_one]; rfl
  · next hin =>
    by_cases hL : L ≤ (j 1).val + n.val
    · rw [if_pos hL, hX0]
      by_contra hc
      refine hin fun a => ?_
      match a with
      | ⟨0, _⟩ =>
        show 0 ≤ (j 0).val * 1 + ((⟨3, ![1, 4096, 1]⟩ : Shape).rowMajor.symm n 0).val
          ∧ (j 0).val * 1 + ((⟨3, ![1, 4096, 1]⟩ : Shape).rowMajor.symm n 0).val - 0 < 1
        rw [hw0, hj0]; omega
      | ⟨1, _⟩ =>
        show L ≤ (j 1).val * 1 + ((⟨3, ![1, 4096, 1]⟩ : Shape).rowMajor.symm n 1).val
          ∧ (j 1).val * 1 + ((⟨3, ![1, 4096, 1]⟩ : Shape).rowMajor.symm n 1).val - L < 4096
        rw [hw]; omega
      | ⟨2, _⟩ =>
        have := (j 2).isLt
        change _ < 512 at this
        show 0 ≤ (j 2).val * 1 + ((⟨3, ![1, 4096, 1]⟩ : Shape).rowMajor.symm n 2).val
          ∧ (j 2).val * 1 + ((⟨3, ![1, 4096, 1]⟩ : Shape).rowMajor.symm n 2).val - 0 < 512
        rw [hw2]; omega
    · rw [if_neg hL]

/-- The running sum: a window padded low by one less than its length. -/
theorem shift_prefix (X : ℕ → EReal) (s : ℕ) (hs : s < 4096) :
    (∑ n ∈ Finset.range 4096, if 4095 ≤ s + n then X (s + n - 4095) else (0 : EReal)) = ∑ k ∈ Finset.range (s + 1), X k := by
  rw [show (4096 : ℕ) = (4095 - s) + (s + 1) by omega, Finset.sum_range_add, Finset.sum_eq_zero, zero_add]
  · refine Finset.sum_congr rfl fun k hk => ?_
    rw [if_pos (by omega)]
    exact congrArg X (by omega)
  · intro n hn
    rw [if_neg (by have := Finset.mem_range.1 hn; omega)]

end Cert.KernelIdeal.Pool

end
-- ==== Proof.PoolRefA.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.PoolRes
public import proofs.«01_k».proof.Proof.PoolMath
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.ReferenceIdeal.PoolRef

open Cert.ReferenceIdeal Cert.ReferenceIdeal.Gen Cert.ReferenceIdeal.Value
open Cert.KernelIdeal.Pool (rd Zf Pf Cf Mf Sf Wf Uf Vf Yf Ef Df Yc Dc dif win Fi rd_lt rd_ge prefix_sub suffix_sum window_sum shift_prefix)
open Idealize.ShloMosaic.Pointwise
open scoped BigOperators

variable (m : (ℓ : Loc Cert.KernelIdeal.nD Cert.KernelIdeal.τ Cert.KernelIdeal.sig) → Buf (Elt Ideal) ℓ) (c : Dev Cert.KernelIdeal.nD)
variable (V0 : Valuation τ sig (Elt Ideal))

/-- The reference's arguments are the kernel's. -/
structure Args : Prop where
  z : ∀ a b, (V0 (Proc.devRef .tc main_arg0) : FVec Ideal S4096x7424 .f32) (ix2 a b) = Zf m c a b
  p : ∀ a b, (V0 (Proc.devRef .tc main_arg1) : FVec Ideal S4096x512 .f32) (ix2 a b) = Pf m c a b
  q : ∀ a b, (V0 (Proc.devRef .tc main_arg2) : FVec Ideal S4096x512 .f32) (ix2 a b) = Cf m c a b
  x : ∀ g a b, (V0 (Proc.devRef .tc main_arg3) : FVec Ideal S4x128x128 .f32) (ix3 g a b) = Mf m c g a b
  s : ∀ b, (V0 (Proc.devRef .tc main_arg4) : FVec Ideal S512 .f32) (ix1 b) = Sf m c b
  w : ∀ a b, (V0 (Proc.devRef .tc main_arg5) : FVec Ideal S3x512 .f32) (ix2 a b) = Wf m c a b

variable (hA : Args m c V0)
include hA

theorem v1_at (s : Fin 4096) (k : Fin 2048) : res_main_v1 V0 (ix3 (0 : Fin 1) s k) = rd (Zf m c) s.val k.val := by
  rw [rd_lt _ s.isLt (by omega)]
  refine Eq.trans ?_ (hA.z _ _)
  pointwise [res_main_v1]

theorem v2_at (s : Fin 4096) (k : Fin 512) : res_main_v2 V0 (ix3 (0 : Fin 1) s k) = rd (Zf m c) s.val k.val := by
  refine Eq.trans ?_ (v1_at m c V0 hA s ⟨k.val, by omega⟩)
  unfold res_main_v2
  pointwise []

theorem v80_at (s : Fin 4096) (k : Fin 512) : res_main_v80 V0 (ix3 (0 : Fin 1) s k) = rd (Zf m c) s.val (512 + k.val) := by
  refine Eq.trans ?_ (v1_at m c V0 hA s ⟨512 + k.val, by omega⟩)
  unfold res_main_v80
  pointwise []

theorem v81_at (s : Fin 4096) (k : Fin 512) : res_main_v81 V0 (ix3 (0 : Fin 1) s k) = rd (Zf m c) s.val (1024 + k.val) := by
  refine Eq.trans ?_ (v1_at m c V0 hA s ⟨1024 + k.val, by omega⟩)
  unfold res_main_v81
  pointwise []

theorem v82_at (s : Fin 4096) (k : Fin 512) : res_main_v82 V0 (ix3 (0 : Fin 1) s k) = rd (Zf m c) s.val (1536 + k.val) := by
  refine Eq.trans ?_ (v1_at m c V0 hA s ⟨1536 + k.val, by omega⟩)
  unfold res_main_v82
  pointwise []

omit hA in
theorem zero_at (i : S_.Idx) : (broadcastInDim S_ ![] bcast_S_S_ (constant (F := Ideal) S_ .f32 0x00000000#32)) i = (0 : EReal) := by
  obtain rfl : i = ix0 := funext fun a => a.elim0
  pointwise []

theorem v3_at (s : Fin 4096) (k : Fin 512) :
    res_main_v3 V0 (ix3 (0 : Fin 1) s k) = ∑ n ∈ Finset.range (s.val + 1), rd (Zf m c) n k.val := by
  rw [← shift_prefix (fun n => rd (Zf m c) n k.val) s.val s.isLt]
  unfold res_main_v3
  exact window_sum 4095 0 _ _ _ _ zero_at (ix3 (0 : Fin 1) s k) (fun n => rd (Zf m c) n k.val)
    (fun n => v2_at m c V0 hA n k) (fun n hn => rd_ge _ hn)

omit hA in
theorem cnt_word (s w : ℕ) (hs : s < 4096) (hw : w ≤ 16) :
    (FloatOps.sitofp (F := Ideal) FTy.f32 (IntOp.minsi (IntOp.addi (BitVec.ofNat 32 s) 1#32) (BitVec.ofNat 32 w)) : EReal)
      = ((min (s + 1) w : ℕ) : EReal) := by
  have e : (IntOp.addi (BitVec.ofNat 32 s) 1#32) = BitVec.ofNat 32 (s + 1) := by
    apply BitVec.eq_of_toNat_eq
    simp [IntOp.addi]
  rw [e]
  have e2 : (IntOp.minsi (BitVec.ofNat 32 (s + 1)) (BitVec.ofNat 32 w)).toInt = ((min (s + 1) w : ℕ) : ℤ) := by
    have h1 : (BitVec.ofNat 32 (s + 1)).toInt = ((s + 1 : ℕ) : ℤ) := by
      rw [BitVec.toInt_eq_toNat_of_lt] <;> simp <;> omega
    have h2 : (BitVec.ofNat 32 w).toInt = (w : ℤ) := by
      rw [BitVec.toInt_eq_toNat_of_lt] <;> simp <;> omega
    unfold IntOp.minsi
    split <;> rename_i h <;> simp only [BitVec.slt, h1, h2, decide_eq_true_eq] at h ⊢ <;> omega
  show (((IntOp.minsi (BitVec.ofNat 32 (s + 1)) (BitVec.ofNat 32 w)).toInt : ℝ) : EReal) = _
  rw [e2, Int.cast_natCast, EReal.coe_natCast]

omit hA in
theorem v15_at (s : Fin 4096) : res_main_v15 V0 (ix3 (0 : Fin 1) s (0 : Fin 1)) = ((min (s.val + 1) 2 : ℕ) : EReal) := by
  refine Eq.trans ?_ (cnt_word s.val 2 s.isLt (by decide))
  pointwise [res_main_v15, res_main_v4]
omit hA in
theorem v31_at (s : Fin 4096) : res_main_v31 V0 (ix3 (0 : Fin 1) s (0 : Fin 1)) = ((min (s.val + 1) 4 : ℕ) : EReal) := by
  refine Eq.trans ?_ (cnt_word s.val 4 s.isLt (by decide))
  pointwise [res_main_v31, res_main_v4]
omit hA in
theorem v47_at (s : Fin 4096) : res_main_v47 V0 (ix3 (0 : Fin 1) s (0 : Fin 1)) = ((min (s.val + 1) 8 : ℕ) : EReal) := by
  refine Eq.trans ?_ (cnt_word s.val 8 s.isLt (by decide))
  pointwise [res_main_v47, res_main_v4]
omit hA in
theorem v63_at (s : Fin 4096) : res_main_v63 V0 (ix3 (0 : Fin 1) s (0 : Fin 1)) = ((min (s.val + 1) 16 : ℕ) : EReal) := by
  refine Eq.trans ?_ (cnt_word s.val 16 s.isLt (by decide))
  pointwise [res_main_v63, res_main_v4]

omit hA in
theorem hcnt (s w : ℕ) (hw : 0 < w) : ((min (s + 1) w : ℕ) : EReal) ≠ 0 := by
  have : (min (s + 1) w : ℕ) ≠ 0 := by omega
  exact_mod_cast this

omit hA in
/-- The difference of two running sums over the rows counted is the window's mean. -/
theorem mean_eq (hz : ∀ a b, b < 512 → Fi (rd (Zf m c) a b)) (w s k : ℕ) (hk : k < 512) (hw : 0 < w) :
    Ideal.div ((∑ n ∈ Finset.range (s + 1), rd (Zf m c) n k)
      - (if w ≤ s then ∑ n ∈ Finset.range (s - w + 1), rd (Zf m c) n k else 0)) ((min (s + 1) w : ℕ) : EReal)
      - rd (Zf m c) s k = dif (fun s => rd (Zf m c) s k) w s := by
  have e : (if w ≤ s then ∑ n ∈ Finset.range (s - w + 1), rd (Zf m c) n k else 0)
      = ∑ n ∈ Finset.range (s + 1 - w), rd (Zf m c) n k := by
    split
    · rw [show s + 1 - w = s - w + 1 by omega]
    · rw [show s + 1 - w = 0 by omega]; rfl
  rw [e, prefix_sub _ (fun n => hz n k hk)]
  unfold dif
  dsimp only
  rw [Idealize.ShloMosaic.Ideal.mul_one_div (hcnt s w hw)]

end Cert.ReferenceIdeal.PoolRef

end
-- ==== Proof.PoolRefB.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.PoolRefA
public import proofs.«01_k».proof.Proof.PoolMath
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.ReferenceIdeal.PoolRef

open Cert.ReferenceIdeal Cert.ReferenceIdeal.Gen Cert.ReferenceIdeal.Value
open Cert.KernelIdeal.Pool (rd Zf Pf Cf Mf Sf Wf Uf Vf Yf Ef Df Yc Dc dif win Fi rd_lt rd_ge prefix_sub suffix_sum window_sum shift_prefix)
open Idealize.ShloMosaic.Pointwise
open scoped BigOperators

variable (m : (ℓ : Loc Cert.KernelIdeal.nD Cert.KernelIdeal.τ Cert.KernelIdeal.sig) → Buf (Elt Ideal) ℓ) (c : Dev Cert.KernelIdeal.nD)
variable (V0 : Valuation τ sig (Elt Ideal))

/-- The arguments that a running sum passes through are finite. -/
structure Fins : Prop where
  z : ∀ a b, b < 512 → Fi (rd (Zf m c) a b)
  p : ∀ a b, Fi (rd (Pf m c) a b)
  x : ∀ g a b, Fi (Mf m c g a b)
  s : ∀ b, Fi (Sf m c b)

variable (hA : Args m c V0) (hF : Fins m c)

theorem v5_at (s : Fin 4096) (k : Fin 128) : res_main_v5 V0 (ix3 (0 : Fin 1) s k) = res_main_v3 V0 (ix3 (0 : Fin 1) s ⟨k.val, by omega⟩) := by
  unfold res_main_v5
  pointwise []

include hA hF in
theorem v73_0 (s : Fin 4096) (k : Fin 128) :
    res_main_v73 V0 (ix4 (0 : Fin 1) s (0 : Fin 4) k) = Df m c 2 0 s.val k.val := by
  refine Eq.trans ?_ ((mean_eq m c hF.z 2 s.val (0 + k.val) (by omega) (by decide)).trans rfl)
  pointwise [res_main_v73, res_main_v5]
  rw [v15_at V0, v3_at m c V0 hA s ⟨k.val, by omega⟩, v2_at m c V0 hA s ⟨k.val, by omega⟩]
  congr 2
  all_goals (try congr 1)
  by_cases h : s.val < 2
  · rw [dif_pos h, if_neg (by omega)]
  · rw [dif_neg h]
    exact (v3_at m c V0 hA ⟨s.val - 2, by omega⟩ ⟨k.val, by omega⟩).trans (if_pos (by omega)).symm

include hA hF in
theorem v73_1 (s : Fin 4096) (k : Fin 128) :
    res_main_v73 V0 (ix4 (0 : Fin 1) s (1 : Fin 4) k) = Df m c 4 128 s.val k.val := by
  refine Eq.trans ?_ ((mean_eq m c hF.z 4 s.val (128 + k.val) (by omega) (by decide)).trans rfl)
  pointwise [res_main_v73, res_main_v21]
  rw [v31_at V0, v3_at m c V0 hA s ⟨128 + k.val, by omega⟩, v2_at m c V0 hA s ⟨128 + k.val, by omega⟩]
  congr 2
  all_goals (try congr 1)
  by_cases h : s.val < 4
  · rw [dif_pos h, if_neg (by omega)]
  · rw [dif_neg h]
    exact (v3_at m c V0 hA ⟨s.val - 4, by omega⟩ ⟨128 + k.val, by omega⟩).trans (if_pos (by omega)).symm

include hA hF in
theorem v73_2 (s : Fin 4096) (k : Fin 128) :
    res_main_v73 V0 (ix4 (0 : Fin 1) s (2 : Fin 4) k) = Df m c 8 256 s.val k.val := by
  refine Eq.trans ?_ ((mean_eq m c hF.z 8 s.val (256 + k.val) (by omega) (by decide)).trans rfl)
  pointwise [res_main_v73, res_main_v37]
  rw [v47_at V0, v3_at m c V0 hA s ⟨256 + k.val, by omega⟩, v2_at m c V0 hA s ⟨256 + k.val, by omega⟩]
  congr 2
  all_goals (try congr 1)
  by_cases h : s.val < 8
  · rw [dif_pos h, if_neg (by omega)]
  · rw [dif_neg h]
    exact (v3_at m c V0 hA ⟨s.val - 8, by omega⟩ ⟨256 + k.val, by omega⟩).trans (if_pos (by omega)).symm

include hA hF in
theorem v73_3 (s : Fin 4096) (k : Fin 128) :
    res_main_v73 V0 (ix4 (0 : Fin 1) s (3 : Fin 4) k) = Df m c 16 384 s.val k.val := by
  refine Eq.trans ?_ ((mean_eq m c hF.z 16 s.val (384 + k.val) (by omega) (by decide)).trans rfl)
  pointwise [res_main_v73, res_main_v53]
  rw [v63_at V0, v3_at m c V0 hA s ⟨384 + k.val, by omega⟩, v2_at m c V0 hA s ⟨384 + k.val, by omega⟩]
  congr 2
  all_goals (try congr 1)
  by_cases h : s.val < 16
  · rw [dif_pos h, if_neg (by omega)]
  · rw [dif_neg h]
    exact (v3_at m c V0 hA ⟨s.val - 16, by omega⟩ ⟨384 + k.val, by omega⟩).trans (if_pos (by omega)).symm

include hA in
theorem v159_at (s : Fin 4096) (g : Fin 4) (l : Fin 128) :
    res_main_v159 V0 (ix4 g l (0 : Fin 1) s) = Yf m c s.val (128 * g.val + l.val) := by
  have e : 128 * g.val + l.val = g.val * 128 + l.val := by omega
  have hl : g.val * 128 + l.val < 512 := by omega
  unfold Yf
  rw [e, dif_pos hl, rd_lt _ s.isLt hl, ← hA.p, ← hA.s]
  pointwise [res_main_v159, res_main_v108, res_main_v77]

theorem sum2 {n : ℕ} (f g f' g' : Fin n → EReal) (hf : ∀ l, f l = f' l) (hg : ∀ l, g l = g' l) :
    ∑ l, f l * g l = ∑ l, f' l * g' l := Finset.sum_congr rfl fun l _ => by rw [hf, hg]

include hA in
theorem v161_at (s : Fin 4096) (g : Fin 4) (k : Fin 128) :
    res_main_v161 V0 (ix4 (0 : Fin 1) s g k) = Ef m c g (128 * g.val) s.val k := by
  pointwise [res_main_v161]
  unfold Ef
  exact sum2 (fun l => res_main_v159 V0 (ix4 g l (0 : Fin 1) s)) _ (fun l => Yf m c s.val (128 * g.val + l.val)) _
    (fun l => v159_at m c V0 hA s g l) (fun l => hA.x g k l)

theorem Yf_ge (s k : ℕ) (hs : 4096 ≤ s) : Yf m c s k = 0 := by
  unfold Yf; rw [rd_ge _ hs, zero_mul]
theorem Ef_ge (g : Fin 4) (off s : ℕ) (k : Fin 128) (hs : 4096 ≤ s) : Ef m c g off s k = 0 := by
  unfold Ef
  exact Finset.sum_eq_zero fun l _ => by rw [Yf_ge m c _ _ hs, zero_mul]

include hF in
theorem Yf_fi (s k : ℕ) : Fi (Yf m c s k) := by
  unfold Yf
  refine (hF.p s k).mul ?_
  split
  · exact hF.s _
  · exact Fi.zero
include hF in
theorem Ef_fi (g : Fin 4) (off s : ℕ) (k : Fin 128) : Fi (Ef m c g off s k) :=
  Fi.sum _ _ fun l _ => (Yf_fi m c hF _ _).mul (hF.x _ _ _)

theorem inv_fi (n : ℕ) (hn : (n : EReal) ≠ 0) : Fi (Ideal.div 1 (n : EReal)) := by
  refine ⟨((n : ℝ))⁻¹, ?_⟩
  unfold Ideal.div
  rw [if_neg hn, one_mul, ← EReal.coe_natCast, ← EReal.coe_inv]

/-- A row's share of its windows. -/
def hE (g : Fin 4) (off w : ℕ) (k : Fin 128) (s : ℕ) : EReal := Ef m c g off s k * Ideal.div 1 ((min (s + 1) w : ℕ) : EReal)

include hF in
theorem hE_fi (g : Fin 4) (off w : ℕ) (hw : 0 < w) (k : Fin 128) (s : ℕ) : Fi (hE m c g off w k s) :=
  (Ef_fi m c hF _ _ _ _).mul (inv_fi _ (hcnt s w hw))
theorem hE_ge (g : Fin 4) (off w : ℕ) (k : Fin 128) (s : ℕ) (hs : 4096 ≤ s) : hE m c g off w k s = 0 := by
  unfold hE; rw [Ef_ge m c _ _ _ _ hs, zero_mul]

theorem lag2 (x : FVec Ideal S1x4096x128 .f32) (s : Fin 4096) (q : Fin 128) :
    (extractStridedSlice S1x4096x128 ![0, 2, 0] (pad S1x4098x128 ![0, 0, 0] ![0, 2, 0] ![0, 0, 0] x (constant S_ .f32 0x00000000#32) pads_S1x4096x128_S1x4098x128_000_020_000 h_S_ : FVec Ideal S1x4098x128 .f32) slices_S1x4098x128_S1x4096x128_0_2_0) (ix3 (0 : Fin 1) s q)
      = if h : 2 + s.val < 4096 then x (ix3 (0 : Fin 1) ⟨2 + s.val, h⟩ q) else (0 : EReal) := by
  pointwise []

include hA in
theorem v165_at (s : Fin 4096) (k : Fin 128) : res_main_v165 V0 (ix3 (0 : Fin 1) s k) = Ef m c 0 0 s.val k := by
  refine Eq.trans ?_ (v161_at m c V0 hA s 0 k)
  unfold res_main_v165
  pointwise []

include hA in
theorem v210_at (s : Fin 4096) (k : Fin 128) : res_main_v210 V0 (ix3 (0 : Fin 1) s k) = hE m c 0 0 2 k s.val := by
  unfold hE
  rw [Idealize.ShloMosaic.Ideal.mul_one_div (hcnt s.val 2 (by decide)), ← v165_at m c V0 hA s k, ← v15_at V0 s]
  pointwise [res_main_v210]

include hA in
theorem H0_at (s : Fin 4096) (k : Fin 128) :
    (addf (res_main_v210 V0) (extractStridedSlice S1x4096x128 ![0, 2, 0] (res_main_v212 V0) slices_S1x4098x128_S1x4096x128_0_2_0) : FVec Ideal S1x4096x128 .f32) (ix3 (0 : Fin 1) s k)
      = hE m c 0 0 2 k s.val + -hE m c 0 0 2 k (s.val + 2) := by
  refine congrArg₂ (· + ·) (v210_at m c V0 hA s k) ?_
  unfold res_main_v212
  refine (lag2 _ s k).trans ?_
  split
  · next h =>
    refine congrArg (fun x : EReal => -x) ((v210_at m c V0 hA ⟨2 + s.val, h⟩ k).trans ?_)
    show hE m c 0 0 2 k (2 + s.val) = _
    rw [Nat.add_comm]
  · next h => rw [hE_ge m c _ _ _ _ _ (by omega), neg_zero]

theorem lag4 (x : FVec Ideal S1x4096x128 .f32) (s : Fin 4096) (q : Fin 128) :
    (extractStridedSlice S1x4096x128 ![0, 4, 0] (pad S1x4100x128 ![0, 0, 0] ![0, 4, 0] ![0, 0, 0] x (constant S_ .f32 0x00000000#32) pads_S1x4096x128_S1x4100x128_000_040_000 h_S_ : FVec Ideal S1x4100x128 .f32) slices_S1x4100x128_S1x4096x128_0_4_0) (ix3 (0 : Fin 1) s q)
      = if h : 4 + s.val < 4096 then x (ix3 (0 : Fin 1) ⟨4 + s.val, h⟩ q) else (0 : EReal) := by
  pointwise []

include hA in
theorem v167_at (s : Fin 4096) (k : Fin 128) : res_main_v167 V0 (ix3 (0 : Fin 1) s k) = Ef m c 1 128 s.val k := by
  refine Eq.trans ?_ (v161_at m c V0 hA s 1 k)
  unfold res_main_v167
  pointwise []

include hA in
theorem v198_at (s : Fin 4096) (k : Fin 128) : res_main_v198 V0 (ix3 (0 : Fin 1) s k) = hE m c 1 128 4 k s.val := by
  unfold hE
  rw [Idealize.ShloMosaic.Ideal.mul_one_div (hcnt s.val 4 (by decide)), ← v167_at m c V0 hA s k, ← v31_at V0 s]
  pointwise [res_main_v198]

include hA in
theorem H1_at (s : Fin 4096) (k : Fin 128) :
    (addf (res_main_v198 V0) (extractStridedSlice S1x4096x128 ![0, 4, 0] (res_main_v200 V0) slices_S1x4100x128_S1x4096x128_0_4_0) : FVec Ideal S1x4096x128 .f32) (ix3 (0 : Fin 1) s k)
      = hE m c 1 128 4 k s.val + -hE m c 1 128 4 k (s.val + 4) := by
  refine congrArg₂ (· + ·) (v198_at m c V0 hA s k) ?_
  unfold res_main_v200
  refine (lag4 _ s k).trans ?_
  split
  · next h =>
    refine congrArg (fun x : EReal => -x) ((v198_at m c V0 hA ⟨4 + s.val, h⟩ k).trans ?_)
    show hE m c 1 128 4 k (4 + s.val) = _
    rw [Nat.add_comm]
  · next h => rw [hE_ge m c _ _ _ _ _ (by omega), neg_zero]

theorem lag8 (x : FVec Ideal S1x4096x128 .f32) (s : Fin 4096) (q : Fin 128) :
    (extractStridedSlice S1x4096x128 ![0, 8, 0] (pad S1x4104x128 ![0, 0, 0] ![0, 8, 0] ![0, 0, 0] x (constant S_ .f32 0x00000000#32) pads_S1x4096x128_S1x4104x128_000_080_000 h_S_ : FVec Ideal S1x4104x128 .f32) slices_S1x4104x128_S1x4096x128_0_8_0) (ix3 (0 : Fin 1) s q)
      = if h : 8 + s.val < 4096 then x (ix3 (0 : Fin 1) ⟨8 + s.val, h⟩ q) else (0 : EReal) := by
  pointwise []

include hA in
theorem v169_at (s : Fin 4096) (k : Fin 128) : res_main_v169 V0 (ix3 (0 : Fin 1) s k) = Ef m c 2 256 s.val k := by
  refine Eq.trans ?_ (v161_at m c V0 hA s 2 k)
  unfold res_main_v169
  pointwise []

include hA in
theorem v186_at (s : Fin 4096) (k : Fin 128) : res_main_v186 V0 (ix3 (0 : Fin 1) s k) = hE m c 2 256 8 k s.val := by
  unfold hE
  rw [Idealize.ShloMosaic.Ideal.mul_one_div (hcnt s.val 8 (by decide)), ← v169_at m c V0 hA s k, ← v47_at V0 s]
  pointwise [res_main_v186]

include hA in
theorem H2_at (s : Fin 4096) (k : Fin 128) :
    (addf (res_main_v186 V0) (extractStridedSlice S1x4096x128 ![0, 8, 0] (res_main_v188 V0) slices_S1x4104x128_S1x4096x128_0_8_0) : FVec Ideal S1x4096x128 .f32) (ix3 (0 : Fin 1) s k)
      = hE m c 2 256 8 k s.val + -hE m c 2 256 8 k (s.val + 8) := by
  refine congrArg₂ (· + ·) (v186_at m c V0 hA s k) ?_
  unfold res_main_v188
  refine (lag8 _ s k).trans ?_
  split
  · next h =>
    refine congrArg (fun x : EReal => -x) ((v186_at m c V0 hA ⟨8 + s.val, h⟩ k).trans ?_)
    show hE m c 2 256 8 k (8 + s.val) = _
    rw [Nat.add_comm]
  · next h => rw [hE_ge m c _ _ _ _ _ (by omega), neg_zero]

theorem lag16 (x : FVec Ideal S1x4096x128 .f32) (s : Fin 4096) (q : Fin 128) :
    (extractStridedSlice S1x4096x128 ![0, 16, 0] (pad S1x4112x128 ![0, 0, 0] ![0, 16, 0] ![0, 0, 0] x (constant S_ .f32 0x00000000#32) pads_S1x4096x128_S1x4112x128_000_0160_000 h_S_ : FVec Ideal S1x4112x128 .f32) slices_S1x4112x128_S1x4096x128_0_16_0) (ix3 (0 : Fin 1) s q)
      = if h : 16 + s.val < 4096 then x (ix3 (0 : Fin 1) ⟨16 + s.val, h⟩ q) else (0 : EReal) := by
  pointwise []

include hA in
theorem v171_at (s : Fin 4096) (k : Fin 128) : res_main_v171 V0 (ix3 (0 : Fin 1) s k) = Ef m c 3 384 s.val k := by
  refine Eq.trans ?_ (v161_at m c V0 hA s 3 k)
  unfold res_main_v171
  pointwise []

include hA in
theorem v175_at (s : Fin 4096) (k : Fin 128) : res_main_v175 V0 (ix3 (0 : Fin 1) s k) = hE m c 3 384 16 k s.val := by
  unfold hE
  rw [Idealize.ShloMosaic.Ideal.mul_one_div (hcnt s.val 16 (by decide)), ← v171_at m c V0 hA s k, ← v63_at V0 s]
  pointwise [res_main_v175]

include hA in
theorem H3_at (s : Fin 4096) (k : Fin 128) :
    (addf (res_main_v175 V0) (extractStridedSlice S1x4096x128 ![0, 16, 0] (res_main_v177 V0) slices_S1x4112x128_S1x4096x128_0_16_0) : FVec Ideal S1x4096x128 .f32) (ix3 (0 : Fin 1) s k)
      = hE m c 3 384 16 k s.val + -hE m c 3 384 16 k (s.val + 16) := by
  refine congrArg₂ (· + ·) (v175_at m c V0 hA s k) ?_
  unfold res_main_v177
  refine (lag16 _ s k).trans ?_
  split
  · next h =>
    refine congrArg (fun x : EReal => -x) ((v175_at m c V0 hA ⟨16 + s.val, h⟩ k).trans ?_)
    show hE m c 3 384 16 k (16 + s.val) = _
    rw [Nat.add_comm]
  · next h => rw [hE_ge m c _ _ _ _ _ (by omega), neg_zero]

/-- Four groups of columns, each padded to all of them, and summed. -/
def S4 (x3 x2 x1 x0 : FVec Ideal S1x4096x128 .f32) : FVec Ideal S1x4096x512 .f32 :=
  addf (addf (addf (pad S1x4096x512 ![0, 0, 384] ![0, 0, 0] ![0, 0, 0] x3 (constant S_ .f32 0x00000000#32) pads_S1x4096x128_S1x4096x512_000_000_38400 h_S_) (pad S1x4096x512 ![0, 0, 256] ![0, 0, 128] ![0, 0, 0] x2 (constant S_ .f32 0x00000000#32) pads_S1x4096x128_S1x4096x512_000_000_2561280 h_S_)) (pad S1x4096x512 ![0, 0, 128] ![0, 0, 256] ![0, 0, 0] x1 (constant S_ .f32 0x00000000#32) pads_S1x4096x128_S1x4096x512_000_000_1282560 h_S_)) (pad S1x4096x512 ![0, 0, 0] ![0, 0, 384] ![0, 0, 0] x0 (constant S_ .f32 0x00000000#32) pads_S1x4096x128_S1x4096x512_000_000_03840 h_S_)

theorem S4_at (x3 x2 x1 x0 : FVec Ideal S1x4096x128 .f32) (s : Fin 4096) (q : Fin 512) :
    S4 x3 x2 x1 x0 (ix3 (0 : Fin 1) s q)
      = (((if h : 384 ≤ q.val ∧ q.val - 384 < 128 then x3 (ix3 (0 : Fin 1) s ⟨q.val - 384, h.2⟩) else (0 : EReal))
        + (if h : 256 ≤ q.val ∧ q.val - 256 < 128 then x2 (ix3 (0 : Fin 1) s ⟨q.val - 256, h.2⟩) else (0 : EReal)))
        + (if h : 128 ≤ q.val ∧ q.val - 128 < 128 then x1 (ix3 (0 : Fin 1) s ⟨q.val - 128, h.2⟩) else (0 : EReal)))
        + (if h : q.val < 128 then x0 (ix3 (0 : Fin 1) s ⟨q.val, h⟩) else (0 : EReal)) := by
  pointwise [S4]

theorem S4_0 (x3 x2 x1 x0 : FVec Ideal S1x4096x128 .f32) (s : Fin 4096) (q : Fin 128) :
    S4 x3 x2 x1 x0 (ix3 (0 : Fin 1) s ⟨0 + q.val, by omega⟩) = x0 (ix3 (0 : Fin 1) s q) := by
  rw [S4_at]
  rw [dif_neg (show ¬(384 ≤ 0 + q.val ∧ 0 + q.val - 384 < 128) by omega)]
  rw [dif_neg (show ¬(256 ≤ 0 + q.val ∧ 0 + q.val - 256 < 128) by omega)]
  rw [dif_neg (show ¬(128 ≤ 0 + q.val ∧ 0 + q.val - 128 < 128) by omega)]
  rw [dif_pos (show 0 + q.val < 128 by omega)]
  simp only [zero_add, add_zero]

theorem S4_1 (x3 x2 x1 x0 : FVec Ideal S1x4096x128 .f32) (s : Fin 4096) (q : Fin 128) :
    S4 x3 x2 x1 x0 (ix3 (0 : Fin 1) s ⟨128 + q.val, by omega⟩) = x1 (ix3 (0 : Fin 1) s q) := by
  rw [S4_at]
  rw [dif_neg (show ¬(384 ≤ 128 + q.val ∧ 128 + q.val - 384 < 128) by omega)]
  rw [dif_neg (show ¬(256 ≤ 128 + q.val ∧ 128 + q.val - 256 < 128) by omega)]
  rw [dif_pos (show 128 ≤ 128 + q.val ∧ 128 + q.val - 128 < 128 by omega)]
  rw [dif_neg (show ¬(128 + q.val < 128) by omega)]
  simp only [zero_add, add_zero]
  congr 2
  exact Fin.ext (by show 128 + q.val - 128 = q.val; omega)

theorem S4_2 (x3 x2 x1 x0 : FVec Ideal S1x4096x128 .f32) (s : Fin 4096) (q : Fin 128) :
    S4 x3 x2 x1 x0 (ix3 (0 : Fin 1) s ⟨256 + q.val, by omega⟩) = x2 (ix3 (0 : Fin 1) s q) := by
  rw [S4_at]
  rw [dif_neg (show ¬(384 ≤ 256 + q.val ∧ 256 + q.val - 384 < 128) by omega)]
  rw [dif_pos (show 256 ≤ 256 + q.val ∧ 256 + q.val - 256 < 128 by omega)]
  rw [dif_neg (show ¬(128 ≤ 256 + q.val ∧ 256 + q.val - 128 < 128) by omega)]
  rw [dif_neg (show ¬(256 + q.val < 128) by omega)]
  simp only [zero_add, add_zero]
  congr 2
  exact Fin.ext (by show 256 + q.val - 256 = q.val; omega)

theorem S4_3 (x3 x2 x1 x0 : FVec Ideal S1x4096x128 .f32) (s : Fin 4096) (q : Fin 128) :
    S4 x3 x2 x1 x0 (ix3 (0 : Fin 1) s ⟨384 + q.val, by omega⟩) = x3 (ix3 (0 : Fin 1) s q) := by
  rw [S4_at]
  rw [dif_pos (show 384 ≤ 384 + q.val ∧ 384 + q.val - 384 < 128 by omega)]
  rw [dif_neg (show ¬(256 ≤ 384 + q.val ∧ 384 + q.val - 256 < 128) by omega)]
  rw [dif_neg (show ¬(128 ≤ 384 + q.val ∧ 384 + q.val - 128 < 128) by omega)]
  rw [dif_neg (show ¬(384 + q.val < 128) by omega)]
  simp only [zero_add, add_zero]
  congr 2
  exact Fin.ext (by show 384 + q.val - 384 = q.val; omega)

/-- The summand of the reversed running sum. -/
def HH : FVec Ideal S1x4096x512 .f32 :=
  S4 (addf (res_main_v175 V0) (extractStridedSlice S1x4096x128 ![0, 16, 0] (res_main_v177 V0) slices_S1x4112x128_S1x4096x128_0_16_0))
    (addf (res_main_v186 V0) (extractStridedSlice S1x4096x128 ![0, 8, 0] (res_main_v188 V0) slices_S1x4104x128_S1x4096x128_0_8_0))
    (addf (res_main_v198 V0) (extractStridedSlice S1x4096x128 ![0, 4, 0] (res_main_v200 V0) slices_S1x4100x128_S1x4096x128_0_4_0))
    (addf (res_main_v210 V0) (extractStridedSlice S1x4096x128 ![0, 2, 0] (res_main_v212 V0) slices_S1x4098x128_S1x4096x128_0_2_0))

/-- The pooling's part of the gradient of `z`. -/
def PP : FVec Ideal S1x4096x512 .f32 :=
  addf (S4 (Host.negf (res_main_v171 V0)) (Host.negf (res_main_v169 V0)) (Host.negf (res_main_v167 V0)) (Host.negf (res_main_v165 V0)))
    (Host.reduceWindowAdd ![1, 4096, 1] ![1, 1, 1] ![0, 0, 0] ![0, 4095, 0] (HH V0) (broadcastInDim S_ ![] bcast_S_S_ (constant S_ .f32 0x00000000#32)) reduceWindows_S1x4096x512_S1x4096x512_w1s1p0_0_w4096s1p0_4095_w1s1p0_0 h_S_)

theorem zsum (f : ℕ → EReal) (s : ℕ) : (∑ n ∈ Finset.range 4096, if 0 ≤ s + n then f (s + n - 0) else 0) = ∑ n ∈ Finset.range 4096, f (s + n) :=
  Finset.sum_congr rfl fun n _ => by rw [if_pos (Nat.zero_le _)]; rfl

include hA hF in
theorem PP0_at (s : Fin 4096) (q : Fin 128) :
    PP V0 (ix3 (0 : Fin 1) s ⟨0 + q.val, by omega⟩) = win (fun s => Ef m c 0 0 s q) 2 s.val := by
  have e := window_sum 0 4095 (HH V0) _ reduceWindows_S1x4096x512_S1x4096x512_w1s1p0_0_w4096s1p0_4095_w1s1p0_0 h_S_ zero_at
    (ix3 (0 : Fin 1) s (⟨0 + q.val, by omega⟩ : Fin 512)) (fun n => hE m c 0 0 2 q n + -hE m c 0 0 2 q (n + 2))
    (fun n => (S4_0 _ _ _ _ n q).trans (H0_at m c V0 hA n q))
    (fun n hn => by rw [hE_ge m c _ _ _ _ _ hn, hE_ge m c _ _ _ _ _ (Nat.le_add_right_of_le hn), neg_zero, add_zero])
  have z := zsum (fun n => hE m c 0 0 2 q n + -hE m c 0 0 2 q (n + 2)) s.val
  have x := suffix_sum (hE m c 0 0 2 q) (hE_fi m c hF 0 0 2 (by decide) q) 4096 (hE_ge m c 0 0 2 q) s.val 2
  have y : S4 (Host.negf (res_main_v171 V0)) (Host.negf (res_main_v169 V0)) (Host.negf (res_main_v167 V0)) (Host.negf (res_main_v165 V0))
      (ix3 (0 : Fin 1) s ⟨0 + q.val, by omega⟩) = -Ef m c 0 0 s.val q :=
    (S4_0 _ _ _ _ s q).trans (congrArg (fun x : EReal => -x) (v165_at m c V0 hA s q))
  refine (congrArg₂ (fun a b : EReal => a + b) y ((e.trans z).trans x)).trans ?_
  unfold win hE
  rw [add_comm, ← sub_eq_add_neg]

include hA hF in
theorem PP1_at (s : Fin 4096) (q : Fin 128) :
    PP V0 (ix3 (0 : Fin 1) s ⟨128 + q.val, by omega⟩) = win (fun s => Ef m c 1 128 s q) 4 s.val := by
  have e := window_sum 0 4095 (HH V0) _ reduceWindows_S1x4096x512_S1x4096x512_w1s1p0_0_w4096s1p0_4095_w1s1p0_0 h_S_ zero_at
    (ix3 (0 : Fin 1) s (⟨128 + q.val, by omega⟩ : Fin 512)) (fun n => hE m c 1 128 4 q n + -hE m c 1 128 4 q (n + 4))
    (fun n => (S4_1 _ _ _ _ n q).trans (H1_at m c V0 hA n q))
    (fun n hn => by rw [hE_ge m c _ _ _ _ _ hn, hE_ge m c _ _ _ _ _ (Nat.le_add_right_of_le hn), neg_zero, add_zero])
  have z := zsum (fun n => hE m c 1 128 4 q n + -hE m c 1 128 4 q (n + 4)) s.val
  have x := suffix_sum (hE m c 1 128 4 q) (hE_fi m c hF 1 128 4 (by decide) q) 4096 (hE_ge m c 1 128 4 q) s.val 4
  have y : S4 (Host.negf (res_main_v171 V0)) (Host.negf (res_main_v169 V0)) (Host.negf (res_main_v167 V0)) (Host.negf (res_main_v165 V0))
      (ix3 (0 : Fin 1) s ⟨128 + q.val, by omega⟩) = -Ef m c 1 128 s.val q :=
    (S4_1 _ _ _ _ s q).trans (congrArg (fun x : EReal => -x) (v167_at m c V0 hA s q))
  refine (congrArg₂ (fun a b : EReal => a + b) y ((e.trans z).trans x)).trans ?_
  unfold win hE
  rw [add_comm, ← sub_eq_add_neg]

include hA hF in
theorem PP2_at (s : Fin 4096) (q : Fin 128) :
    PP V0 (ix3 (0 : Fin 1) s ⟨256 + q.val, by omega⟩) = win (fun s => Ef m c 2 256 s q) 8 s.val := by
  have e := window_sum 0 4095 (HH V0) _ reduceWindows_S1x4096x512_S1x4096x512_w1s1p0_0_w4096s1p0_4095_w1s1p0_0 h_S_ zero_at
    (ix3 (0 : Fin 1) s (⟨256 + q.val, by omega⟩ : Fin 512)) (fun n => hE m c 2 256 8 q n + -hE m c 2 256 8 q (n + 8))
    (fun n => (S4_2 _ _ _ _ n q).trans (H2_at m c V0 hA n q))
    (fun n hn => by rw [hE_ge m c _ _ _ _ _ hn, hE_ge m c _ _ _ _ _ (Nat.le_add_right_of_le hn), neg_zero, add_zero])
  have z := zsum (fun n => hE m c 2 256 8 q n + -hE m c 2 256 8 q (n + 8)) s.val
  have x := suffix_sum (hE m c 2 256 8 q) (hE_fi m c hF 2 256 8 (by decide) q) 4096 (hE_ge m c 2 256 8 q) s.val 8
  have y : S4 (Host.negf (res_main_v171 V0)) (Host.negf (res_main_v169 V0)) (Host.negf (res_main_v167 V0)) (Host.negf (res_main_v165 V0))
      (ix3 (0 : Fin 1) s ⟨256 + q.val, by omega⟩) = -Ef m c 2 256 s.val q :=
    (S4_2 _ _ _ _ s q).trans (congrArg (fun x : EReal => -x) (v169_at m c V0 hA s q))
  refine (congrArg₂ (fun a b : EReal => a + b) y ((e.trans z).trans x)).trans ?_
  unfold win hE
  rw [add_comm, ← sub_eq_add_neg]

include hA hF in
theorem PP3_at (s : Fin 4096) (q : Fin 128) :
    PP V0 (ix3 (0 : Fin 1) s ⟨384 + q.val, by omega⟩) = win (fun s => Ef m c 3 384 s q) 16 s.val := by
  have e := window_sum 0 4095 (HH V0) _ reduceWindows_S1x4096x512_S1x4096x512_w1s1p0_0_w4096s1p0_4095_w1s1p0_0 h_S_ zero_at
    (ix3 (0 : Fin 1) s (⟨384 + q.val, by omega⟩ : Fin 512)) (fun n => hE m c 3 384 16 q n + -hE m c 3 384 16 q (n + 16))
    (fun n => (S4_3 _ _ _ _ n q).trans (H3_at m c V0 hA n q))
    (fun n hn => by rw [hE_ge m c _ _ _ _ _ hn, hE_ge m c _ _ _ _ _ (Nat.le_add_right_of_le hn), neg_zero, add_zero])
  have z := zsum (fun n => hE m c 3 384 16 q n + -hE m c 3 384 16 q (n + 16)) s.val
  have x := suffix_sum (hE m c 3 384 16 q) (hE_fi m c hF 3 384 16 (by decide) q) 4096 (hE_ge m c 3 384 16 q) s.val 16
  have y : S4 (Host.negf (res_main_v171 V0)) (Host.negf (res_main_v169 V0)) (Host.negf (res_main_v167 V0)) (Host.negf (res_main_v165 V0))
      (ix3 (0 : Fin 1) s ⟨384 + q.val, by omega⟩) = -Ef m c 3 384 s.val q :=
    (S4_3 _ _ _ _ s q).trans (congrArg (fun x : EReal => -x) (v171_at m c V0 hA s q))
  refine (congrArg₂ (fun a b : EReal => a + b) y ((e.trans z).trans x)).trans ?_
  unfold win hE
  rw [add_comm, ← sub_eq_add_neg]

end Cert.ReferenceIdeal.PoolRef

end
-- ==== Proof.PoolRefC.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.PoolRefB
public import proofs.«01_k».proof.Proof.PoolMath
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.ReferenceIdeal.PoolRef

open Cert.ReferenceIdeal Cert.ReferenceIdeal.Gen Cert.ReferenceIdeal.Value
open Cert.KernelIdeal.Pool (rd Zf Pf Cf Mf Sf Wf Uf Vf Yf Ef Df Yc Dc dif win Fi rd_lt rd_ge prefix_sub suffix_sum window_sum shift_prefix)
open Idealize.ShloMosaic.Pointwise
open scoped BigOperators
open Cert.KernelIdeal.Pool (Gf Dq Tq)

variable (m : (ℓ : Loc Cert.KernelIdeal.nD Cert.KernelIdeal.τ Cert.KernelIdeal.sig) → Buf (Elt Ideal) ℓ) (c : Dev Cert.KernelIdeal.nD)
variable (V0 : Valuation τ sig (Elt Ideal))

variable (hA : Args m c V0) (hF : Fins m c)

include hA in
theorem v90_at (q : Fin 512) : res_main_v90 V0 (ix3 (0 : Fin 1) (0 : Fin 1) q) = Wf m c 2 q := by
  rw [← hA.w]
  pointwise [res_main_v90]
include hA in
theorem v96_at (q : Fin 512) : res_main_v96 V0 (ix3 (0 : Fin 1) (0 : Fin 1) q) = Wf m c 0 q := by
  rw [← hA.w]
  pointwise [res_main_v96]
include hA in
theorem v103_at (q : Fin 512) : res_main_v103 V0 (ix3 (0 : Fin 1) (0 : Fin 1) q) = Wf m c 1 q := by
  rw [← hA.w]
  pointwise [res_main_v103]
include hA in
theorem v108_at (s : Fin 4096) (q : Fin 512) : res_main_v108 V0 (ix3 (0 : Fin 1) s q) = rd (Pf m c) s.val q.val := by
  rw [rd_lt _ s.isLt q.isLt, ← hA.p]
  pointwise [res_main_v108]
include hA in
theorem v109_at (s : Fin 4096) (q : Fin 512) : res_main_v109 V0 (ix3 (0 : Fin 1) s q) = rd (Cf m c) s.val q.val := by
  rw [rd_lt _ s.isLt q.isLt, ← hA.q]
  pointwise [res_main_v109]
include hA in
theorem v110_at (s : Fin 4096) (q : Fin 512) : res_main_v110 V0 (ix3 (0 : Fin 1) s q) = Vf m c s.val q.val := by
  unfold Vf
  rw [← v109_at m c V0 hA, ← v80_at m c V0 hA]
  exact mul_comm (G := EReal) _ _

include hA in
theorem v89_at (s : Fin 4096) (q : Fin 512) : res_main_v89 V0 (ix3 (0 : Fin 1) s q) = Uf m c s.val 0 q.val := by
  unfold Uf
  by_cases h : 0 ≤ s.val
  · rw [if_pos h]
    refine Eq.trans ?_ (congrArg₂ (fun a b : EReal => a * b) (v81_at m c V0 hA ⟨s.val - 0, by omega⟩ q) (v82_at m c V0 hA ⟨s.val - 0, by omega⟩ q))
    pointwise [res_main_v89, res_main_v85]
    try (rw [dif_neg (by omega)])
  · rw [if_neg h]
    omega

include hA in
theorem v95_at (s : Fin 4096) (q : Fin 512) : res_main_v95 V0 (ix3 (0 : Fin 1) s q) = Uf m c s.val 2 q.val := by
  unfold Uf
  by_cases h : 2 ≤ s.val
  · rw [if_pos h]
    refine Eq.trans ?_ (congrArg₂ (fun a b : EReal => a * b) (v81_at m c V0 hA ⟨s.val - 2, by omega⟩ q) (v82_at m c V0 hA ⟨s.val - 2, by omega⟩ q))
    pointwise [res_main_v95, res_main_v85]
    try (rw [dif_neg (by omega)])
  · rw [if_neg h]
    pointwise [res_main_v95, res_main_v85]
    try (rw [dif_pos (by omega)])

include hA in
theorem v102_at (s : Fin 4096) (q : Fin 512) : res_main_v102 V0 (ix3 (0 : Fin 1) s q) = Uf m c s.val 1 q.val := by
  unfold Uf
  by_cases h : 1 ≤ s.val
  · rw [if_pos h]
    refine Eq.trans ?_ (congrArg₂ (fun a b : EReal => a * b) (v81_at m c V0 hA ⟨s.val - 1, by omega⟩ q) (v82_at m c V0 hA ⟨s.val - 1, by omega⟩ q))
    pointwise [res_main_v102, res_main_v85]
    rw [dif_neg (by omega)]
    exact congrArg (fun i : Fin 4096 => (mulf (res_main_v81 V0) (res_main_v82 V0) : FVec Ideal S1x4096x512 .f32) (ix3 (0 : Fin 1) i q))
      (Fin.ext (by show 1 + s.val - 2 = s.val - 1; omega))
  · rw [if_neg h]
    pointwise [res_main_v102, res_main_v85]
    try (rw [dif_pos (by omega)])

include hA in
theorem v106_at (s : Fin 4096) (q : Fin 512) : res_main_v106 V0 (ix3 (0 : Fin 1) s q) = Yc m c s.val q := by
  unfold Yc
  rw [← v90_at m c V0 hA, ← v96_at m c V0 hA, ← v103_at m c V0 hA, ← v89_at m c V0 hA, ← v95_at m c V0 hA, ← v102_at m c V0 hA]
  pointwise [res_main_v106]

theorem Vf_ge (s k : ℕ) (hs : 4096 ≤ s) : Vf m c s k = 0 := by
  unfold Vf; rw [rd_ge _ hs, zero_mul]

include hA in
theorem v144_at (s : Fin 4096) (q : Fin 512) : res_main_v144 V0 (ix3 (0 : Fin 1) s q) = Dc m c s.val q := by
  have a1 : (if h : 1 ≤ 2 + s.val ∧ 2 + s.val - 1 < 4096 then @HMul.hMul EReal EReal EReal _ (res_main_v103 V0 (ix3 (0 : Fin 1) (0 : Fin 1) q)) (res_main_v110 V0 (ix3 (0 : Fin 1) (⟨2 + s.val - 1, h.2⟩ : Fin 4096) q)) else (0 : EReal))
      = Wf m c 1 q * Vf m c (s.val + 1) q.val := by
    split
    · next h =>
      rw [v103_at m c V0 hA, v110_at m c V0 hA]
      show _ * Vf m c (2 + s.val - 1) q.val = _
      rw [show 2 + s.val - 1 = s.val + 1 by omega]
    · next h => rw [Vf_ge m c _ _ (by omega), mul_zero]
  have a2 : (if h : 2 + s.val < 4096 then @HMul.hMul EReal EReal EReal _ (res_main_v96 V0 (ix3 (0 : Fin 1) (0 : Fin 1) q)) (res_main_v110 V0 (ix3 (0 : Fin 1) (⟨2 + s.val, h⟩ : Fin 4096) q)) else (0 : EReal))
      = Wf m c 0 q * Vf m c (s.val + 2) q.val := by
    split
    · next h =>
      rw [v96_at m c V0 hA, v110_at m c V0 hA]
      show _ * Vf m c (2 + s.val) q.val = _
      rw [show 2 + s.val = s.val + 2 by omega]
    · next h => rw [Vf_ge m c _ _ (by omega), mul_zero]
  have a3 : ((@HMul.hMul EReal EReal EReal _ (res_main_v90 V0 (ix3 (0 : Fin 1) (0 : Fin 1) q)) (res_main_v110 V0 (ix3 (0 : Fin 1) s q))) : EReal) = Wf m c 2 q * Vf m c s.val q.val := by
    rw [v90_at m c V0 hA, v110_at m c V0 hA]
  have e : Dc m c s.val q = Wf m c 1 q * Vf m c (s.val + 1) q.val + Wf m c 0 q * Vf m c (s.val + 2) q.val + Wf m c 2 q * Vf m c s.val q.val := by
    unfold Dc; ac_rfl
  rw [e, ← a1, ← a2, ← a3]
  pointwise [res_main_v144, res_main_v139]

/-- Four blocks of 512 columns, each padded to all of them, and summed. -/
def S5 (x y z w : FVec Ideal S1x4096x512 .f32) : FVec Ideal S1x4096x2048 .f32 :=
  addf (addf (addf (pad S1x4096x2048 ![0, 0, 1536] ![0, 0, 0] ![0, 0, 0] x (constant S_ .f32 0x00000000#32) pads_S1x4096x512_S1x4096x2048_000_000_153600 h_S_) (pad S1x4096x2048 ![0, 0, 1024] ![0, 0, 512] ![0, 0, 0] y (constant S_ .f32 0x00000000#32) pads_S1x4096x512_S1x4096x2048_000_000_10245120 h_S_)) (pad S1x4096x2048 ![0, 0, 512] ![0, 0, 1024] ![0, 0, 0] z (constant S_ .f32 0x00000000#32) pads_S1x4096x512_S1x4096x2048_000_000_51210240 h_S_)) (pad S1x4096x2048 ![0, 0, 0] ![0, 0, 1536] ![0, 0, 0] w (constant S_ .f32 0x00000000#32) pads_S1x4096x512_S1x4096x2048_000_000_015360 h_S_)

theorem S5_at (x y z w : FVec Ideal S1x4096x512 .f32) (s : Fin 4096) (q : Fin 2048) :
    S5 x y z w (ix3 (0 : Fin 1) s q)
      = (((if h : 1536 ≤ q.val ∧ q.val - 1536 < 512 then x (ix3 (0 : Fin 1) s ⟨q.val - 1536, h.2⟩) else (0 : EReal))
        + (if h : 1024 ≤ q.val ∧ q.val - 1024 < 512 then y (ix3 (0 : Fin 1) s ⟨q.val - 1024, h.2⟩) else (0 : EReal)))
        + (if h : 512 ≤ q.val ∧ q.val - 512 < 512 then z (ix3 (0 : Fin 1) s ⟨q.val - 512, h.2⟩) else (0 : EReal)))
        + (if h : q.val < 512 then w (ix3 (0 : Fin 1) s ⟨q.val, h⟩) else (0 : EReal)) := by
  pointwise [S5]

/-- The columns of `z` that the call reads, in the gradient. -/
def ZZ : FVec Ideal S1x4096x2048 .f32 :=
  S5 (mulf (res_main_v81 V0) (res_main_v144 V0)) (mulf (res_main_v144 V0) (res_main_v82 V0)) (mulf (res_main_v109 V0) (res_main_v106 V0)) (PP V0)

include hA hF in
theorem ZZ_at (s : Fin 4096) (q : Fin 2048) : ZZ V0 (ix3 (0 : Fin 1) s q) = Gf m c s.val q.val := by
  unfold ZZ
  rw [S5_at]
  have hq := q.isLt
  unfold Gf
  by_cases h1 : q.val < 512
  · rw [dif_neg (show ¬(1536 ≤ q.val ∧ q.val - 1536 < 512) by omega), dif_neg (show ¬(1024 ≤ q.val ∧ q.val - 1024 < 512) by omega),
      dif_neg (show ¬(512 ≤ q.val ∧ q.val - 512 < 512) by omega), dif_pos h1, zero_add, zero_add, zero_add]
    by_cases g0 : q.val < 128
    · rw [dif_pos g0]
      refine Eq.trans (congrArg (PP V0) ?_) (PP0_at m c V0 hA hF s ⟨q.val, g0⟩)
      exact congrArg (ix3 (0 : Fin 1) s) (Fin.ext (by show q.val = 0 + q.val; omega))
    by_cases g1 : q.val < 256
    · rw [dif_neg g0, dif_pos g1]
      refine Eq.trans (congrArg (PP V0) ?_) (PP1_at m c V0 hA hF s ⟨q.val - 128, by omega⟩)
      exact congrArg (ix3 (0 : Fin 1) s) (Fin.ext (by show q.val = 128 + (q.val - 128); omega))
    by_cases g2 : q.val < 384
    · rw [dif_neg g0, dif_neg g1, dif_pos g2]
      refine Eq.trans (congrArg (PP V0) ?_) (PP2_at m c V0 hA hF s ⟨q.val - 256, by omega⟩)
      exact congrArg (ix3 (0 : Fin 1) s) (Fin.ext (by show q.val = 256 + (q.val - 256); omega))
    · rw [dif_neg g0, dif_neg g1, dif_neg g2, dif_pos h1]
      refine Eq.trans (congrArg (PP V0) ?_) (PP3_at m c V0 hA hF s ⟨q.val - 384, by omega⟩)
      exact congrArg (ix3 (0 : Fin 1) s) (Fin.ext (by show q.val = 384 + (q.val - 384); omega))
  rw [dif_neg (show ¬(q.val < 128) by omega), dif_neg (show ¬(q.val < 256) by omega), dif_neg (show ¬(q.val < 384) by omega), dif_neg h1, dif_neg h1]
  by_cases h2 : q.val < 1024
  · rw [dif_neg (show ¬(1536 ≤ q.val ∧ q.val - 1536 < 512) by omega), dif_neg (show ¬(1024 ≤ q.val ∧ q.val - 1024 < 512) by omega),
      dif_pos (show 512 ≤ q.val ∧ q.val - 512 < 512 by omega), zero_add, zero_add, add_zero, dif_pos h2]
    exact congrArg₂ (fun a b : EReal => a * b) (v109_at m c V0 hA s ⟨q.val - 512, by omega⟩) (v106_at m c V0 hA s ⟨q.val - 512, by omega⟩)
  by_cases h3 : q.val < 1536
  · rw [dif_neg (show ¬(1536 ≤ q.val ∧ q.val - 1536 < 512) by omega), dif_pos (show 1024 ≤ q.val ∧ q.val - 1024 < 512 by omega),
      dif_neg (show ¬(512 ≤ q.val ∧ q.val - 512 < 512) by omega), zero_add, add_zero, add_zero, dif_neg h2, dif_pos h3]
    exact congrArg₂ (fun a b : EReal => a * b) (v144_at m c V0 hA s ⟨q.val - 1024, by omega⟩) (v82_at m c V0 hA s ⟨q.val - 1024, by omega⟩)
  · rw [dif_pos (show 1536 ≤ q.val ∧ q.val - 1536 < 512 by omega), dif_neg (show ¬(1024 ≤ q.val ∧ q.val - 1024 < 512) by omega),
      dif_neg (show ¬(512 ≤ q.val ∧ q.val - 512 < 512) by omega), add_zero, add_zero, add_zero, dif_neg h2, dif_neg h3, dif_pos hq]
    exact (congrArg₂ (fun a b : EReal => a * b) (v81_at m c V0 hA s ⟨q.val - 1536, by omega⟩) (v144_at m c V0 hA s ⟨q.val - 1536, by omega⟩)).trans (mul_comm _ _)

theorem cat_at (A : FVec Ideal S1x4096x2048 .f32) (B : FVec Ideal S4096x7424 .bf16) (s : Fin 4096) (k : Fin 7424) :
    (concatenate S4096x7424 1 [⟨S4096x2048, (truncf .bf16 (shapeCast _ A shapeCasts_S1x4096x2048_S4096x2048 : FVec Ideal S4096x2048 .f32) bitsLt_bf16_f32 : FVec Ideal S4096x2048 .bf16)⟩,
        ⟨S4096x5376, (extractStridedSlice S4096x5376 ![0, 2048] B slices_S4096x7424_S4096x5376_0_2048 : FVec Ideal S4096x5376 .bf16)⟩]
      concatenates_S4096x2048_S4096x5376_S4096x7424_d1 : FVec Ideal S4096x7424 .bf16) (ix2 s k)
      = if h : k.val < 2048 then A (ix3 (0 : Fin 1) s ⟨k.val, h⟩) else B (ix2 s k) := by
  pointwise []
  split
  · rfl
  · next h => exact congrArg (fun k => B (ix2 s k)) (Fin.ext (by show 2048 + (k.val - 2048) = k.val; omega))

theorem dmix_at (x : FVec Ideal S4x128x1x4096 .f32) (y : FVec Ideal S1x4096x4x128 .f32) (j : Fin 512) (k : Fin 128) :
    (shapeCast S512x128 (transpose S4x128x128 [0, 2, 1] (Host.dotGeneral dot_S4x128x1x4096_S1x4096x4x128_S4x128x128_23_01_1_3_0_2 none x y) transposes_S4x128x128_S4x128x128_0_2_1 : FVec Ideal S4x128x128 .f32) shapeCasts_S4x128x128_S512x128) (ix2 j k)
      = ∑ s : Fin 4096, x (ix4 ⟨j.val / 128, by omega⟩ k (0 : Fin 1) s) * y (ix4 (0 : Fin 1) s ⟨j.val / 128, by omega⟩ ⟨j.val % 128, by omega⟩) := by
  pointwise []
  exact Fin.sum_univ_one _

theorem unit_sum (x : FVec Ideal S1x1x512 .f32) (k : Fin 512) :
    Ideal.hostReduceAdd reducesTo_S1x1x512_S512_d0_1 x 0 (ix1 k) = x (ix3 (0 : Fin 1) (0 : Fin 1) k) := by
  have hd : ∀ i : S1x1x512.Idx, (Shape.ReducesTo.drop reducesTo_S1x1x512_S512_d0_1 i 0).val = (i 2).val := fun i => rfl
  have e : Finset.univ.filter (fun i : S1x1x512.Idx => Shape.ReducesTo.drop reducesTo_S1x1x512_S512_d0_1 i = ix1 k) = {ix3 (0 : Fin 1) (0 : Fin 1) k} := by
    ext i
    rw [Finset.mem_filter, Finset.mem_singleton]
    refine ⟨fun h => ?_, fun h => ⟨Finset.mem_univ _, ?_⟩⟩
    · have h2 : (i 2).val = k.val := by rw [← hd i, h.2]; rfl
      funext a
      match a with
      | ⟨0, _⟩ => exact Subsingleton.elim (α := Fin 1) _ _
      | ⟨1, _⟩ => exact Subsingleton.elim (α := Fin 1) _ _
      | ⟨2, _⟩ => exact Fin.ext h2
    · funext a
      match a with
      | ⟨0, _⟩ => exact Fin.ext (by rw [h]; rfl)
  unfold Ideal.hostReduceAdd
  rw [e, Finset.sum_singleton, zero_add]

theorem colsum_at (x : FVec Ideal S1x4096x512 .f32) (k : Fin 512) :
    (broadcastInDim S1x512 ![1] bcast_S512_S1x512_1 (Host.reduceAdd (shapeCast _ (Host.reduceAdd x (constant S_ .f32 0x00000000#32) reducesTo_S1x4096x512_S1x512_d1 h_S_) shapeCasts_S1x512_S1x1x512) (constant S_ .f32 0x00000000#32) reducesTo_S1x1x512_S512_d0_1 h_S_) : FVec Ideal S1x512 .f32) (ix2 (0 : Fin 1) k) = ∑ s : Fin 4096, x (ix3 (0 : Fin 1) s k) := by
  pointwise []
  refine (unit_sum _ k).trans ?_
  pointwise []

theorem dcw_at (x y z : FVec Ideal S1x512 .f32) (j : Fin 8) (k : Fin 512) :
    (pad S8x512 ![0, 0] ![5, 0] ![0, 0] (addf (addf (pad S3x512 ![1, 0] ![1, 0] ![0, 0] x (constant S_ .f32 0x00000000#32) pads_S1x512_S3x512_110_000 h_S_) (pad S3x512 ![0, 0] ![2, 0] ![0, 0] y (constant S_ .f32 0x00000000#32) pads_S1x512_S3x512_020_000 h_S_)) (pad S3x512 ![2, 0] ![0, 0] ![0, 0] z (constant S_ .f32 0x00000000#32) pads_S1x512_S3x512_200_000 h_S_)) (sitofp .f32 (constantI S_ 32 0#32)) pads_S3x512_S8x512_050_000 h_S_ : FVec Ideal S8x512 .f32) (ix2 j k)
      = if j.val = 0 then y (ix2 (0 : Fin 1) k) else if j.val = 1 then x (ix2 (0 : Fin 1) k) else if j.val = 2 then z (ix2 (0 : Fin 1) k) else (0 : EReal) := by
  pointwise []
  have z0 : (FloatOps.sitofp (F := Ideal) FTy.f32 0#32 : EReal) = 0 := by
    show (((0#32 : BitVec 32).toInt : ℝ) : EReal) = 0
    simp
  rw [z0]
  obtain ⟨j, hj⟩ := j
  dsimp only
  match j, hj with
  | 0, _ => simp
  | 1, _ => simp
  | 2, _ => simp
  | j + 3, _ => simp

/-! ## The four results -/

include hA hF in
theorem Dq_at (s : Fin 4096) (j : Fin 512) :
    res_main_v73 V0 (ix4 (0 : Fin 1) s (⟨j.val / 128, by omega⟩ : Fin 4) (⟨j.val % 128, by omega⟩ : Fin 128)) = Dq m c s.val j.val := by
  unfold Dq
  have hj := j.isLt
  by_cases g0 : j.val < 128
  · rw [if_pos g0]
    refine Eq.trans (congrArg (res_main_v73 V0) ?_) (v73_0 m c V0 hA hF s ⟨j.val, g0⟩)
    exact congrArg₂ (ix4 (0 : Fin 1) s) (Fin.ext (by show j.val / 128 = 0; omega)) (Fin.ext (by show j.val % 128 = j.val; omega))
  by_cases g1 : j.val < 256
  · rw [if_neg g0, if_pos g1]
    refine Eq.trans (congrArg (res_main_v73 V0) ?_) (v73_1 m c V0 hA hF s ⟨j.val - 128, by omega⟩)
    exact congrArg₂ (ix4 (0 : Fin 1) s) (Fin.ext (by show j.val / 128 = 1; omega)) (Fin.ext (by show j.val % 128 = j.val - 128; omega))
  by_cases g2 : j.val < 384
  · rw [if_neg g0, if_neg g1, if_pos g2]
    refine Eq.trans (congrArg (res_main_v73 V0) ?_) (v73_2 m c V0 hA hF s ⟨j.val - 256, by omega⟩)
    exact congrArg₂ (ix4 (0 : Fin 1) s) (Fin.ext (by show j.val / 128 = 2; omega)) (Fin.ext (by show j.val % 128 = j.val - 256; omega))
  · rw [if_neg g0, if_neg g1, if_neg g2]
    refine Eq.trans (congrArg (res_main_v73 V0) ?_) (v73_3 m c V0 hA hF s ⟨j.val - 384, by omega⟩)
    exact congrArg₂ (ix4 (0 : Fin 1) s) (Fin.ext (by show j.val / 128 = 3; omega)) (Fin.ext (by show j.val % 128 = j.val - 384; omega))

theorem mixsum (x : FVec Ideal S4x128x128 .f32) (y : FVec Ideal S1x4096x4x128 .f32) (s : Fin 4096) (q : Fin 512) :
    (shapeCast S1x4096x512 (transpose S1x4096x4x128 [2, 3, 0, 1] (Host.dotGeneral dot_S4x128x128_S1x4096x4x128_S4x128x1x4096_1_3_2_01_0_2 none x y) transposes_S4x128x1x4096_S1x4096x4x128_2_3_0_1 : FVec Ideal S1x4096x4x128 .f32) shapeCasts_S1x4096x4x128_S1x4096x512) (ix3 (0 : Fin 1) s q)
      = ∑ k : Fin 128, x (ix3 (⟨q.val / 128, by omega⟩ : Fin 4) k (⟨q.val % 128, by omega⟩ : Fin 128)) * y (ix4 (0 : Fin 1) s (⟨q.val / 128, by omega⟩ : Fin 4) k) := by
  pointwise []

include hA hF in
theorem v76_at (s : Fin 4096) (q : Fin 512) : res_main_v76 V0 (ix3 (0 : Fin 1) s q) = Tq m c s.val q.val := by
  unfold res_main_v76
  refine (mixsum _ _ s q).trans ?_
  unfold Tq
  have hq := q.isLt
  by_cases g0 : q.val < 128
  · rw [dif_pos g0]
    refine Finset.sum_congr rfl fun k _ => (mul_comm _ _).trans (congrArg₂ (fun a b : EReal => a * b) ?_ ?_)
    · refine Eq.trans (congrArg (res_main_v73 V0) ?_) (v73_0 m c V0 hA hF s k)
      exact congrArg (fun g => ix4 (0 : Fin 1) s g k) (Fin.ext (by show q.val / 128 = 0; omega))
    · refine Eq.trans (congrArg (V0 (Proc.devRef .tc main_arg3) : FVec Ideal S4x128x128 .f32) ?_) (hA.x 0 k ⟨q.val, g0⟩)
      exact congrArg₂ (fun a b => ix3 a k b) (Fin.ext (by show q.val / 128 = 0; omega)) (Fin.ext (by show q.val % 128 = q.val; omega))
  by_cases g1 : q.val < 256
  · rw [dif_neg g0, dif_pos g1]
    refine Finset.sum_congr rfl fun k _ => (mul_comm _ _).trans (congrArg₂ (fun a b : EReal => a * b) ?_ ?_)
    · refine Eq.trans (congrArg (res_main_v73 V0) ?_) (v73_1 m c V0 hA hF s k)
      exact congrArg (fun g => ix4 (0 : Fin 1) s g k) (Fin.ext (by show q.val / 128 = 1; omega))
    · refine Eq.trans (congrArg (V0 (Proc.devRef .tc main_arg3) : FVec Ideal S4x128x128 .f32) ?_) (hA.x 1 k ⟨q.val - 128, by omega⟩)
      exact congrArg₂ (fun a b => ix3 a k b) (Fin.ext (by show q.val / 128 = 1; omega)) (Fin.ext (by show q.val % 128 = q.val - 128; omega))
  by_cases g2 : q.val < 384
  · rw [dif_neg g0, dif_neg g1, dif_pos g2]
    refine Finset.sum_congr rfl fun k _ => (mul_comm _ _).trans (congrArg₂ (fun a b : EReal => a * b) ?_ ?_)
    · refine Eq.trans (congrArg (res_main_v73 V0) ?_) (v73_2 m c V0 hA hF s k)
      exact congrArg (fun g => ix4 (0 : Fin 1) s g k) (Fin.ext (by show q.val / 128 = 2; omega))
    · refine Eq.trans (congrArg (V0 (Proc.devRef .tc main_arg3) : FVec Ideal S4x128x128 .f32) ?_) (hA.x 2 k ⟨q.val - 256, by omega⟩)
      exact congrArg₂ (fun a b => ix3 a k b) (Fin.ext (by show q.val / 128 = 2; omega)) (Fin.ext (by show q.val % 128 = q.val - 256; omega))
  · rw [dif_neg g0, dif_neg g1, dif_neg g2, dif_pos hq]
    refine Finset.sum_congr rfl fun k _ => (mul_comm _ _).trans (congrArg₂ (fun a b : EReal => a * b) ?_ ?_)
    · refine Eq.trans (congrArg (res_main_v73 V0) ?_) (v73_3 m c V0 hA hF s k)
      exact congrArg (fun g => ix4 (0 : Fin 1) s g k) (Fin.ext (by show q.val / 128 = 3; omega))
    · refine Eq.trans (congrArg (V0 (Proc.devRef .tc main_arg3) : FVec Ideal S4x128x128 .f32) ?_) (hA.x 3 k ⟨q.val - 384, by omega⟩)
      exact congrArg₂ (fun a b => ix3 a k b) (Fin.ext (by show q.val / 128 = 3; omega)) (Fin.ext (by show q.val % 128 = q.val - 384; omega))

theorem dmix_eq (x : FVec Ideal S4x128x1x4096 .f32) (y : FVec Ideal S1x4096x4x128 .f32)
    (hx : ∀ (s : Fin 4096) (g : Fin 4) (l : Fin 128), x (ix4 g l (0 : Fin 1) s) = Yf m c s.val (128 * g.val + l.val))
    (hy : ∀ (s : Fin 4096) (j : Fin 512), y (ix4 (0 : Fin 1) s (⟨j.val / 128, by omega⟩ : Fin 4) (⟨j.val % 128, by omega⟩ : Fin 128)) = Dq m c s.val j.val)
    (j : Fin 512) (k : Fin 128) :
    (shapeCast S512x128 (transpose S4x128x128 [0, 2, 1] (Host.dotGeneral dot_S4x128x1x4096_S1x4096x4x128_S4x128x128_23_01_1_3_0_2 none x y) transposes_S4x128x128_S4x128x128_0_2_1 : FVec Ideal S4x128x128 .f32) shapeCasts_S4x128x128_S512x128) (ix2 j k)
      = ∑ s : Fin 4096, Dq m c s.val j.val * Yf m c s.val (j.val / 128 * 128 + k.val) := by
  refine (dmix_at _ _ j k).trans (Finset.sum_congr rfl fun s _ => ?_)
  rw [hx, hy, mul_comm]
  exact congrArg (fun a : EReal => Dq m c s.val j.val * a) (congrArg (Yf m c s.val) (by show 128 * (j.val / 128) + k.val = _; omega))

end Cert.ReferenceIdeal.PoolRef

end
-- ==== Proof.PoolFin.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.PoolRefC
public import proofs.«01_k».proof.Proof.PoolMath
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)

namespace Cert.ReferenceIdeal.PoolRef

open Cert.ReferenceIdeal Cert.ReferenceIdeal.Gen Cert.ReferenceIdeal.Value
open Cert.KernelIdeal.Pool (rd Zf Pf Cf Mf Sf Wf Uf Vf Yf Ef Df Yc Dc dif win Fi Fi.zero rd_lt rd_ge prefix_sub suffix_sum window_sum shift_prefix)
open Idealize.ShloMosaic.Pointwise
open scoped BigOperators
open Cert.KernelIdeal.Pool (Gf Dq Tq am asc ac dzF dz_arr dmix_arr dsc_arr dcw_arr sum_rows)

variable (m : (ℓ : Loc Cert.KernelIdeal.nD Cert.KernelIdeal.τ Cert.KernelIdeal.sig) → Buf (Elt Ideal) ℓ) (c : Dev Cert.KernelIdeal.nD)

theorem preFacts : Cert.Pre_finite.Facts := ⟨by decide, by decide, by decide, by decide⟩

/-- An absolute value below infinity is that of a finite value. -/
theorem fi_of_lt (x : EReal) (h : FloatOps.cmpf (F := Ideal) (φ := .f32) CmpFPredicate.olt (FloatOps.absf (F := Ideal) (φ := .f32) x) (FloatOps.ofBits (F := Ideal) .f32 0x7F800000#32) = 1#1) : Fi x := by
  have e : (FloatOps.ofBits (F := Ideal) .f32 0x7F800000#32 : EReal) = ⊤ := by
    show Ideal.ofBits .f32 0x7F800000#32 = ⊤
    simp [Ideal.ofBits, Ideal.ieee]
  rw [e] at h
  change Ideal.cmp CmpFPredicate.olt (max x (-x)) ⊤ = 1#1 at h
  have hl : max x (-x) < (⊤ : EReal) := by
    by_contra hc
    simp [Ideal.cmp, hc] at h
  have ht : x ≠ ⊤ := fun hx => by rw [hx] at hl; simp at hl
  have hb : x ≠ ⊥ := fun hx => by rw [hx] at hl; simp at hl
  exact ⟨x.toReal, (EReal.coe_toReal ht hb).symm⟩

theorem fins [Cert.Pre_finite.Facts] (hP : Cert.Pre_KernelIdeal_finite m) : Fins m c := by
  obtain ⟨h0, h1, h2, h3⟩ := hP c
  refine ⟨fun a b hb => ?_, fun a b => ?_, fun g a b => ?_, fun b => ?_⟩
  · by_cases ha : a < 4096
    · rw [rd_lt _ ha (by omega)]
      refine fi_of_lt _ (Eq.trans ?_ (congrFun h0 (ix2 ⟨a, ha⟩ ⟨b, hb⟩)))
      unfold Zf
      pointwise [Cert.Pre_finite.fn]
    · rw [rd_ge _ (by omega)]; exact Fi.zero
  · by_cases hab : a < 4096 ∧ b < 512
    · rw [rd_lt _ hab.1 hab.2]
      refine fi_of_lt _ (Eq.trans ?_ (congrFun h1 (ix2 ⟨a, hab.1⟩ ⟨b, hab.2⟩)))
      unfold Pf
      pointwise [Cert.Pre_finite.fn]
    · unfold rd; rw [dif_neg hab]; exact Fi.zero
  · refine fi_of_lt _ (Eq.trans ?_ (congrFun h2 (ix3 g a b)))
    unfold Mf
    pointwise [Cert.Pre_finite.fn]
  · refine fi_of_lt _ (Eq.trans ?_ (congrFun h3 (ix1 b)))
    unfold Sf
    pointwise [Cert.Pre_finite.fn]

variable (V0 : Valuation τ sig (Elt Ideal)) (hA : Args m c V0) (hF : Fins m c)
variable (h6 : (V0 (Proc.devRef .tc main_arg6) : FVec Ideal S4096x7424 .bf16) = m ((c.tc : Thread Cert.KernelIdeal.nD Cert.KernelIdeal.τ).loc Cert.KernelIdeal.main_arg6))

include hA hF h6 in
theorem res0 : (concatenate S4096x7424 1 [⟨S4096x2048, (truncf .bf16 (shapeCast _ (ZZ V0) shapeCasts_S1x4096x2048_S4096x2048 : FVec Ideal S4096x2048 .f32) bitsLt_bf16_f32 : FVec Ideal S4096x2048 .bf16)⟩,
        ⟨S4096x5376, (extractStridedSlice S4096x5376 ![0, 2048] (V0 (Proc.devRef .tc main_arg6) : FVec Ideal S4096x7424 .bf16) slices_S4096x7424_S4096x5376_0_2048 : FVec Ideal S4096x5376 .bf16)⟩]
      concatenates_S4096x2048_S4096x5376_S4096x7424_d1 : FVec Ideal S4096x7424 .bf16) = (Cert.KernelIdeal.Gen.dats m 0 c).arrAt 15 Cert.KernelIdeal.cfg0.N := by
  rw [dz_arr]
  funext j
  obtain ⟨s, k, rfl⟩ : ∃ (s : Fin 4096) (k : Fin 7424), j = ix2 s k := ⟨j 0, j 1, eq_ix2 j⟩
  refine (cat_at (ZZ V0) _ s k).trans ?_
  show _ = if k.val / 2048 < 1 then Gf m c s.val k.val else m ((c.tc : Thread Cert.KernelIdeal.nD Cert.KernelIdeal.τ).loc Cert.KernelIdeal.main_arg6) (ix2 s k)
  by_cases h : k.val < 2048
  · rw [dif_pos h, if_pos (by omega)]
    exact ZZ_at m c V0 hA hF s ⟨k.val, h⟩
  · rw [dif_neg h, if_neg (by omega), h6]

include hA hF in
theorem res1 (x : FVec Ideal S4x128x1x4096 .f32) (y : FVec Ideal S1x4096x4x128 .f32) (hx : x = res_main_v159 V0) (hy : y = res_main_v73 V0) :
    (shapeCast S512x128 (transpose S4x128x128 [0, 2, 1] (Host.dotGeneral dot_S4x128x1x4096_S1x4096x4x128_S4x128x128_23_01_1_3_0_2 none x y) transposes_S4x128x128_S4x128x128_0_2_1 : FVec Ideal S4x128x128 .f32) shapeCasts_S4x128x128_S512x128)
      = (Cert.KernelIdeal.Gen.dats m 0 c).arrAt 16 Cert.KernelIdeal.cfg0.N := by
  rw [dmix_arr]
  funext j
  obtain ⟨s, k, rfl⟩ : ∃ (s : Fin 512) (k : Fin 128), j = ix2 s k := ⟨j 0, j 1, eq_ix2 j⟩
  refine (dmix_eq m c x y (fun s g l => by rw [hx]; exact v159_at m c V0 hA s g l) (fun s j => by rw [hy]; exact Dq_at m c V0 hA hF s j) s k).trans ?_
  exact (sum_rows (fun n => Dq m c n s.val * Yf m c n (s.val / 128 * 128 + k.val))).symm

include hA hF in
theorem res2 (x : FVec Ideal S1x4096x512 .f32) (hx : x = mulf (res_main_v76 V0) (res_main_v108 V0)) :
    (broadcastInDim S1x512 ![1] bcast_S512_S1x512_1 (Host.reduceAdd (shapeCast _ (Host.reduceAdd x (constant S_ .f32 0x00000000#32) reducesTo_S1x4096x512_S1x512_d1 h_S_) shapeCasts_S1x512_S1x1x512) (constant S_ .f32 0x00000000#32) reducesTo_S1x1x512_S512_d0_1 h_S_) : FVec Ideal S1x512 .f32)
      = (Cert.KernelIdeal.Gen.dats m 0 c).arrAt 17 Cert.KernelIdeal.cfg0.N := by
  rw [dsc_arr]
  funext j
  obtain ⟨s, k, rfl⟩ : ∃ (s : Fin 1) (k : Fin 512), j = ix2 s k := ⟨j 0, j 1, eq_ix2 j⟩
  obtain rfl : s = 0 := Subsingleton.elim _ _
  refine (colsum_at x k).trans (Eq.trans ?_ (sum_rows (fun n => rd (Pf m c) n k.val * Tq m c n k.val)).symm)
  refine Finset.sum_congr rfl fun s _ => ?_
  rw [hx, mul_comm (rd (Pf m c) s.val k.val)]
  exact congrArg₂ (fun a b : EReal => a * b) (v76_at m c V0 hA hF s k) (v108_at m c V0 hA s k)

include hA in
theorem col (d : ℕ) (k : Fin 512) (u x : FVec Ideal S1x4096x512 .f32) (hu : ∀ s : Fin 4096, u (ix3 (0 : Fin 1) s k) = Uf m c s.val d k.val)
    (hx : x = mulf (res_main_v110 V0) u) :
    (broadcastInDim S1x512 ![1] bcast_S512_S1x512_1 (Host.reduceAdd (shapeCast _ (Host.reduceAdd x (constant S_ .f32 0x00000000#32) reducesTo_S1x4096x512_S1x512_d1 h_S_) shapeCasts_S1x512_S1x1x512) (constant S_ .f32 0x00000000#32) reducesTo_S1x1x512_S512_d0_1 h_S_) : FVec Ideal S1x512 .f32) (ix2 (0 : Fin 1) k)
      = ∑ t : Fin Cert.KernelIdeal.cfg0.N, ∑ r : Fin 512, Vf m c (512 * t.val + r.val) k.val * Uf m c (512 * t.val + r.val) d k.val := by
  refine (colsum_at x k).trans (Eq.trans ?_ (sum_rows (fun n => Vf m c n k.val * Uf m c n d k.val)).symm)
  refine Finset.sum_congr rfl fun s _ => ?_
  rw [hx]
  exact congrArg₂ (fun a b : EReal => a * b) (v110_at m c V0 hA s k) (hu s)

theorem res3 (x y z : FVec Ideal S1x512 .f32)
    (hx : ∀ k : Fin 512, x (ix2 (0 : Fin 1) k) = ∑ t : Fin Cert.KernelIdeal.cfg0.N, ∑ r : Fin 512, Vf m c (512 * t.val + r.val) k.val * Uf m c (512 * t.val + r.val) 1 k.val)
    (hy : ∀ k : Fin 512, y (ix2 (0 : Fin 1) k) = ∑ t : Fin Cert.KernelIdeal.cfg0.N, ∑ r : Fin 512, Vf m c (512 * t.val + r.val) k.val * Uf m c (512 * t.val + r.val) 2 k.val)
    (hz : ∀ k : Fin 512, z (ix2 (0 : Fin 1) k) = ∑ t : Fin Cert.KernelIdeal.cfg0.N, ∑ r : Fin 512, Vf m c (512 * t.val + r.val) k.val * Uf m c (512 * t.val + r.val) 0 k.val) :
    (pad S8x512 ![0, 0] ![5, 0] ![0, 0] (addf (addf (pad S3x512 ![1, 0] ![1, 0] ![0, 0] x (constant S_ .f32 0x00000000#32) pads_S1x512_S3x512_110_000 h_S_) (pad S3x512 ![0, 0] ![2, 0] ![0, 0] y (constant S_ .f32 0x00000000#32) pads_S1x512_S3x512_020_000 h_S_)) (pad S3x512 ![2, 0] ![0, 0] ![0, 0] z (constant S_ .f32 0x00000000#32) pads_S1x512_S3x512_200_000 h_S_)) (sitofp .f32 (constantI S_ 32 0#32)) pads_S3x512_S8x512_050_000 h_S_ : FVec Ideal S8x512 .f32)
      = (Cert.KernelIdeal.Gen.dats m 0 c).arrAt 18 Cert.KernelIdeal.cfg0.N := by
  rw [dcw_arr]
  funext j
  obtain ⟨s, k, rfl⟩ : ∃ (s : Fin 8) (k : Fin 512), j = ix2 s k := ⟨j 0, j 1, eq_ix2 j⟩
  refine (dcw_at x y z s k).trans ?_
  show _ = ∑ t : Fin Cert.KernelIdeal.cfg0.N, ac m c t s k
  unfold ac
  rw [hx, hy, hz]
  obtain ⟨j, hj⟩ := s
  dsimp only
  match j, hj with
  | 0, _ => rw [if_pos rfl]; exact Finset.sum_congr rfl fun t _ => (if_pos (by decide)).symm
  | 1, _ => rw [if_neg (by decide), if_pos rfl]; exact Finset.sum_congr rfl fun t _ => (if_pos (by decide)).symm
  | 2, _ => rw [if_neg (by decide), if_neg (by decide), if_pos rfl]; exact Finset.sum_congr rfl fun t _ => (if_pos (by decide)).symm
  | j + 3, _ =>
    rw [if_neg (by omega), if_neg (by omega), if_neg (by omega)]
    exact (Finset.sum_eq_zero fun t _ => if_neg (by omega)).symm

end Cert.ReferenceIdeal.PoolRef

end
-- ==== Proof.PoolClaim.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.PoolFin
public import proofs.«01_k».proof.Proof.PoolMath
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)

namespace Cert.ReferenceIdeal.PoolRef

open Cert.ReferenceIdeal Cert.ReferenceIdeal.Gen Cert.ReferenceIdeal.Value
open Cert.KernelIdeal.Pool (rd Zf Pf Cf Mf Sf Wf Uf Vf Yf Ef Df Yc Dc dif win Fi Fi.zero rd_lt rd_ge prefix_sub suffix_sum window_sum shift_prefix)
open Idealize.ShloMosaic.Pointwise Idealize.ShloMosaic.StableHlo
open scoped BigOperators
open Cert.KernelIdeal.Pool (Gf Dq Tq am asc ac dzF dz_arr dmix_arr dsc_arr dcw_arr sum_rows)

variable (m : (ℓ : Loc Cert.KernelIdeal.nD Cert.KernelIdeal.τ Cert.KernelIdeal.sig) → Buf (Elt Ideal) ℓ) (c : Dev Cert.KernelIdeal.nD)

variable (m' : (ℓ : Loc nD τ sig) → Buf (Elt Ideal) ℓ)

/-- The reference's argument arrays, named as the kernel's. -/
theorem args_of (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Args m c (launchContents m' c) := by
  obtain ⟨h0, h1, h2, h3, h4, h5, h6⟩ := h
  exact ⟨fun a b => congrFun h0 (ix2 a b), fun a b => congrFun h1 (ix2 a b), fun a b => congrFun h2 (ix2 a b),
    fun g a b => congrFun h3 (ix3 g a b), fun b => congrFun h4 (ix1 b), fun a b => congrFun h5 (ix2 a b)⟩

/-- The reference runs, its arguments end unchanged; it declares no semaphore. -/
theorem refFrame : @Cert.quiescent_ReferenceIdeal Cert.ReferenceIdeal.Gen.facts := fun m ρ _ =>
  (θ_run _ _ _).mono (fun r h => ⟨fun c => (h c).2.2.2.2, Idealize.ShloMosaic.sem_eq_zero_of_no_sems (by decide) r.2⟩)
    (Cert.ReferenceIdeal.Value.run m ρ)

/-- Kernel and reference end with equal results. -/
theorem alg : @Cert.algebraic_KernelIdeal_ReferenceIdeal_pre_finite Cert.KernelIdeal.Gen.facts Cert.ReferenceIdeal.Gen.facts preFacts := by
  intro m g m' g' hP hargs
  haveI := preFacts
  refine ⟨fun c => (Cert.KernelIdeal.Gen.dats m 0 c).arrAt 15 Cert.KernelIdeal.cfg0.N, fun c => (Cert.KernelIdeal.Gen.dats m 0 c).arrAt 16 Cert.KernelIdeal.cfg0.N,
    fun c => (Cert.KernelIdeal.Gen.dats m 0 c).arrAt 17 Cert.KernelIdeal.cfg0.N, fun c => (Cert.KernelIdeal.Gen.dats m 0 c).arrAt 18 Cert.KernelIdeal.cfg0.N,
    Cert.KernelIdeal.Value.run_blocks m g, (θ_run _ _ _).mono (fun r h c => ?_) (Cert.ReferenceIdeal.Value.run m' g')⟩
  have hA := args_of m c m' (hargs c)
  have hF := fins m c hP
  obtain ⟨r0, r1, r2, r3, ha⟩ := h c
  refine ⟨r0.trans ?_, r1.trans ?_, r2.trans ?_, r3.trans ?_, ha⟩
  · exact res0 m c _ hA hF (hargs c).2.2.2.2.2.2
  · exact res1 m c _ hA hF _ _ rfl rfl
  · exact res2 m c _ hA hF _ rfl
  · refine res3 m c _ _ _ (fun k => ?_) (fun k => ?_) (fun k => ?_)
    · exact col m c _ hA 1 k _ _ (fun s => v102_at m c _ hA s k) rfl
    · exact col m c _ hA 2 k _ _ (fun s => v95_at m c _ hA s k) rfl
    · exact col m c _ hA 0 k _ _ (fun s => v89_at m c _ hA s k) rfl

end Cert.ReferenceIdeal.PoolRef

end
-- ==== Proof.DInActMath.lean ====
module

public import proofs.«01_k».proof.Proof.Gen.DInActIdeal.Value
public import proofs.«01_k».proof.Proof.Gen.DInActRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.DInActIdeal.Math

open Cert.DInActIdeal Cert.DInActIdeal.Gen
open Idealize.ShloMosaic.Pointwise

variable (m : (ℓ : Loc nD τ sig) → Buf (Elt Ideal) ℓ)

/-- The reference's product over its two arguments. -/
abbrev REF (a0 : FVec Ideal Cert.DInActRefIdeal.S4096x7424 .bf16) (a1 : FVec Ideal Cert.DInActRefIdeal.S7424x1024 .bf16) : FVec Ideal Cert.DInActRefIdeal.S4096x1024 .f32 :=
  Host.dotGeneral Cert.DInActRefIdeal.dot_S4096x7424_S1024x7424_S4096x1024_1_1_0_0_n_n none
    (extf .f32 a0 Cert.DInActRefIdeal.Gen.bitsLt_bf16_f32)
    (extf .f32 (transpose Cert.DInActRefIdeal.S1024x7424 [1, 0] a1 Cert.DInActRefIdeal.Gen.transposes_S7424x1024_S1024x7424_1_0) Cert.DInActRefIdeal.Gen.bitsLt_bf16_f32)

theorem hpart (x0 : FVec Ideal S1024x3712 .bf16) (x1 : FVec Ideal S3712x1024 .bf16) (j : S1024x1024.Idx) :
    k0_pay2 (F := Ideal) x0 x1 j = ∑ k : Fin 3712, x0 (ix2 (j 0) k) * x1 (ix2 k (j 1)) := by
  pointwise [k0_pay2, k0_pay1]

theorem hstep (x0 : FVec Ideal S1024x3712 .bf16) (x1 : FVec Ideal S3712x1024 .bf16) (acc : FVec Ideal S1024x1024 .f32) (j : S1024x1024.Idx) :
    k0_pay3 (F := Ideal) x0 x1 acc j = acc j + ∑ k : Fin 3712, x0 (ix2 (j 0) k) * x1 (ix2 k (j 1)) := by
  pointwise [k0_pay3, k0_pay1]

theorem hlast (acc : FVec Ideal S1024x1024 .f32) (j : S1024x1024.Idx) : k0_pay4 (F := Ideal) acc j = acc j := by
  pointwise [k0_pay4]

theorem href (a0 : FVec Ideal Cert.DInActRefIdeal.S4096x7424 .bf16) (a1 : FVec Ideal Cert.DInActRefIdeal.S7424x1024 .bf16) (j : Cert.DInActRefIdeal.S4096x1024.Idx) :
    REF a0 a1 j = ∑ k : Fin 7424, a0 (ix2 (j 0) k) * a1 (ix2 k (j 1)) := by
  pointwise [REF]

theorem idx : ∀ t : Fin cfg0.N, win0_0.index t = ![t.val / 2, t.val % 2]
    ∧ win0_1.index t = ![t.val % 2, 0]
    ∧ win0_2.index t = ![t.val / 2, 0] :=
  (by decide +kernel : ∀ t : Fin grid0.N, _)

/-- What the scratch holds after a point: reset at the first point of a run, added into at the second. -/
theorem acc_reset (c : Dev nD) (t : Fin cfg0.N) (h : t.val % 2 = 0) (j : S1024x1024.Idx) :
    (outsAt0 m c t.val t.isLt).2 j = (0 : EReal) + ∑ k : Fin 3712, (show FVec Ideal S1024x3712 .bf16 from iblk m c 0 t) (ix2 (j 0) k) * (show FVec Ideal S3712x1024 .bf16 from iblk m c 1 t) (ix2 k (j 1)) := by
  rw [outsAt0_A m c t h (by omega) (by omega)]; frame_out; rw [hpart, zero_add]

theorem acc_step (c : Dev nD) (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + ∑ k : Fin 3712, (show FVec Ideal S1024x3712 .bf16 from iblk m c 0 t) (ix2 (j 0) k) * (show FVec Ideal S3712x1024 .bf16 from iblk m c 1 t) (ix2 k (j 1)) := by
  rw [outsAt0_B m c t h (by omega) (by omega)]; frame_out; rw [hstep, read_unread_whole]

theorem out_last (c : Dev nD) (t : Fin cfg0.N) (h : t.val % 2 = 1) (j : S1024x1024.Idx) :
    (outsAt0 m c t.val t.isLt).1 j = (outsAt0 m c t.val t.isLt).2 j := by
  rw [outsAt0_B m c t (by omega) h h]; frame_out; rw [hlast]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush (fun n h => (outsAt0 m c n h).2) 2 (fun _ => (0 : EReal)) (fun t j => ∑ k : Fin 3712, (show FVec Ideal S1024x3712 .bf16 from iblk m c 0 t) (ix2 (j 0) k) * (show FVec Ideal S3712x1024 .bf16 from iblk m c 1 t) (ix2 k (j 1)))
    (acc_reset m c) (acc_step m c) t ((flush0_2 t).mp hf) _, zero_add, href]
  refine Fin.sum_mul_add_congr fun s k hl => ?_
  blk_point [iblk, V, idx t, idx ⟨_, Pipeline.run_point_lt_of_flush t ((flush0_2 t).mp hf) s⟩]

/-- The reference runs, its arguments end unchanged; it declares no semaphore. -/
theorem refFrame : @Cert.quiescent_DInActRefIdeal Cert.DInActRefIdeal.Gen.facts := fun m ρ _ =>
  (θ_run _ _ _).mono (fun r h => ⟨fun c => (h c).2, Idealize.ShloMosaic.sem_eq_zero_of_no_sems (by decide) r.2⟩)
    (Cert.DInActRefIdeal.Value.run m ρ)

/-- Kernel and reference end with equal results. -/
theorem alg : @Cert.algebraic_DInActIdeal_DInActRefIdeal Cert.DInActIdeal.Gen.facts Cert.DInActRefIdeal.Gen.facts := by
  intro m g m' g' _ hargs
  refine ⟨fun c => (dats m 0 c).arrAt 2 cfg0.N, Cert.DInActIdeal.Value.run_blocks m g,
    (θ_run _ _ _).mono (fun r h c => ⟨(h c).1.trans ?_, (h c).2⟩) (Cert.DInActRefIdeal.Value.run m' g')⟩
  rw [(hargs c).1, (hargs c).2]
  exact (final m c).symm

end Cert.DInActIdeal.Math

end
-- ==== Proof.DInWMath.lean ====
module

public import proofs.«01_k».proof.Proof.Gen.DInWIdeal.Value
public import proofs.«01_k».proof.Proof.Gen.DInWRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.DInWIdeal.Math

open Cert.DInWIdeal Cert.DInWIdeal.Gen
open Idealize.ShloMosaic.Pointwise

variable (m : (ℓ : Loc nD τ sig) → Buf (Elt Ideal) ℓ)

/-- The reference's product over its two arguments. -/
abbrev REF (a0 : FVec Ideal Cert.DInWRefIdeal.S4096x1024 .bf16) (a1 : FVec Ideal Cert.DInWRefIdeal.S4096x7424 .bf16) : FVec Ideal Cert.DInWRefIdeal.S1024x7424 .bf16 :=
  truncf .bf16 (transpose Cert.DInWRefIdeal.S1024x7424 [1, 0] (Host.dotGeneral Cert.DInWRefIdeal.dot_S4096x7424_S4096x1024_S7424x1024_0_0_1_1_n_n none
    (extf .f32 a1 Cert.DInWRefIdeal.Gen.bitsLt_bf16_f32)
    (extf .f32 a0 Cert.DInWRefIdeal.Gen.bitsLt_bf16_f32)) Cert.DInWRefIdeal.Gen.transposes_S7424x1024_S1024x7424_1_0) Cert.DInWRefIdeal.Gen.bitsLt_bf16_f32

theorem hpart (x0 : FVec Ideal S1024x512 .bf16) (x1 : FVec Ideal S1024x3712 .bf16) (j : S512x3712.Idx) :
    k0_pay2 (F := Ideal) x0 x1 j = ∑ k : Fin 1024, x0 (ix2 k (j 0)) * x1 (ix2 k (j 1)) := by
  pointwise [k0_pay2, k0_pay1]

theorem hstep (x0 : FVec Ideal S1024x512 .bf16) (x1 : FVec Ideal S1024x3712 .bf16) (acc : FVec Ideal S512x3712 .f32) (j : S512x3712.Idx) :
    k0_pay3 (F := Ideal) x0 x1 acc j = acc j + ∑ k : Fin 1024, x0 (ix2 k (j 0)) * x1 (ix2 k (j 1)) := by
  pointwise [k0_pay3, k0_pay1]

theorem hlast (acc : FVec Ideal S512x3712 .f32) (j : S512x3712.Idx) : k0_pay4 (F := Ideal) acc j = acc j := by
  pointwise [k0_pay4]

theorem href (a0 : FVec Ideal Cert.DInWRefIdeal.S4096x1024 .bf16) (a1 : FVec Ideal Cert.DInWRefIdeal.S4096x7424 .bf16) (j : Cert.DInWRefIdeal.S1024x7424.Idx) :
    REF a0 a1 j = ∑ k : Fin 4096, a0 (ix2 k (j 0)) * a1 (ix2 k (j 1)) := by
  pointwise [REF]
  exact Finset.sum_congr rfl fun k _ => mul_comm (G := EReal) _ _

theorem idx : ∀ t : Fin cfg0.N, win0_0.index t = ![t.val % 4, t.val / 8]
    ∧ win0_1.index t = ![t.val % 4, t.val / 4 % 2]
    ∧ win0_2.index t = ![t.val / 8, t.val / 4 % 2] :=
  (by decide +kernel : ∀ t : Fin grid0.N, _)

/-- What the scratch holds after a point: reset at the first point of a run, added into at the others. -/
theorem acc_reset (c : Dev nD) (t : Fin cfg0.N) (h : t.val % 4 = 0) (j : S512x3712.Idx) :
    (outsAt0 m c t.val t.isLt).2 j = (0 : EReal) + ∑ k : Fin 1024, (show FVec Ideal S1024x512 .bf16 from iblk m c 0 t) (ix2 k (j 0)) * (show FVec Ideal S1024x3712 .bf16 from iblk m c 1 t) (ix2 k (j 1)) := by
  rw [outsAt0_A m c t h (by omega) (by omega)]; frame_out; rw [hpart, zero_add]

theorem acc_step (c : Dev nD) (t : Fin cfg0.N) (h : ¬t.val % 4 = 0) (j : S512x3712.Idx) :
    (outsAt0 m c t.val t.isLt).2 j = (outsAt0 m c (t.val - 1) (Nat.lt_of_le_of_lt (Nat.sub_le _ _) t.isLt)).2 j + ∑ k : Fin 1024, (show FVec Ideal S1024x512 .bf16 from iblk m c 0 t) (ix2 k (j 0)) * (show FVec Ideal S1024x3712 .bf16 from iblk m c 1 t) (ix2 k (j 1)) := by
  by_cases h3 : t.val % 4 = 3
  · rw [outsAt0_C m c t h (by omega) h3]; frame_out; rw [hstep, read_unread_whole]
  · rw [outsAt0_B m c t h (by omega) h3]; frame_out; rw [hstep, read_unread_whole]

theorem out_last (c : Dev nD) (t : Fin cfg0.N) (h : t.val % 4 = 3) (j : S512x3712.Idx) :
    (outsAt0 m c t.val t.isLt).1 j = (outsAt0 m c t.val t.isLt).2 j := by
  rw [outsAt0_C m c t (by omega) (by omega) h]; frame_out; rw [hlast]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush (fun n h => (outsAt0 m c n h).2) 4 (fun _ => (0 : EReal)) (fun t j => ∑ k : Fin 1024, (show FVec Ideal S1024x512 .bf16 from iblk m c 0 t) (ix2 k (j 0)) * (show FVec Ideal S1024x3712 .bf16 from iblk m c 1 t) (ix2 k (j 1)))
    (acc_reset m c) (acc_step m c) t ((flush0_2 t).mp hf) _, zero_add, href]
  refine Fin.sum_mul_add_congr fun s k hl => ?_
  blk_point [iblk, V, idx t, idx ⟨_, Pipeline.run_point_lt_of_flush t ((flush0_2 t).mp hf) s⟩]

/-- The reference runs, its arguments end unchanged; it declares no semaphore. -/
theorem refFrame : @Cert.quiescent_DInWRefIdeal Cert.DInWRefIdeal.Gen.facts := fun m ρ _ =>
  (θ_run _ _ _).mono (fun r h => ⟨fun c => (h c).2, Idealize.ShloMosaic.sem_eq_zero_of_no_sems (by decide) r.2⟩)
    (Cert.DInWRefIdeal.Value.run m ρ)

/-- Kernel and reference end with equal results. -/
theorem alg : @Cert.algebraic_DInWIdeal_DInWRefIdeal Cert.DInWIdeal.Gen.facts Cert.DInWRefIdeal.Gen.facts := by
  intro m g m' g' _ hargs
  refine ⟨fun c => (dats m 0 c).arrAt 2 cfg0.N, Cert.DInWIdeal.Value.run_blocks m g,
    (θ_run _ _ _).mono (fun r h c => ⟨(h c).1.trans ?_, (h c).2⟩) (Cert.DInWRefIdeal.Value.run m' g')⟩
  rw [(hargs c).1, (hargs c).2]
  exact (final m c).symm

end Cert.DInWIdeal.Math

end
-- ==== Proof.DFf2ActMath.lean ====
module

public import proofs.«01_k».proof.Proof.Gen.DFf2ActIdeal.Value
public import proofs.«01_k».proof.Proof.Gen.DFf2ActRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.DFf2ActIdeal.Math

open Cert.DFf2ActIdeal Cert.DFf2ActIdeal.Gen
open Idealize.ShloMosaic.Pointwise

variable (m : (ℓ : Loc nD τ sig) → Buf (Elt Ideal) ℓ)

/-- The reference's result over its three arguments. -/
abbrev REF (a0 : FVec Ideal Cert.DFf2ActRefIdeal.S4096x1024 .f32) (a1 : FVec Ideal Cert.DFf2ActRefIdeal.S4096x4096 .f32) (a2 : FVec Ideal Cert.DFf2ActRefIdeal.S4096x1024 .bf16) : FVec Ideal Cert.DFf2ActRefIdeal.S4096x4096 .bf16 :=
  truncf .bf16 (select (cmpf .ogt a1 (broadcastInDim Cert.DFf2ActRefIdeal.S4096x4096 ![] Cert.DFf2ActRefIdeal.Gen.bcast_S_S4096x4096 (constant Cert.DFf2ActRefIdeal.S_ .f32 0x00000000#32)))
    (mulf (Host.dotGeneral Cert.DFf2ActRefIdeal.dot_S4096x1024_S4096x1024_S4096x4096_1_1_0_0_n_n none a0 (extf .f32 a2 Cert.DFf2ActRefIdeal.Gen.bitsLt_bf16_f32))
      (mulf (broadcastInDim Cert.DFf2ActRefIdeal.S4096x4096 ![] Cert.DFf2ActRefIdeal.Gen.bcast_S_S4096x4096 (constant Cert.DFf2ActRefIdeal.S_ .f32 0x40000000#32))
        (maximumf a1 (broadcastInDim Cert.DFf2ActRefIdeal.S4096x4096 ![] Cert.DFf2ActRefIdeal.Gen.bcast_S_S4096x4096 (constant Cert.DFf2ActRefIdeal.S_ .f32 0x00000000#32)))))
    (broadcastInDim Cert.DFf2ActRefIdeal.S4096x4096 ![] Cert.DFf2ActRefIdeal.Gen.bcast_S_S4096x4096 (constant Cert.DFf2ActRefIdeal.S_ .f32 0x00000000#32))) Cert.DFf2ActRefIdeal.Gen.bitsLt_bf16_f32

theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4] :=
  (by decide +kernel : ∀ t : Fin grid0.N, _)

theorem hpay (x0 : FVec Ideal S1024x1024 .f32) (x1 x2 : FVec Ideal S1024x1024 .bf16) (j : S1024x1024.Idx) :
    k0_pay1 (F := Ideal) x0 x1 x2 j = (∑ k : Fin 1024, x0 (ix2 (j 0) k) * x1 (ix2 (j 1) k)) * (Ideal.ofBits FTy.bf16 16384#16 * Ideal.sqrt (x2 j)) := by
  pointwise [k0_pay1]

theorem href (a0 : FVec Ideal Cert.DFf2ActRefIdeal.S4096x1024 .f32) (a1 : FVec Ideal Cert.DFf2ActRefIdeal.S4096x4096 .f32) (a2 : FVec Ideal Cert.DFf2ActRefIdeal.S4096x1024 .bf16) (j : Cert.DFf2ActRefIdeal.S4096x4096.Idx) :
    REF a0 a1 a2 j = if 0 < a1 j then (∑ k : Fin 1024, a0 (ix2 (j 0) k) * a2 (ix2 (j 1) k)) * (Ideal.ofBits FTy.f32 1073741824#32 * max (a1 j) 0) else 0 := by
  pointwise [REF]

theorem two16 : Ideal.ofBits FTy.bf16 16384#16 = 2 := by
  simp [Ideal.ofBits, Ideal.ieee]
  norm_num
  rw [← EReal.coe_mul, (by norm_num : (128 : ℝ) * (1 / 64) = 2)]
  rfl

theorem two32 : Ideal.ofBits FTy.f32 1073741824#32 = 2 := by
  simp [Ideal.ofBits, Ideal.ieee]
  norm_num
  rw [← EReal.coe_mul, (by norm_num : (8388608 : ℝ) * (1 / 4194304) = 2)]
  rfl

theorem sqrt_sq (r : EReal) (h : 0 ≤ r) : Ideal.sqrt (r * r) = r := by
  induction r with
  | bot => simp at h
  | top => simp
  | coe r =>
    have h' : 0 ≤ r := by exact_mod_cast h
    rw [← EReal.coe_mul, Ideal.sqrt_coe, if_neg (not_lt.mpr (mul_self_nonneg r)), Real.sqrt_mul_self h']

/-- The saved square gives back the derivative of the square of the rectifier. -/
theorem gate (s u : EReal) : s * (Ideal.ofBits FTy.bf16 16384#16 * Ideal.sqrt (max u 0 * max u 0))
    = if 0 < u then s * (Ideal.ofBits FTy.f32 1073741824#32 * max u 0) else 0 := by
  rw [sqrt_sq _ (le_max_right u 0), two16, two32]
  split_ifs with h
  · rfl
  · rw [max_eq_right (not_lt.mp h), mul_zero, mul_zero]

theorem rb (c : Dev nD) : V m c main_v2 = (truncf .bf16 (mulf (maximumf (m ((c : Thread nD τ).loc main_arg1)) (broadcastInDim S4096x4096 ![] bcast_S_S4096x4096 (constant S_ .f32 0x00000000#32))) (maximumf (m ((c : Thread nD τ).loc main_arg1)) (broadcastInDim S4096x4096 ![] bcast_S_S4096x4096 (constant S_ .f32 0x00000000#32)))) bitsLt_bf16_f32 : FVec Ideal S4096x4096 .bf16) := by
  unfold V
  after_results_simp
  rfl

theorem rb_at (c : Dev nD) (a1 : FVec Ideal S4096x4096 .f32) (j : S4096x4096.Idx) :
    (truncf .bf16 (mulf (maximumf a1 (broadcastInDim S4096x4096 ![] bcast_S_S4096x4096 (constant S_ .f32 0x00000000#32))) (maximumf a1 (broadcastInDim S4096x4096 ![] bcast_S_S4096x4096 (constant S_ .f32 0x00000000#32)))) bitsLt_bf16_f32 : FVec Ideal S4096x4096 .bf16) j = max (a1 j) 0 * max (a1 j) 0 := by
  pointwise

theorem i2 (c : Dev nD) (t : Fin cfg0.N) (y) : (show FVec Ideal S1024x1024 .bf16 from iblk m c 2 t) y = max ((show FVec Ideal S4096x4096 .f32 from m ((c : Thread nD τ).loc main_arg1)) (((cfg0.win 3).blk t).view.emb y)) 0 * max ((show FVec Ideal S4096x4096 .f32 from m ((c : Thread nD τ).loc main_arg1)) (((cfg0.win 3).blk t).view.emb y)) 0 := by
  refine Eq.trans ?_ (rb_at c _ _)
  rw [← rb m c]
  blk_ext [iblk, idx t]

theorem point (c : Dev nD) (t : Fin cfg0.N) (y) : k0_pay1 (F := Ideal) (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  refine (hpay _ _ _ y).trans (Eq.trans ?_ (href _ _ _ _).symm)
  refine Eq.trans ?_ (gate _ _)
  refine congrArg₂ (fun a b : EReal => a * (Ideal.ofBits FTy.bf16 16384#16 * Ideal.sqrt b)) ?_ (i2 m c t y)
  refine Fin.sum_fin_congr fun k => ?_
  blk_point [iblk, V_main_arg0, V_main_arg2, idx t]

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  exact point m c t y

/-- The reference runs, its arguments end unchanged; it declares no semaphore. -/
theorem refFrame : @Cert.quiescent_DFf2ActRefIdeal Cert.DFf2ActRefIdeal.Gen.facts := fun m ρ _ =>
  (θ_run _ _ _).mono (fun r h => ⟨fun c => (h c).2, Idealize.ShloMosaic.sem_eq_zero_of_no_sems (by decide) r.2⟩)
    (Cert.DFf2ActRefIdeal.Value.run m ρ)

/-- Kernel and reference end with equal results. -/
theorem alg : @Cert.algebraic_DFf2ActIdeal_DFf2ActRefIdeal Cert.DFf2ActIdeal.Gen.facts Cert.DFf2ActRefIdeal.Gen.facts := by
  intro m g m' g' _ hargs
  refine ⟨fun c => (dats m 0 c).arrAt 3 cfg0.N, Cert.DFf2ActIdeal.Value.run_blocks m g,
    (θ_run _ _ _).mono (fun r h c => ⟨(h c).1.trans ?_, (h c).2⟩) (Cert.DFf2ActRefIdeal.Value.run m' g')⟩
  rw [(hargs c).1, (hargs c).2.1, (hargs c).2.2]
  exact (final m c).symm

end Cert.DFf2ActIdeal.Math

end
-- ==== Proof.DFf1ActMath.lean ====
module

public import proofs.«01_k».proof.Proof.Gen.DFf1ActIdeal.Value
public import proofs.«01_k».proof.Proof.Gen.DFf1ActRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.DFf1ActIdeal.Math

open Cert.DFf1ActIdeal Cert.DFf1ActIdeal.Gen
open Idealize.ShloMosaic.Pointwise

variable (m : (ℓ : Loc nD τ sig) → Buf (Elt Ideal) ℓ)

/-- The reference's product, the derivative by the norm's result. -/
abbrev DOT (a0 : FVec Ideal Cert.DFf1ActRefIdeal.S4096x4096 .bf16) (a1 : FVec Ideal Cert.DFf1ActRefIdeal.S4x1024x1024 .bf16) : FVec Ideal Cert.DFf1ActRefIdeal.S4096x1024 .f32 :=
  Host.dotGeneral Cert.DFf1ActRefIdeal.dot_S4096x4096_S1024x4096_S4096x1024_1_1_0_0_n_n none (extf .f32 a0 Cert.DFf1ActRefIdeal.Gen.bitsLt_bf16_f32) (extf .f32 (shapeCast _ (transpose Cert.DFf1ActRefIdeal.S1024x4x1024 [1, 0, 2] a1 Cert.DFf1ActRefIdeal.Gen.transposes_S4x1024x1024_S1024x4x1024_1_0_2) Cert.DFf1ActRefIdeal.Gen.shapeCasts_S1024x4x1024_S1024x4096) Cert.DFf1ActRefIdeal.Gen.bitsLt_bf16_f32)

/-- The reference's derivative by the row array `x`, of the product `d`, the residual's derivative `r` and the gains `g`. -/
abbrev DX (d r x : FVec Ideal Cert.DFf1ActRefIdeal.S4096x1024 .f32) (g : FVec Ideal Cert.DFf1ActRefIdeal.S1024 .f32) : FVec Ideal Cert.DFf1ActRefIdeal.S4096x1024 .f32 :=
  addf r (addf (addf (mulf (mulf d (broadcastInDim Cert.DFf1ActRefIdeal.S4096x1024 ![0, 1] Cert.DFf1ActRefIdeal.Gen.bcast_S1x1024_S4096x1024_0_1 (broadcastInDim Cert.DFf1ActRefIdeal.S1x1024 ![1] Cert.DFf1ActRefIdeal.Gen.bcast_S1024_S1x1024_1 g))) (broadcastInDim Cert.DFf1ActRefIdeal.S4096x1024 ![0, 1] Cert.DFf1ActRefIdeal.Gen.bcast_S4096x1_S4096x1024_0_1 (Host.rsqrt (addf (Host.divf (broadcastInDim Cert.DFf1ActRefIdeal.S4096x1 ![0] Cert.DFf1ActRefIdeal.Gen.bcast_S4096_S4096x1_0 (Host.reduceAdd (mulf x x) (constant Cert.DFf1ActRefIdeal.S_ .f32 0x00000000#32) Cert.DFf1ActRefIdeal.Gen.reducesTo_S4096x1024_S4096_d1 Cert.DFf1ActRefIdeal.Gen.h_S_)) (broadcastInDim Cert.DFf1ActRefIdeal.S4096x1 ![] Cert.DFf1ActRefIdeal.Gen.bcast_S_S4096x1 (constant Cert.DFf1ActRefIdeal.S_ .f32 0x44800000#32))) (broadcastInDim Cert.DFf1ActRefIdeal.S4096x1 ![] Cert.DFf1ActRefIdeal.Gen.bcast_S_S4096x1 (constant Cert.DFf1ActRefIdeal.S_ .f32 0x358637BD#32)))))) (mulf x (broadcastInDim Cert.DFf1ActRefIdeal.S4096x1024 ![0] Cert.DFf1ActRefIdeal.Gen.bcast_S4096_S4096x1024_0 (Host.reduceAdd (Host.divf (mulf (shapeCast _ (Host.reduceAdd (mulf x (mulf d (broadcastInDim Cert.DFf1ActRefIdeal.S4096x1024 ![0, 1] Cert.DFf1ActRefIdeal.Gen.bcast_S1x1024_S4096x1024_0_1 (broadcastInDim Cert.DFf1ActRefIdeal.S1x1024 ![1] Cert.DFf1ActRefIdeal.Gen.bcast_S1024_S1x1024_1 g)))) (constant Cert.DFf1ActRefIdeal.S_ .f32 0x00000000#32) Cert.DFf1ActRefIdeal.Gen.reducesTo_S4096x1024_S4096_d1 Cert.DFf1ActRefIdeal.Gen.h_S_) Cert.DFf1ActRefIdeal.Gen.shapeCasts_S4096_S4096x1) (mulf (broadcastInDim Cert.DFf1ActRefIdeal.S4096x1 ![] Cert.DFf1ActRefIdeal.Gen.bcast_S_S4096x1 (constant Cert.DFf1ActRefIdeal.S_ .f32 0xBF000000#32)) (Host.divf (Host.rsqrt (addf (Host.divf (broadcastInDim Cert.DFf1ActRefIdeal.S4096x1 ![0] Cert.DFf1ActRefIdeal.Gen.bcast_S4096_S4096x1_0 (Host.reduceAdd (mulf x x) (constant Cert.DFf1ActRefIdeal.S_ .f32 0x00000000#32) Cert.DFf1ActRefIdeal.Gen.reducesTo_S4096x1024_S4096_d1 Cert.DFf1ActRefIdeal.Gen.h_S_)) (broadcastInDim Cert.DFf1ActRefIdeal.S4096x1 ![] Cert.DFf1ActRefIdeal.Gen.bcast_S_S4096x1 (constant Cert.DFf1ActRefIdeal.S_ .f32 0x44800000#32))) (broadcastInDim Cert.DFf1ActRefIdeal.S4096x1 ![] Cert.DFf1ActRefIdeal.Gen.bcast_S_S4096x1 (constant Cert.DFf1ActRefIdeal.S_ .f32 0x358637BD#32)))) (addf (Host.divf (broadcastInDim Cert.DFf1ActRefIdeal.S4096x1 ![0] Cert.DFf1ActRefIdeal.Gen.bcast_S4096_S4096x1_0 (Host.reduceAdd (mulf x x) (constant Cert.DFf1ActRefIdeal.S_ .f32 0x00000000#32) Cert.DFf1ActRefIdeal.Gen.reducesTo_S4096x1024_S4096_d1 Cert.DFf1ActRefIdeal.Gen.h_S_)) (broadcastInDim Cert.DFf1ActRefIdeal.S4096x1 ![] Cert.DFf1ActRefIdeal.Gen.bcast_S_S4096x1 (constant Cert.DFf1ActRefIdeal.S_ .f32 0x44800000#32))) (broadcastInDim Cert.DFf1ActRefIdeal.S4096x1 ![] Cert.DFf1ActRefIdeal.Gen.bcast_S_S4096x1 (constant Cert.DFf1ActRefIdeal.S_ .f32 0x358637BD#32)))))) (broadcastInDim Cert.DFf1ActRefIdeal.S4096x1 ![] Cert.DFf1ActRefIdeal.Gen.bcast_S_S4096x1 (constant Cert.DFf1ActRefIdeal.S_ .f32 0x44800000#32))) (constant Cert.DFf1ActRefIdeal.S_ .f32 0x00000000#32) Cert.DFf1ActRefIdeal.Gen.reducesTo_S4096x1_S4096_d1 Cert.DFf1ActRefIdeal.Gen.h_S_)))) (mulf (broadcastInDim Cert.DFf1ActRefIdeal.S4096x1024 ![0] Cert.DFf1ActRefIdeal.Gen.bcast_S4096_S4096x1024_0 (Host.reduceAdd (Host.divf (mulf (shapeCast _ (Host.reduceAdd (mulf x (mulf d (broadcastInDim Cert.DFf1ActRefIdeal.S4096x1024 ![0, 1] Cert.DFf1ActRefIdeal.Gen.bcast_S1x1024_S4096x1024_0_1 (broadcastInDim Cert.DFf1ActRefIdeal.S1x1024 ![1] Cert.DFf1ActRefIdeal.Gen.bcast_S1024_S1x1024_1 g)))) (constant Cert.DFf1ActRefIdeal.S_ .f32 0x00000000#32) Cert.DFf1ActRefIdeal.Gen.reducesTo_S4096x1024_S4096_d1 Cert.DFf1ActRefIdeal.Gen.h_S_) Cert.DFf1ActRefIdeal.Gen.shapeCasts_S4096_S4096x1) (mulf (broadcastInDim Cert.DFf1ActRefIdeal.S4096x1 ![] Cert.DFf1ActRefIdeal.Gen.bcast_S_S4096x1 (constant Cert.DFf1ActRefIdeal.S_ .f32 0xBF000000#32)) (Host.divf (Host.rsqrt (addf (Host.divf (broadcastInDim Cert.DFf1ActRefIdeal.S4096x1 ![0] Cert.DFf1ActRefIdeal.Gen.bcast_S4096_S4096x1_0 (Host.reduceAdd (mulf x x) (constant Cert.DFf1ActRefIdeal.S_ .f32 0x00000000#32) Cert.DFf1ActRefIdeal.Gen.reducesTo_S4096x1024_S4096_d1 Cert.DFf1ActRefIdeal.Gen.h_S_)) (broadcastInDim Cert.DFf1ActRefIdeal.S4096x1 ![] Cert.DFf1ActRefIdeal.Gen.bcast_S_S4096x1 (constant Cert.DFf1ActRefIdeal.S_ .f32 0x44800000#32))) (broadcastInDim Cert.DFf1ActRefIdeal.S4096x1 ![] Cert.DFf1ActRefIdeal.Gen.bcast_S_S4096x1 (constant Cert.DFf1ActRefIdeal.S_ .f32 0x358637BD#32)))) (addf (Host.divf (broadcastInDim Cert.DFf1ActRefIdeal.S4096x1 ![0] Cert.DFf1ActRefIdeal.Gen.bcast_S4096_S4096x1_0 (Host.reduceAdd (mulf x x) (constant Cert.DFf1ActRefIdeal.S_ .f32 0x00000000#32) Cert.DFf1ActRefIdeal.Gen.reducesTo_S4096x1024_S4096_d1 Cert.DFf1ActRefIdeal.Gen.h_S_)) (broadcastInDim Cert.DFf1ActRefIdeal.S4096x1 ![] Cert.DFf1ActRefIdeal.Gen.bcast_S_S4096x1 (constant Cert.DFf1ActRefIdeal.S_ .f32 0x44800000#32))) (broadcastInDim Cert.DFf1ActRefIdeal.S4096x1 ![] Cert.DFf1ActRefIdeal.Gen.bcast_S_S4096x1 (constant Cert.DFf1ActRefIdeal.S_ .f32 0x358637BD#32)))))) (broadcastInDim Cert.DFf1ActRefIdeal.S4096x1 ![] Cert.DFf1ActRefIdeal.Gen.bcast_S_S4096x1 (constant Cert.DFf1ActRefIdeal.S_ .f32 0x44800000#32))) (constant Cert.DFf1ActRefIdeal.S_ .f32 0x00000000#32) Cert.DFf1ActRefIdeal.Gen.reducesTo_S4096x1_S4096_d1 Cert.DFf1ActRefIdeal.Gen.h_S_)) x))

/-- The reference's derivative by the gains. -/
abbrev DG (d x : FVec Ideal Cert.DFf1ActRefIdeal.S4096x1024 .f32) : FVec Ideal Cert.DFf1ActRefIdeal.S1x1024 .f32 :=
  broadcastInDim Cert.DFf1ActRefIdeal.S1x1024 ![1] Cert.DFf1ActRefIdeal.Gen.bcast_S1024_S1x1024_1 (Host.reduceAdd (shapeCast _ (Host.reduceAdd (mulf (mulf x (broadcastInDim Cert.DFf1ActRefIdeal.S4096x1024 ![0, 1] Cert.DFf1ActRefIdeal.Gen.bcast_S4096x1_S4096x1024_0_1 (Host.rsqrt (addf (Host.divf (broadcastInDim Cert.DFf1ActRefIdeal.S4096x1 ![0] Cert.DFf1ActRefIdeal.Gen.bcast_S4096_S4096x1_0 (Host.reduceAdd (mulf x x) (constant Cert.DFf1ActRefIdeal.S_ .f32 0x00000000#32) Cert.DFf1ActRefIdeal.Gen.reducesTo_S4096x1024_S4096_d1 Cert.DFf1ActRefIdeal.Gen.h_S_)) (broadcastInDim Cert.DFf1ActRefIdeal.S4096x1 ![] Cert.DFf1ActRefIdeal.Gen.bcast_S_S4096x1 (constant Cert.DFf1ActRefIdeal.S_ .f32 0x44800000#32))) (broadcastInDim Cert.DFf1ActRefIdeal.S4096x1 ![] Cert.DFf1ActRefIdeal.Gen.bcast_S_S4096x1 (constant Cert.DFf1ActRefIdeal.S_ .f32 0x358637BD#32)))))) d) (constant Cert.DFf1ActRefIdeal.S_ .f32 0x00000000#32) Cert.DFf1ActRefIdeal.Gen.reducesTo_S4096x1024_S1024_d0 Cert.DFf1ActRefIdeal.Gen.h_S_) Cert.DFf1ActRefIdeal.Gen.shapeCasts_S1024_S1x1024) (constant Cert.DFf1ActRefIdeal.S_ .f32 0x00000000#32) Cert.DFf1ActRefIdeal.Gen.reducesTo_S1x1024_S1024_d0 Cert.DFf1ActRefIdeal.Gen.h_S_)

theorem half_eq : Ideal.ofBits FTy.f32 3204448256#32 = ((-(1 / 2) : ℝ) : EReal) := by
  simp [Ideal.ofBits, Ideal.ieee]
  norm_num
  rw [← EReal.coe_mul, (by norm_num : (8388608 : ℝ) * (1 / 16777216) = 1 / 2)]

theorem n_eq : Ideal.ofBits FTy.f32 1149239296#32 = ((1024 : ℝ) : EReal) := by
  simp [Ideal.ofBits, Ideal.ieee]
  norm_num
  rw [← EReal.coe_mul, (by norm_num : (8388608 : ℝ) * (1 / 8192) = 1024)]

theorem div_n (x : EReal) : Ideal.div x (Ideal.ofBits FTy.f32 1149239296#32) = (((1024 : ℝ)⁻¹ : ℝ) : EReal) * x := by
  have h : ((1024 : ℝ) : EReal) ≠ 0 := by exact_mod_cast (by norm_num : (1024 : ℝ) ≠ 0)
  rw [n_eq, Ideal.div, if_neg h, mul_comm, EReal.coe_inv]

theorem div_coe (r v : ℝ) (h : v ≠ 0) : Ideal.div (r : EReal) (v : EReal) = ((r / v : ℝ) : EReal) := by
  have h' : (v : EReal) ≠ 0 := by exact_mod_cast h
  rw [Ideal.div, if_neg h', div_eq_mul_inv, EReal.coe_mul, EReal.coe_inv]

theorem eps_pos : ∃ e : ℝ, 0 < e ∧ Ideal.ofBits FTy.f32 897988541#32 = (e : EReal) := by
  refine ⟨8796093 * (1 / 8796093022208), by norm_num, ?_⟩
  simp [Ideal.ofBits, Ideal.ieee]
  norm_num

/-- The mean square of a row and the constant under the root. -/
def vv (f : Fin 1024 → EReal) : EReal := Ideal.div (∑ k : Fin 1024, f k * f k) (Ideal.ofBits FTy.f32 1149239296#32) + Ideal.ofBits FTy.f32 897988541#32

theorem sum_coe {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem coe_mul_sum {ι : Type} (s : Finset ι) (c : ℝ) (hc : 0 ≤ c) (f : ι → EReal) : ∑ i ∈ s, (c : EReal) * f i = (c : EReal) * ∑ i ∈ s, f i := by
  classical
  induction s using Finset.induction_on with
  | empty => simp
  | insert i s hi ih => rw [Finset.sum_insert hi, Finset.sum_insert hi, ih, EReal.left_distrib_of_nonneg_of_ne_top (EReal.coe_nonneg.mpr hc) (EReal.coe_ne_top _)]

theorem mul_self_nonneg' (a : EReal) : 0 ≤ a * a := by
  induction a with
  | bot => simp
  | top => simp
  | coe a => exact_mod_cast mul_self_nonneg a

/-- The mean square is a positive real, and so is the root's inverse, or one of the row's elements is infinite. -/
theorem row_cases (f : Fin 1024 → EReal) :
    (vv f = ⊤ ∧ Ideal.rsqrt (vv f) = 0) ∨
    ∃ (x : Fin 1024 → ℝ) (v r : ℝ), (∀ k, f k = (x k : EReal)) ∧ 0 < v ∧ 0 < r ∧ r * r * v = 1 ∧ vv f = (v : EReal) ∧ Ideal.rsqrt (vv f) = (r : EReal) := by
  obtain ⟨e, he, hE⟩ := eps_pos
  by_cases h : ∃ k, f k = ⊤ ∨ f k = ⊥
  · left
    obtain ⟨k, hk⟩ := h
    have h1 : f k * f k = ⊤ := by rcases hk with h | h <;> rw [h] <;> simp
    have h2 : (∑ k : Fin 1024, f k * f k) = ⊤ := by
      refine top_le_iff.mp ?_
      rw [← h1]
      exact Finset.single_le_sum (f := fun k => f k * f k) (fun i _ => mul_self_nonneg' (f i)) (Finset.mem_univ k)
    have h3 : vv f = ⊤ := by
      unfold vv
      rw [h2, div_n, hE, EReal.coe_mul_top_of_pos (by norm_num)]
      exact EReal.top_add_coe _
    exact ⟨h3, by rw [h3]; rfl⟩
  · right
    push Not at h
    have hx : ∀ k, f k = ((f k).toReal : EReal) := fun k => (EReal.coe_toReal (h k).1 (h k).2).symm
    have hv : vv f = (((1024 : ℝ)⁻¹ * (∑ k, (f k).toReal * (f k).toReal) + e : ℝ) : EReal) := by
      unfold vv
      rw [div_n, hE, EReal.coe_add, EReal.coe_mul, ← sum_coe]
      refine congrArg (fun a : EReal => _ * a + _) (Finset.sum_congr rfl fun k _ => ?_)
      rw [EReal.coe_mul, ← hx]
    have hp : 0 < (1024 : ℝ)⁻¹ * (∑ k, (f k).toReal * (f k).toReal) + e :=
      add_pos_of_nonneg_of_pos (mul_nonneg (by norm_num) (Finset.sum_nonneg fun k _ => mul_self_nonneg _)) he
    generalize (1024 : ℝ)⁻¹ * (∑ k, (f k).toReal * (f k).toReal) + e = v at hv hp
    have hs := Real.sqrt_pos.mpr hp
    refine ⟨fun k => (f k).toReal, v, (Real.sqrt v)⁻¹, hx, hp, inv_pos.mpr hs, ?_, hv, ?_⟩
    · rw [← mul_inv, Real.mul_self_sqrt hp.le, inv_mul_cancel₀ hp.ne']
    · rw [hv]
      show (if v < 0 then (⊥ : EReal) else if v = 0 then ⊤ else (((Real.sqrt v)⁻¹ : ℝ) : EReal)) = _
      rw [if_neg (not_lt.mpr hp.le), if_neg hp.ne']

theorem add_self (t : ℝ) (y : EReal) : (t : EReal) * y + (t : EReal) * y = ((2 * t : ℝ) : EReal) * y := by
  rw [EReal.coe_mul, mul_assoc]
  generalize (t : EReal) * y = z
  induction z with
  | bot => rw [EReal.coe_mul_bot_of_pos (by norm_num)]; rfl
  | top => rw [EReal.coe_mul_top_of_pos (by norm_num)]; rfl
  | coe z => rw [← EReal.coe_add, ← EReal.coe_mul, two_mul]

/-- The kernel's form of the norm's derivative along a row is the reference's. -/
theorem back_eq (x dy : Fin 1024 → EReal) (k : Fin 1024) :
    Ideal.rsqrt (vv x) * (dy k - x k * Ideal.rsqrt (vv x) * Ideal.div (∑ k, dy k * (x k * Ideal.rsqrt (vv x))) (Ideal.ofBits FTy.f32 1149239296#32))
      = dy k * Ideal.rsqrt (vv x)
        + x k * Ideal.div ((∑ k, x k * dy k) * (Ideal.ofBits FTy.f32 3204448256#32 * Ideal.div (Ideal.rsqrt (vv x)) (vv x))) (Ideal.ofBits FTy.f32 1149239296#32)
        + Ideal.div ((∑ k, x k * dy k) * (Ideal.ofBits FTy.f32 3204448256#32 * Ideal.div (Ideal.rsqrt (vv x)) (vv x))) (Ideal.ofBits FTy.f32 1149239296#32) * x k := by
  rcases row_cases x with ⟨h1, h2⟩ | ⟨X, v, r, hx, hv, hr, hrv, h1, h2⟩
  · have hz : Ideal.div 0 ⊤ = 0 := by simp [Ideal.div]
    rw [h2, h1, hz, div_n, div_n]
    simp
  · rw [h2, h1, half_eq, div_coe _ _ hv.ne', div_n, div_n]
    have hS : (∑ k, dy k * (x k * (r : EReal))) = (r : EReal) * ∑ k, x k * dy k := by
      rw [← coe_mul_sum _ _ hr.le]
      exact Finset.sum_congr rfl fun k _ => by rw [mul_comm (dy k), mul_comm (x k), mul_assoc]
    rw [hS, hx k]
    generalize (∑ k, x k * dy k) = S
    generalize dy k = d
    generalize X k = y
    have hq : r / v = r * r * r := by
      rw [div_eq_iff hv.ne']
      linear_combination (-r) * hrv
    rw [hq]
    have e1 : (r : EReal) * (d - (y : EReal) * r * (((1024 : ℝ)⁻¹ : ℝ) * ((r : EReal) * S))) = d * r + ((-(y * r * r * r * (1024 : ℝ)⁻¹) : ℝ) : EReal) * S := by
      rw [sub_eq_add_neg, EReal.left_distrib_of_nonneg_of_ne_top (EReal.coe_nonneg.mpr hr.le) (EReal.coe_ne_top _), mul_comm d]
      refine congrArg (fun a : EReal => (r : EReal) * d + a) ?_
      rw [← EReal.neg_mul, ← EReal.coe_mul, ← EReal.coe_neg, ← mul_assoc, ← mul_assoc, ← mul_assoc, ← EReal.coe_mul, ← EReal.coe_mul, ← EReal.coe_mul]
      congr 2; ring
    have e2 : (((1024 : ℝ)⁻¹ : ℝ) : EReal) * (S * (((-(1 / 2) : ℝ) : EReal) * ((r * r * r : ℝ) : EReal))) = (((1024 : ℝ)⁻¹ * (-(1 / 2) * (r * r * r)) : ℝ) : EReal) * S := by
      rw [mul_comm S, ← mul_assoc, ← EReal.coe_mul, ← EReal.coe_mul]
    rw [e1, e2, mul_comm _ (y : EReal), ← mul_assoc, ← EReal.coe_mul, add_assoc, add_self]
    congr 3; ring

theorem hpart (x0 : FVec Ideal S1024x1024 .bf16) (x1 : FVec Ideal S1x1024x1024 .bf16) (j : S1024x1024.Idx) :
    k0_pay2 (F := Ideal) x0 x1 j = ∑ k : Fin 1024, x0 (ix2 (j 0) k) * x1 (ix3 0 (j 1) k) := by
  pointwise [k0_pay2, k0_pay1]

theorem hstep (x0 : FVec Ideal S1024x1024 .bf16) (x1 : FVec Ideal S1x1024x1024 .bf16) (acc : FVec Ideal S1024x1024 .f32) (j : S1024x1024.Idx) :
    k0_pay3 (F := Ideal) x0 x1 acc j = acc j + ∑ k : Fin 1024, x0 (ix2 (j 0) k) * x1 (ix3 0 (j 1) k) := by
  pointwise [k0_pay3, k0_pay1]

theorem hroot (x : FVec Ideal S1024x1024 .f32) (j : S1024x1.Idx) :
    k0_pay5 (F := Ideal) x j = Ideal.rsqrt (vv fun k => x (ix2 (j 0) k)) := by
  unfold vv
  pointwise [k0_pay5]

theorem hhat (x : FVec Ideal S1024x1024 .f32) (j : S1024x1024.Idx) :
    k0_pay6 (F := Ideal) x j = x j * Ideal.rsqrt (vv fun k => x (ix2 (j 0) k)) := by
  refine Eq.trans ?_ (congrArg (fun a : EReal => x j * a) (hroot x (ix2 (j 0) 0)))
  unfold k0_pay6
  generalize k0_pay5 (F := Ideal) x = r
  pointwise

theorem hdx (acc x : FVec Ideal S1024x1024 .f32) (g : FVec Ideal S1x1024 .f32) (r : FVec Ideal S1024x1024 .f32) (j : S1024x1024.Idx) :
    k0_pay7 (F := Ideal) acc x g r j = r j + k0_pay5 (F := Ideal) x (ix2 (j 0) 0)
      * (acc j * g (ix2 0 (j 1)) - k0_pay6 (F := Ideal) x j
        * Ideal.div (∑ k : Fin 1024, acc (ix2 (j 0) k) * g (ix2 0 k) * k0_pay6 (F := Ideal) x (ix2 (j 0) k)) (Ideal.ofBits FTy.f32 1149239296#32)) := by
  unfold k0_pay7
  generalize k0_pay5 (F := Ideal) x = p
  generalize k0_pay6 (F := Ideal) x = q
  pointwise

theorem hzero (j : S1x1024.Idx) : k0_pay8 (F := Ideal) j = 0 := by
  pointwise [k0_pay8]

theorem hcast (v : FVec Ideal S1x1024 .f32) (j : S1x1024.Idx) : k0_pay4 (F := Ideal) v j = v j := by
  pointwise [k0_pay4]

theorem hdg (acc x : FVec Ideal S1024x1024 .f32) (p : FVec Ideal S1x1024 .f32) (j : S1x1024.Idx) :
    k0_pay9 (F := Ideal) acc x p j = p j + ∑ r : Fin 1024, acc (ix2 r (j 1)) * k0_pay6 (F := Ideal) x (ix2 r (j 1)) := by
  unfold k0_pay9
  generalize k0_pay6 (F := Ideal) x = y
  pointwise

theorem dot_at (a0 : FVec Ideal Cert.DFf1ActRefIdeal.S4096x4096 .bf16) (a1 : FVec Ideal Cert.DFf1ActRefIdeal.S4x1024x1024 .bf16) (j : Cert.DFf1ActRefIdeal.S4096x1024.Idx) :
    DOT a0 a1 j = ∑ k : Fin 4096, a0 (ix2 (j 0) k) * a1 (ix3 (⟨k.val / 1024, by omega⟩ : Fin 4) (j 1) (⟨k.val % 1024, by omega⟩ : Fin 1024)) := by
  pointwise [DOT]

theorem dx_at (d r x : FVec Ideal Cert.DFf1ActRefIdeal.S4096x1024 .f32) (g : FVec Ideal Cert.DFf1ActRefIdeal.S1024 .f32) (j : Cert.DFf1ActRefIdeal.S4096x1024.Idx) :
    DX d r x g j = r j + (d j * g (ix1 (j 1)) * Ideal.rsqrt (vv fun k => x (ix2 (j 0) k))
      + x j * (Ideal.div ((∑ k : Fin 1024, x (ix2 (j 0) k) * (d (ix2 (j 0) k) * g (ix1 k))) * (Ideal.ofBits FTy.f32 3204448256#32 * Ideal.div (Ideal.rsqrt (vv fun k => x (ix2 (j 0) k))) (vv fun k => x (ix2 (j 0) k)))) (Ideal.ofBits FTy.f32 1149239296#32))
      + (Ideal.div ((∑ k : Fin 1024, x (ix2 (j 0) k) * (d (ix2 (j 0) k) * g (ix1 k))) * (Ideal.ofBits FTy.f32 3204448256#32 * Ideal.div (Ideal.rsqrt (vv fun k => x (ix2 (j 0) k))) (vv fun k => x (ix2 (j 0) k)))) (Ideal.ofBits FTy.f32 1149239296#32)) * x j) := by
  unfold vv
  pointwise [DX]
  simp only [Fin.sum_univ_one]

theorem dg_at (d x : FVec Ideal Cert.DFf1ActRefIdeal.S4096x1024 .f32) (j : Cert.DFf1ActRefIdeal.S1x1024.Idx) :
    DG d x j = ∑ r : Fin 4096, x (ix2 r (j 1)) * Ideal.rsqrt (vv fun k => x (ix2 r k)) * d (ix2 r (j 1)) := by
  unfold vv
  pointwise [DG]
  simp only [Fin.sum_univ_one]

theorem idx : ∀ t : Fin cfg0.N, win0_0.index t = ![t.val / 4, t.val % 4]
    ∧ win0_1.index t = ![t.val % 4, 0, 0]
    ∧ win0_2.index t = ![t.val / 4, 0]
    ∧ win0_3.index t = ![t.val / 4, 0]
    ∧ win0_4.index t = ![0, 0]
    ∧ win0_5.index t = ![t.val / 4, 0]
    ∧ win0_6.index t = ![0, 0] :=
  (by decide +kernel : ∀ t : Fin grid0.N, _)

/-- What the scratch holds after a point: reset at the first point of a run, added into at the others. -/
theorem acc_reset (c : Dev nD) (t : Fin cfg0.N) (h : t.val % 4 = 0) (j : S1024x1024.Idx) :
    (outsAt0 m c t.val t.isLt).2.2 j = (0 : EReal) + ∑ k : Fin 1024, (show FVec Ideal S1024x1024 .bf16 from iblk m c 0 t) (ix2 (j 0) k) * (show FVec Ideal S1x1024x1024 .bf16 from iblk m c 1 t) (ix3 0 (j 1) k) := by
  rw [outsAt0_A m c t h (by omega) (by omega)]; frame_out; rw [hpart, zero_add]

theorem acc_step (c : Dev nD) (t : Fin cfg0.N) (h : ¬t.val % 4 = 0) (j : S1024x1024.Idx) :
    (outsAt0 m c t.val t.isLt).2.2 j = (outsAt0 m c (t.val - 1) (Nat.lt_of_le_of_lt (Nat.sub_le _ _) t.isLt)).2.2 j + ∑ k : Fin 1024, (show FVec Ideal S1024x1024 .bf16 from iblk m c 0 t) (ix2 (j 0) k) * (show FVec Ideal S1x1024x1024 .bf16 from iblk m c 1 t) (ix3 0 (j 1) k) := by
  by_cases h3 : t.val % 4 = 3
  · by_cases h4 : t.val < 4
    · rw [outsAt0_C m c t h (by omega) h3 h4]; frame_out; rw [hstep, read_unread_whole]
    · rw [outsAt0_D m c t h (by omega) h3 h4]; frame_out; rw [hstep, read_unread_whole]
  · rw [outsAt0_B m c t h (by omega) h3]; frame_out; rw [hstep, read_unread_whole]

theorem row_lt (t : Fin cfg0.N) (r : Fin 1024) : t.val / 4 * 1024 + r.val < 4096 := by
  have hN : t.val < 16 := t.isLt
  omega

/-- After the last point of a run the scratch holds the run's rows of the product. -/
theorem acc_last (c : Dev nD) (t : Fin cfg0.N) (h : t.val % 4 = 3) (j : S1024x1024.Idx) :
    (outsAt0 m c t.val t.isLt).2.2 j = DOT (m ((c : Thread nD τ).loc main_arg0)) (m ((c : Thread nD τ).loc main_arg1)) (ix2 (⟨t.val / 4 * 1024 + (j 0).val, row_lt t (j 0)⟩ : Fin 4096) (j 1)) := by
  rw [Pipeline.eq_sum_fin_of_reset_step_apply_of_flush (fun n h => (outsAt0 m c n h).2.2) 4 (fun _ => (0 : EReal)) (fun t j => ∑ k : Fin 1024, (show FVec Ideal S1024x1024 .bf16 from iblk m c 0 t) (ix2 (j 0) k) * (show FVec Ideal S1x1024x1024 .bf16 from iblk m c 1 t) (ix3 0 (j 1) k))
    (acc_reset m c) (acc_step m c) t h _, zero_add, dot_at]
  refine Fin.sum_mul_add_congr fun s k hl => ?_
  blk_point [iblk, V_main_arg0, V_main_arg1, idx t, idx ⟨_, Pipeline.run_point_lt_of_flush t h s⟩]

theorem out_dx (c : Dev nD) (t : Fin cfg0.N) (h : t.val % 4 = 3) (j : S1024x1024.Idx) :
    (outsAt0 m c t.val t.isLt).1 j = k0_pay7 (F := Ideal) (outsAt0 m c t.val t.isLt).2.2 (iblk m c 3 t) (iblk m c 4 t) (iblk m c 2 t) j := by
  by_cases h4 : t.val < 4
  · rw [outsAt0_C m c t (by omega) (by omega) h h4]; frame_out
  · rw [outsAt0_D m c t (by omega) (by omega) h h4]; frame_out

theorem xrow (c : Dev nD) (t : Fin cfg0.N) (r k : Fin 1024) : (show FVec Ideal S1024x1024 .f32 from iblk m c 3 t) (ix2 r k) = (show FVec Ideal Cert.DFf1ActRefIdeal.S4096x1024 .f32 from (m ((c : Thread nD τ).loc main_arg3))) (ix2 (⟨t.val / 4 * 1024 + r.val, row_lt t r⟩ : Fin 4096) k) := by
  blk_ext [iblk, V_main_arg3, idx t]

theorem rrow (c : Dev nD) (t : Fin cfg0.N) (r k : Fin 1024) : (show FVec Ideal S1024x1024 .f32 from iblk m c 2 t) (ix2 r k) = (show FVec Ideal Cert.DFf1ActRefIdeal.S4096x1024 .f32 from (m ((c : Thread nD τ).loc main_arg2))) (ix2 (⟨t.val / 4 * 1024 + r.val, row_lt t r⟩ : Fin 4096) k) := by
  blk_ext [iblk, V_main_arg2, idx t]

theorem gain (c : Dev nD) (t : Fin cfg0.N) (k : Fin 1024) : (show FVec Ideal S1x1024 .f32 from iblk m c 4 t) (ix2 0 k)
    = (show FVec Ideal Cert.DFf1ActRefIdeal.S1024 .f32 from (m ((c : Thread nD τ).loc main_arg4))) (ix1 k) := by
  blk_simp [iblk, idx t]
  entry_read
  pointwise
  blk_ext [idx t]

/-- The root's inverse of a row. -/
theorem root (c : Dev nD) (t : Fin cfg0.N) (r : Fin 1024) : k0_pay5 (F := Ideal) (iblk m c 3 t) (ix2 r 0)
    = Ideal.rsqrt (vv fun k => (show FVec Ideal Cert.DFf1ActRefIdeal.S4096x1024 .f32 from (m ((c : Thread nD τ).loc main_arg3))) (ix2 (⟨t.val / 4 * 1024 + r.val, row_lt t r⟩ : Fin 4096) k)) :=
  (hroot _ _).trans (congrArg (fun f => Ideal.rsqrt (vv f)) (funext fun k => xrow m c t r k))

theorem hat (c : Dev nD) (t : Fin cfg0.N) (r k : Fin 1024) : k0_pay6 (F := Ideal) (iblk m c 3 t) (ix2 r k)
    = (show FVec Ideal Cert.DFf1ActRefIdeal.S4096x1024 .f32 from (m ((c : Thread nD τ).loc main_arg3))) (ix2 (⟨t.val / 4 * 1024 + r.val, row_lt t r⟩ : Fin 4096) k) * Ideal.rsqrt (vv fun k => (show FVec Ideal Cert.DFf1ActRefIdeal.S4096x1024 .f32 from (m ((c : Thread nD τ).loc main_arg3))) (ix2 (⟨t.val / 4 * 1024 + r.val, row_lt t r⟩ : Fin 4096) k)) :=
  (hhat _ _).trans (congrArg₂ (fun a f => a * Ideal.rsqrt (vv f)) (xrow m c t r k) (funext fun k => xrow m c t r k))

theorem point (c : Dev nD) (t : Fin cfg0.N) (h : t.val % 4 = 3) (r q : Fin 1024) : (outsAt0 m c t.val t.isLt).1 (ix2 r q)
    = DX (DOT (m ((c : Thread nD τ).loc main_arg0)) (m ((c : Thread nD τ).loc main_arg1))) (m ((c : Thread nD τ).loc main_arg2)) (m ((c : Thread nD τ).loc main_arg3)) (m ((c : Thread nD τ).loc main_arg4)) (ix2 (⟨t.val / 4 * 1024 + r.val, row_lt t r⟩ : Fin 4096) q) := by
  refine (out_dx m c t h _).trans ((hdx _ _ _ _ _).trans (Eq.trans ?_ (dx_at _ _ _ _ _).symm))
  refine congrArg₂ (fun a b : EReal => a + b) (rrow m c t r q) ?_
  refine Eq.trans ?_ (back_eq (fun k => (show FVec Ideal Cert.DFf1ActRefIdeal.S4096x1024 .f32 from (m ((c : Thread nD τ).loc main_arg3))) (ix2 (⟨t.val / 4 * 1024 + r.val, row_lt t r⟩ : Fin 4096) k)) (fun k => DOT (m ((c : Thread nD τ).loc main_arg0)) (m ((c : Thread nD τ).loc main_arg1)) (ix2 (⟨t.val / 4 * 1024 + r.val, row_lt t r⟩ : Fin 4096) k) * (show FVec Ideal Cert.DFf1ActRefIdeal.S1024 .f32 from (m ((c : Thread nD τ).loc main_arg4))) (ix1 k)) q)
  have ha : ∀ k : Fin 1024, (outsAt0 m c t.val t.isLt).2.2 (ix2 r k) = DOT (m ((c : Thread nD τ).loc main_arg0)) (m ((c : Thread nD τ).loc main_arg1)) (ix2 (⟨t.val / 4 * 1024 + r.val, row_lt t r⟩ : Fin 4096) k) := fun k => acc_last m c t h (ix2 r k)
  have hd : ∀ k : Fin 1024, (outsAt0 m c t.val t.isLt).2.2 (ix2 r k) * (show FVec Ideal S1x1024 .f32 from iblk m c 4 t) (ix2 0 k) = DOT (m ((c : Thread nD τ).loc main_arg0)) (m ((c : Thread nD τ).loc main_arg1)) (ix2 (⟨t.val / 4 * 1024 + r.val, row_lt t r⟩ : Fin 4096) k) * (show FVec Ideal Cert.DFf1ActRefIdeal.S1024 .f32 from (m ((c : Thread nD τ).loc main_arg4))) (ix1 k) :=
    fun k => congrArg₂ (fun a b : EReal => a * b) (ha k) (gain m c t k)
  refine congrArg₂ (fun a b : EReal => a * b) (root m c t r) ?_
  refine congrArg₂ (fun a b : EReal => a - b) (hd q) ?_
  refine congrArg₂ (fun a b : EReal => a * Ideal.div b (Ideal.ofBits FTy.f32 1149239296#32)) (hat m c t r q) ?_
  exact Finset.sum_congr rfl fun k _ => congrArg₂ (fun a b : EReal => a * b) (hd k) (hat m c t r k)

theorem final0 (c : Dev nD) : (dats m 0 c).arrAt 5 (cfgs 0).N = DX (DOT (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  refine Eq.trans (congrArg _ ?_) ((point m c t ((flush0_5 t).mp hf) (y 0) (y 1)).trans (congrArg _ ?_))
  · blk_ext
  · blk_ext [idx t]

/-- A row tile's part of the gains' derivative. -/
def part (c : Dev nD) (s : ℕ) (q : Fin 1024) : EReal :=
  if h : s < 4 then ∑ r : Fin 1024, (show FVec Ideal Cert.DFf1ActRefIdeal.S4096x1024 .f32 from (m ((c : Thread nD τ).loc main_arg3))) (ix2 (⟨s * 1024 + r.val, by omega⟩ : Fin 4096) q) * Ideal.rsqrt (vv fun k => (show FVec Ideal Cert.DFf1ActRefIdeal.S4096x1024 .f32 from (m ((c : Thread nD τ).loc main_arg3))) (ix2 (⟨s * 1024 + r.val, by omega⟩ : Fin 4096) k)) * DOT (m ((c : Thread nD τ).loc main_arg0)) (m ((c : Thread nD τ).loc main_arg1)) (ix2 (⟨s * 1024 + r.val, by omega⟩ : Fin 4096) q) else 0

theorem part_at (c : Dev nD) (t : Fin cfg0.N) (h : t.val % 4 = 3) (q : Fin 1024) :
    ∑ r : Fin 1024, (outsAt0 m c t.val t.isLt).2.2 (ix2 r q) * k0_pay6 (F := Ideal) (iblk m c 3 t) (ix2 r q) = part m c (t.val / 4) q := by
  have hN : t.val < 16 := t.isLt
  rw [part, dif_pos (by omega : t.val / 4 < 4)]
  refine Finset.sum_congr rfl fun r _ => ?_
  exact (congrArg₂ (fun a b : EReal => a * b) (acc_last m c t h (ix2 r q)) (hat m c t r q)).trans (mul_comm (G := EReal) _ _)

theorem dg_first (c : Dev nD) (t : Fin cfg0.N) (h : t.val % 4 = 3) (h4 : t.val < 4) (j : S1x1024.Idx) :
    (outsAt0 m c t.val t.isLt).2.1 j = (0 : EReal) + part m c (t.val / 4) (j 1) := by
  refine Eq.trans ?_ (congrArg (fun a : EReal => 0 + a) (part_at m c t h (j 1)))
  rw [outsAt0_C m c t (by omega) (by omega) h h4]; frame_out; rw [hcast, hdg, hzero]

theorem dg_next (c : Dev nD) (t : Fin cfg0.N) (h : t.val % 4 = 3) (h4 : ¬t.val < 4) (j : S1x1024.Idx) :
    (outsAt0 m c t.val t.isLt).2.1 j = (outsAt0 m c (t.val - 1) (Nat.lt_of_le_of_lt (Nat.sub_le _ _) t.isLt)).2.1 j + part m c (t.val / 4) (j 1) := by
  refine Eq.trans ?_ (congrArg (fun a : EReal => _ + a) (part_at m c t h (j 1)))
  rw [outsAt0_D m c t (by omega) (by omega) h h4]; frame_out; rw [hcast, hdg]

theorem dg_idle (c : Dev nD) (t : Fin cfg0.N) (h : ¬t.val % 4 = 3) (h4 : 1 ≤ t.val) (j : S1x1024.Idx) :
    (outsAt0 m c t.val t.isLt).2.1 j = (outsAt0 m c (t.val - 1) (Nat.lt_of_le_of_lt (Nat.sub_le _ _) t.isLt)).2.1 j := by
  by_cases h0 : t.val % 4 = 0
  · rw [outsAt0_A m c t h0 (by omega) h]; dsimp only; unfold out0_A_6; rfl
  · rw [outsAt0_B m c t h0 (by omega) h]; dsimp only; unfold out0_B_6; rfl

/-- The row of sums after a point: the parts of the row tiles that are through. -/
theorem dg_sum (c : Dev nD) (j : S1x1024.Idx) : ∀ (n : ℕ) (hn : n < cfg0.N), 3 ≤ n →
    (outsAt0 m c n hn).2.1 j = ∑ s ∈ Finset.range ((n + 1) / 4), part m c s (j 1) := by
  intro n
  induction n with
  | zero => intro _ h; omega
  | succ n ih =>
    intro hn h3
    by_cases h : (n + 1) % 4 = 3
    · by_cases h4 : n + 1 < 4
      · rw [dg_first m c ⟨n + 1, hn⟩ h h4 j, zero_add, show (n + 1 + 1) / 4 = 1 by omega, Finset.sum_range_one, show (⟨n + 1, hn⟩ : Fin cfg0.N).val / 4 = 0 from by show (n + 1) / 4 = 0; omega]
      · rw [dg_next m c ⟨n + 1, hn⟩ h h4 j, show (n + 1 + 1) / 4 = (n + 1) / 4 + 1 by omega, Finset.sum_range_succ]
        exact congrArg (fun a : EReal => a + _) (ih (Nat.lt_of_succ_lt hn) (by omega))
    · rw [dg_idle m c ⟨n + 1, hn⟩ h (by show 1 ≤ n + 1; omega) j, show (n + 1 + 1) / 4 = (n + 1) / 4 by omega]
      exact ih (Nat.lt_of_succ_lt hn) (by omega)

theorem dg_total (c : Dev nD) (q : Fin 1024) : ∑ s ∈ Finset.range 4, part m c s q = DG (DOT (m ((c : Thread nD τ).loc main_arg0)) (m ((c : Thread nD τ).loc main_arg1))) (m ((c : Thread nD τ).loc main_arg3)) (ix2 0 q) := by
  rw [dg_at, ← Fin.sum_univ_eq_sum_range (fun s => part m c s q) 4]
  refine Eq.trans (Finset.sum_congr rfl fun s _ => by rw [part, dif_pos s.isLt]) (Fin.sum_mul_add_congr fun s r hl => rfl)

theorem final1 (c : Dev nD) : (dats m 0 c).arrAt 6 (cfgs 0).N = DG (DOT (m ((c : Thread nD τ).loc main_arg0)) (m ((c : Thread nD τ).loc main_arg1))) (m ((c : Thread nD τ).loc main_arg3)) := by
  refine (dats m 0 c).arrAt_eq_of_covers 6 _ (by decide +kernel) fun t hf y => ?_
  have h15 := (flush0_6 t).mp hf
  have hN : t.val < 16 := t.isLt
  blk_simp
  rw [after0_6, dg_sum m c _ t.val t.isLt (by omega), show (t.val + 1) / 4 = 4 by omega]
  refine (dg_total m c _).trans (congrArg _ ?_)
  blk_ext [idx t]

/-- The reference runs, its arguments end unchanged; it declares no semaphore. -/
theorem refFrame : @Cert.quiescent_DFf1ActRefIdeal Cert.DFf1ActRefIdeal.Gen.facts := fun m ρ _ =>
  (θ_run _ _ _).mono (fun r h => ⟨fun c => (h c).2.2, Idealize.ShloMosaic.sem_eq_zero_of_no_sems (by decide) r.2⟩)
    (Cert.DFf1ActRefIdeal.Value.run m ρ)

/-- Kernel and reference end with equal results. -/
theorem alg : @Cert.algebraic_DFf1ActIdeal_DFf1ActRefIdeal Cert.DFf1ActIdeal.Gen.facts Cert.DFf1ActRefIdeal.Gen.facts := by
  intro m g m' g' _ hargs
  refine ⟨fun c => (dats m 0 c).arrAt 5 cfg0.N, fun c => (dats m 0 c).arrAt 6 cfg0.N, Cert.DFf1ActIdeal.Value.run_blocks m g,
    (θ_run _ _ _).mono (fun r h c => ⟨(h c).1.trans ?_, (h c).2.1.trans ?_, (h c).2.2⟩) (Cert.DFf1ActRefIdeal.Value.run m' g')⟩
  · unfold Cert.DFf1ActRefIdeal.Value.res_main_v42
    rw [(hargs c).1, (hargs c).2.1, (hargs c).2.2.1, (hargs c).2.2.2.1, (hargs c).2.2.2.2]
    exact (final0 m c).symm
  · rw [(hargs c).1, (hargs c).2.1, (hargs c).2.2.2.1]
    exact (final1 m c).symm

end Cert.DFf1ActIdeal.Math

end
-- ==== Proof.DFf2WMath.lean ====
module

public import proofs.«01_k».proof.Proof.Gen.DFf2WIdeal.Value
public import proofs.«01_k».proof.Proof.Gen.DFf2WRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.DFf2WIdeal.Math

open Cert.DFf2WIdeal Cert.DFf2WIdeal.Gen
open Idealize.ShloMosaic.Pointwise

variable (m : (ℓ : Loc nD τ sig) → Buf (Elt Ideal) ℓ)

/-- The reference's result over its arguments. -/
abbrev REF (a0 : FVec Ideal Cert.DFf2WRefIdeal.S4096x4096 .f32) (a1 : FVec Ideal Cert.DFf2WRefIdeal.S4096x1024 .f32) : FVec Ideal Cert.DFf2WRefIdeal.S4096x1024 .bf16 :=
  truncf .bf16 (transpose Cert.DFf2WRefIdeal.S4096x1024 [1, 0] (Host.dotGeneral Cert.DFf2WRefIdeal.dot_S4096x1024_S4096x4096_S1024x4096_0_0_1_1_n_n none a1 (mulf (maximumf a0 (broadcastInDim Cert.DFf2WRefIdeal.S4096x4096 ![] Cert.DFf2WRefIdeal.Gen.bcast_S_S4096x4096 (constant Cert.DFf2WRefIdeal.S_ .f32 0x00000000#32))) (maximumf a0 (broadcastInDim Cert.DFf2WRefIdeal.S4096x4096 ![] Cert.DFf2WRefIdeal.Gen.bcast_S_S4096x4096 (constant Cert.DFf2WRefIdeal.S_ .f32 0x00000000#32))))) Cert.DFf2WRefIdeal.Gen.transposes_S1024x4096_S4096x1024_1_0) Cert.DFf2WRefIdeal.Gen.bitsLt_bf16_f32

theorem hpart (x0 : FVec Ideal S2048x1024 .bf16) (x1 : FVec Ideal S2048x1024 .f32) (j : S1024x1024.Idx) :
    k0_pay2 (F := Ideal) x0 x1 j = ∑ k : Fin 2048, x0 (ix2 k (j 0)) * x1 (ix2 k (j 1)) := by
  pointwise [k0_pay2, k0_pay1]

theorem hstep (x0 : FVec Ideal S2048x1024 .bf16) (x1 : FVec Ideal S2048x1024 .f32) (acc : FVec Ideal S1024x1024 .f32) (j : S1024x1024.Idx) :
    k0_pay3 (F := Ideal) x0 x1 acc j = acc j + ∑ k : Fin 2048, x0 (ix2 k (j 0)) * x1 (ix2 k (j 1)) := by
  pointwise [k0_pay3, k0_pay1]

theorem hlast (acc : FVec Ideal S1024x1024 .f32) (j : S1024x1024.Idx) : k0_pay4 (F := Ideal) acc j = acc j := by
  pointwise [k0_pay4]

theorem href (a0 : FVec Ideal Cert.DFf2WRefIdeal.S4096x4096 .f32) (a1 : FVec Ideal Cert.DFf2WRefIdeal.S4096x1024 .f32) (j : Cert.DFf2WRefIdeal.S4096x1024.Idx) :
    REF a0 a1 j = ∑ k : Fin 4096, (max (a0 (ix2 k (j 0))) 0 * max (a0 (ix2 k (j 0))) 0) * a1 (ix2 k (j 1)) := by
  pointwise [REF]
  exact Finset.sum_congr rfl fun k _ => mul_comm (G := EReal) _ _

theorem idx : ∀ t : Fin cfg0.N, win0_0.index t = ![t.val % 2, t.val / 2]
    ∧ win0_1.index t = ![t.val % 2, 0]
    ∧ win0_2.index t = ![t.val / 2, 0] :=
  (by decide +kernel : ∀ t : Fin grid0.N, _)

theorem rb (c : Dev nD) : V m c main_v2 = (truncf .bf16 (mulf (maximumf (m ((c : Thread nD τ).loc main_arg0)) (broadcastInDim S4096x4096 ![] bcast_S_S4096x4096 (constant S_ .f32 0x00000000#32))) (maximumf (m ((c : Thread nD τ).loc main_arg0)) (broadcastInDim S4096x4096 ![] bcast_S_S4096x4096 (constant S_ .f32 0x00000000#32)))) bitsLt_bf16_f32 : FVec Ideal S4096x4096 .bf16) := by
  unfold V
  after_results_simp
  rfl

theorem rb_at (a : FVec Ideal S4096x4096 .f32) (j : S4096x4096.Idx) :
    (truncf .bf16 (mulf (maximumf a (broadcastInDim S4096x4096 ![] bcast_S_S4096x4096 (constant S_ .f32 0x00000000#32))) (maximumf a (broadcastInDim S4096x4096 ![] bcast_S_S4096x4096 (constant S_ .f32 0x00000000#32)))) bitsLt_bf16_f32 : FVec Ideal S4096x4096 .bf16) j = max (a j) 0 * max (a j) 0 := by
  pointwise

/-- What the scratch holds after a point: reset at the first point of a run, added into at the others. -/
theorem acc_reset (c : Dev nD) (t : Fin cfg0.N) (h : t.val % 2 = 0) (j : S1024x1024.Idx) :
    (outsAt0 m c t.val t.isLt).2 j = (0 : EReal) + ∑ k : Fin 2048, (show FVec Ideal S2048x1024 .bf16 from iblk m c 0 t) (ix2 k (j 0)) * (show FVec Ideal S2048x1024 .f32 from iblk m c 1 t) (ix2 k (j 1)) := by
  rw [outsAt0_A m c t h (by omega) (by omega)]; frame_out; rw [hpart, zero_add]

theorem acc_step (c : Dev nD) (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + ∑ k : Fin 2048, (show FVec Ideal S2048x1024 .bf16 from iblk m c 0 t) (ix2 k (j 0)) * (show FVec Ideal S2048x1024 .f32 from iblk m c 1 t) (ix2 k (j 1)) := by
  rw [outsAt0_B m c t h (by omega) (by omega)]; frame_out; rw [hstep, read_unread_whole]

theorem out_last (c : Dev nD) (t : Fin cfg0.N) (h : t.val % 2 = 1) (j : S1024x1024.Idx) :
    (outsAt0 m c t.val t.isLt).1 j = (outsAt0 m c t.val t.isLt).2 j := by
  rw [outsAt0_B m c t (by omega) h h]; frame_out; rw [hlast]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush (fun n h => (outsAt0 m c n h).2) 2 (fun _ => (0 : EReal)) (fun t j => ∑ k : Fin 2048, (show FVec Ideal S2048x1024 .bf16 from iblk m c 0 t) (ix2 k (j 0)) * (show FVec Ideal S2048x1024 .f32 from iblk m c 1 t) (ix2 k (j 1)))
    (acc_reset m c) (acc_step m c) t ((flush0_2 t).mp hf) _, zero_add, href]
  refine Fin.sum_mul_add_congr fun s k hl => ?_
  refine congrArg₂ (fun a b : EReal => a * b) (Eq.trans ?_ (rb_at _ _)) ?_
  · rw [← rb m c]
    blk_ext [iblk, idx t, idx ⟨_, Pipeline.run_point_lt_of_flush t ((flush0_2 t).mp hf) s⟩]
  · blk_point [iblk, V_main_arg1, idx t, idx ⟨_, Pipeline.run_point_lt_of_flush t ((flush0_2 t).mp hf) s⟩]

/-- The reference runs, its arguments end unchanged; it declares no semaphore. -/
theorem refFrame : @Cert.quiescent_DFf2WRefIdeal Cert.DFf2WRefIdeal.Gen.facts := fun m ρ _ =>
  (θ_run _ _ _).mono (fun r h => ⟨fun c => (h c).2, Idealize.ShloMosaic.sem_eq_zero_of_no_sems (by decide) r.2⟩)
    (Cert.DFf2WRefIdeal.Value.run m ρ)

/-- Kernel and reference end with equal results. -/
theorem alg : @Cert.algebraic_DFf2WIdeal_DFf2WRefIdeal Cert.DFf2WIdeal.Gen.facts Cert.DFf2WRefIdeal.Gen.facts := by
  intro m g m' g' _ hargs
  refine ⟨fun c => (dats m 0 c).arrAt 2 cfg0.N, Cert.DFf2WIdeal.Value.run_blocks m g,
    (θ_run _ _ _).mono (fun r h c => ⟨(h c).1.trans ?_, (h c).2⟩) (Cert.DFf2WRefIdeal.Value.run m' g')⟩
  rw [(hargs c).1, (hargs c).2]
  exact (final m c).symm

end Cert.DFf2WIdeal.Math

end
-- ==== Proof.DFf1WMath.lean ====
module

public import proofs.«01_k».proof.Proof.Gen.DFf1WIdeal.Value
public import proofs.«01_k».proof.Proof.Gen.DFf1WRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.DFf1WIdeal.Math

open Cert.DFf1WIdeal Cert.DFf1WIdeal.Gen
open Idealize.ShloMosaic.Pointwise

variable (m : (ℓ : Loc nD τ sig) → Buf (Elt Ideal) ℓ)

/-- The reference's result over its arguments. -/
abbrev REF (a0 : FVec Ideal Cert.DFf1WRefIdeal.S4096x1024 .bf16) (a1 : FVec Ideal Cert.DFf1WRefIdeal.S4096x4096 .bf16) : FVec Ideal Cert.DFf1WRefIdeal.S4x1024x1024 .bf16 :=
  transpose Cert.DFf1WRefIdeal.S4x1024x1024 [1, 0, 2] (shapeCast _ (truncf .bf16 (transpose Cert.DFf1WRefIdeal.S1024x4096 [1, 0] (Host.dotGeneral Cert.DFf1WRefIdeal.dot_S4096x4096_S4096x1024_S4096x1024_0_0_1_1_n_n none (extf .f32 a1 Cert.DFf1WRefIdeal.Gen.bitsLt_bf16_f32) (extf .f32 a0 Cert.DFf1WRefIdeal.Gen.bitsLt_bf16_f32)) Cert.DFf1WRefIdeal.Gen.transposes_S4096x1024_S1024x4096_1_0) Cert.DFf1WRefIdeal.Gen.bitsLt_bf16_f32) Cert.DFf1WRefIdeal.Gen.shapeCasts_S1024x4096_S1024x4x1024) Cert.DFf1WRefIdeal.Gen.transposes_S1024x4x1024_S4x1024x1024_1_0_2

theorem hpart (x0 : FVec Ideal S2048x1024 .bf16) (x1 : FVec Ideal S2048x1024 .bf16) (j : S1024x1024.Idx) :
    k0_pay2 (F := Ideal) x0 x1 j = ∑ k : Fin 2048, x0 (ix2 k (j 0)) * x1 (ix2 k (j 1)) := by
  pointwise [k0_pay2, k0_pay1]

theorem hstep (x0 : FVec Ideal S2048x1024 .bf16) (x1 : FVec Ideal S2048x1024 .bf16) (acc : FVec Ideal S1024x1024 .f32) (j : S1024x1024.Idx) :
    k0_pay3 (F := Ideal) x0 x1 acc j = acc j + ∑ k : Fin 2048, x0 (ix2 k (j 0)) * x1 (ix2 k (j 1)) := by
  pointwise [k0_pay3, k0_pay1]

theorem hlast (acc : FVec Ideal S1024x1024 .f32) (j : S1x1024x1024.Idx) : k0_pay4 (F := Ideal) acc j = acc (ix2 (j 1) (j 2)) := by
  pointwise [k0_pay4]

theorem href (a0 : FVec Ideal Cert.DFf1WRefIdeal.S4096x1024 .bf16) (a1 : FVec Ideal Cert.DFf1WRefIdeal.S4096x4096 .bf16) (j : Cert.DFf1WRefIdeal.S4x1024x1024.Idx) :
    REF a0 a1 j = ∑ k : Fin 4096, a0 (ix2 k (j 1)) * a1 (ix2 k (⟨(j 0).val * 1024 + (j 2).val, by have h0 : (j 0).val < 4 := (j 0).isLt; have h1 : (j 2).val < 1024 := (j 2).isLt; omega⟩ : Fin 4096)) := by
  pointwise [REF]
  exact Finset.sum_congr rfl fun k _ => mul_comm (G := EReal) _ _

theorem idx : ∀ t : Fin cfg0.N, win0_0.index t = ![t.val % 2, 0]
    ∧ win0_1.index t = ![t.val % 2, t.val / 2]
    ∧ win0_2.index t = ![t.val / 2, 0, 0] :=
  (by decide +kernel : ∀ t : Fin grid0.N, _)

/-- What the scratch holds after a point: reset at the first point of a run, added into at the others. -/
theorem acc_reset (c : Dev nD) (t : Fin cfg0.N) (h : t.val % 2 = 0) (j : S1024x1024.Idx) :
    (outsAt0 m c t.val t.isLt).2 j = (0 : EReal) + ∑ k : Fin 2048, (show FVec Ideal S2048x1024 .bf16 from iblk m c 0 t) (ix2 k (j 0)) * (show FVec Ideal S2048x1024 .bf16 from iblk m c 1 t) (ix2 k (j 1)) := by
  rw [outsAt0_A m c t h (by omega) (by omega)]; frame_out; rw [hpart, zero_add]

theorem acc_step (c : Dev nD) (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + ∑ k : Fin 2048, (show FVec Ideal S2048x1024 .bf16 from iblk m c 0 t) (ix2 k (j 0)) * (show FVec Ideal S2048x1024 .bf16 from iblk m c 1 t) (ix2 k (j 1)) := by
  rw [outsAt0_B m c t h (by omega) (by omega)]; frame_out; rw [hstep, read_unread_whole]

theorem out_last (c : Dev nD) (t : Fin cfg0.N) (h : t.val % 2 = 1) (j : S1x1024x1024.Idx) :
    (outsAt0 m c t.val t.isLt).1 j = (outsAt0 m c t.val t.isLt).2 (ix2 (j 1) (j 2)) := by
  rw [outsAt0_B m c t (by omega) h h]; frame_out; rw [hlast]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush (fun n h => (outsAt0 m c n h).2) 2 (fun _ => (0 : EReal)) (fun t j => ∑ k : Fin 2048, (show FVec Ideal S2048x1024 .bf16 from iblk m c 0 t) (ix2 k (j 0)) * (show FVec Ideal S2048x1024 .bf16 from iblk m c 1 t) (ix2 k (j 1)))
    (acc_reset m c) (acc_step m c) t ((flush0_2 t).mp hf) _, zero_add, href]
  refine Fin.sum_mul_add_congr fun s k hl => ?_
  blk_point [iblk, V, idx t, idx ⟨_, Pipeline.run_point_lt_of_flush t ((flush0_2 t).mp hf) s⟩]

/-- The reference runs, its arguments end unchanged; it declares no semaphore. -/
theorem refFrame : @Cert.quiescent_DFf1WRefIdeal Cert.DFf1WRefIdeal.Gen.facts := fun m ρ _ =>
  (θ_run _ _ _).mono (fun r h => ⟨fun c => (h c).2, Idealize.ShloMosaic.sem_eq_zero_of_no_sems (by decide) r.2⟩)
    (Cert.DFf1WRefIdeal.Value.run m ρ)

/-- Kernel and reference end with equal results. -/
theorem alg : @Cert.algebraic_DFf1WIdeal_DFf1WRefIdeal Cert.DFf1WIdeal.Gen.facts Cert.DFf1WRefIdeal.Gen.facts := by
  intro m g m' g' _ hargs
  refine ⟨fun c => (dats m 0 c).arrAt 2 cfg0.N, Cert.DFf1WIdeal.Value.run_blocks m g,
    (θ_run _ _ _).mono (fun r h c => ⟨(h c).1.trans ?_, (h c).2⟩) (Cert.DFf1WRefIdeal.Value.run m' g')⟩
  rw [(hargs c).1, (hargs c).2]
  exact (final m c).symm

end Cert.DFf1WIdeal.Math

end
-- ==== Proof.DOutActMath.lean ====
module

public import proofs.«01_k».proof.Proof.Gen.DOutActIdeal.Value
public import proofs.«01_k».proof.Proof.Gen.DOutActRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.DOutActIdeal.Math

open Cert.DOutActIdeal Cert.DOutActIdeal.Gen
open Idealize.ShloMosaic.Pointwise

variable (m : (ℓ : Loc nD τ sig) → Buf (Elt Ideal) ℓ)

/-- The reference's result over its arguments. -/
abbrev REF (a0 : FVec Ideal Cert.DOutActRefIdeal.S4096x1024 .f32) (a1 : FVec Ideal Cert.DOutActRefIdeal.S1024x1024 .bf16) : FVec Ideal Cert.DOutActRefIdeal.S4096x1024 .f32 :=
  Host.dotGeneral Cert.DOutActRefIdeal.dot_S4096x1024_S1024x1024_S4096x1024_1_1_0_0_n_n none a0 (extf .f32 a1 Cert.DOutActRefIdeal.Gen.bitsLt_bf16_f32)

theorem hpay (x0 : FVec Ideal S1024x1024 .f32) (x1 : FVec Ideal S1024x1024 .bf16) (j : S1024x1024.Idx) :
    k0_pay1 (F := Ideal) x0 x1 j = ∑ k : Fin 1024, x0 (ix2 (j 0) k) * x1 (ix2 (j 1) k) := by
  pointwise [k0_pay1]

theorem href (a0 : FVec Ideal Cert.DOutActRefIdeal.S4096x1024 .f32) (a1 : FVec Ideal Cert.DOutActRefIdeal.S1024x1024 .bf16) (j : Cert.DOutActRefIdeal.S4096x1024.Idx) :
    REF a0 a1 j = ∑ k : Fin 1024, a0 (ix2 (j 0) k) * a1 (ix2 (j 1) k) := by
  pointwise [REF]

theorem idx : ∀ t : Fin cfg0.N, win0_0.index t = ![t.val, 0]
    ∧ win0_1.index t = ![0, 0]
    ∧ win0_2.index t = ![t.val, 0] :=
  (by decide +kernel : ∀ t : Fin grid0.N, _)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  refine (hpay _ _ y).trans (Eq.trans ?_ (href _ _ _).symm)
  refine Fin.sum_fin_congr fun k => ?_
  blk_point [iblk, V, idx t]

/-- The reference runs, its arguments end unchanged; it declares no semaphore. -/
theorem refFrame : @Cert.quiescent_DOutActRefIdeal Cert.DOutActRefIdeal.Gen.facts := fun m ρ _ =>
  (θ_run _ _ _).mono (fun r h => ⟨fun c => (h c).2, Idealize.ShloMosaic.sem_eq_zero_of_no_sems (by decide) r.2⟩)
    (Cert.DOutActRefIdeal.Value.run m ρ)

/-- Kernel and reference end with equal results. -/
theorem alg : @Cert.algebraic_DOutActIdeal_DOutActRefIdeal Cert.DOutActIdeal.Gen.facts Cert.DOutActRefIdeal.Gen.facts := by
  intro m g m' g' _ hargs
  refine ⟨fun c => (dats m 0 c).arrAt 2 cfg0.N, Cert.DOutActIdeal.Value.run_blocks m g,
    (θ_run _ _ _).mono (fun r h c => ⟨(h c).1.trans ?_, (h c).2⟩) (Cert.DOutActRefIdeal.Value.run m' g')⟩
  rw [(hargs c).1, (hargs c).2]
  exact (final m c).symm

end Cert.DOutActIdeal.Math

end
-- ==== Proof.DOutWMath.lean ====
module

public import proofs.«01_k».proof.Proof.Gen.DOutWIdeal.Value
public import proofs.«01_k».proof.Proof.Gen.DOutWRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.DOutWIdeal.Math

open Cert.DOutWIdeal Cert.DOutWIdeal.Gen
open Idealize.ShloMosaic.Pointwise

variable (m : (ℓ : Loc nD τ sig) → Buf (Elt Ideal) ℓ)

/-- The reference's result over its arguments. -/
abbrev REF (a0 : FVec Ideal Cert.DOutWRefIdeal.S4096x1024 .bf16) (a1 : FVec Ideal Cert.DOutWRefIdeal.S4096x1024 .f32) : FVec Ideal Cert.DOutWRefIdeal.S1024x1024 .bf16 :=
  truncf .bf16 (transpose Cert.DOutWRefIdeal.S1024x1024 [1, 0] (Host.dotGeneral Cert.DOutWRefIdeal.dot_S4096x1024_S4096x1024_S1024x1024_0_0_1_1_n_n none a1 (extf .f32 a0 Cert.DOutWRefIdeal.Gen.bitsLt_bf16_f32)) Cert.DOutWRefIdeal.Gen.transposes_S1024x1024_S1024x1024_1_0) Cert.DOutWRefIdeal.Gen.bitsLt_bf16_f32

theorem hpart (x0 : FVec Ideal S1024x1024 .bf16) (x1 : FVec Ideal S1024x1024 .f32) (j : S1024x1024.Idx) :
    k0_pay2 (F := Ideal) x0 x1 j = ∑ k : Fin 1024, x0 (ix2 k (j 0)) * x1 (ix2 k (j 1)) := by
  pointwise [k0_pay2, k0_pay1]

theorem hstep (x0 : FVec Ideal S1024x1024 .bf16) (x1 : FVec Ideal S1024x1024 .f32) (acc : FVec Ideal S1024x1024 .f32) (j : S1024x1024.Idx) :
    k0_pay3 (F := Ideal) x0 x1 acc j = acc j + ∑ k : Fin 1024, x0 (ix2 k (j 0)) * x1 (ix2 k (j 1)) := by
  pointwise [k0_pay3, k0_pay1]

theorem hlast (acc : FVec Ideal S1024x1024 .f32) (j : S1024x1024.Idx) : k0_pay4 (F := Ideal) acc j = acc j := by
  pointwise [k0_pay4]

theorem href (a0 : FVec Ideal Cert.DOutWRefIdeal.S4096x1024 .bf16) (a1 : FVec Ideal Cert.DOutWRefIdeal.S4096x1024 .f32) (j : Cert.DOutWRefIdeal.S1024x1024.Idx) :
    REF a0 a1 j = ∑ k : Fin 4096, a0 (ix2 k (j 0)) * a1 (ix2 k (j 1)) := by
  pointwise [REF]
  exact Finset.sum_congr rfl fun k _ => mul_comm (G := EReal) _ _

theorem idx : ∀ t : Fin cfg0.N, win0_0.index t = ![t.val, 0]
    ∧ win0_1.index t = ![t.val, 0]
    ∧ win0_2.index t = ![0, 0] :=
  (by decide +kernel : ∀ t : Fin grid0.N, _)

/-- What the scratch holds after a point: reset at the first point of a run, added into at the others. -/
theorem acc_reset (c : Dev nD) (t : Fin cfg0.N) (h : t.val % 4 = 0) (j : S1024x1024.Idx) :
    (outsAt0 m c t.val t.isLt).2 j = (0 : EReal) + ∑ k : Fin 1024, (show FVec Ideal S1024x1024 .bf16 from iblk m c 0 t) (ix2 k (j 0)) * (show FVec Ideal S1024x1024 .f32 from iblk m c 1 t) (ix2 k (j 1)) := by
  have hN : t.val < 4 := t.isLt
  rw [outsAt0_A m c t h (by omega) (by omega)]; frame_out; rw [hpart, zero_add]

theorem acc_step (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + ∑ k : Fin 1024, (show FVec Ideal S1024x1024 .bf16 from iblk m c 0 t) (ix2 k (j 0)) * (show FVec Ideal S1024x1024 .f32 from iblk m c 1 t) (ix2 k (j 1)) := by
  by_cases h3 : t.val % 4 = 3
  · rw [outsAt0_C m c t h (by omega) h3]; frame_out; rw [hstep, read_unread_whole]
  · rw [outsAt0_B m c t h (by omega) h3]; frame_out; rw [hstep, read_unread_whole]

theorem out_last (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]; frame_out; rw [hlast]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush (fun n h => (outsAt0 m c n h).2) 4 (fun _ => (0 : EReal)) (fun t j => ∑ k : Fin 1024, (show FVec Ideal S1024x1024 .bf16 from iblk m c 0 t) (ix2 k (j 0)) * (show FVec Ideal S1024x1024 .f32 from iblk m c 1 t) (ix2 k (j 1)))
    (acc_reset m c) (acc_step m c) t ((flush0_2 t).mp hf) _, zero_add, href]
  refine Fin.sum_mul_add_congr fun s k hl => ?_
  blk_point [iblk, V, idx t, idx ⟨_, Pipeline.run_point_lt_of_flush t ((flush0_2 t).mp hf) s⟩]

/-- The reference runs, its arguments end unchanged; it declares no semaphore. -/
theorem refFrame : @Cert.quiescent_DOutWRefIdeal Cert.DOutWRefIdeal.Gen.facts := fun m ρ _ =>
  (θ_run _ _ _).mono (fun r h => ⟨fun c => (h c).2, Idealize.ShloMosaic.sem_eq_zero_of_no_sems (by decide) r.2⟩)
    (Cert.DOutWRefIdeal.Value.run m ρ)

/-- Kernel and reference end with equal results. -/
theorem alg : @Cert.algebraic_DOutWIdeal_DOutWRefIdeal Cert.DOutWIdeal.Gen.facts Cert.DOutWRefIdeal.Gen.facts := by
  intro m g m' g' _ hargs
  refine ⟨fun c => (dats m 0 c).arrAt 2 cfg0.N, Cert.DOutWIdeal.Value.run_blocks m g,
    (θ_run _ _ _).mono (fun r h c => ⟨(h c).1.trans ?_, (h c).2⟩) (Cert.DOutWRefIdeal.Value.run m' g')⟩
  rw [(hargs c).1, (hargs c).2]
  exact (final m c).symm

end Cert.DOutWIdeal.Math

end
-- ==== Proof.InProjMath.lean ====
module

public import proofs.«01_k».proof.Proof.Gen.InProjIdeal.Value
public import proofs.«01_k».proof.Proof.Gen.InProjRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.InProjIdeal.Math

open Cert.InProjIdeal Cert.InProjIdeal.Gen
open Idealize.ShloMosaic.Pointwise

variable (m : (ℓ : Loc nD τ sig) → Buf (Elt Ideal) ℓ)

/-- The reference's result over its arguments. -/
abbrev REF (a0 : FVec Ideal Cert.InProjRefIdeal.S4096x1024 .bf16) (a1 : FVec Ideal Cert.InProjRefIdeal.S7424x1024 .bf16) : FVec Ideal Cert.InProjRefIdeal.S4096x7424 .f32 :=
  Host.dotGeneral Cert.InProjRefIdeal.dot_S4096x1024_S1024x7424_S4096x7424_1_0_0_1_n_n none (extf .f32 a0 Cert.InProjRefIdeal.Gen.bitsLt_bf16_f32) (extf .f32 (transpose Cert.InProjRefIdeal.S1024x7424 [1, 0] a1 Cert.InProjRefIdeal.Gen.transposes_S7424x1024_S1024x7424_1_0) Cert.InProjRefIdeal.Gen.bitsLt_bf16_f32)

theorem hpay (x0 : FVec Ideal S512x1024 .bf16) (x1 : FVec Ideal S3712x1024 .bf16) (j : S512x3712.Idx) :
    k0_pay1 (F := Ideal) x0 x1 j = ∑ k : Fin 1024, x0 (ix2 (j 0) k) * x1 (ix2 (j 1) k) := by
  pointwise [k0_pay1]

theorem href (a0 : FVec Ideal Cert.InProjRefIdeal.S4096x1024 .bf16) (a1 : FVec Ideal Cert.InProjRefIdeal.S7424x1024 .bf16) (j : Cert.InProjRefIdeal.S4096x7424.Idx) :
    REF a0 a1 j = ∑ k : Fin 1024, a0 (ix2 (j 0) k) * a1 (ix2 (j 1) k) := by
  pointwise [REF]

theorem idx : ∀ t : Fin cfg0.N, win0_0.index t = ![t.val % 8, 0]
    ∧ win0_1.index t = ![t.val / 8, 0]
    ∧ win0_2.index t = ![t.val % 8, t.val / 8] :=
  (by decide +kernel : ∀ t : Fin grid0.N, _)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  refine (hpay _ _ y).trans (Eq.trans ?_ (href _ _ _).symm)
  refine Fin.sum_fin_congr fun k => ?_
  blk_point [iblk, V, idx t]

/-- The reference runs, its arguments end unchanged; it declares no semaphore. -/
theorem refFrame : @Cert.quiescent_InProjRefIdeal Cert.InProjRefIdeal.Gen.facts := fun m ρ _ =>
  (θ_run _ _ _).mono (fun r h => ⟨fun c => (h c).2, Idealize.ShloMosaic.sem_eq_zero_of_no_sems (by decide) r.2⟩)
    (Cert.InProjRefIdeal.Value.run m ρ)

/-- Kernel and reference end with equal results. -/
theorem alg : @Cert.algebraic_InProjIdeal_InProjRefIdeal Cert.InProjIdeal.Gen.facts Cert.InProjRefIdeal.Gen.facts := by
  intro m g m' g' _ hargs
  refine ⟨fun c => (dats m 0 c).arrAt 2 cfg0.N, Cert.InProjIdeal.Value.run_blocks m g,
    (θ_run _ _ _).mono (fun r h c => ⟨(h c).1.trans ?_, (h c).2⟩) (Cert.InProjRefIdeal.Value.run m' g')⟩
  rw [(hargs c).1, (hargs c).2]
  exact (final m c).symm

end Cert.InProjIdeal.Math

end
-- ==== Proof.Ff1Math.lean ====
module

public import proofs.«01_k».proof.Proof.Gen.Ff1Ideal.Value
public import proofs.«01_k».proof.Proof.Gen.Ff1RefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Ff1Ideal.Math

open Cert.Ff1Ideal Cert.Ff1Ideal.Gen
open Idealize.ShloMosaic.Pointwise

variable (m : (ℓ : Loc nD τ sig) → Buf (Elt Ideal) ℓ)

/-- The reference's result over its arguments. -/
abbrev REF (a0 : FVec Ideal Cert.Ff1RefIdeal.S4096x1024 .bf16) (a1 : FVec Ideal Cert.Ff1RefIdeal.S4x1024x1024 .bf16) : FVec Ideal Cert.Ff1RefIdeal.S4096x4096 .bf16 :=
  truncf .bf16 (mulf (maximumf (Host.dotGeneral Cert.Ff1RefIdeal.dot_S4096x1024_S1024x4096_S4096x4096_1_0_0_1_n_n none (extf .f32 a0 Cert.Ff1RefIdeal.Gen.bitsLt_bf16_f32) (extf .f32 (shapeCast _ (transpose Cert.Ff1RefIdeal.S1024x4x1024 [1, 0, 2] a1 Cert.Ff1RefIdeal.Gen.transposes_S4x1024x1024_S1024x4x1024_1_0_2) Cert.Ff1RefIdeal.Gen.shapeCasts_S1024x4x1024_S1024x4096) Cert.Ff1RefIdeal.Gen.bitsLt_bf16_f32)) (broadcastInDim Cert.Ff1RefIdeal.S4096x4096 ![] Cert.Ff1RefIdeal.Gen.bcast_S_S4096x4096 (constant Cert.Ff1RefIdeal.S_ .f32 0x00000000#32))) (maximumf (Host.dotGeneral Cert.Ff1RefIdeal.dot_S4096x1024_S1024x4096_S4096x4096_1_0_0_1_n_n none (extf .f32 a0 Cert.Ff1RefIdeal.Gen.bitsLt_bf16_f32) (extf .f32 (shapeCast _ (transpose Cert.Ff1RefIdeal.S1024x4x1024 [1, 0, 2] a1 Cert.Ff1RefIdeal.Gen.transposes_S4x1024x1024_S1024x4x1024_1_0_2) Cert.Ff1RefIdeal.Gen.shapeCasts_S1024x4x1024_S1024x4096) Cert.Ff1RefIdeal.Gen.bitsLt_bf16_f32)) (broadcastInDim Cert.Ff1RefIdeal.S4096x4096 ![] Cert.Ff1RefIdeal.Gen.bcast_S_S4096x4096 (constant Cert.Ff1RefIdeal.S_ .f32 0x00000000#32)))) Cert.Ff1RefIdeal.Gen.bitsLt_bf16_f32

theorem hpay (x0 : FVec Ideal S1024x1024 .bf16) (x1 : FVec Ideal S1x1024x1024 .bf16) (j : S1024x1024.Idx) :
    k0_pay1 (F := Ideal) x0 x1 j = max (∑ k : Fin 1024, x0 (ix2 (j 0) k) * x1 (ix3 0 k (j 1))) 0 * max (∑ k : Fin 1024, x0 (ix2 (j 0) k) * x1 (ix3 0 k (j 1))) 0 := by
  pointwise [k0_pay1]

theorem idx : ∀ t : Fin cfg0.N, win0_0.index t = ![t.val % 4, 0]
    ∧ win0_1.index t = ![t.val / 4, 0, 0]
    ∧ win0_2.index t = ![t.val % 4, t.val / 4] :=
  (by decide +kernel : ∀ t : Fin grid0.N, _)

theorem href (a0 : FVec Ideal Cert.Ff1RefIdeal.S4096x1024 .bf16) (a1 : FVec Ideal Cert.Ff1RefIdeal.S4x1024x1024 .bf16) (j : Cert.Ff1RefIdeal.S4096x4096.Idx) :
    REF a0 a1 j = max (∑ k : Fin 1024, a0 (ix2 (j 0) k) * a1 (ix3 (⟨(j 1).val / 1024, by have h : (j 1).val < 4096 := (j 1).isLt; omega⟩ : Fin 4) k (⟨(j 1).val % 1024, by omega⟩ : Fin 1024))) 0 * max (∑ k : Fin 1024, a0 (ix2 (j 0) k) * a1 (ix3 (⟨(j 1).val / 1024, by have h : (j 1).val < 4096 := (j 1).isLt; omega⟩ : Fin 4) k (⟨(j 1).val % 1024, by omega⟩ : Fin 1024))) 0 := by
  pointwise [REF]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  refine (hpay _ _ y).trans (Eq.trans ?_ (href _ _ _).symm)
  blk_point [iblk, V, idx t]

/-- The reference runs, its arguments end unchanged; it declares no semaphore. -/
theorem refFrame : @Cert.quiescent_Ff1RefIdeal Cert.Ff1RefIdeal.Gen.facts := fun m ρ _ =>
  (θ_run _ _ _).mono (fun r h => ⟨fun c => (h c).2, Idealize.ShloMosaic.sem_eq_zero_of_no_sems (by decide) r.2⟩)
    (Cert.Ff1RefIdeal.Value.run m ρ)

/-- Kernel and reference end with equal results. -/
theorem alg : @Cert.algebraic_Ff1Ideal_Ff1RefIdeal Cert.Ff1Ideal.Gen.facts Cert.Ff1RefIdeal.Gen.facts := by
  intro m g m' g' _ hargs
  refine ⟨fun c => (dats m 0 c).arrAt 2 cfg0.N, Cert.Ff1Ideal.Value.run_blocks m g,
    (θ_run _ _ _).mono (fun r h c => ⟨(h c).1.trans ?_, (h c).2⟩) (Cert.Ff1RefIdeal.Value.run m' g')⟩
  rw [(hargs c).1, (hargs c).2]
  exact (final m c).symm

end Cert.Ff1Ideal.Math

end
-- ==== Proof.Ff2LossMath.lean ====
module

public import proofs.«01_k».proof.Proof.Gen.Ff2LossIdeal.Value
public import proofs.«01_k».proof.Proof.Gen.Ff2LossRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Ff2LossIdeal.Math

open Cert.Ff2LossIdeal Cert.Ff2LossIdeal.Gen
open Idealize.ShloMosaic.Pointwise

variable (m : (ℓ : Loc nD τ sig) → Buf (Elt Ideal) ℓ)

/-- The reference's error: the residual, the product, less the target. -/
abbrev ERR (a0 : FVec Ideal Cert.Ff2LossRefIdeal.S4096x4096 .bf16) (a1 : FVec Ideal Cert.Ff2LossRefIdeal.S4096x1024 .bf16) (a2 : FVec Ideal Cert.Ff2LossRefIdeal.S4096x1024 .f32) (a3 : FVec Ideal Cert.Ff2LossRefIdeal.S4096x1024 .f32) : FVec Ideal Cert.Ff2LossRefIdeal.S4096x1024 .f32 :=
  subf (addf a2 (Host.dotGeneral Cert.Ff2LossRefIdeal.dot_S4096x4096_S4096x1024_S4096x1024_1_0_0_1_n_n none (extf .f32 a0 Cert.Ff2LossRefIdeal.Gen.bitsLt_bf16_f32) (extf .f32 a1 Cert.Ff2LossRefIdeal.Gen.bitsLt_bf16_f32))) a3

/-- The reference's derivative of the loss by the error `x`. -/
abbrev DER (x : FVec Ideal Cert.Ff2LossRefIdeal.S4096x1024 .f32) : FVec Ideal Cert.Ff2LossRefIdeal.S4096x1024 .f32 :=
  mulf (broadcastInDim Cert.Ff2LossRefIdeal.S4096x1024 ![0] Cert.Ff2LossRefIdeal.Gen.bcast_S4096_S4096x1024_0 (Host.divf (broadcastInDim Cert.Ff2LossRefIdeal.S4096 ![] Cert.Ff2LossRefIdeal.Gen.bcast_S_S4096 (mulf (constant Cert.Ff2LossRefIdeal.S_ .f32 0x3F000000#32) (constant Cert.Ff2LossRefIdeal.S_ .f32 0x3F800000#32))) (broadcastInDim Cert.Ff2LossRefIdeal.S4096 ![] Cert.Ff2LossRefIdeal.Gen.bcast_S_S4096 (constant Cert.Ff2LossRefIdeal.S_ .f32 0x44800000#32)))) (mulf (broadcastInDim Cert.Ff2LossRefIdeal.S4096x1024 ![] Cert.Ff2LossRefIdeal.Gen.bcast_S_S4096x1024 (constant Cert.Ff2LossRefIdeal.S_ .f32 0x40000000#32)) x)

/-- The reference's loss of the error `x`. -/
abbrev LOSS (x : FVec Ideal Cert.Ff2LossRefIdeal.S4096x1024 .f32) : FVec Ideal Cert.Ff2LossRefIdeal.S1x128 .f32 :=
  broadcastInDim Cert.Ff2LossRefIdeal.S1x128 ![] Cert.Ff2LossRefIdeal.Gen.bcast_S_S1x128 (mulf (constant Cert.Ff2LossRefIdeal.S_ .f32 0x3F000000#32) (Host.reduceAdd (Host.divf (Host.reduceAdd (mulf x x) (constant Cert.Ff2LossRefIdeal.S_ .f32 0x00000000#32) Cert.Ff2LossRefIdeal.Gen.reducesTo_S4096x1024_S4096_d1 Cert.Ff2LossRefIdeal.Gen.h_S_) (broadcastInDim Cert.Ff2LossRefIdeal.S4096 ![] Cert.Ff2LossRefIdeal.Gen.bcast_S_S4096 (constant Cert.Ff2LossRefIdeal.S_ .f32 0x44800000#32))) (constant Cert.Ff2LossRefIdeal.S_ .f32 0x00000000#32) Cert.Ff2LossRefIdeal.Gen.reducesTo_S4096_S_d0 Cert.Ff2LossRefIdeal.Gen.h_S_))

theorem herr (x0 : FVec Ideal S512x4096 .bf16) (x1 : FVec Ideal S4096x1024 .bf16) (x2 x3 : FVec Ideal S512x1024 .f32) (j : S512x1024.Idx) :
    k0_pay1 (F := Ideal) x0 x1 x2 x3 j = x2 j + (∑ k : Fin 4096, x0 (ix2 (j 0) k) * x1 (ix2 k (j 1))) - x3 j := by
  pointwise [k0_pay1]

theorem hder (x0 : FVec Ideal S512x4096 .bf16) (x1 : FVec Ideal S4096x1024 .bf16) (x2 x3 : FVec Ideal S512x1024 .f32) (j : S512x1024.Idx) :
    k0_pay2 (F := Ideal) x0 x1 x2 x3 j = Ideal.div (k0_pay1 (F := Ideal) x0 x1 x2 x3 j) (Ideal.ofBits FTy.f32 1149239296#32) := by
  unfold k0_pay2
  generalize k0_pay1 (F := Ideal) x0 x1 x2 x3 = y
  pointwise

theorem hzero (j : S1x128.Idx) : k0_pay3 (F := Ideal) j = 0 := by
  pointwise [k0_pay3]

theorem hloss (x0 : FVec Ideal S512x4096 .bf16) (x1 : FVec Ideal S4096x1024 .bf16) (x2 x3 : FVec Ideal S512x1024 .f32) (p : FVec Ideal S1x128 .f32) (j : S1x128.Idx) :
    k0_pay4 (F := Ideal) x0 x1 x2 x3 p j = p j + Ideal.ofBits FTy.f32 1056964608#32 * ∑ r : Fin 512, Ideal.div (∑ k : Fin 1024, k0_pay1 (F := Ideal) x0 x1 x2 x3 (ix2 r k) * k0_pay1 (F := Ideal) x0 x1 x2 x3 (ix2 r k)) (Ideal.ofBits FTy.f32 1149239296#32) := by
  unfold k0_pay4
  generalize k0_pay1 (F := Ideal) x0 x1 x2 x3 = y
  pointwise
  simp only [Fin.sum_univ_one]

theorem err_at (a0 : FVec Ideal Cert.Ff2LossRefIdeal.S4096x4096 .bf16) (a1 : FVec Ideal Cert.Ff2LossRefIdeal.S4096x1024 .bf16) (a2 : FVec Ideal Cert.Ff2LossRefIdeal.S4096x1024 .f32) (a3 : FVec Ideal Cert.Ff2LossRefIdeal.S4096x1024 .f32) (j : Cert.Ff2LossRefIdeal.S4096x1024.Idx) :
    ERR a0 a1 a2 a3 j = a2 j + (∑ k : Fin 4096, a0 (ix2 (j 0) k) * a1 (ix2 k (j 1))) - a3 j := by
  pointwise [ERR]

theorem der_at (x : FVec Ideal Cert.Ff2LossRefIdeal.S4096x1024 .f32) (j : Cert.Ff2LossRefIdeal.S4096x1024.Idx) :
    DER x j = Ideal.div (Ideal.ofBits FTy.f32 1056964608#32) (Ideal.ofBits FTy.f32 1149239296#32) * (Ideal.ofBits FTy.f32 1073741824#32 * x j) := by
  pointwise [DER]

theorem loss_at (x : FVec Ideal Cert.Ff2LossRefIdeal.S4096x1024 .f32) (j : Cert.Ff2LossRefIdeal.S1x128.Idx) :
    LOSS x j = Ideal.ofBits FTy.f32 1056964608#32 * ∑ r : Fin 4096, Ideal.div (∑ k : Fin 1024, x (ix2 r k) * x (ix2 r k)) (Ideal.ofBits FTy.f32 1149239296#32) := by
  pointwise [LOSS]

theorem two_eq : Ideal.ofBits FTy.f32 1073741824#32 = ((2 : ℝ) : EReal) := by
  simp [Ideal.ofBits, Ideal.ieee]
  norm_num
  rw [← EReal.coe_mul, (by norm_num : (8388608 : ℝ) * (1 / 4194304) = 2)]

theorem half_eq : Ideal.ofBits FTy.f32 1056964608#32 = ((1 / 2 : ℝ) : EReal) := by
  simp [Ideal.ofBits, Ideal.ieee]
  norm_num
  rw [← EReal.coe_mul, (by norm_num : (8388608 : ℝ) * (1 / 16777216) = 1 / 2)]

theorem n_eq : Ideal.ofBits FTy.f32 1149239296#32 = ((1024 : ℝ) : EReal) := by
  simp [Ideal.ofBits, Ideal.ieee]
  norm_num
  rw [← EReal.coe_mul, (by norm_num : (8388608 : ℝ) * (1 / 8192) = 1024)]

theorem div_eq (x : EReal) : Ideal.div x (Ideal.ofBits FTy.f32 1149239296#32) = (((1024 : ℝ)⁻¹ : ℝ) : EReal) * x := by
  have h : ((1024 : ℝ) : EReal) ≠ 0 := by exact_mod_cast (by norm_num : (1024 : ℝ) ≠ 0)
  rw [n_eq, Ideal.div, if_neg h, mul_comm, EReal.coe_inv]

theorem der_eq (x : EReal) : Ideal.div x (Ideal.ofBits FTy.f32 1149239296#32) = Ideal.div (Ideal.ofBits FTy.f32 1056964608#32) (Ideal.ofBits FTy.f32 1149239296#32) * (Ideal.ofBits FTy.f32 1073741824#32 * x) := by
  rw [div_eq, div_eq, half_eq, two_eq, ← mul_assoc, ← EReal.coe_mul, ← EReal.coe_mul]
  norm_num

theorem half_sum {ι : Type} (s : Finset ι) (f : ι → EReal) : ∑ i ∈ s, Ideal.ofBits FTy.f32 1056964608#32 * f i = Ideal.ofBits FTy.f32 1056964608#32 * ∑ i ∈ s, f i := by
  rw [half_eq]
  classical
  induction s using Finset.induction_on with
  | empty => simp
  | insert i s hi ih => rw [Finset.sum_insert hi, Finset.sum_insert hi, ih, EReal.left_distrib_of_nonneg_of_ne_top (EReal.coe_nonneg.mpr (by norm_num)) (EReal.coe_ne_top _)]

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0] :=
  (by decide +kernel : ∀ t : Fin grid0.N, _)

/-- Row tile `t` of the kernel's error. -/
theorem point (c : Dev nD) (t : Fin cfg0.N) (y : S512x1024.Idx) : k0_pay1 (F := Ideal) (iblk m c 0 t) (iblk m c 1 t) (iblk m c 2 t) (iblk m c 3 t) y
    = ERR (m ((c : Thread nD τ).loc main_arg0)) (m ((c : Thread nD τ).loc main_arg1)) (m ((c : Thread nD τ).loc main_arg2)) (m ((c : Thread nD τ).loc main_arg3)) (((cfg0.win 4).blk t).view.emb y) := by
  refine (herr _ _ _ _ y).trans (Eq.trans ?_ (err_at _ _ _ _ _).symm)
  blk_point [iblk, V, idx t]

theorem out_der (c : Dev nD) (t : Fin cfg0.N) (j : S512x1024.Idx) :
    (outsAt0 m c t.val t.isLt).1 j = Ideal.div (k0_pay1 (F := Ideal) (iblk m c 0 t) (iblk m c 1 t) (iblk m c 2 t) (iblk m c 3 t) j) (Ideal.ofBits FTy.f32 1149239296#32) := by
  by_cases h : t.val % 8 = 0
  · rw [outsAt0_A m c t h]; frame_out; rw [hder]
  · rw [outsAt0_B m c t h]; frame_out; rw [hder]

theorem final0 (c : Dev nD) : (dats m 0 c).arrAt 4 (cfgs 0).N = DER (ERR (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4, out_der, point m c t y, der_at]
  exact der_eq _

/-- What the loss row holds after a row tile: reset at the first, added into at the others. -/
theorem acc_reset (c : Dev nD) (t : Fin cfg0.N) (h : t.val % 8 = 0) (j : S1x128.Idx) :
    (outsAt0 m c t.val t.isLt).2 j = (0 : EReal) + Ideal.ofBits FTy.f32 1056964608#32 * ∑ r : Fin 512, Ideal.div (∑ k : Fin 1024, k0_pay1 (F := Ideal) (iblk m c 0 t) (iblk m c 1 t) (iblk m c 2 t) (iblk m c 3 t) (ix2 r k) * k0_pay1 (F := Ideal) (iblk m c 0 t) (iblk m c 1 t) (iblk m c 2 t) (iblk m c 3 t) (ix2 r k)) (Ideal.ofBits FTy.f32 1149239296#32) := by
  rw [outsAt0_A m c t h]; frame_out; rw [hloss, hzero]

theorem acc_step (c : Dev nD) (t : Fin cfg0.N) (h : ¬t.val % 8 = 0) (j : S1x128.Idx) :
    (outsAt0 m c t.val t.isLt).2 j = (outsAt0 m c (t.val - 1) (Nat.lt_of_le_of_lt (Nat.sub_le _ _) t.isLt)).2 j + Ideal.ofBits FTy.f32 1056964608#32 * ∑ r : Fin 512, Ideal.div (∑ k : Fin 1024, k0_pay1 (F := Ideal) (iblk m c 0 t) (iblk m c 1 t) (iblk m c 2 t) (iblk m c 3 t) (ix2 r k) * k0_pay1 (F := Ideal) (iblk m c 0 t) (iblk m c 1 t) (iblk m c 2 t) (iblk m c 3 t) (ix2 r k)) (Ideal.ofBits FTy.f32 1149239296#32) := by
  rw [outsAt0_B m c t h]; frame_out; rw [hloss]

theorem final1 (c : Dev nD) : (dats m 0 c).arrAt 5 (cfgs 0).N = LOSS (ERR (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  blk_simp
  rw [after0_5, Pipeline.eq_sum_fin_of_reset_step_apply_of_flush (fun n h => (outsAt0 m c n h).2) 8 (fun _ => (0 : EReal)) (fun t _ => Ideal.ofBits FTy.f32 1056964608#32 * ∑ r : Fin 512, Ideal.div (∑ k : Fin 1024, k0_pay1 (F := Ideal) (iblk m c 0 t) (iblk m c 1 t) (iblk m c 2 t) (iblk m c 3 t) (ix2 r k) * k0_pay1 (F := Ideal) (iblk m c 0 t) (iblk m c 1 t) (iblk m c 2 t) (iblk m c 3 t) (ix2 r k)) (Ideal.ofBits FTy.f32 1149239296#32))
    (acc_reset m c) (acc_step m c) t ((flush0_5 t).mp hf) _, zero_add, loss_at, half_sum]
  refine congrArg (fun a : EReal => Ideal.ofBits FTy.f32 1056964608#32 * a) ?_
  refine Fin.sum_mul_add_congr fun s r hl => ?_
  refine congrArg (fun a : EReal => Ideal.div a (Ideal.ofBits FTy.f32 1149239296#32)) ?_
  refine Finset.sum_congr rfl fun k _ => ?_
  rw [point m c ⟨_, Pipeline.run_point_lt_of_flush t ((flush0_5 t).mp hf) s⟩]
  refine congrArg (fun a : EReal => a * a) (congrArg _ ?_)
  blk_ext [idx t, idx ⟨_, Pipeline.run_point_lt_of_flush t ((flush0_5 t).mp hf) s⟩]

/-- The reference runs, its arguments end unchanged; it declares no semaphore. -/
theorem refFrame : @Cert.quiescent_Ff2LossRefIdeal Cert.Ff2LossRefIdeal.Gen.facts := fun m ρ _ =>
  (θ_run _ _ _).mono (fun r h => ⟨fun c => (h c).2.2, Idealize.ShloMosaic.sem_eq_zero_of_no_sems (by decide) r.2⟩)
    (Cert.Ff2LossRefIdeal.Value.run m ρ)

/-- Kernel and reference end with equal results. -/
theorem alg : @Cert.algebraic_Ff2LossIdeal_Ff2LossRefIdeal Cert.Ff2LossIdeal.Gen.facts Cert.Ff2LossRefIdeal.Gen.facts := by
  intro m g m' g' _ hargs
  refine ⟨fun c => (dats m 0 c).arrAt 4 cfg0.N, fun c => (dats m 0 c).arrAt 5 cfg0.N, Cert.Ff2LossIdeal.Value.run_blocks m g,
    (θ_run _ _ _).mono (fun r h c => ⟨(h c).1.trans ?_, (h c).2.1.trans ?_, (h c).2.2⟩) (Cert.Ff2LossRefIdeal.Value.run m' g')⟩
  · rw [(hargs c).1, (hargs c).2.1, (hargs c).2.2.1, (hargs c).2.2.2]
    exact (final0 m c).symm
  · rw [(hargs c).1, (hargs c).2.1, (hargs c).2.2.1, (hargs c).2.2.2]
    exact (final1 m c).symm

end Cert.Ff2LossIdeal.Math

end
-- ==== Proof.Ff2NextMath.lean ====
module

public import proofs.«01_k».proof.Proof.Gen.Ff2NextIdeal.Value
public import proofs.«01_k».proof.Proof.Gen.Ff2NextRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Ff2NextIdeal.Math

open Cert.Ff2NextIdeal Cert.Ff2NextIdeal.Gen
open Idealize.ShloMosaic.Pointwise

variable (m : (ℓ : Loc nD τ sig) → Buf (Elt Ideal) ℓ)

/-- The reference's first result over its arguments: the residual and the product. -/
abbrev REF (a0 : FVec Ideal Cert.Ff2NextRefIdeal.S4096x4096 .bf16) (a1 : FVec Ideal Cert.Ff2NextRefIdeal.S4096x1024 .bf16) (a2 : FVec Ideal Cert.Ff2NextRefIdeal.S4096x1024 .f32) : FVec Ideal Cert.Ff2NextRefIdeal.S4096x1024 .f32 :=
  addf a2 (Host.dotGeneral Cert.Ff2NextRefIdeal.dot_S4096x4096_S4096x1024_S4096x1024_1_0_0_1_n_n none (extf .f32 a0 Cert.Ff2NextRefIdeal.Gen.bitsLt_bf16_f32) (extf .f32 a1 Cert.Ff2NextRefIdeal.Gen.bitsLt_bf16_f32))

/-- The reference's norm of a row array `x` with gains `g`. -/
abbrev NRM (x : FVec Ideal Cert.Ff2NextRefIdeal.S4096x1024 .f32) (g : FVec Ideal Cert.Ff2NextRefIdeal.S1024 .f32) : FVec Ideal Cert.Ff2NextRefIdeal.S4096x1024 .bf16 :=
  truncf .bf16 (mulf (mulf x (broadcastInDim Cert.Ff2NextRefIdeal.S4096x1024 ![0, 1] Cert.Ff2NextRefIdeal.Gen.bcast_S4096x1_S4096x1024_0_1 (Host.rsqrt (addf (Host.divf (broadcastInDim Cert.Ff2NextRefIdeal.S4096x1 ![0] Cert.Ff2NextRefIdeal.Gen.bcast_S4096_S4096x1_0 (Host.reduceAdd (mulf x x) (constant Cert.Ff2NextRefIdeal.S_ .f32 0x00000000#32) Cert.Ff2NextRefIdeal.Gen.reducesTo_S4096x1024_S4096_d1 Cert.Ff2NextRefIdeal.Gen.h_S_)) (broadcastInDim Cert.Ff2NextRefIdeal.S4096x1 ![] Cert.Ff2NextRefIdeal.Gen.bcast_S_S4096x1 (constant Cert.Ff2NextRefIdeal.S_ .f32 0x44800000#32))) (broadcastInDim Cert.Ff2NextRefIdeal.S4096x1 ![] Cert.Ff2NextRefIdeal.Gen.bcast_S_S4096x1 (constant Cert.Ff2NextRefIdeal.S_ .f32 0x358637BD#32)))))) (broadcastInDim Cert.Ff2NextRefIdeal.S4096x1024 ![0, 1] Cert.Ff2NextRefIdeal.Gen.bcast_S1x1024_S4096x1024_0_1 (broadcastInDim Cert.Ff2NextRefIdeal.S1x1024 ![1] Cert.Ff2NextRefIdeal.Gen.bcast_S1024_S1x1024_1 g))) Cert.Ff2NextRefIdeal.Gen.bitsLt_bf16_f32

theorem hpay (x0 : FVec Ideal S512x4096 .bf16) (x1 : FVec Ideal S4096x1024 .bf16) (x2 : FVec Ideal S512x1024 .f32) (j : S512x1024.Idx) :
    k0_pay1 (F := Ideal) x0 x1 x2 j = x2 j + ∑ k : Fin 4096, x0 (ix2 (j 0) k) * x1 (ix2 k (j 1)) := by
  pointwise [k0_pay1]

theorem hcast (x0 : FVec Ideal S512x4096 .bf16) (x1 : FVec Ideal S4096x1024 .bf16) (x2 : FVec Ideal S512x1024 .f32) (j : S512x1024.Idx) :
    k0_pay2 (F := Ideal) x0 x1 x2 j = k0_pay1 (F := Ideal) x0 x1 x2 j := by
  pointwise [k0_pay2]

theorem href (a0 : FVec Ideal Cert.Ff2NextRefIdeal.S4096x4096 .bf16) (a1 : FVec Ideal Cert.Ff2NextRefIdeal.S4096x1024 .bf16) (a2 : FVec Ideal Cert.Ff2NextRefIdeal.S4096x1024 .f32) (j : Cert.Ff2NextRefIdeal.S4096x1024.Idx) :
    REF a0 a1 a2 j = a2 j + ∑ k : Fin 4096, a0 (ix2 (j 0) k) * a1 (ix2 k (j 1)) := by
  pointwise [REF]

theorem hnorm (x0 : FVec Ideal S512x4096 .bf16) (x1 : FVec Ideal S4096x1024 .bf16) (x2 : FVec Ideal S512x1024 .f32) (g : FVec Ideal S1x1024 .f32) (j : S512x1024.Idx) :
    k0_pay3 (F := Ideal) x0 x1 x2 g j = k0_pay1 (F := Ideal) x0 x1 x2 j
      * Ideal.rsqrt (Ideal.div (∑ k : Fin 1024, k0_pay1 (F := Ideal) x0 x1 x2 (ix2 (j 0) k) * k0_pay1 (F := Ideal) x0 x1 x2 (ix2 (j 0) k)) (Ideal.ofBits FTy.f32 1149239296#32) + Ideal.ofBits FTy.f32 897988541#32)
      * g (ix2 0 (j 1)) := by
  unfold k0_pay3
  generalize k0_pay1 (F := Ideal) x0 x1 x2 = y
  pointwise

theorem nrm_at (x : FVec Ideal Cert.Ff2NextRefIdeal.S4096x1024 .f32) (g : FVec Ideal Cert.Ff2NextRefIdeal.S1024 .f32) (j : Cert.Ff2NextRefIdeal.S4096x1024.Idx) :
    NRM x g j = x j
      * Ideal.rsqrt (Ideal.div (∑ k : Fin 1024, x (ix2 (j 0) k) * x (ix2 (j 0) k)) (Ideal.ofBits FTy.f32 1149239296#32) + Ideal.ofBits FTy.f32 897988541#32)
      * g (ix1 (j 1)) := by
  pointwise [NRM]

theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- Row tile `t` of the kernel's first result. -/
theorem point0 (c : Dev nD) (t : Fin cfg0.N) (y : S512x1024.Idx) : k0_pay1 (F := Ideal) (iblk m c 0 t) (iblk m c 1 t) (iblk m c 2 t) y
    = REF (m ((c : Thread nD τ).loc main_arg0)) (m ((c : Thread nD τ).loc main_arg1)) (m ((c : Thread nD τ).loc main_arg2)) (((cfg0.win 4).blk t).view.emb y) := by
  refine (hpay _ _ _ y).trans (Eq.trans ?_ (href _ _ _ _).symm)
  blk_point [iblk, V_main_arg0, V_main_arg1, V_main_arg2, idx t]

theorem gain (c : Dev nD) (t : Fin cfg0.N) (k : Fin 1024) : (show FVec Ideal S1x1024 .f32 from iblk m c 3 t) (ix2 0 k)
    = (show FVec Ideal S1024 .f32 from (m ((c : Thread nD τ).loc main_arg3))) (ix1 k) := by
  blk_simp [iblk, idx t]
  entry_read
  pointwise
  blk_ext [idx t]

theorem point1 (c : Dev nD) (t : Fin cfg0.N) (y : S512x1024.Idx) : k0_pay3 (F := Ideal) (iblk m c 0 t) (iblk m c 1 t) (iblk m c 2 t) (iblk m c 3 t) y
    = NRM (REF (m ((c : Thread nD τ).loc main_arg0)) (m ((c : Thread nD τ).loc main_arg1)) (m ((c : Thread nD τ).loc main_arg2))) (m ((c : Thread nD τ).loc main_arg3)) (((cfg0.win 5).blk t).view.emb y) := by
  refine (hnorm _ _ _ _ y).trans (Eq.trans ?_ (nrm_at _ _ _).symm)
  have hx : ∀ k : Fin 1024, k0_pay1 (F := Ideal) (iblk m c 0 t) (iblk m c 1 t) (iblk m c 2 t) (ix2 (y 0) k) = REF (m ((c : Thread nD τ).loc main_arg0)) (m ((c : Thread nD τ).loc main_arg1)) (m ((c : Thread nD τ).loc main_arg2)) (ix2 ((((cfg0.win 5).blk t).view.emb y) 0) k) := fun k =>
    (point0 m c t _).trans (congrArg _ (by blk_ext [idx t]))
  have hy : k0_pay1 (F := Ideal) (iblk m c 0 t) (iblk m c 1 t) (iblk m c 2 t) y = REF (m ((c : Thread nD τ).loc main_arg0)) (m ((c : Thread nD τ).loc main_arg1)) (m ((c : Thread nD τ).loc main_arg2)) (((cfg0.win 5).blk t).view.emb y) :=
    (point0 m c t _).trans (congrArg _ (by blk_ext [idx t]))
  have hg : (show FVec Ideal S1x1024 .f32 from iblk m c 3 t) (ix2 0 (y 1)) = (show FVec Ideal S1024 .f32 from (m ((c : Thread nD τ).loc main_arg3))) (ix1 ((((cfg0.win 5).blk t).view.emb y) 1)) :=
    (gain m c t _).trans (congrArg _ (by blk_ext [idx t]))
  refine congrArg₂ (fun a b : EReal => a * b) (congrArg₂ (fun a b : EReal => a * Ideal.rsqrt (Ideal.div b (Ideal.ofBits FTy.f32 1149239296#32) + Ideal.ofBits FTy.f32 897988541#32)) hy ?_) hg
  exact Finset.sum_congr rfl fun k _ => congrArg₂ (fun a b : EReal => a * b) (hx k) (hx k)

theorem final0 (c : Dev nD) : (dats m 0 c).arrAt 4 (cfgs 0).N = REF (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  exact (hcast _ _ _ y).trans (point0 m c t y)

theorem final1 (c : Dev nD) : (dats m 0 c).arrAt 5 (cfgs 0).N = NRM (REF (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t hf y => ?_
  blk_simp
  rw [after0_5]; frame_out
  exact point1 m c t y

/-- The reference runs, its arguments end unchanged; it declares no semaphore. -/
theorem refFrame : @Cert.quiescent_Ff2NextRefIdeal Cert.Ff2NextRefIdeal.Gen.facts := fun m ρ _ =>
  (θ_run _ _ _).mono (fun r h => ⟨fun c => (h c).2.2, Idealize.ShloMosaic.sem_eq_zero_of_no_sems (by decide) r.2⟩)
    (Cert.Ff2NextRefIdeal.Value.run m ρ)

/-- Kernel and reference end with equal results. -/
theorem alg : @Cert.algebraic_Ff2NextIdeal_Ff2NextRefIdeal Cert.Ff2NextIdeal.Gen.facts Cert.Ff2NextRefIdeal.Gen.facts := by
  intro m g m' g' _ hargs
  refine ⟨fun c => (dats m 0 c).arrAt 4 cfg0.N, fun c => (dats m 0 c).arrAt 5 cfg0.N, Cert.Ff2NextIdeal.Value.run_blocks m g,
    (θ_run _ _ _).mono (fun r h c => ⟨(h c).1.trans ?_, (h c).2.1.trans ?_, (h c).2.2⟩) (Cert.Ff2NextRefIdeal.Value.run m' g')⟩
  · rw [(hargs c).1, (hargs c).2.1, (hargs c).2.2.1]
    exact (final0 m c).symm
  · rw [(hargs c).1, (hargs c).2.1, (hargs c).2.2.1, (hargs c).2.2.2]
    exact (final1 m c).symm

end Cert.Ff2NextIdeal.Math

end
-- ==== Proof.OutProjMath.lean ====
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.OutProjIdeal.Math

open Cert.OutProjIdeal Cert.OutProjIdeal.Gen
open Idealize.ShloMosaic.Pointwise

variable (m : (ℓ : Loc nD τ sig) → Buf (Elt Ideal) ℓ)

/-- The reference's first result over its arguments: the residual and the product. -/
abbrev REF (a0 : FVec Ideal Cert.OutProjRefIdeal.S4096x1024 .bf16) (a1 : FVec Ideal Cert.OutProjRefIdeal.S1024x1024 .bf16) (a2 : FVec Ideal Cert.OutProjRefIdeal.S4096x1024 .f32) : FVec Ideal Cert.OutProjRefIdeal.S4096x1024 .f32 :=
  addf a2 (Host.dotGeneral Cert.OutProjRefIdeal.dot_S4096x1024_S1024x1024_S4096x1024_1_0_0_1_n_n none (extf .f32 a0 Cert.OutProjRefIdeal.Gen.bitsLt_bf16_f32) (extf .f32 a1 Cert.OutProjRefIdeal.Gen.bitsLt_bf16_f32))

/-- The reference's norm of a row array `x` with gains `g`. -/
abbrev NRM (x : FVec Ideal Cert.OutProjRefIdeal.S4096x1024 .f32) (g : FVec Ideal Cert.OutProjRefIdeal.S1024 .f32) : FVec Ideal Cert.OutProjRefIdeal.S4096x1024 .bf16 :=
  truncf .bf16 (mulf (mulf x (broadcastInDim Cert.OutProjRefIdeal.S4096x1024 ![0, 1] Cert.OutProjRefIdeal.Gen.bcast_S4096x1_S4096x1024_0_1 (Host.rsqrt (addf (Host.divf (broadcastInDim Cert.OutProjRefIdeal.S4096x1 ![0] Cert.OutProjRefIdeal.Gen.bcast_S4096_S4096x1_0 (Host.reduceAdd (mulf x x) (constant Cert.OutProjRefIdeal.S_ .f32 0x00000000#32) Cert.OutProjRefIdeal.Gen.reducesTo_S4096x1024_S4096_d1 Cert.OutProjRefIdeal.Gen.h_S_)) (broadcastInDim Cert.OutProjRefIdeal.S4096x1 ![] Cert.OutProjRefIdeal.Gen.bcast_S_S4096x1 (constant Cert.OutProjRefIdeal.S_ .f32 0x44800000#32))) (broadcastInDim Cert.OutProjRefIdeal.S4096x1 ![] Cert.OutProjRefIdeal.Gen.bcast_S_S4096x1 (constant Cert.OutProjRefIdeal.S_ .f32 0x358637BD#32)))))) (broadcastInDim Cert.OutProjRefIdeal.S4096x1024 ![0, 1] Cert.OutProjRefIdeal.Gen.bcast_S1x1024_S4096x1024_0_1 (broadcastInDim Cert.OutProjRefIdeal.S1x1024 ![1] Cert.OutProjRefIdeal.Gen.bcast_S1024_S1x1024_1 g))) Cert.OutProjRefIdeal.Gen.bitsLt_bf16_f32

theorem hpay (x0 : FVec Ideal S1024x1024 .bf16) (x1 : FVec Ideal S1024x1024 .bf16) (x2 : FVec Ideal S1024x1024 .f32) (j : S1024x1024.Idx) :
    k0_pay1 (F := Ideal) x0 x1 x2 j = x2 j + ∑ k : Fin 1024, x0 (ix2 (j 0) k) * x1 (ix2 k (j 1)) := by
  pointwise [k0_pay1]

theorem hcast (x0 : FVec Ideal S1024x1024 .bf16) (x1 : FVec Ideal S1024x1024 .bf16) (x2 : FVec Ideal S1024x1024 .f32) (j : S1024x1024.Idx) :
    k0_pay2 (F := Ideal) x0 x1 x2 j = k0_pay1 (F := Ideal) x0 x1 x2 j := by
  pointwise [k0_pay2]

theorem href (a0 : FVec Ideal Cert.OutProjRefIdeal.S4096x1024 .bf16) (a1 : FVec Ideal Cert.OutProjRefIdeal.S1024x1024 .bf16) (a2 : FVec Ideal Cert.OutProjRefIdeal.S4096x1024 .f32) (j : Cert.OutProjRefIdeal.S4096x1024.Idx) :
    REF a0 a1 a2 j = a2 j + ∑ k : Fin 1024, a0 (ix2 (j 0) k) * a1 (ix2 k (j 1)) := by
  pointwise [REF]

theorem hnorm (x0 : FVec Ideal S1024x1024 .bf16) (x1 : FVec Ideal S1024x1024 .bf16) (x2 : FVec Ideal S1024x1024 .f32) (g : FVec Ideal S1x1024 .f32) (j : S1024x1024.Idx) :
    k0_pay3 (F := Ideal) x0 x1 x2 g j = k0_pay1 (F := Ideal) x0 x1 x2 j
      * Ideal.rsqrt (Ideal.div (∑ k : Fin 1024, k0_pay1 (F := Ideal) x0 x1 x2 (ix2 (j 0) k) * k0_pay1 (F := Ideal) x0 x1 x2 (ix2 (j 0) k)) (Ideal.ofBits FTy.f32 1149239296#32) + Ideal.ofBits FTy.f32 897988541#32)
      * g (ix2 0 (j 1)) := by
  unfold k0_pay3
  generalize k0_pay1 (F := Ideal) x0 x1 x2 = y
  pointwise

theorem nrm_at (x : FVec Ideal Cert.OutProjRefIdeal.S4096x1024 .f32) (g : FVec Ideal Cert.OutProjRefIdeal.S1024 .f32) (j : Cert.OutProjRefIdeal.S4096x1024.Idx) :
    NRM x g j = x j
      * Ideal.rsqrt (Ideal.div (∑ k : Fin 1024, x (ix2 (j 0) k) * x (ix2 (j 0) k)) (Ideal.ofBits FTy.f32 1149239296#32) + Ideal.ofBits FTy.f32 897988541#32)
      * g (ix1 (j 1)) := by
  pointwise [NRM]

theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- Row tile `t` of the kernel's first result. -/
theorem point0 (c : Dev nD) (t : Fin cfg0.N) (y : S1024x1024.Idx) : k0_pay1 (F := Ideal) (iblk m c 0 t) (iblk m c 1 t) (iblk m c 2 t) y
    = REF (m ((c : Thread nD τ).loc main_arg0)) (m ((c : Thread nD τ).loc main_arg1)) (m ((c : Thread nD τ).loc main_arg2)) (((cfg0.win 4).blk t).view.emb y) := by
  refine (hpay _ _ _ y).trans (Eq.trans ?_ (href _ _ _ _).symm)
  blk_point [iblk, V_main_arg0, V_main_arg1, V_main_arg2, idx t]

theorem gain (c : Dev nD) (t : Fin cfg0.N) (k : Fin 1024) : (show FVec Ideal S1x1024 .f32 from iblk m c 3 t) (ix2 0 k)
    = (show FVec Ideal S1024 .f32 from (m ((c : Thread nD τ).loc main_arg3))) (ix1 k) := by
  blk_simp [iblk, idx t]
  entry_read
  pointwise
  blk_ext [idx t]

theorem point1 (c : Dev nD) (t : Fin cfg0.N) (y : S1024x1024.Idx) : k0_pay3 (F := Ideal) (iblk m c 0 t) (iblk m c 1 t) (iblk m c 2 t) (iblk m c 3 t) y
    = NRM (REF (m ((c : Thread nD τ).loc main_arg0)) (m ((c : Thread nD τ).loc main_arg1)) (m ((c : Thread nD τ).loc main_arg2))) (m ((c : Thread nD τ).loc main_arg3)) (((cfg0.win 5).blk t).view.emb y) := by
  refine (hnorm _ _ _ _ y).trans (Eq.trans ?_ (nrm_at _ _ _).symm)
  have hx : ∀ k : Fin 1024, k0_pay1 (F := Ideal) (iblk m c 0 t) (iblk m c 1 t) (iblk m c 2 t) (ix2 (y 0) k) = REF (m ((c : Thread nD τ).loc main_arg0)) (m ((c : Thread nD τ).loc main_arg1)) (m ((c : Thread nD τ).loc main_arg2)) (ix2 ((((cfg0.win 5).blk t).view.emb y) 0) k) := fun k =>
    (point0 m c t _).trans (congrArg _ (by blk_ext [idx t]))
  have hy : k0_pay1 (F := Ideal) (iblk m c 0 t) (iblk m c 1 t) (iblk m c 2 t) y = REF (m ((c : Thread nD τ).loc main_arg0)) (m ((c : Thread nD τ).loc main_arg1)) (m ((c : Thread nD τ).loc main_arg2)) (((cfg0.win 5).blk t).view.emb y) :=
    (point0 m c t _).trans (congrArg _ (by blk_ext [idx t]))
  have hg : (show FVec Ideal S1x1024 .f32 from iblk m c 3 t) (ix2 0 (y 1)) = (show FVec Ideal S1024 .f32 from (m ((c : Thread nD τ).loc main_arg3))) (ix1 ((((cfg0.win 5).blk t).view.emb y) 1)) :=
    (gain m c t _).trans (congrArg _ (by blk_ext [idx t]))
  refine congrArg₂ (fun a b : EReal => a * b) (congrArg₂ (fun a b : EReal => a * Ideal.rsqrt (Ideal.div b (Ideal.ofBits FTy.f32 1149239296#32) + Ideal.ofBits FTy.f32 897988541#32)) hy ?_) hg
  exact Finset.sum_congr rfl fun k _ => congrArg₂ (fun a b : EReal => a * b) (hx k) (hx k)

theorem final0 (c : Dev nD) : (dats m 0 c).arrAt 4 (cfgs 0).N = REF (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  exact (hcast _ _ _ y).trans (point0 m c t y)

theorem final1 (c : Dev nD) : (dats m 0 c).arrAt 5 (cfgs 0).N = NRM (REF (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t hf y => ?_
  blk_simp
  rw [after0_5]; frame_out
  exact point1 m c t y

/-- The reference runs, its arguments end unchanged; it declares no semaphore. -/
theorem refFrame : @Cert.quiescent_OutProjRefIdeal Cert.OutProjRefIdeal.Gen.facts := fun m ρ _ =>
  (θ_run _ _ _).mono (fun r h => ⟨fun c => (h c).2.2, Idealize.ShloMosaic.sem_eq_zero_of_no_sems (by decide) r.2⟩)
    (Cert.OutProjRefIdeal.Value.run m ρ)

/-- Kernel and reference end with equal results. -/
theorem alg : @Cert.algebraic_OutProjIdeal_OutProjRefIdeal Cert.OutProjIdeal.Gen.facts Cert.OutProjRefIdeal.Gen.facts := by
  intro m g m' g' _ hargs
  refine ⟨fun c => (dats m 0 c).arrAt 4 cfg0.N, fun c => (dats m 0 c).arrAt 5 cfg0.N, Cert.OutProjIdeal.Value.run_blocks m g,
    (θ_run _ _ _).mono (fun r h c => ⟨(h c).1.trans ?_, (h c).2.1.trans ?_, (h c).2.2⟩) (Cert.OutProjRefIdeal.Value.run m' g')⟩
  · rw [(hargs c).1, (hargs c).2.1, (hargs c).2.2.1]
    exact (final0 m c).symm
  · rw [(hargs c).1, (hargs c).2.1, (hargs c).2.2.1, (hargs c).2.2.2]
    exact (final1 m c).symm

end Cert.OutProjIdeal.Math

end
-- ==== Proof.RmsMixMath.lean ====
module

public import proofs.«01_k».proof.Proof.Gen.RmsMixIdeal.Value
public import proofs.«01_k».proof.Proof.Gen.RmsMixRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.RmsMixIdeal.Math

open Cert.RmsMixIdeal Cert.RmsMixIdeal.Gen
open Idealize.ShloMosaic.Pointwise

variable (m : (ℓ : Loc nD τ sig) → Buf (Elt Ideal) ℓ)

/-- The reference's result over its arguments. -/
abbrev REF (a0 : FVec Ideal Cert.RmsMixRefIdeal.S4096x1024 .f32) (a1 : FVec Ideal Cert.RmsMixRefIdeal.S1024 .f32) : FVec Ideal Cert.RmsMixRefIdeal.S4096x1024 .bf16 :=
  truncf .bf16 (mulf (mulf a0 (broadcastInDim Cert.RmsMixRefIdeal.S4096x1024 ![0, 1] Cert.RmsMixRefIdeal.Gen.bcast_S4096x1_S4096x1024_0_1 (Host.rsqrt (addf (Host.divf (broadcastInDim Cert.RmsMixRefIdeal.S4096x1 ![0] Cert.RmsMixRefIdeal.Gen.bcast_S4096_S4096x1_0 (Host.reduceAdd (mulf a0 a0) (constant Cert.RmsMixRefIdeal.S_ .f32 0x00000000#32) Cert.RmsMixRefIdeal.Gen.reducesTo_S4096x1024_S4096_d1 Cert.RmsMixRefIdeal.Gen.h_S_)) (broadcastInDim Cert.RmsMixRefIdeal.S4096x1 ![] Cert.RmsMixRefIdeal.Gen.bcast_S_S4096x1 (constant Cert.RmsMixRefIdeal.S_ .f32 0x44800000#32))) (broadcastInDim Cert.RmsMixRefIdeal.S4096x1 ![] Cert.RmsMixRefIdeal.Gen.bcast_S_S4096x1 (constant Cert.RmsMixRefIdeal.S_ .f32 0x358637BD#32)))))) (broadcastInDim Cert.RmsMixRefIdeal.S4096x1024 ![0, 1] Cert.RmsMixRefIdeal.Gen.bcast_S1x1024_S4096x1024_0_1 (broadcastInDim Cert.RmsMixRefIdeal.S1x1024 ![1] Cert.RmsMixRefIdeal.Gen.bcast_S1024_S1x1024_1 a1))) Cert.RmsMixRefIdeal.Gen.bitsLt_bf16_f32

theorem hpay (x : FVec Ideal S512x1024 .f32) (g : FVec Ideal S1x1024 .f32) (j : S512x1024.Idx) :
    k0_pay1 (F := Ideal) x g j = x j * Ideal.rsqrt (Ideal.div (∑ k : Fin 1024, x (ix2 (j 0) k) * x (ix2 (j 0) k)) (Ideal.ofBits FTy.f32 1149239296#32) + Ideal.ofBits FTy.f32 897988541#32) * g (ix2 0 (j 1)) := by
  pointwise [k0_pay1]

theorem href (a0 : FVec Ideal Cert.RmsMixRefIdeal.S4096x1024 .f32) (a1 : FVec Ideal Cert.RmsMixRefIdeal.S1024 .f32) (j : Cert.RmsMixRefIdeal.S4096x1024.Idx) :
    REF a0 a1 j = a0 j * Ideal.rsqrt (Ideal.div (∑ k : Fin 1024, a0 (ix2 (j 0) k) * a0 (ix2 (j 0) k)) (Ideal.ofBits FTy.f32 1149239296#32) + Ideal.ofBits FTy.f32 897988541#32) * a1 (ix1 (j 1)) := by
  pointwise [REF]

theorem idx : ∀ t : Fin cfg0.N, win0_0.index t = ![t.val, 0]
    ∧ win0_1.index t = ![0, 0]
    ∧ win0_2.index t = ![t.val, 0] :=
  (by decide +kernel : ∀ t : Fin grid0.N, _)

theorem gain (c : Dev nD) (t : Fin cfg0.N) (k : Fin 1024) : (show FVec Ideal S1x1024 .f32 from iblk m c 1 t) (ix2 0 k)
    = (show FVec Ideal S1024 .f32 from (m ((c : Thread nD τ).loc main_arg1))) (ix1 k) := by
  blk_simp [iblk, idx t]
  entry_read
  pointwise
  blk_ext [idx t]

theorem xrow (c : Dev nD) (t : Fin cfg0.N) (y : S512x1024.Idx) : (show FVec Ideal S512x1024 .f32 from iblk m c 0 t) y
    = (show FVec Ideal Cert.RmsMixRefIdeal.S4096x1024 .f32 from (m ((c : Thread nD τ).loc main_arg0))) (((cfg0.win 2).blk t).view.emb y) := by
  blk_ext [iblk, V_main_arg0, idx t]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  refine (hpay _ _ y).trans (Eq.trans ?_ (href _ _ _).symm)
  have hg : (show FVec Ideal S1x1024 .f32 from iblk m c 1 t) (ix2 0 (y 1)) = (show FVec Ideal S1024 .f32 from (m ((c : Thread nD τ).loc main_arg1))) (ix1 ((((cfg0.win 2).blk t).view.emb y) 1)) :=
    (gain m c t _).trans (congrArg _ (by blk_ext [idx t]))
  have hx : ∀ k : Fin 1024, (show FVec Ideal S512x1024 .f32 from iblk m c 0 t) (ix2 (y 0) k) = (show FVec Ideal Cert.RmsMixRefIdeal.S4096x1024 .f32 from (m ((c : Thread nD τ).loc main_arg0))) (ix2 ((((cfg0.win 2).blk t).view.emb y) 0) k) := fun k =>
    (xrow m c t _).trans (congrArg _ (by blk_ext [idx t]))
  refine congrArg₂ (fun a b : EReal => a * b) (congrArg₂ (fun a b : EReal => a * Ideal.rsqrt (Ideal.div b (Ideal.ofBits FTy.f32 1149239296#32) + Ideal.ofBits FTy.f32 897988541#32)) (xrow m c t y) ?_) hg
  exact Finset.sum_congr rfl fun k _ => congrArg₂ (fun a b : EReal => a * b) (hx k) (hx k)

/-- The reference runs, its arguments end unchanged; it declares no semaphore. -/
theorem refFrame : @Cert.quiescent_RmsMixRefIdeal Cert.RmsMixRefIdeal.Gen.facts := fun m ρ _ =>
  (θ_run _ _ _).mono (fun r h => ⟨fun c => (h c).2, Idealize.ShloMosaic.sem_eq_zero_of_no_sems (by decide) r.2⟩)
    (Cert.RmsMixRefIdeal.Value.run m ρ)

/-- Kernel and reference end with equal results. -/
theorem alg : @Cert.algebraic_RmsMixIdeal_RmsMixRefIdeal Cert.RmsMixIdeal.Gen.facts Cert.RmsMixRefIdeal.Gen.facts := by
  intro m g m' g' _ hargs
  refine ⟨fun c => (dats m 0 c).arrAt 2 cfg0.N, Cert.RmsMixIdeal.Value.run_blocks m g,
    (θ_run _ _ _).mono (fun r h c => ⟨(h c).1.trans ?_, (h c).2⟩) (Cert.RmsMixRefIdeal.Value.run m' g')⟩
  rw [(hargs c).1, (hargs c).2]
  exact (final m c).symm

end Cert.RmsMixIdeal.Math

end
-- ==== Proof.DRmsMixMath.lean ====
module

public import proofs.«01_k».proof.Proof.Gen.DRmsMixIdeal.Value
public import proofs.«01_k».proof.Proof.Gen.DRmsMixRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Defs
public import proofs.«01_k».proof.Proof.DFf1ActMath

@[expose] public section

set_option maxRecDepth 16384

noncomputable section

open Idealize.ShloMosaic Idealize.ShloMosaic.TcCoe Idealize.SL.Sem
open Idealize.ShloMosaic.Pipeline (Dat)
open scoped BigOperators

namespace Cert.DRmsMixIdeal.Math

open Cert.DRmsMixIdeal Cert.DRmsMixIdeal.Gen
open Idealize.ShloMosaic.Pointwise

variable (m : (ℓ : Loc nD τ sig) → Buf (Elt Ideal) ℓ)

open Cert.DFf1ActIdeal.Math (vv back_eq)

/-- The reference's derivative by the row array `x`, of the derivative `d` by the norm's result, the residual's derivative `r` and the gains `g`. -/
abbrev DX (d r x : FVec Ideal Cert.DRmsMixRefIdeal.S4096x1024 .f32) (g : FVec Ideal Cert.DRmsMixRefIdeal.S1024 .f32) : FVec Ideal Cert.DRmsMixRefIdeal.S4096x1024 .f32 :=
  addf r (addf (addf (mulf (mulf d (broadcastInDim Cert.DRmsMixRefIdeal.S4096x1024 ![0, 1] Cert.DRmsMixRefIdeal.Gen.bcast_S1x1024_S4096x1024_0_1 (broadcastInDim Cert.DRmsMixRefIdeal.S1x1024 ![1] Cert.DRmsMixRefIdeal.Gen.bcast_S1024_S1x1024_1 g))) (broadcastInDim Cert.DRmsMixRefIdeal.S4096x1024 ![0, 1] Cert.DRmsMixRefIdeal.Gen.bcast_S4096x1_S4096x1024_0_1 (Host.rsqrt (addf (Host.divf (broadcastInDim Cert.DRmsMixRefIdeal.S4096x1 ![0] Cert.DRmsMixRefIdeal.Gen.bcast_S4096_S4096x1_0 (Host.reduceAdd (mulf x x) (constant Cert.DRmsMixRefIdeal.S_ .f32 0x00000000#32) Cert.DRmsMixRefIdeal.Gen.reducesTo_S4096x1024_S4096_d1 Cert.DRmsMixRefIdeal.Gen.h_S_)) (broadcastInDim Cert.DRmsMixRefIdeal.S4096x1 ![] Cert.DRmsMixRefIdeal.Gen.bcast_S_S4096x1 (constant Cert.DRmsMixRefIdeal.S_ .f32 0x44800000#32))) (broadcastInDim Cert.DRmsMixRefIdeal.S4096x1 ![] Cert.DRmsMixRefIdeal.Gen.bcast_S_S4096x1 (constant Cert.DRmsMixRefIdeal.S_ .f32 0x358637BD#32)))))) (mulf x (broadcastInDim Cert.DRmsMixRefIdeal.S4096x1024 ![0] Cert.DRmsMixRefIdeal.Gen.bcast_S4096_S4096x1024_0 (Host.reduceAdd (Host.divf (mulf (shapeCast _ (Host.reduceAdd (mulf x (mulf d (broadcastInDim Cert.DRmsMixRefIdeal.S4096x1024 ![0, 1] Cert.DRmsMixRefIdeal.Gen.bcast_S1x1024_S4096x1024_0_1 (broadcastInDim Cert.DRmsMixRefIdeal.S1x1024 ![1] Cert.DRmsMixRefIdeal.Gen.bcast_S1024_S1x1024_1 g)))) (constant Cert.DRmsMixRefIdeal.S_ .f32 0x00000000#32) Cert.DRmsMixRefIdeal.Gen.reducesTo_S4096x1024_S4096_d1 Cert.DRmsMixRefIdeal.Gen.h_S_) Cert.DRmsMixRefIdeal.Gen.shapeCasts_S4096_S4096x1) (mulf (broadcastInDim Cert.DRmsMixRefIdeal.S4096x1 ![] Cert.DRmsMixRefIdeal.Gen.bcast_S_S4096x1 (constant Cert.DRmsMixRefIdeal.S_ .f32 0xBF000000#32)) (Host.divf (Host.rsqrt (addf (Host.divf (broadcastInDim Cert.DRmsMixRefIdeal.S4096x1 ![0] Cert.DRmsMixRefIdeal.Gen.bcast_S4096_S4096x1_0 (Host.reduceAdd (mulf x x) (constant Cert.DRmsMixRefIdeal.S_ .f32 0x00000000#32) Cert.DRmsMixRefIdeal.Gen.reducesTo_S4096x1024_S4096_d1 Cert.DRmsMixRefIdeal.Gen.h_S_)) (broadcastInDim Cert.DRmsMixRefIdeal.S4096x1 ![] Cert.DRmsMixRefIdeal.Gen.bcast_S_S4096x1 (constant Cert.DRmsMixRefIdeal.S_ .f32 0x44800000#32))) (broadcastInDim Cert.DRmsMixRefIdeal.S4096x1 ![] Cert.DRmsMixRefIdeal.Gen.bcast_S_S4096x1 (constant Cert.DRmsMixRefIdeal.S_ .f32 0x358637BD#32)))) (addf (Host.divf (broadcastInDim Cert.DRmsMixRefIdeal.S4096x1 ![0] Cert.DRmsMixRefIdeal.Gen.bcast_S4096_S4096x1_0 (Host.reduceAdd (mulf x x) (constant Cert.DRmsMixRefIdeal.S_ .f32 0x00000000#32) Cert.DRmsMixRefIdeal.Gen.reducesTo_S4096x1024_S4096_d1 Cert.DRmsMixRefIdeal.Gen.h_S_)) (broadcastInDim Cert.DRmsMixRefIdeal.S4096x1 ![] Cert.DRmsMixRefIdeal.Gen.bcast_S_S4096x1 (constant Cert.DRmsMixRefIdeal.S_ .f32 0x44800000#32))) (broadcastInDim Cert.DRmsMixRefIdeal.S4096x1 ![] Cert.DRmsMixRefIdeal.Gen.bcast_S_S4096x1 (constant Cert.DRmsMixRefIdeal.S_ .f32 0x358637BD#32)))))) (broadcastInDim Cert.DRmsMixRefIdeal.S4096x1 ![] Cert.DRmsMixRefIdeal.Gen.bcast_S_S4096x1 (constant Cert.DRmsMixRefIdeal.S_ .f32 0x44800000#32))) (constant Cert.DRmsMixRefIdeal.S_ .f32 0x00000000#32) Cert.DRmsMixRefIdeal.Gen.reducesTo_S4096x1_S4096_d1 Cert.DRmsMixRefIdeal.Gen.h_S_)))) (mulf (broadcastInDim Cert.DRmsMixRefIdeal.S4096x1024 ![0] Cert.DRmsMixRefIdeal.Gen.bcast_S4096_S4096x1024_0 (Host.reduceAdd (Host.divf (mulf (shapeCast _ (Host.reduceAdd (mulf x (mulf d (broadcastInDim Cert.DRmsMixRefIdeal.S4096x1024 ![0, 1] Cert.DRmsMixRefIdeal.Gen.bcast_S1x1024_S4096x1024_0_1 (broadcastInDim Cert.DRmsMixRefIdeal.S1x1024 ![1] Cert.DRmsMixRefIdeal.Gen.bcast_S1024_S1x1024_1 g)))) (constant Cert.DRmsMixRefIdeal.S_ .f32 0x00000000#32) Cert.DRmsMixRefIdeal.Gen.reducesTo_S4096x1024_S4096_d1 Cert.DRmsMixRefIdeal.Gen.h_S_) Cert.DRmsMixRefIdeal.Gen.shapeCasts_S4096_S4096x1) (mulf (broadcastInDim Cert.DRmsMixRefIdeal.S4096x1 ![] Cert.DRmsMixRefIdeal.Gen.bcast_S_S4096x1 (constant Cert.DRmsMixRefIdeal.S_ .f32 0xBF000000#32)) (Host.divf (Host.rsqrt (addf (Host.divf (broadcastInDim Cert.DRmsMixRefIdeal.S4096x1 ![0] Cert.DRmsMixRefIdeal.Gen.bcast_S4096_S4096x1_0 (Host.reduceAdd (mulf x x) (constant Cert.DRmsMixRefIdeal.S_ .f32 0x00000000#32) Cert.DRmsMixRefIdeal.Gen.reducesTo_S4096x1024_S4096_d1 Cert.DRmsMixRefIdeal.Gen.h_S_)) (broadcastInDim Cert.DRmsMixRefIdeal.S4096x1 ![] Cert.DRmsMixRefIdeal.Gen.bcast_S_S4096x1 (constant Cert.DRmsMixRefIdeal.S_ .f32 0x44800000#32))) (broadcastInDim Cert.DRmsMixRefIdeal.S4096x1 ![] Cert.DRmsMixRefIdeal.Gen.bcast_S_S4096x1 (constant Cert.DRmsMixRefIdeal.S_ .f32 0x358637BD#32)))) (addf (Host.divf (broadcastInDim Cert.DRmsMixRefIdeal.S4096x1 ![0] Cert.DRmsMixRefIdeal.Gen.bcast_S4096_S4096x1_0 (Host.reduceAdd (mulf x x) (constant Cert.DRmsMixRefIdeal.S_ .f32 0x00000000#32) Cert.DRmsMixRefIdeal.Gen.reducesTo_S4096x1024_S4096_d1 Cert.DRmsMixRefIdeal.Gen.h_S_)) (broadcastInDim Cert.DRmsMixRefIdeal.S4096x1 ![] Cert.DRmsMixRefIdeal.Gen.bcast_S_S4096x1 (constant Cert.DRmsMixRefIdeal.S_ .f32 0x44800000#32))) (broadcastInDim Cert.DRmsMixRefIdeal.S4096x1 ![] Cert.DRmsMixRefIdeal.Gen.bcast_S_S4096x1 (constant Cert.DRmsMixRefIdeal.S_ .f32 0x358637BD#32)))))) (broadcastInDim Cert.DRmsMixRefIdeal.S4096x1 ![] Cert.DRmsMixRefIdeal.Gen.bcast_S_S4096x1 (constant Cert.DRmsMixRefIdeal.S_ .f32 0x44800000#32))) (constant Cert.DRmsMixRefIdeal.S_ .f32 0x00000000#32) Cert.DRmsMixRefIdeal.Gen.reducesTo_S4096x1_S4096_d1 Cert.DRmsMixRefIdeal.Gen.h_S_)) x))

/-- The reference's derivative by the gains. -/
abbrev DG (d x : FVec Ideal Cert.DRmsMixRefIdeal.S4096x1024 .f32) : FVec Ideal Cert.DRmsMixRefIdeal.S1x1024 .f32 :=
  broadcastInDim Cert.DRmsMixRefIdeal.S1x1024 ![1] Cert.DRmsMixRefIdeal.Gen.bcast_S1024_S1x1024_1 (Host.reduceAdd (shapeCast _ (Host.reduceAdd (mulf (mulf x (broadcastInDim Cert.DRmsMixRefIdeal.S4096x1024 ![0, 1] Cert.DRmsMixRefIdeal.Gen.bcast_S4096x1_S4096x1024_0_1 (Host.rsqrt (addf (Host.divf (broadcastInDim Cert.DRmsMixRefIdeal.S4096x1 ![0] Cert.DRmsMixRefIdeal.Gen.bcast_S4096_S4096x1_0 (Host.reduceAdd (mulf x x) (constant Cert.DRmsMixRefIdeal.S_ .f32 0x00000000#32) Cert.DRmsMixRefIdeal.Gen.reducesTo_S4096x1024_S4096_d1 Cert.DRmsMixRefIdeal.Gen.h_S_)) (broadcastInDim Cert.DRmsMixRefIdeal.S4096x1 ![] Cert.DRmsMixRefIdeal.Gen.bcast_S_S4096x1 (constant Cert.DRmsMixRefIdeal.S_ .f32 0x44800000#32))) (broadcastInDim Cert.DRmsMixRefIdeal.S4096x1 ![] Cert.DRmsMixRefIdeal.Gen.bcast_S_S4096x1 (constant Cert.DRmsMixRefIdeal.S_ .f32 0x358637BD#32)))))) d) (constant Cert.DRmsMixRefIdeal.S_ .f32 0x00000000#32) Cert.DRmsMixRefIdeal.Gen.reducesTo_S4096x1024_S1024_d0 Cert.DRmsMixRefIdeal.Gen.h_S_) Cert.DRmsMixRefIdeal.Gen.shapeCasts_S1024_S1x1024) (constant Cert.DRmsMixRefIdeal.S_ .f32 0x00000000#32) Cert.DRmsMixRefIdeal.Gen.reducesTo_S1x1024_S1024_d0 Cert.DRmsMixRefIdeal.Gen.h_S_)

theorem hroot (x : FVec Ideal S512x1024 .f32) (j : S512x1.Idx) :
    k0_pay2 (F := Ideal) x j = Ideal.rsqrt (vv fun k => x (ix2 (j 0) k)) := by
  unfold vv
  pointwise [k0_pay2]

theorem hhat (x : FVec Ideal S512x1024 .f32) (j : S512x1024.Idx) :
    k0_pay3 (F := Ideal) x j = x j * Ideal.rsqrt (vv fun k => x (ix2 (j 0) k)) := by
  refine Eq.trans ?_ (congrArg (fun a : EReal => x j * a) (hroot x (ix2 (j 0) 0)))
  unfold k0_pay3
  generalize k0_pay2 (F := Ideal) x = r
  pointwise

theorem hdx (d x : FVec Ideal S512x1024 .f32) (g : FVec Ideal S1x1024 .f32) (r : FVec Ideal S512x1024 .f32) (j : S512x1024.Idx) :
    k0_pay4 (F := Ideal) x d g r j = r j + k0_pay2 (F := Ideal) x (ix2 (j 0) 0)
      * (d j * g (ix2 0 (j 1)) - k0_pay3 (F := Ideal) x j
        * Ideal.div (∑ k : Fin 1024, d (ix2 (j 0) k) * g (ix2 0 k) * k0_pay3 (F := Ideal) x (ix2 (j 0) k)) (Ideal.ofBits FTy.f32 1149239296#32)) := by
  unfold k0_pay4
  generalize k0_pay2 (F := Ideal) x = p
  generalize k0_pay3 (F := Ideal) x = q
  pointwise

theorem hzero (j : S1x1024.Idx) : k0_pay5 (F := Ideal) j = 0 := by
  pointwise [k0_pay5]

theorem hsum (x d : FVec Ideal S512x1024 .f32) (j : S1024.Idx) :
    k0_pay6 (F := Ideal) x d j = ∑ r : Fin 512, d (ix2 r (j 0)) * k0_pay3 (F := Ideal) x (ix2 r (j 0)) := by
  unfold k0_pay6
  generalize k0_pay3 (F := Ideal) x = y
  pointwise

theorem hadd (p : FVec Ideal S1x1024 .f32) (v : FVec Ideal S1024 .f32) (j : S1x1024.Idx) :
    k0_pay1 (F := Ideal) p v j = p j + v (ix1 (j 1)) := by
  pointwise [k0_pay1]

theorem dx_at (d r x : FVec Ideal Cert.DRmsMixRefIdeal.S4096x1024 .f32) (g : FVec Ideal Cert.DRmsMixRefIdeal.S1024 .f32) (j : Cert.DRmsMixRefIdeal.S4096x1024.Idx) :
    DX d r x g j = r j + (d j * g (ix1 (j 1)) * Ideal.rsqrt (vv fun k => x (ix2 (j 0) k))
      + x j * (Ideal.div ((∑ k : Fin 1024, x (ix2 (j 0) k) * (d (ix2 (j 0) k) * g (ix1 k))) * (Ideal.ofBits FTy.f32 3204448256#32 * Ideal.div (Ideal.rsqrt (vv fun k => x (ix2 (j 0) k))) (vv fun k => x (ix2 (j 0) k)))) (Ideal.ofBits FTy.f32 1149239296#32))
      + (Ideal.div ((∑ k : Fin 1024, x (ix2 (j 0) k) * (d (ix2 (j 0) k) * g (ix1 k))) * (Ideal.ofBits FTy.f32 3204448256#32 * Ideal.div (Ideal.rsqrt (vv fun k => x (ix2 (j 0) k))) (vv fun k => x (ix2 (j 0) k)))) (Ideal.ofBits FTy.f32 1149239296#32)) * x j) := by
  unfold vv
  pointwise [DX]
  simp only [Fin.sum_univ_one]

theorem dg_at (d x : FVec Ideal Cert.DRmsMixRefIdeal.S4096x1024 .f32) (j : Cert.DRmsMixRefIdeal.S1x1024.Idx) :
    DG d x j = ∑ r : Fin 4096, x (ix2 r (j 1)) * Ideal.rsqrt (vv fun k => x (ix2 r k)) * d (ix2 r (j 1)) := by
  unfold vv
  pointwise [DG]
  simp only [Fin.sum_univ_one]

theorem idx : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![0, 0] :=
  (by decide +kernel : ∀ t : Fin grid0.N, _)

theorem row_lt (t : Fin cfg0.N) (r : Fin 512) : t.val * 512 + r.val < 4096 := by
  have hN : t.val < 8 := t.isLt
  omega

theorem drow (c : Dev nD) (t : Fin cfg0.N) (r : Fin 512) (k : Fin 1024) : (show FVec Ideal S512x1024 .f32 from iblk m c 0 t) (ix2 r k) = (show FVec Ideal Cert.DRmsMixRefIdeal.S4096x1024 .f32 from (m ((c : Thread nD τ).loc main_arg0))) (ix2 (⟨t.val * 512 + r.val, row_lt t r⟩ : Fin 4096) k) := by
  blk_ext [iblk, V_main_arg0, idx t]

theorem xrow (c : Dev nD) (t : Fin cfg0.N) (r : Fin 512) (k : Fin 1024) : (show FVec Ideal S512x1024 .f32 from iblk m c 1 t) (ix2 r k) = (show FVec Ideal Cert.DRmsMixRefIdeal.S4096x1024 .f32 from (m ((c : Thread nD τ).loc main_arg1))) (ix2 (⟨t.val * 512 + r.val, row_lt t r⟩ : Fin 4096) k) := by
  blk_ext [iblk, V_main_arg1, idx t]

theorem rrow (c : Dev nD) (t : Fin cfg0.N) (r : Fin 512) (k : Fin 1024) : (show FVec Ideal S512x1024 .f32 from iblk m c 3 t) (ix2 r k) = (show FVec Ideal Cert.DRmsMixRefIdeal.S4096x1024 .f32 from (m ((c : Thread nD τ).loc main_arg3))) (ix2 (⟨t.val * 512 + r.val, row_lt t r⟩ : Fin 4096) k) := by
  blk_ext [iblk, V_main_arg3, idx t]

theorem gain (c : Dev nD) (t : Fin cfg0.N) (k : Fin 1024) : (show FVec Ideal S1x1024 .f32 from iblk m c 2 t) (ix2 0 k) = (show FVec Ideal Cert.DRmsMixRefIdeal.S1024 .f32 from (m ((c : Thread nD τ).loc main_arg2))) (ix1 k) := by
  blk_simp [iblk, idx t]
  entry_read
  pointwise
  blk_ext [idx t]

/-- The root's inverse of a row. -/
theorem root (c : Dev nD) (t : Fin cfg0.N) (r : Fin 512) : k0_pay2 (F := Ideal) (iblk m c 1 t) (ix2 r 0)
    = Ideal.rsqrt (vv fun k => (show FVec Ideal Cert.DRmsMixRefIdeal.S4096x1024 .f32 from (m ((c : Thread nD τ).loc main_arg1))) (ix2 (⟨t.val * 512 + r.val, row_lt t r⟩ : Fin 4096) k)) :=
  (hroot _ _).trans (congrArg (fun f => Ideal.rsqrt (vv f)) (funext fun k => xrow m c t r k))

theorem hat (c : Dev nD) (t : Fin cfg0.N) (r : Fin 512) (k : Fin 1024) : k0_pay3 (F := Ideal) (iblk m c 1 t) (ix2 r k)
    = (show FVec Ideal Cert.DRmsMixRefIdeal.S4096x1024 .f32 from (m ((c : Thread nD τ).loc main_arg1))) (ix2 (⟨t.val * 512 + r.val, row_lt t r⟩ : Fin 4096) k) * Ideal.rsqrt (vv fun k => (show FVec Ideal Cert.DRmsMixRefIdeal.S4096x1024 .f32 from (m ((c : Thread nD τ).loc main_arg1))) (ix2 (⟨t.val * 512 + r.val, row_lt t r⟩ : Fin 4096) k)) :=
  (hhat _ _).trans (congrArg₂ (fun a f => a * Ideal.rsqrt (vv f)) (xrow m c t r k) (funext fun k => xrow m c t r k))

theorem point (c : Dev nD) (t : Fin cfg0.N) (r : Fin 512) (q : Fin 1024) :
    k0_pay4 (F := Ideal) (iblk m c 1 t) (iblk m c 0 t) (iblk m c 2 t) (iblk m c 3 t) (ix2 r q)
    = DX (m ((c : Thread nD τ).loc main_arg0)) (m ((c : Thread nD τ).loc main_arg3)) (m ((c : Thread nD τ).loc main_arg1)) (m ((c : Thread nD τ).loc main_arg2)) (ix2 (⟨t.val * 512 + r.val, row_lt t r⟩ : Fin 4096) q) := by
  refine (hdx _ _ _ _ _).trans (Eq.trans ?_ (dx_at _ _ _ _ _).symm)
  refine congrArg₂ (fun a b : EReal => a + b) (rrow m c t r q) ?_
  refine Eq.trans ?_ (back_eq (fun k => (show FVec Ideal Cert.DRmsMixRefIdeal.S4096x1024 .f32 from (m ((c : Thread nD τ).loc main_arg1))) (ix2 (⟨t.val * 512 + r.val, row_lt t r⟩ : Fin 4096) k)) (fun k => (show FVec Ideal Cert.DRmsMixRefIdeal.S4096x1024 .f32 from (m ((c : Thread nD τ).loc main_arg0))) (ix2 (⟨t.val * 512 + r.val, row_lt t r⟩ : Fin 4096) k) * (show FVec Ideal Cert.DRmsMixRefIdeal.S1024 .f32 from (m ((c : Thread nD τ).loc main_arg2))) (ix1 k)) q)
  have hd : ∀ k : Fin 1024, (show FVec Ideal S512x1024 .f32 from iblk m c 0 t) (ix2 r k) * (show FVec Ideal S1x1024 .f32 from iblk m c 2 t) (ix2 0 k) = (show FVec Ideal Cert.DRmsMixRefIdeal.S4096x1024 .f32 from (m ((c : Thread nD τ).loc main_arg0))) (ix2 (⟨t.val * 512 + r.val, row_lt t r⟩ : Fin 4096) k) * (show FVec Ideal Cert.DRmsMixRefIdeal.S1024 .f32 from (m ((c : Thread nD τ).loc main_arg2))) (ix1 k) :=
    fun k => congrArg₂ (fun a b : EReal => a * b) (drow m c t r k) (gain m c t k)
  refine congrArg₂ (fun a b : EReal => a * b) (root m c t r) ?_
  refine congrArg₂ (fun a b : EReal => a - b) (hd q) ?_
  refine congrArg₂ (fun a b : EReal => a * Ideal.div b (Ideal.ofBits FTy.f32 1149239296#32)) (hat m c t r q) ?_
  exact Finset.sum_congr rfl fun k _ => congrArg₂ (fun a b : EReal => a * b) (hd k) (hat m c t r k)

theorem out_dx (c : Dev nD) (t : Fin cfg0.N) (j : S512x1024.Idx) :
    (outsAt0 m c t.val t.isLt).1 j = k0_pay4 (F := Ideal) (iblk m c 1 t) (iblk m c 0 t) (iblk m c 2 t) (iblk m c 3 t) j := by
  by_cases h : t.val % 8 = 0
  · rw [outsAt0_A m c t h]; frame_out
  · rw [outsAt0_B m c t h]; frame_out

theorem final0 (c : Dev nD) : (dats m 0 c).arrAt 4 (cfgs 0).N = DX (m ((c : Thread nD τ).loc main_arg0)) (m ((c : Thread nD τ).loc main_arg3)) (m ((c : Thread nD τ).loc main_arg1)) (m ((c : Thread nD τ).loc main_arg2)) := by
  refine (dats m 0 c).arrAt_eq_of_covers 4 _ (by decide +kernel) fun t hf y => ?_
  blk_simp
  rw [after0_4]
  refine Eq.trans (congrArg _ ?_) ((out_dx m c t (ix2 (y 0) (y 1))).trans ((point m c t (y 0) (y 1)).trans (congrArg _ ?_)))
  · blk_ext
  · blk_ext [idx t]

/-- A row tile's part of the gains' derivative. -/
theorem part_at (c : Dev nD) (t : Fin cfg0.N) (q : Fin 1024) : k0_pay6 (F := Ideal) (iblk m c 1 t) (iblk m c 0 t) (ix1 q)
    = ∑ r : Fin 512, (show FVec Ideal Cert.DRmsMixRefIdeal.S4096x1024 .f32 from (m ((c : Thread nD τ).loc main_arg1))) (ix2 (⟨t.val * 512 + r.val, row_lt t r⟩ : Fin 4096) q) * Ideal.rsqrt (vv fun k => (show FVec Ideal Cert.DRmsMixRefIdeal.S4096x1024 .f32 from (m ((c : Thread nD τ).loc main_arg1))) (ix2 (⟨t.val * 512 + r.val, row_lt t r⟩ : Fin 4096) k)) * (show FVec Ideal Cert.DRmsMixRefIdeal.S4096x1024 .f32 from (m ((c : Thread nD τ).loc main_arg0))) (ix2 (⟨t.val * 512 + r.val, row_lt t r⟩ : Fin 4096) q) := by
  refine (hsum _ _ _).trans (Finset.sum_congr rfl fun r _ => ?_)
  exact (congrArg₂ (fun a b : EReal => a * b) (drow m c t r q) (hat m c t r q)).trans (mul_comm (G := EReal) _ _)

theorem dg_reset (c : Dev nD) (t : Fin cfg0.N) (h : t.val % 8 = 0) (j : S1x1024.Idx) :
    (outsAt0 m c t.val t.isLt).2 j = (0 : EReal) + k0_pay6 (F := Ideal) (iblk m c 1 t) (iblk m c 0 t) (ix1 (j 1)) := by
  rw [outsAt0_A m c t h]; frame_out; rw [hadd, hzero]

theorem dg_step (c : Dev nD) (t : Fin cfg0.N) (h : ¬t.val % 8 = 0) (j : S1x1024.Idx) :
    (outsAt0 m c t.val t.isLt).2 j = (outsAt0 m c (t.val - 1) (Nat.lt_of_le_of_lt (Nat.sub_le _ _) t.isLt)).2 j + k0_pay6 (F := Ideal) (iblk m c 1 t) (iblk m c 0 t) (ix1 (j 1)) := by
  rw [outsAt0_B m c t h]; frame_out; rw [hadd]

theorem dg_last (c : Dev nD) (t : Fin cfg0.N) (h : t.val % 8 = 7) (j : S1x1024.Idx) :
    (outsAt0 m c t.val t.isLt).2 j = DG (m ((c : Thread nD τ).loc main_arg0)) (m ((c : Thread nD τ).loc main_arg1)) (ix2 0 (j 1)) := by
  rw [Pipeline.eq_sum_fin_of_reset_step_apply_of_flush (fun n h => (outsAt0 m c n h).2) 8 (fun _ => (0 : EReal)) (fun t j => k0_pay6 (F := Ideal) (iblk m c 1 t) (iblk m c 0 t) (ix1 (j 1)))
    (dg_reset m c) (dg_step m c) t h _, zero_add, dg_at]
  refine Eq.trans (Finset.sum_congr rfl fun s _ => part_at m c _ _) ?_
  refine Fin.sum_mul_add_congr fun s r hl => ?_
  have hN : t.val < 8 := t.isLt
  have e : (⟨(8 * (t.val / 8) + s.val) * 512 + r.val, by omega⟩ : Fin 4096) = ⟨s.val * 512 + r.val, hl⟩ := Fin.ext (by show (8 * (t.val / 8) + s.val) * 512 + r.val = s.val * 512 + r.val; omega)
  exact congrArg (fun p : Fin 4096 => (show FVec Ideal Cert.DRmsMixRefIdeal.S4096x1024 .f32 from (m ((c : Thread nD τ).loc main_arg1))) (ix2 p (j 1)) * Ideal.rsqrt (vv fun k => (show FVec Ideal Cert.DRmsMixRefIdeal.S4096x1024 .f32 from (m ((c : Thread nD τ).loc main_arg1))) (ix2 p k)) * (show FVec Ideal Cert.DRmsMixRefIdeal.S4096x1024 .f32 from (m ((c : Thread nD τ).loc main_arg0))) (ix2 p (j 1))) e

theorem final1 (c : Dev nD) : (dats m 0 c).arrAt 5 (cfgs 0).N = DG (m ((c : Thread nD τ).loc main_arg0)) (m ((c : Thread nD τ).loc main_arg1)) := by
  refine (dats m 0 c).arrAt_eq_of_covers 5 _ (by decide +kernel) fun t hf y => ?_
  blk_simp
  rw [after0_5]
  refine Eq.trans (congrArg _ ?_) ((dg_last m c t ((flush0_5 t).mp hf) (ix2 0 (y 1))).trans (congrArg _ ?_))
  · blk_ext
  · blk_ext [idx t]

/-- The reference runs, its arguments end unchanged; it declares no semaphore. -/
theorem refFrame : @Cert.quiescent_DRmsMixRefIdeal Cert.DRmsMixRefIdeal.Gen.facts := fun m ρ _ =>
  (θ_run _ _ _).mono (fun r h => ⟨fun c => (h c).2.2, Idealize.ShloMosaic.sem_eq_zero_of_no_sems (by decide) r.2⟩)
    (Cert.DRmsMixRefIdeal.Value.run m ρ)

/-- Kernel and reference end with equal results. -/
theorem alg : @Cert.algebraic_DRmsMixIdeal_DRmsMixRefIdeal Cert.DRmsMixIdeal.Gen.facts Cert.DRmsMixRefIdeal.Gen.facts := by
  intro m g m' g' _ hargs
  refine ⟨fun c => (dats m 0 c).arrAt 4 cfg0.N, fun c => (dats m 0 c).arrAt 5 cfg0.N, Cert.DRmsMixIdeal.Value.run_blocks m g,
    (θ_run _ _ _).mono (fun r h c => ⟨(h c).1.trans ?_, (h c).2.1.trans ?_, (h c).2.2⟩) (Cert.DRmsMixRefIdeal.Value.run m' g')⟩
  · rw [(hargs c).1, (hargs c).2.1, (hargs c).2.2.1, (hargs c).2.2.2]
    exact (final0 m c).symm
  · rw [(hargs c).1, (hargs c).2.1]
    exact (final1 m c).symm

end Cert.DRmsMixIdeal.Math

end
-- ==== Proof.MergeMath.lean ====
module

public import proofs.«01_k».proof.Proof.Gen.MergeIdeal.Value
public import proofs.«01_k».proof.Proof.Gen.MergeRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Proof.PoolOut0
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.MergeIdeal.Math

open Cert.MergeIdeal Cert.MergeIdeal.Gen
open Idealize.ShloMosaic.Pointwise

variable (m : (ℓ : Loc nD τ sig) → Buf (Elt Ideal) ℓ)

open Cert.KernelIdeal.Pool (ld2 ld3 canon_hit canon_miss)

/-- The logistic function. -/
def logistic (x : EReal) : EReal := Ideal.div (Ideal.ofBits FTy.f32 1065353216#32) (Ideal.ofBits FTy.f32 1065353216#32 + Ideal.exp (0 - x))

/-- The sum of three values by three weights, of which the weights' sum is divided out. -/
def wsum (e0 e1 e2 o0 o1 o2 : EReal) : EReal :=
  Ideal.div e0 (e0 + e1 + e2) * o0 + Ideal.div e1 (e0 + e1 + e2) * o1 + Ideal.div e2 (e0 + e1 + e2) * o2

/-- The softmax-weighted sum of three values. -/
def mix (l0 l1 l2 o0 o1 o2 : EReal) : EReal :=
  wsum (Ideal.exp (l0 - max (max l0 l1) l2)) (Ideal.exp (l1 - max (max l0 l1) l2)) (Ideal.exp (l2 - max (max l0 l1) l2)) o0 o1 o2

/-- The gated sum of the three products. -/
def core (x0 x1 x2 u0 u1 u2 : EReal) : EReal := logistic x0 * u0 + logistic x1 * u1 + logistic x2 * u2

theorem hmix (l0 l1 l2 o0 o1 o2 : FVec Ideal S256x256 .f32) (j : S256x256.Idx) :
    k0_pay2 (F := Ideal) l0 l1 l2 o0 o1 o2 j = mix (l0 j) (l1 j) (l2 j) (o0 j) (o1 j) (o2 j) := by
  unfold mix wsum
  pointwise [k0_pay2]

/-- Column tile 0 of a row tile. -/
theorem hpay0 (y : FVec Ideal S256x256 .bf16) (p q : FVec Ideal S256x512 .bf16) (z0 z1 z2 : FVec Ideal S256x256 .f32) (b0 b1 b2 : FVec Ideal S1x256 .f32) (w0 w1 : FVec Ideal S1x512x256 .bf16) (w2 : FVec Ideal S1x256x256 .bf16) (r u : Fin 256) :
    (k0_pay7 (F := Ideal) y (k0_pay4 (F := Ideal) p q (k0_pay3 (F := Ideal) z0 b0) w0 z1 b1 w1) (k0_pay5 (F := Ideal) z2 b2) (k0_pay6 (F := Ideal)) w2) (ix2 r u)
      = core (z0 (ix2 r u) + b0 (ix2 0 u)) (z1 (ix2 r u) + b1 (ix2 0 u)) (z2 (ix2 r u) + b2 (ix2 0 u)) (∑ k : Fin 512, p (ix2 r k) * w0 (ix3 0 k u)) (∑ k : Fin 512, q (ix2 r k) * w1 (ix3 0 k u)) (∑ k : Fin 256, y (ix2 r k) * w2 (ix3 0 k u)) := by
  unfold core logistic
  pointwise [k0_pay7, k0_pay4, k0_pay3, k0_pay5, k0_pay6]

/-- Column tile 1 of a row tile. -/
theorem hpay1 (y : FVec Ideal S256x256 .bf16) (p q : FVec Ideal S256x512 .bf16) (z0 z1 z2 : FVec Ideal S256x256 .f32) (b0 b1 b2 : FVec Ideal S1x256 .f32) (w0 w1 : FVec Ideal S1x512x256 .bf16) (w2 : FVec Ideal S1x256x256 .bf16) (r u : Fin 256) :
    (k0_pay10 (F := Ideal) y q (k0_pay8 (F := Ideal) p z0 b0 w0) (k0_pay9 (F := Ideal) z1 b1) w1 z2 b2 w2) (ix2 r u)
      = core (z0 (ix2 r u) + b0 (ix2 0 u)) (z1 (ix2 r u) + b1 (ix2 0 u)) (z2 (ix2 r u) + b2 (ix2 0 u)) (∑ k : Fin 512, p (ix2 r k) * w0 (ix3 0 k u)) (∑ k : Fin 512, q (ix2 r k) * w1 (ix3 0 k u)) (∑ k : Fin 256, y (ix2 r k) * w2 (ix3 0 k u)) := by
  unfold core logistic
  pointwise [k0_pay10, k0_pay8, k0_pay9]

/-- Column tile 2 of a row tile. -/
theorem hpay2 (y : FVec Ideal S256x256 .bf16) (p q : FVec Ideal S256x512 .bf16) (z0 z1 z2 : FVec Ideal S256x256 .f32) (b0 b1 b2 : FVec Ideal S1x256 .f32) (w0 w1 : FVec Ideal S1x512x256 .bf16) (w2 : FVec Ideal S1x256x256 .bf16) (r u : Fin 256) :
    (k0_pay15 (F := Ideal) y (k0_pay12 (F := Ideal) p q (k0_pay11 (F := Ideal) z0 b0) w0 z1 b1 w1) (k0_pay13 (F := Ideal) z2 b2) (k0_pay14 (F := Ideal)) w2) (ix2 r u)
      = core (z0 (ix2 r u) + b0 (ix2 0 u)) (z1 (ix2 r u) + b1 (ix2 0 u)) (z2 (ix2 r u) + b2 (ix2 0 u)) (∑ k : Fin 512, p (ix2 r k) * w0 (ix3 0 k u)) (∑ k : Fin 512, q (ix2 r k) * w1 (ix3 0 k u)) (∑ k : Fin 256, y (ix2 r k) * w2 (ix3 0 k u)) := by
  unfold core logistic
  pointwise [k0_pay15, k0_pay12, k0_pay11, k0_pay13, k0_pay14]

/-- Column tile 3 of a row tile. -/
theorem hpay3 (y : FVec Ideal S256x256 .bf16) (p q : FVec Ideal S256x512 .bf16) (z0 z1 z2 : FVec Ideal S256x256 .f32) (b0 b1 b2 : FVec Ideal S1x256 .f32) (w0 w1 : FVec Ideal S1x512x256 .bf16) (w2 : FVec Ideal S1x256x256 .bf16) (r u : Fin 256) :
    (k0_pay1 (F := Ideal) y q (k0_pay16 (F := Ideal) p z0 b0 w0) (k0_pay17 (F := Ideal) z1 b1) w1 z2 b2 w2) (ix2 r u)
      = core (z0 (ix2 r u) + b0 (ix2 0 u)) (z1 (ix2 r u) + b1 (ix2 0 u)) (z2 (ix2 r u) + b2 (ix2 0 u)) (∑ k : Fin 512, p (ix2 r k) * w0 (ix3 0 k u)) (∑ k : Fin 512, q (ix2 r k) * w1 (ix3 0 k u)) (∑ k : Fin 256, y (ix2 r k) * w2 (ix3 0 k u)) := by
  unfold core logistic
  pointwise [k0_pay1, k0_pay16, k0_pay17]

/-- The reference's log-sums by group. -/
abbrev L3 (a3 : FVec Ideal Cert.MergeRefIdeal.S4096x12 .f32) : FVec Ideal Cert.MergeRefIdeal.S3x4096x4 .f32 :=
  transpose Cert.MergeRefIdeal.S3x4096x4 [1, 0, 2] (shapeCast Cert.MergeRefIdeal.S4096x3x4 a3 Cert.MergeRefIdeal.Gen.shapeCasts_S4096x12_S4096x3x4 ) Cert.MergeRefIdeal.Gen.transposes_S4096x3x4_S3x4096x4_1_0_2

theorem l3_at (a3 : FVec Ideal Cert.MergeRefIdeal.S4096x12 .f32) (g : Fin 3) (r : Fin 4096) (h : Fin 4) (n : Fin 12) (hn : n.val = 4 * g.val + h.val) : L3 a3 (ix3 g r h) = a3 (ix2 r n) := by
  pointwise [L3]
  refine congrArg a3 (congrArg (ix2 r) (Fin.ext ?_))
  simp only; omega

/-- Its outputs by group and head. -/
abbrev O3 (a2 : FVec Ideal Cert.MergeRefIdeal.S4096x768 .f32) : FVec Ideal Cert.MergeRefIdeal.S3x4096x4x64 .f32 :=
  transpose Cert.MergeRefIdeal.S3x4096x4x64 [1, 0, 2, 3] (shapeCast Cert.MergeRefIdeal.S4096x3x4x64 a2 Cert.MergeRefIdeal.Gen.shapeCasts_S4096x768_S4096x3x4x64 ) Cert.MergeRefIdeal.Gen.transposes_S4096x3x4x64_S3x4096x4x64_1_0_2_3

theorem o3_at (a2 : FVec Ideal Cert.MergeRefIdeal.S4096x768 .f32) (g : Fin 3) (r : Fin 4096) (h : Fin 4) (d : Fin 64) (n : Fin 768) (hn : n.val = 256 * g.val + 64 * h.val + d.val) : O3 a2 (ix4 g r h d) = a2 (ix2 r n) := by
  pointwise [O3]
  refine congrArg a2 (congrArg (ix2 r) (Fin.ext ?_))
  simp only; omega

/-- The exponentials of the log-sums below their maximum. -/
abbrev EX (l : FVec Ideal Cert.MergeRefIdeal.S3x4096x4 .f32) : FVec Ideal Cert.MergeRefIdeal.S3x4096x4 .f32 :=
  Host.exp (subf l (broadcastInDim Cert.MergeRefIdeal.S3x4096x4 ![0, 1, 2] Cert.MergeRefIdeal.Gen.bcast_S1x4096x4_S3x4096x4_0_1_2 (broadcastInDim Cert.MergeRefIdeal.S1x4096x4 ![1, 2] Cert.MergeRefIdeal.Gen.bcast_S4096x4_S1x4096x4_1_2 (maximumf (broadcastInDim Cert.MergeRefIdeal.S4096x4 ![] Cert.MergeRefIdeal.Gen.bcast_S_S4096x4 (constant Cert.MergeRefIdeal.S_ .f32 0xFF800000#32)) (Host.reduce FloatOps.maximumf l (constant Cert.MergeRefIdeal.S_ .f32 0xFF800000#32) Cert.MergeRefIdeal.Gen.reducesTo_S3x4096x4_S4096x4_d0 Cert.MergeRefIdeal.Gen.h_S_ )))))

theorem fold3 (f : Fin 3 → EReal) : max (Ideal.ofBits FTy.f32 4286578688#32) (Finset.univ.fold max (Ideal.ofBits FTy.f32 4286578688#32) f) = max (max (f 0) (f 1)) (f 2) := by
  have hb : Ideal.ofBits FTy.f32 4286578688#32 = ⊥ := by simp [Ideal.ofBits, Ideal.ieee]
  rw [hb, show (Finset.univ : Finset (Fin 3)) = {0, 1, 2} from rfl, Finset.fold_insert (by decide), Finset.fold_insert (by decide), Finset.fold_singleton]
  rw [max_eq_right bot_le, max_eq_left bot_le, max_assoc]

theorem ex_at (l : FVec Ideal Cert.MergeRefIdeal.S3x4096x4 .f32) (g : Fin 3) (r : Fin 4096) (h : Fin 4) : EX l (ix3 g r h)
    = Ideal.exp (l (ix3 g r h) - max (max (l (ix3 0 r h)) (l (ix3 1 r h))) (l (ix3 2 r h))) := by
  refine Eq.trans (b := Ideal.exp (l (ix3 g r h) - max (Ideal.ofBits FTy.f32 4286578688#32) (Finset.univ.fold max (Ideal.ofBits FTy.f32 4286578688#32) fun k : Fin 3 => l (ix3 k r h)))) ?_ (by rw [fold3])
  pointwise [EX]

/-- The mixed outputs. -/
abbrev YY (e : FVec Ideal Cert.MergeRefIdeal.S3x4096x4 .f32) (o : FVec Ideal Cert.MergeRefIdeal.S3x4096x4x64 .f32) : FVec Ideal Cert.MergeRefIdeal.S4096x256 .f32 :=
  shapeCast Cert.MergeRefIdeal.S4096x256 (Host.reduceAdd (mulf (broadcastInDim Cert.MergeRefIdeal.S3x4096x4x64 ![0, 1, 2, 3] Cert.MergeRefIdeal.Gen.bcast_S3x4096x4x1_S3x4096x4x64_0_1_2_3 (broadcastInDim Cert.MergeRefIdeal.S3x4096x4x1 ![0, 1, 2] Cert.MergeRefIdeal.Gen.bcast_S3x4096x4_S3x4096x4x1_0_1_2 (Host.divf e (broadcastInDim Cert.MergeRefIdeal.S3x4096x4 ![0, 1, 2] Cert.MergeRefIdeal.Gen.bcast_S1x4096x4_S3x4096x4_0_1_2 (broadcastInDim Cert.MergeRefIdeal.S1x4096x4 ![1, 2] Cert.MergeRefIdeal.Gen.bcast_S4096x4_S1x4096x4_1_2 (Host.reduceAdd e (constant Cert.MergeRefIdeal.S_ .f32 0x00000000#32) Cert.MergeRefIdeal.Gen.reducesTo_S3x4096x4_S4096x4_d0 Cert.MergeRefIdeal.Gen.h_S_ )))))) o) (constant Cert.MergeRefIdeal.S_ .f32 0x00000000#32) Cert.MergeRefIdeal.Gen.reducesTo_S3x4096x4x64_S4096x4x64_d0 Cert.MergeRefIdeal.Gen.h_S_ ) Cert.MergeRefIdeal.Gen.shapeCasts_S4096x4x64_S4096x256

theorem yy_at (e : FVec Ideal Cert.MergeRefIdeal.S3x4096x4 .f32) (o : FVec Ideal Cert.MergeRefIdeal.S3x4096x4x64 .f32) (r : Fin 4096) (k : Fin 256) (h : Fin 4) (d : Fin 64) (hk : k.val = 64 * h.val + d.val) : YY e o (ix2 r k)
    = wsum (e (ix3 0 r h)) (e (ix3 1 r h)) (e (ix3 2 r h)) (o (ix4 0 r h d)) (o (ix4 1 r h d)) (o (ix4 2 r h d)) := by
  have e0 : (⟨k.val / 64, by omega⟩ : Fin 4) = h := Fin.ext (by simp only; omega)
  have e1 : (⟨k.val % 64, by omega⟩ : Fin 64) = d := Fin.ext (by simp only; omega)
  refine Eq.trans (b := wsum (e (ix3 0 r (⟨k.val / 64, by omega⟩ : Fin 4))) (e (ix3 1 r (⟨k.val / 64, by omega⟩ : Fin 4))) (e (ix3 2 r (⟨k.val / 64, by omega⟩ : Fin 4))) (o (ix4 0 r (⟨k.val / 64, by omega⟩ : Fin 4) (⟨k.val % 64, by omega⟩ : Fin 64))) (o (ix4 1 r (⟨k.val / 64, by omega⟩ : Fin 4) (⟨k.val % 64, by omega⟩ : Fin 64))) (o (ix4 2 r (⟨k.val / 64, by omega⟩ : Fin 4) (⟨k.val % 64, by omega⟩ : Fin 64)))) ?_ (by rw [e0, e1])
  unfold wsum
  pointwise [YY]
  try simp only [Fin.sum_univ_three]

/-- The gates. -/
abbrev GT (a4 : FVec Ideal Cert.MergeRefIdeal.S4096x7424 .f32) (a5 : FVec Ideal Cert.MergeRefIdeal.S3072 .f32) : FVec Ideal Cert.MergeRefIdeal.S4096x3x1024 .f32 :=
  shapeCast Cert.MergeRefIdeal.S4096x3x1024 (Host.divf (broadcastInDim Cert.MergeRefIdeal.S4096x3072 ![] Cert.MergeRefIdeal.Gen.bcast_S_S4096x3072 (constant Cert.MergeRefIdeal.S_ .f32 0x3F800000#32)) (addf (broadcastInDim Cert.MergeRefIdeal.S4096x3072 ![] Cert.MergeRefIdeal.Gen.bcast_S_S4096x3072 (constant Cert.MergeRefIdeal.S_ .f32 0x3F800000#32)) (Host.exp (Host.negf (addf (extractStridedSlice Cert.MergeRefIdeal.S4096x3072 ![0, 4352] a4 Cert.MergeRefIdeal.Gen.slices_S4096x7424_S4096x3072_0_4352 ) (broadcastInDim Cert.MergeRefIdeal.S4096x3072 ![0, 1] Cert.MergeRefIdeal.Gen.bcast_S1x3072_S4096x3072_0_1 (broadcastInDim Cert.MergeRefIdeal.S1x3072 ![1] Cert.MergeRefIdeal.Gen.bcast_S3072_S1x3072_1 a5))))))) Cert.MergeRefIdeal.Gen.shapeCasts_S4096x3072_S4096x3x1024

theorem gt_at (a4 : FVec Ideal Cert.MergeRefIdeal.S4096x7424 .f32) (a5 : FVec Ideal Cert.MergeRefIdeal.S3072 .f32) (r : Fin 4096) (b : Fin 3) (q : Fin 1024) (n : Fin 3072) (l : Fin 7424) (hn : n.val = 1024 * b.val + q.val) (hl : l.val = 4352 + n.val) : GT a4 a5 (ix3 r b q) = logistic (a4 (ix2 r l) + a5 (ix1 n)) := by
  have e0 : (⟨b.val * 1024 + q.val, by omega⟩ : Fin 3072) = n := Fin.ext (by simp only; omega)
  have e1 : (⟨4352 + (b.val * 1024 + q.val), by omega⟩ : Fin 7424) = l := Fin.ext (by simp only; omega)
  unfold logistic
  rw [zero_sub]
  pointwise [GT]
  rw [e1, e0]

/-- The reference's result, of its gates and its mixed outputs. -/
abbrev OUT (g : FVec Ideal Cert.MergeRefIdeal.S4096x3x1024 .f32) (a0 a1 : FVec Ideal Cert.MergeRefIdeal.S4096x512 .bf16) (y : FVec Ideal Cert.MergeRefIdeal.S4096x256 .f32) (a6 a7 : FVec Ideal Cert.MergeRefIdeal.S4x512x256 .bf16) (a8 : FVec Ideal Cert.MergeRefIdeal.S4x256x256 .bf16) : FVec Ideal Cert.MergeRefIdeal.S4096x1024 .bf16 :=
  truncf .bf16 (addf (addf (mulf (shapeCast Cert.MergeRefIdeal.S4096x1024 (extractStridedSlice Cert.MergeRefIdeal.S4096x1x1024 ![0, 0, 0] g Cert.MergeRefIdeal.Gen.slices_S4096x3x1024_S4096x1x1024_0_0_0 ) Cert.MergeRefIdeal.Gen.shapeCasts_S4096x1x1024_S4096x1024 ) (Host.dotGeneral Cert.MergeRefIdeal.dot_S4096x512_S512x1024_S4096x1024_1_0_0_1_n_n none (extf .f32 a0 Cert.MergeRefIdeal.Gen.bitsLt_bf16_f32 ) (shapeCast Cert.MergeRefIdeal.S512x1024 (transpose Cert.MergeRefIdeal.S512x4x256 [1, 0, 2] (extf .f32 a6 Cert.MergeRefIdeal.Gen.bitsLt_bf16_f32 ) Cert.MergeRefIdeal.Gen.transposes_S4x512x256_S512x4x256_1_0_2 ) Cert.MergeRefIdeal.Gen.shapeCasts_S512x4x256_S512x1024 ))) (mulf (shapeCast Cert.MergeRefIdeal.S4096x1024 (extractStridedSlice Cert.MergeRefIdeal.S4096x1x1024 ![0, 1, 0] g Cert.MergeRefIdeal.Gen.slices_S4096x3x1024_S4096x1x1024_0_1_0 ) Cert.MergeRefIdeal.Gen.shapeCasts_S4096x1x1024_S4096x1024 ) (Host.dotGeneral Cert.MergeRefIdeal.dot_S4096x512_S512x1024_S4096x1024_1_0_0_1_n_n none (extf .f32 a1 Cert.MergeRefIdeal.Gen.bitsLt_bf16_f32 ) (shapeCast Cert.MergeRefIdeal.S512x1024 (transpose Cert.MergeRefIdeal.S512x4x256 [1, 0, 2] (extf .f32 a7 Cert.MergeRefIdeal.Gen.bitsLt_bf16_f32 ) Cert.MergeRefIdeal.Gen.transposes_S4x512x256_S512x4x256_1_0_2 ) Cert.MergeRefIdeal.Gen.shapeCasts_S512x4x256_S512x1024 )))) (mulf (shapeCast Cert.MergeRefIdeal.S4096x1024 (extractStridedSlice Cert.MergeRefIdeal.S4096x1x1024 ![0, 2, 0] g Cert.MergeRefIdeal.Gen.slices_S4096x3x1024_S4096x1x1024_0_2_0 ) Cert.MergeRefIdeal.Gen.shapeCasts_S4096x1x1024_S4096x1024 ) (Host.dotGeneral Cert.MergeRefIdeal.dot_S4096x256_S256x1024_S4096x1024_1_0_0_1_n_n none y  (shapeCast Cert.MergeRefIdeal.S256x1024 (transpose Cert.MergeRefIdeal.S256x4x256 [1, 0, 2] (extf .f32 a8 Cert.MergeRefIdeal.Gen.bitsLt_bf16_f32 ) Cert.MergeRefIdeal.Gen.transposes_S4x256x256_S256x4x256_1_0_2 ) Cert.MergeRefIdeal.Gen.shapeCasts_S256x4x256_S256x1024 )))) Cert.MergeRefIdeal.Gen.bitsLt_bf16_f32

theorem out_at (g : FVec Ideal Cert.MergeRefIdeal.S4096x3x1024 .f32) (a0 a1 : FVec Ideal Cert.MergeRefIdeal.S4096x512 .bf16) (y : FVec Ideal Cert.MergeRefIdeal.S4096x256 .f32) (a6 a7 : FVec Ideal Cert.MergeRefIdeal.S4x512x256 .bf16) (a8 : FVec Ideal Cert.MergeRefIdeal.S4x256x256 .bf16) (r : Fin 4096) (q : Fin 1024) (n : Fin 4) (u : Fin 256) (hq : q.val = 256 * n.val + u.val) :
    OUT g a0 a1 y a6 a7 a8 (ix2 r q) = g (ix3 r 0 q) * (∑ k : Fin 512, a0 (ix2 r k) * a6 (ix3 n k u)) + g (ix3 r 1 q) * (∑ k : Fin 512, a1 (ix2 r k) * a7 (ix3 n k u)) + g (ix3 r 2 q) * (∑ k : Fin 256, y (ix2 r k) * a8 (ix3 n k u)) := by
  have e0 : (⟨q.val / 256, by omega⟩ : Fin 4) = n := Fin.ext (by simp only; omega)
  have e1 : (⟨q.val % 256, by omega⟩ : Fin 256) = u := Fin.ext (by simp only; omega)
  refine Eq.trans (b := g (ix3 r 0 q) * (∑ k : Fin 512, a0 (ix2 r k) * a6 (ix3 (⟨q.val / 256, by omega⟩ : Fin 4) k (⟨q.val % 256, by omega⟩ : Fin 256))) + g (ix3 r 1 q) * (∑ k : Fin 512, a1 (ix2 r k) * a7 (ix3 (⟨q.val / 256, by omega⟩ : Fin 4) k (⟨q.val % 256, by omega⟩ : Fin 256))) + g (ix3 r 2 q) * (∑ k : Fin 256, y (ix2 r k) * a8 (ix3 (⟨q.val / 256, by omega⟩ : Fin 4) k (⟨q.val % 256, by omega⟩ : Fin 256)))) ?_ (by rw [e0, e1])
  pointwise [OUT]

/-- A tile's element, from the blocks' elements that it is made of. -/
theorem tile (y : FVec Ideal S256x256 .bf16) (p q : FVec Ideal S256x512 .bf16) (z0 z1 z2 : FVec Ideal S256x256 .f32) (b0 b1 b2 : FVec Ideal S1x256 .f32) (w0 w1 : FVec Ideal S1x512x256 .bf16) (w2 : FVec Ideal S1x256x256 .bf16) (a0 : FVec Ideal Cert.MergeRefIdeal.S4096x512 .bf16) (a1 : FVec Ideal Cert.MergeRefIdeal.S4096x512 .bf16) (a2 : FVec Ideal Cert.MergeRefIdeal.S4096x768 .f32) (a3 : FVec Ideal Cert.MergeRefIdeal.S4096x12 .f32) (a4 : FVec Ideal Cert.MergeRefIdeal.S4096x7424 .f32) (a5 : FVec Ideal Cert.MergeRefIdeal.S3072 .f32) (a6 : FVec Ideal Cert.MergeRefIdeal.S4x512x256 .bf16) (a7 : FVec Ideal Cert.MergeRefIdeal.S4x512x256 .bf16) (a8 : FVec Ideal Cert.MergeRefIdeal.S4x256x256 .bf16)
    (r u : Fin 256) (R : Fin 4096) (n : Fin 4) (d : Fin 1024) (hd : d.val = 256 * n.val + u.val)
    (hy : ∀ k, y (ix2 r k) = YY (EX (L3 a3)) (O3 a2) (ix2 R k)) (hp : ∀ k, p (ix2 r k) = a0 (ix2 R k)) (hq : ∀ k, q (ix2 r k) = a1 (ix2 R k))
    (hz0 : z0 (ix2 r u) = a4 (ix2 R ⟨4352 + (256 * n.val + u.val), by omega⟩)) (hz1 : z1 (ix2 r u) = a4 (ix2 R ⟨5376 + (256 * n.val + u.val), by omega⟩))
    (hz2 : z2 (ix2 r u) = a4 (ix2 R ⟨6400 + (256 * n.val + u.val), by omega⟩))
    (hb0 : b0 (ix2 0 u) = a5 (ix1 ⟨256 * n.val + u.val, by omega⟩)) (hb1 : b1 (ix2 0 u) = a5 (ix1 ⟨1024 + (256 * n.val + u.val), by omega⟩))
    (hb2 : b2 (ix2 0 u) = a5 (ix1 ⟨2048 + (256 * n.val + u.val), by omega⟩))
    (hw0 : ∀ k, w0 (ix3 0 k u) = a6 (ix3 n k u)) (hw1 : ∀ k, w1 (ix3 0 k u) = a7 (ix3 n k u)) (hw2 : ∀ k, w2 (ix3 0 k u) = a8 (ix3 n k u)) :
    core (z0 (ix2 r u) + b0 (ix2 0 u)) (z1 (ix2 r u) + b1 (ix2 0 u)) (z2 (ix2 r u) + b2 (ix2 0 u)) (∑ k : Fin 512, p (ix2 r k) * w0 (ix3 0 k u)) (∑ k : Fin 512, q (ix2 r k) * w1 (ix3 0 k u)) (∑ k : Fin 256, y (ix2 r k) * w2 (ix3 0 k u))
      = OUT (GT a4 a5) a0 a1 (YY (EX (L3 a3)) (O3 a2)) a6 a7 a8 (ix2 R d) := by
  rw [out_at _ _ _ _ _ _ _ R d n u hd,
    gt_at a4 a5 R 0 d ⟨256 * n.val + u.val, by omega⟩ ⟨4352 + (256 * n.val + u.val), by omega⟩ (by simp only [Fin.val_zero]; omega) (by simp only),
    gt_at a4 a5 R 1 d ⟨1024 + (256 * n.val + u.val), by omega⟩ ⟨5376 + (256 * n.val + u.val), by omega⟩ (by simp only [Fin.val_one]; omega) (by simp only; omega),
    gt_at a4 a5 R 2 d ⟨2048 + (256 * n.val + u.val), by omega⟩ ⟨6400 + (256 * n.val + u.val), by omega⟩ (by simp only [Fin.val_two]; omega) (by simp only; omega)]
  unfold core
  rw [hz0, hz1, hz2, hb0, hb1, hb2]
  simp only [hy, hp, hq, hw0, hw1, hw2]

theorem mix_congr {l0 l1 l2 o0 o1 o2 l0' l1' l2' o0' o1' o2' : EReal} (h0 : l0 = l0') (h1 : l1 = l1') (h2 : l2 = l2') (h3 : o0 = o0')
    (h4 : o1 = o1') (h5 : o2 = o2') : mix l0 l1 l2 o0 o1 o2 = mix l0' l1' l2' o0' o1' o2' := by
  rw [h0, h1, h2, h3, h4, h5]

theorem idx : ∀ t : Fin cfg0.N, win0_0.index t = ![t.val, 0]
    ∧ win0_1.index t = ![t.val, 0]
    ∧ win0_2.index t = ![t.val, 0]
    ∧ win0_3.index t = ![t.val, 1]
    ∧ win0_4.index t = ![t.val, 2]
    ∧ win0_5.index t = ![t.val, 0]
    ∧ win0_6.index t = ![t.val, 1]
    ∧ win0_7.index t = ![t.val, 2]
    ∧ win0_8.index t = ![t.val, 17]
    ∧ win0_9.index t = ![t.val, 18]
    ∧ win0_10.index t = ![t.val, 19]
    ∧ win0_11.index t = ![t.val, 20]
    ∧ win0_12.index t = ![t.val, 21]
    ∧ win0_13.index t = ![t.val, 22]
    ∧ win0_14.index t = ![t.val, 23]
    ∧ win0_15.index t = ![t.val, 24]
    ∧ win0_16.index t = ![t.val, 25]
    ∧ win0_17.index t = ![t.val, 26]
    ∧ win0_18.index t = ![t.val, 27]
    ∧ win0_19.index t = ![t.val, 28]
    ∧ win0_20.index t = ![0, 0]
    ∧ win0_21.index t = ![0, 0, 0]
    ∧ win0_22.index t = ![0, 0, 0]
    ∧ win0_23.index t = ![0, 0, 0]
    ∧ win0_24.index t = ![t.val, 0] :=
  (by decide +kernel : ∀ t : Fin grid0.N, _)

theorem row_lt (t : Fin cfg0.N) (r : Fin 256) : t.val * 256 + r.val < 4096 := by
  have hN : t.val < 16 := t.isLt
  omega

theorem pool_row (c : Dev nD) (t : Fin cfg0.N) (r : Fin 256) (k : Fin 512) : (show FVec Ideal S256x512 .bf16 from iblk m c 0 t) (ix2 r k) = (show FVec Ideal Cert.MergeRefIdeal.S4096x512 .bf16 from (m ((c : Thread nD τ).loc main_arg0))) (ix2 (⟨t.val * 256 + r.val, row_lt t r⟩ : Fin 4096) k) := by
  blk_ext [iblk, V_main_arg0, idx t]

theorem conv_row (c : Dev nD) (t : Fin cfg0.N) (r : Fin 256) (k : Fin 512) : (show FVec Ideal S256x512 .bf16 from iblk m c 1 t) (ix2 r k) = (show FVec Ideal Cert.MergeRefIdeal.S4096x512 .bf16 from (m ((c : Thread nD τ).loc main_arg1))) (ix2 (⟨t.val * 256 + r.val, row_lt t r⟩ : Fin 4096) k) := by
  blk_ext [iblk, V_main_arg1, idx t]

theorem o0_row (c : Dev nD) (t : Fin cfg0.N) (r k : Fin 256) : (show FVec Ideal S256x256 .f32 from iblk m c 2 t) (ix2 r k) = (show FVec Ideal Cert.MergeRefIdeal.S4096x768 .f32 from (m ((c : Thread nD τ).loc main_arg2))) (ix2 (⟨t.val * 256 + r.val, row_lt t r⟩ : Fin 4096) (⟨0 + k.val, by omega⟩ : Fin 768)) := by
  blk_ext [iblk, V_main_arg2, idx t]

theorem lse0_row (c : Dev nD) (t : Fin cfg0.N) (r k : Fin 256) : (show FVec Ideal S256x256 .f32 from iblk m c 5 t) (ix2 r k) = (show FVec Ideal Cert.MergeRefIdeal.S4096x12 .f32 from (m ((c : Thread nD τ).loc main_arg3))) (ix2 (⟨t.val * 256 + r.val, row_lt t r⟩ : Fin 4096) (⟨0 + k.val / 64, by omega⟩ : Fin 12)) := by
  blk_simp [iblk, idx t]
  entry_read
  pointwise
  blk_ext [idx t]

theorem o1_row (c : Dev nD) (t : Fin cfg0.N) (r k : Fin 256) : (show FVec Ideal S256x256 .f32 from iblk m c 3 t) (ix2 r k) = (show FVec Ideal Cert.MergeRefIdeal.S4096x768 .f32 from (m ((c : Thread nD τ).loc main_arg2))) (ix2 (⟨t.val * 256 + r.val, row_lt t r⟩ : Fin 4096) (⟨256 + k.val, by omega⟩ : Fin 768)) := by
  blk_ext [iblk, V_main_arg2, idx t]

theorem lse1_row (c : Dev nD) (t : Fin cfg0.N) (r k : Fin 256) : (show FVec Ideal S256x256 .f32 from iblk m c 6 t) (ix2 r k) = (show FVec Ideal Cert.MergeRefIdeal.S4096x12 .f32 from (m ((c : Thread nD τ).loc main_arg3))) (ix2 (⟨t.val * 256 + r.val, row_lt t r⟩ : Fin 4096) (⟨4 + k.val / 64, by omega⟩ : Fin 12)) := by
  blk_simp [iblk, idx t]
  entry_read
  pointwise
  blk_ext [idx t]

theorem o2_row (c : Dev nD) (t : Fin cfg0.N) (r k : Fin 256) : (show FVec Ideal S256x256 .f32 from iblk m c 4 t) (ix2 r k) = (show FVec Ideal Cert.MergeRefIdeal.S4096x768 .f32 from (m ((c : Thread nD τ).loc main_arg2))) (ix2 (⟨t.val * 256 + r.val, row_lt t r⟩ : Fin 4096) (⟨512 + k.val, by omega⟩ : Fin 768)) := by
  blk_ext [iblk, V_main_arg2, idx t]

theorem lse2_row (c : Dev nD) (t : Fin cfg0.N) (r k : Fin 256) : (show FVec Ideal S256x256 .f32 from iblk m c 7 t) (ix2 r k) = (show FVec Ideal Cert.MergeRefIdeal.S4096x12 .f32 from (m ((c : Thread nD τ).loc main_arg3))) (ix2 (⟨t.val * 256 + r.val, row_lt t r⟩ : Fin 4096) (⟨8 + k.val / 64, by omega⟩ : Fin 12)) := by
  blk_simp [iblk, idx t]
  entry_read
  pointwise
  blk_ext [idx t]

theorem bias_at (c : Dev nD) (t : Fin cfg0.N) (n : Fin 3072) : (show FVec Ideal S1x3072 .f32 from iblk m c 20 t) (ix2 0 n) = (show FVec Ideal Cert.MergeRefIdeal.S3072 .f32 from (m ((c : Thread nD τ).loc main_arg5))) (ix1 n) := by
  blk_simp [iblk, idx t]
  entry_read
  pointwise
  blk_ext [idx t]

theorem pool_up_at (c : Dev nD) (t : Fin cfg0.N) (n : Fin 4) (k : Fin 512) (u : Fin 256) : (show FVec Ideal S4x512x256 .bf16 from iblk m c 21 t) (ix3 n k u) = (show FVec Ideal Cert.MergeRefIdeal.S4x512x256 .bf16 from (m ((c : Thread nD τ).loc main_arg6))) (ix3 n k u) := by
  blk_ext [iblk, V_main_arg6, idx t]

theorem conv_out_at (c : Dev nD) (t : Fin cfg0.N) (n : Fin 4) (k : Fin 512) (u : Fin 256) : (show FVec Ideal S4x512x256 .bf16 from iblk m c 22 t) (ix3 n k u) = (show FVec Ideal Cert.MergeRefIdeal.S4x512x256 .bf16 from (m ((c : Thread nD τ).loc main_arg7))) (ix3 n k u) := by
  blk_ext [iblk, V_main_arg7, idx t]

theorem attn_up_at (c : Dev nD) (t : Fin cfg0.N) (n : Fin 4) (k u : Fin 256) : (show FVec Ideal S4x256x256 .bf16 from iblk m c 23 t) (ix3 n k u) = (show FVec Ideal Cert.MergeRefIdeal.S4x256x256 .bf16 from (m ((c : Thread nD τ).loc main_arg8))) (ix3 n k u) := by
  blk_ext [iblk, V_main_arg8, idx t]

/-- The row tile's mixed outputs. -/
theorem mixed (c : Dev nD) (t : Fin cfg0.N) (r k : Fin 256) : k0_pay18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 r k) = YY (EX (L3 (m ((c : Thread nD τ).loc main_arg3)))) (O3 (m ((c : Thread nD τ).loc main_arg2))) (ix2 (⟨t.val * 256 + r.val, row_lt t r⟩ : Fin 4096) k) := by
  unfold k0_pay18
  rw [yy_at _ _ (⟨t.val * 256 + r.val, row_lt t r⟩ : Fin 4096) k ⟨k.val / 64, by omega⟩ ⟨k.val % 64, by omega⟩ (by simp only; omega), ex_at, ex_at, ex_at]
  refine (hmix _ _ _ _ _ _ _).trans (mix_congr ?_ ?_ ?_ ?_ ?_ ?_)
  · exact ((ld2 _ _ r k r k (Nat.zero_add _).symm (Nat.zero_add _).symm).trans ((lse0_row m c t r k).trans (l3_at _ 0 (⟨t.val * 256 + r.val, row_lt t r⟩ : Fin 4096) ⟨k.val / 64, by omega⟩ ⟨0 + k.val / 64, by omega⟩ (by simp only [Fin.val_zero])).symm))
  · exact ((ld2 _ _ r k r k (Nat.zero_add _).symm (Nat.zero_add _).symm).trans ((lse1_row m c t r k).trans (l3_at _ 1 (⟨t.val * 256 + r.val, row_lt t r⟩ : Fin 4096) ⟨k.val / 64, by omega⟩ ⟨4 + k.val / 64, by omega⟩ (by simp only [Fin.val_one])).symm))
  · exact ((ld2 _ _ r k r k (Nat.zero_add _).symm (Nat.zero_add _).symm).trans ((lse2_row m c t r k).trans (l3_at _ 2 (⟨t.val * 256 + r.val, row_lt t r⟩ : Fin 4096) ⟨k.val / 64, by omega⟩ ⟨8 + k.val / 64, by omega⟩ (by simp only [Fin.val_two])).symm))
  · exact ((ld2 _ _ r k r k (Nat.zero_add _).symm (Nat.zero_add _).symm).trans ((o0_row m c t r k).trans (o3_at _ 0 (⟨t.val * 256 + r.val, row_lt t r⟩ : Fin 4096) ⟨k.val / 64, by omega⟩ ⟨k.val % 64, by omega⟩ ⟨0 + k.val, by omega⟩ (by simp only [Fin.val_zero]; omega)).symm))
  · exact ((ld2 _ _ r k r k (Nat.zero_add _).symm (Nat.zero_add _).symm).trans ((o1_row m c t r k).trans (o3_at _ 1 (⟨t.val * 256 + r.val, row_lt t r⟩ : Fin 4096) ⟨k.val / 64, by omega⟩ ⟨k.val % 64, by omega⟩ ⟨256 + k.val, by omega⟩ (by simp only [Fin.val_one]; omega)).symm))
  · exact ((ld2 _ _ r k r k (Nat.zero_add _).symm (Nat.zero_add _).symm).trans ((o2_row m c t r k).trans (o3_at _ 2 (⟨t.val * 256 + r.val, row_lt t r⟩ : Fin 4096) ⟨k.val / 64, by omega⟩ ⟨k.val % 64, by omega⟩ ⟨512 + k.val, by omega⟩ (by simp only [Fin.val_two]; omega)).symm))

/-- The reference's result over the kernel's arguments. -/
abbrev RES (c : Dev nD) : FVec Ideal Cert.MergeRefIdeal.S4096x1024 .bf16 := OUT (GT (m ((c : Thread nD τ).loc main_arg4)) (m ((c : Thread nD τ).loc main_arg5))) (m ((c : Thread nD τ).loc main_arg0)) (m ((c : Thread nD τ).loc main_arg1)) (YY (EX (L3 (m ((c : Thread nD τ).loc main_arg3)))) (O3 (m ((c : Thread nD τ).loc main_arg2)))) (m ((c : Thread nD τ).loc main_arg6)) (m ((c : Thread nD τ).loc main_arg7)) (m ((c : Thread nD τ).loc main_arg8))

theorem out0 (c : Dev nD) (t : Fin cfg0.N) (r u : Fin 256) (d : Fin 1024) (hd : d.val = 256 * (0 : Fin 4).val + u.val) : out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 r d) = RES m c (ix2 (⟨t.val * 256 + r.val, row_lt t r⟩ : Fin 4096) d) := by
  have hd' : d.val = 0 + u.val := hd
  refine Eq.trans (canon_miss _ _ _ _ _ (by (try simp only); omega)) ?_
  refine Eq.trans (canon_miss _ _ _ _ _ (by (try simp only); omega)) ?_
  refine Eq.trans (canon_miss _ _ _ _ _ (by (try simp only); omega)) ?_
  refine Eq.trans (canon_hit _ _ _ _ _ r u (Nat.zero_add _).symm (by (try simp only); omega)) ?_
  refine (hpay0 _ _ _ _ _ _ _ _ _ _ _ _ r u).trans (tile _ _ _ _ _ _ _ _ _ _ _ _ _ _ _ _ _ _ _ _ _ r u (⟨t.val * 256 + r.val, row_lt t r⟩ : Fin 4096) 0 d hd (mixed m c t r) ?_ ?_ ?_ ?_ ?_ ?_ ?_ ?_ ?_ ?_ ?_)
  · exact fun k => (ld2 _ _ r k r k (Nat.zero_add _).symm (Nat.zero_add _).symm).trans (pool_row m c t r k)
  · exact fun k => (ld2 _ _ r k r k (Nat.zero_add _).symm (Nat.zero_add _).symm).trans (conv_row m c t r k)
  · refine (ld2 _ _ r u r u (Nat.zero_add _).symm (Nat.zero_add _).symm).trans ?_
    show (show FVec Ideal S256x256 .f32 from iblk m c 8 t) (ix2 r u) = (show FVec Ideal Cert.MergeRefIdeal.S4096x7424 .f32 from (m ((c : Thread nD τ).loc main_arg4))) (ix2 (⟨t.val * 256 + r.val, row_lt t r⟩ : Fin 4096) (⟨4352 + (0 + u.val), by omega⟩ : Fin 7424))
    blk_ext [iblk, V_main_arg4, idx t]
  · refine (ld2 _ _ r u r u (Nat.zero_add _).symm (Nat.zero_add _).symm).trans ?_
    show (show FVec Ideal S256x256 .f32 from iblk m c 12 t) (ix2 r u) = (show FVec Ideal Cert.MergeRefIdeal.S4096x7424 .f32 from (m ((c : Thread nD τ).loc main_arg4))) (ix2 (⟨t.val * 256 + r.val, row_lt t r⟩ : Fin 4096) (⟨5376 + (0 + u.val), by omega⟩ : Fin 7424))
    blk_ext [iblk, V_main_arg4, idx t]
  · refine (ld2 _ _ r u r u (Nat.zero_add _).symm (Nat.zero_add _).symm).trans ?_
    show (show FVec Ideal S256x256 .f32 from iblk m c 16 t) (ix2 r u) = (show FVec Ideal Cert.MergeRefIdeal.S4096x7424 .f32 from (m ((c : Thread nD τ).loc main_arg4))) (ix2 (⟨t.val * 256 + r.val, row_lt t r⟩ : Fin 4096) (⟨6400 + (0 + u.val), by omega⟩ : Fin 7424))
    blk_ext [iblk, V_main_arg4, idx t]
  · exact (ld2 _ _ 0 u 0 _ (Nat.zero_add _).symm rfl).trans (bias_at m c t ⟨(0 + u.val), by omega⟩)
  · exact (ld2 _ _ 0 u 0 _ (Nat.zero_add _).symm (by (try simp only); omega)).trans (bias_at m c t ⟨1024 + (0 + u.val), by omega⟩)
  · exact (ld2 _ _ 0 u 0 _ (Nat.zero_add _).symm (by (try simp only); omega)).trans (bias_at m c t ⟨2048 + (0 + u.val), by omega⟩)
  · exact fun k => (ld3 _ _ 0 k u 0 k u rfl (Nat.zero_add _).symm (Nat.zero_add _).symm).trans (pool_up_at m c t 0 k u)
  · exact fun k => (ld3 _ _ 0 k u 0 k u rfl (Nat.zero_add _).symm (Nat.zero_add _).symm).trans (conv_out_at m c t 0 k u)
  · exact fun k => (ld3 _ _ 0 k u 0 k u rfl (Nat.zero_add _).symm (Nat.zero_add _).symm).trans (attn_up_at m c t 0 k u)

theorem out1 (c : Dev nD) (t : Fin cfg0.N) (r u : Fin 256) (d : Fin 1024) (hd : d.val = 256 * (1 : Fin 4).val + u.val) : out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 r d) = RES m c (ix2 (⟨t.val * 256 + r.val, row_lt t r⟩ : Fin 4096) d) := by
  have hd' : d.val = 256 + u.val := hd
  refine Eq.trans (canon_miss _ _ _ _ _ (by (try simp only); omega)) ?_
  refine Eq.trans (canon_miss _ _ _ _ _ (by (try simp only); omega)) ?_
  refine Eq.trans (canon_hit _ _ _ _ _ r u (Nat.zero_add _).symm (by (try simp only); omega)) ?_
  refine (hpay1 _ _ _ _ _ _ _ _ _ _ _ _ r u).trans (tile _ _ _ _ _ _ _ _ _ _ _ _ _ _ _ _ _ _ _ _ _ r u (⟨t.val * 256 + r.val, row_lt t r⟩ : Fin 4096) 1 d hd (mixed m c t r) ?_ ?_ ?_ ?_ ?_ ?_ ?_ ?_ ?_ ?_ ?_)
  · exact fun k => (ld2 _ _ r k r k (Nat.zero_add _).symm (Nat.zero_add _).symm).trans (pool_row m c t r k)
  · exact fun k => (ld2 _ _ r k r k (Nat.zero_add _).symm (Nat.zero_add _).symm).trans (conv_row m c t r k)
  · refine (ld2 _ _ r u r u (Nat.zero_add _).symm (Nat.zero_add _).symm).trans ?_
    show (show FVec Ideal S256x256 .f32 from iblk m c 9 t) (ix2 r u) = (show FVec Ideal Cert.MergeRefIdeal.S4096x7424 .f32 from (m ((c : Thread nD τ).loc main_arg4))) (ix2 (⟨t.val * 256 + r.val, row_lt t r⟩ : Fin 4096) (⟨4352 + (256 + u.val), by omega⟩ : Fin 7424))
    blk_ext [iblk, V_main_arg4, idx t]
  · refine (ld2 _ _ r u r u (Nat.zero_add _).symm (Nat.zero_add _).symm).trans ?_
    show (show FVec Ideal S256x256 .f32 from iblk m c 13 t) (ix2 r u) = (show FVec Ideal Cert.MergeRefIdeal.S4096x7424 .f32 from (m ((c : Thread nD τ).loc main_arg4))) (ix2 (⟨t.val * 256 + r.val, row_lt t r⟩ : Fin 4096) (⟨5376 + (256 + u.val), by omega⟩ : Fin 7424))
    blk_ext [iblk, V_main_arg4, idx t]
  · refine (ld2 _ _ r u r u (Nat.zero_add _).symm (Nat.zero_add _).symm).trans ?_
    show (show FVec Ideal S256x256 .f32 from iblk m c 17 t) (ix2 r u) = (show FVec Ideal Cert.MergeRefIdeal.S4096x7424 .f32 from (m ((c : Thread nD τ).loc main_arg4))) (ix2 (⟨t.val * 256 + r.val, row_lt t r⟩ : Fin 4096) (⟨6400 + (256 + u.val), by omega⟩ : Fin 7424))
    blk_ext [iblk, V_main_arg4, idx t]
  · exact (ld2 _ _ 0 u 0 _ (Nat.zero_add _).symm rfl).trans (bias_at m c t ⟨(256 + u.val), by omega⟩)
  · exact (ld2 _ _ 0 u 0 _ (Nat.zero_add _).symm (by (try simp only); omega)).trans (bias_at m c t ⟨1024 + (256 + u.val), by omega⟩)
  · exact (ld2 _ _ 0 u 0 _ (Nat.zero_add _).symm (by (try simp only); omega)).trans (bias_at m c t ⟨2048 + (256 + u.val), by omega⟩)
  · exact fun k => (ld3 _ _ 0 k u 1 k u rfl (Nat.zero_add _).symm (Nat.zero_add _).symm).trans (pool_up_at m c t 1 k u)
  · exact fun k => (ld3 _ _ 0 k u 1 k u rfl (Nat.zero_add _).symm (Nat.zero_add _).symm).trans (conv_out_at m c t 1 k u)
  · exact fun k => (ld3 _ _ 0 k u 1 k u rfl (Nat.zero_add _).symm (Nat.zero_add _).symm).trans (attn_up_at m c t 1 k u)

theorem out2 (c : Dev nD) (t : Fin cfg0.N) (r u : Fin 256) (d : Fin 1024) (hd : d.val = 256 * (2 : Fin 4).val + u.val) : out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 r d) = RES m c (ix2 (⟨t.val * 256 + r.val, row_lt t r⟩ : Fin 4096) d) := by
  have hd' : d.val = 512 + u.val := hd
  refine Eq.trans (canon_miss _ _ _ _ _ (by (try simp only); omega)) ?_
  refine Eq.trans (canon_hit _ _ _ _ _ r u (Nat.zero_add _).symm (by (try simp only); omega)) ?_
  refine (hpay2 _ _ _ _ _ _ _ _ _ _ _ _ r u).trans (tile _ _ _ _ _ _ _ _ _ _ _ _ _ _ _ _ _ _ _ _ _ r u (⟨t.val * 256 + r.val, row_lt t r⟩ : Fin 4096) 2 d hd (mixed m c t r) ?_ ?_ ?_ ?_ ?_ ?_ ?_ ?_ ?_ ?_ ?_)
  · exact fun k => (ld2 _ _ r k r k (Nat.zero_add _).symm (Nat.zero_add _).symm).trans (pool_row m c t r k)
  · exact fun k => (ld2 _ _ r k r k (Nat.zero_add _).symm (Nat.zero_add _).symm).trans (conv_row m c t r k)
  · refine (ld2 _ _ r u r u (Nat.zero_add _).symm (Nat.zero_add _).symm).trans ?_
    show (show FVec Ideal S256x256 .f32 from iblk m c 10 t) (ix2 r u) = (show FVec Ideal Cert.MergeRefIdeal.S4096x7424 .f32 from (m ((c : Thread nD τ).loc main_arg4))) (ix2 (⟨t.val * 256 + r.val, row_lt t r⟩ : Fin 4096) (⟨4352 + (512 + u.val), by omega⟩ : Fin 7424))
    blk_ext [iblk, V_main_arg4, idx t]
  · refine (ld2 _ _ r u r u (Nat.zero_add _).symm (Nat.zero_add _).symm).trans ?_
    show (show FVec Ideal S256x256 .f32 from iblk m c 14 t) (ix2 r u) = (show FVec Ideal Cert.MergeRefIdeal.S4096x7424 .f32 from (m ((c : Thread nD τ).loc main_arg4))) (ix2 (⟨t.val * 256 + r.val, row_lt t r⟩ : Fin 4096) (⟨5376 + (512 + u.val), by omega⟩ : Fin 7424))
    blk_ext [iblk, V_main_arg4, idx t]
  · refine (ld2 _ _ r u r u (Nat.zero_add _).symm (Nat.zero_add _).symm).trans ?_
    show (show FVec Ideal S256x256 .f32 from iblk m c 18 t) (ix2 r u) = (show FVec Ideal Cert.MergeRefIdeal.S4096x7424 .f32 from (m ((c : Thread nD τ).loc main_arg4))) (ix2 (⟨t.val * 256 + r.val, row_lt t r⟩ : Fin 4096) (⟨6400 + (512 + u.val), by omega⟩ : Fin 7424))
    blk_ext [iblk, V_main_arg4, idx t]
  · exact (ld2 _ _ 0 u 0 _ (Nat.zero_add _).symm rfl).trans (bias_at m c t ⟨(512 + u.val), by omega⟩)
  · exact (ld2 _ _ 0 u 0 _ (Nat.zero_add _).symm (by (try simp only); omega)).trans (bias_at m c t ⟨1024 + (512 + u.val), by omega⟩)
  · exact (ld2 _ _ 0 u 0 _ (Nat.zero_add _).symm (by (try simp only); omega)).trans (bias_at m c t ⟨2048 + (512 + u.val), by omega⟩)
  · exact fun k => (ld3 _ _ 0 k u 2 k u rfl (Nat.zero_add _).symm (Nat.zero_add _).symm).trans (pool_up_at m c t 2 k u)
  · exact fun k => (ld3 _ _ 0 k u 2 k u rfl (Nat.zero_add _).symm (Nat.zero_add _).symm).trans (conv_out_at m c t 2 k u)
  · exact fun k => (ld3 _ _ 0 k u 2 k u rfl (Nat.zero_add _).symm (Nat.zero_add _).symm).trans (attn_up_at m c t 2 k u)

theorem out3 (c : Dev nD) (t : Fin cfg0.N) (r u : Fin 256) (d : Fin 1024) (hd : d.val = 256 * (3 : Fin 4).val + u.val) : out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 r d) = RES m c (ix2 (⟨t.val * 256 + r.val, row_lt t r⟩ : Fin 4096) d) := by
  have hd' : d.val = 768 + u.val := hd
  refine Eq.trans (canon_hit _ _ _ _ _ r u (Nat.zero_add _).symm (by (try simp only); omega)) ?_
  refine (hpay3 _ _ _ _ _ _ _ _ _ _ _ _ r u).trans (tile _ _ _ _ _ _ _ _ _ _ _ _ _ _ _ _ _ _ _ _ _ r u (⟨t.val * 256 + r.val, row_lt t r⟩ : Fin 4096) 3 d hd (mixed m c t r) ?_ ?_ ?_ ?_ ?_ ?_ ?_ ?_ ?_ ?_ ?_)
  · exact fun k => (ld2 _ _ r k r k (Nat.zero_add _).symm (Nat.zero_add _).symm).trans (pool_row m c t r k)
  · exact fun k => (ld2 _ _ r k r k (Nat.zero_add _).symm (Nat.zero_add _).symm).trans (conv_row m c t r k)
  · refine (ld2 _ _ r u r u (Nat.zero_add _).symm (Nat.zero_add _).symm).trans ?_
    show (show FVec Ideal S256x256 .f32 from iblk m c 11 t) (ix2 r u) = (show FVec Ideal Cert.MergeRefIdeal.S4096x7424 .f32 from (m ((c : Thread nD τ).loc main_arg4))) (ix2 (⟨t.val * 256 + r.val, row_lt t r⟩ : Fin 4096) (⟨4352 + (768 + u.val), by omega⟩ : Fin 7424))
    blk_ext [iblk, V_main_arg4, idx t]
  · refine (ld2 _ _ r u r u (Nat.zero_add _).symm (Nat.zero_add _).symm).trans ?_
    show (show FVec Ideal S256x256 .f32 from iblk m c 15 t) (ix2 r u) = (show FVec Ideal Cert.MergeRefIdeal.S4096x7424 .f32 from (m ((c : Thread nD τ).loc main_arg4))) (ix2 (⟨t.val * 256 + r.val, row_lt t r⟩ : Fin 4096) (⟨5376 + (768 + u.val), by omega⟩ : Fin 7424))
    blk_ext [iblk, V_main_arg4, idx t]
  · refine (ld2 _ _ r u r u (Nat.zero_add _).symm (Nat.zero_add _).symm).trans ?_
    show (show FVec Ideal S256x256 .f32 from iblk m c 19 t) (ix2 r u) = (show FVec Ideal Cert.MergeRefIdeal.S4096x7424 .f32 from (m ((c : Thread nD τ).loc main_arg4))) (ix2 (⟨t.val * 256 + r.val, row_lt t r⟩ : Fin 4096) (⟨6400 + (768 + u.val), by omega⟩ : Fin 7424))
    blk_ext [iblk, V_main_arg4, idx t]
  · exact (ld2 _ _ 0 u 0 _ (Nat.zero_add _).symm rfl).trans (bias_at m c t ⟨(768 + u.val), by omega⟩)
  · exact (ld2 _ _ 0 u 0 _ (Nat.zero_add _).symm (by (try simp only); omega)).trans (bias_at m c t ⟨1024 + (768 + u.val), by omega⟩)
  · exact (ld2 _ _ 0 u 0 _ (Nat.zero_add _).symm (by (try simp only); omega)).trans (bias_at m c t ⟨2048 + (768 + u.val), by omega⟩)
  · exact fun k => (ld3 _ _ 0 k u 3 k u rfl (Nat.zero_add _).symm (Nat.zero_add _).symm).trans (pool_up_at m c t 3 k u)
  · exact fun k => (ld3 _ _ 0 k u 3 k u rfl (Nat.zero_add _).symm (Nat.zero_add _).symm).trans (conv_out_at m c t 3 k u)
  · exact fun k => (ld3 _ _ 0 k u 3 k u rfl (Nat.zero_add _).symm (Nat.zero_add _).symm).trans (attn_up_at m c t 3 k u)

theorem out_eq (c : Dev nD) (t : Fin cfg0.N) (r : Fin 256) (d : Fin 1024) : out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 r d) = RES m c (ix2 (⟨t.val * 256 + r.val, row_lt t r⟩ : Fin 4096) d) := by
  by_cases h0 : d.val < 256
  · exact out0 m c t r (⟨d.val, h0⟩ : Fin 256) d (by simp only [Fin.val_zero]; omega)
  by_cases h1 : d.val < 512
  · exact out1 m c t r ⟨d.val - 256, by omega⟩ d (by simp only [Fin.val_one]; omega)
  by_cases h2 : d.val < 768
  · exact out2 m c t r ⟨d.val - 512, by omega⟩ d (by simp only [Fin.val_two]; omega)
  · exact out3 m c t r ⟨d.val - 768, by omega⟩ d (by show d.val = 256 * 3 + (d.val - 768); omega)

theorem final (c : Dev nD) : (dats m 0 c).arrAt 24 (cfgs 0).N = RES m c := by
  refine (dats m 0 c).arrAt_eq_of_covers 24 _ (by decide +kernel) fun t hf y => ?_
  blk_simp
  rw [after0_24]
  refine Eq.trans (congrArg _ ?_) ((out_eq m c t (y 0) (y 1)).trans (congrArg _ ?_))
  · blk_ext
  · blk_ext [idx t]

/-- The reference runs, its arguments end unchanged; it declares no semaphore. -/
theorem refFrame : @Cert.quiescent_MergeRefIdeal Cert.MergeRefIdeal.Gen.facts := fun m ρ _ =>
  (θ_run _ _ _).mono (fun r h => ⟨fun c => (h c).2, Idealize.ShloMosaic.sem_eq_zero_of_no_sems (by decide) r.2⟩)
    (Cert.MergeRefIdeal.Value.run m ρ)

/-- Kernel and reference end with equal results. -/
theorem alg : @Cert.algebraic_MergeIdeal_MergeRefIdeal Cert.MergeIdeal.Gen.facts Cert.MergeRefIdeal.Gen.facts := by
  intro m g m' g' _ hargs
  refine ⟨fun c => (dats m 0 c).arrAt 24 cfg0.N, Cert.MergeIdeal.Value.run_blocks m g,
    (θ_run _ _ _).mono (fun r h c => ⟨(h c).1.trans ?_, (h c).2⟩) (Cert.MergeRefIdeal.Value.run m' g')⟩
  unfold Cert.MergeRefIdeal.Value.res_main_v56
  rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2]
  exact (final m c).symm

end Cert.MergeIdeal.Math

end
-- ==== Proof.AdamStep.lean ====
module

public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)
open scoped BigOperators

namespace Cert.AdamW

open Idealize.ShloMosaic.Pointwise

/-! ## The optimiser's step of one element, and the reference's step of a whole weight, of any shape -/

/-- The decayed mean of the gradients. -/
def newM (g m : EReal) : EReal := Ideal.ofBits FTy.f32 1063675494#32 * m + Ideal.ofBits FTy.f32 1036831949#32 * g

/-- The decayed mean of their squares. -/
def newV (g v : EReal) : EReal := Ideal.ofBits FTy.f32 1065336439#32 * v + Ideal.ofBits FTy.f32 981668463#32 * (g * g)

/-- The update of a weight. -/
def delta (w g m v : EReal) : EReal :=
  Ideal.ofBits FTy.f32 3129152111#32 * (Ideal.div (Ideal.div (newM g m) (Ideal.ofBits FTy.f32 1059503362#32)) (Ideal.sqrt (Ideal.div (newV g v) (Ideal.ofBits FTy.f32 1008933580#32)) + Ideal.ofBits FTy.f32 841731191#32) + Ideal.ofBits FTy.f32 1008981770#32 * w)

theorem congr2 {α β γ : Type} (f : α → β → γ) {a a' : α} {b b' : β} (ha : a = a') (hb : b = b') : f a b = f a' b' := by
  rw [ha, hb]

theorem congr4 {α β γ δ ε : Type} (f : α → β → γ → δ → ε) {a a' : α} {b b' : β} {c c' : γ} {d d' : δ} (ha : a = a') (hb : b = b')
    (hc : c = c') (hd : d = d') : f a b c d = f a' b' c' d' := by
  rw [ha, hb, hc, hd]

variable (s : Shape) (h : (⟨0, ![]⟩ : Shape).BroadcastsInDim s ![])

abbrev refM (g m : FVec Ideal s .f32) : FVec Ideal s .f32 :=
  addf (mulf (broadcastInDim s ![] h (constant (⟨0, ![]⟩ : Shape) .f32 0x3F666666#32)) m) (mulf (broadcastInDim s ![] h (constant (⟨0, ![]⟩ : Shape) .f32 0x3DCCCCCD#32)) g)

abbrev refV (g v : FVec Ideal s .f32) : FVec Ideal s .f32 :=
  addf (mulf (broadcastInDim s ![] h (constant (⟨0, ![]⟩ : Shape) .f32 0x3F7FBE77#32)) v) (mulf (broadcastInDim s ![] h (constant (⟨0, ![]⟩ : Shape) .f32 0x3A83126F#32)) (mulf g g))

abbrev refD (w g m v : FVec Ideal s .f32) : FVec Ideal s .f32 :=
  mulf (broadcastInDim s ![] h (constant (⟨0, ![]⟩ : Shape) .f32 0xBA83126F#32)) (addf (Host.divf (Host.divf (refM s h g m) (broadcastInDim s ![] h (constant (⟨0, ![]⟩ : Shape) .f32 0x3F26BD02#32))) (addf (Host.sqrt (Host.divf (refV s h g v) (broadcastInDim s ![] h (constant (⟨0, ![]⟩ : Shape) .f32 0x3C231ACC#32)))) (broadcastInDim s ![] h (constant (⟨0, ![]⟩ : Shape) .f32 0x322BCC77#32)))) (mulf (broadcastInDim s ![] h (constant (⟨0, ![]⟩ : Shape) .f32 0x3C23D70A#32)) w))

theorem refM_at (g m : FVec Ideal s .f32) (j : s.Idx) : refM s h g m j = newM (g j) (m j) := rfl

theorem refV_at (g v : FVec Ideal s .f32) (j : s.Idx) : refV s h g v j = newV (g j) (v j) := rfl

theorem refD_at (w g m v : FVec Ideal s .f32) (j : s.Idx) : refD s h w g m v j = delta (w j) (g j) (m j) (v j) := rfl

variable (t : Shape) (k : s.ShapeCasts t)

abbrev castM (g m : FVec Ideal s .f32) : FVec Ideal t .f32 := shapeCast t (refM s h g m) k

abbrev castV (g v : FVec Ideal s .f32) : FVec Ideal t .f32 := shapeCast t (refV s h g v) k

abbrev castD (w g m v : FVec Ideal s .f32) : FVec Ideal t .f32 := shapeCast t (refD s h w g m v) k

theorem castM_at (g m : FVec Ideal s .f32) (j : t.Idx) : castM s h t k g m j = newM (shapeCast t g k j) (shapeCast t m k j) := refM_at s h g m _

theorem castV_at (g v : FVec Ideal s .f32) (j : t.Idx) : castV s h t k g v j = newV (shapeCast t g k j) (shapeCast t v k j) := refV_at s h g v _

theorem castD_at (w g m v : FVec Ideal s .f32) (j : t.Idx) :
    castD s h t k w g m v j = delta (shapeCast t w k j) (shapeCast t g k j) (shapeCast t m k j) (shapeCast t v k j) := refD_at s h w g m v _

end Cert.AdamW

end
-- ==== Proof.AdamSmallMath.lean ====
module

public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Proof.AdamStep
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.AdamSmallIdeal.Math

open Cert.AdamSmallIdeal Cert.AdamSmallIdeal.Gen
open Idealize.ShloMosaic.Pointwise

variable (m : (ℓ : Loc nD τ sig) → Buf (Elt Ideal) ℓ)

open Cert.AdamW

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0] :=
  (by decide +kernel : ∀ t : Fin grid0.N, _)

theorem pay12 (w g m v : FVec Ideal S2x1024 .f32) (j : S2x1024.Idx) : (k0_pay6 (F := Ideal) w g m v) j = delta (w j) (g j) (m j) (v j) := by
  unfold delta newM newV
  pointwise [k0_pay6, k0_pay4, k0_pay5]

theorem pay15 (g m : FVec Ideal S2x1024 .f32) (j : S2x1024.Idx) : (k0_pay7 (F := Ideal) g m) j = newM (g j) (m j) := by
  unfold newM
  pointwise [k0_pay7, k0_pay4]

theorem pay18 (g v : FVec Ideal S2x1024 .f32) (j : S2x1024.Idx) : (k0_pay8 (F := Ideal) (k0_pay5 (F := Ideal) g v)) j = newV (g j) (v j) := by
  unfold newV
  pointwise [k0_pay8, k0_pay5]

theorem pay13 (w g m v : FVec Ideal S2x3072 .f32) (j : S2x3072.Idx) : (k0_pay11 (F := Ideal) w g m v) j = delta (w j) (g j) (m j) (v j) := by
  unfold delta newM newV
  pointwise [k0_pay11, k0_pay10, k0_pay9]

theorem pay16 (g m : FVec Ideal S2x3072 .f32) (j : S2x3072.Idx) : (k0_pay12 (F := Ideal) g m) j = newM (g j) (m j) := by
  unfold newM
  pointwise [k0_pay12, k0_pay9]

theorem pay19 (g v : FVec Ideal S2x3072 .f32) (j : S2x3072.Idx) : (k0_pay13 (F := Ideal) (k0_pay10 (F := Ideal) g v)) j = newV (g j) (v j) := by
  unfold newV
  pointwise [k0_pay13, k0_pay10]

theorem pay14 (w g m v : FVec Ideal S1024x128 .f32) (j : S1024x128.Idx) : (k0_pay1 (F := Ideal) (k0_pay17 (F := Ideal) w g m v)) j = delta (w j) (g j) (m j) (v j) := by
  unfold delta newM newV
  pointwise [k0_pay1, k0_pay17, k0_pay15, k0_pay16, k0_pay14]

theorem pay17 (g m : FVec Ideal S1024x128 .f32) (j : S1024x128.Idx) : (k0_pay2 (F := Ideal) (k0_pay15 (F := Ideal) g m)) j = newM (g j) (m j) := by
  unfold newM
  pointwise [k0_pay2, k0_pay15, k0_pay14]

theorem pay20 (g v : FVec Ideal S1024x128 .f32) (j : S1024x128.Idx) : (k0_pay3 (F := Ideal) (k0_pay16 (F := Ideal) g v)) j = newV (g j) (v j) := by
  unfold newV
  pointwise [k0_pay3, k0_pay16, k0_pay14]

theorem in0 (c : Dev nD) (t : Fin cfg0.N) (y : S2x1024.Idx) : (show FVec Ideal S2x1024 .f32 from iblk m c 0 t) y = (show FVec Ideal Cert.AdamSmallRefIdeal.S2x1024 .f32 from (m ((c : Thread nD τ).loc main_arg0))) y := by
  blk_ext [iblk, V_main_arg0, idx t]

theorem in1 (c : Dev nD) (t : Fin cfg0.N) (y : S2x3072.Idx) : (show FVec Ideal S2x3072 .f32 from iblk m c 1 t) y = (show FVec Ideal Cert.AdamSmallRefIdeal.S2x3072 .f32 from (m ((c : Thread nD τ).loc main_arg1))) y := by
  blk_ext [iblk, V_main_arg1, idx t]

theorem in2 (c : Dev nD) (t : Fin cfg0.N) (y : S1024x128.Idx) : (show FVec Ideal S1024x128 .f32 from iblk m c 2 t) y = (shapeCast Cert.AdamSmallRefIdeal.S1024x128 (show FVec Ideal Cert.AdamSmallRefIdeal.S2x4x128x128 .f32 from (m ((c : Thread nD τ).loc main_arg2))) Cert.AdamSmallRefIdeal.Gen.shapeCasts_S2x4x128x128_S1024x128) y := by
  blk_simp [iblk, idx t]
  entry_read
  refine congrArg _ ?_
  blk_ext [idx t]

theorem in3 (c : Dev nD) (t : Fin cfg0.N) (y : S2x1024.Idx) : (show FVec Ideal S2x1024 .f32 from iblk m c 3 t) y = (show FVec Ideal Cert.AdamSmallRefIdeal.S2x1024 .f32 from (m ((c : Thread nD τ).loc main_arg3))) y := by
  blk_ext [iblk, V_main_arg3, idx t]

theorem in4 (c : Dev nD) (t : Fin cfg0.N) (y : S2x3072.Idx) : (show FVec Ideal S2x3072 .f32 from iblk m c 4 t) y = (show FVec Ideal Cert.AdamSmallRefIdeal.S2x3072 .f32 from (m ((c : Thread nD τ).loc main_arg4))) y := by
  blk_ext [iblk, V_main_arg4, idx t]

theorem in5 (c : Dev nD) (t : Fin cfg0.N) (y : S1024x128.Idx) : (show FVec Ideal S1024x128 .f32 from iblk m c 5 t) y = (shapeCast Cert.AdamSmallRefIdeal.S1024x128 (show FVec Ideal Cert.AdamSmallRefIdeal.S2x4x128x128 .f32 from (m ((c : Thread nD τ).loc main_arg5))) Cert.AdamSmallRefIdeal.Gen.shapeCasts_S2x4x128x128_S1024x128) y := by
  blk_simp [iblk, idx t]
  entry_read
  refine congrArg _ ?_
  blk_ext [idx t]

theorem in6 (c : Dev nD) (t : Fin cfg0.N) (y : S2x1024.Idx) : (show FVec Ideal S2x1024 .f32 from iblk m c 6 t) y = (show FVec Ideal Cert.AdamSmallRefIdeal.S2x1024 .f32 from (m ((c : Thread nD τ).loc main_arg6))) y := by
  blk_ext [iblk, V_main_arg6, idx t]

theorem in7 (c : Dev nD) (t : Fin cfg0.N) (y : S2x3072.Idx) : (show FVec Ideal S2x3072 .f32 from iblk m c 7 t) y = (show FVec Ideal Cert.AdamSmallRefIdeal.S2x3072 .f32 from (m ((c : Thread nD τ).loc main_arg7))) y := by
  blk_ext [iblk, V_main_arg7, idx t]

theorem in8 (c : Dev nD) (t : Fin cfg0.N) (y : S1024x128.Idx) : (show FVec Ideal S1024x128 .f32 from iblk m c 8 t) y = (shapeCast Cert.AdamSmallRefIdeal.S1024x128 (show FVec Ideal Cert.AdamSmallRefIdeal.S2x4x128x128 .f32 from (m ((c : Thread nD τ).loc main_arg8))) Cert.AdamSmallRefIdeal.Gen.shapeCasts_S2x4x128x128_S1024x128) y := by
  blk_simp [iblk, idx t]
  entry_read
  refine congrArg _ ?_
  blk_ext [idx t]

theorem in9 (c : Dev nD) (t : Fin cfg0.N) (y : S2x1024.Idx) : (show FVec Ideal S2x1024 .f32 from iblk m c 9 t) y = (show FVec Ideal Cert.AdamSmallRefIdeal.S2x1024 .f32 from (m ((c : Thread nD τ).loc main_arg9))) y := by
  blk_ext [iblk, V_main_arg9, idx t]

theorem in10 (c : Dev nD) (t : Fin cfg0.N) (y : S2x3072.Idx) : (show FVec Ideal S2x3072 .f32 from iblk m c 10 t) y = (show FVec Ideal Cert.AdamSmallRefIdeal.S2x3072 .f32 from (m ((c : Thread nD τ).loc main_arg10))) y := by
  blk_ext [iblk, V_main_arg10, idx t]

theorem in11 (c : Dev nD) (t : Fin cfg0.N) (y : S1024x128.Idx) : (show FVec Ideal S1024x128 .f32 from iblk m c 11 t) y = (shapeCast Cert.AdamSmallRefIdeal.S1024x128 (show FVec Ideal Cert.AdamSmallRefIdeal.S2x4x128x128 .f32 from (m ((c : Thread nD τ).loc main_arg11))) Cert.AdamSmallRefIdeal.Gen.shapeCasts_S2x4x128x128_S1024x128) y := by
  blk_simp [iblk, idx t]
  entry_read
  refine congrArg _ ?_
  blk_ext [idx t]

theorem final12 (c : Dev nD) : (dats m 0 c).arrAt 12 (cfgs 0).N = refD Cert.AdamSmallRefIdeal.S2x1024 Cert.AdamSmallRefIdeal.Gen.bcast_S_S2x1024 (m ((c : Thread nD τ).loc main_arg0)) (m ((c : Thread nD τ).loc main_arg3)) (m ((c : Thread nD τ).loc main_arg6)) (m ((c : Thread nD τ).loc main_arg9)) := by
  refine (dats m 0 c).arrAt_eq_of_covers 12 _ (by decide +kernel) fun t hf y => ?_
  blk_simp
  rw [after0_12]; frame_out
  refine (pay12 _ _ _ _ y).trans ((congr4 delta (in0 m c t y) (in3 m c t y) (in6 m c t y) (in9 m c t y)).trans ((refD_at Cert.AdamSmallRefIdeal.S2x1024 Cert.AdamSmallRefIdeal.Gen.bcast_S_S2x1024 _ _ _ _ _).symm.trans (congrArg _ ?_)))
  blk_ext [idx t]

theorem final15 (c : Dev nD) : (dats m 0 c).arrAt 15 (cfgs 0).N = refM Cert.AdamSmallRefIdeal.S2x1024 Cert.AdamSmallRefIdeal.Gen.bcast_S_S2x1024 (m ((c : Thread nD τ).loc main_arg3)) (m ((c : Thread nD τ).loc main_arg6)) := by
  refine (dats m 0 c).arrAt_eq_of_covers 15 _ (by decide +kernel) fun t hf y => ?_
  blk_simp
  rw [after0_15]; frame_out
  refine (pay15 _ _ y).trans ((congr2 newM (in3 m c t y) (in6 m c t y)).trans ((refM_at Cert.AdamSmallRefIdeal.S2x1024 Cert.AdamSmallRefIdeal.Gen.bcast_S_S2x1024 _ _ _).symm.trans (congrArg _ ?_)))
  blk_ext [idx t]

theorem final18 (c : Dev nD) : (dats m 0 c).arrAt 18 (cfgs 0).N = refV Cert.AdamSmallRefIdeal.S2x1024 Cert.AdamSmallRefIdeal.Gen.bcast_S_S2x1024 (m ((c : Thread nD τ).loc main_arg3)) (m ((c : Thread nD τ).loc main_arg9)) := by
  refine (dats m 0 c).arrAt_eq_of_covers 18 _ (by decide +kernel) fun t hf y => ?_
  blk_simp
  rw [after0_18]; frame_out
  refine (pay18 _ _ y).trans ((congr2 newV (in3 m c t y) (in9 m c t y)).trans ((refV_at Cert.AdamSmallRefIdeal.S2x1024 Cert.AdamSmallRefIdeal.Gen.bcast_S_S2x1024 _ _ _).symm.trans (congrArg _ ?_)))
  blk_ext [idx t]

theorem final13 (c : Dev nD) : (dats m 0 c).arrAt 13 (cfgs 0).N = refD Cert.AdamSmallRefIdeal.S2x3072 Cert.AdamSmallRefIdeal.Gen.bcast_S_S2x3072 (m ((c : Thread nD τ).loc main_arg1)) (m ((c : Thread nD τ).loc main_arg4)) (m ((c : Thread nD τ).loc main_arg7)) (m ((c : Thread nD τ).loc main_arg10)) := by
  refine (dats m 0 c).arrAt_eq_of_covers 13 _ (by decide +kernel) fun t hf y => ?_
  blk_simp
  rw [after0_13]; frame_out
  refine (pay13 _ _ _ _ y).trans ((congr4 delta (in1 m c t y) (in4 m c t y) (in7 m c t y) (in10 m c t y)).trans ((refD_at Cert.AdamSmallRefIdeal.S2x3072 Cert.AdamSmallRefIdeal.Gen.bcast_S_S2x3072 _ _ _ _ _).symm.trans (congrArg _ ?_)))
  blk_ext [idx t]

theorem final16 (c : Dev nD) : (dats m 0 c).arrAt 16 (cfgs 0).N = refM Cert.AdamSmallRefIdeal.S2x3072 Cert.AdamSmallRefIdeal.Gen.bcast_S_S2x3072 (m ((c : Thread nD τ).loc main_arg4)) (m ((c : Thread nD τ).loc main_arg7)) := by
  refine (dats m 0 c).arrAt_eq_of_covers 16 _ (by decide +kernel) fun t hf y => ?_
  blk_simp
  rw [after0_16]; frame_out
  refine (pay16 _ _ y).trans ((congr2 newM (in4 m c t y) (in7 m c t y)).trans ((refM_at Cert.AdamSmallRefIdeal.S2x3072 Cert.AdamSmallRefIdeal.Gen.bcast_S_S2x3072 _ _ _).symm.trans (congrArg _ ?_)))
  blk_ext [idx t]

theorem final19 (c : Dev nD) : (dats m 0 c).arrAt 19 (cfgs 0).N = refV Cert.AdamSmallRefIdeal.S2x3072 Cert.AdamSmallRefIdeal.Gen.bcast_S_S2x3072 (m ((c : Thread nD τ).loc main_arg4)) (m ((c : Thread nD τ).loc main_arg10)) := by
  refine (dats m 0 c).arrAt_eq_of_covers 19 _ (by decide +kernel) fun t hf y => ?_
  blk_simp
  rw [after0_19]; frame_out
  refine (pay19 _ _ y).trans ((congr2 newV (in4 m c t y) (in10 m c t y)).trans ((refV_at Cert.AdamSmallRefIdeal.S2x3072 Cert.AdamSmallRefIdeal.Gen.bcast_S_S2x3072 _ _ _).symm.trans (congrArg _ ?_)))
  blk_ext [idx t]

theorem final14 (c : Dev nD) : (dats m 0 c).arrAt 14 (cfgs 0).N = castD Cert.AdamSmallRefIdeal.S2x4x128x128 Cert.AdamSmallRefIdeal.Gen.bcast_S_S2x4x128x128 Cert.AdamSmallRefIdeal.S1024x128 Cert.AdamSmallRefIdeal.Gen.shapeCasts_S2x4x128x128_S1024x128 (m ((c : Thread nD τ).loc main_arg2)) (m ((c : Thread nD τ).loc main_arg5)) (m ((c : Thread nD τ).loc main_arg8)) (m ((c : Thread nD τ).loc main_arg11)) := by
  refine (dats m 0 c).arrAt_eq_of_covers 14 _ (by decide +kernel) fun t hf y => ?_
  blk_simp
  rw [after0_14]; frame_out
  refine (pay14 _ _ _ _ y).trans ((congr4 delta (in2 m c t y) (in5 m c t y) (in8 m c t y) (in11 m c t y)).trans ((castD_at Cert.AdamSmallRefIdeal.S2x4x128x128 Cert.AdamSmallRefIdeal.Gen.bcast_S_S2x4x128x128 Cert.AdamSmallRefIdeal.S1024x128 Cert.AdamSmallRefIdeal.Gen.shapeCasts_S2x4x128x128_S1024x128 _ _ _ _ _).symm.trans (congrArg _ ?_)))
  blk_ext [idx t]

theorem final17 (c : Dev nD) : (dats m 0 c).arrAt 17 (cfgs 0).N = castM Cert.AdamSmallRefIdeal.S2x4x128x128 Cert.AdamSmallRefIdeal.Gen.bcast_S_S2x4x128x128 Cert.AdamSmallRefIdeal.S1024x128 Cert.AdamSmallRefIdeal.Gen.shapeCasts_S2x4x128x128_S1024x128 (m ((c : Thread nD τ).loc main_arg5)) (m ((c : Thread nD τ).loc main_arg8)) := by
  refine (dats m 0 c).arrAt_eq_of_covers 17 _ (by decide +kernel) fun t hf y => ?_
  blk_simp
  rw [after0_17]; frame_out
  refine (pay17 _ _ y).trans ((congr2 newM (in5 m c t y) (in8 m c t y)).trans ((castM_at Cert.AdamSmallRefIdeal.S2x4x128x128 Cert.AdamSmallRefIdeal.Gen.bcast_S_S2x4x128x128 Cert.AdamSmallRefIdeal.S1024x128 Cert.AdamSmallRefIdeal.Gen.shapeCasts_S2x4x128x128_S1024x128 _ _ _).symm.trans (congrArg _ ?_)))
  blk_ext [idx t]

theorem final20 (c : Dev nD) : (dats m 0 c).arrAt 20 (cfgs 0).N = castV Cert.AdamSmallRefIdeal.S2x4x128x128 Cert.AdamSmallRefIdeal.Gen.bcast_S_S2x4x128x128 Cert.AdamSmallRefIdeal.S1024x128 Cert.AdamSmallRefIdeal.Gen.shapeCasts_S2x4x128x128_S1024x128 (m ((c : Thread nD τ).loc main_arg5)) (m ((c : Thread nD τ).loc main_arg11)) := by
  refine (dats m 0 c).arrAt_eq_of_covers 20 _ (by decide +kernel) fun t hf y => ?_
  blk_simp
  rw [after0_20]; frame_out
  refine (pay20 _ _ y).trans ((congr2 newV (in5 m c t y) (in11 m c t y)).trans ((castV_at Cert.AdamSmallRefIdeal.S2x4x128x128 Cert.AdamSmallRefIdeal.Gen.bcast_S_S2x4x128x128 Cert.AdamSmallRefIdeal.S1024x128 Cert.AdamSmallRefIdeal.Gen.shapeCasts_S2x4x128x128_S1024x128 _ _ _).symm.trans (congrArg _ ?_)))
  blk_ext [idx t]

/-- The reference runs, its arguments end unchanged; it declares no semaphore. -/
theorem refFrame : @Cert.quiescent_AdamSmallRefIdeal Cert.AdamSmallRefIdeal.Gen.facts := fun m ρ _ =>
  (θ_run _ _ _).mono (fun r h => ⟨fun c => (h c).2.2.2.2.2.2.2.2.2, Idealize.ShloMosaic.sem_eq_zero_of_no_sems (by decide) r.2⟩)
    (Cert.AdamSmallRefIdeal.Value.run m ρ)

/-- Kernel and reference end with equal results. -/
theorem alg : @Cert.algebraic_AdamSmallIdeal_AdamSmallRefIdeal Cert.AdamSmallIdeal.Gen.facts Cert.AdamSmallRefIdeal.Gen.facts := by
  intro m g m' g' _ hargs
  refine ⟨fun c => (dats m 0 c).arrAt 12 cfg0.N, fun c => (dats m 0 c).arrAt 15 cfg0.N, fun c => (dats m 0 c).arrAt 18 cfg0.N, fun c => (dats m 0 c).arrAt 13 cfg0.N, fun c => (dats m 0 c).arrAt 16 cfg0.N, fun c => (dats m 0 c).arrAt 19 cfg0.N, fun c => (dats m 0 c).arrAt 14 cfg0.N, fun c => (dats m 0 c).arrAt 17 cfg0.N, fun c => (dats m 0 c).arrAt 20 cfg0.N,
    (θ_run _ _ _).mono (fun r h c => ⟨(h c).1, (h c).2.2.2.1, (h c).2.2.2.2.2.2.1, (h c).2.1, (h c).2.2.2.2.1, (h c).2.2.2.2.2.2.2.1, (h c).2.2.1, (h c).2.2.2.2.2.1, (h c).2.2.2.2.2.2.2.2.1, (h c).2.2.2.2.2.2.2.2.2⟩) (Cert.AdamSmallIdeal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.AdamSmallRefIdeal.Value.run m' g')⟩
  · exact (congr4 (refD Cert.AdamSmallRefIdeal.S2x1024 Cert.AdamSmallRefIdeal.Gen.bcast_S_S2x1024) ((hargs c).1) ((hargs c).2.2.2.1) ((hargs c).2.2.2.2.2.2.1) ((hargs c).2.2.2.2.2.2.2.2.2.1)).trans (final12 m c).symm
  · exact (congr2 (refM Cert.AdamSmallRefIdeal.S2x1024 Cert.AdamSmallRefIdeal.Gen.bcast_S_S2x1024) ((hargs c).2.2.2.1) ((hargs c).2.2.2.2.2.2.1)).trans (final15 m c).symm
  · exact (congr2 (refV Cert.AdamSmallRefIdeal.S2x1024 Cert.AdamSmallRefIdeal.Gen.bcast_S_S2x1024) ((hargs c).2.2.2.1) ((hargs c).2.2.2.2.2.2.2.2.2.1)).trans (final18 m c).symm
  · exact (congr4 (refD Cert.AdamSmallRefIdeal.S2x3072 Cert.AdamSmallRefIdeal.Gen.bcast_S_S2x3072) ((hargs c).2.1) ((hargs c).2.2.2.2.1) ((hargs c).2.2.2.2.2.2.2.1) ((hargs c).2.2.2.2.2.2.2.2.2.2.1)).trans (final13 m c).symm
  · exact (congr2 (refM Cert.AdamSmallRefIdeal.S2x3072 Cert.AdamSmallRefIdeal.Gen.bcast_S_S2x3072) ((hargs c).2.2.2.2.1) ((hargs c).2.2.2.2.2.2.2.1)).trans (final16 m c).symm
  · exact (congr2 (refV Cert.AdamSmallRefIdeal.S2x3072 Cert.AdamSmallRefIdeal.Gen.bcast_S_S2x3072) ((hargs c).2.2.2.2.1) ((hargs c).2.2.2.2.2.2.2.2.2.2.1)).trans (final19 m c).symm
  · exact (congr4 (castD Cert.AdamSmallRefIdeal.S2x4x128x128 Cert.AdamSmallRefIdeal.Gen.bcast_S_S2x4x128x128 Cert.AdamSmallRefIdeal.S1024x128 Cert.AdamSmallRefIdeal.Gen.shapeCasts_S2x4x128x128_S1024x128) ((hargs c).2.2.1) ((hargs c).2.2.2.2.2.1) ((hargs c).2.2.2.2.2.2.2.2.1) ((hargs c).2.2.2.2.2.2.2.2.2.2.2)).trans (final14 m c).symm
  · exact (congr2 (castM Cert.AdamSmallRefIdeal.S2x4x128x128 Cert.AdamSmallRefIdeal.Gen.bcast_S_S2x4x128x128 Cert.AdamSmallRefIdeal.S1024x128 Cert.AdamSmallRefIdeal.Gen.shapeCasts_S2x4x128x128_S1024x128) ((hargs c).2.2.2.2.2.1) ((hargs c).2.2.2.2.2.2.2.2.1)).trans (final17 m c).symm
  · exact (congr2 (castV Cert.AdamSmallRefIdeal.S2x4x128x128 Cert.AdamSmallRefIdeal.Gen.bcast_S_S2x4x128x128 Cert.AdamSmallRefIdeal.S1024x128 Cert.AdamSmallRefIdeal.Gen.shapeCasts_S2x4x128x128_S1024x128) ((hargs c).2.2.2.2.2.1) ((hargs c).2.2.2.2.2.2.2.2.2.2.2)).trans (final20 m c).symm

end Cert.AdamSmallIdeal.Math

end
-- ==== Proof.AdamSmallTwoMath.lean ====
module

public import proofs.«01_k».proof.Proof.Gen.AdamSmallTwoIdeal.Value
public import proofs.«01_k».proof.Proof.Gen.AdamSmallTwoRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Proof.AdamStep
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.AdamSmallTwoIdeal.Math

open Cert.AdamSmallTwoIdeal Cert.AdamSmallTwoIdeal.Gen
open Idealize.ShloMosaic.Pointwise

variable (m : (ℓ : Loc nD τ sig) → Buf (Elt Ideal) ℓ)

open Cert.AdamW

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0] :=
  (by decide +kernel : ∀ t : Fin grid0.N, _)

theorem pay12 (w g m v : FVec Ideal S2x512 .f32) (j : S2x512.Idx) : (k0_pay6 (F := Ideal) w g m v) j = delta (w j) (g j) (m j) (v j) := by
  unfold delta newM newV
  pointwise [k0_pay6, k0_pay4, k0_pay5]

theorem pay15 (g m : FVec Ideal S2x512 .f32) (j : S2x512.Idx) : (k0_pay7 (F := Ideal) g m) j = newM (g j) (m j) := by
  unfold newM
  pointwise [k0_pay7, k0_pay4]

theorem pay18 (g v : FVec Ideal S2x512 .f32) (j : S2x512.Idx) : (k0_pay8 (F := Ideal) (k0_pay5 (F := Ideal) g v)) j = newV (g j) (v j) := by
  unfold newV
  pointwise [k0_pay8, k0_pay5]

theorem pay13 (w g m v : FVec Ideal S1x768 .f32) (j : S1x768.Idx) : (k0_pay12 (F := Ideal) w g m v) j = delta (w j) (g j) (m j) (v j) := by
  unfold delta newM newV
  pointwise [k0_pay12, k0_pay10, k0_pay11, k0_pay9]

theorem pay16 (g m : FVec Ideal S1x768 .f32) (j : S1x768.Idx) : (k0_pay13 (F := Ideal) (k0_pay10 (F := Ideal) g m)) j = newM (g j) (m j) := by
  unfold newM
  pointwise [k0_pay13, k0_pay10, k0_pay9]

theorem pay19 (g v : FVec Ideal S1x768 .f32) (j : S1x768.Idx) : (k0_pay14 (F := Ideal) (k0_pay11 (F := Ideal) g v)) j = newV (g j) (v j) := by
  unfold newV
  pointwise [k0_pay14, k0_pay11, k0_pay9]

theorem pay14 (w g m v : FVec Ideal S1x128 .f32) (j : S1x128.Idx) : (k0_pay1 (F := Ideal) (k0_pay18 (F := Ideal) w g m v)) j = delta (w j) (g j) (m j) (v j) := by
  unfold delta newM newV
  pointwise [k0_pay1, k0_pay18, k0_pay16, k0_pay17, k0_pay15]

theorem pay17 (g m : FVec Ideal S1x128 .f32) (j : S1x128.Idx) : (k0_pay2 (F := Ideal) (k0_pay16 (F := Ideal) g m)) j = newM (g j) (m j) := by
  unfold newM
  pointwise [k0_pay2, k0_pay16, k0_pay15]

theorem pay20 (g v : FVec Ideal S1x128 .f32) (j : S1x128.Idx) : (k0_pay3 (F := Ideal) (k0_pay17 (F := Ideal) g v)) j = newV (g j) (v j) := by
  unfold newV
  pointwise [k0_pay3, k0_pay17, k0_pay15]

theorem in0 (c : Dev nD) (t : Fin cfg0.N) (y : S2x512.Idx) : (show FVec Ideal S2x512 .f32 from iblk m c 0 t) y = (show FVec Ideal Cert.AdamSmallTwoRefIdeal.S2x512 .f32 from (m ((c : Thread nD τ).loc main_arg0))) y := by
  blk_ext [iblk, V_main_arg0, idx t]

theorem in1 (c : Dev nD) (t : Fin cfg0.N) (y : S1x768.Idx) : (show FVec Ideal S1x768 .f32 from iblk m c 1 t) y = (shapeCast Cert.AdamSmallTwoRefIdeal.S1x768 (show FVec Ideal Cert.AdamSmallTwoRefIdeal.S2x3x128 .f32 from (m ((c : Thread nD τ).loc main_arg1))) Cert.AdamSmallTwoRefIdeal.Gen.shapeCasts_S2x3x128_S1x768) y := by
  blk_simp [iblk, idx t]
  entry_read
  refine congrArg _ ?_
  blk_ext [idx t]

theorem in2 (c : Dev nD) (t : Fin cfg0.N) (y : S1x128.Idx) : (show FVec Ideal S1x128 .f32 from iblk m c 2 t) y = (shapeCast Cert.AdamSmallTwoRefIdeal.S1x128 (show FVec Ideal Cert.AdamSmallTwoRefIdeal.S2x64 .f32 from (m ((c : Thread nD τ).loc main_arg2))) Cert.AdamSmallTwoRefIdeal.Gen.shapeCasts_S2x64_S1x128) y := by
  blk_simp [iblk, idx t]
  entry_read
  refine congrArg _ ?_
  blk_ext [idx t]

theorem in3 (c : Dev nD) (t : Fin cfg0.N) (y : S2x512.Idx) : (show FVec Ideal S2x512 .f32 from iblk m c 3 t) y = (show FVec Ideal Cert.AdamSmallTwoRefIdeal.S2x512 .f32 from (m ((c : Thread nD τ).loc main_arg3))) y := by
  blk_ext [iblk, V_main_arg3, idx t]

theorem in4 (c : Dev nD) (t : Fin cfg0.N) (y : S1x768.Idx) : (show FVec Ideal S1x768 .f32 from iblk m c 4 t) y = (shapeCast Cert.AdamSmallTwoRefIdeal.S1x768 (show FVec Ideal Cert.AdamSmallTwoRefIdeal.S2x3x128 .f32 from (m ((c : Thread nD τ).loc main_arg4))) Cert.AdamSmallTwoRefIdeal.Gen.shapeCasts_S2x3x128_S1x768) y := by
  blk_simp [iblk, idx t]
  entry_read
  refine congrArg _ ?_
  blk_ext [idx t]

theorem in5 (c : Dev nD) (t : Fin cfg0.N) (y : S1x128.Idx) : (show FVec Ideal S1x128 .f32 from iblk m c 5 t) y = (shapeCast Cert.AdamSmallTwoRefIdeal.S1x128 (show FVec Ideal Cert.AdamSmallTwoRefIdeal.S2x64 .f32 from (m ((c : Thread nD τ).loc main_arg5))) Cert.AdamSmallTwoRefIdeal.Gen.shapeCasts_S2x64_S1x128) y := by
  blk_simp [iblk, idx t]
  entry_read
  refine congrArg _ ?_
  blk_ext [idx t]

theorem in6 (c : Dev nD) (t : Fin cfg0.N) (y : S2x512.Idx) : (show FVec Ideal S2x512 .f32 from iblk m c 6 t) y = (show FVec Ideal Cert.AdamSmallTwoRefIdeal.S2x512 .f32 from (m ((c : Thread nD τ).loc main_arg6))) y := by
  blk_ext [iblk, V_main_arg6, idx t]

theorem in7 (c : Dev nD) (t : Fin cfg0.N) (y : S1x768.Idx) : (show FVec Ideal S1x768 .f32 from iblk m c 7 t) y = (shapeCast Cert.AdamSmallTwoRefIdeal.S1x768 (show FVec Ideal Cert.AdamSmallTwoRefIdeal.S2x3x128 .f32 from (m ((c : Thread nD τ).loc main_arg7))) Cert.AdamSmallTwoRefIdeal.Gen.shapeCasts_S2x3x128_S1x768) y := by
  blk_simp [iblk, idx t]
  entry_read
  refine congrArg _ ?_
  blk_ext [idx t]

theorem in8 (c : Dev nD) (t : Fin cfg0.N) (y : S1x128.Idx) : (show FVec Ideal S1x128 .f32 from iblk m c 8 t) y = (shapeCast Cert.AdamSmallTwoRefIdeal.S1x128 (show FVec Ideal Cert.AdamSmallTwoRefIdeal.S2x64 .f32 from (m ((c : Thread nD τ).loc main_arg8))) Cert.AdamSmallTwoRefIdeal.Gen.shapeCasts_S2x64_S1x128) y := by
  blk_simp [iblk, idx t]
  entry_read
  refine congrArg _ ?_
  blk_ext [idx t]

theorem in9 (c : Dev nD) (t : Fin cfg0.N) (y : S2x512.Idx) : (show FVec Ideal S2x512 .f32 from iblk m c 9 t) y = (show FVec Ideal Cert.AdamSmallTwoRefIdeal.S2x512 .f32 from (m ((c : Thread nD τ).loc main_arg9))) y := by
  blk_ext [iblk, V_main_arg9, idx t]

theorem in10 (c : Dev nD) (t : Fin cfg0.N) (y : S1x768.Idx) : (show FVec Ideal S1x768 .f32 from iblk m c 10 t) y = (shapeCast Cert.AdamSmallTwoRefIdeal.S1x768 (show FVec Ideal Cert.AdamSmallTwoRefIdeal.S2x3x128 .f32 from (m ((c : Thread nD τ).loc main_arg10))) Cert.AdamSmallTwoRefIdeal.Gen.shapeCasts_S2x3x128_S1x768) y := by
  blk_simp [iblk, idx t]
  entry_read
  refine congrArg _ ?_
  blk_ext [idx t]

theorem in11 (c : Dev nD) (t : Fin cfg0.N) (y : S1x128.Idx) : (show FVec Ideal S1x128 .f32 from iblk m c 11 t) y = (shapeCast Cert.AdamSmallTwoRefIdeal.S1x128 (show FVec Ideal Cert.AdamSmallTwoRefIdeal.S2x64 .f32 from (m ((c : Thread nD τ).loc main_arg11))) Cert.AdamSmallTwoRefIdeal.Gen.shapeCasts_S2x64_S1x128) y := by
  blk_simp [iblk, idx t]
  entry_read
  refine congrArg _ ?_
  blk_ext [idx t]

theorem final12 (c : Dev nD) : (dats m 0 c).arrAt 12 (cfgs 0).N = refD Cert.AdamSmallTwoRefIdeal.S2x512 Cert.AdamSmallTwoRefIdeal.Gen.bcast_S_S2x512 (m ((c : Thread nD τ).loc main_arg0)) (m ((c : Thread nD τ).loc main_arg3)) (m ((c : Thread nD τ).loc main_arg6)) (m ((c : Thread nD τ).loc main_arg9)) := by
  refine (dats m 0 c).arrAt_eq_of_covers 12 _ (by decide +kernel) fun t hf y => ?_
  blk_simp
  rw [after0_12]; frame_out
  refine (pay12 _ _ _ _ y).trans ((congr4 delta (in0 m c t y) (in3 m c t y) (in6 m c t y) (in9 m c t y)).trans ((refD_at Cert.AdamSmallTwoRefIdeal.S2x512 Cert.AdamSmallTwoRefIdeal.Gen.bcast_S_S2x512 _ _ _ _ _).symm.trans (congrArg _ ?_)))
  blk_ext [idx t]

theorem final15 (c : Dev nD) : (dats m 0 c).arrAt 15 (cfgs 0).N = refM Cert.AdamSmallTwoRefIdeal.S2x512 Cert.AdamSmallTwoRefIdeal.Gen.bcast_S_S2x512 (m ((c : Thread nD τ).loc main_arg3)) (m ((c : Thread nD τ).loc main_arg6)) := by
  refine (dats m 0 c).arrAt_eq_of_covers 15 _ (by decide +kernel) fun t hf y => ?_
  blk_simp
  rw [after0_15]; frame_out
  refine (pay15 _ _ y).trans ((congr2 newM (in3 m c t y) (in6 m c t y)).trans ((refM_at Cert.AdamSmallTwoRefIdeal.S2x512 Cert.AdamSmallTwoRefIdeal.Gen.bcast_S_S2x512 _ _ _).symm.trans (congrArg _ ?_)))
  blk_ext [idx t]

theorem final18 (c : Dev nD) : (dats m 0 c).arrAt 18 (cfgs 0).N = refV Cert.AdamSmallTwoRefIdeal.S2x512 Cert.AdamSmallTwoRefIdeal.Gen.bcast_S_S2x512 (m ((c : Thread nD τ).loc main_arg3)) (m ((c : Thread nD τ).loc main_arg9)) := by
  refine (dats m 0 c).arrAt_eq_of_covers 18 _ (by decide +kernel) fun t hf y => ?_
  blk_simp
  rw [after0_18]; frame_out
  refine (pay18 _ _ y).trans ((congr2 newV (in3 m c t y) (in9 m c t y)).trans ((refV_at Cert.AdamSmallTwoRefIdeal.S2x512 Cert.AdamSmallTwoRefIdeal.Gen.bcast_S_S2x512 _ _ _).symm.trans (congrArg _ ?_)))
  blk_ext [idx t]

theorem final13 (c : Dev nD) : (dats m 0 c).arrAt 13 (cfgs 0).N = castD Cert.AdamSmallTwoRefIdeal.S2x3x128 Cert.AdamSmallTwoRefIdeal.Gen.bcast_S_S2x3x128 Cert.AdamSmallTwoRefIdeal.S1x768 Cert.AdamSmallTwoRefIdeal.Gen.shapeCasts_S2x3x128_S1x768 (m ((c : Thread nD τ).loc main_arg1)) (m ((c : Thread nD τ).loc main_arg4)) (m ((c : Thread nD τ).loc main_arg7)) (m ((c : Thread nD τ).loc main_arg10)) := by
  refine (dats m 0 c).arrAt_eq_of_covers 13 _ (by decide +kernel) fun t hf y => ?_
  blk_simp
  rw [after0_13]; frame_out
  refine (pay13 _ _ _ _ y).trans ((congr4 delta (in1 m c t y) (in4 m c t y) (in7 m c t y) (in10 m c t y)).trans ((castD_at Cert.AdamSmallTwoRefIdeal.S2x3x128 Cert.AdamSmallTwoRefIdeal.Gen.bcast_S_S2x3x128 Cert.AdamSmallTwoRefIdeal.S1x768 Cert.AdamSmallTwoRefIdeal.Gen.shapeCasts_S2x3x128_S1x768 _ _ _ _ _).symm.trans (congrArg _ ?_)))
  blk_ext [idx t]

theorem final16 (c : Dev nD) : (dats m 0 c).arrAt 16 (cfgs 0).N = castM Cert.AdamSmallTwoRefIdeal.S2x3x128 Cert.AdamSmallTwoRefIdeal.Gen.bcast_S_S2x3x128 Cert.AdamSmallTwoRefIdeal.S1x768 Cert.AdamSmallTwoRefIdeal.Gen.shapeCasts_S2x3x128_S1x768 (m ((c : Thread nD τ).loc main_arg4)) (m ((c : Thread nD τ).loc main_arg7)) := by
  refine (dats m 0 c).arrAt_eq_of_covers 16 _ (by decide +kernel) fun t hf y => ?_
  blk_simp
  rw [after0_16]; frame_out
  refine (pay16 _ _ y).trans ((congr2 newM (in4 m c t y) (in7 m c t y)).trans ((castM_at Cert.AdamSmallTwoRefIdeal.S2x3x128 Cert.AdamSmallTwoRefIdeal.Gen.bcast_S_S2x3x128 Cert.AdamSmallTwoRefIdeal.S1x768 Cert.AdamSmallTwoRefIdeal.Gen.shapeCasts_S2x3x128_S1x768 _ _ _).symm.trans (congrArg _ ?_)))
  blk_ext [idx t]

theorem final19 (c : Dev nD) : (dats m 0 c).arrAt 19 (cfgs 0).N = castV Cert.AdamSmallTwoRefIdeal.S2x3x128 Cert.AdamSmallTwoRefIdeal.Gen.bcast_S_S2x3x128 Cert.AdamSmallTwoRefIdeal.S1x768 Cert.AdamSmallTwoRefIdeal.Gen.shapeCasts_S2x3x128_S1x768 (m ((c : Thread nD τ).loc main_arg4)) (m ((c : Thread nD τ).loc main_arg10)) := by
  refine (dats m 0 c).arrAt_eq_of_covers 19 _ (by decide +kernel) fun t hf y => ?_
  blk_simp
  rw [after0_19]; frame_out
  refine (pay19 _ _ y).trans ((congr2 newV (in4 m c t y) (in10 m c t y)).trans ((castV_at Cert.AdamSmallTwoRefIdeal.S2x3x128 Cert.AdamSmallTwoRefIdeal.Gen.bcast_S_S2x3x128 Cert.AdamSmallTwoRefIdeal.S1x768 Cert.AdamSmallTwoRefIdeal.Gen.shapeCasts_S2x3x128_S1x768 _ _ _).symm.trans (congrArg _ ?_)))
  blk_ext [idx t]

theorem final14 (c : Dev nD) : (dats m 0 c).arrAt 14 (cfgs 0).N = castD Cert.AdamSmallTwoRefIdeal.S2x64 Cert.AdamSmallTwoRefIdeal.Gen.bcast_S_S2x64 Cert.AdamSmallTwoRefIdeal.S1x128 Cert.AdamSmallTwoRefIdeal.Gen.shapeCasts_S2x64_S1x128 (m ((c : Thread nD τ).loc main_arg2)) (m ((c : Thread nD τ).loc main_arg5)) (m ((c : Thread nD τ).loc main_arg8)) (m ((c : Thread nD τ).loc main_arg11)) := by
  refine (dats m 0 c).arrAt_eq_of_covers 14 _ (by decide +kernel) fun t hf y => ?_
  blk_simp
  rw [after0_14]; frame_out
  refine (pay14 _ _ _ _ y).trans ((congr4 delta (in2 m c t y) (in5 m c t y) (in8 m c t y) (in11 m c t y)).trans ((castD_at Cert.AdamSmallTwoRefIdeal.S2x64 Cert.AdamSmallTwoRefIdeal.Gen.bcast_S_S2x64 Cert.AdamSmallTwoRefIdeal.S1x128 Cert.AdamSmallTwoRefIdeal.Gen.shapeCasts_S2x64_S1x128 _ _ _ _ _).symm.trans (congrArg _ ?_)))
  blk_ext [idx t]

theorem final17 (c : Dev nD) : (dats m 0 c).arrAt 17 (cfgs 0).N = castM Cert.AdamSmallTwoRefIdeal.S2x64 Cert.AdamSmallTwoRefIdeal.Gen.bcast_S_S2x64 Cert.AdamSmallTwoRefIdeal.S1x128 Cert.AdamSmallTwoRefIdeal.Gen.shapeCasts_S2x64_S1x128 (m ((c : Thread nD τ).loc main_arg5)) (m ((c : Thread nD τ).loc main_arg8)) := by
  refine (dats m 0 c).arrAt_eq_of_covers 17 _ (by decide +kernel) fun t hf y => ?_
  blk_simp
  rw [after0_17]; frame_out
  refine (pay17 _ _ y).trans ((congr2 newM (in5 m c t y) (in8 m c t y)).trans ((castM_at Cert.AdamSmallTwoRefIdeal.S2x64 Cert.AdamSmallTwoRefIdeal.Gen.bcast_S_S2x64 Cert.AdamSmallTwoRefIdeal.S1x128 Cert.AdamSmallTwoRefIdeal.Gen.shapeCasts_S2x64_S1x128 _ _ _).symm.trans (congrArg _ ?_)))
  blk_ext [idx t]

theorem final20 (c : Dev nD) : (dats m 0 c).arrAt 20 (cfgs 0).N = castV Cert.AdamSmallTwoRefIdeal.S2x64 Cert.AdamSmallTwoRefIdeal.Gen.bcast_S_S2x64 Cert.AdamSmallTwoRefIdeal.S1x128 Cert.AdamSmallTwoRefIdeal.Gen.shapeCasts_S2x64_S1x128 (m ((c : Thread nD τ).loc main_arg5)) (m ((c : Thread nD τ).loc main_arg11)) := by
  refine (dats m 0 c).arrAt_eq_of_covers 20 _ (by decide +kernel) fun t hf y => ?_
  blk_simp
  rw [after0_20]; frame_out
  refine (pay20 _ _ y).trans ((congr2 newV (in5 m c t y) (in11 m c t y)).trans ((castV_at Cert.AdamSmallTwoRefIdeal.S2x64 Cert.AdamSmallTwoRefIdeal.Gen.bcast_S_S2x64 Cert.AdamSmallTwoRefIdeal.S1x128 Cert.AdamSmallTwoRefIdeal.Gen.shapeCasts_S2x64_S1x128 _ _ _).symm.trans (congrArg _ ?_)))
  blk_ext [idx t]

/-- The reference runs, its arguments end unchanged; it declares no semaphore. -/
theorem refFrame : @Cert.quiescent_AdamSmallTwoRefIdeal Cert.AdamSmallTwoRefIdeal.Gen.facts := fun m ρ _ =>
  (θ_run _ _ _).mono (fun r h => ⟨fun c => (h c).2.2.2.2.2.2.2.2.2, Idealize.ShloMosaic.sem_eq_zero_of_no_sems (by decide) r.2⟩)
    (Cert.AdamSmallTwoRefIdeal.Value.run m ρ)

/-- Kernel and reference end with equal results. -/
theorem alg : @Cert.algebraic_AdamSmallTwoIdeal_AdamSmallTwoRefIdeal Cert.AdamSmallTwoIdeal.Gen.facts Cert.AdamSmallTwoRefIdeal.Gen.facts := by
  intro m g m' g' _ hargs
  refine ⟨fun c => (dats m 0 c).arrAt 12 cfg0.N, fun c => (dats m 0 c).arrAt 15 cfg0.N, fun c => (dats m 0 c).arrAt 18 cfg0.N, fun c => (dats m 0 c).arrAt 13 cfg0.N, fun c => (dats m 0 c).arrAt 16 cfg0.N, fun c => (dats m 0 c).arrAt 19 cfg0.N, fun c => (dats m 0 c).arrAt 14 cfg0.N, fun c => (dats m 0 c).arrAt 17 cfg0.N, fun c => (dats m 0 c).arrAt 20 cfg0.N,
    (θ_run _ _ _).mono (fun r h c => ⟨(h c).1, (h c).2.2.2.1, (h c).2.2.2.2.2.2.1, (h c).2.1, (h c).2.2.2.2.1, (h c).2.2.2.2.2.2.2.1, (h c).2.2.1, (h c).2.2.2.2.2.1, (h c).2.2.2.2.2.2.2.2.1, (h c).2.2.2.2.2.2.2.2.2⟩) (Cert.AdamSmallTwoIdeal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.AdamSmallTwoRefIdeal.Value.run m' g')⟩
  · exact (congr4 (refD Cert.AdamSmallTwoRefIdeal.S2x512 Cert.AdamSmallTwoRefIdeal.Gen.bcast_S_S2x512) ((hargs c).1) ((hargs c).2.2.2.1) ((hargs c).2.2.2.2.2.2.1) ((hargs c).2.2.2.2.2.2.2.2.2.1)).trans (final12 m c).symm
  · exact (congr2 (refM Cert.AdamSmallTwoRefIdeal.S2x512 Cert.AdamSmallTwoRefIdeal.Gen.bcast_S_S2x512) ((hargs c).2.2.2.1) ((hargs c).2.2.2.2.2.2.1)).trans (final15 m c).symm
  · exact (congr2 (refV Cert.AdamSmallTwoRefIdeal.S2x512 Cert.AdamSmallTwoRefIdeal.Gen.bcast_S_S2x512) ((hargs c).2.2.2.1) ((hargs c).2.2.2.2.2.2.2.2.2.1)).trans (final18 m c).symm
  · exact (congr4 (castD Cert.AdamSmallTwoRefIdeal.S2x3x128 Cert.AdamSmallTwoRefIdeal.Gen.bcast_S_S2x3x128 Cert.AdamSmallTwoRefIdeal.S1x768 Cert.AdamSmallTwoRefIdeal.Gen.shapeCasts_S2x3x128_S1x768) ((hargs c).2.1) ((hargs c).2.2.2.2.1) ((hargs c).2.2.2.2.2.2.2.1) ((hargs c).2.2.2.2.2.2.2.2.2.2.1)).trans (final13 m c).symm
  · exact (congr2 (castM Cert.AdamSmallTwoRefIdeal.S2x3x128 Cert.AdamSmallTwoRefIdeal.Gen.bcast_S_S2x3x128 Cert.AdamSmallTwoRefIdeal.S1x768 Cert.AdamSmallTwoRefIdeal.Gen.shapeCasts_S2x3x128_S1x768) ((hargs c).2.2.2.2.1) ((hargs c).2.2.2.2.2.2.2.1)).trans (final16 m c).symm
  · exact (congr2 (castV Cert.AdamSmallTwoRefIdeal.S2x3x128 Cert.AdamSmallTwoRefIdeal.Gen.bcast_S_S2x3x128 Cert.AdamSmallTwoRefIdeal.S1x768 Cert.AdamSmallTwoRefIdeal.Gen.shapeCasts_S2x3x128_S1x768) ((hargs c).2.2.2.2.1) ((hargs c).2.2.2.2.2.2.2.2.2.2.1)).trans (final19 m c).symm
  · exact (congr4 (castD Cert.AdamSmallTwoRefIdeal.S2x64 Cert.AdamSmallTwoRefIdeal.Gen.bcast_S_S2x64 Cert.AdamSmallTwoRefIdeal.S1x128 Cert.AdamSmallTwoRefIdeal.Gen.shapeCasts_S2x64_S1x128) ((hargs c).2.2.1) ((hargs c).2.2.2.2.2.1) ((hargs c).2.2.2.2.2.2.2.2.1) ((hargs c).2.2.2.2.2.2.2.2.2.2.2)).trans (final14 m c).symm
  · exact (congr2 (castM Cert.AdamSmallTwoRefIdeal.S2x64 Cert.AdamSmallTwoRefIdeal.Gen.bcast_S_S2x64 Cert.AdamSmallTwoRefIdeal.S1x128 Cert.AdamSmallTwoRefIdeal.Gen.shapeCasts_S2x64_S1x128) ((hargs c).2.2.2.2.2.1) ((hargs c).2.2.2.2.2.2.2.2.1)).trans (final17 m c).symm
  · exact (congr2 (castV Cert.AdamSmallTwoRefIdeal.S2x64 Cert.AdamSmallTwoRefIdeal.Gen.bcast_S_S2x64 Cert.AdamSmallTwoRefIdeal.S1x128 Cert.AdamSmallTwoRefIdeal.Gen.shapeCasts_S2x64_S1x128) ((hargs c).2.2.2.2.2.1) ((hargs c).2.2.2.2.2.2.2.2.2.2.2)).trans (final20 m c).symm

end Cert.AdamSmallTwoIdeal.Math

end
-- ==== Proof.AdamSmallThreeMath.lean ====
module

public import proofs.«01_k».proof.Proof.Gen.AdamSmallThreeIdeal.Value
public import proofs.«01_k».proof.Proof.Gen.AdamSmallThreeRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Proof.AdamStep
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.AdamSmallThreeIdeal.Math

open Cert.AdamSmallThreeIdeal Cert.AdamSmallThreeIdeal.Gen
open Idealize.ShloMosaic.Pointwise

variable (m : (ℓ : Loc nD τ sig) → Buf (Elt Ideal) ℓ)

open Cert.AdamW

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0] :=
  (by decide +kernel : ∀ t : Fin grid0.N, _)

theorem pay8 (w g m v : FVec Ideal S1x128 .f32) (j : S1x128.Idx) : (k0_pay6 (F := Ideal) w g m v) j = delta (w j) (g j) (m j) (v j) := by
  unfold delta newM newV
  pointwise [k0_pay6, k0_pay4, k0_pay5, k0_pay3]

theorem pay10 (g m : FVec Ideal S1x128 .f32) (j : S1x128.Idx) : (k0_pay7 (F := Ideal) (k0_pay4 (F := Ideal) g m)) j = newM (g j) (m j) := by
  unfold newM
  pointwise [k0_pay7, k0_pay4, k0_pay3]

theorem pay12 (g v : FVec Ideal S1x128 .f32) (j : S1x128.Idx) : (k0_pay8 (F := Ideal) (k0_pay5 (F := Ideal) g v)) j = newV (g j) (v j) := by
  unfold newV
  pointwise [k0_pay8, k0_pay5, k0_pay3]

theorem pay9 (w g m v : FVec Ideal S2x1024 .f32) (j : S2x1024.Idx) : (k0_pay11 (F := Ideal) w g m v) j = delta (w j) (g j) (m j) (v j) := by
  unfold delta newM newV
  pointwise [k0_pay11, k0_pay10, k0_pay9]

theorem pay11 (g m : FVec Ideal S2x1024 .f32) (j : S2x1024.Idx) : (k0_pay1 (F := Ideal) (k0_pay9 (F := Ideal) g m)) j = newM (g j) (m j) := by
  unfold newM
  pointwise [k0_pay1, k0_pay9]

theorem pay13 (g v : FVec Ideal S2x1024 .f32) (j : S2x1024.Idx) : (k0_pay2 (F := Ideal) (k0_pay10 (F := Ideal) g v)) j = newV (g j) (v j) := by
  unfold newV
  pointwise [k0_pay2, k0_pay10]

theorem in0 (c : Dev nD) (t : Fin cfg0.N) (y : S1x128.Idx) : (show FVec Ideal S1x128 .f32 from iblk m c 0 t) y = (shapeCast Cert.AdamSmallThreeRefIdeal.S1x128 (show FVec Ideal Cert.AdamSmallThreeRefIdeal.S2x64 .f32 from (m ((c : Thread nD τ).loc main_arg0))) Cert.AdamSmallThreeRefIdeal.Gen.shapeCasts_S2x64_S1x128) y := by
  blk_simp [iblk, idx t]
  entry_read
  refine congrArg _ ?_
  blk_ext [idx t]

theorem in1 (c : Dev nD) (t : Fin cfg0.N) (y : S2x1024.Idx) : (show FVec Ideal S2x1024 .f32 from iblk m c 1 t) y = (show FVec Ideal Cert.AdamSmallThreeRefIdeal.S2x1024 .f32 from (m ((c : Thread nD τ).loc main_arg1))) y := by
  blk_ext [iblk, V_main_arg1, idx t]

theorem in2 (c : Dev nD) (t : Fin cfg0.N) (y : S1x128.Idx) : (show FVec Ideal S1x128 .f32 from iblk m c 2 t) y = (shapeCast Cert.AdamSmallThreeRefIdeal.S1x128 (show FVec Ideal Cert.AdamSmallThreeRefIdeal.S2x64 .f32 from (m ((c : Thread nD τ).loc main_arg2))) Cert.AdamSmallThreeRefIdeal.Gen.shapeCasts_S2x64_S1x128) y := by
  blk_simp [iblk, idx t]
  entry_read
  refine congrArg _ ?_
  blk_ext [idx t]

theorem in3 (c : Dev nD) (t : Fin cfg0.N) (y : S2x1024.Idx) : (show FVec Ideal S2x1024 .f32 from iblk m c 3 t) y = (show FVec Ideal Cert.AdamSmallThreeRefIdeal.S2x1024 .f32 from (m ((c : Thread nD τ).loc main_arg3))) y := by
  blk_ext [iblk, V_main_arg3, idx t]

theorem in4 (c : Dev nD) (t : Fin cfg0.N) (y : S1x128.Idx) : (show FVec Ideal S1x128 .f32 from iblk m c 4 t) y = (shapeCast Cert.AdamSmallThreeRefIdeal.S1x128 (show FVec Ideal Cert.AdamSmallThreeRefIdeal.S2x64 .f32 from (m ((c : Thread nD τ).loc main_arg4))) Cert.AdamSmallThreeRefIdeal.Gen.shapeCasts_S2x64_S1x128) y := by
  blk_simp [iblk, idx t]
  entry_read
  refine congrArg _ ?_
  blk_ext [idx t]

theorem in5 (c : Dev nD) (t : Fin cfg0.N) (y : S2x1024.Idx) : (show FVec Ideal S2x1024 .f32 from iblk m c 5 t) y = (show FVec Ideal Cert.AdamSmallThreeRefIdeal.S2x1024 .f32 from (m ((c : Thread nD τ).loc main_arg5))) y := by
  blk_ext [iblk, V_main_arg5, idx t]

theorem in6 (c : Dev nD) (t : Fin cfg0.N) (y : S1x128.Idx) : (show FVec Ideal S1x128 .f32 from iblk m c 6 t) y = (shapeCast Cert.AdamSmallThreeRefIdeal.S1x128 (show FVec Ideal Cert.AdamSmallThreeRefIdeal.S2x64 .f32 from (m ((c : Thread nD τ).loc main_arg6))) Cert.AdamSmallThreeRefIdeal.Gen.shapeCasts_S2x64_S1x128) y := by
  blk_simp [iblk, idx t]
  entry_read
  refine congrArg _ ?_
  blk_ext [idx t]

theorem in7 (c : Dev nD) (t : Fin cfg0.N) (y : S2x1024.Idx) : (show FVec Ideal S2x1024 .f32 from iblk m c 7 t) y = (show FVec Ideal Cert.AdamSmallThreeRefIdeal.S2x1024 .f32 from (m ((c : Thread nD τ).loc main_arg7))) y := by
  blk_ext [iblk, V_main_arg7, idx t]

theorem final8 (c : Dev nD) : (dats m 0 c).arrAt 8 (cfgs 0).N = castD Cert.AdamSmallThreeRefIdeal.S2x64 Cert.AdamSmallThreeRefIdeal.Gen.bcast_S_S2x64 Cert.AdamSmallThreeRefIdeal.S1x128 Cert.AdamSmallThreeRefIdeal.Gen.shapeCasts_S2x64_S1x128 (m ((c : Thread nD τ).loc main_arg0)) (m ((c : Thread nD τ).loc main_arg2)) (m ((c : Thread nD τ).loc main_arg4)) (m ((c : Thread nD τ).loc main_arg6)) := by
  refine (dats m 0 c).arrAt_eq_of_covers 8 _ (by decide +kernel) fun t hf y => ?_
  blk_simp
  rw [after0_8]; frame_out
  refine (pay8 _ _ _ _ y).trans ((congr4 delta (in0 m c t y) (in2 m c t y) (in4 m c t y) (in6 m c t y)).trans ((castD_at Cert.AdamSmallThreeRefIdeal.S2x64 Cert.AdamSmallThreeRefIdeal.Gen.bcast_S_S2x64 Cert.AdamSmallThreeRefIdeal.S1x128 Cert.AdamSmallThreeRefIdeal.Gen.shapeCasts_S2x64_S1x128 _ _ _ _ _).symm.trans (congrArg _ ?_)))
  blk_ext [idx t]

theorem final10 (c : Dev nD) : (dats m 0 c).arrAt 10 (cfgs 0).N = castM Cert.AdamSmallThreeRefIdeal.S2x64 Cert.AdamSmallThreeRefIdeal.Gen.bcast_S_S2x64 Cert.AdamSmallThreeRefIdeal.S1x128 Cert.AdamSmallThreeRefIdeal.Gen.shapeCasts_S2x64_S1x128 (m ((c : Thread nD τ).loc main_arg2)) (m ((c : Thread nD τ).loc main_arg4)) := by
  refine (dats m 0 c).arrAt_eq_of_covers 10 _ (by decide +kernel) fun t hf y => ?_
  blk_simp
  rw [after0_10]; frame_out
  refine (pay10 _ _ y).trans ((congr2 newM (in2 m c t y) (in4 m c t y)).trans ((castM_at Cert.AdamSmallThreeRefIdeal.S2x64 Cert.AdamSmallThreeRefIdeal.Gen.bcast_S_S2x64 Cert.AdamSmallThreeRefIdeal.S1x128 Cert.AdamSmallThreeRefIdeal.Gen.shapeCasts_S2x64_S1x128 _ _ _).symm.trans (congrArg _ ?_)))
  blk_ext [idx t]

theorem final12 (c : Dev nD) : (dats m 0 c).arrAt 12 (cfgs 0).N = castV Cert.AdamSmallThreeRefIdeal.S2x64 Cert.AdamSmallThreeRefIdeal.Gen.bcast_S_S2x64 Cert.AdamSmallThreeRefIdeal.S1x128 Cert.AdamSmallThreeRefIdeal.Gen.shapeCasts_S2x64_S1x128 (m ((c : Thread nD τ).loc main_arg2)) (m ((c : Thread nD τ).loc main_arg6)) := by
  refine (dats m 0 c).arrAt_eq_of_covers 12 _ (by decide +kernel) fun t hf y => ?_
  blk_simp
  rw [after0_12]; frame_out
  refine (pay12 _ _ y).trans ((congr2 newV (in2 m c t y) (in6 m c t y)).trans ((castV_at Cert.AdamSmallThreeRefIdeal.S2x64 Cert.AdamSmallThreeRefIdeal.Gen.bcast_S_S2x64 Cert.AdamSmallThreeRefIdeal.S1x128 Cert.AdamSmallThreeRefIdeal.Gen.shapeCasts_S2x64_S1x128 _ _ _).symm.trans (congrArg _ ?_)))
  blk_ext [idx t]

theorem final9 (c : Dev nD) : (dats m 0 c).arrAt 9 (cfgs 0).N = refD Cert.AdamSmallThreeRefIdeal.S2x1024 Cert.AdamSmallThreeRefIdeal.Gen.bcast_S_S2x1024 (m ((c : Thread nD τ).loc main_arg1)) (m ((c : Thread nD τ).loc main_arg3)) (m ((c : Thread nD τ).loc main_arg5)) (m ((c : Thread nD τ).loc main_arg7)) := by
  refine (dats m 0 c).arrAt_eq_of_covers 9 _ (by decide +kernel) fun t hf y => ?_
  blk_simp
  rw [after0_9]; frame_out
  refine (pay9 _ _ _ _ y).trans ((congr4 delta (in1 m c t y) (in3 m c t y) (in5 m c t y) (in7 m c t y)).trans ((refD_at Cert.AdamSmallThreeRefIdeal.S2x1024 Cert.AdamSmallThreeRefIdeal.Gen.bcast_S_S2x1024 _ _ _ _ _).symm.trans (congrArg _ ?_)))
  blk_ext [idx t]

theorem final11 (c : Dev nD) : (dats m 0 c).arrAt 11 (cfgs 0).N = refM Cert.AdamSmallThreeRefIdeal.S2x1024 Cert.AdamSmallThreeRefIdeal.Gen.bcast_S_S2x1024 (m ((c : Thread nD τ).loc main_arg3)) (m ((c : Thread nD τ).loc main_arg5)) := by
  refine (dats m 0 c).arrAt_eq_of_covers 11 _ (by decide +kernel) fun t hf y => ?_
  blk_simp
  rw [after0_11]; frame_out
  refine (pay11 _ _ y).trans ((congr2 newM (in3 m c t y) (in5 m c t y)).trans ((refM_at Cert.AdamSmallThreeRefIdeal.S2x1024 Cert.AdamSmallThreeRefIdeal.Gen.bcast_S_S2x1024 _ _ _).symm.trans (congrArg _ ?_)))
  blk_ext [idx t]

theorem final13 (c : Dev nD) : (dats m 0 c).arrAt 13 (cfgs 0).N = refV Cert.AdamSmallThreeRefIdeal.S2x1024 Cert.AdamSmallThreeRefIdeal.Gen.bcast_S_S2x1024 (m ((c : Thread nD τ).loc main_arg3)) (m ((c : Thread nD τ).loc main_arg7)) := by
  refine (dats m 0 c).arrAt_eq_of_covers 13 _ (by decide +kernel) fun t hf y => ?_
  blk_simp
  rw [after0_13]; frame_out
  refine (pay13 _ _ y).trans ((congr2 newV (in3 m c t y) (in7 m c t y)).trans ((refV_at Cert.AdamSmallThreeRefIdeal.S2x1024 Cert.AdamSmallThreeRefIdeal.Gen.bcast_S_S2x1024 _ _ _).symm.trans (congrArg _ ?_)))
  blk_ext [idx t]

/-- The reference runs, its arguments end unchanged; it declares no semaphore. -/
theorem refFrame : @Cert.quiescent_AdamSmallThreeRefIdeal Cert.AdamSmallThreeRefIdeal.Gen.facts := fun m ρ _ =>
  (θ_run _ _ _).mono (fun r h => ⟨fun c => (h c).2.2.2.2.2.2, Idealize.ShloMosaic.sem_eq_zero_of_no_sems (by decide) r.2⟩)
    (Cert.AdamSmallThreeRefIdeal.Value.run m ρ)

/-- Kernel and reference end with equal results. -/
theorem alg : @Cert.algebraic_AdamSmallThreeIdeal_AdamSmallThreeRefIdeal Cert.AdamSmallThreeIdeal.Gen.facts Cert.AdamSmallThreeRefIdeal.Gen.facts := by
  intro m g m' g' _ hargs
  refine ⟨fun c => (dats m 0 c).arrAt 8 cfg0.N, fun c => (dats m 0 c).arrAt 10 cfg0.N, fun c => (dats m 0 c).arrAt 12 cfg0.N, fun c => (dats m 0 c).arrAt 9 cfg0.N, fun c => (dats m 0 c).arrAt 11 cfg0.N, fun c => (dats m 0 c).arrAt 13 cfg0.N,
    (θ_run _ _ _).mono (fun r h c => ⟨(h c).1, (h c).2.2.1, (h c).2.2.2.2.1, (h c).2.1, (h c).2.2.2.1, (h c).2.2.2.2.2.1, (h c).2.2.2.2.2.2⟩) (Cert.AdamSmallThreeIdeal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.AdamSmallThreeRefIdeal.Value.run m' g')⟩
  · exact (congr4 (castD Cert.AdamSmallThreeRefIdeal.S2x64 Cert.AdamSmallThreeRefIdeal.Gen.bcast_S_S2x64 Cert.AdamSmallThreeRefIdeal.S1x128 Cert.AdamSmallThreeRefIdeal.Gen.shapeCasts_S2x64_S1x128) ((hargs c).1) ((hargs c).2.2.1) ((hargs c).2.2.2.2.1) ((hargs c).2.2.2.2.2.2.1)).trans (final8 m c).symm
  · exact (congr2 (castM Cert.AdamSmallThreeRefIdeal.S2x64 Cert.AdamSmallThreeRefIdeal.Gen.bcast_S_S2x64 Cert.AdamSmallThreeRefIdeal.S1x128 Cert.AdamSmallThreeRefIdeal.Gen.shapeCasts_S2x64_S1x128) ((hargs c).2.2.1) ((hargs c).2.2.2.2.1)).trans (final10 m c).symm
  · exact (congr2 (castV Cert.AdamSmallThreeRefIdeal.S2x64 Cert.AdamSmallThreeRefIdeal.Gen.bcast_S_S2x64 Cert.AdamSmallThreeRefIdeal.S1x128 Cert.AdamSmallThreeRefIdeal.Gen.shapeCasts_S2x64_S1x128) ((hargs c).2.2.1) ((hargs c).2.2.2.2.2.2.1)).trans (final12 m c).symm
  · exact (congr4 (refD Cert.AdamSmallThreeRefIdeal.S2x1024 Cert.AdamSmallThreeRefIdeal.Gen.bcast_S_S2x1024) ((hargs c).2.1) ((hargs c).2.2.2.1) ((hargs c).2.2.2.2.2.1) ((hargs c).2.2.2.2.2.2.2)).trans (final9 m c).symm
  · exact (congr2 (refM Cert.AdamSmallThreeRefIdeal.S2x1024 Cert.AdamSmallThreeRefIdeal.Gen.bcast_S_S2x1024) ((hargs c).2.2.2.1) ((hargs c).2.2.2.2.2.1)).trans (final11 m c).symm
  · exact (congr2 (refV Cert.AdamSmallThreeRefIdeal.S2x1024 Cert.AdamSmallThreeRefIdeal.Gen.bcast_S_S2x1024) ((hargs c).2.2.2.1) ((hargs c).2.2.2.2.2.2.2)).trans (final13 m c).symm

end Cert.AdamSmallThreeIdeal.Math

end
-- ==== Proof.AdamHalves.lean ====
module

public import proofs.«01_k».proof.Proof.AdamStep

@[expose] public section

set_option maxRecDepth 16384

noncomputable section

open Idealize.ShloMosaic Idealize.ShloMosaic.TcCoe Idealize.SL.Sem
open Idealize.ShloMosaic.Pointwise

namespace Cert.AdamW

/-! ## The optimiser's grid over a matrix: two layers, two halves of the rows, four tiles of a half -/

/-- What belongs to the layer and to the half of grid point `n`: `a` and `b` are the first layer's halves, `c` and `d` the second's. -/
def pick {α : Type} (n : ℕ) (a b c d : α) : α :=
  if n < 4 then a else if n / 8 % 2 + 1 = n / 4 % 2 then b else if n / 8 % 2 = n / 4 % 2 + 1 then c else d

theorem pick_A {α : Type} {n : ℕ} {a b c d : α} (h0 : n < 4) : pick n a b c d = a := if_pos h0

theorem pick_B {α : Type} {n : ℕ} {a b c d : α} (h0 : ¬n < 4) (h1 : n / 8 % 2 + 1 = n / 4 % 2) : pick n a b c d = b :=
  (if_neg h0).trans (if_pos h1)

theorem pick_C {α : Type} {n : ℕ} {a b c d : α} (h0 : ¬n < 4) (h1 : ¬n / 8 % 2 + 1 = n / 4 % 2) (h2 : n / 8 % 2 = n / 4 % 2 + 1) :
    pick n a b c d = c := (if_neg h0).trans ((if_neg h1).trans (if_pos h2))

theorem pick_D {α : Type} {n : ℕ} {a b c d : α} (h0 : ¬n < 4) (h1 : ¬n / 8 % 2 + 1 = n / 4 % 2) (h2 : ¬n / 8 % 2 = n / 4 % 2 + 1) :
    pick n a b c d = d := (if_neg h0).trans ((if_neg h1).trans (if_neg h2))

/-- A grid point is in one of four cases. -/
theorem cases_of_lt {n : ℕ} (hN : n < 16) {P : Prop}
    (hA : n < 4 → ¬n / 8 % 2 + 1 = n / 4 % 2 → ¬n / 8 % 2 = n / 4 % 2 + 1 → ¬12 ≤ n → P)
    (hB : ¬n < 4 → n / 8 % 2 + 1 = n / 4 % 2 → ¬n / 8 % 2 = n / 4 % 2 + 1 → ¬12 ≤ n → P)
    (hC : ¬n < 4 → ¬n / 8 % 2 + 1 = n / 4 % 2 → n / 8 % 2 = n / 4 % 2 + 1 → ¬12 ≤ n → P)
    (hD : ¬n < 4 → ¬n / 8 % 2 + 1 = n / 4 % 2 → ¬n / 8 % 2 = n / 4 % 2 + 1 → 12 ≤ n → P) : P := by
  by_cases h0 : n < 4
  · exact hA h0 (by omega) (by omega) (by omega)
  by_cases h3 : 12 ≤ n
  · exact hD h0 (by omega) (by omega) h3
  by_cases h1 : n < 8
  · exact hB h0 (by omega) (by omega) h3
  · exact hC h0 (by omega) (by omega) h3

/-- The same choice, by the number of the layer and of the half. -/
theorem pick_eq {α : Type} {n : ℕ} (hN : n < 16) (a b c d : α) :
    pick n a b c d = if n / 8 < 1 then (if n / 4 % 2 < 1 then a else b) else (if n / 4 % 2 < 1 then c else d) := by
  refine cases_of_lt hN (fun h0 h1 h2 h3 => ?_) (fun h0 h1 h2 h3 => ?_) (fun h0 h1 h2 h3 => ?_) (fun h0 h1 h2 h3 => ?_)
  · rw [pick_A h0, if_pos (by omega), if_pos (by omega)]
  · rw [pick_B h0 h1, if_pos (by omega), if_neg (by omega)]
  · rw [pick_C h0 h1 h2, if_neg (by omega), if_pos (by omega)]
  · rw [pick_D h0 h1 h2, if_neg (by omega), if_neg (by omega)]

/-- An entry of two arrays put together, read at row `r` of half `h`: `u` of the first at its row, `v` of the second. -/
theorem half_eq {α : Type} {h r n : ℕ} (hh : h < 2) (hr : r < n) (u v : α) {p : h * n + r < n → α} {q : ¬h * n + r < n → α}
    (hp : ∀ e, h = 0 → p e = u) (hq : ∀ e, h = 1 → q e = v) : (if e : h * n + r < n then p e else q e) = if h < 1 then u else v := by
  by_cases h0 : h = 0
  · subst h0
    rw [dif_pos (show 0 * n + r < n by omega), if_pos (by omega)]
    exact hp _ rfl
  · have h1 : h = 1 := by omega
    subst h1
    rw [dif_neg (show ¬1 * n + r < n by omega), if_neg (by omega)]
    exact hq _ rfl

/-! ## A gradient, put together from its layers and the halves of their rows -/

section
variable {n k q : ℕ} (h1 : Shape.Concatenates [(⟨2, ![n, q]⟩ : Shape), ⟨2, ![n, q]⟩] ⟨2, ![k, q]⟩ 0)
  (h2 : (⟨2, ![k, q]⟩ : Shape).BroadcastsInDim ⟨3, ![1, k, q]⟩ (![1, 2] : Fin 2 → Fin 3))
  (h3 : Shape.Concatenates [(⟨3, ![1, k, q]⟩ : Shape), ⟨3, ![1, k, q]⟩] ⟨3, ![2, k, q]⟩ 0)

/-- A layer of a gradient, put together from the halves of its rows. -/
def layer (a b : FVec Ideal ⟨2, ![n, q]⟩ .f32) : FVec Ideal ⟨3, ![1, k, q]⟩ .f32 :=
  broadcastInDim ⟨3, ![1, k, q]⟩ ![1, 2] h2 (concatenate ⟨2, ![k, q]⟩ 0 [⟨⟨2, ![n, q]⟩, a⟩, ⟨⟨2, ![n, q]⟩, b⟩] h1)

/-- A gradient, put together from its layers. -/
def grad (a b c d : FVec Ideal ⟨2, ![n, q]⟩ .f32) : FVec Ideal ⟨3, ![2, k, q]⟩ .f32 :=
  concatenate ⟨3, ![2, k, q]⟩ 0 [⟨⟨3, ![1, k, q]⟩, layer h1 h2 a b⟩, ⟨⟨3, ![1, k, q]⟩, layer h1 h2 c d⟩] h3

theorem fill_at (h0 : k ≠ 1) (hq : q ≠ 1) (x : FVec Ideal ⟨2, ![k, q]⟩ .f32) (r : Fin k) (j : Fin q) :
    broadcastInDim ⟨3, ![1, k, q]⟩ ![1, 2] h2 x (ix3 (0 : Fin 1) r j) = x (ix2 r j) := by
  refine congrArg x (funext fun a => ?_)
  match a with
  | ⟨0, _⟩ => exact dif_neg h0
  | ⟨1, _⟩ => exact dif_neg hq

theorem layer_at (h0 : k ≠ 1) (hq : q ≠ 1) (a b : FVec Ideal ⟨2, ![n, q]⟩ .f32) (h : Fin 2) (r : Fin n) (j : Fin q) (e : h.val * n + r.val < k) :
    layer h1 h2 a b (ix3 (0 : Fin 1) ⟨h.val * n + r.val, e⟩ j) = if h.val < 1 then a (ix2 r j) else b (ix2 r j) := by
  refine (fill_at h2 h0 hq _ _ _).trans ?_
  pointwise []
  refine half_eq (h := h.val) h.isLt r.isLt _ _ (fun _ hh => congrArg a (funext fun x => ?_)) fun _ hh => congrArg b (funext fun x => ?_)
  · match x with
    | ⟨0, _⟩ => exact Fin.ext (by show h.val * n + r.val = r.val; rw [hh]; omega)
    | ⟨1, _⟩ => rfl
  · match x with
    | ⟨0, _⟩ => exact Fin.ext (by show h.val * n + r.val - n = r.val; rw [hh]; omega)
    | ⟨1, _⟩ => rfl

theorem grad_at (h0 : k ≠ 1) (hq : q ≠ 1) (a b c d : FVec Ideal ⟨2, ![n, q]⟩ .f32) (l h : Fin 2) (r : Fin n) (j : Fin q) (e : h.val * n + r.val < k) :
    grad h1 h2 h3 a b c d (ix3 l ⟨h.val * n + r.val, e⟩ j)
      = if l.val < 1 then (if h.val < 1 then a (ix2 r j) else b (ix2 r j)) else (if h.val < 1 then c (ix2 r j) else d (ix2 r j)) := by
  unfold grad
  pointwise []
  by_cases hl : l.val < 1
  · rw [dif_pos hl, if_pos hl]
    refine Eq.trans (congrArg _ ?_) (layer_at h1 h2 h0 hq a b h r j e)
    funext x
    match x with
    | ⟨0, _⟩ => exact Subsingleton.elim (α := Fin 1) _ _
    | ⟨1, _⟩ => rfl
    | ⟨2, _⟩ => rfl
  · rw [dif_neg hl, if_neg hl]
    refine Eq.trans (congrArg _ ?_) (layer_at h1 h2 h0 hq c d h r j e)
    funext x
    match x with
    | ⟨0, _⟩ => exact Subsingleton.elim (α := Fin 1) _ _
    | ⟨1, _⟩ => rfl
    | ⟨2, _⟩ => rfl
end

end Cert.AdamW

end
-- ==== Proof.AdamInMath.lean ====
module

public import proofs.«01_k».proof.Proof.Gen.AdamInIdeal.Value
public import proofs.«01_k».proof.Proof.Gen.AdamInRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Proof.AdamHalves
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.AdamInIdeal.Math

open Cert.AdamInIdeal Cert.AdamInIdeal.Gen
open Idealize.ShloMosaic.Pointwise

variable (m : (ℓ : Loc nD τ sig) → Buf (Elt Ideal) ℓ)

open Cert.AdamW

theorem idx : ∀ t : Fin cfg0.N, win0_0.index t = ![t.val / 8, t.val / 4 % 2, t.val % 4, 0]
    ∧ win0_1.index t = ![t.val / 8, t.val / 4 % 2, t.val % 4, 0]
    ∧ win0_2.index t = ![t.val / 8, t.val / 4 % 2, t.val % 4, 0]
    ∧ win0_7.index t = ![t.val / 8, t.val / 4 % 2, t.val % 4, 0]
    ∧ win0_8.index t = ![t.val / 8, t.val / 4 % 2, t.val % 4, 0]
    ∧ win0_9.index t = ![t.val / 8, t.val / 4 % 2, t.val % 4, 0]
    ∧ win0_10.index t = ![t.val / 8, t.val / 4 % 2, t.val % 4, 0] :=
  (by decide +kernel : ∀ t : Fin grid0.N, _)

theorem idxA : ∀ t : Fin cfg0.N, t.val < 4 → win0_3.index t = ![t.val % 4, 0] :=
  (by decide +kernel : ∀ t : Fin grid0.N, _)

theorem idxB : ∀ t : Fin cfg0.N, t.val / 8 % 2 + 1 = t.val / 4 % 2 → win0_4.index t = ![t.val % 4, 0] :=
  (by decide +kernel : ∀ t : Fin grid0.N, _)

theorem idxC : ∀ t : Fin cfg0.N, t.val / 8 % 2 = t.val / 4 % 2 + 1 → win0_5.index t = ![t.val % 4, 0] :=
  (by decide +kernel : ∀ t : Fin grid0.N, _)

theorem idxD : ∀ t : Fin cfg0.N, 12 ≤ t.val → win0_6.index t = ![t.val % 4, 0] :=
  (by decide +kernel : ∀ t : Fin grid0.N, _)

abbrev cast := Cert.AdamInRefIdeal.Gen.shapeCasts_S2x1856x1024_S2x2x928x1024

abbrev fill := Cert.AdamInRefIdeal.Gen.bcast_S_S2x1856x1024

/-- The gradient of the arguments in memory. -/
abbrev G (c : Dev nD) : FVec Ideal S2x1856x1024 .f32 :=
  grad Cert.AdamInRefIdeal.Gen.concatenates_S928x1024_S928x1024_S1856x1024_d0 Cert.AdamInRefIdeal.Gen.bcast_S1856x1024_S1x1856x1024_1_2 Cert.AdamInRefIdeal.Gen.concatenates_S1x1856x1024_S1x1856x1024_S2x1856x1024_d0
    (m ((c : Thread nD τ).loc main_arg3)) (m ((c : Thread nD τ).loc main_arg5)) (m ((c : Thread nD τ).loc main_arg4)) (m ((c : Thread nD τ).loc main_arg6))

theorem cast_at (x : FVec Ideal S2x1856x1024 .f32) (l h : Fin 2) (r : Fin 928) (q : Fin 1024) :
    shapeCast S2x2x928x1024 x cast (ix4 l h r q) = x (ix3 l (⟨h.val * 928 + r.val, by omega⟩ : Fin 1856) q) := by
  pointwise []

/-- The gradient's block which a grid point reads. -/
def src (c : Dev nD) (t : Fin cfg0.N) : FVec Ideal S232x1024 .f32 :=
  pick t.val (show FVec Ideal S232x1024 .f32 from iblk m c 3 t) (show FVec Ideal S232x1024 .f32 from iblk m c 4 t)
    (show FVec Ideal S232x1024 .f32 from iblk m c 5 t) (show FVec Ideal S232x1024 .f32 from iblk m c 6 t)

/-- What a grid point leaves in its four output blocks. -/
theorem outs (c : Dev nD) (t : Fin cfg0.N) (r : Fin 232) (q : Fin 1024) :
    (outsAt0 m c t.val t.isLt).1 (ix4 (0 : Fin 1) (0 : Fin 1) r q) = src m c t (ix2 r q)
    ∧ (outsAt0 m c t.val t.isLt).2.1 (ix4 (0 : Fin 1) (0 : Fin 1) r q)
      = delta ((show FVec Ideal S1x1x232x1024 .f32 from iblk m c 0 t) (ix4 (0 : Fin 1) (0 : Fin 1) r q)) (src m c t (ix2 r q))
          ((show FVec Ideal S1x1x232x1024 .f32 from iblk m c 1 t) (ix4 (0 : Fin 1) (0 : Fin 1) r q))
          ((show FVec Ideal S1x1x232x1024 .f32 from iblk m c 2 t) (ix4 (0 : Fin 1) (0 : Fin 1) r q))
    ∧ (outsAt0 m c t.val t.isLt).2.2.1 (ix4 (0 : Fin 1) (0 : Fin 1) r q)
      = newM (src m c t (ix2 r q)) ((show FVec Ideal S1x1x232x1024 .f32 from iblk m c 1 t) (ix4 (0 : Fin 1) (0 : Fin 1) r q))
    ∧ (outsAt0 m c t.val t.isLt).2.2.2 (ix4 (0 : Fin 1) (0 : Fin 1) r q)
      = newV (src m c t (ix2 r q)) ((show FVec Ideal S1x1x232x1024 .f32 from iblk m c 2 t) (ix4 (0 : Fin 1) (0 : Fin 1) r q)) := by
  unfold delta newM newV
  refine cases_of_lt (show t.val < 16 from t.isLt) (fun h0 h1 h2 h3 => ?_) (fun h0 h1 h2 h3 => ?_) (fun h0 h1 h2 h3 => ?_) (fun h0 h1 h2 h3 => ?_)
  · rw [src, pick_A h0, outsAt0_A m c t h0 h1 h2 h3]
    exact ⟨by frame_out; pointwise [k0_pay13], by frame_out; pointwise [k0_pay1, k0_pay16, k0_pay15, k0_pay14],
      by frame_out; pointwise [k0_pay2, k0_pay14], by frame_out; pointwise [k0_pay3, k0_pay15]⟩
  · rw [src, pick_B h0 h1, outsAt0_B m c t h0 h1 h2 h3]
    exact ⟨by frame_out; pointwise [k0_pay17], by frame_out; pointwise [k0_pay4, k0_pay20, k0_pay19, k0_pay18],
      by frame_out; pointwise [k0_pay5, k0_pay18], by frame_out; pointwise [k0_pay6, k0_pay19]⟩
  · rw [src, pick_C h0 h1 h2, outsAt0_C m c t h0 h1 h2 h3]
    exact ⟨by frame_out; pointwise [k0_pay21], by frame_out; pointwise [k0_pay7, k0_pay24, k0_pay23, k0_pay22],
      by frame_out; pointwise [k0_pay8, k0_pay22], by frame_out; pointwise [k0_pay9, k0_pay23]⟩
  · rw [src, pick_D h0 h1 h2, outsAt0_D m c t h0 h1 h2 h3]
    exact ⟨by frame_out; pointwise [k0_pay25], by frame_out; pointwise [k0_pay10, k0_pay28, k0_pay27, k0_pay26],
      by frame_out; pointwise [k0_pay11, k0_pay26], by frame_out; pointwise [k0_pay12, k0_pay27]⟩

/-- The place in the whole array of a grid point's block. -/
abbrev place (t : Fin cfg0.N) (r : Fin 232) (q : Fin 1024) : S2x2x928x1024.Idx :=
  ix4 (⟨t.val / 8, by have h : t.val < 16 := t.isLt; omega⟩ : Fin 2) (⟨t.val / 4 % 2, by omega⟩ : Fin 2) (⟨t.val % 4 * 232 + r.val, by omega⟩ : Fin 928) q

theorem ins (c : Dev nD) (t : Fin cfg0.N) (r : Fin 232) (q : Fin 1024) :
    (show FVec Ideal S1x1x232x1024 .f32 from iblk m c 0 t) (ix4 (0 : Fin 1) (0 : Fin 1) r q) = shapeCast S2x2x928x1024 (show FVec Ideal S2x1856x1024 .f32 from (m ((c : Thread nD τ).loc main_arg0))) cast (place t r q)
    ∧ (show FVec Ideal S1x1x232x1024 .f32 from iblk m c 1 t) (ix4 (0 : Fin 1) (0 : Fin 1) r q) = shapeCast S2x2x928x1024 (show FVec Ideal S2x1856x1024 .f32 from (m ((c : Thread nD τ).loc main_arg1))) cast (place t r q)
    ∧ (show FVec Ideal S1x1x232x1024 .f32 from iblk m c 2 t) (ix4 (0 : Fin 1) (0 : Fin 1) r q) = shapeCast S2x2x928x1024 (show FVec Ideal S2x1856x1024 .f32 from (m ((c : Thread nD τ).loc main_arg2))) cast (place t r q) := by
  refine ⟨?_, ?_, ?_⟩
  all_goals
    blk_simp [iblk, idx t]
    entry_read
    refine congrArg _ ?_
    blk_ext [idx t] <;> rfl

theorem in_g (c : Dev nD) (t : Fin cfg0.N) (r : Fin 232) (q : Fin 1024) :
    src m c t (ix2 r q) = shapeCast S2x2x928x1024 (G m c) cast (place t r q) := by
  have hN : t.val < 16 := t.isLt
  refine Eq.trans ?_ ((pick_eq hN _ _ _ _).trans ((cast_at (G m c) ⟨t.val / 8, by omega⟩ ⟨t.val / 4 % 2, by omega⟩ ⟨t.val % 4 * 232 + r.val, by omega⟩ q).trans
    (grad_at _ _ _ (by decide) (by decide) _ _ _ _ _ _ _ _ _)).symm)
  refine cases_of_lt (show t.val < 16 from t.isLt) (fun h0 h1 h2 h3 => ?_) (fun h0 h1 h2 h3 => ?_) (fun h0 h1 h2 h3 => ?_) (fun h0 h1 h2 h3 => ?_)
  · rw [src, pick_A h0, pick_A h0]; blk_ext [iblk, V_main_arg3, idxA t h0]
  · rw [src, pick_B h0 h1, pick_B h0 h1]; blk_ext [iblk, V_main_arg5, idxB t h1]
  · rw [src, pick_C h0 h1 h2, pick_C h0 h1 h2]; blk_ext [iblk, V_main_arg4, idxC t h2]
  · rw [src, pick_D h0 h1 h2, pick_D h0 h1 h2]; blk_ext [iblk, V_main_arg6, idxD t h3]

theorem final7 (c : Dev nD) : (dats m 0 c).arrAt 7 (cfgs 0).N = shapeCast S2x2x928x1024 (G m c) cast := by
  refine (dats m 0 c).arrAt_eq_of_covers 7 _ (by decide +kernel) fun t hf y => ?_
  blk_simp
  rw [after0_7]
  refine Eq.trans (congrArg _ ?_) ((outs m c t (y 2) (y 3)).1.trans ((in_g m c t (y 2) (y 3)).trans (congrArg _ ?_)))
  · blk_ext
  · blk_ext [idx t] <;> rfl

theorem final8 (c : Dev nD) : (dats m 0 c).arrAt 8 (cfgs 0).N = castD S2x1856x1024 fill S2x2x928x1024 cast (m ((c : Thread nD τ).loc main_arg0)) (G m c) (m ((c : Thread nD τ).loc main_arg1)) (m ((c : Thread nD τ).loc main_arg2)) := by
  refine (dats m 0 c).arrAt_eq_of_covers 8 _ (by decide +kernel) fun t hf y => ?_
  blk_simp
  rw [after0_8]
  refine Eq.trans (congrArg _ ?_) ((outs m c t (y 2) (y 3)).2.1.trans ((congr4 delta (ins m c t (y 2) (y 3)).1 (in_g m c t (y 2) (y 3)) (ins m c t (y 2) (y 3)).2.1 (ins m c t (y 2) (y 3)).2.2).trans
    ((castD_at S2x1856x1024 fill S2x2x928x1024 cast _ _ _ _ _).symm.trans (congrArg _ ?_))))
  · blk_ext
  · blk_ext [idx t] <;> rfl

theorem final9 (c : Dev nD) : (dats m 0 c).arrAt 9 (cfgs 0).N = castM S2x1856x1024 fill S2x2x928x1024 cast (G m c) (m ((c : Thread nD τ).loc main_arg1)) := by
  refine (dats m 0 c).arrAt_eq_of_covers 9 _ (by decide +kernel) fun t hf y => ?_
  blk_simp
  rw [after0_9]
  refine Eq.trans (congrArg _ ?_) ((outs m c t (y 2) (y 3)).2.2.1.trans ((congr2 newM (in_g m c t (y 2) (y 3)) (ins m c t (y 2) (y 3)).2.1).trans
    ((castM_at S2x1856x1024 fill S2x2x928x1024 cast _ _ _).symm.trans (congrArg _ ?_))))
  · blk_ext
  · blk_ext [idx t] <;> rfl

theorem final10 (c : Dev nD) : (dats m 0 c).arrAt 10 (cfgs 0).N = castV S2x1856x1024 fill S2x2x928x1024 cast (G m c) (m ((c : Thread nD τ).loc main_arg2)) := by
  refine (dats m 0 c).arrAt_eq_of_covers 10 _ (by decide +kernel) fun t hf y => ?_
  blk_simp
  rw [after0_10]
  refine Eq.trans (congrArg _ ?_) ((outs m c t (y 2) (y 3)).2.2.2.trans ((congr2 newV (in_g m c t (y 2) (y 3)) (ins m c t (y 2) (y 3)).2.2).trans
    ((castV_at S2x1856x1024 fill S2x2x928x1024 cast _ _ _).symm.trans (congrArg _ ?_))))
  · blk_ext
  · blk_ext [idx t] <;> rfl

/-- The reference runs, its arguments end unchanged; it declares no semaphore. -/
theorem refFrame : @Cert.quiescent_AdamInRefIdeal Cert.AdamInRefIdeal.Gen.facts := fun m ρ _ =>
  (θ_run _ _ _).mono (fun r h => ⟨fun c => (h c).2.2.2.2, Idealize.ShloMosaic.sem_eq_zero_of_no_sems (by decide) r.2⟩)
    (Cert.AdamInRefIdeal.Value.run m ρ)

/-- Kernel and reference end with equal results. -/
theorem alg : @Cert.algebraic_AdamInIdeal_AdamInRefIdeal Cert.AdamInIdeal.Gen.facts Cert.AdamInRefIdeal.Gen.facts := by
  intro m g m' g' _ hargs
  have hg := fun c => congr4 (grad Cert.AdamInRefIdeal.Gen.concatenates_S928x1024_S928x1024_S1856x1024_d0 Cert.AdamInRefIdeal.Gen.bcast_S1856x1024_S1x1856x1024_1_2 Cert.AdamInRefIdeal.Gen.concatenates_S1x1856x1024_S1x1856x1024_S2x1856x1024_d0) ((hargs c).2.2.2.1) ((hargs c).2.2.2.2.2.1) ((hargs c).2.2.2.2.1) ((hargs c).2.2.2.2.2.2)
  refine ⟨fun c => (dats m 0 c).arrAt 7 cfg0.N, fun c => (dats m 0 c).arrAt 8 cfg0.N, fun c => (dats m 0 c).arrAt 9 cfg0.N, fun c => (dats m 0 c).arrAt 10 cfg0.N,
    Cert.AdamInIdeal.Value.run_blocks m g,
    (θ_run _ _ _).mono (fun r h c => ⟨(h c).1.trans ?_, (h c).2.1.trans ?_, (h c).2.2.1.trans ?_, (h c).2.2.2.1.trans ?_, (h c).2.2.2.2⟩) (Cert.AdamInRefIdeal.Value.run m' g')⟩
  · exact (congrArg (fun a => shapeCast S2x2x928x1024 a cast) (hg c)).trans (final7 m c).symm
  · exact (congr4 (castD S2x1856x1024 fill S2x2x928x1024 cast) ((hargs c).1) (hg c) ((hargs c).2.1) ((hargs c).2.2.1)).trans (final8 m c).symm
  · exact (congr2 (castM S2x1856x1024 fill S2x2x928x1024 cast) (hg c) ((hargs c).2.1)).trans (final9 m c).symm
  · exact (congr2 (castV S2x1856x1024 fill S2x2x928x1024 cast) (hg c) ((hargs c).2.2.1)).trans (final10 m c).symm

end Cert.AdamInIdeal.Math

end
-- ==== Proof.AdamFfMath.lean ====
module

public import proofs.«01_k».proof.Proof.Gen.AdamFfIdeal.Value
public import proofs.«01_k».proof.Proof.Gen.AdamFfRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Proof.AdamHalves
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.AdamFfIdeal.Math

open Cert.AdamFfIdeal Cert.AdamFfIdeal.Gen
open Idealize.ShloMosaic.Pointwise

variable (m : (ℓ : Loc nD τ sig) → Buf (Elt Ideal) ℓ)

open Cert.AdamW

theorem idx : ∀ t : Fin cfg0.N, win0_0.index t = ![t.val / 8, t.val / 4 % 2, t.val % 4, 0]
    ∧ win0_1.index t = ![t.val / 8, t.val / 4 % 2, t.val % 4, 0]
    ∧ win0_2.index t = ![t.val / 8, t.val / 4 % 2, t.val % 4, 0]
    ∧ win0_7.index t = ![t.val / 8, t.val / 4 % 2, t.val % 4, 0]
    ∧ win0_8.index t = ![t.val / 8, t.val / 4 % 2, t.val % 4, 0]
    ∧ win0_9.index t = ![t.val / 8, t.val / 4 % 2, t.val % 4, 0]
    ∧ win0_10.index t = ![t.val / 8, t.val / 4 % 2, t.val % 4, 0] :=
  (by decide +kernel : ∀ t : Fin grid0.N, _)

theorem idxA : ∀ t : Fin cfg0.N, t.val < 4 → win0_3.index t = ![t.val % 4, 0] :=
  (by decide +kernel : ∀ t : Fin grid0.N, _)

theorem idxB : ∀ t : Fin cfg0.N, t.val / 8 % 2 + 1 = t.val / 4 % 2 → win0_4.index t = ![t.val % 4, 0] :=
  (by decide +kernel : ∀ t : Fin grid0.N, _)

theorem idxC : ∀ t : Fin cfg0.N, t.val / 8 % 2 = t.val / 4 % 2 + 1 → win0_5.index t = ![t.val % 4, 0] :=
  (by decide +kernel : ∀ t : Fin grid0.N, _)

theorem idxD : ∀ t : Fin cfg0.N, 12 ≤ t.val → win0_6.index t = ![t.val % 4, 0] :=
  (by decide +kernel : ∀ t : Fin grid0.N, _)

abbrev cast := Cert.AdamFfRefIdeal.Gen.shapeCasts_S2x1024x1024_S2x2x512x1024

abbrev fill := Cert.AdamFfRefIdeal.Gen.bcast_S_S2x1024x1024

/-- The gradient of the arguments in memory. -/
abbrev G (c : Dev nD) : FVec Ideal S2x1024x1024 .f32 :=
  grad Cert.AdamFfRefIdeal.Gen.concatenates_S512x1024_S512x1024_S1024x1024_d0 Cert.AdamFfRefIdeal.Gen.bcast_S1024x1024_S1x1024x1024_1_2 Cert.AdamFfRefIdeal.Gen.concatenates_S1x1024x1024_S1x1024x1024_S2x1024x1024_d0
    (m ((c : Thread nD τ).loc main_arg3)) (m ((c : Thread nD τ).loc main_arg5)) (m ((c : Thread nD τ).loc main_arg4)) (m ((c : Thread nD τ).loc main_arg6))

theorem cast_at (x : FVec Ideal S2x1024x1024 .f32) (l h : Fin 2) (r : Fin 512) (q : Fin 1024) :
    shapeCast S2x2x512x1024 x cast (ix4 l h r q) = x (ix3 l (⟨h.val * 512 + r.val, by omega⟩ : Fin 1024) q) := by
  pointwise []

/-- The gradient's block which a grid point reads. -/
def src (c : Dev nD) (t : Fin cfg0.N) : FVec Ideal S128x1024 .f32 :=
  pick t.val (show FVec Ideal S128x1024 .f32 from iblk m c 3 t) (show FVec Ideal S128x1024 .f32 from iblk m c 4 t)
    (show FVec Ideal S128x1024 .f32 from iblk m c 5 t) (show FVec Ideal S128x1024 .f32 from iblk m c 6 t)

/-- What a grid point leaves in its four output blocks. -/
theorem outs (c : Dev nD) (t : Fin cfg0.N) (r : Fin 128) (q : Fin 1024) :
    (outsAt0 m c t.val t.isLt).1 (ix4 (0 : Fin 1) (0 : Fin 1) r q) = src m c t (ix2 r q)
    ∧ (outsAt0 m c t.val t.isLt).2.1 (ix4 (0 : Fin 1) (0 : Fin 1) r q)
      = delta ((show FVec Ideal S1x1x128x1024 .f32 from iblk m c 0 t) (ix4 (0 : Fin 1) (0 : Fin 1) r q)) (src m c t (ix2 r q))
          ((show FVec Ideal S1x1x128x1024 .f32 from iblk m c 1 t) (ix4 (0 : Fin 1) (0 : Fin 1) r q))
          ((show FVec Ideal S1x1x128x1024 .f32 from iblk m c 2 t) (ix4 (0 : Fin 1) (0 : Fin 1) r q))
    ∧ (outsAt0 m c t.val t.isLt).2.2.1 (ix4 (0 : Fin 1) (0 : Fin 1) r q)
      = newM (src m c t (ix2 r q)) ((show FVec Ideal S1x1x128x1024 .f32 from iblk m c 1 t) (ix4 (0 : Fin 1) (0 : Fin 1) r q))
    ∧ (outsAt0 m c t.val t.isLt).2.2.2 (ix4 (0 : Fin 1) (0 : Fin 1) r q)
      = newV (src m c t (ix2 r q)) ((show FVec Ideal S1x1x128x1024 .f32 from iblk m c 2 t) (ix4 (0 : Fin 1) (0 : Fin 1) r q)) := by
  unfold delta newM newV
  refine cases_of_lt (show t.val < 16 from t.isLt) (fun h0 h1 h2 h3 => ?_) (fun h0 h1 h2 h3 => ?_) (fun h0 h1 h2 h3 => ?_) (fun h0 h1 h2 h3 => ?_)
  · rw [src, pick_A h0, outsAt0_A m c t h0 h1 h2 h3]
    exact ⟨by frame_out; pointwise [k0_pay13], by frame_out; pointwise [k0_pay1, k0_pay16, k0_pay15, k0_pay14],
      by frame_out; pointwise [k0_pay2, k0_pay14], by frame_out; pointwise [k0_pay3, k0_pay15]⟩
  · rw [src, pick_B h0 h1, outsAt0_B m c t h0 h1 h2 h3]
    exact ⟨by frame_out; pointwise [k0_pay17], by frame_out; pointwise [k0_pay4, k0_pay20, k0_pay19, k0_pay18],
      by frame_out; pointwise [k0_pay5, k0_pay18], by frame_out; pointwise [k0_pay6, k0_pay19]⟩
  · rw [src, pick_C h0 h1 h2, outsAt0_C m c t h0 h1 h2 h3]
    exact ⟨by frame_out; pointwise [k0_pay21], by frame_out; pointwise [k0_pay7, k0_pay24, k0_pay23, k0_pay22],
      by frame_out; pointwise [k0_pay8, k0_pay22], by frame_out; pointwise [k0_pay9, k0_pay23]⟩
  · rw [src, pick_D h0 h1 h2, outsAt0_D m c t h0 h1 h2 h3]
    exact ⟨by frame_out; pointwise [k0_pay25], by frame_out; pointwise [k0_pay10, k0_pay28, k0_pay27, k0_pay26],
      by frame_out; pointwise [k0_pay11, k0_pay26], by frame_out; pointwise [k0_pay12, k0_pay27]⟩

/-- The place in the whole array of a grid point's block. -/
abbrev place (t : Fin cfg0.N) (r : Fin 128) (q : Fin 1024) : S2x2x512x1024.Idx :=
  ix4 (⟨t.val / 8, by have h : t.val < 16 := t.isLt; omega⟩ : Fin 2) (⟨t.val / 4 % 2, by omega⟩ : Fin 2) (⟨t.val % 4 * 128 + r.val, by omega⟩ : Fin 512) q

theorem ins (c : Dev nD) (t : Fin cfg0.N) (r : Fin 128) (q : Fin 1024) :
    (show FVec Ideal S1x1x128x1024 .f32 from iblk m c 0 t) (ix4 (0 : Fin 1) (0 : Fin 1) r q) = shapeCast S2x2x512x1024 (show FVec Ideal S2x1024x1024 .f32 from (m ((c : Thread nD τ).loc main_arg0))) cast (place t r q)
    ∧ (show FVec Ideal S1x1x128x1024 .f32 from iblk m c 1 t) (ix4 (0 : Fin 1) (0 : Fin 1) r q) = shapeCast S2x2x512x1024 (show FVec Ideal S2x1024x1024 .f32 from (m ((c : Thread nD τ).loc main_arg1))) cast (place t r q)
    ∧ (show FVec Ideal S1x1x128x1024 .f32 from iblk m c 2 t) (ix4 (0 : Fin 1) (0 : Fin 1) r q) = shapeCast S2x2x512x1024 (show FVec Ideal S2x1024x1024 .f32 from (m ((c : Thread nD τ).loc main_arg2))) cast (place t r q) := by
  refine ⟨?_, ?_, ?_⟩
  all_goals
    blk_simp [iblk, idx t]
    entry_read
    refine congrArg _ ?_
    blk_ext [idx t] <;> rfl

theorem in_g (c : Dev nD) (t : Fin cfg0.N) (r : Fin 128) (q : Fin 1024) :
    src m c t (ix2 r q) = shapeCast S2x2x512x1024 (G m c) cast (place t r q) := by
  have hN : t.val < 16 := t.isLt
  refine Eq.trans ?_ ((pick_eq hN _ _ _ _).trans ((cast_at (G m c) ⟨t.val / 8, by omega⟩ ⟨t.val / 4 % 2, by omega⟩ ⟨t.val % 4 * 128 + r.val, by omega⟩ q).trans
    (grad_at _ _ _ (by decide) (by decide) _ _ _ _ _ _ _ _ _)).symm)
  refine cases_of_lt (show t.val < 16 from t.isLt) (fun h0 h1 h2 h3 => ?_) (fun h0 h1 h2 h3 => ?_) (fun h0 h1 h2 h3 => ?_) (fun h0 h1 h2 h3 => ?_)
  · rw [src, pick_A h0, pick_A h0]; blk_ext [iblk, V_main_arg3, idxA t h0]
  · rw [src, pick_B h0 h1, pick_B h0 h1]; blk_ext [iblk, V_main_arg5, idxB t h1]
  · rw [src, pick_C h0 h1 h2, pick_C h0 h1 h2]; blk_ext [iblk, V_main_arg4, idxC t h2]
  · rw [src, pick_D h0 h1 h2, pick_D h0 h1 h2]; blk_ext [iblk, V_main_arg6, idxD t h3]

theorem final7 (c : Dev nD) : (dats m 0 c).arrAt 7 (cfgs 0).N = shapeCast S2x2x512x1024 (G m c) cast := by
  refine (dats m 0 c).arrAt_eq_of_covers 7 _ (by decide +kernel) fun t hf y => ?_
  blk_simp
  rw [after0_7]
  refine Eq.trans (congrArg _ ?_) ((outs m c t (y 2) (y 3)).1.trans ((in_g m c t (y 2) (y 3)).trans (congrArg _ ?_)))
  · blk_ext
  · blk_ext [idx t] <;> rfl

theorem final8 (c : Dev nD) : (dats m 0 c).arrAt 8 (cfgs 0).N = castD S2x1024x1024 fill S2x2x512x1024 cast (m ((c : Thread nD τ).loc main_arg0)) (G m c) (m ((c : Thread nD τ).loc main_arg1)) (m ((c : Thread nD τ).loc main_arg2)) := by
  refine (dats m 0 c).arrAt_eq_of_covers 8 _ (by decide +kernel) fun t hf y => ?_
  blk_simp
  rw [after0_8]
  refine Eq.trans (congrArg _ ?_) ((outs m c t (y 2) (y 3)).2.1.trans ((congr4 delta (ins m c t (y 2) (y 3)).1 (in_g m c t (y 2) (y 3)) (ins m c t (y 2) (y 3)).2.1 (ins m c t (y 2) (y 3)).2.2).trans
    ((castD_at S2x1024x1024 fill S2x2x512x1024 cast _ _ _ _ _).symm.trans (congrArg _ ?_))))
  · blk_ext
  · blk_ext [idx t] <;> rfl

theorem final9 (c : Dev nD) : (dats m 0 c).arrAt 9 (cfgs 0).N = castM S2x1024x1024 fill S2x2x512x1024 cast (G m c) (m ((c : Thread nD τ).loc main_arg1)) := by
  refine (dats m 0 c).arrAt_eq_of_covers 9 _ (by decide +kernel) fun t hf y => ?_
  blk_simp
  rw [after0_9]
  refine Eq.trans (congrArg _ ?_) ((outs m c t (y 2) (y 3)).2.2.1.trans ((congr2 newM (in_g m c t (y 2) (y 3)) (ins m c t (y 2) (y 3)).2.1).trans
    ((castM_at S2x1024x1024 fill S2x2x512x1024 cast _ _ _).symm.trans (congrArg _ ?_))))
  · blk_ext
  · blk_ext [idx t] <;> rfl

theorem final10 (c : Dev nD) : (dats m 0 c).arrAt 10 (cfgs 0).N = castV S2x1024x1024 fill S2x2x512x1024 cast (G m c) (m ((c : Thread nD τ).loc main_arg2)) := by
  refine (dats m 0 c).arrAt_eq_of_covers 10 _ (by decide +kernel) fun t hf y => ?_
  blk_simp
  rw [after0_10]
  refine Eq.trans (congrArg _ ?_) ((outs m c t (y 2) (y 3)).2.2.2.trans ((congr2 newV (in_g m c t (y 2) (y 3)) (ins m c t (y 2) (y 3)).2.2).trans
    ((castV_at S2x1024x1024 fill S2x2x512x1024 cast _ _ _).symm.trans (congrArg _ ?_))))
  · blk_ext
  · blk_ext [idx t] <;> rfl

/-- The reference runs, its arguments end unchanged; it declares no semaphore. -/
theorem refFrame : @Cert.quiescent_AdamFfRefIdeal Cert.AdamFfRefIdeal.Gen.facts := fun m ρ _ =>
  (θ_run _ _ _).mono (fun r h => ⟨fun c => (h c).2.2.2.2, Idealize.ShloMosaic.sem_eq_zero_of_no_sems (by decide) r.2⟩)
    (Cert.AdamFfRefIdeal.Value.run m ρ)

/-- Kernel and reference end with equal results. -/
theorem alg : @Cert.algebraic_AdamFfIdeal_AdamFfRefIdeal Cert.AdamFfIdeal.Gen.facts Cert.AdamFfRefIdeal.Gen.facts := by
  intro m g m' g' _ hargs
  have hg := fun c => congr4 (grad Cert.AdamFfRefIdeal.Gen.concatenates_S512x1024_S512x1024_S1024x1024_d0 Cert.AdamFfRefIdeal.Gen.bcast_S1024x1024_S1x1024x1024_1_2 Cert.AdamFfRefIdeal.Gen.concatenates_S1x1024x1024_S1x1024x1024_S2x1024x1024_d0) ((hargs c).2.2.2.1) ((hargs c).2.2.2.2.2.1) ((hargs c).2.2.2.2.1) ((hargs c).2.2.2.2.2.2)
  refine ⟨fun c => (dats m 0 c).arrAt 7 cfg0.N, fun c => (dats m 0 c).arrAt 8 cfg0.N, fun c => (dats m 0 c).arrAt 9 cfg0.N, fun c => (dats m 0 c).arrAt 10 cfg0.N,
    Cert.AdamFfIdeal.Value.run_blocks m g,
    (θ_run _ _ _).mono (fun r h c => ⟨(h c).1.trans ?_, (h c).2.1.trans ?_, (h c).2.2.1.trans ?_, (h c).2.2.2.1.trans ?_, (h c).2.2.2.2⟩) (Cert.AdamFfRefIdeal.Value.run m' g')⟩
  · exact (congrArg (fun a => shapeCast S2x2x512x1024 a cast) (hg c)).trans (final7 m c).symm
  · exact (congr4 (castD S2x1024x1024 fill S2x2x512x1024 cast) ((hargs c).1) (hg c) ((hargs c).2.1) ((hargs c).2.2.1)).trans (final8 m c).symm
  · exact (congr2 (castM S2x1024x1024 fill S2x2x512x1024 cast) (hg c) ((hargs c).2.1)).trans (final9 m c).symm
  · exact (congr2 (castV S2x1024x1024 fill S2x2x512x1024 cast) (hg c) ((hargs c).2.2.1)).trans (final10 m c).symm

end Cert.AdamFfIdeal.Math

end
-- ==== Proof.AdamOMath.lean ====
module

public import proofs.«01_k».proof.Proof.Gen.AdamOIdeal.Value
public import proofs.«01_k».proof.Proof.Gen.AdamORefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Proof.AdamHalves
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.AdamOIdeal.Math

open Cert.AdamOIdeal Cert.AdamOIdeal.Gen
open Idealize.ShloMosaic.Pointwise

variable (m : (ℓ : Loc nD τ sig) → Buf (Elt Ideal) ℓ)

open Cert.AdamW

theorem idx : ∀ t : Fin cfg0.N, win0_0.index t = ![t.val / 8, t.val / 4 % 2, t.val % 4, 0]
    ∧ win0_1.index t = ![t.val / 8, t.val / 4 % 2, t.val % 4, 0]
    ∧ win0_2.index t = ![t.val / 8, t.val / 4 % 2, t.val % 4, 0]
    ∧ win0_7.index t = ![t.val / 8, t.val / 4 % 2, t.val % 4, 0]
    ∧ win0_8.index t = ![t.val / 8, t.val / 4 % 2, t.val % 4, 0]
    ∧ win0_9.index t = ![t.val / 8, t.val / 4 % 2, t.val % 4, 0]
    ∧ win0_10.index t = ![t.val / 8, t.val / 4 % 2, t.val % 4, 0] :=
  (by decide +kernel : ∀ t : Fin grid0.N, _)

theorem idxA : ∀ t : Fin cfg0.N, t.val < 4 → win0_3.index t = ![t.val % 4, 0] :=
  (by decide +kernel : ∀ t : Fin grid0.N, _)

theorem idxB : ∀ t : Fin cfg0.N, t.val / 8 % 2 + 1 = t.val / 4 % 2 → win0_4.index t = ![t.val % 4, 0] :=
  (by decide +kernel : ∀ t : Fin grid0.N, _)

theorem idxC : ∀ t : Fin cfg0.N, t.val / 8 % 2 = t.val / 4 % 2 + 1 → win0_5.index t = ![t.val % 4, 0] :=
  (by decide +kernel : ∀ t : Fin grid0.N, _)

theorem idxD : ∀ t : Fin cfg0.N, 12 ≤ t.val → win0_6.index t = ![t.val % 4, 0] :=
  (by decide +kernel : ∀ t : Fin grid0.N, _)

abbrev cast := Cert.AdamORefIdeal.Gen.shapeCasts_S2x256x1024_S2x2x128x1024

abbrev fill := Cert.AdamORefIdeal.Gen.bcast_S_S2x256x1024

/-- The gradient of the arguments in memory. -/
abbrev G (c : Dev nD) : FVec Ideal S2x256x1024 .f32 :=
  grad Cert.AdamORefIdeal.Gen.concatenates_S128x1024_S128x1024_S256x1024_d0 Cert.AdamORefIdeal.Gen.bcast_S256x1024_S1x256x1024_1_2 Cert.AdamORefIdeal.Gen.concatenates_S1x256x1024_S1x256x1024_S2x256x1024_d0
    (m ((c : Thread nD τ).loc main_arg3)) (m ((c : Thread nD τ).loc main_arg5)) (m ((c : Thread nD τ).loc main_arg4)) (m ((c : Thread nD τ).loc main_arg6))

theorem cast_at (x : FVec Ideal S2x256x1024 .f32) (l h : Fin 2) (r : Fin 128) (q : Fin 1024) :
    shapeCast S2x2x128x1024 x cast (ix4 l h r q) = x (ix3 l (⟨h.val * 128 + r.val, by omega⟩ : Fin 256) q) := by
  pointwise []

/-- The gradient's block which a grid point reads. -/
def src (c : Dev nD) (t : Fin cfg0.N) : FVec Ideal S32x1024 .f32 :=
  pick t.val (show FVec Ideal S32x1024 .f32 from iblk m c 3 t) (show FVec Ideal S32x1024 .f32 from iblk m c 4 t)
    (show FVec Ideal S32x1024 .f32 from iblk m c 5 t) (show FVec Ideal S32x1024 .f32 from iblk m c 6 t)

/-- What a grid point leaves in its four output blocks. -/
theorem outs (c : Dev nD) (t : Fin cfg0.N) (r : Fin 32) (q : Fin 1024) :
    (outsAt0 m c t.val t.isLt).1 (ix4 (0 : Fin 1) (0 : Fin 1) r q) = src m c t (ix2 r q)
    ∧ (outsAt0 m c t.val t.isLt).2.1 (ix4 (0 : Fin 1) (0 : Fin 1) r q)
      = delta ((show FVec Ideal S1x1x32x1024 .f32 from iblk m c 0 t) (ix4 (0 : Fin 1) (0 : Fin 1) r q)) (src m c t (ix2 r q))
          ((show FVec Ideal S1x1x32x1024 .f32 from iblk m c 1 t) (ix4 (0 : Fin 1) (0 : Fin 1) r q))
          ((show FVec Ideal S1x1x32x1024 .f32 from iblk m c 2 t) (ix4 (0 : Fin 1) (0 : Fin 1) r q))
    ∧ (outsAt0 m c t.val t.isLt).2.2.1 (ix4 (0 : Fin 1) (0 : Fin 1) r q)
      = newM (src m c t (ix2 r q)) ((show FVec Ideal S1x1x32x1024 .f32 from iblk m c 1 t) (ix4 (0 : Fin 1) (0 : Fin 1) r q))
    ∧ (outsAt0 m c t.val t.isLt).2.2.2 (ix4 (0 : Fin 1) (0 : Fin 1) r q)
      = newV (src m c t (ix2 r q)) ((show FVec Ideal S1x1x32x1024 .f32 from iblk m c 2 t) (ix4 (0 : Fin 1) (0 : Fin 1) r q)) := by
  unfold delta newM newV
  refine cases_of_lt (show t.val < 16 from t.isLt) (fun h0 h1 h2 h3 => ?_) (fun h0 h1 h2 h3 => ?_) (fun h0 h1 h2 h3 => ?_) (fun h0 h1 h2 h3 => ?_)
  · rw [src, pick_A h0, outsAt0_A m c t h0 h1 h2 h3]
    exact ⟨by frame_out; pointwise [k0_pay13], by frame_out; pointwise [k0_pay1, k0_pay16, k0_pay15, k0_pay14],
      by frame_out; pointwise [k0_pay2, k0_pay14], by frame_out; pointwise [k0_pay3, k0_pay15]⟩
  · rw [src, pick_B h0 h1, outsAt0_B m c t h0 h1 h2 h3]
    exact ⟨by frame_out; pointwise [k0_pay17], by frame_out; pointwise [k0_pay4, k0_pay20, k0_pay19, k0_pay18],
      by frame_out; pointwise [k0_pay5, k0_pay18], by frame_out; pointwise [k0_pay6, k0_pay19]⟩
  · rw [src, pick_C h0 h1 h2, outsAt0_C m c t h0 h1 h2 h3]
    exact ⟨by frame_out; pointwise [k0_pay21], by frame_out; pointwise [k0_pay7, k0_pay24, k0_pay23, k0_pay22],
      by frame_out; pointwise [k0_pay8, k0_pay22], by frame_out; pointwise [k0_pay9, k0_pay23]⟩
  · rw [src, pick_D h0 h1 h2, outsAt0_D m c t h0 h1 h2 h3]
    exact ⟨by frame_out; pointwise [k0_pay25], by frame_out; pointwise [k0_pay10, k0_pay28, k0_pay27, k0_pay26],
      by frame_out; pointwise [k0_pay11, k0_pay26], by frame_out; pointwise [k0_pay12, k0_pay27]⟩

/-- The place in the whole array of a grid point's block. -/
abbrev place (t : Fin cfg0.N) (r : Fin 32) (q : Fin 1024) : S2x2x128x1024.Idx :=
  ix4 (⟨t.val / 8, by have h : t.val < 16 := t.isLt; omega⟩ : Fin 2) (⟨t.val / 4 % 2, by omega⟩ : Fin 2) (⟨t.val % 4 * 32 + r.val, by omega⟩ : Fin 128) q

theorem ins (c : Dev nD) (t : Fin cfg0.N) (r : Fin 32) (q : Fin 1024) :
    (show FVec Ideal S1x1x32x1024 .f32 from iblk m c 0 t) (ix4 (0 : Fin 1) (0 : Fin 1) r q) = shapeCast S2x2x128x1024 (show FVec Ideal S2x256x1024 .f32 from (m ((c : Thread nD τ).loc main_arg0))) cast (place t r q)
    ∧ (show FVec Ideal S1x1x32x1024 .f32 from iblk m c 1 t) (ix4 (0 : Fin 1) (0 : Fin 1) r q) = shapeCast S2x2x128x1024 (show FVec Ideal S2x256x1024 .f32 from (m ((c : Thread nD τ).loc main_arg1))) cast (place t r q)
    ∧ (show FVec Ideal S1x1x32x1024 .f32 from iblk m c 2 t) (ix4 (0 : Fin 1) (0 : Fin 1) r q) = shapeCast S2x2x128x1024 (show FVec Ideal S2x256x1024 .f32 from (m ((c : Thread nD τ).loc main_arg2))) cast (place t r q) := by
  refine ⟨?_, ?_, ?_⟩
  all_goals
    blk_simp [iblk, idx t]
    entry_read
    refine congrArg _ ?_
    blk_ext [idx t] <;> rfl

theorem in_g (c : Dev nD) (t : Fin cfg0.N) (r : Fin 32) (q : Fin 1024) :
    src m c t (ix2 r q) = shapeCast S2x2x128x1024 (G m c) cast (place t r q) := by
  have hN : t.val < 16 := t.isLt
  refine Eq.trans ?_ ((pick_eq hN _ _ _ _).trans ((cast_at (G m c) ⟨t.val / 8, by omega⟩ ⟨t.val / 4 % 2, by omega⟩ ⟨t.val % 4 * 32 + r.val, by omega⟩ q).trans
    (grad_at _ _ _ (by decide) (by decide) _ _ _ _ _ _ _ _ _)).symm)
  refine cases_of_lt (show t.val < 16 from t.isLt) (fun h0 h1 h2 h3 => ?_) (fun h0 h1 h2 h3 => ?_) (fun h0 h1 h2 h3 => ?_) (fun h0 h1 h2 h3 => ?_)
  · rw [src, pick_A h0, pick_A h0]; blk_ext [iblk, V_main_arg3, idxA t h0]
  · rw [src, pick_B h0 h1, pick_B h0 h1]; blk_ext [iblk, V_main_arg5, idxB t h1]
  · rw [src, pick_C h0 h1 h2, pick_C h0 h1 h2]; blk_ext [iblk, V_main_arg4, idxC t h2]
  · rw [src, pick_D h0 h1 h2, pick_D h0 h1 h2]; blk_ext [iblk, V_main_arg6, idxD t h3]

theorem final7 (c : Dev nD) : (dats m 0 c).arrAt 7 (cfgs 0).N = shapeCast S2x2x128x1024 (G m c) cast := by
  refine (dats m 0 c).arrAt_eq_of_covers 7 _ (by decide +kernel) fun t hf y => ?_
  blk_simp
  rw [after0_7]
  refine Eq.trans (congrArg _ ?_) ((outs m c t (y 2) (y 3)).1.trans ((in_g m c t (y 2) (y 3)).trans (congrArg _ ?_)))
  · blk_ext
  · blk_ext [idx t] <;> rfl

theorem final8 (c : Dev nD) : (dats m 0 c).arrAt 8 (cfgs 0).N = castD S2x256x1024 fill S2x2x128x1024 cast (m ((c : Thread nD τ).loc main_arg0)) (G m c) (m ((c : Thread nD τ).loc main_arg1)) (m ((c : Thread nD τ).loc main_arg2)) := by
  refine (dats m 0 c).arrAt_eq_of_covers 8 _ (by decide +kernel) fun t hf y => ?_
  blk_simp
  rw [after0_8]
  refine Eq.trans (congrArg _ ?_) ((outs m c t (y 2) (y 3)).2.1.trans ((congr4 delta (ins m c t (y 2) (y 3)).1 (in_g m c t (y 2) (y 3)) (ins m c t (y 2) (y 3)).2.1 (ins m c t (y 2) (y 3)).2.2).trans
    ((castD_at S2x256x1024 fill S2x2x128x1024 cast _ _ _ _ _).symm.trans (congrArg _ ?_))))
  · blk_ext
  · blk_ext [idx t] <;> rfl

theorem final9 (c : Dev nD) : (dats m 0 c).arrAt 9 (cfgs 0).N = castM S2x256x1024 fill S2x2x128x1024 cast (G m c) (m ((c : Thread nD τ).loc main_arg1)) := by
  refine (dats m 0 c).arrAt_eq_of_covers 9 _ (by decide +kernel) fun t hf y => ?_
  blk_simp
  rw [after0_9]
  refine Eq.trans (congrArg _ ?_) ((outs m c t (y 2) (y 3)).2.2.1.trans ((congr2 newM (in_g m c t (y 2) (y 3)) (ins m c t (y 2) (y 3)).2.1).trans
    ((castM_at S2x256x1024 fill S2x2x128x1024 cast _ _ _).symm.trans (congrArg _ ?_))))
  · blk_ext
  · blk_ext [idx t] <;> rfl

theorem final10 (c : Dev nD) : (dats m 0 c).arrAt 10 (cfgs 0).N = castV S2x256x1024 fill S2x2x128x1024 cast (G m c) (m ((c : Thread nD τ).loc main_arg2)) := by
  refine (dats m 0 c).arrAt_eq_of_covers 10 _ (by decide +kernel) fun t hf y => ?_
  blk_simp
  rw [after0_10]
  refine Eq.trans (congrArg _ ?_) ((outs m c t (y 2) (y 3)).2.2.2.trans ((congr2 newV (in_g m c t (y 2) (y 3)) (ins m c t (y 2) (y 3)).2.2).trans
    ((castV_at S2x256x1024 fill S2x2x128x1024 cast _ _ _).symm.trans (congrArg _ ?_))))
  · blk_ext
  · blk_ext [idx t] <;> rfl

/-- The reference runs, its arguments end unchanged; it declares no semaphore. -/
theorem refFrame : @Cert.quiescent_AdamORefIdeal Cert.AdamORefIdeal.Gen.facts := fun m ρ _ =>
  (θ_run _ _ _).mono (fun r h => ⟨fun c => (h c).2.2.2.2, Idealize.ShloMosaic.sem_eq_zero_of_no_sems (by decide) r.2⟩)
    (Cert.AdamORefIdeal.Value.run m ρ)

/-- Kernel and reference end with equal results. -/
theorem alg : @Cert.algebraic_AdamOIdeal_AdamORefIdeal Cert.AdamOIdeal.Gen.facts Cert.AdamORefIdeal.Gen.facts := by
  intro m g m' g' _ hargs
  have hg := fun c => congr4 (grad Cert.AdamORefIdeal.Gen.concatenates_S128x1024_S128x1024_S256x1024_d0 Cert.AdamORefIdeal.Gen.bcast_S256x1024_S1x256x1024_1_2 Cert.AdamORefIdeal.Gen.concatenates_S1x256x1024_S1x256x1024_S2x256x1024_d0) ((hargs c).2.2.2.1) ((hargs c).2.2.2.2.2.1) ((hargs c).2.2.2.2.1) ((hargs c).2.2.2.2.2.2)
  refine ⟨fun c => (dats m 0 c).arrAt 7 cfg0.N, fun c => (dats m 0 c).arrAt 8 cfg0.N, fun c => (dats m 0 c).arrAt 9 cfg0.N, fun c => (dats m 0 c).arrAt 10 cfg0.N,
    Cert.AdamOIdeal.Value.run_blocks m g,
    (θ_run _ _ _).mono (fun r h c => ⟨(h c).1.trans ?_, (h c).2.1.trans ?_, (h c).2.2.1.trans ?_, (h c).2.2.2.1.trans ?_, (h c).2.2.2.2⟩) (Cert.AdamORefIdeal.Value.run m' g')⟩
  · exact (congrArg (fun a => shapeCast S2x2x128x1024 a cast) (hg c)).trans (final7 m c).symm
  · exact (congr4 (castD S2x256x1024 fill S2x2x128x1024 cast) ((hargs c).1) (hg c) ((hargs c).2.1) ((hargs c).2.2.1)).trans (final8 m c).symm
  · exact (congr2 (castM S2x256x1024 fill S2x2x128x1024 cast) (hg c) ((hargs c).2.1)).trans (final9 m c).symm
  · exact (congr2 (castV S2x256x1024 fill S2x2x128x1024 cast) (hg c) ((hargs c).2.2.1)).trans (final10 m c).symm

end Cert.AdamOIdeal.Math

end
-- ==== Proof.AdamUpMath.lean ====
module

public import proofs.«01_k».proof.Proof.Gen.AdamUpIdeal.Value
public import proofs.«01_k».proof.Proof.Gen.AdamUpRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Proof.AdamHalves
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.AdamUpIdeal.Math

open Cert.AdamUpIdeal Cert.AdamUpIdeal.Gen
open Idealize.ShloMosaic.Pointwise

variable (m : (ℓ : Loc nD τ sig) → Buf (Elt Ideal) ℓ)

open Cert.AdamW

theorem idx : ∀ t : Fin cfg0.N, win0_0.index t = ![t.val / 8, t.val / 4 % 2, t.val % 4, 0]
    ∧ win0_1.index t = ![t.val / 8, t.val / 4 % 2, t.val % 4, 0]
    ∧ win0_2.index t = ![t.val / 8, t.val / 4 % 2, t.val % 4, 0]
    ∧ win0_7.index t = ![t.val / 8, t.val / 4 % 2, t.val % 4, 0]
    ∧ win0_8.index t = ![t.val / 8, t.val / 4 % 2, t.val % 4, 0]
    ∧ win0_9.index t = ![t.val / 8, t.val / 4 % 2, t.val % 4, 0]
    ∧ win0_10.index t = ![t.val / 8, t.val / 4 % 2, t.val % 4, 0] :=
  (by decide +kernel : ∀ t : Fin grid0.N, _)

theorem idxA : ∀ t : Fin cfg0.N, t.val < 4 → win0_3.index t = ![t.val % 4, 0] :=
  (by decide +kernel : ∀ t : Fin grid0.N, _)

theorem idxB : ∀ t : Fin cfg0.N, t.val / 8 % 2 + 1 = t.val / 4 % 2 → win0_4.index t = ![t.val % 4, 0] :=
  (by decide +kernel : ∀ t : Fin grid0.N, _)

theorem idxC : ∀ t : Fin cfg0.N, t.val / 8 % 2 = t.val / 4 % 2 + 1 → win0_5.index t = ![t.val % 4, 0] :=
  (by decide +kernel : ∀ t : Fin grid0.N, _)

theorem idxD : ∀ t : Fin cfg0.N, 12 ≤ t.val → win0_6.index t = ![t.val % 4, 0] :=
  (by decide +kernel : ∀ t : Fin grid0.N, _)

abbrev cast := Cert.AdamUpRefIdeal.Gen.shapeCasts_S2x512x256_S2x2x256x256

abbrev fill := Cert.AdamUpRefIdeal.Gen.bcast_S_S2x512x256

/-- The gradient of the arguments in memory. -/
abbrev G (c : Dev nD) : FVec Ideal S2x512x256 .f32 :=
  grad Cert.AdamUpRefIdeal.Gen.concatenates_S256x256_S256x256_S512x256_d0 Cert.AdamUpRefIdeal.Gen.bcast_S512x256_S1x512x256_1_2 Cert.AdamUpRefIdeal.Gen.concatenates_S1x512x256_S1x512x256_S2x512x256_d0
    (m ((c : Thread nD τ).loc main_arg3)) (m ((c : Thread nD τ).loc main_arg5)) (m ((c : Thread nD τ).loc main_arg4)) (m ((c : Thread nD τ).loc main_arg6))

theorem cast_at (x : FVec Ideal S2x512x256 .f32) (l h : Fin 2) (r : Fin 256) (q : Fin 256) :
    shapeCast S2x2x256x256 x cast (ix4 l h r q) = x (ix3 l (⟨h.val * 256 + r.val, by omega⟩ : Fin 512) q) := by
  pointwise []

/-- The gradient's block which a grid point reads. -/
def src (c : Dev nD) (t : Fin cfg0.N) : FVec Ideal S64x256 .f32 :=
  pick t.val (show FVec Ideal S64x256 .f32 from iblk m c 3 t) (show FVec Ideal S64x256 .f32 from iblk m c 4 t)
    (show FVec Ideal S64x256 .f32 from iblk m c 5 t) (show FVec Ideal S64x256 .f32 from iblk m c 6 t)

/-- What a grid point leaves in its four output blocks. -/
theorem outs (c : Dev nD) (t : Fin cfg0.N) (r : Fin 64) (q : Fin 256) :
    (outsAt0 m c t.val t.isLt).1 (ix4 (0 : Fin 1) (0 : Fin 1) r q) = src m c t (ix2 r q)
    ∧ (outsAt0 m c t.val t.isLt).2.1 (ix4 (0 : Fin 1) (0 : Fin 1) r q)
      = delta ((show FVec Ideal S1x1x64x256 .f32 from iblk m c 0 t) (ix4 (0 : Fin 1) (0 : Fin 1) r q)) (src m c t (ix2 r q))
          ((show FVec Ideal S1x1x64x256 .f32 from iblk m c 1 t) (ix4 (0 : Fin 1) (0 : Fin 1) r q))
          ((show FVec Ideal S1x1x64x256 .f32 from iblk m c 2 t) (ix4 (0 : Fin 1) (0 : Fin 1) r q))
    ∧ (outsAt0 m c t.val t.isLt).2.2.1 (ix4 (0 : Fin 1) (0 : Fin 1) r q)
      = newM (src m c t (ix2 r q)) ((show FVec Ideal S1x1x64x256 .f32 from iblk m c 1 t) (ix4 (0 : Fin 1) (0 : Fin 1) r q))
    ∧ (outsAt0 m c t.val t.isLt).2.2.2 (ix4 (0 : Fin 1) (0 : Fin 1) r q)
      = newV (src m c t (ix2 r q)) ((show FVec Ideal S1x1x64x256 .f32 from iblk m c 2 t) (ix4 (0 : Fin 1) (0 : Fin 1) r q)) := by
  unfold delta newM newV
  refine cases_of_lt (show t.val < 16 from t.isLt) (fun h0 h1 h2 h3 => ?_) (fun h0 h1 h2 h3 => ?_) (fun h0 h1 h2 h3 => ?_) (fun h0 h1 h2 h3 => ?_)
  · rw [src, pick_A h0, outsAt0_A m c t h0 h1 h2 h3]
    exact ⟨by frame_out; pointwise [k0_pay13], by frame_out; pointwise [k0_pay1, k0_pay16, k0_pay15, k0_pay14],
      by frame_out; pointwise [k0_pay2, k0_pay14], by frame_out; pointwise [k0_pay3, k0_pay15]⟩
  · rw [src, pick_B h0 h1, outsAt0_B m c t h0 h1 h2 h3]
    exact ⟨by frame_out; pointwise [k0_pay17], by frame_out; pointwise [k0_pay4, k0_pay20, k0_pay19, k0_pay18],
      by frame_out; pointwise [k0_pay5, k0_pay18], by frame_out; pointwise [k0_pay6, k0_pay19]⟩
  · rw [src, pick_C h0 h1 h2, outsAt0_C m c t h0 h1 h2 h3]
    exact ⟨by frame_out; pointwise [k0_pay21], by frame_out; pointwise [k0_pay7, k0_pay24, k0_pay23, k0_pay22],
      by frame_out; pointwise [k0_pay8, k0_pay22], by frame_out; pointwise [k0_pay9, k0_pay23]⟩
  · rw [src, pick_D h0 h1 h2, outsAt0_D m c t h0 h1 h2 h3]
    exact ⟨by frame_out; pointwise [k0_pay25], by frame_out; pointwise [k0_pay10, k0_pay28, k0_pay27, k0_pay26],
      by frame_out; pointwise [k0_pay11, k0_pay26], by frame_out; pointwise [k0_pay12, k0_pay27]⟩

/-- The place in the whole array of a grid point's block. -/
abbrev place (t : Fin cfg0.N) (r : Fin 64) (q : Fin 256) : S2x2x256x256.Idx :=
  ix4 (⟨t.val / 8, by have h : t.val < 16 := t.isLt; omega⟩ : Fin 2) (⟨t.val / 4 % 2, by omega⟩ : Fin 2) (⟨t.val % 4 * 64 + r.val, by omega⟩ : Fin 256) q

theorem ins (c : Dev nD) (t : Fin cfg0.N) (r : Fin 64) (q : Fin 256) :
    (show FVec Ideal S1x1x64x256 .f32 from iblk m c 0 t) (ix4 (0 : Fin 1) (0 : Fin 1) r q) = shapeCast S2x2x256x256 (show FVec Ideal S2x512x256 .f32 from (m ((c : Thread nD τ).loc main_arg0))) cast (place t r q)
    ∧ (show FVec Ideal S1x1x64x256 .f32 from iblk m c 1 t) (ix4 (0 : Fin 1) (0 : Fin 1) r q) = shapeCast S2x2x256x256 (show FVec Ideal S2x512x256 .f32 from (m ((c : Thread nD τ).loc main_arg1))) cast (place t r q)
    ∧ (show FVec Ideal S1x1x64x256 .f32 from iblk m c 2 t) (ix4 (0 : Fin 1) (0 : Fin 1) r q) = shapeCast S2x2x256x256 (show FVec Ideal S2x512x256 .f32 from (m ((c : Thread nD τ).loc main_arg2))) cast (place t r q) := by
  refine ⟨?_, ?_, ?_⟩
  all_goals
    blk_simp [iblk, idx t]
    entry_read
    refine congrArg _ ?_
    blk_ext [idx t] <;> rfl

theorem in_g (c : Dev nD) (t : Fin cfg0.N) (r : Fin 64) (q : Fin 256) :
    src m c t (ix2 r q) = shapeCast S2x2x256x256 (G m c) cast (place t r q) := by
  have hN : t.val < 16 := t.isLt
  refine Eq.trans ?_ ((pick_eq hN _ _ _ _).trans ((cast_at (G m c) ⟨t.val / 8, by omega⟩ ⟨t.val / 4 % 2, by omega⟩ ⟨t.val % 4 * 64 + r.val, by omega⟩ q).trans
    (grad_at _ _ _ (by decide) (by decide) _ _ _ _ _ _ _ _ _)).symm)
  refine cases_of_lt (show t.val < 16 from t.isLt) (fun h0 h1 h2 h3 => ?_) (fun h0 h1 h2 h3 => ?_) (fun h0 h1 h2 h3 => ?_) (fun h0 h1 h2 h3 => ?_)
  · rw [src, pick_A h0, pick_A h0]; blk_ext [iblk, V_main_arg3, idxA t h0]
  · rw [src, pick_B h0 h1, pick_B h0 h1]; blk_ext [iblk, V_main_arg5, idxB t h1]
  · rw [src, pick_C h0 h1 h2, pick_C h0 h1 h2]; blk_ext [iblk, V_main_arg4, idxC t h2]
  · rw [src, pick_D h0 h1 h2, pick_D h0 h1 h2]; blk_ext [iblk, V_main_arg6, idxD t h3]

theorem final7 (c : Dev nD) : (dats m 0 c).arrAt 7 (cfgs 0).N = shapeCast S2x2x256x256 (G m c) cast := by
  refine (dats m 0 c).arrAt_eq_of_covers 7 _ (by decide +kernel) fun t hf y => ?_
  blk_simp
  rw [after0_7]
  refine Eq.trans (congrArg _ ?_) ((outs m c t (y 2) (y 3)).1.trans ((in_g m c t (y 2) (y 3)).trans (congrArg _ ?_)))
  · blk_ext
  · blk_ext [idx t] <;> rfl

theorem final8 (c : Dev nD) : (dats m 0 c).arrAt 8 (cfgs 0).N = castD S2x512x256 fill S2x2x256x256 cast (m ((c : Thread nD τ).loc main_arg0)) (G m c) (m ((c : Thread nD τ).loc main_arg1)) (m ((c : Thread nD τ).loc main_arg2)) := by
  refine (dats m 0 c).arrAt_eq_of_covers 8 _ (by decide +kernel) fun t hf y => ?_
  blk_simp
  rw [after0_8]
  refine Eq.trans (congrArg _ ?_) ((outs m c t (y 2) (y 3)).2.1.trans ((congr4 delta (ins m c t (y 2) (y 3)).1 (in_g m c t (y 2) (y 3)) (ins m c t (y 2) (y 3)).2.1 (ins m c t (y 2) (y 3)).2.2).trans
    ((castD_at S2x512x256 fill S2x2x256x256 cast _ _ _ _ _).symm.trans (congrArg _ ?_))))
  · blk_ext
  · blk_ext [idx t] <;> rfl

theorem final9 (c : Dev nD) : (dats m 0 c).arrAt 9 (cfgs 0).N = castM S2x512x256 fill S2x2x256x256 cast (G m c) (m ((c : Thread nD τ).loc main_arg1)) := by
  refine (dats m 0 c).arrAt_eq_of_covers 9 _ (by decide +kernel) fun t hf y => ?_
  blk_simp
  rw [after0_9]
  refine Eq.trans (congrArg _ ?_) ((outs m c t (y 2) (y 3)).2.2.1.trans ((congr2 newM (in_g m c t (y 2) (y 3)) (ins m c t (y 2) (y 3)).2.1).trans
    ((castM_at S2x512x256 fill S2x2x256x256 cast _ _ _).symm.trans (congrArg _ ?_))))
  · blk_ext
  · blk_ext [idx t] <;> rfl

theorem final10 (c : Dev nD) : (dats m 0 c).arrAt 10 (cfgs 0).N = castV S2x512x256 fill S2x2x256x256 cast (G m c) (m ((c : Thread nD τ).loc main_arg2)) := by
  refine (dats m 0 c).arrAt_eq_of_covers 10 _ (by decide +kernel) fun t hf y => ?_
  blk_simp
  rw [after0_10]
  refine Eq.trans (congrArg _ ?_) ((outs m c t (y 2) (y 3)).2.2.2.trans ((congr2 newV (in_g m c t (y 2) (y 3)) (ins m c t (y 2) (y 3)).2.2).trans
    ((castV_at S2x512x256 fill S2x2x256x256 cast _ _ _).symm.trans (congrArg _ ?_))))
  · blk_ext
  · blk_ext [idx t] <;> rfl

/-- The reference runs, its arguments end unchanged; it declares no semaphore. -/
theorem refFrame : @Cert.quiescent_AdamUpRefIdeal Cert.AdamUpRefIdeal.Gen.facts := fun m ρ _ =>
  (θ_run _ _ _).mono (fun r h => ⟨fun c => (h c).2.2.2.2, Idealize.ShloMosaic.sem_eq_zero_of_no_sems (by decide) r.2⟩)
    (Cert.AdamUpRefIdeal.Value.run m ρ)

/-- Kernel and reference end with equal results. -/
theorem alg : @Cert.algebraic_AdamUpIdeal_AdamUpRefIdeal Cert.AdamUpIdeal.Gen.facts Cert.AdamUpRefIdeal.Gen.facts := by
  intro m g m' g' _ hargs
  have hg := fun c => congr4 (grad Cert.AdamUpRefIdeal.Gen.concatenates_S256x256_S256x256_S512x256_d0 Cert.AdamUpRefIdeal.Gen.bcast_S512x256_S1x512x256_1_2 Cert.AdamUpRefIdeal.Gen.concatenates_S1x512x256_S1x512x256_S2x512x256_d0) ((hargs c).2.2.2.1) ((hargs c).2.2.2.2.2.1) ((hargs c).2.2.2.2.1) ((hargs c).2.2.2.2.2.2)
  refine ⟨fun c => (dats m 0 c).arrAt 7 cfg0.N, fun c => (dats m 0 c).arrAt 8 cfg0.N, fun c => (dats m 0 c).arrAt 9 cfg0.N, fun c => (dats m 0 c).arrAt 10 cfg0.N,
    Cert.AdamUpIdeal.Value.run_blocks m g,
    (θ_run _ _ _).mono (fun r h c => ⟨(h c).1.trans ?_, (h c).2.1.trans ?_, (h c).2.2.1.trans ?_, (h c).2.2.2.1.trans ?_, (h c).2.2.2.2⟩) (Cert.AdamUpRefIdeal.Value.run m' g')⟩
  · exact (congrArg (fun a => shapeCast S2x2x256x256 a cast) (hg c)).trans (final7 m c).symm
  · exact (congr4 (castD S2x512x256 fill S2x2x256x256 cast) ((hargs c).1) (hg c) ((hargs c).2.1) ((hargs c).2.2.1)).trans (final8 m c).symm
  · exact (congr2 (castM S2x512x256 fill S2x2x256x256 cast) (hg c) ((hargs c).2.1)).trans (final9 m c).symm
  · exact (congr2 (castV S2x512x256 fill S2x2x256x256 cast) (hg c) ((hargs c).2.2.1)).trans (final10 m c).symm

end Cert.AdamUpIdeal.Math

end
-- ==== Proof.AdamAttnMath.lean ====
module

public import proofs.«01_k».proof.Proof.Gen.AdamAttnIdeal.Value
public import proofs.«01_k».proof.Proof.Gen.AdamAttnRefIdeal.Run
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Proof.AdamHalves
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.AdamAttnIdeal.Math

open Cert.AdamAttnIdeal Cert.AdamAttnIdeal.Gen
open Idealize.ShloMosaic.Pointwise

variable (m : (ℓ : Loc nD τ sig) → Buf (Elt Ideal) ℓ)

open Cert.AdamW

theorem idx : ∀ t : Fin cfg0.N, win0_0.index t = ![t.val / 8, t.val / 4 % 2, t.val % 4, 0]
    ∧ win0_1.index t = ![t.val / 8, t.val / 4 % 2, t.val % 4, 0]
    ∧ win0_2.index t = ![t.val / 8, t.val / 4 % 2, t.val % 4, 0]
    ∧ win0_7.index t = ![t.val / 8, t.val / 4 % 2, t.val % 4, 0]
    ∧ win0_8.index t = ![t.val / 8, t.val / 4 % 2, t.val % 4, 0]
    ∧ win0_9.index t = ![t.val / 8, t.val / 4 % 2, t.val % 4, 0]
    ∧ win0_10.index t = ![t.val / 8, t.val / 4 % 2, t.val % 4, 0] :=
  (by decide +kernel : ∀ t : Fin grid0.N, _)

theorem idxA : ∀ t : Fin cfg0.N, t.val < 4 → win0_3.index t = ![t.val % 4, 0] :=
  (by decide +kernel : ∀ t : Fin grid0.N, _)

theorem idxB : ∀ t : Fin cfg0.N, t.val / 8 % 2 + 1 = t.val / 4 % 2 → win0_4.index t = ![t.val % 4, 0] :=
  (by decide +kernel : ∀ t : Fin grid0.N, _)

theorem idxC : ∀ t : Fin cfg0.N, t.val / 8 % 2 = t.val / 4 % 2 + 1 → win0_5.index t = ![t.val % 4, 0] :=
  (by decide +kernel : ∀ t : Fin grid0.N, _)

theorem idxD : ∀ t : Fin cfg0.N, 12 ≤ t.val → win0_6.index t = ![t.val % 4, 0] :=
  (by decide +kernel : ∀ t : Fin grid0.N, _)

abbrev cast := Cert.AdamAttnRefIdeal.Gen.shapeCasts_S2x256x256_S2x2x128x256

abbrev fill := Cert.AdamAttnRefIdeal.Gen.bcast_S_S2x256x256

/-- The gradient of the arguments in memory. -/
abbrev G (c : Dev nD) : FVec Ideal S2x256x256 .f32 :=
  grad Cert.AdamAttnRefIdeal.Gen.concatenates_S128x256_S128x256_S256x256_d0 Cert.AdamAttnRefIdeal.Gen.bcast_S256x256_S1x256x256_1_2 Cert.AdamAttnRefIdeal.Gen.concatenates_S1x256x256_S1x256x256_S2x256x256_d0
    (m ((c : Thread nD τ).loc main_arg3)) (m ((c : Thread nD τ).loc main_arg5)) (m ((c : Thread nD τ).loc main_arg4)) (m ((c : Thread nD τ).loc main_arg6))

theorem cast_at (x : FVec Ideal S2x256x256 .f32) (l h : Fin 2) (r : Fin 128) (q : Fin 256) :
    shapeCast S2x2x128x256 x cast (ix4 l h r q) = x (ix3 l (⟨h.val * 128 + r.val, by omega⟩ : Fin 256) q) := by
  pointwise []

/-- The gradient's block which a grid point reads. -/
def src (c : Dev nD) (t : Fin cfg0.N) : FVec Ideal S32x256 .f32 :=
  pick t.val (show FVec Ideal S32x256 .f32 from iblk m c 3 t) (show FVec Ideal S32x256 .f32 from iblk m c 4 t)
    (show FVec Ideal S32x256 .f32 from iblk m c 5 t) (show FVec Ideal S32x256 .f32 from iblk m c 6 t)

/-- What a grid point leaves in its four output blocks. -/
theorem outs (c : Dev nD) (t : Fin cfg0.N) (r : Fin 32) (q : Fin 256) :
    (outsAt0 m c t.val t.isLt).1 (ix4 (0 : Fin 1) (0 : Fin 1) r q) = src m c t (ix2 r q)
    ∧ (outsAt0 m c t.val t.isLt).2.1 (ix4 (0 : Fin 1) (0 : Fin 1) r q)
      = delta ((show FVec Ideal S1x1x32x256 .f32 from iblk m c 0 t) (ix4 (0 : Fin 1) (0 : Fin 1) r q)) (src m c t (ix2 r q))
          ((show FVec Ideal S1x1x32x256 .f32 from iblk m c 1 t) (ix4 (0 : Fin 1) (0 : Fin 1) r q))
          ((show FVec Ideal S1x1x32x256 .f32 from iblk m c 2 t) (ix4 (0 : Fin 1) (0 : Fin 1) r q))
    ∧ (outsAt0 m c t.val t.isLt).2.2.1 (ix4 (0 : Fin 1) (0 : Fin 1) r q)
      = newM (src m c t (ix2 r q)) ((show FVec Ideal S1x1x32x256 .f32 from iblk m c 1 t) (ix4 (0 : Fin 1) (0 : Fin 1) r q))
    ∧ (outsAt0 m c t.val t.isLt).2.2.2 (ix4 (0 : Fin 1) (0 : Fin 1) r q)
      = newV (src m c t (ix2 r q)) ((show FVec Ideal S1x1x32x256 .f32 from iblk m c 2 t) (ix4 (0 : Fin 1) (0 : Fin 1) r q)) := by
  unfold delta newM newV
  refine cases_of_lt (show t.val < 16 from t.isLt) (fun h0 h1 h2 h3 => ?_) (fun h0 h1 h2 h3 => ?_) (fun h0 h1 h2 h3 => ?_) (fun h0 h1 h2 h3 => ?_)
  · rw [src, pick_A h0, outsAt0_A m c t h0 h1 h2 h3]
    exact ⟨by frame_out; pointwise [k0_pay13], by frame_out; pointwise [k0_pay1, k0_pay16, k0_pay15, k0_pay14],
      by frame_out; pointwise [k0_pay2, k0_pay14], by frame_out; pointwise [k0_pay3, k0_pay15]⟩
  · rw [src, pick_B h0 h1, outsAt0_B m c t h0 h1 h2 h3]
    exact ⟨by frame_out; pointwise [k0_pay17], by frame_out; pointwise [k0_pay4, k0_pay20, k0_pay19, k0_pay18],
      by frame_out; pointwise [k0_pay5, k0_pay18], by frame_out; pointwise [k0_pay6, k0_pay19]⟩
  · rw [src, pick_C h0 h1 h2, outsAt0_C m c t h0 h1 h2 h3]
    exact ⟨by frame_out; pointwise [k0_pay21], by frame_out; pointwise [k0_pay7, k0_pay24, k0_pay23, k0_pay22],
      by frame_out; pointwise [k0_pay8, k0_pay22], by frame_out; pointwise [k0_pay9, k0_pay23]⟩
  · rw [src, pick_D h0 h1 h2, outsAt0_D m c t h0 h1 h2 h3]
    exact ⟨by frame_out; pointwise [k0_pay25], by frame_out; pointwise [k0_pay10, k0_pay28, k0_pay27, k0_pay26],
      by frame_out; pointwise [k0_pay11, k0_pay26], by frame_out; pointwise [k0_pay12, k0_pay27]⟩

/-- The place in the whole array of a grid point's block. -/
abbrev place (t : Fin cfg0.N) (r : Fin 32) (q : Fin 256) : S2x2x128x256.Idx :=
  ix4 (⟨t.val / 8, by have h : t.val < 16 := t.isLt; omega⟩ : Fin 2) (⟨t.val / 4 % 2, by omega⟩ : Fin 2) (⟨t.val % 4 * 32 + r.val, by omega⟩ : Fin 128) q

theorem ins (c : Dev nD) (t : Fin cfg0.N) (r : Fin 32) (q : Fin 256) :
    (show FVec Ideal S1x1x32x256 .f32 from iblk m c 0 t) (ix4 (0 : Fin 1) (0 : Fin 1) r q) = shapeCast S2x2x128x256 (show FVec Ideal S2x256x256 .f32 from (m ((c : Thread nD τ).loc main_arg0))) cast (place t r q)
    ∧ (show FVec Ideal S1x1x32x256 .f32 from iblk m c 1 t) (ix4 (0 : Fin 1) (0 : Fin 1) r q) = shapeCast S2x2x128x256 (show FVec Ideal S2x256x256 .f32 from (m ((c : Thread nD τ).loc main_arg1))) cast (place t r q)
    ∧ (show FVec Ideal S1x1x32x256 .f32 from iblk m c 2 t) (ix4 (0 : Fin 1) (0 : Fin 1) r q) = shapeCast S2x2x128x256 (show FVec Ideal S2x256x256 .f32 from (m ((c : Thread nD τ).loc main_arg2))) cast (place t r q) := by
  refine ⟨?_, ?_, ?_⟩
  all_goals
    blk_simp [iblk, idx t]
    entry_read
    refine congrArg _ ?_
    blk_ext [idx t] <;> rfl

theorem in_g (c : Dev nD) (t : Fin cfg0.N) (r : Fin 32) (q : Fin 256) :
    src m c t (ix2 r q) = shapeCast S2x2x128x256 (G m c) cast (place t r q) := by
  have hN : t.val < 16 := t.isLt
  refine Eq.trans ?_ ((pick_eq hN _ _ _ _).trans ((cast_at (G m c) ⟨t.val / 8, by omega⟩ ⟨t.val / 4 % 2, by omega⟩ ⟨t.val % 4 * 32 + r.val, by omega⟩ q).trans
    (grad_at _ _ _ (by decide) (by decide) _ _ _ _ _ _ _ _ _)).symm)
  refine cases_of_lt (show t.val < 16 from t.isLt) (fun h0 h1 h2 h3 => ?_) (fun h0 h1 h2 h3 => ?_) (fun h0 h1 h2 h3 => ?_) (fun h0 h1 h2 h3 => ?_)
  · rw [src, pick_A h0, pick_A h0]; blk_ext [iblk, V_main_arg3, idxA t h0]
  · rw [src, pick_B h0 h1, pick_B h0 h1]; blk_ext [iblk, V_main_arg5, idxB t h1]
  · rw [src, pick_C h0 h1 h2, pick_C h0 h1 h2]; blk_ext [iblk, V_main_arg4, idxC t h2]
  · rw [src, pick_D h0 h1 h2, pick_D h0 h1 h2]; blk_ext [iblk, V_main_arg6, idxD t h3]

theorem final7 (c : Dev nD) : (dats m 0 c).arrAt 7 (cfgs 0).N = shapeCast S2x2x128x256 (G m c) cast := by
  refine (dats m 0 c).arrAt_eq_of_covers 7 _ (by decide +kernel) fun t hf y => ?_
  blk_simp
  rw [after0_7]
  refine Eq.trans (congrArg _ ?_) ((outs m c t (y 2) (y 3)).1.trans ((in_g m c t (y 2) (y 3)).trans (congrArg _ ?_)))
  · blk_ext
  · blk_ext [idx t] <;> rfl

theorem final8 (c : Dev nD) : (dats m 0 c).arrAt 8 (cfgs 0).N = castD S2x256x256 fill S2x2x128x256 cast (m ((c : Thread nD τ).loc main_arg0)) (G m c) (m ((c : Thread nD τ).loc main_arg1)) (m ((c : Thread nD τ).loc main_arg2)) := by
  refine (dats m 0 c).arrAt_eq_of_covers 8 _ (by decide +kernel) fun t hf y => ?_
  blk_simp
  rw [after0_8]
  refine Eq.trans (congrArg _ ?_) ((outs m c t (y 2) (y 3)).2.1.trans ((congr4 delta (ins m c t (y 2) (y 3)).1 (in_g m c t (y 2) (y 3)) (ins m c t (y 2) (y 3)).2.1 (ins m c t (y 2) (y 3)).2.2).trans
    ((castD_at S2x256x256 fill S2x2x128x256 cast _ _ _ _ _).symm.trans (congrArg _ ?_))))
  · blk_ext
  · blk_ext [idx t] <;> rfl

theorem final9 (c : Dev nD) : (dats m 0 c).arrAt 9 (cfgs 0).N = castM S2x256x256 fill S2x2x128x256 cast (G m c) (m ((c : Thread nD τ).loc main_arg1)) := by
  refine (dats m 0 c).arrAt_eq_of_covers 9 _ (by decide +kernel) fun t hf y => ?_
  blk_simp
  rw [after0_9]
  refine Eq.trans (congrArg _ ?_) ((outs m c t (y 2) (y 3)).2.2.1.trans ((congr2 newM (in_g m c t (y 2) (y 3)) (ins m c t (y 2) (y 3)).2.1).trans
    ((castM_at S2x256x256 fill S2x2x128x256 cast _ _ _).symm.trans (congrArg _ ?_))))
  · blk_ext
  · blk_ext [idx t] <;> rfl

theorem final10 (c : Dev nD) : (dats m 0 c).arrAt 10 (cfgs 0).N = castV S2x256x256 fill S2x2x128x256 cast (G m c) (m ((c : Thread nD τ).loc main_arg2)) := by
  refine (dats m 0 c).arrAt_eq_of_covers 10 _ (by decide +kernel) fun t hf y => ?_
  blk_simp
  rw [after0_10]
  refine Eq.trans (congrArg _ ?_) ((outs m c t (y 2) (y 3)).2.2.2.trans ((congr2 newV (in_g m c t (y 2) (y 3)) (ins m c t (y 2) (y 3)).2.2).trans
    ((castV_at S2x256x256 fill S2x2x128x256 cast _ _ _).symm.trans (congrArg _ ?_))))
  · blk_ext
  · blk_ext [idx t] <;> rfl

/-- The reference runs, its arguments end unchanged; it declares no semaphore. -/
theorem refFrame : @Cert.quiescent_AdamAttnRefIdeal Cert.AdamAttnRefIdeal.Gen.facts := fun m ρ _ =>
  (θ_run _ _ _).mono (fun r h => ⟨fun c => (h c).2.2.2.2, Idealize.ShloMosaic.sem_eq_zero_of_no_sems (by decide) r.2⟩)
    (Cert.AdamAttnRefIdeal.Value.run m ρ)

/-- Kernel and reference end with equal results. -/
theorem alg : @Cert.algebraic_AdamAttnIdeal_AdamAttnRefIdeal Cert.AdamAttnIdeal.Gen.facts Cert.AdamAttnRefIdeal.Gen.facts := by
  intro m g m' g' _ hargs
  have hg := fun c => congr4 (grad Cert.AdamAttnRefIdeal.Gen.concatenates_S128x256_S128x256_S256x256_d0 Cert.AdamAttnRefIdeal.Gen.bcast_S256x256_S1x256x256_1_2 Cert.AdamAttnRefIdeal.Gen.concatenates_S1x256x256_S1x256x256_S2x256x256_d0) ((hargs c).2.2.2.1) ((hargs c).2.2.2.2.2.1) ((hargs c).2.2.2.2.1) ((hargs c).2.2.2.2.2.2)
  refine ⟨fun c => (dats m 0 c).arrAt 7 cfg0.N, fun c => (dats m 0 c).arrAt 8 cfg0.N, fun c => (dats m 0 c).arrAt 9 cfg0.N, fun c => (dats m 0 c).arrAt 10 cfg0.N,
    Cert.AdamAttnIdeal.Value.run_blocks m g,
    (θ_run _ _ _).mono (fun r h c => ⟨(h c).1.trans ?_, (h c).2.1.trans ?_, (h c).2.2.1.trans ?_, (h c).2.2.2.1.trans ?_, (h c).2.2.2.2⟩) (Cert.AdamAttnRefIdeal.Value.run m' g')⟩
  · exact (congrArg (fun a => shapeCast S2x2x128x256 a cast) (hg c)).trans (final7 m c).symm
  · exact (congr4 (castD S2x256x256 fill S2x2x128x256 cast) ((hargs c).1) (hg c) ((hargs c).2.1) ((hargs c).2.2.1)).trans (final8 m c).symm
  · exact (congr2 (castM S2x256x256 fill S2x2x128x256 cast) (hg c) ((hargs c).2.1)).trans (final9 m c).symm
  · exact (congr2 (castV S2x256x256 fill S2x2x128x256 cast) (hg c) ((hargs c).2.2.1)).trans (final10 m c).symm

end Cert.AdamAttnIdeal.Math

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel.Frame
public import proofs.«01_k».proof.Proof.Gen.KernelIdeal.Frame
public import proofs.«01_k».proof.Proof.PoolClaim
public import proofs.«01_k».proof.Proof.Gen.DInAct.Frame
public import proofs.«01_k».proof.Proof.Gen.DInActIdeal.Value
public import proofs.«01_k».proof.Proof.Gen.DInActRefIdeal.Run
public import proofs.«01_k».proof.Proof.DInActMath
public import proofs.«01_k».proof.Proof.Gen.DInW.Frame
public import proofs.«01_k».proof.Proof.Gen.DInWIdeal.Value
public import proofs.«01_k».proof.Proof.Gen.DInWRefIdeal.Run
public import proofs.«01_k».proof.Proof.DInWMath
public import proofs.«01_k».proof.Proof.Gen.DFf2Act.Frame
public import proofs.«01_k».proof.Proof.Gen.DFf2ActIdeal.Value
public import proofs.«01_k».proof.Proof.Gen.DFf2ActRefIdeal.Run
public import proofs.«01_k».proof.Proof.DFf2ActMath
public import proofs.«01_k».proof.Proof.Gen.DFf1Act.Frame
public import proofs.«01_k».proof.Proof.Gen.DFf1ActIdeal.Value
public import proofs.«01_k».proof.Proof.Gen.DFf1ActRefIdeal.Run
public import proofs.«01_k».proof.Proof.DFf1ActMath
public import proofs.«01_k».proof.Proof.Gen.DFf2W.Frame
public import proofs.«01_k».proof.Proof.Gen.DFf2WIdeal.Value
public import proofs.«01_k».proof.Proof.Gen.DFf2WRefIdeal.Run
public import proofs.«01_k».proof.Proof.DFf2WMath
public import proofs.«01_k».proof.Proof.Gen.DFf1W.Frame
public import proofs.«01_k».proof.Proof.Gen.DFf1WIdeal.Value
public import proofs.«01_k».proof.Proof.Gen.DFf1WRefIdeal.Run
public import proofs.«01_k».proof.Proof.DFf1WMath
public import proofs.«01_k».proof.Proof.Gen.DOutAct.Frame
public import proofs.«01_k».proof.Proof.Gen.DOutActIdeal.Value
public import proofs.«01_k».proof.Proof.Gen.DOutActRefIdeal.Run
public import proofs.«01_k».proof.Proof.DOutActMath
public import proofs.«01_k».proof.Proof.Gen.DOutW.Frame
public import proofs.«01_k».proof.Proof.Gen.DOutWIdeal.Value
public import proofs.«01_k».proof.Proof.Gen.DOutWRefIdeal.Run
public import proofs.«01_k».proof.Proof.DOutWMath
public import proofs.«01_k».proof.Proof.Gen.InProj.Frame
public import proofs.«01_k».proof.Proof.Gen.InProjIdeal.Value
public import proofs.«01_k».proof.Proof.Gen.InProjRefIdeal.Run
public import proofs.«01_k».proof.Proof.InProjMath
public import proofs.«01_k».proof.Proof.Gen.Ff1.Frame
public import proofs.«01_k».proof.Proof.Gen.Ff1Ideal.Value
public import proofs.«01_k».proof.Proof.Gen.Ff1RefIdeal.Run
public import proofs.«01_k».proof.Proof.Ff1Math
public import proofs.«01_k».proof.Proof.Gen.Ff2Loss.Frame
public import proofs.«01_k».proof.Proof.Gen.Ff2LossIdeal.Value
public import proofs.«01_k».proof.Proof.Gen.Ff2LossRefIdeal.Run
public import proofs.«01_k».proof.Proof.Ff2LossMath
public import proofs.«01_k».proof.Proof.Gen.Ff2Next.Frame
public import proofs.«01_k».proof.Proof.Gen.Ff2NextIdeal.Value
public import proofs.«01_k».proof.Proof.Gen.Ff2NextRefIdeal.Run
public import proofs.«01_k».proof.Proof.Ff2NextMath
public import proofs.«01_k».proof.Proof.Gen.OutProj.Frame
public import proofs.«01_k».proof.Proof.Gen.OutProjIdeal.Value
public import proofs.«01_k».proof.Proof.Gen.OutProjRefIdeal.Run
public import proofs.«01_k».proof.Proof.OutProjMath
public import proofs.«01_k».proof.Proof.Gen.RmsMix.Frame
public import proofs.«01_k».proof.Proof.Gen.RmsMixIdeal.Value
public import proofs.«01_k».proof.Proof.Gen.RmsMixRefIdeal.Run
public import proofs.«01_k».proof.Proof.RmsMixMath
public import proofs.«01_k».proof.Proof.Gen.DRmsMix.Frame
public import proofs.«01_k».proof.Proof.Gen.DRmsMixIdeal.Value
public import proofs.«01_k».proof.Proof.Gen.DRmsMixRefIdeal.Run
public import proofs.«01_k».proof.Proof.DRmsMixMath
public import proofs.«01_k».proof.Proof.Gen.Merge.Frame
public import proofs.«01_k».proof.Proof.Gen.MergeIdeal.Value
public import proofs.«01_k».proof.Proof.Gen.MergeRefIdeal.Run
public import proofs.«01_k».proof.Proof.MergeMath
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.AdamSmallMath
public import proofs.«01_k».proof.Proof.Gen.AdamSmallTwo.Frame
public import proofs.«01_k».proof.Proof.Gen.AdamSmallTwoIdeal.Value
public import proofs.«01_k».proof.Proof.Gen.AdamSmallTwoRefIdeal.Run
public import proofs.«01_k».proof.Proof.AdamSmallTwoMath
public import proofs.«01_k».proof.Proof.Gen.AdamSmallThree.Frame
public import proofs.«01_k».proof.Proof.Gen.AdamSmallThreeIdeal.Value
public import proofs.«01_k».proof.Proof.Gen.AdamSmallThreeRefIdeal.Run
public import proofs.«01_k».proof.Proof.AdamSmallThreeMath
public import proofs.«01_k».proof.Proof.Gen.AdamIn.Frame
public import proofs.«01_k».proof.Proof.Gen.AdamInIdeal.Value
public import proofs.«01_k».proof.Proof.Gen.AdamInRefIdeal.Run
public import proofs.«01_k».proof.Proof.AdamInMath
public import proofs.«01_k».proof.Proof.Gen.AdamFf.Frame
public import proofs.«01_k».proof.Proof.Gen.AdamFfIdeal.Value
public import proofs.«01_k».proof.Proof.Gen.AdamFfRefIdeal.Run
public import proofs.«01_k».proof.Proof.AdamFfMath
public import proofs.«01_k».proof.Proof.Gen.AdamO.Frame
public import proofs.«01_k».proof.Proof.Gen.AdamOIdeal.Value
public import proofs.«01_k».proof.Proof.Gen.AdamORefIdeal.Run
public import proofs.«01_k».proof.Proof.AdamOMath
public import proofs.«01_k».proof.Proof.Gen.AdamUp.Frame
public import proofs.«01_k».proof.Proof.Gen.AdamUpIdeal.Value
public import proofs.«01_k».proof.Proof.Gen.AdamUpRefIdeal.Run
public import proofs.«01_k».proof.Proof.AdamUpMath
public import proofs.«01_k».proof.Proof.Gen.AdamAttn.Frame
public import proofs.«01_k».proof.Proof.Gen.AdamAttnIdeal.Value
public import proofs.«01_k».proof.Proof.Gen.AdamAttnRefIdeal.Run
public import proofs.«01_k».proof.Proof.AdamAttnMath

@[expose] public section

noncomputable section

namespace Cert.Proof

open Idealize.ShloMosaic

theorem claim : Cert.Claim :=
  ⟨Cert.Kernel.Gen.facts,
    Cert.KernelIdeal.Gen.facts,
    Cert.ReferenceIdeal.Gen.facts,
    Cert.DInAct.Gen.facts,
    Cert.DInActIdeal.Gen.facts,
    Cert.DInActRefIdeal.Gen.facts,
    Cert.DInW.Gen.facts,
    Cert.DInWIdeal.Gen.facts,
    Cert.DInWRefIdeal.Gen.facts,
    Cert.DFf2Act.Gen.facts,
    Cert.DFf2ActIdeal.Gen.facts,
    Cert.DFf2ActRefIdeal.Gen.facts,
    Cert.DFf1Act.Gen.facts,
    Cert.DFf1ActIdeal.Gen.facts,
    Cert.DFf1ActRefIdeal.Gen.facts,
    Cert.DFf2W.Gen.facts,
    Cert.DFf2WIdeal.Gen.facts,
    Cert.DFf2WRefIdeal.Gen.facts,
    Cert.DFf1W.Gen.facts,
    Cert.DFf1WIdeal.Gen.facts,
    Cert.DFf1WRefIdeal.Gen.facts,
    Cert.DOutAct.Gen.facts,
    Cert.DOutActIdeal.Gen.facts,
    Cert.DOutActRefIdeal.Gen.facts,
    Cert.DOutW.Gen.facts,
    Cert.DOutWIdeal.Gen.facts,
    Cert.DOutWRefIdeal.Gen.facts,
    Cert.InProj.Gen.facts,
    Cert.InProjIdeal.Gen.facts,
    Cert.InProjRefIdeal.Gen.facts,
    Cert.Ff1.Gen.facts,
    Cert.Ff1Ideal.Gen.facts,
    Cert.Ff1RefIdeal.Gen.facts,
    Cert.Ff2Loss.Gen.facts,
    Cert.Ff2LossIdeal.Gen.facts,
    Cert.Ff2LossRefIdeal.Gen.facts,
    Cert.Ff2Next.Gen.facts,
    Cert.Ff2NextIdeal.Gen.facts,
    Cert.Ff2NextRefIdeal.Gen.facts,
    Cert.OutProj.Gen.facts,
    Cert.OutProjIdeal.Gen.facts,
    Cert.OutProjRefIdeal.Gen.facts,
    Cert.RmsMix.Gen.facts,
    Cert.RmsMixIdeal.Gen.facts,
    Cert.RmsMixRefIdeal.Gen.facts,
    Cert.DRmsMix.Gen.facts,
    Cert.DRmsMixIdeal.Gen.facts,
    Cert.DRmsMixRefIdeal.Gen.facts,
    Cert.Merge.Gen.facts,
    Cert.MergeIdeal.Gen.facts,
    Cert.MergeRefIdeal.Gen.facts,
    Cert.AdamSmall.Gen.facts,
    Cert.AdamSmallIdeal.Gen.facts,
    Cert.AdamSmallRefIdeal.Gen.facts,
    Cert.AdamSmallTwo.Gen.facts,
    Cert.AdamSmallTwoIdeal.Gen.facts,
    Cert.AdamSmallTwoRefIdeal.Gen.facts,
    Cert.AdamSmallThree.Gen.facts,
    Cert.AdamSmallThreeIdeal.Gen.facts,
    Cert.AdamSmallThreeRefIdeal.Gen.facts,
    Cert.AdamIn.Gen.facts,
    Cert.AdamInIdeal.Gen.facts,
    Cert.AdamInRefIdeal.Gen.facts,
    Cert.AdamFf.Gen.facts,
    Cert.AdamFfIdeal.Gen.facts,
    Cert.AdamFfRefIdeal.Gen.facts,
    Cert.AdamO.Gen.facts,
    Cert.AdamOIdeal.Gen.facts,
    Cert.AdamORefIdeal.Gen.facts,
    Cert.AdamUp.Gen.facts,
    Cert.AdamUpIdeal.Gen.facts,
    Cert.AdamUpRefIdeal.Gen.facts,
    Cert.AdamAttn.Gen.facts,
    Cert.AdamAttnIdeal.Gen.facts,
    Cert.AdamAttnRefIdeal.Gen.facts,
    Cert.ReferenceIdeal.PoolRef.preFacts,
    fun m ρ _ => Cert.Kernel.Gen.frame m ρ,
    fun m ρ _ => Cert.KernelIdeal.Gen.frame m ρ,
    fun m ρ _ => Cert.KernelIdeal.Gen.frame m ρ,
    Cert.ReferenceIdeal.PoolRef.refFrame,
    fun m ρ _ => Cert.ReferenceIdeal.PoolRef.refFrame m ρ trivial,
    fun m ρ _ => Cert.DInAct.Gen.frame m ρ,
    fun m ρ _ => Cert.DInActIdeal.Gen.frame m ρ,
    Cert.DInActIdeal.Math.refFrame,
    fun m ρ _ => Cert.DInW.Gen.frame m ρ,
    fun m ρ _ => Cert.DInWIdeal.Gen.frame m ρ,
    Cert.DInWIdeal.Math.refFrame,
    fun m ρ _ => Cert.DFf2Act.Gen.frame m ρ,
    fun m ρ _ => Cert.DFf2ActIdeal.Gen.frame m ρ,
    Cert.DFf2ActIdeal.Math.refFrame,
    fun m ρ _ => Cert.DFf1Act.Gen.frame m ρ,
    fun m ρ _ => Cert.DFf1ActIdeal.Gen.frame m ρ,
    Cert.DFf1ActIdeal.Math.refFrame,
    fun m ρ _ => Cert.DFf2W.Gen.frame m ρ,
    fun m ρ _ => Cert.DFf2WIdeal.Gen.frame m ρ,
    Cert.DFf2WIdeal.Math.refFrame,
    fun m ρ _ => Cert.DFf1W.Gen.frame m ρ,
    fun m ρ _ => Cert.DFf1WIdeal.Gen.frame m ρ,
    Cert.DFf1WIdeal.Math.refFrame,
    fun m ρ _ => Cert.DOutAct.Gen.frame m ρ,
    fun m ρ _ => Cert.DOutActIdeal.Gen.frame m ρ,
    Cert.DOutActIdeal.Math.refFrame,
    fun m ρ _ => Cert.DOutW.Gen.frame m ρ,
    fun m ρ _ => Cert.DOutWIdeal.Gen.frame m ρ,
    Cert.DOutWIdeal.Math.refFrame,
    fun m ρ _ => Cert.InProj.Gen.frame m ρ,
    fun m ρ _ => Cert.InProjIdeal.Gen.frame m ρ,
    Cert.InProjIdeal.Math.refFrame,
    fun m ρ _ => Cert.Ff1.Gen.frame m ρ,
    fun m ρ _ => Cert.Ff1Ideal.Gen.frame m ρ,
    Cert.Ff1Ideal.Math.refFrame,
    fun m ρ _ => Cert.Ff2Loss.Gen.frame m ρ,
    fun m ρ _ => Cert.Ff2LossIdeal.Gen.frame m ρ,
    Cert.Ff2LossIdeal.Math.refFrame,
    fun m ρ _ => Cert.Ff2Next.Gen.frame m ρ,
    fun m ρ _ => Cert.Ff2NextIdeal.Gen.frame m ρ,
    Cert.Ff2NextIdeal.Math.refFrame,
    fun m ρ _ => Cert.OutProj.Gen.frame m ρ,
    fun m ρ _ => Cert.OutProjIdeal.Gen.frame m ρ,
    Cert.OutProjIdeal.Math.refFrame,
    fun m ρ _ => Cert.RmsMix.Gen.frame m ρ,
    fun m ρ _ => Cert.RmsMixIdeal.Gen.frame m ρ,
    Cert.RmsMixIdeal.Math.refFrame,
    fun m ρ _ => Cert.DRmsMix.Gen.frame m ρ,
    fun m ρ _ => Cert.DRmsMixIdeal.Gen.frame m ρ,
    Cert.DRmsMixIdeal.Math.refFrame,
    fun m ρ _ => Cert.Merge.Gen.frame m ρ,
    fun m ρ _ => Cert.MergeIdeal.Gen.frame m ρ,
    Cert.MergeIdeal.Math.refFrame,
    fun m ρ _ => Cert.AdamSmall.Gen.frame m ρ,
    fun m ρ _ => Cert.AdamSmallIdeal.Gen.frame m ρ,
    Cert.AdamSmallIdeal.Math.refFrame,
    fun m ρ _ => Cert.AdamSmallTwo.Gen.frame m ρ,
    fun m ρ _ => Cert.AdamSmallTwoIdeal.Gen.frame m ρ,
    Cert.AdamSmallTwoIdeal.Math.refFrame,
    fun m ρ _ => Cert.AdamSmallThree.Gen.frame m ρ,
    fun m ρ _ => Cert.AdamSmallThreeIdeal.Gen.frame m ρ,
    Cert.AdamSmallThreeIdeal.Math.refFrame,
    fun m ρ _ => Cert.AdamIn.Gen.frame m ρ,
    fun m ρ _ => Cert.AdamInIdeal.Gen.frame m ρ,
    Cert.AdamInIdeal.Math.refFrame,
    fun m ρ _ => Cert.AdamFf.Gen.frame m ρ,
    fun m ρ _ => Cert.AdamFfIdeal.Gen.frame m ρ,
    Cert.AdamFfIdeal.Math.refFrame,
    fun m ρ _ => Cert.AdamO.Gen.frame m ρ,
    fun m ρ _ => Cert.AdamOIdeal.Gen.frame m ρ,
    Cert.AdamOIdeal.Math.refFrame,
    fun m ρ _ => Cert.AdamUp.Gen.frame m ρ,
    fun m ρ _ => Cert.AdamUpIdeal.Gen.frame m ρ,
    Cert.AdamUpIdeal.Math.refFrame,
    fun m ρ _ => Cert.AdamAttn.Gen.frame m ρ,
    fun m ρ _ => Cert.AdamAttnIdeal.Gen.frame m ρ,
    Cert.AdamAttnIdeal.Math.refFrame,
    trivial,
    Cert.ReferenceIdeal.PoolRef.alg,
    trivial,
    Cert.DInActIdeal.Math.alg,
    trivial,
    Cert.DInWIdeal.Math.alg,
    trivial,
    Cert.DFf2ActIdeal.Math.alg,
    trivial,
    Cert.DFf1ActIdeal.Math.alg,
    trivial,
    Cert.DFf2WIdeal.Math.alg,
    trivial,
    Cert.DFf1WIdeal.Math.alg,
    trivial,
    Cert.DOutActIdeal.Math.alg,
    trivial,
    Cert.DOutWIdeal.Math.alg,
    trivial,
    Cert.InProjIdeal.Math.alg,
    trivial,
    Cert.Ff1Ideal.Math.alg,
    trivial,
    Cert.Ff2LossIdeal.Math.alg,
    trivial,
    Cert.Ff2NextIdeal.Math.alg,
    trivial,
    Cert.OutProjIdeal.Math.alg,
    trivial,
    Cert.RmsMixIdeal.Math.alg,
    trivial,
    Cert.DRmsMixIdeal.Math.alg,
    trivial,
    Cert.MergeIdeal.Math.alg,
    trivial,
    Cert.AdamSmallIdeal.Math.alg,
    trivial,
    Cert.AdamSmallTwoIdeal.Math.alg,
    trivial,
    Cert.AdamSmallThreeIdeal.Math.alg,
    trivial,
    Cert.AdamInIdeal.Math.alg,
    trivial,
    Cert.AdamFfIdeal.Math.alg,
    trivial,
    Cert.AdamOIdeal.Math.alg,
    trivial,
    Cert.AdamUpIdeal.Math.alg,
    trivial,
    Cert.AdamAttnIdeal.Math.alg⟩

end Cert.Proof

end
